-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_SampleIn (m : (ℓ : Loc Cert.SampleIn.nD Cert.SampleIn.τ Cert.SampleIn.sig) → Buf (Elt Bits) ℓ) : Prop :=
  True

def Pre_SampleInIdeal (m : (ℓ : Loc Cert.SampleInIdeal.nD Cert.SampleInIdeal.τ Cert.SampleInIdeal.sig) → Buf (Elt Ideal) ℓ) : Prop :=
  True

def Pre_SampleInRefIdeal (m : (ℓ : Loc Cert.SampleInRefIdeal.nD Cert.SampleInRefIdeal.τ Cert.SampleInRefIdeal.sig) → Buf (Elt Ideal) ℓ) : Prop :=
  True

def Pre_SampleOut (m : (ℓ : Loc Cert.SampleOut.nD Cert.SampleOut.τ Cert.SampleOut.sig) → Buf (Elt Bits) ℓ) : Prop :=
  True

def Pre_SampleOutIdeal (m : (ℓ : Loc Cert.SampleOutIdeal.nD Cert.SampleOutIdeal.τ Cert.SampleOutIdeal.sig) → Buf (Elt Ideal) ℓ) : Prop :=
  True

def Pre_SampleOutRefIdeal (m : (ℓ : Loc Cert.SampleOutRefIdeal.nD Cert.SampleOutRefIdeal.τ Cert.SampleOutRefIdeal.sig) → Buf (Elt Ideal) ℓ) : Prop :=
  True

def Pre_SampleGlu (m : (ℓ : Loc Cert.SampleGlu.nD Cert.SampleGlu.τ Cert.SampleGlu.sig) → Buf (Elt Bits) ℓ) : Prop :=
  True

def Pre_SampleGluIdeal (m : (ℓ : Loc Cert.SampleGluIdeal.nD Cert.SampleGluIdeal.τ Cert.SampleGluIdeal.sig) → Buf (Elt Ideal) ℓ) : Prop :=
  True

def Pre_SampleGluRefIdeal (m : (ℓ : Loc Cert.SampleGluRefIdeal.nD Cert.SampleGluRefIdeal.τ Cert.SampleGluRefIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite_band [hPre_finite_band : Cert.Pre_finite_band.Facts] (m : (ℓ : Loc Cert.BandIdeal.nD Cert.BandIdeal.τ Cert.BandIdeal.sig) → Buf (Elt Ideal) ℓ) : Prop :=
  ∀ c : Dev Cert.BandIdeal.nD,
    (Cert.Pre_finite_band.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))) = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite_band [hPre_finite_band : Cert.Pre_finite_band.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite_band.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))) = (fun _ => 1#1)

def Pre_SampleBand (m : (ℓ : Loc Cert.SampleBand.nD Cert.SampleBand.τ Cert.SampleBand.sig) → Buf (Elt Bits) ℓ) : Prop :=
  True

def Pre_SampleBandIdeal (m : (ℓ : Loc Cert.SampleBandIdeal.nD Cert.SampleBandIdeal.τ Cert.SampleBandIdeal.sig) → Buf (Elt Ideal) ℓ) : Prop :=
  True

def Pre_SampleBandIdeal_finite_cache [hPre_finite_cache : Cert.Pre_finite_cache.Facts] (m : (ℓ : Loc Cert.SampleBandIdeal.nD Cert.SampleBandIdeal.τ Cert.SampleBandIdeal.sig) → Buf (Elt Ideal) ℓ) : Prop :=
  ∀ c : Dev Cert.SampleBandIdeal.nD,
    (Cert.Pre_finite_cache.fn (F := Ideal) (m ((c.tc : Thread Cert.SampleBandIdeal.nD Cert.SampleBandIdeal.τ).loc Cert.SampleBandIdeal.main_arg0)) (m ((c.tc : Thread Cert.SampleBandIdeal.nD Cert.SampleBandIdeal.τ).loc Cert.SampleBandIdeal.main_arg1)) (m ((c.tc : Thread Cert.SampleBandIdeal.nD Cert.SampleBandIdeal.τ).loc Cert.SampleBandIdeal.main_arg2)) (m ((c.tc : Thread Cert.SampleBandIdeal.nD Cert.SampleBandIdeal.τ).loc Cert.SampleBandIdeal.main_arg3)) (m ((c.tc : Thread Cert.SampleBandIdeal.nD Cert.SampleBandIdeal.τ).loc Cert.SampleBandIdeal.main_arg4)) (m ((c.tc : Thread Cert.SampleBandIdeal.nD Cert.SampleBandIdeal.τ).loc Cert.SampleBandIdeal.main_arg5))) = (fun _ => 1#1)

def Pre_SampleBandRefIdeal (m : (ℓ : Loc Cert.SampleBandRefIdeal.nD Cert.SampleBandRefIdeal.τ Cert.SampleBandRefIdeal.sig) → Buf (Elt Ideal) ℓ) : Prop :=
  True

def Pre_SampleBandRefIdeal_finite_cache [hPre_finite_cache : Cert.Pre_finite_cache.Facts] (m : (ℓ : Loc Cert.SampleBandRefIdeal.nD Cert.SampleBandRefIdeal.τ Cert.SampleBandRefIdeal.sig) → Buf (Elt Ideal) ℓ) : Prop :=
  ∀ c : Dev Cert.SampleBandRefIdeal.nD,
    (Cert.Pre_finite_cache.fn (F := Ideal) (m ((c.tc : Thread Cert.SampleBandRefIdeal.nD Cert.SampleBandRefIdeal.τ).loc Cert.SampleBandRefIdeal.main_arg0)) (m ((c.tc : Thread Cert.SampleBandRefIdeal.nD Cert.SampleBandRefIdeal.τ).loc Cert.SampleBandRefIdeal.main_arg1)) (m ((c.tc : Thread Cert.SampleBandRefIdeal.nD Cert.SampleBandRefIdeal.τ).loc Cert.SampleBandRefIdeal.main_arg2)) (m ((c.tc : Thread Cert.SampleBandRefIdeal.nD Cert.SampleBandRefIdeal.τ).loc Cert.SampleBandRefIdeal.main_arg3)) (m ((c.tc : Thread Cert.SampleBandRefIdeal.nD Cert.SampleBandRefIdeal.τ).loc Cert.SampleBandRefIdeal.main_arg4)) (m ((c.tc : Thread Cert.SampleBandRefIdeal.nD Cert.SampleBandRefIdeal.τ).loc Cert.SampleBandRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_SampleIn [hSampleIn : Cert.SampleIn.Facts] : Prop :=
  ∀ (m : (ℓ : Loc Cert.SampleIn.nD Cert.SampleIn.τ Cert.SampleIn.sig) → Buf (Elt Bits) ℓ) (g : Dev Cert.SampleIn.nD → PrngReg), Pre_SampleIn m →
    θ_run (Cert.SampleIn.defs (F := Bits)) (onTc (τ := Cert.SampleIn.τ) (Cert.SampleIn.main (F := Bits))) ⟨m, fun _ => 0, g⟩ (fun r => (∀ c : Dev Cert.SampleIn.nD,
      r.2.mem ((c.tc : Thread Cert.SampleIn.nD Cert.SampleIn.τ).loc Cert.SampleIn.main_arg0) = m ((c.tc : Thread Cert.SampleIn.nD Cert.SampleIn.τ).loc Cert.SampleIn.main_arg0)
      ∧ r.2.mem ((c.tc : Thread Cert.SampleIn.nD Cert.SampleIn.τ).loc Cert.SampleIn.main_arg1) = m ((c.tc : Thread Cert.SampleIn.nD Cert.SampleIn.τ).loc Cert.SampleIn.main_arg1)
      ∧ r.2.mem ((c.tc : Thread Cert.SampleIn.nD Cert.SampleIn.τ).loc Cert.SampleIn.main_arg2) = m ((c.tc : Thread Cert.SampleIn.nD Cert.SampleIn.τ).loc Cert.SampleIn.main_arg2))
      ∧ r.2.sem = fun _ => 0)

def quiescent_SampleInIdeal [hSampleInIdeal : Cert.SampleInIdeal.Facts] : Prop :=
  ∀ (m : (ℓ : Loc Cert.SampleInIdeal.nD Cert.SampleInIdeal.τ Cert.SampleInIdeal.sig) → Buf (Elt Ideal) ℓ) (g : Dev Cert.SampleInIdeal.nD → PrngReg), Pre_SampleInIdeal m →
    θ_run (Cert.SampleInIdeal.defs (F := Ideal)) (onTc (τ := Cert.SampleInIdeal.τ) (Cert.SampleInIdeal.main (F := Ideal))) ⟨m, fun _ => 0, g⟩ (fun r => (∀ c : Dev Cert.SampleInIdeal.nD,
      r.2.mem ((c.tc : Thread Cert.SampleInIdeal.nD Cert.SampleInIdeal.τ).loc Cert.SampleInIdeal.main_arg0) = m ((c.tc : Thread Cert.SampleInIdeal.nD Cert.SampleInIdeal.τ).loc Cert.SampleInIdeal.main_arg0)
      ∧ r.2.mem ((c.tc : Thread Cert.SampleInIdeal.nD Cert.SampleInIdeal.τ).loc Cert.SampleInIdeal.main_arg1) = m ((c.tc : Thread Cert.SampleInIdeal.nD Cert.SampleInIdeal.τ).loc Cert.SampleInIdeal.main_arg1)
      ∧ r.2.mem ((c.tc : Thread Cert.SampleInIdeal.nD Cert.SampleInIdeal.τ).loc Cert.SampleInIdeal.main_arg2) = m ((c.tc : Thread Cert.SampleInIdeal.nD Cert.SampleInIdeal.τ).loc Cert.SampleInIdeal.main_arg2))
      ∧ r.2.sem = fun _ => 0)

def quiescent_SampleInRefIdeal [hSampleInRefIdeal : Cert.SampleInRefIdeal.Facts] : Prop :=
  ∀ (m : (ℓ : Loc Cert.SampleInRefIdeal.nD Cert.SampleInRefIdeal.τ Cert.SampleInRefIdeal.sig) → Buf (Elt Ideal) ℓ) (g : Dev Cert.SampleInRefIdeal.nD → PrngReg), Pre_SampleInRefIdeal m →
    θ_run (Cert.SampleInRefIdeal.defs (F := Ideal)) (onTc (τ := Cert.SampleInRefIdeal.τ) (Cert.SampleInRefIdeal.main (F := Ideal))) ⟨m, fun _ => 0, g⟩ (fun r => (∀ c : Dev Cert.SampleInRefIdeal.nD,
      r.2.mem ((c.tc : Thread Cert.SampleInRefIdeal.nD Cert.SampleInRefIdeal.τ).loc Cert.SampleInRefIdeal.main_arg0) = m ((c.tc : Thread Cert.SampleInRefIdeal.nD Cert.SampleInRefIdeal.τ).loc Cert.SampleInRefIdeal.main_arg0)
      ∧ r.2.mem ((c.tc : Thread Cert.SampleInRefIdeal.nD Cert.SampleInRefIdeal.τ).loc Cert.SampleInRefIdeal.main_arg1) = m ((c.tc : Thread Cert.SampleInRefIdeal.nD Cert.SampleInRefIdeal.τ).loc Cert.SampleInRefIdeal.main_arg1)
      ∧ r.2.mem ((c.tc : Thread Cert.SampleInRefIdeal.nD Cert.SampleInRefIdeal.τ).loc Cert.SampleInRefIdeal.main_arg2) = m ((c.tc : Thread Cert.SampleInRefIdeal.nD Cert.SampleInRefIdeal.τ).loc Cert.SampleInRefIdeal.main_arg2))
      ∧ r.2.sem = fun _ => 0)

def quiescent_SampleOut [hSampleOut : Cert.SampleOut.Facts] : Prop :=
  ∀ (m : (ℓ : Loc Cert.SampleOut.nD Cert.SampleOut.τ Cert.SampleOut.sig) → Buf (Elt Bits) ℓ) (g : Dev Cert.SampleOut.nD → PrngReg), Pre_SampleOut m →
    θ_run (Cert.SampleOut.defs (F := Bits)) (onTc (τ := Cert.SampleOut.τ) (Cert.SampleOut.main (F := Bits))) ⟨m, fun _ => 0, g⟩ (fun r => (∀ c : Dev Cert.SampleOut.nD,
      r.2.mem ((c.tc : Thread Cert.SampleOut.nD Cert.SampleOut.τ).loc Cert.SampleOut.main_arg0) = m ((c.tc : Thread Cert.SampleOut.nD Cert.SampleOut.τ).loc Cert.SampleOut.main_arg0)
      ∧ r.2.mem ((c.tc : Thread Cert.SampleOut.nD Cert.SampleOut.τ).loc Cert.SampleOut.main_arg1) = m ((c.tc : Thread Cert.SampleOut.nD Cert.SampleOut.τ).loc Cert.SampleOut.main_arg1)
      ∧ r.2.mem ((c.tc : Thread Cert.SampleOut.nD Cert.SampleOut.τ).loc Cert.SampleOut.main_arg2) = m ((c.tc : Thread Cert.SampleOut.nD Cert.SampleOut.τ).loc Cert.SampleOut.main_arg2)
      ∧ r.2.mem ((c.tc : Thread Cert.SampleOut.nD Cert.SampleOut.τ).loc Cert.SampleOut.main_arg3) = m ((c.tc : Thread Cert.SampleOut.nD Cert.SampleOut.τ).loc Cert.SampleOut.main_arg3)
      ∧ r.2.mem ((c.tc : Thread Cert.SampleOut.nD Cert.SampleOut.τ).loc Cert.SampleOut.main_arg4) = m ((c.tc : Thread Cert.SampleOut.nD Cert.SampleOut.τ).loc Cert.SampleOut.main_arg4)
      ∧ r.2.mem ((c.tc : Thread Cert.SampleOut.nD Cert.SampleOut.τ).loc Cert.SampleOut.main_arg5) = m ((c.tc : Thread Cert.SampleOut.nD Cert.SampleOut.τ).loc Cert.SampleOut.main_arg5)
      ∧ r.2.mem ((c.tc : Thread Cert.SampleOut.nD Cert.SampleOut.τ).loc Cert.SampleOut.main_arg6) = m ((c.tc : Thread Cert.SampleOut.nD Cert.SampleOut.τ).loc Cert.SampleOut.main_arg6)
      ∧ r.2.mem ((c.tc : Thread Cert.SampleOut.nD Cert.SampleOut.τ).loc Cert.SampleOut.main_arg7) = m ((c.tc : Thread Cert.SampleOut.nD Cert.SampleOut.τ).loc Cert.SampleOut.main_arg7)
      ∧ r.2.mem ((c.tc : Thread Cert.SampleOut.nD Cert.SampleOut.τ).loc Cert.SampleOut.main_arg8) = m ((c.tc : Thread Cert.SampleOut.nD Cert.SampleOut.τ).loc Cert.SampleOut.main_arg8)
      ∧ r.2.mem ((c.tc : Thread Cert.SampleOut.nD Cert.SampleOut.τ).loc Cert.SampleOut.main_arg9) = m ((c.tc : Thread Cert.SampleOut.nD Cert.SampleOut.τ).loc Cert.SampleOut.main_arg9))
      ∧ r.2.sem = fun _ => 0)

def quiescent_SampleOutIdeal [hSampleOutIdeal : Cert.SampleOutIdeal.Facts] : Prop :=
  ∀ (m : (ℓ : Loc Cert.SampleOutIdeal.nD Cert.SampleOutIdeal.τ Cert.SampleOutIdeal.sig) → Buf (Elt Ideal) ℓ) (g : Dev Cert.SampleOutIdeal.nD → PrngReg), Pre_SampleOutIdeal m →
    θ_run (Cert.SampleOutIdeal.defs (F := Ideal)) (onTc (τ := Cert.SampleOutIdeal.τ) (Cert.SampleOutIdeal.main (F := Ideal))) ⟨m, fun _ => 0, g⟩ (fun r => (∀ c : Dev Cert.SampleOutIdeal.nD,
      r.2.mem ((c.tc : Thread Cert.SampleOutIdeal.nD Cert.SampleOutIdeal.τ).loc Cert.SampleOutIdeal.main_arg0) = m ((c.tc : Thread Cert.SampleOutIdeal.nD Cert.SampleOutIdeal.τ).loc Cert.SampleOutIdeal.main_arg0)
      ∧ r.2.mem ((c.tc : Thread Cert.SampleOutIdeal.nD Cert.SampleOutIdeal.τ).loc Cert.SampleOutIdeal.main_arg1) = m ((c.tc : Thread Cert.SampleOutIdeal.nD Cert.SampleOutIdeal.τ).loc Cert.SampleOutIdeal.main_arg1)
      ∧ r.2.mem ((c.tc : Thread Cert.SampleOutIdeal.nD Cert.SampleOutIdeal.τ).loc Cert.SampleOutIdeal.main_arg2) = m ((c.tc : Thread Cert.SampleOutIdeal.nD Cert.SampleOutIdeal.τ).loc Cert.SampleOutIdeal.main_arg2)
      ∧ r.2.mem ((c.tc : Thread Cert.SampleOutIdeal.nD Cert.SampleOutIdeal.τ).loc Cert.SampleOutIdeal.main_arg3) = m ((c.tc : Thread Cert.SampleOutIdeal.nD Cert.SampleOutIdeal.τ).loc Cert.SampleOutIdeal.main_arg3)
      ∧ r.2.mem ((c.tc : Thread Cert.SampleOutIdeal.nD Cert.SampleOutIdeal.τ).loc Cert.SampleOutIdeal.main_arg4) = m ((c.tc : Thread Cert.SampleOutIdeal.nD Cert.SampleOutIdeal.τ).loc Cert.SampleOutIdeal.main_arg4)
      ∧ r.2.mem ((c.tc : Thread Cert.SampleOutIdeal.nD Cert.SampleOutIdeal.τ).loc Cert.SampleOutIdeal.main_arg5) = m ((c.tc : Thread Cert.SampleOutIdeal.nD Cert.SampleOutIdeal.τ).loc Cert.SampleOutIdeal.main_arg5)
      ∧ r.2.mem ((c.tc : Thread Cert.SampleOutIdeal.nD Cert.SampleOutIdeal.τ).loc Cert.SampleOutIdeal.main_arg6) = m ((c.tc : Thread Cert.SampleOutIdeal.nD Cert.SampleOutIdeal.τ).loc Cert.SampleOutIdeal.main_arg6)
      ∧ r.2.mem ((c.tc : Thread Cert.SampleOutIdeal.nD Cert.SampleOutIdeal.τ).loc Cert.SampleOutIdeal.main_arg7) = m ((c.tc : Thread Cert.SampleOutIdeal.nD Cert.SampleOutIdeal.τ).loc Cert.SampleOutIdeal.main_arg7)
      ∧ r.2.mem ((c.tc : Thread Cert.SampleOutIdeal.nD Cert.SampleOutIdeal.τ).loc Cert.SampleOutIdeal.main_arg8) = m ((c.tc : Thread Cert.SampleOutIdeal.nD Cert.SampleOutIdeal.τ).loc Cert.SampleOutIdeal.main_arg8)
      ∧ r.2.mem ((c.tc : Thread Cert.SampleOutIdeal.nD Cert.SampleOutIdeal.τ).loc Cert.SampleOutIdeal.main_arg9) = m ((c.tc : Thread Cert.SampleOutIdeal.nD Cert.SampleOutIdeal.τ).loc Cert.SampleOutIdeal.main_arg9))
      ∧ r.2.sem = fun _ => 0)

def quiescent_SampleOutRefIdeal [hSampleOutRefIdeal : Cert.SampleOutRefIdeal.Facts] : Prop :=
  ∀ (m : (ℓ : Loc Cert.SampleOutRefIdeal.nD Cert.SampleOutRefIdeal.τ Cert.SampleOutRefIdeal.sig) → Buf (Elt Ideal) ℓ) (g : Dev Cert.SampleOutRefIdeal.nD → PrngReg), Pre_SampleOutRefIdeal m →
    θ_run (Cert.SampleOutRefIdeal.defs (F := Ideal)) (onTc (τ := Cert.SampleOutRefIdeal.τ) (Cert.SampleOutRefIdeal.main (F := Ideal))) ⟨m, fun _ => 0, g⟩ (fun r => (∀ c : Dev Cert.SampleOutRefIdeal.nD,
      r.2.mem ((c.tc : Thread Cert.SampleOutRefIdeal.nD Cert.SampleOutRefIdeal.τ).loc Cert.SampleOutRefIdeal.main_arg0) = m ((c.tc : Thread Cert.SampleOutRefIdeal.nD Cert.SampleOutRefIdeal.τ).loc Cert.SampleOutRefIdeal.main_arg0)
      ∧ r.2.mem ((c.tc : Thread Cert.SampleOutRefIdeal.nD Cert.SampleOutRefIdeal.τ).loc Cert.SampleOutRefIdeal.main_arg1) = m ((c.tc : Thread Cert.SampleOutRefIdeal.nD Cert.SampleOutRefIdeal.τ).loc Cert.SampleOutRefIdeal.main_arg1)
      ∧ r.2.mem ((c.tc : Thread Cert.SampleOutRefIdeal.nD Cert.SampleOutRefIdeal.τ).loc Cert.SampleOutRefIdeal.main_arg2) = m ((c.tc : Thread Cert.SampleOutRefIdeal.nD Cert.SampleOutRefIdeal.τ).loc Cert.SampleOutRefIdeal.main_arg2)
      ∧ r.2.mem ((c.tc : Thread Cert.SampleOutRefIdeal.nD Cert.SampleOutRefIdeal.τ).loc Cert.SampleOutRefIdeal.main_arg3) = m ((c.tc : Thread Cert.SampleOutRefIdeal.nD Cert.SampleOutRefIdeal.τ).loc Cert.SampleOutRefIdeal.main_arg3)
      ∧ r.2.mem ((c.tc : Thread Cert.SampleOutRefIdeal.nD Cert.SampleOutRefIdeal.τ).loc Cert.SampleOutRefIdeal.main_arg4) = m ((c.tc : Thread Cert.SampleOutRefIdeal.nD Cert.SampleOutRefIdeal.τ).loc Cert.SampleOutRefIdeal.main_arg4)
      ∧ r.2.mem ((c.tc : Thread Cert.SampleOutRefIdeal.nD Cert.SampleOutRefIdeal.τ).loc Cert.SampleOutRefIdeal.main_arg5) = m ((c.tc : Thread Cert.SampleOutRefIdeal.nD Cert.SampleOutRefIdeal.τ).loc Cert.SampleOutRefIdeal.main_arg5)
      ∧ r.2.mem ((c.tc : Thread Cert.SampleOutRefIdeal.nD Cert.SampleOutRefIdeal.τ).loc Cert.SampleOutRefIdeal.main_arg6) = m ((c.tc : Thread Cert.SampleOutRefIdeal.nD Cert.SampleOutRefIdeal.τ).loc Cert.SampleOutRefIdeal.main_arg6)
      ∧ r.2.mem ((c.tc : Thread Cert.SampleOutRefIdeal.nD Cert.SampleOutRefIdeal.τ).loc Cert.SampleOutRefIdeal.main_arg7) = m ((c.tc : Thread Cert.SampleOutRefIdeal.nD Cert.SampleOutRefIdeal.τ).loc Cert.SampleOutRefIdeal.main_arg7)
      ∧ r.2.mem ((c.tc : Thread Cert.SampleOutRefIdeal.nD Cert.SampleOutRefIdeal.τ).loc Cert.SampleOutRefIdeal.main_arg8) = m ((c.tc : Thread Cert.SampleOutRefIdeal.nD Cert.SampleOutRefIdeal.τ).loc Cert.SampleOutRefIdeal.main_arg8)
      ∧ r.2.mem ((c.tc : Thread Cert.SampleOutRefIdeal.nD Cert.SampleOutRefIdeal.τ).loc Cert.SampleOutRefIdeal.main_arg9) = m ((c.tc : Thread Cert.SampleOutRefIdeal.nD Cert.SampleOutRefIdeal.τ).loc Cert.SampleOutRefIdeal.main_arg9))
      ∧ r.2.sem = fun _ => 0)

def quiescent_SampleGlu [hSampleGlu : Cert.SampleGlu.Facts] : Prop :=
  ∀ (m : (ℓ : Loc Cert.SampleGlu.nD Cert.SampleGlu.τ Cert.SampleGlu.sig) → Buf (Elt Bits) ℓ) (g : Dev Cert.SampleGlu.nD → PrngReg), Pre_SampleGlu m →
    θ_run (Cert.SampleGlu.defs (F := Bits)) (onTc (τ := Cert.SampleGlu.τ) (Cert.SampleGlu.main (F := Bits))) ⟨m, fun _ => 0, g⟩ (fun r => (∀ c : Dev Cert.SampleGlu.nD,
      r.2.mem ((c.tc : Thread Cert.SampleGlu.nD Cert.SampleGlu.τ).loc Cert.SampleGlu.main_arg0) = m ((c.tc : Thread Cert.SampleGlu.nD Cert.SampleGlu.τ).loc Cert.SampleGlu.main_arg0)
      ∧ r.2.mem ((c.tc : Thread Cert.SampleGlu.nD Cert.SampleGlu.τ).loc Cert.SampleGlu.main_arg1) = m ((c.tc : Thread Cert.SampleGlu.nD Cert.SampleGlu.τ).loc Cert.SampleGlu.main_arg1)
      ∧ r.2.mem ((c.tc : Thread Cert.SampleGlu.nD Cert.SampleGlu.τ).loc Cert.SampleGlu.main_arg2) = m ((c.tc : Thread Cert.SampleGlu.nD Cert.SampleGlu.τ).loc Cert.SampleGlu.main_arg2)
      ∧ r.2.mem ((c.tc : Thread Cert.SampleGlu.nD Cert.SampleGlu.τ).loc Cert.SampleGlu.main_arg3) = m ((c.tc : Thread Cert.SampleGlu.nD Cert.SampleGlu.τ).loc Cert.SampleGlu.main_arg3))
      ∧ r.2.sem = fun _ => 0)

def quiescent_SampleGluIdeal [hSampleGluIdeal : Cert.SampleGluIdeal.Facts] : Prop :=
  ∀ (m : (ℓ : Loc Cert.SampleGluIdeal.nD Cert.SampleGluIdeal.τ Cert.SampleGluIdeal.sig) → Buf (Elt Ideal) ℓ) (g : Dev Cert.SampleGluIdeal.nD → PrngReg), Pre_SampleGluIdeal m →
    θ_run (Cert.SampleGluIdeal.defs (F := Ideal)) (onTc (τ := Cert.SampleGluIdeal.τ) (Cert.SampleGluIdeal.main (F := Ideal))) ⟨m, fun _ => 0, g⟩ (fun r => (∀ c : Dev Cert.SampleGluIdeal.nD,
      r.2.mem ((c.tc : Thread Cert.SampleGluIdeal.nD Cert.SampleGluIdeal.τ).loc Cert.SampleGluIdeal.main_arg0) = m ((c.tc : Thread Cert.SampleGluIdeal.nD Cert.SampleGluIdeal.τ).loc Cert.SampleGluIdeal.main_arg0)
      ∧ r.2.mem ((c.tc : Thread Cert.SampleGluIdeal.nD Cert.SampleGluIdeal.τ).loc Cert.SampleGluIdeal.main_arg1) = m ((c.tc : Thread Cert.SampleGluIdeal.nD Cert.SampleGluIdeal.τ).loc Cert.SampleGluIdeal.main_arg1)
      ∧ r.2.mem ((c.tc : Thread Cert.SampleGluIdeal.nD Cert.SampleGluIdeal.τ).loc Cert.SampleGluIdeal.main_arg2) = m ((c.tc : Thread Cert.SampleGluIdeal.nD Cert.SampleGluIdeal.τ).loc Cert.SampleGluIdeal.main_arg2)
      ∧ r.2.mem ((c.tc : Thread Cert.SampleGluIdeal.nD Cert.SampleGluIdeal.τ).loc Cert.SampleGluIdeal.main_arg3) = m ((c.tc : Thread Cert.SampleGluIdeal.nD Cert.SampleGluIdeal.τ).loc Cert.SampleGluIdeal.main_arg3))
      ∧ r.2.sem = fun _ => 0)

def quiescent_SampleGluRefIdeal [hSampleGluRefIdeal : Cert.SampleGluRefIdeal.Facts] : Prop :=
  ∀ (m : (ℓ : Loc Cert.SampleGluRefIdeal.nD Cert.SampleGluRefIdeal.τ Cert.SampleGluRefIdeal.sig) → Buf (Elt Ideal) ℓ) (g : Dev Cert.SampleGluRefIdeal.nD → PrngReg), Pre_SampleGluRefIdeal m →
    θ_run (Cert.SampleGluRefIdeal.defs (F := Ideal)) (onTc (τ := Cert.SampleGluRefIdeal.τ) (Cert.SampleGluRefIdeal.main (F := Ideal))) ⟨m, fun _ => 0, g⟩ (fun r => (∀ c : Dev Cert.SampleGluRefIdeal.nD,
      r.2.mem ((c.tc : Thread Cert.SampleGluRefIdeal.nD Cert.SampleGluRefIdeal.τ).loc Cert.SampleGluRefIdeal.main_arg0) = m ((c.tc : Thread Cert.SampleGluRefIdeal.nD Cert.SampleGluRefIdeal.τ).loc Cert.SampleGluRefIdeal.main_arg0)
      ∧ r.2.mem ((c.tc : Thread Cert.SampleGluRefIdeal.nD Cert.SampleGluRefIdeal.τ).loc Cert.SampleGluRefIdeal.main_arg1) = m ((c.tc : Thread Cert.SampleGluRefIdeal.nD Cert.SampleGluRefIdeal.τ).loc Cert.SampleGluRefIdeal.main_arg1)
      ∧ r.2.mem ((c.tc : Thread Cert.SampleGluRefIdeal.nD Cert.SampleGluRefIdeal.τ).loc Cert.SampleGluRefIdeal.main_arg2) = m ((c.tc : Thread Cert.SampleGluRefIdeal.nD Cert.SampleGluRefIdeal.τ).loc Cert.SampleGluRefIdeal.main_arg2)
      ∧ r.2.mem ((c.tc : Thread Cert.SampleGluRefIdeal.nD Cert.SampleGluRefIdeal.τ).loc Cert.SampleGluRefIdeal.main_arg3) = m ((c.tc : Thread Cert.SampleGluRefIdeal.nD Cert.SampleGluRefIdeal.τ).loc Cert.SampleGluRefIdeal.main_arg3))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandIdeal_pre_finite_band [hBandIdeal : Cert.BandIdeal.Facts] [hPre_finite_band : Cert.Pre_finite_band.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite_band m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_BandRefIdeal_pre_finite_band [hBandRefIdeal : Cert.BandRefIdeal.Facts] [hPre_finite_band : Cert.Pre_finite_band.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite_band m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_SampleBand [hSampleBand : Cert.SampleBand.Facts] : Prop :=
  ∀ (m : (ℓ : Loc Cert.SampleBand.nD Cert.SampleBand.τ Cert.SampleBand.sig) → Buf (Elt Bits) ℓ) (g : Dev Cert.SampleBand.nD → PrngReg), Pre_SampleBand m →
    θ_run (Cert.SampleBand.defs (F := Bits)) (onTc (τ := Cert.SampleBand.τ) (Cert.SampleBand.main (F := Bits))) ⟨m, fun _ => 0, g⟩ (fun r => (∀ c : Dev Cert.SampleBand.nD,
      r.2.mem ((c.tc : Thread Cert.SampleBand.nD Cert.SampleBand.τ).loc Cert.SampleBand.main_arg0) = m ((c.tc : Thread Cert.SampleBand.nD Cert.SampleBand.τ).loc Cert.SampleBand.main_arg0)
      ∧ r.2.mem ((c.tc : Thread Cert.SampleBand.nD Cert.SampleBand.τ).loc Cert.SampleBand.main_arg1) = m ((c.tc : Thread Cert.SampleBand.nD Cert.SampleBand.τ).loc Cert.SampleBand.main_arg1)
      ∧ r.2.mem ((c.tc : Thread Cert.SampleBand.nD Cert.SampleBand.τ).loc Cert.SampleBand.main_arg2) = m ((c.tc : Thread Cert.SampleBand.nD Cert.SampleBand.τ).loc Cert.SampleBand.main_arg2)
      ∧ r.2.mem ((c.tc : Thread Cert.SampleBand.nD Cert.SampleBand.τ).loc Cert.SampleBand.main_arg3) = m ((c.tc : Thread Cert.SampleBand.nD Cert.SampleBand.τ).loc Cert.SampleBand.main_arg3)
      ∧ r.2.mem ((c.tc : Thread Cert.SampleBand.nD Cert.SampleBand.τ).loc Cert.SampleBand.main_arg4) = m ((c.tc : Thread Cert.SampleBand.nD Cert.SampleBand.τ).loc Cert.SampleBand.main_arg4)
      ∧ r.2.mem ((c.tc : Thread Cert.SampleBand.nD Cert.SampleBand.τ).loc Cert.SampleBand.main_arg5) = m ((c.tc : Thread Cert.SampleBand.nD Cert.SampleBand.τ).loc Cert.SampleBand.main_arg5))
      ∧ r.2.sem = fun _ => 0)

def quiescent_SampleBandIdeal [hSampleBandIdeal : Cert.SampleBandIdeal.Facts] : Prop :=
  ∀ (m : (ℓ : Loc Cert.SampleBandIdeal.nD Cert.SampleBandIdeal.τ Cert.SampleBandIdeal.sig) → Buf (Elt Ideal) ℓ) (g : Dev Cert.SampleBandIdeal.nD → PrngReg), Pre_SampleBandIdeal m →
    θ_run (Cert.SampleBandIdeal.defs (F := Ideal)) (onTc (τ := Cert.SampleBandIdeal.τ) (Cert.SampleBandIdeal.main (F := Ideal))) ⟨m, fun _ => 0, g⟩ (fun r => (∀ c : Dev Cert.SampleBandIdeal.nD,
      r.2.mem ((c.tc : Thread Cert.SampleBandIdeal.nD Cert.SampleBandIdeal.τ).loc Cert.SampleBandIdeal.main_arg0) = m ((c.tc : Thread Cert.SampleBandIdeal.nD Cert.SampleBandIdeal.τ).loc Cert.SampleBandIdeal.main_arg0)
      ∧ r.2.mem ((c.tc : Thread Cert.SampleBandIdeal.nD Cert.SampleBandIdeal.τ).loc Cert.SampleBandIdeal.main_arg1) = m ((c.tc : Thread Cert.SampleBandIdeal.nD Cert.SampleBandIdeal.τ).loc Cert.SampleBandIdeal.main_arg1)
      ∧ r.2.mem ((c.tc : Thread Cert.SampleBandIdeal.nD Cert.SampleBandIdeal.τ).loc Cert.SampleBandIdeal.main_arg2) = m ((c.tc : Thread Cert.SampleBandIdeal.nD Cert.SampleBandIdeal.τ).loc Cert.SampleBandIdeal.main_arg2)
      ∧ r.2.mem ((c.tc : Thread Cert.SampleBandIdeal.nD Cert.SampleBandIdeal.τ).loc Cert.SampleBandIdeal.main_arg3) = m ((c.tc : Thread Cert.SampleBandIdeal.nD Cert.SampleBandIdeal.τ).loc Cert.SampleBandIdeal.main_arg3)
      ∧ r.2.mem ((c.tc : Thread Cert.SampleBandIdeal.nD Cert.SampleBandIdeal.τ).loc Cert.SampleBandIdeal.main_arg4) = m ((c.tc : Thread Cert.SampleBandIdeal.nD Cert.SampleBandIdeal.τ).loc Cert.SampleBandIdeal.main_arg4)
      ∧ r.2.mem ((c.tc : Thread Cert.SampleBandIdeal.nD Cert.SampleBandIdeal.τ).loc Cert.SampleBandIdeal.main_arg5) = m ((c.tc : Thread Cert.SampleBandIdeal.nD Cert.SampleBandIdeal.τ).loc Cert.SampleBandIdeal.main_arg5))
      ∧ r.2.sem = fun _ => 0)

def quiescent_SampleBandIdeal_pre_finite_cache [hSampleBandIdeal : Cert.SampleBandIdeal.Facts] [hPre_finite_cache : Cert.Pre_finite_cache.Facts] : Prop :=
  ∀ (m : (ℓ : Loc Cert.SampleBandIdeal.nD Cert.SampleBandIdeal.τ Cert.SampleBandIdeal.sig) → Buf (Elt Ideal) ℓ) (g : Dev Cert.SampleBandIdeal.nD → PrngReg), Pre_SampleBandIdeal_finite_cache m →
    θ_run (Cert.SampleBandIdeal.defs (F := Ideal)) (onTc (τ := Cert.SampleBandIdeal.τ) (Cert.SampleBandIdeal.main (F := Ideal))) ⟨m, fun _ => 0, g⟩ (fun r => (∀ c : Dev Cert.SampleBandIdeal.nD,
      r.2.mem ((c.tc : Thread Cert.SampleBandIdeal.nD Cert.SampleBandIdeal.τ).loc Cert.SampleBandIdeal.main_arg0) = m ((c.tc : Thread Cert.SampleBandIdeal.nD Cert.SampleBandIdeal.τ).loc Cert.SampleBandIdeal.main_arg0)
      ∧ r.2.mem ((c.tc : Thread Cert.SampleBandIdeal.nD Cert.SampleBandIdeal.τ).loc Cert.SampleBandIdeal.main_arg1) = m ((c.tc : Thread Cert.SampleBandIdeal.nD Cert.SampleBandIdeal.τ).loc Cert.SampleBandIdeal.main_arg1)
      ∧ r.2.mem ((c.tc : Thread Cert.SampleBandIdeal.nD Cert.SampleBandIdeal.τ).loc Cert.SampleBandIdeal.main_arg2) = m ((c.tc : Thread Cert.SampleBandIdeal.nD Cert.SampleBandIdeal.τ).loc Cert.SampleBandIdeal.main_arg2)
      ∧ r.2.mem ((c.tc : Thread Cert.SampleBandIdeal.nD Cert.SampleBandIdeal.τ).loc Cert.SampleBandIdeal.main_arg3) = m ((c.tc : Thread Cert.SampleBandIdeal.nD Cert.SampleBandIdeal.τ).loc Cert.SampleBandIdeal.main_arg3)
      ∧ r.2.mem ((c.tc : Thread Cert.SampleBandIdeal.nD Cert.SampleBandIdeal.τ).loc Cert.SampleBandIdeal.main_arg4) = m ((c.tc : Thread Cert.SampleBandIdeal.nD Cert.SampleBandIdeal.τ).loc Cert.SampleBandIdeal.main_arg4)
      ∧ r.2.mem ((c.tc : Thread Cert.SampleBandIdeal.nD Cert.SampleBandIdeal.τ).loc Cert.SampleBandIdeal.main_arg5) = m ((c.tc : Thread Cert.SampleBandIdeal.nD Cert.SampleBandIdeal.τ).loc Cert.SampleBandIdeal.main_arg5))
      ∧ r.2.sem = fun _ => 0)

def quiescent_SampleBandRefIdeal [hSampleBandRefIdeal : Cert.SampleBandRefIdeal.Facts] : Prop :=
  ∀ (m : (ℓ : Loc Cert.SampleBandRefIdeal.nD Cert.SampleBandRefIdeal.τ Cert.SampleBandRefIdeal.sig) → Buf (Elt Ideal) ℓ) (g : Dev Cert.SampleBandRefIdeal.nD → PrngReg), Pre_SampleBandRefIdeal m →
    θ_run (Cert.SampleBandRefIdeal.defs (F := Ideal)) (onTc (τ := Cert.SampleBandRefIdeal.τ) (Cert.SampleBandRefIdeal.main (F := Ideal))) ⟨m, fun _ => 0, g⟩ (fun r => (∀ c : Dev Cert.SampleBandRefIdeal.nD,
      r.2.mem ((c.tc : Thread Cert.SampleBandRefIdeal.nD Cert.SampleBandRefIdeal.τ).loc Cert.SampleBandRefIdeal.main_arg0) = m ((c.tc : Thread Cert.SampleBandRefIdeal.nD Cert.SampleBandRefIdeal.τ).loc Cert.SampleBandRefIdeal.main_arg0)
      ∧ r.2.mem ((c.tc : Thread Cert.SampleBandRefIdeal.nD Cert.SampleBandRefIdeal.τ).loc Cert.SampleBandRefIdeal.main_arg1) = m ((c.tc : Thread Cert.SampleBandRefIdeal.nD Cert.SampleBandRefIdeal.τ).loc Cert.SampleBandRefIdeal.main_arg1)
      ∧ r.2.mem ((c.tc : Thread Cert.SampleBandRefIdeal.nD Cert.SampleBandRefIdeal.τ).loc Cert.SampleBandRefIdeal.main_arg2) = m ((c.tc : Thread Cert.SampleBandRefIdeal.nD Cert.SampleBandRefIdeal.τ).loc Cert.SampleBandRefIdeal.main_arg2)
      ∧ r.2.mem ((c.tc : Thread Cert.SampleBandRefIdeal.nD Cert.SampleBandRefIdeal.τ).loc Cert.SampleBandRefIdeal.main_arg3) = m ((c.tc : Thread Cert.SampleBandRefIdeal.nD Cert.SampleBandRefIdeal.τ).loc Cert.SampleBandRefIdeal.main_arg3)
      ∧ r.2.mem ((c.tc : Thread Cert.SampleBandRefIdeal.nD Cert.SampleBandRefIdeal.τ).loc Cert.SampleBandRefIdeal.main_arg4) = m ((c.tc : Thread Cert.SampleBandRefIdeal.nD Cert.SampleBandRefIdeal.τ).loc Cert.SampleBandRefIdeal.main_arg4)
      ∧ r.2.mem ((c.tc : Thread Cert.SampleBandRefIdeal.nD Cert.SampleBandRefIdeal.τ).loc Cert.SampleBandRefIdeal.main_arg5) = m ((c.tc : Thread Cert.SampleBandRefIdeal.nD Cert.SampleBandRefIdeal.τ).loc Cert.SampleBandRefIdeal.main_arg5))
      ∧ r.2.sem = fun _ => 0)

def quiescent_SampleBandRefIdeal_pre_finite_cache [hSampleBandRefIdeal : Cert.SampleBandRefIdeal.Facts] [hPre_finite_cache : Cert.Pre_finite_cache.Facts] : Prop :=
  ∀ (m : (ℓ : Loc Cert.SampleBandRefIdeal.nD Cert.SampleBandRefIdeal.τ Cert.SampleBandRefIdeal.sig) → Buf (Elt Ideal) ℓ) (g : Dev Cert.SampleBandRefIdeal.nD → PrngReg), Pre_SampleBandRefIdeal_finite_cache m →
    θ_run (Cert.SampleBandRefIdeal.defs (F := Ideal)) (onTc (τ := Cert.SampleBandRefIdeal.τ) (Cert.SampleBandRefIdeal.main (F := Ideal))) ⟨m, fun _ => 0, g⟩ (fun r => (∀ c : Dev Cert.SampleBandRefIdeal.nD,
      r.2.mem ((c.tc : Thread Cert.SampleBandRefIdeal.nD Cert.SampleBandRefIdeal.τ).loc Cert.SampleBandRefIdeal.main_arg0) = m ((c.tc : Thread Cert.SampleBandRefIdeal.nD Cert.SampleBandRefIdeal.τ).loc Cert.SampleBandRefIdeal.main_arg0)
      ∧ r.2.mem ((c.tc : Thread Cert.SampleBandRefIdeal.nD Cert.SampleBandRefIdeal.τ).loc Cert.SampleBandRefIdeal.main_arg1) = m ((c.tc : Thread Cert.SampleBandRefIdeal.nD Cert.SampleBandRefIdeal.τ).loc Cert.SampleBandRefIdeal.main_arg1)
      ∧ r.2.mem ((c.tc : Thread Cert.SampleBandRefIdeal.nD Cert.SampleBandRefIdeal.τ).loc Cert.SampleBandRefIdeal.main_arg2) = m ((c.tc : Thread Cert.SampleBandRefIdeal.nD Cert.SampleBandRefIdeal.τ).loc Cert.SampleBandRefIdeal.main_arg2)
      ∧ r.2.mem ((c.tc : Thread Cert.SampleBandRefIdeal.nD Cert.SampleBandRefIdeal.τ).loc Cert.SampleBandRefIdeal.main_arg3) = m ((c.tc : Thread Cert.SampleBandRefIdeal.nD Cert.SampleBandRefIdeal.τ).loc Cert.SampleBandRefIdeal.main_arg3)
      ∧ r.2.mem ((c.tc : Thread Cert.SampleBandRefIdeal.nD Cert.SampleBandRefIdeal.τ).loc Cert.SampleBandRefIdeal.main_arg4) = m ((c.tc : Thread Cert.SampleBandRefIdeal.nD Cert.SampleBandRefIdeal.τ).loc Cert.SampleBandRefIdeal.main_arg4)
      ∧ r.2.mem ((c.tc : Thread Cert.SampleBandRefIdeal.nD Cert.SampleBandRefIdeal.τ).loc Cert.SampleBandRefIdeal.main_arg5) = m ((c.tc : Thread Cert.SampleBandRefIdeal.nD Cert.SampleBandRefIdeal.τ).loc Cert.SampleBandRefIdeal.main_arg5))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v5)) (v1 : (c : Dev Cert.InProjIdeal.nD) → Buf (Elt Ideal) ((c.tc : Thread Cert.InProjIdeal.nD Cert.InProjIdeal.τ).loc Cert.InProjIdeal.main_v10)) (v2 : (c : Dev Cert.InProjIdeal.nD) → Buf (Elt Ideal) ((c.tc : Thread Cert.InProjIdeal.nD Cert.InProjIdeal.τ).loc Cert.InProjIdeal.main_v11)) (v3 : (c : Dev Cert.InProjIdeal.nD) → Buf (Elt Ideal) ((c.tc : Thread Cert.InProjIdeal.nD Cert.InProjIdeal.τ).loc Cert.InProjIdeal.main_v12)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5) = v0 c
          ∧ r.2.mem ((c.tc : Thread Cert.InProjIdeal.nD Cert.InProjIdeal.τ).loc Cert.InProjIdeal.main_v10) = v1 c
          ∧ r.2.mem ((c.tc : Thread Cert.InProjIdeal.nD Cert.InProjIdeal.τ).loc Cert.InProjIdeal.main_v11) = v2 c
          ∧ r.2.mem ((c.tc : Thread Cert.InProjIdeal.nD Cert.InProjIdeal.τ).loc Cert.InProjIdeal.main_v12) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v17) = v1 c
          ∧ r.2.mem ((c.tc : Thread Cert.InProjRefIdeal.nD Cert.InProjRefIdeal.τ).loc Cert.InProjRefIdeal.main_v19) = v2 c
          ∧ r.2.mem ((c.tc : Thread Cert.InProjRefIdeal.nD Cert.InProjRefIdeal.τ).loc Cert.InProjRefIdeal.main_v22) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)) →
    ∃ (v0 : (c : Dev Cert.OutProjIdeal.nD) → Buf (Elt Ideal) ((c.tc : Thread Cert.OutProjIdeal.nD Cert.OutProjIdeal.τ).loc Cert.OutProjIdeal.main_v10)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v10) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v39) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v19) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_SampleIn_SampleInIdeal : Prop :=
  True

def algebraic_SampleInIdeal_SampleInRefIdeal [hSampleInIdeal : Cert.SampleInIdeal.Facts] [hSampleInRefIdeal : Cert.SampleInRefIdeal.Facts] : Prop :=
  ∀ (m : (ℓ : Loc Cert.SampleInIdeal.nD Cert.SampleInIdeal.τ Cert.SampleInIdeal.sig) → Buf (Elt Ideal) ℓ) (g : Dev Cert.SampleInIdeal.nD → PrngReg)
    (m' : (ℓ : Loc Cert.SampleInRefIdeal.nD Cert.SampleInRefIdeal.τ Cert.SampleInRefIdeal.sig) → Buf (Elt Ideal) ℓ) (g' : Dev Cert.SampleInRefIdeal.nD → PrngReg), Pre_SampleInIdeal m →
    (∀ c : Dev Cert.SampleInIdeal.nD,
      m' ((c.tc : Thread Cert.SampleInRefIdeal.nD Cert.SampleInRefIdeal.τ).loc Cert.SampleInRefIdeal.main_arg0) = m ((c.tc : Thread Cert.SampleInIdeal.nD Cert.SampleInIdeal.τ).loc Cert.SampleInIdeal.main_arg0)
      ∧ m' ((c.tc : Thread Cert.SampleInRefIdeal.nD Cert.SampleInRefIdeal.τ).loc Cert.SampleInRefIdeal.main_arg1) = m ((c.tc : Thread Cert.SampleInIdeal.nD Cert.SampleInIdeal.τ).loc Cert.SampleInIdeal.main_arg1)
      ∧ m' ((c.tc : Thread Cert.SampleInRefIdeal.nD Cert.SampleInRefIdeal.τ).loc Cert.SampleInRefIdeal.main_arg2) = m ((c.tc : Thread Cert.SampleInIdeal.nD Cert.SampleInIdeal.τ).loc Cert.SampleInIdeal.main_arg2)) →
    ∃ (v0 : (c : Dev Cert.SampleInIdeal.nD) → Buf (Elt Ideal) ((c.tc : Thread Cert.SampleInIdeal.nD Cert.SampleInIdeal.τ).loc Cert.SampleInIdeal.main_v5)) (v1 : (c : Dev Cert.SampleInIdeal.nD) → Buf (Elt Ideal) ((c.tc : Thread Cert.SampleInIdeal.nD Cert.SampleInIdeal.τ).loc Cert.SampleInIdeal.main_v9)) (v2 : (c : Dev Cert.SampleInIdeal.nD) → Buf (Elt Ideal) ((c.tc : Thread Cert.SampleInIdeal.nD Cert.SampleInIdeal.τ).loc Cert.SampleInIdeal.main_v10)) (v3 : (c : Dev Cert.SampleInIdeal.nD) → Buf (Elt Ideal) ((c.tc : Thread Cert.SampleInIdeal.nD Cert.SampleInIdeal.τ).loc Cert.SampleInIdeal.main_v11)),
      θ_run (Cert.SampleInIdeal.defs (F := Ideal)) (onTc (τ := Cert.SampleInIdeal.τ) (Cert.SampleInIdeal.main (F := Ideal))) ⟨m, fun _ => 0, g⟩ (fun r => ∀ c : Dev Cert.SampleInIdeal.nD,
          r.2.mem ((c.tc : Thread Cert.SampleInIdeal.nD Cert.SampleInIdeal.τ).loc Cert.SampleInIdeal.main_v5) = v0 c
          ∧ r.2.mem ((c.tc : Thread Cert.SampleInIdeal.nD Cert.SampleInIdeal.τ).loc Cert.SampleInIdeal.main_v9) = v1 c
          ∧ r.2.mem ((c.tc : Thread Cert.SampleInIdeal.nD Cert.SampleInIdeal.τ).loc Cert.SampleInIdeal.main_v10) = v2 c
          ∧ r.2.mem ((c.tc : Thread Cert.SampleInIdeal.nD Cert.SampleInIdeal.τ).loc Cert.SampleInIdeal.main_v11) = v3 c
          ∧ r.2.mem ((c.tc : Thread Cert.SampleInIdeal.nD Cert.SampleInIdeal.τ).loc Cert.SampleInIdeal.main_arg0) = m ((c.tc : Thread Cert.SampleInIdeal.nD Cert.SampleInIdeal.τ).loc Cert.SampleInIdeal.main_arg0)
          ∧ r.2.mem ((c.tc : Thread Cert.SampleInIdeal.nD Cert.SampleInIdeal.τ).loc Cert.SampleInIdeal.main_arg1) = m ((c.tc : Thread Cert.SampleInIdeal.nD Cert.SampleInIdeal.τ).loc Cert.SampleInIdeal.main_arg1)
          ∧ r.2.mem ((c.tc : Thread Cert.SampleInIdeal.nD Cert.SampleInIdeal.τ).loc Cert.SampleInIdeal.main_arg2) = m ((c.tc : Thread Cert.SampleInIdeal.nD Cert.SampleInIdeal.τ).loc Cert.SampleInIdeal.main_arg2))
      ∧ θ_run (Cert.SampleInRefIdeal.defs (F := Ideal)) (onTc (τ := Cert.SampleInRefIdeal.τ) (Cert.SampleInRefIdeal.main (F := Ideal))) ⟨m', fun _ => 0, g'⟩ (fun r => ∀ c : Dev Cert.SampleInRefIdeal.nD,
          r.2.mem ((c.tc : Thread Cert.SampleInRefIdeal.nD Cert.SampleInRefIdeal.τ).loc Cert.SampleInRefIdeal.main_v15) = v0 c
          ∧ r.2.mem ((c.tc : Thread Cert.SampleInRefIdeal.nD Cert.SampleInRefIdeal.τ).loc Cert.SampleInRefIdeal.main_v17) = v1 c
          ∧ r.2.mem ((c.tc : Thread Cert.SampleInRefIdeal.nD Cert.SampleInRefIdeal.τ).loc Cert.SampleInRefIdeal.main_v19) = v2 c
          ∧ r.2.mem ((c.tc : Thread Cert.SampleInRefIdeal.nD Cert.SampleInRefIdeal.τ).loc Cert.SampleInRefIdeal.main_v21) = v3 c
          ∧ r.2.mem ((c.tc : Thread Cert.SampleInRefIdeal.nD Cert.SampleInRefIdeal.τ).loc Cert.SampleInRefIdeal.main_arg0) = m' ((c.tc : Thread Cert.SampleInRefIdeal.nD Cert.SampleInRefIdeal.τ).loc Cert.SampleInRefIdeal.main_arg0)
          ∧ r.2.mem ((c.tc : Thread Cert.SampleInRefIdeal.nD Cert.SampleInRefIdeal.τ).loc Cert.SampleInRefIdeal.main_arg1) = m' ((c.tc : Thread Cert.SampleInRefIdeal.nD Cert.SampleInRefIdeal.τ).loc Cert.SampleInRefIdeal.main_arg1)
          ∧ r.2.mem ((c.tc : Thread Cert.SampleInRefIdeal.nD Cert.SampleInRefIdeal.τ).loc Cert.SampleInRefIdeal.main_arg2) = m' ((c.tc : Thread Cert.SampleInRefIdeal.nD Cert.SampleInRefIdeal.τ).loc Cert.SampleInRefIdeal.main_arg2))

def preserves_SampleOut_SampleOutIdeal : Prop :=
  True

def algebraic_SampleOutIdeal_SampleOutRefIdeal [hSampleOutIdeal : Cert.SampleOutIdeal.Facts] [hSampleOutRefIdeal : Cert.SampleOutRefIdeal.Facts] : Prop :=
  ∀ (m : (ℓ : Loc Cert.SampleOutIdeal.nD Cert.SampleOutIdeal.τ Cert.SampleOutIdeal.sig) → Buf (Elt Ideal) ℓ) (g : Dev Cert.SampleOutIdeal.nD → PrngReg)
    (m' : (ℓ : Loc Cert.SampleOutRefIdeal.nD Cert.SampleOutRefIdeal.τ Cert.SampleOutRefIdeal.sig) → Buf (Elt Ideal) ℓ) (g' : Dev Cert.SampleOutRefIdeal.nD → PrngReg), Pre_SampleOutIdeal m →
    (∀ c : Dev Cert.SampleOutIdeal.nD,
      m' ((c.tc : Thread Cert.SampleOutRefIdeal.nD Cert.SampleOutRefIdeal.τ).loc Cert.SampleOutRefIdeal.main_arg0) = m ((c.tc : Thread Cert.SampleOutIdeal.nD Cert.SampleOutIdeal.τ).loc Cert.SampleOutIdeal.main_arg0)
      ∧ m' ((c.tc : Thread Cert.SampleOutRefIdeal.nD Cert.SampleOutRefIdeal.τ).loc Cert.SampleOutRefIdeal.main_arg1) = m ((c.tc : Thread Cert.SampleOutIdeal.nD Cert.SampleOutIdeal.τ).loc Cert.SampleOutIdeal.main_arg1)
      ∧ m' ((c.tc : Thread Cert.SampleOutRefIdeal.nD Cert.SampleOutRefIdeal.τ).loc Cert.SampleOutRefIdeal.main_arg2) = m ((c.tc : Thread Cert.SampleOutIdeal.nD Cert.SampleOutIdeal.τ).loc Cert.SampleOutIdeal.main_arg2)
      ∧ m' ((c.tc : Thread Cert.SampleOutRefIdeal.nD Cert.SampleOutRefIdeal.τ).loc Cert.SampleOutRefIdeal.main_arg3) = m ((c.tc : Thread Cert.SampleOutIdeal.nD Cert.SampleOutIdeal.τ).loc Cert.SampleOutIdeal.main_arg3)
      ∧ m' ((c.tc : Thread Cert.SampleOutRefIdeal.nD Cert.SampleOutRefIdeal.τ).loc Cert.SampleOutRefIdeal.main_arg4) = m ((c.tc : Thread Cert.SampleOutIdeal.nD Cert.SampleOutIdeal.τ).loc Cert.SampleOutIdeal.main_arg4)
      ∧ m' ((c.tc : Thread Cert.SampleOutRefIdeal.nD Cert.SampleOutRefIdeal.τ).loc Cert.SampleOutRefIdeal.main_arg5) = m ((c.tc : Thread Cert.SampleOutIdeal.nD Cert.SampleOutIdeal.τ).loc Cert.SampleOutIdeal.main_arg5)
      ∧ m' ((c.tc : Thread Cert.SampleOutRefIdeal.nD Cert.SampleOutRefIdeal.τ).loc Cert.SampleOutRefIdeal.main_arg6) = m ((c.tc : Thread Cert.SampleOutIdeal.nD Cert.SampleOutIdeal.τ).loc Cert.SampleOutIdeal.main_arg6)
      ∧ m' ((c.tc : Thread Cert.SampleOutRefIdeal.nD Cert.SampleOutRefIdeal.τ).loc Cert.SampleOutRefIdeal.main_arg7) = m ((c.tc : Thread Cert.SampleOutIdeal.nD Cert.SampleOutIdeal.τ).loc Cert.SampleOutIdeal.main_arg7)
      ∧ m' ((c.tc : Thread Cert.SampleOutRefIdeal.nD Cert.SampleOutRefIdeal.τ).loc Cert.SampleOutRefIdeal.main_arg8) = m ((c.tc : Thread Cert.SampleOutIdeal.nD Cert.SampleOutIdeal.τ).loc Cert.SampleOutIdeal.main_arg8)
      ∧ m' ((c.tc : Thread Cert.SampleOutRefIdeal.nD Cert.SampleOutRefIdeal.τ).loc Cert.SampleOutRefIdeal.main_arg9) = m ((c.tc : Thread Cert.SampleOutIdeal.nD Cert.SampleOutIdeal.τ).loc Cert.SampleOutIdeal.main_arg9)) →
    ∃ (v0 : (c : Dev Cert.SampleOutIdeal.nD) → Buf (Elt Ideal) ((c.tc : Thread Cert.SampleOutIdeal.nD Cert.SampleOutIdeal.τ).loc Cert.SampleOutIdeal.main_v10)),
      θ_run (Cert.SampleOutIdeal.defs (F := Ideal)) (onTc (τ := Cert.SampleOutIdeal.τ) (Cert.SampleOutIdeal.main (F := Ideal))) ⟨m, fun _ => 0, g⟩ (fun r => ∀ c : Dev Cert.SampleOutIdeal.nD,
          r.2.mem ((c.tc : Thread Cert.SampleOutIdeal.nD Cert.SampleOutIdeal.τ).loc Cert.SampleOutIdeal.main_v10) = v0 c
          ∧ r.2.mem ((c.tc : Thread Cert.SampleOutIdeal.nD Cert.SampleOutIdeal.τ).loc Cert.SampleOutIdeal.main_arg0) = m ((c.tc : Thread Cert.SampleOutIdeal.nD Cert.SampleOutIdeal.τ).loc Cert.SampleOutIdeal.main_arg0)
          ∧ r.2.mem ((c.tc : Thread Cert.SampleOutIdeal.nD Cert.SampleOutIdeal.τ).loc Cert.SampleOutIdeal.main_arg1) = m ((c.tc : Thread Cert.SampleOutIdeal.nD Cert.SampleOutIdeal.τ).loc Cert.SampleOutIdeal.main_arg1)
          ∧ r.2.mem ((c.tc : Thread Cert.SampleOutIdeal.nD Cert.SampleOutIdeal.τ).loc Cert.SampleOutIdeal.main_arg2) = m ((c.tc : Thread Cert.SampleOutIdeal.nD Cert.SampleOutIdeal.τ).loc Cert.SampleOutIdeal.main_arg2)
          ∧ r.2.mem ((c.tc : Thread Cert.SampleOutIdeal.nD Cert.SampleOutIdeal.τ).loc Cert.SampleOutIdeal.main_arg3) = m ((c.tc : Thread Cert.SampleOutIdeal.nD Cert.SampleOutIdeal.τ).loc Cert.SampleOutIdeal.main_arg3)
          ∧ r.2.mem ((c.tc : Thread Cert.SampleOutIdeal.nD Cert.SampleOutIdeal.τ).loc Cert.SampleOutIdeal.main_arg4) = m ((c.tc : Thread Cert.SampleOutIdeal.nD Cert.SampleOutIdeal.τ).loc Cert.SampleOutIdeal.main_arg4)
          ∧ r.2.mem ((c.tc : Thread Cert.SampleOutIdeal.nD Cert.SampleOutIdeal.τ).loc Cert.SampleOutIdeal.main_arg5) = m ((c.tc : Thread Cert.SampleOutIdeal.nD Cert.SampleOutIdeal.τ).loc Cert.SampleOutIdeal.main_arg5)
          ∧ r.2.mem ((c.tc : Thread Cert.SampleOutIdeal.nD Cert.SampleOutIdeal.τ).loc Cert.SampleOutIdeal.main_arg6) = m ((c.tc : Thread Cert.SampleOutIdeal.nD Cert.SampleOutIdeal.τ).loc Cert.SampleOutIdeal.main_arg6)
          ∧ r.2.mem ((c.tc : Thread Cert.SampleOutIdeal.nD Cert.SampleOutIdeal.τ).loc Cert.SampleOutIdeal.main_arg7) = m ((c.tc : Thread Cert.SampleOutIdeal.nD Cert.SampleOutIdeal.τ).loc Cert.SampleOutIdeal.main_arg7)
          ∧ r.2.mem ((c.tc : Thread Cert.SampleOutIdeal.nD Cert.SampleOutIdeal.τ).loc Cert.SampleOutIdeal.main_arg8) = m ((c.tc : Thread Cert.SampleOutIdeal.nD Cert.SampleOutIdeal.τ).loc Cert.SampleOutIdeal.main_arg8)
          ∧ r.2.mem ((c.tc : Thread Cert.SampleOutIdeal.nD Cert.SampleOutIdeal.τ).loc Cert.SampleOutIdeal.main_arg9) = m ((c.tc : Thread Cert.SampleOutIdeal.nD Cert.SampleOutIdeal.τ).loc Cert.SampleOutIdeal.main_arg9))
      ∧ θ_run (Cert.SampleOutRefIdeal.defs (F := Ideal)) (onTc (τ := Cert.SampleOutRefIdeal.τ) (Cert.SampleOutRefIdeal.main (F := Ideal))) ⟨m', fun _ => 0, g'⟩ (fun r => ∀ c : Dev Cert.SampleOutRefIdeal.nD,
          r.2.mem ((c.tc : Thread Cert.SampleOutRefIdeal.nD Cert.SampleOutRefIdeal.τ).loc Cert.SampleOutRefIdeal.main_v39) = v0 c
          ∧ r.2.mem ((c.tc : Thread Cert.SampleOutRefIdeal.nD Cert.SampleOutRefIdeal.τ).loc Cert.SampleOutRefIdeal.main_arg0) = m' ((c.tc : Thread Cert.SampleOutRefIdeal.nD Cert.SampleOutRefIdeal.τ).loc Cert.SampleOutRefIdeal.main_arg0)
          ∧ r.2.mem ((c.tc : Thread Cert.SampleOutRefIdeal.nD Cert.SampleOutRefIdeal.τ).loc Cert.SampleOutRefIdeal.main_arg1) = m' ((c.tc : Thread Cert.SampleOutRefIdeal.nD Cert.SampleOutRefIdeal.τ).loc Cert.SampleOutRefIdeal.main_arg1)
          ∧ r.2.mem ((c.tc : Thread Cert.SampleOutRefIdeal.nD Cert.SampleOutRefIdeal.τ).loc Cert.SampleOutRefIdeal.main_arg2) = m' ((c.tc : Thread Cert.SampleOutRefIdeal.nD Cert.SampleOutRefIdeal.τ).loc Cert.SampleOutRefIdeal.main_arg2)
          ∧ r.2.mem ((c.tc : Thread Cert.SampleOutRefIdeal.nD Cert.SampleOutRefIdeal.τ).loc Cert.SampleOutRefIdeal.main_arg3) = m' ((c.tc : Thread Cert.SampleOutRefIdeal.nD Cert.SampleOutRefIdeal.τ).loc Cert.SampleOutRefIdeal.main_arg3)
          ∧ r.2.mem ((c.tc : Thread Cert.SampleOutRefIdeal.nD Cert.SampleOutRefIdeal.τ).loc Cert.SampleOutRefIdeal.main_arg4) = m' ((c.tc : Thread Cert.SampleOutRefIdeal.nD Cert.SampleOutRefIdeal.τ).loc Cert.SampleOutRefIdeal.main_arg4)
          ∧ r.2.mem ((c.tc : Thread Cert.SampleOutRefIdeal.nD Cert.SampleOutRefIdeal.τ).loc Cert.SampleOutRefIdeal.main_arg5) = m' ((c.tc : Thread Cert.SampleOutRefIdeal.nD Cert.SampleOutRefIdeal.τ).loc Cert.SampleOutRefIdeal.main_arg5)
          ∧ r.2.mem ((c.tc : Thread Cert.SampleOutRefIdeal.nD Cert.SampleOutRefIdeal.τ).loc Cert.SampleOutRefIdeal.main_arg6) = m' ((c.tc : Thread Cert.SampleOutRefIdeal.nD Cert.SampleOutRefIdeal.τ).loc Cert.SampleOutRefIdeal.main_arg6)
          ∧ r.2.mem ((c.tc : Thread Cert.SampleOutRefIdeal.nD Cert.SampleOutRefIdeal.τ).loc Cert.SampleOutRefIdeal.main_arg7) = m' ((c.tc : Thread Cert.SampleOutRefIdeal.nD Cert.SampleOutRefIdeal.τ).loc Cert.SampleOutRefIdeal.main_arg7)
          ∧ r.2.mem ((c.tc : Thread Cert.SampleOutRefIdeal.nD Cert.SampleOutRefIdeal.τ).loc Cert.SampleOutRefIdeal.main_arg8) = m' ((c.tc : Thread Cert.SampleOutRefIdeal.nD Cert.SampleOutRefIdeal.τ).loc Cert.SampleOutRefIdeal.main_arg8)
          ∧ r.2.mem ((c.tc : Thread Cert.SampleOutRefIdeal.nD Cert.SampleOutRefIdeal.τ).loc Cert.SampleOutRefIdeal.main_arg9) = m' ((c.tc : Thread Cert.SampleOutRefIdeal.nD Cert.SampleOutRefIdeal.τ).loc Cert.SampleOutRefIdeal.main_arg9))

def preserves_SampleGlu_SampleGluIdeal : Prop :=
  True

def algebraic_SampleGluIdeal_SampleGluRefIdeal [hSampleGluIdeal : Cert.SampleGluIdeal.Facts] [hSampleGluRefIdeal : Cert.SampleGluRefIdeal.Facts] : Prop :=
  ∀ (m : (ℓ : Loc Cert.SampleGluIdeal.nD Cert.SampleGluIdeal.τ Cert.SampleGluIdeal.sig) → Buf (Elt Ideal) ℓ) (g : Dev Cert.SampleGluIdeal.nD → PrngReg)
    (m' : (ℓ : Loc Cert.SampleGluRefIdeal.nD Cert.SampleGluRefIdeal.τ Cert.SampleGluRefIdeal.sig) → Buf (Elt Ideal) ℓ) (g' : Dev Cert.SampleGluRefIdeal.nD → PrngReg), Pre_SampleGluIdeal m →
    (∀ c : Dev Cert.SampleGluIdeal.nD,
      m' ((c.tc : Thread Cert.SampleGluRefIdeal.nD Cert.SampleGluRefIdeal.τ).loc Cert.SampleGluRefIdeal.main_arg0) = m ((c.tc : Thread Cert.SampleGluIdeal.nD Cert.SampleGluIdeal.τ).loc Cert.SampleGluIdeal.main_arg0)
      ∧ m' ((c.tc : Thread Cert.SampleGluRefIdeal.nD Cert.SampleGluRefIdeal.τ).loc Cert.SampleGluRefIdeal.main_arg1) = m ((c.tc : Thread Cert.SampleGluIdeal.nD Cert.SampleGluIdeal.τ).loc Cert.SampleGluIdeal.main_arg1)
      ∧ m' ((c.tc : Thread Cert.SampleGluRefIdeal.nD Cert.SampleGluRefIdeal.τ).loc Cert.SampleGluRefIdeal.main_arg2) = m ((c.tc : Thread Cert.SampleGluIdeal.nD Cert.SampleGluIdeal.τ).loc Cert.SampleGluIdeal.main_arg2)
      ∧ m' ((c.tc : Thread Cert.SampleGluRefIdeal.nD Cert.SampleGluRefIdeal.τ).loc Cert.SampleGluRefIdeal.main_arg3) = m ((c.tc : Thread Cert.SampleGluIdeal.nD Cert.SampleGluIdeal.τ).loc Cert.SampleGluIdeal.main_arg3)) →
    ∃ (v0 : (c : Dev Cert.SampleGluIdeal.nD) → Buf (Elt Ideal) ((c.tc : Thread Cert.SampleGluIdeal.nD Cert.SampleGluIdeal.τ).loc Cert.SampleGluIdeal.main_v3)),
      θ_run (Cert.SampleGluIdeal.defs (F := Ideal)) (onTc (τ := Cert.SampleGluIdeal.τ) (Cert.SampleGluIdeal.main (F := Ideal))) ⟨m, fun _ => 0, g⟩ (fun r => ∀ c : Dev Cert.SampleGluIdeal.nD,
          r.2.mem ((c.tc : Thread Cert.SampleGluIdeal.nD Cert.SampleGluIdeal.τ).loc Cert.SampleGluIdeal.main_v3) = v0 c
          ∧ r.2.mem ((c.tc : Thread Cert.SampleGluIdeal.nD Cert.SampleGluIdeal.τ).loc Cert.SampleGluIdeal.main_arg0) = m ((c.tc : Thread Cert.SampleGluIdeal.nD Cert.SampleGluIdeal.τ).loc Cert.SampleGluIdeal.main_arg0)
          ∧ r.2.mem ((c.tc : Thread Cert.SampleGluIdeal.nD Cert.SampleGluIdeal.τ).loc Cert.SampleGluIdeal.main_arg1) = m ((c.tc : Thread Cert.SampleGluIdeal.nD Cert.SampleGluIdeal.τ).loc Cert.SampleGluIdeal.main_arg1)
          ∧ r.2.mem ((c.tc : Thread Cert.SampleGluIdeal.nD Cert.SampleGluIdeal.τ).loc Cert.SampleGluIdeal.main_arg2) = m ((c.tc : Thread Cert.SampleGluIdeal.nD Cert.SampleGluIdeal.τ).loc Cert.SampleGluIdeal.main_arg2)
          ∧ r.2.mem ((c.tc : Thread Cert.SampleGluIdeal.nD Cert.SampleGluIdeal.τ).loc Cert.SampleGluIdeal.main_arg3) = m ((c.tc : Thread Cert.SampleGluIdeal.nD Cert.SampleGluIdeal.τ).loc Cert.SampleGluIdeal.main_arg3))
      ∧ θ_run (Cert.SampleGluRefIdeal.defs (F := Ideal)) (onTc (τ := Cert.SampleGluRefIdeal.τ) (Cert.SampleGluRefIdeal.main (F := Ideal))) ⟨m', fun _ => 0, g'⟩ (fun r => ∀ c : Dev Cert.SampleGluRefIdeal.nD,
          r.2.mem ((c.tc : Thread Cert.SampleGluRefIdeal.nD Cert.SampleGluRefIdeal.τ).loc Cert.SampleGluRefIdeal.main_v19) = v0 c
          ∧ r.2.mem ((c.tc : Thread Cert.SampleGluRefIdeal.nD Cert.SampleGluRefIdeal.τ).loc Cert.SampleGluRefIdeal.main_arg0) = m' ((c.tc : Thread Cert.SampleGluRefIdeal.nD Cert.SampleGluRefIdeal.τ).loc Cert.SampleGluRefIdeal.main_arg0)
          ∧ r.2.mem ((c.tc : Thread Cert.SampleGluRefIdeal.nD Cert.SampleGluRefIdeal.τ).loc Cert.SampleGluRefIdeal.main_arg1) = m' ((c.tc : Thread Cert.SampleGluRefIdeal.nD Cert.SampleGluRefIdeal.τ).loc Cert.SampleGluRefIdeal.main_arg1)
          ∧ r.2.mem ((c.tc : Thread Cert.SampleGluRefIdeal.nD Cert.SampleGluRefIdeal.τ).loc Cert.SampleGluRefIdeal.main_arg2) = m' ((c.tc : Thread Cert.SampleGluRefIdeal.nD Cert.SampleGluRefIdeal.τ).loc Cert.SampleGluRefIdeal.main_arg2)
          ∧ r.2.mem ((c.tc : Thread Cert.SampleGluRefIdeal.nD Cert.SampleGluRefIdeal.τ).loc Cert.SampleGluRefIdeal.main_arg3) = m' ((c.tc : Thread Cert.SampleGluRefIdeal.nD Cert.SampleGluRefIdeal.τ).loc Cert.SampleGluRefIdeal.main_arg3))

def preserves_Band_BandIdeal : Prop :=
  IdealRules.named_const.Statement Cert.BandIdeal.κ "inv_sqrt_d" .f32 0x3DB504F3#32 (((Real.sqrt 128)⁻¹ : ℝ) : EReal)
  ∧ IdealRules.named_const.Statement Cert.BandIdeal.κ "mask" .f32 0xF149F2CA#32 ⊥

def algebraic_BandIdeal_BandRefIdeal_pre_finite_band [hBandIdeal : Cert.BandIdeal.Facts] [hBandRefIdeal : Cert.BandRefIdeal.Facts] [hPre_finite_band : Cert.Pre_finite_band.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite_band m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)
      ∧ m' ((c.tc : Thread Cert.BandRefIdeal.nD Cert.BandRefIdeal.τ).loc Cert.BandRefIdeal.main_arg3) = m ((c.tc : Thread Cert.BandIdeal.nD Cert.BandIdeal.τ).loc Cert.BandIdeal.main_arg3)) →
    ∃ (v0 : (c : Dev Cert.BandIdeal.nD) → Buf (Elt Ideal) ((c.tc : Thread Cert.BandIdeal.nD Cert.BandIdeal.τ).loc Cert.BandIdeal.main_v17_0)) (v1 : (c : Dev Cert.BandIdeal.nD) → Buf (Elt Ideal) ((c.tc : Thread Cert.BandIdeal.nD Cert.BandIdeal.τ).loc Cert.BandIdeal.main_v17_1)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v17_0) = v0 c
          ∧ r.2.mem ((c.tc : Thread Cert.BandIdeal.nD Cert.BandIdeal.τ).loc Cert.BandIdeal.main_v17_1) = v1 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v86) = v0 c
          ∧ r.2.mem ((c.tc : Thread Cert.BandRefIdeal.nD Cert.BandRefIdeal.τ).loc Cert.BandRefIdeal.main_v88) = v1 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2)
          ∧ r.2.mem ((c.tc : Thread Cert.BandRefIdeal.nD Cert.BandRefIdeal.τ).loc Cert.BandRefIdeal.main_arg3) = m' ((c.tc : Thread Cert.BandRefIdeal.nD Cert.BandRefIdeal.τ).loc Cert.BandRefIdeal.main_arg3))

def preserves_SampleBand_SampleBandIdeal : Prop :=
  IdealRules.named_const.Statement Cert.SampleBandIdeal.κ "inv_sqrt_d" .f32 0x3DB504F3#32 (((Real.sqrt 128)⁻¹ : ℝ) : EReal)

def algebraic_SampleBandIdeal_SampleBandRefIdeal_pre_finite_cache [hSampleBandIdeal : Cert.SampleBandIdeal.Facts] [hSampleBandRefIdeal : Cert.SampleBandRefIdeal.Facts] [hPre_finite_cache : Cert.Pre_finite_cache.Facts] : Prop :=
  ∀ (m : (ℓ : Loc Cert.SampleBandIdeal.nD Cert.SampleBandIdeal.τ Cert.SampleBandIdeal.sig) → Buf (Elt Ideal) ℓ) (g : Dev Cert.SampleBandIdeal.nD → PrngReg)
    (m' : (ℓ : Loc Cert.SampleBandRefIdeal.nD Cert.SampleBandRefIdeal.τ Cert.SampleBandRefIdeal.sig) → Buf (Elt Ideal) ℓ) (g' : Dev Cert.SampleBandRefIdeal.nD → PrngReg), Pre_SampleBandIdeal_finite_cache m →
    (∀ c : Dev Cert.SampleBandIdeal.nD,
      m' ((c.tc : Thread Cert.SampleBandRefIdeal.nD Cert.SampleBandRefIdeal.τ).loc Cert.SampleBandRefIdeal.main_arg0) = m ((c.tc : Thread Cert.SampleBandIdeal.nD Cert.SampleBandIdeal.τ).loc Cert.SampleBandIdeal.main_arg0)
      ∧ m' ((c.tc : Thread Cert.SampleBandRefIdeal.nD Cert.SampleBandRefIdeal.τ).loc Cert.SampleBandRefIdeal.main_arg1) = m ((c.tc : Thread Cert.SampleBandIdeal.nD Cert.SampleBandIdeal.τ).loc Cert.SampleBandIdeal.main_arg1)
      ∧ m' ((c.tc : Thread Cert.SampleBandRefIdeal.nD Cert.SampleBandRefIdeal.τ).loc Cert.SampleBandRefIdeal.main_arg2) = m ((c.tc : Thread Cert.SampleBandIdeal.nD Cert.SampleBandIdeal.τ).loc Cert.SampleBandIdeal.main_arg2)
      ∧ m' ((c.tc : Thread Cert.SampleBandRefIdeal.nD Cert.SampleBandRefIdeal.τ).loc Cert.SampleBandRefIdeal.main_arg3) = m ((c.tc : Thread Cert.SampleBandIdeal.nD Cert.SampleBandIdeal.τ).loc Cert.SampleBandIdeal.main_arg3)
      ∧ m' ((c.tc : Thread Cert.SampleBandRefIdeal.nD Cert.SampleBandRefIdeal.τ).loc Cert.SampleBandRefIdeal.main_arg4) = m ((c.tc : Thread Cert.SampleBandIdeal.nD Cert.SampleBandIdeal.τ).loc Cert.SampleBandIdeal.main_arg4)
      ∧ m' ((c.tc : Thread Cert.SampleBandRefIdeal.nD Cert.SampleBandRefIdeal.τ).loc Cert.SampleBandRefIdeal.main_arg5) = m ((c.tc : Thread Cert.SampleBandIdeal.nD Cert.SampleBandIdeal.τ).loc Cert.SampleBandIdeal.main_arg5)) →
    ∃ (v0 : (c : Dev Cert.SampleBandIdeal.nD) → Buf (Elt Ideal) ((c.tc : Thread Cert.SampleBandIdeal.nD Cert.SampleBandIdeal.τ).loc Cert.SampleBandIdeal.main_v18_0)) (v1 : (c : Dev Cert.SampleBandIdeal.nD) → Buf (Elt Ideal) ((c.tc : Thread Cert.SampleBandIdeal.nD Cert.SampleBandIdeal.τ).loc Cert.SampleBandIdeal.main_v18_1)),
      θ_run (Cert.SampleBandIdeal.defs (F := Ideal)) (onTc (τ := Cert.SampleBandIdeal.τ) (Cert.SampleBandIdeal.main (F := Ideal))) ⟨m, fun _ => 0, g⟩ (fun r => ∀ c : Dev Cert.SampleBandIdeal.nD,
          r.2.mem ((c.tc : Thread Cert.SampleBandIdeal.nD Cert.SampleBandIdeal.τ).loc Cert.SampleBandIdeal.main_v18_0) = v0 c
          ∧ r.2.mem ((c.tc : Thread Cert.SampleBandIdeal.nD Cert.SampleBandIdeal.τ).loc Cert.SampleBandIdeal.main_v18_1) = v1 c
          ∧ r.2.mem ((c.tc : Thread Cert.SampleBandIdeal.nD Cert.SampleBandIdeal.τ).loc Cert.SampleBandIdeal.main_arg0) = m ((c.tc : Thread Cert.SampleBandIdeal.nD Cert.SampleBandIdeal.τ).loc Cert.SampleBandIdeal.main_arg0)
          ∧ r.2.mem ((c.tc : Thread Cert.SampleBandIdeal.nD Cert.SampleBandIdeal.τ).loc Cert.SampleBandIdeal.main_arg1) = m ((c.tc : Thread Cert.SampleBandIdeal.nD Cert.SampleBandIdeal.τ).loc Cert.SampleBandIdeal.main_arg1)
          ∧ r.2.mem ((c.tc : Thread Cert.SampleBandIdeal.nD Cert.SampleBandIdeal.τ).loc Cert.SampleBandIdeal.main_arg2) = m ((c.tc : Thread Cert.SampleBandIdeal.nD Cert.SampleBandIdeal.τ).loc Cert.SampleBandIdeal.main_arg2)
          ∧ r.2.mem ((c.tc : Thread Cert.SampleBandIdeal.nD Cert.SampleBandIdeal.τ).loc Cert.SampleBandIdeal.main_arg3) = m ((c.tc : Thread Cert.SampleBandIdeal.nD Cert.SampleBandIdeal.τ).loc Cert.SampleBandIdeal.main_arg3)
          ∧ r.2.mem ((c.tc : Thread Cert.SampleBandIdeal.nD Cert.SampleBandIdeal.τ).loc Cert.SampleBandIdeal.main_arg4) = m ((c.tc : Thread Cert.SampleBandIdeal.nD Cert.SampleBandIdeal.τ).loc Cert.SampleBandIdeal.main_arg4)
          ∧ r.2.mem ((c.tc : Thread Cert.SampleBandIdeal.nD Cert.SampleBandIdeal.τ).loc Cert.SampleBandIdeal.main_arg5) = m ((c.tc : Thread Cert.SampleBandIdeal.nD Cert.SampleBandIdeal.τ).loc Cert.SampleBandIdeal.main_arg5))
      ∧ θ_run (Cert.SampleBandRefIdeal.defs (F := Ideal)) (onTc (τ := Cert.SampleBandRefIdeal.τ) (Cert.SampleBandRefIdeal.main (F := Ideal))) ⟨m', fun _ => 0, g'⟩ (fun r => ∀ c : Dev Cert.SampleBandRefIdeal.nD,
          r.2.mem ((c.tc : Thread Cert.SampleBandRefIdeal.nD Cert.SampleBandRefIdeal.τ).loc Cert.SampleBandRefIdeal.main_v83) = v0 c
          ∧ r.2.mem ((c.tc : Thread Cert.SampleBandRefIdeal.nD Cert.SampleBandRefIdeal.τ).loc Cert.SampleBandRefIdeal.main_v84) = v1 c
          ∧ r.2.mem ((c.tc : Thread Cert.SampleBandRefIdeal.nD Cert.SampleBandRefIdeal.τ).loc Cert.SampleBandRefIdeal.main_arg0) = m' ((c.tc : Thread Cert.SampleBandRefIdeal.nD Cert.SampleBandRefIdeal.τ).loc Cert.SampleBandRefIdeal.main_arg0)
          ∧ r.2.mem ((c.tc : Thread Cert.SampleBandRefIdeal.nD Cert.SampleBandRefIdeal.τ).loc Cert.SampleBandRefIdeal.main_arg1) = m' ((c.tc : Thread Cert.SampleBandRefIdeal.nD Cert.SampleBandRefIdeal.τ).loc Cert.SampleBandRefIdeal.main_arg1)
          ∧ r.2.mem ((c.tc : Thread Cert.SampleBandRefIdeal.nD Cert.SampleBandRefIdeal.τ).loc Cert.SampleBandRefIdeal.main_arg2) = m' ((c.tc : Thread Cert.SampleBandRefIdeal.nD Cert.SampleBandRefIdeal.τ).loc Cert.SampleBandRefIdeal.main_arg2)
          ∧ r.2.mem ((c.tc : Thread Cert.SampleBandRefIdeal.nD Cert.SampleBandRefIdeal.τ).loc Cert.SampleBandRefIdeal.main_arg3) = m' ((c.tc : Thread Cert.SampleBandRefIdeal.nD Cert.SampleBandRefIdeal.τ).loc Cert.SampleBandRefIdeal.main_arg3)
          ∧ r.2.mem ((c.tc : Thread Cert.SampleBandRefIdeal.nD Cert.SampleBandRefIdeal.τ).loc Cert.SampleBandRefIdeal.main_arg4) = m' ((c.tc : Thread Cert.SampleBandRefIdeal.nD Cert.SampleBandRefIdeal.τ).loc Cert.SampleBandRefIdeal.main_arg4)
          ∧ r.2.mem ((c.tc : Thread Cert.SampleBandRefIdeal.nD Cert.SampleBandRefIdeal.τ).loc Cert.SampleBandRefIdeal.main_arg5) = m' ((c.tc : Thread Cert.SampleBandRefIdeal.nD Cert.SampleBandRefIdeal.τ).loc Cert.SampleBandRefIdeal.main_arg5))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hGlu : Cert.Glu.Facts) (hGluIdeal : Cert.GluIdeal.Facts) (hGluRefIdeal : Cert.GluRefIdeal.Facts) (hSampleIn : Cert.SampleIn.Facts) (hSampleInIdeal : Cert.SampleInIdeal.Facts) (hSampleInRefIdeal : Cert.SampleInRefIdeal.Facts) (hSampleOut : Cert.SampleOut.Facts) (hSampleOutIdeal : Cert.SampleOutIdeal.Facts) (hSampleOutRefIdeal : Cert.SampleOutRefIdeal.Facts) (hSampleGlu : Cert.SampleGlu.Facts) (hSampleGluIdeal : Cert.SampleGluIdeal.Facts) (hSampleGluRefIdeal : Cert.SampleGluRefIdeal.Facts) (hBand : Cert.Band.Facts) (hBandIdeal : Cert.BandIdeal.Facts) (hBandRefIdeal : Cert.BandRefIdeal.Facts) (hSampleBand : Cert.SampleBand.Facts) (hSampleBandIdeal : Cert.SampleBandIdeal.Facts) (hSampleBandRefIdeal : Cert.SampleBandRefIdeal.Facts) (hPre_finite_qk : Cert.Pre_finite_qk.Facts) (hPre_finite_band : Cert.Pre_finite_band.Facts) (hPre_finite_cache : Cert.Pre_finite_cache.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Glu (hGlu := hGlu)
    ∧ quiescent_GluIdeal (hGluIdeal := hGluIdeal)
    ∧ quiescent_GluRefIdeal (hGluRefIdeal := hGluRefIdeal)
    ∧ quiescent_SampleIn (hSampleIn := hSampleIn)
    ∧ quiescent_SampleInIdeal (hSampleInIdeal := hSampleInIdeal)
    ∧ quiescent_SampleInRefIdeal (hSampleInRefIdeal := hSampleInRefIdeal)
    ∧ quiescent_SampleOut (hSampleOut := hSampleOut)
    ∧ quiescent_SampleOutIdeal (hSampleOutIdeal := hSampleOutIdeal)
    ∧ quiescent_SampleOutRefIdeal (hSampleOutRefIdeal := hSampleOutRefIdeal)
    ∧ quiescent_SampleGlu (hSampleGlu := hSampleGlu)
    ∧ quiescent_SampleGluIdeal (hSampleGluIdeal := hSampleGluIdeal)
    ∧ quiescent_SampleGluRefIdeal (hSampleGluRefIdeal := hSampleGluRefIdeal)
    ∧ quiescent_Band (hBand := hBand)
    ∧ quiescent_BandIdeal (hBandIdeal := hBandIdeal)
    ∧ quiescent_BandIdeal_pre_finite_band (hBandIdeal := hBandIdeal) (hPre_finite_band := hPre_finite_band)
    ∧ quiescent_BandRefIdeal (hBandRefIdeal := hBandRefIdeal)
    ∧ quiescent_BandRefIdeal_pre_finite_band (hBandRefIdeal := hBandRefIdeal) (hPre_finite_band := hPre_finite_band)
    ∧ quiescent_SampleBand (hSampleBand := hSampleBand)
    ∧ quiescent_SampleBandIdeal (hSampleBandIdeal := hSampleBandIdeal)
    ∧ quiescent_SampleBandIdeal_pre_finite_cache (hSampleBandIdeal := hSampleBandIdeal) (hPre_finite_cache := hPre_finite_cache)
    ∧ quiescent_SampleBandRefIdeal (hSampleBandRefIdeal := hSampleBandRefIdeal)
    ∧ quiescent_SampleBandRefIdeal_pre_finite_cache (hSampleBandRefIdeal := hSampleBandRefIdeal) (hPre_finite_cache := hPre_finite_cache)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Glu_GluIdeal
    ∧ algebraic_GluIdeal_GluRefIdeal (hGluIdeal := hGluIdeal) (hGluRefIdeal := hGluRefIdeal)
    ∧ preserves_SampleIn_SampleInIdeal
    ∧ algebraic_SampleInIdeal_SampleInRefIdeal (hSampleInIdeal := hSampleInIdeal) (hSampleInRefIdeal := hSampleInRefIdeal)
    ∧ preserves_SampleOut_SampleOutIdeal
    ∧ algebraic_SampleOutIdeal_SampleOutRefIdeal (hSampleOutIdeal := hSampleOutIdeal) (hSampleOutRefIdeal := hSampleOutRefIdeal)
    ∧ preserves_SampleGlu_SampleGluIdeal
    ∧ algebraic_SampleGluIdeal_SampleGluRefIdeal (hSampleGluIdeal := hSampleGluIdeal) (hSampleGluRefIdeal := hSampleGluRefIdeal)
    ∧ preserves_Band_BandIdeal
    ∧ algebraic_BandIdeal_BandRefIdeal_pre_finite_band (hBandIdeal := hBandIdeal) (hBandRefIdeal := hBandRefIdeal) (hPre_finite_band := hPre_finite_band)
    ∧ preserves_SampleBand_SampleBandIdeal
    ∧ algebraic_SampleBandIdeal_SampleBandRefIdeal_pre_finite_cache (hSampleBandIdeal := hSampleBandIdeal) (hSampleBandRefIdeal := hSampleBandRefIdeal) (hPre_finite_cache := hPre_finite_cache)
-- ==== Pre_finite_band.lean ====
abbrev S8x2048x22528 : Shape := ⟨3, ![8, 2048, 22528]⟩
abbrev S8x257 : Shape := ⟨2, ![8, 257]⟩
abbrev S128 : Shape := ⟨1, ![128]⟩
abbrev S_ : Shape := ⟨0, ![]⟩

class Facts : Prop where
  bcast_S_S8x257 : S_.BroadcastsInDim S8x257 (![] : Fin 0 → Fin S8x257.rank)
  reducesTo_S8x257_S_d0_1 : S8x257.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S8x2048x22528 .f32) (main_arg1 : FVec F S8x257 .f32) (main_arg2 : FVec F S128 .f32) (main_arg3 : FVec F S128 .f32) : IVec S_ 1 :=
  let main_v0 : FVec F S8x257 .f32 := Host.absf main_arg1
  let main_cst : FVec F S_ .f32 := constant S_ .f32 0x7F800000#32
  let main_v1 : FVec F S8x257 .f32 := broadcastInDim S8x257 ![] bcast_S_S8x257 main_cst
  let main_v2 : IVec S8x257 1 := cmpf .olt main_v0 main_v1
  let main_c : IVec S_ 1 := constantI S_ 1 1#1
  let main_v3 : IVec S_ 1 := (fun x v => Host.reduce IntOp.andi x v reducesTo_S8x257_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Pre_finite_cache.lean ====
abbrev S8x16x22528 : Shape := ⟨3, ![8, 16, 22528]⟩
abbrev S2x8x512x8x128 : Shape := ⟨5, ![2, 8, 512, 8, 128]⟩
abbrev S8x257 : Shape := ⟨2, ![8, 257]⟩
abbrev S128 : Shape := ⟨1, ![128]⟩
abbrev S1x8x512x8x128 : Shape := ⟨5, ![1, 8, 512, 8, 128]⟩
abbrev S8x512x8x128 : Shape := ⟨4, ![8, 512, 8, 128]⟩
abbrev S_ : Shape := ⟨0, ![]⟩

class Facts : Prop where
  slices_S2x8x512x8x128_S1x8x512x8x128_0_0_0_0_0 : S2x8x512x8x128.Slices ![0, 0, 0, 0, 0] S1x8x512x8x128
  shapeCasts_S1x8x512x8x128_S8x512x8x128 : S1x8x512x8x128.ShapeCasts S8x512x8x128
  bcast_S_S8x512x8x128 : S_.BroadcastsInDim S8x512x8x128 (![] : Fin 0 → Fin S8x512x8x128.rank)
  reducesTo_S8x512x8x128_S_d0_1_2_3 : S8x512x8x128.ReducesTo [0, 1, 2, 3] S_
  h_S_ : 0 < S_.numel
  bcast_S_S8x257 : S_.BroadcastsInDim S8x257 (![] : Fin 0 → Fin S8x257.rank)
  reducesTo_S8x257_S_d0_1 : S8x257.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v15 : IVec S_ 1) (main_v16 : FVec F S128 .f32) (main_cst_4 : FVec F S_ .f32) : IVec S_ 1 :=
  let main_v17 : FVec F S128 .f32 := broadcastInDim S128 ![] bcast_S_S128 main_cst_4
  let main_v18 : IVec S128 1 := cmpf .olt main_v16 main_v17
  let main_c_5 : IVec S_ 1 := constantI S_ 1 1#1
  let main_v19 : IVec S_ 1 := (fun x v => Host.reduce IntOp.andi x v reducesTo_S128_S_d0 h_S_) main_v18 main_c_5
  let main_v20 : IVec S_ 1 := andi main_v15 main_v19
  main_v20

def fn {F : FTy → Type} [FloatOps F] (main_arg0 : FVec F S8x16x22528 .f32) (main_arg1 : FVec F S2x8x512x8x128 .f32) (main_arg2 : FVec F S2x8x512x8x128 .f32) (main_arg3 : FVec F S8x257 .f32) (main_arg4 : FVec F S128 .f32) (main_arg5 : FVec F S128 .f32) : IVec S_ 1 :=
  let main_v0 : FVec F S1x8x512x8x128 .f32 := (extractStridedSlice S1x8x512x8x128 ![0, 0, 0, 0, 0] · slices_S2x8x512x8x128_S1x8x512x8x128_0_0_0_0_0) main_arg1
  let main_v1 : FVec F S8x512x8x128 .f32 := shapeCast S8x512x8x128 main_v0 shapeCasts_S1x8x512x8x128_S8x512x8x128
  let main_v2 : FVec F S8x512x8x128 .f32 := Host.absf main_v1
  let main_cst : FVec F S_ .f32 := constant S_ .f32 0x7F800000#32
  let main_v3 : FVec F S8x512x8x128 .f32 := broadcastInDim S8x512x8x128 ![] bcast_S_S8x512x8x128 main_cst
  let main_v4 : IVec S8x512x8x128 1 := cmpf .olt main_v2 main_v3
  let main_c : IVec S_ 1 := constantI S_ 1 1#1
  let main_v5 : IVec S_ 1 := (fun x v => Host.reduce IntOp.andi x v reducesTo_S8x512x8x128_S_d0_1_2_3 h_S_) main_v4 main_c
  let main_v6 : FVec F S8x257 .f32 := Host.absf main_arg3
  let main_cst_0 : FVec F S_ .f32 := constant S_ .f32 0x7F800000#32
  let main_v7 : FVec F S8x257 .f32 := broadcastInDim S8x257 ![] bcast_S_S8x257 main_cst_0
  let main_v8 : IVec S8x257 1 := cmpf .olt main_v6 main_v7
  let main_c_1 : IVec S_ 1 := constantI S_ 1 1#1
  let main_v9 : IVec S_ 1 := (fun x v => Host.reduce IntOp.andi x v reducesTo_S8x257_S_d0_1 h_S_) main_v8 main_c_1
  let main_v10 : IVec S_ 1 := andi main_v5 main_v9
  let main_v11 : FVec F S128 .f32 := Host.absf main_arg4
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_c_3 : IVec S_ 1 := constantI S_ 1 1#1
  let main_v14 : IVec S_ 1 := (fun x v => Host.reduce IntOp.andi x v reducesTo_S128_S_d0 h_S_) main_v13 main_c_3
  let main_v15 : IVec S_ 1 := andi main_v10 main_v14
  let main_v16 : FVec F S128 .f32 := Host.absf main_arg5
  let main_cst_4 : FVec F S_ .f32 := constant S_ .f32 0x7F800000#32
  fn_part1 (F := F) main_v15 main_v16 main_cst_4
-- ==== Pre_finite_qk.lean ====
abbrev S8x2048x22528 : Shape := ⟨3, ![8, 2048, 22528]⟩
abbrev S8x2048x2048 : Shape := ⟨3, ![8, 2048, 2048]⟩
abbrev S_ : Shape := ⟨0, ![]⟩

class Facts : Prop where
  slices_S8x2048x22528_S8x2048x2048_0_0_6144 : S8x2048x22528.Slices ![0, 0, 6144] S8x2048x2048
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel

variable [Facts]

def fn {F : FTy → Type} [FloatOps F] (main_arg0 : FVec F S8x2048x22528 .f32) : IVec S_ 1 :=
  let main_v0 : FVec F S8x2048x2048 .f32 := (extractStridedSlice S8x2048x2048 ![0, 0, 6144] · slices_S8x2048x22528_S8x2048x2048_0_0_6144) main_arg0
  let main_v1 : FVec F S8x2048x2048 .f32 := Host.absf main_v0
  let main_cst : FVec F S_ .f32 := constant S_ .f32 0x7F800000#32
  let main_v2 : FVec F S8x2048x2048 .f32 := broadcastInDim S8x2048x2048 ![] bcast_S_S8x2048x2048 main_cst
  let main_v3 : IVec S8x2048x2048 1 := cmpf .olt main_v1 main_v2
  let main_c : IVec S_ 1 := constantI S_ 1 1#1
  let main_v4 : IVec S_ 1 := (fun x v => Host.reduce IntOp.andi x v reducesTo_S8x2048x2048_S_d0_1_2 h_S_) main_v3 main_c
  main_v4
-- ==== Kernel.lean ====
abbrev S8x2048x22528 : Shape := ⟨3, ![8, 2048, 22528]⟩
abbrev S8x2048x1024 : Shape := ⟨3, ![8, 2048, 1024]⟩
abbrev S1x2048x256 : Shape := ⟨3, ![1, 2048, 256]⟩
abbrev S1x2048x128 : Shape := ⟨3, ![1, 2048, 128]⟩
abbrev S2048x128 : Shape := ⟨2, ![2048, 128]⟩
abbrev S256x256 : Shape := ⟨2, ![256, 256]⟩
abbrev S1x256x128 : Shape := ⟨3, ![1, 256, 128]⟩
abbrev S256x128 : Shape := ⟨2, ![256, 128]⟩
abbrev S1792x128 : Shape := ⟨2, ![1792, 128]⟩
abbrev S512x256 : Shape := ⟨2, ![512, 256]⟩
abbrev S512x128 : Shape := ⟨2, ![512, 128]⟩
abbrev S1536x128 : Shape := ⟨2, ![1536, 128]⟩
abbrev S768x256 : Shape := ⟨2, ![768, 256]⟩
abbrev S768x128 : Shape := ⟨2, ![768, 128]⟩
abbrev S1280x128 : Shape := ⟨2, ![1280, 128]⟩
abbrev S1024x256 : Shape := ⟨2, ![1024, 256]⟩
abbrev S1024x128 : Shape := ⟨2, ![1024, 128]⟩
abbrev S1280x256 : Shape := ⟨2, ![1280, 256]⟩
abbrev S1536x256 : Shape := ⟨2, ![1536, 256]⟩
abbrev S1792x256 : Shape := ⟨2, ![1792, 256]⟩
abbrev S2048x256 : Shape := ⟨2, ![2048, 256]⟩
abbrev S2048x1024 : Shape := ⟨2, ![2048, 1024]⟩

abbrev nBuf : Space → Nat
  | .hbm => 2
  | .vmem => 10
  | .smem => 0
  | _ => 0

abbrev bufTy : (tb : Table) → Fin (tcTables nBuf tb) → BufTy
  | .hbm, ⟨0, _⟩ => ⟨S8x2048x22528, .f32⟩
  | .hbm, ⟨1, _⟩ => ⟨S8x2048x1024, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .bf16⟩
  | .local _ .vmem, ⟨9, _⟩ => ⟨S1x2048x256, .bf16⟩
  | _, _ => ⟨S8x2048x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def k0_mult1 (i : grid0.Coords) : BitVec 32 :=
  let arg2 : BitVec 32 := BitVec.ofNat 32 (i 2).val
  let c2048_i32 : BitVec 32 := 2048#32
  let v29 : BitVec 32 := Scalar.muli arg2 c2048_i32
  let c1792_i32 : BitVec 32 := 1792#32
  let v32 : BitVec 32 := Scalar.addi v29 c1792_i32
  v32
def k0_off1 (i : grid0.Coords) (c1792_i32 : BitVec 32) : Fin 3 → Nat :=
  let c0_9 : Index := 0#32
  let arg2 : BitVec 32 := BitVec.ofNat 32 (i 2).val
  let c2048_i32 : BitVec 32 := 2048#32
  let v29 : BitVec 32 := Scalar.muli arg2 c2048_i32
  let v32 : BitVec 32 := Scalar.addi v29 c1792_i32
  let v33 : BitVec 32 := v32
  let v34 : Index := Scalar.indexCast v33
  let c0_10 : Index := 0#32
  ![0, v34.toNat, 0]
def k0_mult2 (i : grid0.Coords) : BitVec 32 :=
  let arg2 : BitVec 32 := BitVec.ofNat 32 (i 2).val
  let c2048_i32 : BitVec 32 := 2048#32
  let v29 : BitVec 32 := Scalar.muli arg2 c2048_i32
  let c1536_i32 : BitVec 32 := 1536#32
  let v98 : BitVec 32 := Scalar.addi v29 c1536_i32
  v98
def k0_mult3 (i : grid0.Coords) : BitVec 32 :=
  let arg2 : BitVec 32 := BitVec.ofNat 32 (i 2).val
  let c2048_i32 : BitVec 32 := 2048#32
  let v29 : BitVec 32 := Scalar.muli arg2 c2048_i32
  let c1280_i32 : BitVec 32 := 1280#32
  let v164 : BitVec 32 := Scalar.addi v29 c1280_i32
  v164
def k0_mult4 (i : grid0.Coords) : BitVec 32 :=
  let arg2 : BitVec 32 := BitVec.ofNat 32 (i 2).val
  let c2048_i32 : BitVec 32 := 2048#32
  let v29 : BitVec 32 := Scalar.muli arg2 c2048_i32
  let c1024_i32 : BitVec 32 := 1024#32
  let v230 : BitVec 32 := Scalar.addi v29 c1024_i32
  v230
def k0_mult5 (i : grid0.Coords) : BitVec 32 :=
  let arg2 : BitVec 32 := BitVec.ofNat 32 (i 2).val
  let c2048_i32 : BitVec 32 := 2048#32
  let v29 : BitVec 32 := Scalar.muli arg2 c2048_i32
  let c768_i32 : BitVec 32 := 768#32
  let v296 : BitVec 32 := Scalar.addi v29 c768_i32
  v296
def k0_mult6 (i : grid0.Coords) : BitVec 32 :=
  let arg2 : BitVec 32 := BitVec.ofNat 32 (i 2).val
  let c2048_i32 : BitVec 32 := 2048#32
  let v29 : BitVec 32 := Scalar.muli arg2 c2048_i32
  let c512_i32 : BitVec 32 := 512#32
  let v362 : BitVec 32 := Scalar.addi v29 c512_i32
  v362
def k0_mult7 (i : grid0.Coords) : BitVec 32 :=
  let arg2 : BitVec 32 := BitVec.ofNat 32 (i 2).val
  let c2048_i32 : BitVec 32 := 2048#32
  let v29 : BitVec 32 := Scalar.muli arg2 c2048_i32
  let c256_i32 : BitVec 32 := 256#32
  let v428 : BitVec 32 := Scalar.addi v29 c256_i32
  v428
def k0_mult8 (i : grid0.Coords) : BitVec 32 :=
  let arg2 : BitVec 32 := BitVec.ofNat 32 (i 2).val
  let c2048_i32 : BitVec 32 := 2048#32
  let v29 : BitVec 32 := Scalar.muli arg2 c2048_i32
  let c0_i32_107 : BitVec 32 := 0#32
  let v494 : BitVec 32 := Scalar.addi v29 c0_i32_107
  v494
@[reducible] def k0_t1_loop (i : grid0.Coords) : Scf.Loop 32 :=
  let c0_i32_122 : BitVec 32 := 0#32
  let arg2 : BitVec 32 := BitVec.ofNat 32 (i 2).val
  let c2_i32 : BitVec 32 := 2#32
  let v553 : BitVec 32 := Scalar.muli arg2 c2_i32
  let v554 : BitVec 32 := Scalar.subi v553 c0_i32_122
  let c1_i32_123 : BitVec 32 := 1#32
  let v556 : BitVec 32 := Scalar.divsi v554 c1_i32_123
  let v557 : BitVec 32 := Scalar.muli v556 c1_i32_123
  let v558 : BitVec 32 := Scalar.addi c0_i32_122 v557
  let c1_i32_124 : BitVec 32 := 1#32
  ⟨c0_i32_122, v558, c1_i32_124⟩
def k0_mult9 (i : grid0.Coords) (k0_t1 : Fin (k0_t1_loop i).trips) : BitVec 32 :=
  let arg2 : BitVec 32 := BitVec.ofNat 32 (i 2).val
  let c2048_i32 : BitVec 32 := 2048#32
  let v29 : BitVec 32 := Scalar.muli arg2 c2048_i32
  let c0_i32_122 : BitVec 32 := 0#32
  let c1_i32_124 : BitVec 32 := 1#32
  let arg8 : BitVec 32 := Scf.iv c0_i32_122 c1_i32_124 k0_t1
  let c4_i32 : BitVec 32 := 4#32
  let v1140 : BitVec 32 := Scalar.muli arg8 c4_i32
  let c0_i32_277 : BitVec 32 := 0#32
  let v1141 : BitVec 32 := Scalar.addi v1140 c0_i32_277
  let c1_i32_278 : BitVec 32 := 1#32
  let v1142 : BitVec 32 := Scalar.addi v1141 c1_i32_278
  let c256_i32_279 : BitVec 32 := 256#32
  let v1143 : BitVec 32 := Scalar.muli v1142 c256_i32_279
  let v1144 : BitVec 32 := Scalar.subi v29 v1143
  v1144
def k0_off2 (i : grid0.Coords) (k0_t1 : Fin (k0_t1_loop i).trips) (c0_i32_277 : BitVec 32) : Fin 3 → Nat :=
  let c0_280 : Index := 0#32
  let arg2 : BitVec 32 := BitVec.ofNat 32 (i 2).val
  let c2048_i32 : BitVec 32 := 2048#32
  let v29 : BitVec 32 := Scalar.muli arg2 c2048_i32
  let c0_i32_122 : BitVec 32 := 0#32
  let c1_i32_124 : BitVec 32 := 1#32
  let arg8 : BitVec 32 := Scf.iv c0_i32_122 c1_i32_124 k0_t1
  let c4_i32 : BitVec 32 := 4#32
  let v1140 : BitVec 32 := Scalar.muli arg8 c4_i32
  let v1141 : BitVec 32 := Scalar.addi v1140 c0_i32_277
  let c1_i32_278 : BitVec 32 := 1#32
  let v1142 : BitVec 32 := Scalar.addi v1141 c1_i32_278
  let c256_i32_279 : BitVec 32 := 256#32
  let v1143 : BitVec 32 := Scalar.muli v1142 c256_i32_279
  let v1144 : BitVec 32 := Scalar.subi v29 v1143
  let v1145 : BitVec 32 := v1144
  let v1146 : Index := Scalar.indexCast v1145
  let c0_281 : Index := 0#32
  ![0, v1146.toNat, 0]
def k0_mult10 (i : grid0.Coords) (k0_t1 : Fin (k0_t1_loop i).trips) : BitVec 32 :=
  let arg2 : BitVec 32 := BitVec.ofNat 32 (i 2).val
  let c2048_i32 : BitVec 32 := 2048#32
  let v29 : BitVec 32 := Scalar.muli arg2 c2048_i32
  let c0_i32_122 : BitVec 32 := 0#32
  let c1_i32_124 : BitVec 32 := 1#32
  let arg8 : BitVec 32 := Scf.iv c0_i32_122 c1_i32_124 k0_t1
  let c4_i32_284 : BitVec 32 := 4#32
  let v1152 : BitVec 32 := Scalar.muli arg8 c4_i32_284
  let c1_i32_285 : BitVec 32 := 1#32
  let v1153 : BitVec 32 := Scalar.addi v1152 c1_i32_285
  let c1_i32_286 : BitVec 32 := 1#32
  let v1154 : BitVec 32 := Scalar.addi v1153 c1_i32_286
  let c256_i32_287 : BitVec 32 := 256#32
  let v1155 : BitVec 32 := Scalar.muli v1154 c256_i32_287
  let v1156 : BitVec 32 := Scalar.subi v29 v1155
  v1156
def k0_mult11 (i : grid0.Coords) (k0_t1 : Fin (k0_t1_loop i).trips) : BitVec 32 :=
  let arg2 : BitVec 32 := BitVec.ofNat 32 (i 2).val
  let c2048_i32 : BitVec 32 := 2048#32
  let v29 : BitVec 32 := Scalar.muli arg2 c2048_i32
  let c0_i32_122 : BitVec 32 := 0#32
  let c1_i32_124 : BitVec 32 := 1#32
  let arg8 : BitVec 32 := Scf.iv c0_i32_122 c1_i32_124 k0_t1
  let c4_i32_292 : BitVec 32 := 4#32
  let v1164 : BitVec 32 := Scalar.muli arg8 c4_i32_292
  let c2_i32_293 : BitVec 32 := 2#32
  let v1165 : BitVec 32 := Scalar.addi v1164 c2_i32_293
  let c1_i32_294 : BitVec 32 := 1#32
  let v1166 : BitVec 32 := Scalar.addi v1165 c1_i32_294
  let c256_i32_295 : BitVec 32 := 256#32
  let v1167 : BitVec 32 := Scalar.muli v1166 c256_i32_295
  let v1168 : BitVec 32 := Scalar.subi v29 v1167
  v1168
def k0_mult12 (i : grid0.Coords) (k0_t1 : Fin (k0_t1_loop i).trips) : BitVec 32 :=
  let arg2 : BitVec 32 := BitVec.ofNat 32 (i 2).val
  let c2048_i32 : BitVec 32 := 2048#32
  let v29 : BitVec 32 := Scalar.muli arg2 c2048_i32
  let c0_i32_122 : BitVec 32 := 0#32
  let c1_i32_124 : BitVec 32 := 1#32
  let arg8 : BitVec 32 := Scf.iv c0_i32_122 c1_i32_124 k0_t1
  let c4_i32_300 : BitVec 32 := 4#32
  let v1176 : BitVec 32 := Scalar.muli arg8 c4_i32_300
  let c3_i32 : BitVec 32 := 3#32
  let v1177 : BitVec 32 := Scalar.addi v1176 c3_i32
  let c1_i32_301 : BitVec 32 := 1#32
  let v1178 : BitVec 32 := Scalar.addi v1177 c1_i32_301
  let c256_i32_302 : BitVec 32 := 256#32
  let v1179 : BitVec 32 := Scalar.muli v1178 c256_i32_302
  let v1180 : BitVec 32 := Scalar.subi v29 v1179
  v1180
@[reducible] def k0_t2_loop (i : grid0.Coords) : Scf.Loop 32 :=
  let c0_i32_122 : BitVec 32 := 0#32
  let arg2 : BitVec 32 := BitVec.ofNat 32 (i 2).val
  let c2_i32 : BitVec 32 := 2#32
  let v553 : BitVec 32 := Scalar.muli arg2 c2_i32
  let v554 : BitVec 32 := Scalar.subi v553 c0_i32_122
  let c1_i32_123 : BitVec 32 := 1#32
  let v556 : BitVec 32 := Scalar.divsi v554 c1_i32_123
  let v557 : BitVec 32 := Scalar.muli v556 c1_i32_123
  let v558 : BitVec 32 := Scalar.addi c0_i32_122 v557
  let v555 : BitVec 32 := Scalar.addi c0_i32_122 v554
  let c1_i32_125 : BitVec 32 := 1#32
  ⟨v558, v555, c1_i32_125⟩
def k0_mult13 (i : grid0.Coords) (k0_t2 : Fin (k0_t2_loop i).trips) : BitVec 32 :=
  let arg2 : BitVec 32 := BitVec.ofNat 32 (i 2).val
  let c2048_i32 : BitVec 32 := 2048#32
  let v29 : BitVec 32 := Scalar.muli arg2 c2048_i32
  let c0_i32_122 : BitVec 32 := 0#32
  let c2_i32 : BitVec 32 := 2#32
  let v553 : BitVec 32 := Scalar.muli arg2 c2_i32
  let v554 : BitVec 32 := Scalar.subi v553 c0_i32_122
  let c1_i32_123 : BitVec 32 := 1#32
  let v556 : BitVec 32 := Scalar.divsi v554 c1_i32_123
  let v557 : BitVec 32 := Scalar.muli v556 c1_i32_123
  let v558 : BitVec 32 := Scalar.addi c0_i32_122 v557
  let c1_i32_125 : BitVec 32 := 1#32
  let arg8 : BitVec 32 := Scf.iv v558 c1_i32_125 k0_t2
  let c4_i32 : BitVec 32 := 4#32
  let v1140 : BitVec 32 := Scalar.muli arg8 c4_i32
  let c0_i32_277 : BitVec 32 := 0#32
  let v1141 : BitVec 32 := Scalar.addi v1140 c0_i32_277
  let c1_i32_278 : BitVec 32 := 1#32
  let v1142 : BitVec 32 := Scalar.addi v1141 c1_i32_278
  let c256_i32_279 : BitVec 32 := 256#32
  let v1143 : BitVec 32 := Scalar.muli v1142 c256_i32_279
  let v1144 : BitVec 32 := Scalar.subi v29 v1143
  v1144
def k0_off3 (i : grid0.Coords) (k0_t2 : Fin (k0_t2_loop i).trips) (c0_i32_277 : BitVec 32) : Fin 3 → Nat :=
  let c0_280 : Index := 0#32
  let arg2 : BitVec 32 := BitVec.ofNat 32 (i 2).val
  let c2048_i32 : BitVec 32 := 2048#32
  let v29 : BitVec 32 := Scalar.muli arg2 c2048_i32
  let c0_i32_122 : BitVec 32 := 0#32
  let c2_i32 : BitVec 32 := 2#32
  let v553 : BitVec 32 := Scalar.muli arg2 c2_i32
  let v554 : BitVec 32 := Scalar.subi v553 c0_i32_122
  let c1_i32_123 : BitVec 32 := 1#32
  let v556 : BitVec 32 := Scalar.divsi v554 c1_i32_123
  let v557 : BitVec 32 := Scalar.muli v556 c1_i32_123
  let v558 : BitVec 32 := Scalar.addi c0_i32_122 v557
  let c1_i32_125 : BitVec 32 := 1#32
  let arg8 : BitVec 32 := Scf.iv v558 c1_i32_125 k0_t2
  let c4_i32 : BitVec 32 := 4#32
  let v1140 : BitVec 32 := Scalar.muli arg8 c4_i32
  let v1141 : BitVec 32 := Scalar.addi v1140 c0_i32_277
  let c1_i32_278 : BitVec 32 := 1#32
  let v1142 : BitVec 32 := Scalar.addi v1141 c1_i32_278
  let c256_i32_279 : BitVec 32 := 256#32
  let v1143 : BitVec 32 := Scalar.muli v1142 c256_i32_279
  let v1144 : BitVec 32 := Scalar.subi v29 v1143
  let v1145 : BitVec 32 := v1144
  let v1146 : Index := Scalar.indexCast v1145
  let c0_281 : Index := 0#32
  ![0, v1146.toNat, 0]
def k0_mult14 (i : grid0.Coords) (k0_t2 : Fin (k0_t2_loop i).trips) : BitVec 32 :=
  let arg2 : BitVec 32 := BitVec.ofNat 32 (i 2).val
  let c2048_i32 : BitVec 32 := 2048#32
  let v29 : BitVec 32 := Scalar.muli arg2 c2048_i32
  let c0_i32_122 : BitVec 32 := 0#32
  let c2_i32 : BitVec 32 := 2#32
  let v553 : BitVec 32 := Scalar.muli arg2 c2_i32
  let v554 : BitVec 32 := Scalar.subi v553 c0_i32_122
  let c1_i32_123 : BitVec 32 := 1#32
  let v556 : BitVec 32 := Scalar.divsi v554 c1_i32_123
  let v557 : BitVec 32 := Scalar.muli v556 c1_i32_123
  let v558 : BitVec 32 := Scalar.addi c0_i32_122 v557
  let c1_i32_125 : BitVec 32 := 1#32
  let arg8 : BitVec 32 := Scf.iv v558 c1_i32_125 k0_t2
  let c4_i32_284 : BitVec 32 := 4#32
  let v1152 : BitVec 32 := Scalar.muli arg8 c4_i32_284
  let c1_i32_285 : BitVec 32 := 1#32
  let v1153 : BitVec 32 := Scalar.addi v1152 c1_i32_285
  let c1_i32_286 : BitVec 32 := 1#32
  let v1154 : BitVec 32 := Scalar.addi v1153 c1_i32_286
  let c256_i32_287 : BitVec 32 := 256#32
  let v1155 : BitVec 32 := Scalar.muli v1154 c256_i32_287
  let v1156 : BitVec 32 := Scalar.subi v29 v1155
  v1156
def k0_mult15 (i : grid0.Coords) (k0_t2 : Fin (k0_t2_loop i).trips) : BitVec 32 :=
  let arg2 : BitVec 32 := BitVec.ofNat 32 (i 2).val
  let c2048_i32 : BitVec 32 := 2048#32
  let v29 : BitVec 32 := Scalar.muli arg2 c2048_i32
  let c0_i32_122 : BitVec 32 := 0#32
  let c2_i32 : BitVec 32 := 2#32
  let v553 : BitVec 32 := Scalar.muli arg2 c2_i32
  let v554 : BitVec 32 := Scalar.subi v553 c0_i32_122
  let c1_i32_123 : BitVec 32 := 1#32
  let v556 : BitVec 32 := Scalar.divsi v554 c1_i32_123
  let v557 : BitVec 32 := Scalar.muli v556 c1_i32_123
  let v558 : BitVec 32 := Scalar.addi c0_i32_122 v557
  let c1_i32_125 : BitVec 32 := 1#32
  let arg8 : BitVec 32 := Scf.iv v558 c1_i32_125 k0_t2
  let c4_i32_292 : BitVec 32 := 4#32
  let v1164 : BitVec 32 := Scalar.muli arg8 c4_i32_292
  let c2_i32_293 : BitVec 32 := 2#32
  let v1165 : BitVec 32 := Scalar.addi v1164 c2_i32_293
  let c1_i32_294 : BitVec 32 := 1#32
  let v1166 : BitVec 32 := Scalar.addi v1165 c1_i32_294
  let c256_i32_295 : BitVec 32 := 256#32
  let v1167 : BitVec 32 := Scalar.muli v1166 c256_i32_295
  let v1168 : BitVec 32 := Scalar.subi v29 v1167
  v1168
def k0_mult16 (i : grid0.Coords) (k0_t2 : Fin (k0_t2_loop i).trips) : BitVec 32 :=
  let arg2 : BitVec 32 := BitVec.ofNat 32 (i 2).val
  let c2048_i32 : BitVec 32 := 2048#32
  let v29 : BitVec 32 := Scalar.muli arg2 c2048_i32
  let c0_i32_122 : BitVec 32 := 0#32
  let c2_i32 : BitVec 32 := 2#32
  let v553 : BitVec 32 := Scalar.muli arg2 c2_i32
  let v554 : BitVec 32 := Scalar.subi v553 c0_i32_122
  let c1_i32_123 : BitVec 32 := 1#32
  let v556 : BitVec 32 := Scalar.divsi v554 c1_i32_123
  let v557 : BitVec 32 := Scalar.muli v556 c1_i32_123
  let v558 : BitVec 32 := Scalar.addi c0_i32_122 v557
  let c1_i32_125 : BitVec 32 := 1#32
  let arg8 : BitVec 32 := Scf.iv v558 c1_i32_125 k0_t2
  let c4_i32_300 : BitVec 32 := 4#32
  let v1176 : BitVec 32 := Scalar.muli arg8 c4_i32_300
  let c3_i32 : BitVec 32 := 3#32
  let v1177 : BitVec 32 := Scalar.addi v1176 c3_i32
  let c1_i32_301 : BitVec 32 := 1#32
  let v1178 : BitVec 32 := Scalar.addi v1177 c1_i32_301
  let c256_i32_302 : BitVec 32 := 256#32
  let v1179 : BitVec 32 := Scalar.muli v1178 c256_i32_302
  let v1180 : BitVec 32 := Scalar.subi v29 v1179
  v1180
def k0_mult17 (i : grid0.Coords) : BitVec 32 :=
  let arg2 : BitVec 32 := BitVec.ofNat 32 (i 2).val
  let c2048_i32_143 : BitVec 32 := 2048#32
  let v599 : BitVec 32 := Scalar.muli arg2 c2048_i32_143
  let c1792_i32_146 : BitVec 32 := 1792#32
  let v602 : BitVec 32 := Scalar.addi v599 c1792_i32_146
  v602
def k0_off4 (i : grid0.Coords) (c1792_i32_146 : BitVec 32) : Fin 3 → Nat :=
  let c0_147 : Index := 0#32
  let arg2 : BitVec 32 := BitVec.ofNat 32 (i 2).val
  let c2048_i32_143 : BitVec 32 := 2048#32
  let v599 : BitVec 32 := Scalar.muli arg2 c2048_i32_143
  let v602 : BitVec 32 := Scalar.addi v599 c1792_i32_146
  let v603 : BitVec 32 := v602
  let v604 : Index := Scalar.indexCast v603
  let c128_148 : Index := 128#32
  ![0, v604.toNat, 128]
def k0_mult18 (i : grid0.Coords) : BitVec 32 :=
  let arg2 : BitVec 32 := BitVec.ofNat 32 (i 2).val
  let c2048_i32_143 : BitVec 32 := 2048#32
  let v599 : BitVec 32 := Scalar.muli arg2 c2048_i32_143
  let c1536_i32_161 : BitVec 32 := 1536#32
  let v668 : BitVec 32 := Scalar.addi v599 c1536_i32_161
  v668
def k0_mult19 (i : grid0.Coords) : BitVec 32 :=
  let arg2 : BitVec 32 := BitVec.ofNat 32 (i 2).val
  let c2048_i32_143 : BitVec 32 := 2048#32
  let v599 : BitVec 32 := Scalar.muli arg2 c2048_i32_143
  let c1280_i32_176 : BitVec 32 := 1280#32
  let v734 : BitVec 32 := Scalar.addi v599 c1280_i32_176
  v734
def k0_mult20 (i : grid0.Coords) : BitVec 32 :=
  let arg2 : BitVec 32 := BitVec.ofNat 32 (i 2).val
  let c2048_i32_143 : BitVec 32 := 2048#32
  let v599 : BitVec 32 := Scalar.muli arg2 c2048_i32_143
  let c1024_i32_191 : BitVec 32 := 1024#32
  let v800 : BitVec 32 := Scalar.addi v599 c1024_i32_191
  v800
def k0_mult21 (i : grid0.Coords) : BitVec 32 :=
  let arg2 : BitVec 32 := BitVec.ofNat 32 (i 2).val
  let c2048_i32_143 : BitVec 32 := 2048#32
  let v599 : BitVec 32 := Scalar.muli arg2 c2048_i32_143
  let c768_i32_206 : BitVec 32 := 768#32
  let v866 : BitVec 32 := Scalar.addi v599 c768_i32_206
  v866
def k0_mult22 (i : grid0.Coords) : BitVec 32 :=
  let arg2 : BitVec 32 := BitVec.ofNat 32 (i 2).val
  let c2048_i32_143 : BitVec 32 := 2048#32
  let v599 : BitVec 32 := Scalar.muli arg2 c2048_i32_143
  let c512_i32_221 : BitVec 32 := 512#32
  let v932 : BitVec 32 := Scalar.addi v599 c512_i32_221
  v932
def k0_mult23 (i : grid0.Coords) : BitVec 32 :=
  let arg2 : BitVec 32 := BitVec.ofNat 32 (i 2).val
  let c2048_i32_143 : BitVec 32 := 2048#32
  let v599 : BitVec 32 := Scalar.muli arg2 c2048_i32_143
  let c256_i32_236 : BitVec 32 := 256#32
  let v998 : BitVec 32 := Scalar.addi v599 c256_i32_236
  v998
def k0_mult24 (i : grid0.Coords) : BitVec 32 :=
  let arg2 : BitVec 32 := BitVec.ofNat 32 (i 2).val
  let c2048_i32_143 : BitVec 32 := 2048#32
  let v599 : BitVec 32 := Scalar.muli arg2 c2048_i32_143
  let c0_i32_251 : BitVec 32 := 0#32
  let v1064 : BitVec 32 := Scalar.addi v599 c0_i32_251
  v1064
@[reducible] def k0_t3_loop (i : grid0.Coords) : Scf.Loop 32 :=
  let c0_i32_267 : BitVec 32 := 0#32
  let arg2 : BitVec 32 := BitVec.ofNat 32 (i 2).val
  let c2_i32_266 : BitVec 32 := 2#32
  let v1123 : BitVec 32 := Scalar.muli arg2 c2_i32_266
  let v1124 : BitVec 32 := Scalar.subi v1123 c0_i32_267
  let c1_i32_268 : BitVec 32 := 1#32
  let v1126 : BitVec 32 := Scalar.divsi v1124 c1_i32_268
  let v1127 : BitVec 32 := Scalar.muli v1126 c1_i32_268
  let v1128 : BitVec 32 := Scalar.addi c0_i32_267 v1127
  let c1_i32_269 : BitVec 32 := 1#32
  ⟨c0_i32_267, v1128, c1_i32_269⟩
def k0_mult25 (i : grid0.Coords) (k0_t3 : Fin (k0_t3_loop i).trips) : BitVec 32 :=
  let arg2 : BitVec 32 := BitVec.ofNat 32 (i 2).val
  let c2048_i32_143 : BitVec 32 := 2048#32
  let v599 : BitVec 32 := Scalar.muli arg2 c2048_i32_143
  let c0_i32_267 : BitVec 32 := 0#32
  let c1_i32_269 : BitVec 32 := 1#32
  let arg8 : BitVec 32 := Scf.iv c0_i32_267 c1_i32_269 k0_t3
  let c4_i32 : BitVec 32 := 4#32
  let v1140 : BitVec 32 := Scalar.muli arg8 c4_i32
  let c0_i32_277 : BitVec 32 := 0#32
  let v1141 : BitVec 32 := Scalar.addi v1140 c0_i32_277
  let c1_i32_278 : BitVec 32 := 1#32
  let v1142 : BitVec 32 := Scalar.addi v1141 c1_i32_278
  let c256_i32_279 : BitVec 32 := 256#32
  let v1143 : BitVec 32 := Scalar.muli v1142 c256_i32_279
  let v1144 : BitVec 32 := Scalar.subi v599 v1143
  v1144
def k0_off5 (i : grid0.Coords) (k0_t3 : Fin (k0_t3_loop i).trips) (c0_i32_277 : BitVec 32) : Fin 3 → Nat :=
  let c0_280 : Index := 0#32
  let arg2 : BitVec 32 := BitVec.ofNat 32 (i 2).val
  let c2048_i32_143 : BitVec 32 := 2048#32
  let v599 : BitVec 32 := Scalar.muli arg2 c2048_i32_143
  let c0_i32_267 : BitVec 32 := 0#32
  let c1_i32_269 : BitVec 32 := 1#32
  let arg8 : BitVec 32 := Scf.iv c0_i32_267 c1_i32_269 k0_t3
  let c4_i32 : BitVec 32 := 4#32
  let v1140 : BitVec 32 := Scalar.muli arg8 c4_i32
  let v1141 : BitVec 32 := Scalar.addi v1140 c0_i32_277
  let c1_i32_278 : BitVec 32 := 1#32
  let v1142 : BitVec 32 := Scalar.addi v1141 c1_i32_278
  let c256_i32_279 : BitVec 32 := 256#32
  let v1143 : BitVec 32 := Scalar.muli v1142 c256_i32_279
  let v1144 : BitVec 32 := Scalar.subi v599 v1143
  let v1145 : BitVec 32 := v1144
  let v1146 : Index := Scalar.indexCast v1145
  let c128_281 : Index := 128#32
  ![0, v1146.toNat, 128]
def k0_mult26 (i : grid0.Coords) (k0_t3 : Fin (k0_t3_loop i).trips) : BitVec 32 :=
  let arg2 : BitVec 32 := BitVec.ofNat 32 (i 2).val
  let c2048_i32_143 : BitVec 32 := 2048#32
  let v599 : BitVec 32 := Scalar.muli arg2 c2048_i32_143
  let c0_i32_267 : BitVec 32 := 0#32
  let c1_i32_269 : BitVec 32 := 1#32
  let arg8 : BitVec 32 := Scf.iv c0_i32_267 c1_i32_269 k0_t3
  let c4_i32_284 : BitVec 32 := 4#32
  let v1152 : BitVec 32 := Scalar.muli arg8 c4_i32_284
  let c1_i32_285 : BitVec 32 := 1#32
  let v1153 : BitVec 32 := Scalar.addi v1152 c1_i32_285
  let c1_i32_286 : BitVec 32 := 1#32
  let v1154 : BitVec 32 := Scalar.addi v1153 c1_i32_286
  let c256_i32_287 : BitVec 32 := 256#32
  let v1155 : BitVec 32 := Scalar.muli v1154 c256_i32_287
  let v1156 : BitVec 32 := Scalar.subi v599 v1155
  v1156
def k0_mult27 (i : grid0.Coords) (k0_t3 : Fin (k0_t3_loop i).trips) : BitVec 32 :=
  let arg2 : BitVec 32 := BitVec.ofNat 32 (i 2).val
  let c2048_i32_143 : BitVec 32 := 2048#32
  let v599 : BitVec 32 := Scalar.muli arg2 c2048_i32_143
  let c0_i32_267 : BitVec 32 := 0#32
  let c1_i32_269 : BitVec 32 := 1#32
  let arg8 : BitVec 32 := Scf.iv c0_i32_267 c1_i32_269 k0_t3
  let c4_i32_292 : BitVec 32 := 4#32
  let v1164 : BitVec 32 := Scalar.muli arg8 c4_i32_292
  let c2_i32_293 : BitVec 32 := 2#32
  let v1165 : BitVec 32 := Scalar.addi v1164 c2_i32_293
  let c1_i32_294 : BitVec 32 := 1#32
  let v1166 : BitVec 32 := Scalar.addi v1165 c1_i32_294
  let c256_i32_295 : BitVec 32 := 256#32
  let v1167 : BitVec 32 := Scalar.muli v1166 c256_i32_295
  let v1168 : BitVec 32 := Scalar.subi v599 v1167
  v1168
def k0_mult28 (i : grid0.Coords) (k0_t3 : Fin (k0_t3_loop i).trips) : BitVec 32 :=
  let arg2 : BitVec 32 := BitVec.ofNat 32 (i 2).val
  let c2048_i32_143 : BitVec 32 := 2048#32
  let v599 : BitVec 32 := Scalar.muli arg2 c2048_i32_143
  let c0_i32_267 : BitVec 32 := 0#32
  let c1_i32_269 : BitVec 32 := 1#32
  let arg8 : BitVec 32 := Scf.iv c0_i32_267 c1_i32_269 k0_t3
  let c4_i32_300 : BitVec 32 := 4#32
  let v1176 : BitVec 32 := Scalar.muli arg8 c4_i32_300
  let c3_i32 : BitVec 32 := 3#32
  let v1177 : BitVec 32 := Scalar.addi v1176 c3_i32
  let c1_i32_301 : BitVec 32 := 1#32
  let v1178 : BitVec 32 := Scalar.addi v1177 c1_i32_301
  let c256_i32_302 : BitVec 32 := 256#32
  let v1179 : BitVec 32 := Scalar.muli v1178 c256_i32_302
  let v1180 : BitVec 32 := Scalar.subi v599 v1179
  v1180
@[reducible] def k0_t4_loop (i : grid0.Coords) : Scf.Loop 32 :=
  let c0_i32_267 : BitVec 32 := 0#32
  let arg2 : BitVec 32 := BitVec.ofNat 32 (i 2).val
  let c2_i32_266 : BitVec 32 := 2#32
  let v1123 : BitVec 32 := Scalar.muli arg2 c2_i32_266
  let v1124 : BitVec 32 := Scalar.subi v1123 c0_i32_267
  let c1_i32_268 : BitVec 32 := 1#32
  let v1126 : BitVec 32 := Scalar.divsi v1124 c1_i32_268
  let v1127 : BitVec 32 := Scalar.muli v1126 c1_i32_268
  let v1128 : BitVec 32 := Scalar.addi c0_i32_267 v1127
  let v1125 : BitVec 32 := Scalar.addi c0_i32_267 v1124
  let c1_i32_270 : BitVec 32 := 1#32
  ⟨v1128, v1125, c1_i32_270⟩
def k0_mult29 (i : grid0.Coords) (k0_t4 : Fin (k0_t4_loop i).trips) : BitVec 32 :=
  let arg2 : BitVec 32 := BitVec.ofNat 32 (i 2).val
  let c2048_i32_143 : BitVec 32 := 2048#32
  let v599 : BitVec 32 := Scalar.muli arg2 c2048_i32_143
  let c0_i32_267 : BitVec 32 := 0#32
  let c2_i32_266 : BitVec 32 := 2#32
  let v1123 : BitVec 32 := Scalar.muli arg2 c2_i32_266
  let v1124 : BitVec 32 := Scalar.subi v1123 c0_i32_267
  let c1_i32_268 : BitVec 32 := 1#32
  let v1126 : BitVec 32 := Scalar.divsi v1124 c1_i32_268
  let v1127 : BitVec 32 := Scalar.muli v1126 c1_i32_268
  let v1128 : BitVec 32 := Scalar.addi c0_i32_267 v1127
  let c1_i32_270 : BitVec 32 := 1#32
  let arg8 : BitVec 32 := Scf.iv v1128 c1_i32_270 k0_t4
  let c4_i32 : BitVec 32 := 4#32
  let v1140 : BitVec 32 := Scalar.muli arg8 c4_i32
  let c0_i32_277 : BitVec 32 := 0#32
  let v1141 : BitVec 32 := Scalar.addi v1140 c0_i32_277
  let c1_i32_278 : BitVec 32 := 1#32
  let v1142 : BitVec 32 := Scalar.addi v1141 c1_i32_278
  let c256_i32_279 : BitVec 32 := 256#32
  let v1143 : BitVec 32 := Scalar.muli v1142 c256_i32_279
  let v1144 : BitVec 32 := Scalar.subi v599 v1143
  v1144
def k0_off6 (i : grid0.Coords) (k0_t4 : Fin (k0_t4_loop i).trips) (c0_i32_277 : BitVec 32) : Fin 3 → Nat :=
  let c0_280 : Index := 0#32
  let arg2 : BitVec 32 := BitVec.ofNat 32 (i 2).val
  let c2048_i32_143 : BitVec 32 := 2048#32
  let v599 : BitVec 32 := Scalar.muli arg2 c2048_i32_143
  let c0_i32_267 : BitVec 32 := 0#32
  let c2_i32_266 : BitVec 32 := 2#32
  let v1123 : BitVec 32 := Scalar.muli arg2 c2_i32_266
  let v1124 : BitVec 32 := Scalar.subi v1123 c0_i32_267
  let c1_i32_268 : BitVec 32 := 1#32
  let v1126 : BitVec 32 := Scalar.divsi v1124 c1_i32_268
  let v1127 : BitVec 32 := Scalar.muli v1126 c1_i32_268
  let v1128 : BitVec 32 := Scalar.addi c0_i32_267 v1127
  let c1_i32_270 : BitVec 32 := 1#32
  let arg8 : BitVec 32 := Scf.iv v1128 c1_i32_270 k0_t4
  let c4_i32 : BitVec 32 := 4#32
  let v1140 : BitVec 32 := Scalar.muli arg8 c4_i32
  let v1141 : BitVec 32 := Scalar.addi v1140 c0_i32_277
  let c1_i32_278 : BitVec 32 := 1#32
  let v1142 : BitVec 32 := Scalar.addi v1141 c1_i32_278
  let c256_i32_279 : BitVec 32 := 256#32
  let v1143 : BitVec 32 := Scalar.muli v1142 c256_i32_279
  let v1144 : BitVec 32 := Scalar.subi v599 v1143
  let v1145 : BitVec 32 := v1144
  let v1146 : Index := Scalar.indexCast v1145
  let c128_281 : Index := 128#32
  ![0, v1146.toNat, 128]
def k0_mult30 (i : grid0.Coords) (k0_t4 : Fin (k0_t4_loop i).trips) : BitVec 32 :=
  let arg2 : BitVec 32 := BitVec.ofNat 32 (i 2).val
  let c2048_i32_143 : BitVec 32 := 2048#32
  let v599 : BitVec 32 := Scalar.muli arg2 c2048_i32_143
  let c0_i32_267 : BitVec 32 := 0#32
  let c2_i32_266 : BitVec 32 := 2#32
  let v1123 : BitVec 32 := Scalar.muli arg2 c2_i32_266
  let v1124 : BitVec 32 := Scalar.subi v1123 c0_i32_267
  let c1_i32_268 : BitVec 32 := 1#32
  let v1126 : BitVec 32 := Scalar.divsi v1124 c1_i32_268
  let v1127 : BitVec 32 := Scalar.muli v1126 c1_i32_268
  let v1128 : BitVec 32 := Scalar.addi c0_i32_267 v1127
  let c1_i32_270 : BitVec 32 := 1#32
  let arg8 : BitVec 32 := Scf.iv v1128 c1_i32_270 k0_t4
  let c4_i32_284 : BitVec 32 := 4#32
  let v1152 : BitVec 32 := Scalar.muli arg8 c4_i32_284
  let c1_i32_285 : BitVec 32 := 1#32
  let v1153 : BitVec 32 := Scalar.addi v1152 c1_i32_285
  let c1_i32_286 : BitVec 32 := 1#32
  let v1154 : BitVec 32 := Scalar.addi v1153 c1_i32_286
  let c256_i32_287 : BitVec 32 := 256#32
  let v1155 : BitVec 32 := Scalar.muli v1154 c256_i32_287
  let v1156 : BitVec 32 := Scalar.subi v599 v1155
  v1156
def k0_mult31 (i : grid0.Coords) (k0_t4 : Fin (k0_t4_loop i).trips) : BitVec 32 :=
  let arg2 : BitVec 32 := BitVec.ofNat 32 (i 2).val
  let c2048_i32_143 : BitVec 32 := 2048#32
  let v599 : BitVec 32 := Scalar.muli arg2 c2048_i32_143
  let c0_i32_267 : BitVec 32 := 0#32
  let c2_i32_266 : BitVec 32 := 2#32
  let v1123 : BitVec 32 := Scalar.muli arg2 c2_i32_266
  let v1124 : BitVec 32 := Scalar.subi v1123 c0_i32_267
  let c1_i32_268 : BitVec 32 := 1#32
  let v1126 : BitVec 32 := Scalar.divsi v1124 c1_i32_268
  let v1127 : BitVec 32 := Scalar.muli v1126 c1_i32_268
  let v1128 : BitVec 32 := Scalar.addi c0_i32_267 v1127
  let c1_i32_270 : BitVec 32 := 1#32
  let arg8 : BitVec 32 := Scf.iv v1128 c1_i32_270 k0_t4
  let c4_i32_292 : BitVec 32 := 4#32
  let v1164 : BitVec 32 := Scalar.muli arg8 c4_i32_292
  let c2_i32_293 : BitVec 32 := 2#32
  let v1165 : BitVec 32 := Scalar.addi v1164 c2_i32_293
  let c1_i32_294 : BitVec 32 := 1#32
  let v1166 : BitVec 32 := Scalar.addi v1165 c1_i32_294
  let c256_i32_295 : BitVec 32 := 256#32
  let v1167 : BitVec 32 := Scalar.muli v1166 c256_i32_295
  let v1168 : BitVec 32 := Scalar.subi v599 v1167
  v1168
def k0_mult32 (i : grid0.Coords) (k0_t4 : Fin (k0_t4_loop i).trips) : BitVec 32 :=
  let arg2 : BitVec 32 := BitVec.ofNat 32 (i 2).val
  let c2048_i32_143 : BitVec 32 := 2048#32
  let v599 : BitVec 32 := Scalar.muli arg2 c2048_i32_143
  let c0_i32_267 : BitVec 32 := 0#32
  let c2_i32_266 : BitVec 32 := 2#32
  let v1123 : BitVec 32 := Scalar.muli arg2 c2_i32_266
  let v1124 : BitVec 32 := Scalar.subi v1123 c0_i32_267
  let c1_i32_268 : BitVec 32 := 1#32
  let v1126 : BitVec 32 := Scalar.divsi v1124 c1_i32_268
  let v1127 : BitVec 32 := Scalar.muli v1126 c1_i32_268
  let v1128 : BitVec 32 := Scalar.addi c0_i32_267 v1127
  let c1_i32_270 : BitVec 32 := 1#32
  let arg8 : BitVec 32 := Scf.iv v1128 c1_i32_270 k0_t4
  let c4_i32_300 : BitVec 32 := 4#32
  let v1176 : BitVec 32 := Scalar.muli arg8 c4_i32_300
  let c3_i32 : BitVec 32 := 3#32
  let v1177 : BitVec 32 := Scalar.addi v1176 c3_i32
  let c1_i32_301 : BitVec 32 := 1#32
  let v1178 : BitVec 32 := Scalar.addi v1177 c1_i32_301
  let c256_i32_302 : BitVec 32 := 256#32
  let v1179 : BitVec 32 := Scalar.muli v1178 c256_i32_302
  let v1180 : BitVec 32 := Scalar.subi v599 v1179
  v1180
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S8x2048x22528 : Shape := ⟨3, ![8, 2048, 22528]⟩
abbrev S8x2048x4096 : Shape := ⟨3, ![8, 2048, 4096]⟩
abbrev S8x2048x1024 : Shape := ⟨3, ![8, 2048, 1024]⟩
abbrev S8x2048x8x128 : Shape := ⟨4, ![8, 2048, 8, 128]⟩
abbrev S2048 : Shape := ⟨1, ![2048]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x128x2048 : Shape := ⟨4, ![8, 8, 128, 2048]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x22528, .f32⟩
  | .hbm, ⟨1, _⟩ => ⟨S8x2048x4096, .f32⟩
  | .hbm, ⟨2, _⟩ => ⟨S8x2048x1024, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S8x2048x8x128, .f32⟩
  | .hbm, ⟨7, _⟩ => ⟨S8x2048x8x128, .f32⟩
  | .hbm, ⟨8, _⟩ => ⟨S8x2048x8x128, .f32⟩
  | .hbm, ⟨9, _⟩ => ⟨S2048, .i32⟩
  | .hbm, ⟨10, _⟩ => ⟨S2048, .i32⟩
  | .hbm, ⟨11, _⟩ => ⟨S8x8x2048x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x8x2048x2048, .f32⟩
  | .hbm, ⟨17, _⟩ => ⟨S8x8x2048x2048, .f32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S8x8x2048x2048, .f32⟩
  | .hbm, ⟨24, _⟩ => ⟨S_, .f32⟩
  | .hbm, ⟨25, _⟩ => ⟨S8x8x2048x2048, .f32⟩
  | .hbm, ⟨26, _⟩ => ⟨S8x8x2048x2048, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .i1⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S8x8x2048x2048, .f32⟩
  | .hbm, ⟨37, _⟩ => ⟨S8x8x2048x2048, .f32⟩
  | .hbm, ⟨38, _⟩ => ⟨S8x8x2048x2048, .f32⟩
  | .hbm, ⟨39, _⟩ => ⟨S8x8x2048x2048, .f32⟩
  | .hbm, ⟨40, _⟩ => ⟨S8x8x2048x2048, .f32⟩
  | .hbm, ⟨41, _⟩ => ⟨S_, .f32⟩
  | .hbm, ⟨42, _⟩ => ⟨S8x8x2048x2048, .f32⟩
  | .hbm, ⟨43, _⟩ => ⟨S8x8x2048x2048, .f32⟩
  | .hbm, ⟨44, _⟩ => ⟨S8x8x2048x2048, .f32⟩
  | .hbm, ⟨45, _⟩ => ⟨S8x8x2048x2048, .f32⟩
  | .hbm, ⟨46, _⟩ => ⟨S8x8x2048x2048, .i1⟩
  | .hbm, ⟨47, _⟩ => ⟨S8x8x2048x2048, .f32⟩
  | .hbm, ⟨48, _⟩ => ⟨S8x8x2048x2048, .f32⟩
  | .hbm, ⟨49, _⟩ => ⟨S8x8x2048x2048, .f32⟩
  | .hbm, ⟨50, _⟩ => ⟨S8x8x2048x2048, .f32⟩
  | .hbm, ⟨51, _⟩ => ⟨S8x8x2048x2048, .f32⟩
  | .hbm, ⟨52, _⟩ => ⟨S8x8x2048x2048, .f32⟩
  | .hbm, ⟨53, _⟩ => ⟨S8x8x2048x2048, .f32⟩
  | .hbm, ⟨54, _⟩ => ⟨S8x8x2048x2048, .f32⟩
  | .hbm, ⟨55, _⟩ => ⟨S8x8x2048x2048, .f32⟩
  | .hbm, ⟨56, _⟩ => ⟨S_, .f32⟩
  | .hbm, ⟨57, _⟩ => ⟨S_, .f32⟩
  | .hbm, ⟨58, _⟩ => ⟨S8x8x2048x2048, .i1⟩
  | .hbm, ⟨59, _⟩ => ⟨S8x8x2048x2048, .f32⟩
  | .hbm, ⟨60, _⟩ => ⟨S8x8x2048x2048, .f32⟩
  | .hbm, ⟨61, _⟩ => ⟨S_, .f32⟩
  | .hbm, ⟨62, _⟩ => ⟨S_, .f32⟩
  | .hbm, ⟨63, _⟩ => ⟨S8x8x2048x2048, .f32⟩
  | .hbm, ⟨64, _⟩ => ⟨S8x8x2048x2048, .f32⟩
  | .hbm, ⟨65, _⟩ => ⟨S8x8x2048x2048, .f32⟩
  | .hbm, ⟨66, _⟩ => ⟨S8x8x2048x2048, .f32⟩
  | .hbm, ⟨67, _⟩ => ⟨S_, .f32⟩
  | .hbm, ⟨68, _⟩ => ⟨S_, .f32⟩
  | .hbm, ⟨69, _⟩ => ⟨S8x8x2048x2048, .i1⟩
  | .hbm, ⟨70, _⟩ => ⟨S8x8x2048x2048, .f32⟩
  | .hbm, ⟨71, _⟩ => ⟨S8x8x2048x2048, .f32⟩
  | .hbm, ⟨72, _⟩ => ⟨S8x8x128x2048, .f32⟩
  | .hbm, ⟨73, _⟩ => ⟨S8x2048x8x128, .f32⟩
  | .hbm, ⟨74, _⟩ => ⟨S8x2048x1024, .f32⟩
  | .hbm, ⟨75, _⟩ => ⟨S8x2048x1024, .f32⟩
  | .hbm, ⟨76, _⟩ => ⟨S8x2048x1024, .f32⟩
  | .hbm, ⟨77, _⟩ => ⟨S_, .f32⟩
  | .hbm, ⟨78, _⟩ => ⟨S8x2048x1024, .f32⟩
  | .hbm, ⟨79, _⟩ => ⟨S8x2048x1024, .f32⟩
  | .hbm, ⟨80, _⟩ => ⟨S_, .f32⟩
  | .hbm, ⟨81, _⟩ => ⟨S8x2048x1024, .f32⟩
  | .hbm, ⟨82, _⟩ => ⟨S8x2048x1024, .f32⟩
  | .hbm, ⟨83, _⟩ => ⟨S8x2048x1024, .f32⟩
  | .hbm, ⟨84, _⟩ => ⟨S8x2048x1024, .f32⟩
  | .hbm, ⟨85, _⟩ => ⟨S8x2048x1024, .bf16⟩
  | _, _ => ⟨S8x2048x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_v21 : Ref sig .tc := ⟨.hbm, 39, rfl⟩
abbrev main_call1_v0 : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_v1 : Ref sig .tc := ⟨.hbm, 54, rfl⟩
abbrev main_v22 : Ref sig .tc := ⟨.hbm, 55, rfl⟩
abbrev main_cst_1 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v23 : Ref sig .tc := ⟨.hbm, 60, rfl⟩
abbrev main_call3_cst : Ref sig .tc := ⟨.hbm, 61, rfl⟩
abbrev main_call3_v0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_2 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_call5_v0 : Ref sig .tc := ⟨.hbm, 75, rfl⟩
abbrev main_call5_v1 : Ref sig .tc := ⟨.hbm, 76, rfl⟩
abbrev main_call5_cst : Ref sig .tc := ⟨.hbm, 77, rfl⟩
abbrev main_call5_v2 : Ref sig .tc := ⟨.hbm, 78, rfl⟩
abbrev main_call5_v3 : Ref sig .tc := ⟨.hbm, 79, rfl⟩
abbrev main_call5_cst_0 : Ref sig .tc := ⟨.hbm, 80, rfl⟩
abbrev main_call5_v4 : Ref sig .tc := ⟨.hbm, 81, rfl⟩
abbrev main_call5_v5 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩

abbrev nD : Nat := 1
abbrev τ : Topo := Topo.v7x

variable {F : FTy → Type} [FloatOps F]
-- ==== InProj.lean ====
abbrev S8x2048x4096 : Shape := ⟨3, ![8, 2048, 4096]⟩
abbrev S4096 : Shape := ⟨1, ![4096]⟩
abbrev S2x4096x22528 : Shape := ⟨3, ![2, 4096, 22528]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S16384x22528 : Shape := ⟨2, ![16384, 22528]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩
abbrev S8x2048x22528 : Shape := ⟨3, ![8, 2048, 22528]⟩
abbrev S8x2048x1024 : Shape := ⟨3, ![8, 2048, 1024]⟩
abbrev S8x512x1024 : Shape := ⟨3, ![8, 512, 1024]⟩
abbrev S8x2048x8x128 : Shape := ⟨4, ![8, 2048, 8, 128]⟩
abbrev S8x512x8x128 : Shape := ⟨4, ![8, 512, 8, 128]⟩

abbrev nBuf : Space → Nat
  | .hbm => 16
  | .vmem => 11
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S2x4096x22528, .f32⟩
  | .hbm, ⟨3, _⟩ => ⟨S2x4096x22528, .bf16⟩
  | .hbm, ⟨4, _⟩ => ⟨S16384x4096, .f32⟩
  | .hbm, ⟨5, _⟩ => ⟨S1x4096, .f32⟩
  | .hbm, ⟨6, _⟩ => ⟨S16384x4096, .bf16⟩
  | .hbm, ⟨7, _⟩ => ⟨S16384x22528, .f32⟩
  | .hbm, ⟨8, _⟩ => ⟨S8x2048x22528, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x512x1024, .f32⟩
  | .hbm, ⟨13, _⟩ => ⟨S8x2048x8x128, .f32⟩
  | .hbm, ⟨14, _⟩ => ⟨S8x2048x8x128, .f32⟩
  | .hbm, ⟨15, _⟩ => ⟨S8x512x8x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1024x4096, .bf16⟩
  | .local _ .vmem, ⟨7, _⟩ => ⟨S1x4096x1024, .bf16⟩
  | .local _ .vmem, ⟨8, _⟩ => ⟨S1x4096x1024, .bf16⟩
  | .local _ .vmem, ⟨9, _⟩ => ⟨S1024x1024, .f32⟩
  | .local _ .vmem, ⟨10, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 22], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== InProjIdeal.lean ====
abbrev S8x2048x4096 : Shape := ⟨3, ![8, 2048, 4096]⟩
abbrev S4096 : Shape := ⟨1, ![4096]⟩
abbrev S2x4096x22528 : Shape := ⟨3, ![2, 4096, 22528]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S16384x22528 : Shape := ⟨2, ![16384, 22528]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩
abbrev S8x2048x22528 : Shape := ⟨3, ![8, 2048, 22528]⟩
abbrev S8x2048x1024 : Shape := ⟨3, ![8, 2048, 1024]⟩
abbrev S8x512x1024 : Shape := ⟨3, ![8, 512, 1024]⟩
abbrev S8x2048x8x128 : Shape := ⟨4, ![8, 2048, 8, 128]⟩
abbrev S8x512x8x128 : Shape := ⟨4, ![8, 512, 8, 128]⟩

abbrev nBuf : Space → Nat
  | .hbm => 16
  | .vmem => 11
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S2x4096x22528, .f32⟩
  | .hbm, ⟨3, _⟩ => ⟨S2x4096x22528, .bf16⟩
  | .hbm, ⟨4, _⟩ => ⟨S16384x4096, .f32⟩
  | .hbm, ⟨5, _⟩ => ⟨S1x4096, .f32⟩
  | .hbm, ⟨6, _⟩ => ⟨S16384x4096, .bf16⟩
  | .hbm, ⟨7, _⟩ => ⟨S16384x22528, .f32⟩
  | .hbm, ⟨8, _⟩ => ⟨S8x2048x22528, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x512x1024, .f32⟩
  | .hbm, ⟨13, _⟩ => ⟨S8x2048x8x128, .f32⟩
  | .hbm, ⟨14, _⟩ => ⟨S8x2048x8x128, .f32⟩
  | .hbm, ⟨15, _⟩ => ⟨S8x512x8x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1024x4096, .bf16⟩
  | .local _ .vmem, ⟨7, _⟩ => ⟨S1x4096x1024, .bf16⟩
  | .local _ .vmem, ⟨8, _⟩ => ⟨S1x4096x1024, .bf16⟩
  | .local _ .vmem, ⟨9, _⟩ => ⟨S1024x1024, .f32⟩
  | .local _ .vmem, ⟨10, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 22], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== InProjRefIdeal.lean ====
abbrev S8x2048x4096 : Shape := ⟨3, ![8, 2048, 4096]⟩
abbrev S4096 : Shape := ⟨1, ![4096]⟩
abbrev S2x4096x22528 : Shape := ⟨3, ![2, 4096, 22528]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S1x4096x22528 : Shape := ⟨3, ![1, 4096, 22528]⟩
abbrev S4096x22528 : Shape := ⟨2, ![4096, 22528]⟩
abbrev S8x2048x22528 : Shape := ⟨3, ![8, 2048, 22528]⟩
abbrev S8x2048x1024 : Shape := ⟨3, ![8, 2048, 1024]⟩
abbrev S8x2048x8x128 : Shape := ⟨4, ![8, 2048, 8, 128]⟩
abbrev S8x512x8x128 : Shape := ⟨4, ![8, 512, 8, 128]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S2x4096x22528, .f32⟩
  | .hbm, ⟨3, _⟩ => ⟨S8x2048x4096, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x4096, .f32⟩
  | .hbm, ⟨15, _⟩ => ⟨S8x2048x4096, .f32⟩
  | .hbm, ⟨16, _⟩ => ⟨S1x1x4096, .f32⟩
  | .hbm, ⟨17, _⟩ => ⟨S8x2048x4096, .f32⟩
  | .hbm, ⟨18, _⟩ => ⟨S8x2048x4096, .f32⟩
  | .hbm, ⟨19, _⟩ => ⟨S1x4096x22528, .f32⟩
  | .hbm, ⟨20, _⟩ => ⟨S4096x22528, .f32⟩
  | .hbm, ⟨21, _⟩ => ⟨S8x2048x22528, .f32⟩
  | .hbm, ⟨22, _⟩ => ⟨S8x2048x1024, .f32⟩
  | .hbm, ⟨23, _⟩ => ⟨S8x2048x8x128, .f32⟩
  | .hbm, ⟨24, _⟩ => ⟨S8x2048x1024, .f32⟩
  | .hbm, ⟨25, _⟩ => ⟨S8x2048x8x128, .f32⟩
  | .hbm, ⟨26, _⟩ => ⟨S8x2048x1024, .f32⟩
  | .hbm, ⟨27, _⟩ => ⟨S8x2048x8x128, .f32⟩
  | .hbm, ⟨28, _⟩ => ⟨S8x512x8x128, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== OutProj.lean ====
abbrev S16384x1024 : Shape := ⟨2, ![16384, 1024]⟩
abbrev S8x2048x1024 : Shape := ⟨3, ![8, 2048, 1024]⟩
abbrev S16384x22528 : Shape := ⟨2, ![16384, 22528]⟩
abbrev S8x2048x4096 : Shape := ⟨3, ![8, 2048, 4096]⟩
abbrev S2x1024x4096 : Shape := ⟨3, ![2, 1024, 4096]⟩
abbrev S12288 : Shape := ⟨1, ![12288]⟩
abbrev S2x4096x4096 : Shape := ⟨3, ![2, 4096, 4096]⟩
abbrev S16384x4096 : Shape := ⟨2, ![16384, 4096]⟩
abbrev S1x12288 : Shape := ⟨2, ![1, 12288]⟩
abbrev S512x1024 : Shape := ⟨2, ![512, 1024]⟩
abbrev S1x1024x1024 : Shape := ⟨3, ![1, 1024, 1024]⟩
abbrev S1x1024 : Shape := ⟨2, ![1, 1024]⟩
abbrev S1024x1024 : Shape := ⟨2, ![1024, 1024]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 21
  | .vmem => 34
  | .smem => 0
  | _ => 0

abbrev bufTy : (tb : Table) → Fin (tcTables nBuf tb) → BufTy
  | .hbm, ⟨0, _⟩ => ⟨S16384x1024, .bf16⟩
  | .hbm, ⟨1, _⟩ => ⟨S8x2048x1024, .bf16⟩
  | .hbm, ⟨2, _⟩ => ⟨S8x2048x1024, .bf16⟩
  | .hbm, ⟨3, _⟩ => ⟨S16384x22528, .f32⟩
  | .hbm, ⟨4, _⟩ => ⟨S8x2048x4096, .f32⟩
  | .hbm, ⟨5, _⟩ => ⟨S2x1024x4096, .f32⟩
  | .hbm, ⟨6, _⟩ => ⟨S2x1024x4096, .f32⟩
  | .hbm, ⟨7, _⟩ => ⟨S2x1024x4096, .f32⟩
  | .hbm, ⟨8, _⟩ => ⟨S12288, .f32⟩
  | .hbm, ⟨9, _⟩ => ⟨S2x4096x4096, .f32⟩
  | .hbm, ⟨10, _⟩ => ⟨S2x1024x4096, .bf16⟩
  | .hbm, ⟨11, _⟩ => ⟨S2x1024x4096, .bf16⟩
  | .hbm, ⟨12, _⟩ => ⟨S2x1024x4096, .bf16⟩
  | .hbm, ⟨13, _⟩ => ⟨S2x4096x4096, .bf16⟩
  | .hbm, ⟨14, _⟩ => ⟨S16384x4096, .f32⟩
  | .hbm, ⟨15, _⟩ => ⟨S16384x1024, .bf16⟩
  | .hbm, ⟨16, _⟩ => ⟨S16384x1024, .bf16⟩
  | .hbm, ⟨17, _⟩ => ⟨S1x12288, .f32⟩
  | .hbm, ⟨18, _⟩ => ⟨S16384x4096, .bf16⟩
  | .hbm, ⟨19, _⟩ => ⟨S16384x4096, .f32⟩
  | .hbm, ⟨20, _⟩ => ⟨S8x2048x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S512x1024, .bf16⟩
  | .local _ .vmem, ⟨25, _⟩ => ⟨S512x1024, .bf16⟩
  | .local _ .vmem, ⟨26, _⟩ => ⟨S1024x4096, .bf16⟩
  | .local _ .vmem, ⟨27, _⟩ => ⟨S1024x4096, .bf16⟩
  | .local _ .vmem, ⟨28, _⟩ => ⟨S1x4096x1024, .bf16⟩
  | .local _ .vmem, ⟨29, _⟩ => ⟨S1x4096x1024, .bf16⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== OutProjIdeal.lean ====
abbrev S16384x1024 : Shape := ⟨2, ![16384, 1024]⟩
abbrev S8x2048x1024 : Shape := ⟨3, ![8, 2048, 1024]⟩
abbrev S16384x22528 : Shape := ⟨2, ![16384, 22528]⟩
abbrev S8x2048x4096 : Shape := ⟨3, ![8, 2048, 4096]⟩
abbrev S2x1024x4096 : Shape := ⟨3, ![2, 1024, 4096]⟩
abbrev S12288 : Shape := ⟨1, ![12288]⟩
abbrev S2x4096x4096 : Shape := ⟨3, ![2, 4096, 4096]⟩
abbrev S16384x4096 : Shape := ⟨2, ![16384, 4096]⟩
abbrev S1x12288 : Shape := ⟨2, ![1, 12288]⟩
abbrev S512x1024 : Shape := ⟨2, ![512, 1024]⟩
abbrev S1x1024x1024 : Shape := ⟨3, ![1, 1024, 1024]⟩
abbrev S1x1024 : Shape := ⟨2, ![1, 1024]⟩
abbrev S1024x1024 : Shape := ⟨2, ![1024, 1024]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 21
  | .vmem => 34
  | .smem => 0
  | _ => 0

abbrev bufTy : (tb : Table) → Fin (tcTables nBuf tb) → BufTy
  | .hbm, ⟨0, _⟩ => ⟨S16384x1024, .bf16⟩
  | .hbm, ⟨1, _⟩ => ⟨S8x2048x1024, .bf16⟩
  | .hbm, ⟨2, _⟩ => ⟨S8x2048x1024, .bf16⟩
  | .hbm, ⟨3, _⟩ => ⟨S16384x22528, .f32⟩
  | .hbm, ⟨4, _⟩ => ⟨S8x2048x4096, .f32⟩
  | .hbm, ⟨5, _⟩ => ⟨S2x1024x4096, .f32⟩
  | .hbm, ⟨6, _⟩ => ⟨S2x1024x4096, .f32⟩
  | .hbm, ⟨7, _⟩ => ⟨S2x1024x4096, .f32⟩
  | .hbm, ⟨8, _⟩ => ⟨S12288, .f32⟩
  | .hbm, ⟨9, _⟩ => ⟨S2x4096x4096, .f32⟩
  | .hbm, ⟨10, _⟩ => ⟨S2x1024x4096, .bf16⟩
  | .hbm, ⟨11, _⟩ => ⟨S2x1024x4096, .bf16⟩
  | .hbm, ⟨12, _⟩ => ⟨S2x1024x4096, .bf16⟩
  | .hbm, ⟨13, _⟩ => ⟨S2x4096x4096, .bf16⟩
  | .hbm, ⟨14, _⟩ => ⟨S16384x4096, .f32⟩
  | .hbm, ⟨15, _⟩ => ⟨S16384x1024, .bf16⟩
  | .hbm, ⟨16, _⟩ => ⟨S16384x1024, .bf16⟩
  | .hbm, ⟨17, _⟩ => ⟨S1x12288, .f32⟩
  | .hbm, ⟨18, _⟩ => ⟨S16384x4096, .bf16⟩
  | .hbm, ⟨19, _⟩ => ⟨S16384x4096, .f32⟩
  | .hbm, ⟨20, _⟩ => ⟨S8x2048x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S512x1024, .bf16⟩
  | .local _ .vmem, ⟨25, _⟩ => ⟨S512x1024, .bf16⟩
  | .local _ .vmem, ⟨26, _⟩ => ⟨S1024x4096, .bf16⟩
  | .local _ .vmem, ⟨27, _⟩ => ⟨S1024x4096, .bf16⟩
  | .local _ .vmem, ⟨28, _⟩ => ⟨S1x4096x1024, .bf16⟩
  | .local _ .vmem, ⟨29, _⟩ => ⟨S1x4096x1024, .bf16⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== OutProjRefIdeal.lean ====
abbrev S16384x1024 : Shape := ⟨2, ![16384, 1024]⟩
abbrev S8x2048x1024 : Shape := ⟨3, ![8, 2048, 1024]⟩
abbrev S16384x22528 : Shape := ⟨2, ![16384, 22528]⟩
abbrev S8x2048x4096 : Shape := ⟨3, ![8, 2048, 4096]⟩
abbrev S2x1024x4096 : Shape := ⟨3, ![2, 1024, 4096]⟩
abbrev S12288 : Shape := ⟨1, ![12288]⟩
abbrev S2x4096x4096 : Shape := ⟨3, ![2, 4096, 4096]⟩
abbrev S1x1024x4096 : Shape := ⟨3, ![1, 1024, 4096]⟩
abbrev S1024x4096 : Shape := ⟨2, ![1024, 4096]⟩
abbrev S8x2048x22528 : Shape := ⟨3, ![8, 2048, 22528]⟩
abbrev S8x2048x12288 : Shape := ⟨3, ![8, 2048, 12288]⟩
abbrev S1x1x12288 : Shape := ⟨3, ![1, 1, 12288]⟩
abbrev S_ : Shape := ⟨0, ![]⟩
abbrev S8x2048x3x4096 : Shape := ⟨4, ![8, 2048, 3, 4096]⟩
abbrev S8x2048x1x4096 : Shape := ⟨4, ![8, 2048, 1, 4096]⟩
abbrev S1x4096x4096 : Shape := ⟨3, ![1, 4096, 4096]⟩
abbrev S4096x4096 : Shape := ⟨2, ![4096, 4096]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S8x2048x1024, .bf16⟩
  | .hbm, ⟨2, _⟩ => ⟨S8x2048x1024, .bf16⟩
  | .hbm, ⟨3, _⟩ => ⟨S16384x22528, .f32⟩
  | .hbm, ⟨4, _⟩ => ⟨S8x2048x4096, .f32⟩
  | .hbm, ⟨5, _⟩ => ⟨S2x1024x4096, .f32⟩
  | .hbm, ⟨6, _⟩ => ⟨S2x1024x4096, .f32⟩
  | .hbm, ⟨7, _⟩ => ⟨S2x1024x4096, .f32⟩
  | .hbm, ⟨8, _⟩ => ⟨S12288, .f32⟩
  | .hbm, ⟨9, _⟩ => ⟨S2x4096x4096, .f32⟩
  | .hbm, ⟨10, _⟩ => ⟨S16384x1024, .f32⟩
  | .hbm, ⟨11, _⟩ => ⟨S8x2048x1024, .f32⟩
  | .hbm, ⟨12, _⟩ => ⟨S1x1024x4096, .f32⟩
  | .hbm, ⟨13, _⟩ => ⟨S1024x4096, .f32⟩
  | .hbm, ⟨14, _⟩ => ⟨S8x2048x4096, .f32⟩
  | .hbm, ⟨15, _⟩ => ⟨S8x2048x1024, .f32⟩
  | .hbm, ⟨16, _⟩ => ⟨S1x1024x4096, .f32⟩
  | .hbm, ⟨17, _⟩ => ⟨S1024x4096, .f32⟩
  | .hbm, ⟨18, _⟩ => ⟨S8x2048x4096, .f32⟩
  | .hbm, ⟨19, _⟩ => ⟨S8x2048x1024, .f32⟩
  | .hbm, ⟨20, _⟩ => ⟨S1x1024x4096, .f32⟩
  | .hbm, ⟨21, _⟩ => ⟨S1024x4096, .f32⟩
  | .hbm, ⟨22, _⟩ => ⟨S8x2048x4096, .f32⟩
  | .hbm, ⟨23, _⟩ => ⟨S8x2048x22528, .f32⟩
  | .hbm, ⟨24, _⟩ => ⟨S8x2048x12288, .f32⟩
  | .hbm, ⟨25, _⟩ => ⟨S1x1x12288, .f32⟩
  | .hbm, ⟨26, _⟩ => ⟨S8x2048x12288, .f32⟩
  | .hbm, ⟨27, _⟩ => ⟨S8x2048x12288, .f32⟩
  | .hbm, ⟨28, _⟩ => ⟨S8x2048x12288, .f32⟩
  | .hbm, ⟨29, _⟩ => ⟨S8x2048x12288, .f32⟩
  | .hbm, ⟨30, _⟩ => ⟨S_, .f32⟩
  | .hbm, ⟨31, _⟩ => ⟨S8x2048x12288, .f32⟩
  | .hbm, ⟨32, _⟩ => ⟨S8x2048x12288, .f32⟩
  | .hbm, ⟨33, _⟩ => ⟨S_, .f32⟩
  | .hbm, ⟨34, _⟩ => ⟨S8x2048x12288, .f32⟩
  | .hbm, ⟨35, _⟩ => ⟨S8x2048x12288, .f32⟩
  | .hbm, ⟨36, _⟩ => ⟨S8x2048x3x4096, .f32⟩
  | .hbm, ⟨37, _⟩ => ⟨S8x2048x1x4096, .f32⟩
  | .hbm, ⟨38, _⟩ => ⟨S8x2048x4096, .f32⟩
  | .hbm, ⟨39, _⟩ => ⟨S8x2048x4096, .f32⟩
  | .hbm, ⟨40, _⟩ => ⟨S8x2048x1x4096, .f32⟩
  | .hbm, ⟨41, _⟩ => ⟨S8x2048x4096, .f32⟩
  | .hbm, ⟨42, _⟩ => ⟨S8x2048x4096, .f32⟩
  | .hbm, ⟨43, _⟩ => ⟨S8x2048x4096, .f32⟩
  | .hbm, ⟨44, _⟩ => ⟨S8x2048x1x4096, .f32⟩
  | .hbm, ⟨45, _⟩ => ⟨S8x2048x4096, .f32⟩
  | .hbm, ⟨46, _⟩ => ⟨S8x2048x4096, .f32⟩
  | .hbm, ⟨47, _⟩ => ⟨S8x2048x4096, .f32⟩
  | .hbm, ⟨48, _⟩ => ⟨S1x4096x4096, .f32⟩
  | .hbm, ⟨49, _⟩ => ⟨S4096x4096, .f32⟩
  | .hbm, ⟨50, _⟩ => ⟨S8x2048x4096, .f32⟩
  | .hbm, ⟨51, _⟩ => ⟨S8x2048x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Glu.lean ====
abbrev S2048x8x1024 : Shape := ⟨3, ![2048, 8, 1024]⟩
abbrev S2x1024x1024 : Shape := ⟨3, ![2, 1024, 1024]⟩
abbrev S1024 : Shape := ⟨1, ![1024]⟩
abbrev S16384x22528 : Shape := ⟨2, ![16384, 22528]⟩
abbrev S2048x8192 : Shape := ⟨2, ![2048, 8192]⟩
abbrev S1x1024 : Shape := ⟨2, ![1, 1024]⟩
abbrev S16384x1024 : Shape := ⟨2, ![16384, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x8x1024, .f32⟩
  | .hbm, ⟨1, _⟩ => ⟨S2x1024x1024, .f32⟩
  | .hbm, ⟨2, _⟩ => ⟨S1024, .f32⟩
  | .hbm, ⟨3, _⟩ => ⟨S16384x22528, .f32⟩
  | .hbm, ⟨4, _⟩ => ⟨S2x1024x1024, .bf16⟩
  | .hbm, ⟨5, _⟩ => ⟨S2048x8192, .f32⟩
  | .hbm, ⟨6, _⟩ => ⟨S1x1024, .f32⟩
  | .hbm, ⟨7, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S2048x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluIdeal.lean ====
abbrev S2048x8x1024 : Shape := ⟨3, ![2048, 8, 1024]⟩
abbrev S2x1024x1024 : Shape := ⟨3, ![2, 1024, 1024]⟩
abbrev S1024 : Shape := ⟨1, ![1024]⟩
abbrev S16384x22528 : Shape := ⟨2, ![16384, 22528]⟩
abbrev S2048x8192 : Shape := ⟨2, ![2048, 8192]⟩
abbrev S1x1024 : Shape := ⟨2, ![1, 1024]⟩
abbrev S16384x1024 : Shape := ⟨2, ![16384, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x8x1024, .f32⟩
  | .hbm, ⟨1, _⟩ => ⟨S2x1024x1024, .f32⟩
  | .hbm, ⟨2, _⟩ => ⟨S1024, .f32⟩
  | .hbm, ⟨3, _⟩ => ⟨S16384x22528, .f32⟩
  | .hbm, ⟨4, _⟩ => ⟨S2x1024x1024, .bf16⟩
  | .hbm, ⟨5, _⟩ => ⟨S2048x8192, .f32⟩
  | .hbm, ⟨6, _⟩ => ⟨S1x1024, .f32⟩
  | .hbm, ⟨7, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S2048x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluRefIdeal.lean ====
abbrev S2048x8x1024 : Shape := ⟨3, ![2048, 8, 1024]⟩
abbrev S2x1024x1024 : Shape := ⟨3, ![2, 1024, 1024]⟩
abbrev S1024 : Shape := ⟨1, ![1024]⟩
abbrev S16384x22528 : Shape := ⟨2, ![16384, 22528]⟩
abbrev S8x2048x1024 : Shape := ⟨3, ![8, 2048, 1024]⟩
abbrev S8x2048x22528 : Shape := ⟨3, ![8, 2048, 22528]⟩
abbrev S1x1024x1024 : Shape := ⟨3, ![1, 1024, 1024]⟩
abbrev S1024x1024 : Shape := ⟨2, ![1024, 1024]⟩
abbrev S1x1x1024 : Shape := ⟨3, ![1, 1, 1024]⟩
abbrev S_ : Shape := ⟨0, ![]⟩
abbrev S16384x1024 : Shape := ⟨2, ![16384, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2048x8x1024, .f32⟩
  | .hbm, ⟨1, _⟩ => ⟨S2x1024x1024, .f32⟩
  | .hbm, ⟨2, _⟩ => ⟨S1024, .f32⟩
  | .hbm, ⟨3, _⟩ => ⟨S16384x22528, .f32⟩
  | .hbm, ⟨4, _⟩ => ⟨S8x2048x1024, .f32⟩
  | .hbm, ⟨5, _⟩ => ⟨S8x2048x22528, .f32⟩
  | .hbm, ⟨6, _⟩ => ⟨S8x2048x1024, .f32⟩
  | .hbm, ⟨7, _⟩ => ⟨S1x1024x1024, .f32⟩
  | .hbm, ⟨8, _⟩ => ⟨S1024x1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .bf16⟩
  | .hbm, ⟨33, _⟩ => ⟨S16384x1024, .bf16⟩
  | _, _ => ⟨S2048x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== SampleIn.lean ====
abbrev S8x16x4096 : Shape := ⟨3, ![8, 16, 4096]⟩
abbrev S4096 : Shape := ⟨1, ![4096]⟩
abbrev S2x4096x22528 : Shape := ⟨3, ![2, 4096, 22528]⟩
abbrev S128x4096 : Shape := ⟨2, ![128, 4096]⟩
abbrev S1x4096 : Shape := ⟨2, ![1, 4096]⟩
abbrev S128 : Shape := ⟨1, ![128]⟩
abbrev S128x1 : Shape := ⟨2, ![128, 1]⟩
abbrev S128x22528 : Shape := ⟨2, ![128, 22528]⟩
abbrev S1x4096x1024 : Shape := ⟨3, ![1, 4096, 1024]⟩
abbrev S128x1024 : Shape := ⟨2, ![128, 1024]⟩
abbrev S4096x1024 : Shape := ⟨2, ![4096, 1024]⟩
abbrev S8x16x22528 : Shape := ⟨3, ![8, 16, 22528]⟩
abbrev S8x16x1024 : Shape := ⟨3, ![8, 16, 1024]⟩
abbrev S8x16x8x128 : Shape := ⟨4, ![8, 16, 8, 128]⟩

abbrev nBuf : Space → Nat
  | .hbm => 15
  | .vmem => 8
  | .smem => 0
  | _ => 0

abbrev bufTy : (tb : Table) → Fin (tcTables nBuf tb) → BufTy
  | .hbm, ⟨0, _⟩ => ⟨S8x16x4096, .f32⟩
  | .hbm, ⟨1, _⟩ => ⟨S4096, .f32⟩
  | .hbm, ⟨2, _⟩ => ⟨S2x4096x22528, .f32⟩
  | .hbm, ⟨3, _⟩ => ⟨S2x4096x22528, .bf16⟩
  | .hbm, ⟨4, _⟩ => ⟨S128x4096, .f32⟩
  | .hbm, ⟨5, _⟩ => ⟨S1x4096, .f32⟩
  | .hbm, ⟨6, _⟩ => ⟨S128x4096, .bf16⟩
  | .hbm, ⟨7, _⟩ => ⟨S128x22528, .f32⟩
  | .hbm, ⟨8, _⟩ => ⟨S8x16x22528, .f32⟩
  | .hbm, ⟨9, _⟩ => ⟨S8x16x1024, .f32⟩
  | .hbm, ⟨10, _⟩ => ⟨S8x16x1024, .f32⟩
  | .hbm, ⟨11, _⟩ => ⟨S8x16x1024, .f32⟩
  | .hbm, ⟨12, _⟩ => ⟨S8x16x8x128, .f32⟩
  | .hbm, ⟨13, _⟩ => ⟨S8x16x8x128, .f32⟩
  | .hbm, ⟨14, _⟩ => ⟨S8x16x8x128, .f32⟩
  | .local _ .vmem, ⟨0, _⟩ => ⟨S128x4096, .f32⟩
  | .local _ .vmem, ⟨1, _⟩ => ⟨S1x4096, .f32⟩
  | .local _ .vmem, ⟨2, _⟩ => ⟨S128x4096, .bf16⟩
  | .local _ .vmem, ⟨3, _⟩ => ⟨S128x4096, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S128x1024, .f32⟩
  | .local _ .vmem, ⟨7, _⟩ => ⟨S128x1024, .f32⟩
  | _, _ => ⟨S8x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 22], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S128x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== SampleInRefIdeal.lean ====
abbrev S8x16x4096 : Shape := ⟨3, ![8, 16, 4096]⟩
abbrev S4096 : Shape := ⟨1, ![4096]⟩
abbrev S2x4096x22528 : Shape := ⟨3, ![2, 4096, 22528]⟩
abbrev S_ : Shape := ⟨0, ![]⟩
abbrev S8x16 : Shape := ⟨2, ![8, 16]⟩
abbrev S8x16x1 : Shape := ⟨3, ![8, 16, 1]⟩
abbrev S1x1x4096 : Shape := ⟨3, ![1, 1, 4096]⟩
abbrev S1x4096x22528 : Shape := ⟨3, ![1, 4096, 22528]⟩
abbrev S4096x22528 : Shape := ⟨2, ![4096, 22528]⟩
abbrev S8x16x22528 : Shape := ⟨3, ![8, 16, 22528]⟩
abbrev S8x16x1024 : Shape := ⟨3, ![8, 16, 1024]⟩
abbrev S8x16x8x128 : Shape := ⟨4, ![8, 16, 8, 128]⟩

abbrev nBuf : Space → Nat
  | .hbm => 28
  | .vmem => 0
  | .smem => 0
  | _ => 0

abbrev bufTy : (tb : Table) → Fin (tcTables nBuf tb) → BufTy
  | .hbm, ⟨0, _⟩ => ⟨S8x16x4096, .f32⟩
  | .hbm, ⟨1, _⟩ => ⟨S4096, .f32⟩
  | .hbm, ⟨2, _⟩ => ⟨S2x4096x22528, .f32⟩
  | .hbm, ⟨3, _⟩ => ⟨S8x16x4096, .f32⟩
  | .hbm, ⟨4, _⟩ => ⟨S_, .f32⟩
  | .hbm, ⟨5, _⟩ => ⟨S8x16, .f32⟩
  | .hbm, ⟨6, _⟩ => ⟨S8x16x1, .f32⟩
  | .hbm, ⟨7, _⟩ => ⟨S_, .f32⟩
  | .hbm, ⟨8, _⟩ => ⟨S8x16x1, .f32⟩
  | .hbm, ⟨9, _⟩ => ⟨S8x16x1, .f32⟩
  | .hbm, ⟨10, _⟩ => ⟨S_, .f32⟩
  | .hbm, ⟨11, _⟩ => ⟨S8x16x1, .f32⟩
  | .hbm, ⟨12, _⟩ => ⟨S8x16x1, .f32⟩
  | .hbm, ⟨13, _⟩ => ⟨S8x16x1, .f32⟩
  | .hbm, ⟨14, _⟩ => ⟨S8x16x4096, .f32⟩
  | .hbm, ⟨15, _⟩ => ⟨S8x16x4096, .f32⟩
  | .hbm, ⟨16, _⟩ => ⟨S1x1x4096, .f32⟩
  | .hbm, ⟨17, _⟩ => ⟨S8x16x4096, .f32⟩
  | .hbm, ⟨18, _⟩ => ⟨S8x16x4096, .f32⟩
  | .hbm, ⟨19, _⟩ => ⟨S1x4096x22528, .f32⟩
  | .hbm, ⟨20, _⟩ => ⟨S4096x22528, .f32⟩
  | .hbm, ⟨21, _⟩ => ⟨S8x16x22528, .f32⟩
  | .hbm, ⟨22, _⟩ => ⟨S8x16x1024, .f32⟩
  | .hbm, ⟨23, _⟩ => ⟨S8x16x8x128, .f32⟩
  | .hbm, ⟨24, _⟩ => ⟨S8x16x1024, .f32⟩
  | .hbm, ⟨25, _⟩ => ⟨S8x16x8x128, .f32⟩
  | .hbm, ⟨26, _⟩ => ⟨S8x16x1024, .f32⟩
  | .hbm, ⟨27, _⟩ => ⟨S8x16x8x128, .f32⟩
  | _, _ => ⟨S8x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== SampleOut.lean ====
abbrev S128x1024 : Shape := ⟨2, ![128, 1024]⟩
abbrev S8x16x1024 : Shape := ⟨3, ![8, 16, 1024]⟩
abbrev S128x22528 : Shape := ⟨2, ![128, 22528]⟩
abbrev S8x16x4096 : Shape := ⟨3, ![8, 16, 4096]⟩
abbrev S2x1024x4096 : Shape := ⟨3, ![2, 1024, 4096]⟩
abbrev S12288 : Shape := ⟨1, ![12288]⟩
abbrev S2x4096x4096 : Shape := ⟨3, ![2, 4096, 4096]⟩
abbrev S128x4096 : Shape := ⟨2, ![128, 4096]⟩
abbrev S1x12288 : Shape := ⟨2, ![1, 12288]⟩
abbrev S1x1024x1024 : Shape := ⟨3, ![1, 1024, 1024]⟩
abbrev S1x1024 : Shape := ⟨2, ![1, 1024]⟩
abbrev S1024x1024 : Shape := ⟨2, ![1024, 1024]⟩
abbrev S1x4096x1024 : Shape := ⟨3, ![1, 4096, 1024]⟩
abbrev S4096x1024 : Shape := ⟨2, ![4096, 1024]⟩

abbrev nBuf : Space → Nat
  | .hbm => 21
  | .vmem => 30
  | .smem => 0
  | _ => 0

abbrev bufTy : (tb : Table) → Fin (tcTables nBuf tb) → BufTy
  | .hbm, ⟨0, _⟩ => ⟨S128x1024, .bf16⟩
  | .hbm, ⟨1, _⟩ => ⟨S8x16x1024, .bf16⟩
  | .hbm, ⟨2, _⟩ => ⟨S8x16x1024, .bf16⟩
  | .hbm, ⟨3, _⟩ => ⟨S128x22528, .f32⟩
  | .hbm, ⟨4, _⟩ => ⟨S8x16x4096, .f32⟩
  | .hbm, ⟨5, _⟩ => ⟨S2x1024x4096, .f32⟩
  | .hbm, ⟨6, _⟩ => ⟨S2x1024x4096, .f32⟩
  | .hbm, ⟨7, _⟩ => ⟨S2x1024x4096, .f32⟩
  | .hbm, ⟨8, _⟩ => ⟨S12288, .f32⟩
  | .hbm, ⟨9, _⟩ => ⟨S2x4096x4096, .f32⟩
  | .hbm, ⟨10, _⟩ => ⟨S2x1024x4096, .bf16⟩
  | .hbm, ⟨11, _⟩ => ⟨S2x1024x4096, .bf16⟩
  | .hbm, ⟨12, _⟩ => ⟨S2x1024x4096, .bf16⟩
  | .hbm, ⟨13, _⟩ => ⟨S2x4096x4096, .bf16⟩
  | .hbm, ⟨14, _⟩ => ⟨S128x4096, .f32⟩
  | .hbm, ⟨15, _⟩ => ⟨S128x1024, .bf16⟩
  | .hbm, ⟨16, _⟩ => ⟨S128x1024, .bf16⟩
  | .hbm, ⟨17, _⟩ => ⟨S1x12288, .f32⟩
  | .hbm, ⟨18, _⟩ => ⟨S128x4096, .bf16⟩
  | .hbm, ⟨19, _⟩ => ⟨S128x4096, .f32⟩
  | .hbm, ⟨20, _⟩ => ⟨S8x16x4096, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S128x1024, .bf16⟩
  | .local _ .vmem, ⟨22, _⟩ => ⟨S128x1024, .bf16⟩
  | .local _ .vmem, ⟨23, _⟩ => ⟨S128x4096, .bf16⟩
  | .local _ .vmem, ⟨24, _⟩ => ⟨S1x4096x1024, .bf16⟩
  | .local _ .vmem, ⟨25, _⟩ => ⟨S1x4096x1024, .bf16⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc1_stg0_0 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc1_sem0_0 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S128x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== SampleOutRefIdeal.lean ====
abbrev S128x1024 : Shape := ⟨2, ![128, 1024]⟩
abbrev S8x16x1024 : Shape := ⟨3, ![8, 16, 1024]⟩
abbrev S128x22528 : Shape := ⟨2, ![128, 22528]⟩
abbrev S8x16x4096 : Shape := ⟨3, ![8, 16, 4096]⟩
abbrev S2x1024x4096 : Shape := ⟨3, ![2, 1024, 4096]⟩
abbrev S12288 : Shape := ⟨1, ![12288]⟩
abbrev S2x4096x4096 : Shape := ⟨3, ![2, 4096, 4096]⟩
abbrev S1x1024x4096 : Shape := ⟨3, ![1, 1024, 4096]⟩
abbrev S1024x4096 : Shape := ⟨2, ![1024, 4096]⟩
abbrev S8x16x22528 : Shape := ⟨3, ![8, 16, 22528]⟩
abbrev S8x16x12288 : Shape := ⟨3, ![8, 16, 12288]⟩
abbrev S1x1x12288 : Shape := ⟨3, ![1, 1, 12288]⟩
abbrev S_ : Shape := ⟨0, ![]⟩
abbrev S8x16x3x4096 : Shape := ⟨4, ![8, 16, 3, 4096]⟩
abbrev S8x16x1x4096 : Shape := ⟨4, ![8, 16, 1, 4096]⟩
abbrev S1x4096x4096 : Shape := ⟨3, ![1, 4096, 4096]⟩
abbrev S4096x4096 : Shape := ⟨2, ![4096, 4096]⟩

abbrev nBuf : Space → Nat
  | .hbm => 52
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S8x16x1024, .bf16⟩
  | .hbm, ⟨2, _⟩ => ⟨S8x16x1024, .bf16⟩
  | .hbm, ⟨3, _⟩ => ⟨S128x22528, .f32⟩
  | .hbm, ⟨4, _⟩ => ⟨S8x16x4096, .f32⟩
  | .hbm, ⟨5, _⟩ => ⟨S2x1024x4096, .f32⟩
  | .hbm, ⟨6, _⟩ => ⟨S2x1024x4096, .f32⟩
  | .hbm, ⟨7, _⟩ => ⟨S2x1024x4096, .f32⟩
  | .hbm, ⟨8, _⟩ => ⟨S12288, .f32⟩
  | .hbm, ⟨9, _⟩ => ⟨S2x4096x4096, .f32⟩
  | .hbm, ⟨10, _⟩ => ⟨S128x1024, .f32⟩
  | .hbm, ⟨11, _⟩ => ⟨S8x16x1024, .f32⟩
  | .hbm, ⟨12, _⟩ => ⟨S1x1024x4096, .f32⟩
  | .hbm, ⟨13, _⟩ => ⟨S1024x4096, .f32⟩
  | .hbm, ⟨14, _⟩ => ⟨S8x16x4096, .f32⟩
  | .hbm, ⟨15, _⟩ => ⟨S8x16x1024, .f32⟩
  | .hbm, ⟨16, _⟩ => ⟨S1x1024x4096, .f32⟩
  | .hbm, ⟨17, _⟩ => ⟨S1024x4096, .f32⟩
  | .hbm, ⟨18, _⟩ => ⟨S8x16x4096, .f32⟩
  | .hbm, ⟨19, _⟩ => ⟨S8x16x1024, .f32⟩
  | .hbm, ⟨20, _⟩ => ⟨S1x1024x4096, .f32⟩
  | .hbm, ⟨21, _⟩ => ⟨S1024x4096, .f32⟩
  | .hbm, ⟨22, _⟩ => ⟨S8x16x4096, .f32⟩
  | .hbm, ⟨23, _⟩ => ⟨S8x16x22528, .f32⟩
  | .hbm, ⟨24, _⟩ => ⟨S8x16x12288, .f32⟩
  | .hbm, ⟨25, _⟩ => ⟨S1x1x12288, .f32⟩
  | .hbm, ⟨26, _⟩ => ⟨S8x16x12288, .f32⟩
  | .hbm, ⟨27, _⟩ => ⟨S8x16x12288, .f32⟩
  | .hbm, ⟨28, _⟩ => ⟨S8x16x12288, .f32⟩
  | .hbm, ⟨29, _⟩ => ⟨S8x16x12288, .f32⟩
  | .hbm, ⟨30, _⟩ => ⟨S_, .f32⟩
  | .hbm, ⟨31, _⟩ => ⟨S8x16x12288, .f32⟩
  | .hbm, ⟨32, _⟩ => ⟨S8x16x12288, .f32⟩
  | .hbm, ⟨33, _⟩ => ⟨S_, .f32⟩
  | .hbm, ⟨34, _⟩ => ⟨S8x16x12288, .f32⟩
  | .hbm, ⟨35, _⟩ => ⟨S8x16x12288, .f32⟩
  | .hbm, ⟨36, _⟩ => ⟨S8x16x3x4096, .f32⟩
  | .hbm, ⟨37, _⟩ => ⟨S8x16x1x4096, .f32⟩
  | .hbm, ⟨38, _⟩ => ⟨S8x16x4096, .f32⟩
  | .hbm, ⟨39, _⟩ => ⟨S8x16x4096, .f32⟩
  | .hbm, ⟨40, _⟩ => ⟨S8x16x1x4096, .f32⟩
  | .hbm, ⟨41, _⟩ => ⟨S8x16x4096, .f32⟩
  | .hbm, ⟨42, _⟩ => ⟨S8x16x4096, .f32⟩
  | .hbm, ⟨43, _⟩ => ⟨S8x16x4096, .f32⟩
  | .hbm, ⟨44, _⟩ => ⟨S8x16x1x4096, .f32⟩
  | .hbm, ⟨45, _⟩ => ⟨S8x16x4096, .f32⟩
  | .hbm, ⟨46, _⟩ => ⟨S8x16x4096, .f32⟩
  | .hbm, ⟨47, _⟩ => ⟨S8x16x4096, .f32⟩
  | .hbm, ⟨48, _⟩ => ⟨S1x4096x4096, .f32⟩
  | .hbm, ⟨49, _⟩ => ⟨S4096x4096, .f32⟩
  | .hbm, ⟨50, _⟩ => ⟨S8x16x4096, .f32⟩
  | .hbm, ⟨51, _⟩ => ⟨S8x16x4096, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== SampleGlu.lean ====
abbrev S16x8x1024 : Shape := ⟨3, ![16, 8, 1024]⟩
abbrev S2x1024x1024 : Shape := ⟨3, ![2, 1024, 1024]⟩
abbrev S1024 : Shape := ⟨1, ![1024]⟩
abbrev S128x22528 : Shape := ⟨2, ![128, 22528]⟩
abbrev S16x8192 : Shape := ⟨2, ![16, 8192]⟩
abbrev S1x1024 : Shape := ⟨2, ![1, 1024]⟩
abbrev S128x1024 : Shape := ⟨2, ![128, 1024]⟩
abbrev S16x1024 : Shape := ⟨2, ![16, 1024]⟩
abbrev S1x1024x1024 : Shape := ⟨3, ![1, 1024, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16x8x1024, .f32⟩
  | .hbm, ⟨1, _⟩ => ⟨S2x1024x1024, .f32⟩
  | .hbm, ⟨2, _⟩ => ⟨S1024, .f32⟩
  | .hbm, ⟨3, _⟩ => ⟨S128x22528, .f32⟩
  | .hbm, ⟨4, _⟩ => ⟨S2x1024x1024, .bf16⟩
  | .hbm, ⟨5, _⟩ => ⟨S16x8192, .f32⟩
  | .hbm, ⟨6, _⟩ => ⟨S1x1024, .f32⟩
  | .hbm, ⟨7, _⟩ => ⟨S128x1024, .bf16⟩
  | .local _ .vmem, ⟨0, _⟩ => ⟨S16x1024, .f32⟩
  | .local _ .vmem, ⟨1, _⟩ => ⟨S16x1024, .f32⟩
  | .local _ .vmem, ⟨2, _⟩ => ⟨S1x1024x1024, .bf16⟩
  | .local _ .vmem, ⟨3, _⟩ => ⟨S1x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .bf16⟩
  | .local _ .vmem, ⟨7, _⟩ => ⟨S16x1024, .bf16⟩
  | _, _ => ⟨S16x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SampleGluRefIdeal.lean ====
abbrev S16x8x1024 : Shape := ⟨3, ![16, 8, 1024]⟩
abbrev S2x1024x1024 : Shape := ⟨3, ![2, 1024, 1024]⟩
abbrev S1024 : Shape := ⟨1, ![1024]⟩
abbrev S128x22528 : Shape := ⟨2, ![128, 22528]⟩
abbrev S8x16x1024 : Shape := ⟨3, ![8, 16, 1024]⟩
abbrev S8x16x22528 : Shape := ⟨3, ![8, 16, 22528]⟩
abbrev S1x1024x1024 : Shape := ⟨3, ![1, 1024, 1024]⟩
abbrev S1024x1024 : Shape := ⟨2, ![1024, 1024]⟩
abbrev S1x1x1024 : Shape := ⟨3, ![1, 1, 1024]⟩
abbrev S_ : Shape := ⟨0, ![]⟩
abbrev S128x1024 : Shape := ⟨2, ![128, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16x8x1024, .f32⟩
  | .hbm, ⟨1, _⟩ => ⟨S2x1024x1024, .f32⟩
  | .hbm, ⟨2, _⟩ => ⟨S1024, .f32⟩
  | .hbm, ⟨3, _⟩ => ⟨S128x22528, .f32⟩
  | .hbm, ⟨4, _⟩ => ⟨S8x16x1024, .f32⟩
  | .hbm, ⟨5, _⟩ => ⟨S8x16x22528, .f32⟩
  | .hbm, ⟨6, _⟩ => ⟨S8x16x1024, .f32⟩
  | .hbm, ⟨7, _⟩ => ⟨S1x1024x1024, .f32⟩
  | .hbm, ⟨8, _⟩ => ⟨S1024x1024, .f32⟩
  | .hbm, ⟨9, _⟩ => ⟨S8x16x1024, .f32⟩
  | .hbm, ⟨10, _⟩ => ⟨S1x1x1024, .f32⟩
  | .hbm, ⟨11, _⟩ => ⟨S8x16x1024, .f32⟩
  | .hbm, ⟨12, _⟩ => ⟨S8x16x1024, .f32⟩
  | .hbm, ⟨13, _⟩ => ⟨S8x16x1024, .f32⟩
  | .hbm, ⟨14, _⟩ => ⟨S8x16x1024, .f32⟩
  | .hbm, ⟨15, _⟩ => ⟨S_, .f32⟩
  | .hbm, ⟨16, _⟩ => ⟨S8x16x1024, .f32⟩
  | .hbm, ⟨17, _⟩ => ⟨S8x16x1024, .f32⟩
  | .hbm, ⟨18, _⟩ => ⟨S_, .f32⟩
  | .hbm, ⟨19, _⟩ => ⟨S8x16x1024, .f32⟩
  | .hbm, ⟨20, _⟩ => ⟨S8x16x1024, .f32⟩
  | .hbm, ⟨21, _⟩ => ⟨S8x16x1024, .f32⟩
  | .hbm, ⟨22, _⟩ => ⟨S8x16x1024, .f32⟩
  | .hbm, ⟨23, _⟩ => ⟨S8x16x1024, .f32⟩
  | .hbm, ⟨24, _⟩ => ⟨S_, .f32⟩
  | .hbm, ⟨25, _⟩ => ⟨S8x16x1024, .f32⟩
  | .hbm, ⟨26, _⟩ => ⟨S8x16x1024, .f32⟩
  | .hbm, ⟨27, _⟩ => ⟨S_, .f32⟩
  | .hbm, ⟨28, _⟩ => ⟨S8x16x1024, .f32⟩
  | .hbm, ⟨29, _⟩ => ⟨S8x16x1024, .f32⟩
  | .hbm, ⟨30, _⟩ => ⟨S8x16x1024, .f32⟩
  | .hbm, ⟨31, _⟩ => ⟨S8x16x1024, .f32⟩
  | .hbm, ⟨32, _⟩ => ⟨S8x16x1024, .bf16⟩
  | .hbm, ⟨33, _⟩ => ⟨S128x1024, .bf16⟩
  | _, _ => ⟨S16x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Band.lean ====
abbrev S8x2048x22528 : Shape := ⟨3, ![8, 2048, 22528]⟩
abbrev S8x257 : Shape := ⟨2, ![8, 257]⟩
abbrev S128 : Shape := ⟨1, ![128]⟩
abbrev S128x640 : Shape := ⟨2, ![128, 640]⟩
abbrev S8x1 : Shape := ⟨2, ![8, 1]⟩
abbrev S8x385 : Shape := ⟨2, ![8, 385]⟩
abbrev S8x255 : Shape := ⟨2, ![8, 255]⟩
abbrev S8x128 : Shape := ⟨2, ![8, 128]⟩
abbrev S8x768 : Shape := ⟨2, ![8, 768]⟩
abbrev S1x8x1x768 : Shape := ⟨4, ![1, 8, 1, 768]⟩
abbrev S1x8x128x768 : Shape := ⟨4, ![1, 8, 128, 768]⟩
abbrev S8x98304 : Shape := ⟨2, ![8, 98304]⟩
abbrev S8x98176 : Shape := ⟨2, ![8, 98176]⟩
abbrev S8x128x767 : Shape := ⟨3, ![8, 128, 767]⟩
abbrev S8x128x640 : Shape := ⟨3, ![8, 128, 640]⟩
abbrev S1x128x640 : Shape := ⟨3, ![1, 128, 640]⟩
abbrev S_ : Shape := ⟨0, ![]⟩
abbrev S1x128 : Shape := ⟨2, ![1, 128]⟩
abbrev S8x2048x1024 : Shape := ⟨3, ![8, 2048, 1024]⟩
abbrev S8x512x1024 : Shape := ⟨3, ![8, 512, 1024]⟩
abbrev S1x2048x128 : Shape := ⟨3, ![1, 2048, 128]⟩
abbrev S1x512x128 : Shape := ⟨3, ![1, 512, 128]⟩
abbrev S2048x128 : Shape := ⟨2, ![2048, 128]⟩
abbrev S2048 : Shape := ⟨1, ![2048]⟩
abbrev S2048x1 : Shape := ⟨2, ![2048, 1]⟩
abbrev S512x128 : Shape := ⟨2, ![512, 128]⟩
abbrev S512 : Shape := ⟨1, ![512]⟩
abbrev S512x1 : Shape := ⟨2, ![512, 1]⟩
abbrev S2560x128 : Shape := ⟨2, ![2560, 128]⟩
abbrev S128x128 : Shape := ⟨2, ![128, 128]⟩
abbrev S640x128 : Shape := ⟨2, ![640, 128]⟩
abbrev S128x1 : Shape := ⟨2, ![128, 1]⟩
abbrev S1x128x128 : Shape := ⟨3, ![1, 128, 128]⟩

abbrev nBuf : Space → Nat
  | .hbm => 28
  | .vmem => 20
  | .smem => 0
  | _ => 0

abbrev bufTy : (tb : Table) → Fin (tcTables nBuf tb) → BufTy
  | .hbm, ⟨0, _⟩ => ⟨S8x2048x22528, .f32⟩
  | .hbm, ⟨1, _⟩ => ⟨S8x257, .f32⟩
  | .hbm, ⟨2, _⟩ => ⟨S128, .f32⟩
  | .hbm, ⟨3, _⟩ => ⟨S128, .f32⟩
  | .hbm, ⟨4, _⟩ => ⟨S128x640, .i1⟩
  | .hbm, ⟨5, _⟩ => ⟨S8x1, .f32⟩
  | .hbm, ⟨6, _⟩ => ⟨S8x385, .f32⟩
  | .hbm, ⟨7, _⟩ => ⟨S8x255, .f32⟩
  | .hbm, ⟨8, _⟩ => ⟨S8x255, .f32⟩
  | .hbm, ⟨9, _⟩ => ⟨S8x1, .f32⟩
  | .hbm, ⟨10, _⟩ => ⟨S8x128, .f32⟩
  | .hbm, ⟨11, _⟩ => ⟨S8x768, .f32⟩
  | .hbm, ⟨12, _⟩ => ⟨S1x8x1x768, .f32⟩
  | .hbm, ⟨13, _⟩ => ⟨S1x8x128x768, .f32⟩
  | .hbm, ⟨14, _⟩ => ⟨S8x98304, .f32⟩
  | .hbm, ⟨15, _⟩ => ⟨S8x98176, .f32⟩
  | .hbm, ⟨16, _⟩ => ⟨S8x128x767, .f32⟩
  | .hbm, ⟨17, _⟩ => ⟨S8x128x640, .f32⟩
  | .hbm, ⟨18, _⟩ => ⟨S1x128x640, .i1⟩
  | .hbm, ⟨19, _⟩ => ⟨S_, .f32⟩
  | .hbm, ⟨20, _⟩ => ⟨S_, .f32⟩
  | .hbm, ⟨21, _⟩ => ⟨S8x128x640, .i1⟩
  | .hbm, ⟨22, _⟩ => ⟨S8x128x640, .f32⟩
  | .hbm, ⟨23, _⟩ => ⟨S8x128x640, .f32⟩
  | .hbm, ⟨24, _⟩ => ⟨S1x128, .f32⟩
  | .hbm, ⟨25, _⟩ => ⟨S1x128, .f32⟩
  | .hbm, ⟨26, _⟩ => ⟨S8x2048x1024, .bf16⟩
  | .hbm, ⟨27, _⟩ => ⟨S8x512x1024, .f32⟩
  | .local _ .vmem, ⟨0, _⟩ => ⟨S1x2048x128, .f32⟩
  | .local _ .vmem, ⟨1, _⟩ => ⟨S1x2048x128, .f32⟩
  | .local _ .vmem, ⟨2, _⟩ => ⟨S1x512x128, .f32⟩
  | .local _ .vmem, ⟨3, _⟩ => ⟨S1x512x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x128x640, .f32⟩
  | .local _ .vmem, ⟨13, _⟩ => ⟨S1x128x640, .f32⟩
  | .local _ .vmem, ⟨14, _⟩ => ⟨S1x128, .f32⟩
  | .local _ .vmem, ⟨15, _⟩ => ⟨S1x128, .f32⟩
  | .local _ .vmem, ⟨16, _⟩ => ⟨S1x2048x128, .bf16⟩
  | .local _ .vmem, ⟨17, _⟩ => ⟨S1x2048x128, .bf16⟩
  | .local _ .vmem, ⟨18, _⟩ => ⟨S1x512x128, .f32⟩
  | .local _ .vmem, ⟨19, _⟩ => ⟨S1x512x128, .f32⟩
  | _, _ => ⟨S8x2048x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![arg1.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  ![arg1.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let v3 : BitVec 32 := Scalar.addi c32_i32 arg0
  let c0_i32_0 : BitVec 32 := 0#32
  ![arg1.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![arg1.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg0
  let c0_i32 : BitVec 32 := 0#32
  ![arg1.toNat, arg2.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== BandIdeal.lean ====
variable {F : FTy → Type} [FloatOps F] [Named F]
def κ : String → Option EReal := fun
  | "inv_sqrt_d" => some (((Real.sqrt 128)⁻¹ : ℝ) : EReal)
  | "mask" => some ⊥
  | _ => none
-- ==== BandRefIdeal.lean ====
abbrev S8x2048x22528 : Shape := ⟨3, ![8, 2048, 22528]⟩
abbrev S8x257 : Shape := ⟨2, ![8, 257]⟩
abbrev S128 : Shape := ⟨1, ![128]⟩
abbrev S8x2048x4096 : Shape := ⟨3, ![8, 2048, 4096]⟩
abbrev S8x2048x1024 : Shape := ⟨3, ![8, 2048, 1024]⟩
abbrev S8x2048x8x128 : Shape := ⟨4, ![8, 2048, 8, 128]⟩
abbrev S_ : Shape := ⟨0, ![]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S8x2048x2048 : Shape := ⟨3, ![8, 2048, 2048]⟩
abbrev S8x8x2048x2048 : Shape := ⟨4, ![8, 8, 2048, 2048]⟩
abbrev S1x8x2048x2048 : Shape := ⟨4, ![1, 8, 2048, 2048]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩
abbrev S8x512x8x128 : Shape := ⟨4, ![8, 512, 8, 128]⟩
abbrev S8x512x1024 : Shape := ⟨3, ![8, 512, 1024]⟩

abbrev nBuf : Space → Nat
  | .hbm => 162
  | .vmem => 0
  | .smem => 0
  | _ => 0

abbrev hbmTy0_0 (i : Nat) : BufTy := match i % 128 with
  | 0 => ⟨S8x2048x22528, .f32⟩
  | 1 => ⟨S8x257, .f32⟩
  | 2 => ⟨S128, .f32⟩
  | 3 => ⟨S128, .f32⟩
  | 4 => ⟨S8x2048x4096, .f32⟩
  | 5 => ⟨S8x2048x1024, .f32⟩
  | 6 => ⟨S8x2048x1024, .f32⟩
  | 7 => ⟨S8x2048x1024, .f32⟩
  | 8 => ⟨S8x2048x1024, .f32⟩
  | 9 => ⟨S8x2048x8x128, .f32⟩
  | 10 => ⟨S8x2048x8x128, .f32⟩
  | 11 => ⟨S_, .f32⟩
  | 12 => ⟨S8x2048x8, .f32⟩
  | 13 => ⟨S8x2048x8x1, .f32⟩
  | 14 => ⟨S_, .f32⟩
  | 15 => ⟨S8x2048x8x1, .f32⟩
  | 16 => ⟨S8x2048x8x1, .f32⟩
  | 17 => ⟨S_, .f32⟩
  | 18 => ⟨S8x2048x8x1, .f32⟩
  | 19 => ⟨S8x2048x8x1, .f32⟩
  | 20 => ⟨S8x2048x8x1, .f32⟩
  | 21 => ⟨S8x2048x8x128, .f32⟩
  | 22 => ⟨S8x2048x8x128, .f32⟩
  | 23 => ⟨S1x1x1x128, .f32⟩
  | 24 => ⟨S8x2048x8x128, .f32⟩
  | 25 => ⟨S8x2048x8x128, .f32⟩
  | 26 => ⟨S8x2048x8x128, .f32⟩
  | 27 => ⟨S8x2048x8x128, .f32⟩
  | 28 => ⟨S_, .f32⟩
  | 29 => ⟨S8x2048x8, .f32⟩
  | 30 => ⟨S8x2048x8x1, .f32⟩
  | 31 => ⟨S_, .f32⟩
  | 32 => ⟨S8x2048x8x1, .f32⟩
  | 33 => ⟨S8x2048x8x1, .f32⟩
  | 34 => ⟨S_, .f32⟩
  | 35 => ⟨S8x2048x8x1, .f32⟩
  | 36 => ⟨S8x2048x8x1, .f32⟩
  | 37 => ⟨S8x2048x8x1, .f32⟩
  | 38 => ⟨S8x2048x8x128, .f32⟩
  | 39 => ⟨S8x2048x8x128, .f32⟩
  | 40 => ⟨S1x1x1x128, .f32⟩
  | 41 => ⟨S8x2048x8x128, .f32⟩
  | 42 => ⟨S8x2048x8x128, .f32⟩
  | 43 => ⟨S8x2048x8x128, .f32⟩
  | 44 => ⟨S2048, .i32⟩
  | 45 => ⟨S1x2048, .i32⟩
  | 46 => ⟨S2048, .i32⟩
  | 47 => ⟨S2048x1, .i32⟩
  | 48 => ⟨S2048x2048, .i32⟩
  | 49 => ⟨S2048x2048, .i32⟩
  | 50 => ⟨S2048x2048, .i32⟩
  | 51 => ⟨S_, .i32⟩
  | 52 => ⟨S_, .i32⟩
  | 53 => ⟨S_, .i32⟩
  | 54 => ⟨S2048x2048, .i32⟩
  | 55 => ⟨S2048x2048, .i32⟩
  | 56 => ⟨S_, .i32⟩
  | 57 => ⟨S2048x2048, .i32⟩
  | 58 => ⟨S2048x2048, .i32⟩
  | 59 => ⟨S_, .i32⟩
  | 60 => ⟨S2048x2048, .i32⟩
  | 61 => ⟨S2048x2048, .i32⟩
  | 62 => ⟨S_, .i32⟩
  | 63 => ⟨S2048x2048, .i32⟩
  | 64 => ⟨S2048x2048, .i1⟩
  | 65 => ⟨S_, .i32⟩
  | 66 => ⟨S2048x2048, .i32⟩
  | 67 => ⟨S2048x2048, .i32⟩
  | 68 => ⟨S2048x2048, .i32⟩
  | 69 => ⟨S2048x2048x1, .i32⟩
  | 70 => ⟨S8x2048x2048, .f32⟩
  | 71 => ⟨S_, .i32⟩
  | 72 => ⟨S_, .i32⟩
  | 73 => ⟨S2048x1, .i32⟩
  | 74 => ⟨S2048x1, .i32⟩
  | 75 => ⟨S2048x1, .i32⟩
  | 76 => ⟨S_, .i32⟩
  | 77 => ⟨S2048x1, .i32⟩
  | 78 => ⟨S2048x1, .i1⟩
  | 79 => ⟨S2048x1, .i32⟩
  | 80 => ⟨S2048x1, .i32⟩
  | 81 => ⟨S_, .i32⟩
  | 82 => ⟨S2048x1, .i32⟩
  | 83 => ⟨S2048x1, .i1⟩
  | 84 => ⟨S2048x1, .i1⟩
  | 85 => ⟨S_, .i32⟩
  | 86 => ⟨S2048x1, .i32⟩
  | 87 => ⟨S2048x1, .i32⟩
  | 88 => ⟨S2048x1, .i32⟩
  | 89 => ⟨S_, .i32⟩
  | 90 => ⟨S_, .i32⟩
  | 91 => ⟨S1x2048, .i32⟩
  | 92 => ⟨S1x2048, .i32⟩
  | 93 => ⟨S1x2048, .i32⟩
  | 94 => ⟨S_, .i32⟩
  | 95 => ⟨S1x2048, .i32⟩
  | 96 => ⟨S1x2048, .i1⟩
  | 97 => ⟨S1x2048, .i32⟩
  | 98 => ⟨S1x2048, .i32⟩
  | 99 => ⟨S_, .i32⟩
  | 100 => ⟨S1x2048, .i32⟩
  | 101 => ⟨S1x2048, .i1⟩
  | 102 => ⟨S1x2048, .i1⟩
  | 103 => ⟨S_, .i32⟩
  | 104 => ⟨S1x2048, .i32⟩
  | 105 => ⟨S1x2048, .i32⟩
  | 106 => ⟨S1x2048, .i32⟩
  | 107 => ⟨S2048x2048, .i32⟩
  | 108 => ⟨S2048x2048, .i32⟩
  | 109 => ⟨S2048x2048, .i32⟩
  | 110 => ⟨S_, .i32⟩
  | 111 => ⟨S2048x2048, .i32⟩
  | 112 => ⟨S2048x2048, .i1⟩
  | 113 => ⟨S_, .i32⟩
  | 114 => ⟨S2048x2048, .i32⟩
  | 115 => ⟨S2048x2048, .i1⟩
  | 116 => ⟨S2048x2048, .i1⟩
  | 117 => ⟨S8x8x2048x2048, .f32⟩
  | 118 => ⟨S_, .f32⟩
  | 119 => ⟨S_, .f32⟩
  | 120 => ⟨S_, .f32⟩
  | 121 => ⟨S_, .f32⟩
  | 122 => ⟨S8x8x2048x2048, .f32⟩
  | 123 => ⟨S8x8x2048x2048, .f32⟩
  | 124 => ⟨S1x8x2048x2048, .f32⟩
  | 125 => ⟨S8x8x2048x2048, .f32⟩
  | 126 => ⟨S8x8x2048x2048, .f32⟩
  | 127 => ⟨S_, .f32⟩
  | _ => ⟨S8x2048x22528, .f32⟩

abbrev hbmTy0_1 (i : Nat) : BufTy := match i % 128 with
  | 0 => ⟨S_, .f32⟩
  | 1 => ⟨S8x8x2048x2048, .i1⟩
  | 2 => ⟨S8x8x2048x2048, .f32⟩
  | 3 => ⟨S8x8x2048x2048, .f32⟩
  | 4 => ⟨S_, .f32⟩
  | 5 => ⟨S8x8x2048, .f32⟩
  | 6 => ⟨S_, .f32⟩
  | 7 => ⟨S8x8x2048, .f32⟩
  | 8 => ⟨S8x8x2048, .f32⟩
  | 9 => ⟨S8x8x2048x1, .f32⟩
  | 10 => ⟨S8x8x2048x2048, .f32⟩
  | 11 => ⟨S8x8x2048x2048, .f32⟩
  | 12 => ⟨S8x8x2048x2048, .f32⟩
  | 13 => ⟨S_, .f32⟩
  | 14 => ⟨S8x8x2048, .f32⟩
  | 15 => ⟨S8x8x2048x1, .f32⟩
  | 16 => ⟨S8x8x2048x2048, .f32⟩
  | 17 => ⟨S8x8x2048x2048, .f32⟩
  | 18 => ⟨S8x8x128x2048, .f32⟩
  | 19 => ⟨S8x2048x8x128, .f32⟩
  | 20 => ⟨S8x2048x1024, .f32⟩
  | 21 => ⟨S8x2048x1024, .f32⟩
  | 22 => ⟨S8x2048x1024, .f32⟩
  | 23 => ⟨S_, .f32⟩
  | 24 => ⟨S8x2048x1024, .f32⟩
  | 25 => ⟨S8x2048x1024, .f32⟩
  | 26 => ⟨S_, .f32⟩
  | 27 => ⟨S8x2048x1024, .f32⟩
  | 28 => ⟨S8x2048x1024, .f32⟩
  | 29 => ⟨S8x2048x1024, .f32⟩
  | 30 => ⟨S8x2048x1024, .f32⟩
  | 31 => ⟨S8x2048x1024, .bf16⟩
  | 32 => ⟨S8x512x8x128, .f32⟩
  | 33 => ⟨S8x512x1024, .f32⟩
  | _ => ⟨S8x2048x22528, .f32⟩

abbrev hbmTy (i : Nat) : BufTy := match i / 128 with
  | 0 => hbmTy0_0 i
  | 1 => hbmTy0_1 i
  | _ => ⟨S8x2048x22528, .f32⟩

abbrev bufTy : (tb : Table) → Fin (tcTables nBuf tb) → BufTy
  | .hbm, ⟨i, _⟩ => hbmTy i
  | _, _ => ⟨S8x2048x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c : Ref sig .tc := ⟨.hbm, 51, rfl⟩
abbrev main_c_5 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_c : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_0 : Ref sig .tc := ⟨.hbm, 85, rfl⟩
abbrev main_call1_v12 : Ref sig .tc := ⟨.hbm, 86, rfl⟩
abbrev main_call1_v13 : Ref sig .tc := ⟨.hbm, 87, rfl⟩
abbrev main_v51 : Ref sig .tc := ⟨.hbm, 88, rfl⟩
abbrev main_c_10 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_c : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_0 : Ref sig .tc := ⟨.hbm, 103, rfl⟩
abbrev main_call2_v12 : Ref sig .tc := ⟨.hbm, 104, rfl⟩
abbrev main_call2_v13 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_c_11 : Ref sig .tc := ⟨.hbm, 110, rfl⟩
abbrev main_v56 : Ref sig .tc := ⟨.hbm, 111, rfl⟩
abbrev main_v57 : Ref sig .tc := ⟨.hbm, 112, rfl⟩
abbrev main_c_12 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_13 : Ref sig .tc := ⟨.hbm, 118, rfl⟩
abbrev main_v62 : Ref sig .tc := ⟨.hbm, 119, rfl⟩
abbrev main_cst_14 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_cst_15 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v69 : Ref sig .tc := ⟨.hbm, 131, rfl⟩
abbrev main_cst_16 : Ref sig .tc := ⟨.hbm, 132, rfl⟩
abbrev main_v70 : Ref sig .tc := ⟨.hbm, 133, rfl⟩
abbrev main_cst_17 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_cst_18 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_call4_v0 : Ref sig .tc := ⟨.hbm, 149, rfl⟩
abbrev main_call4_v1 : Ref sig .tc := ⟨.hbm, 150, rfl⟩
abbrev main_call4_cst : Ref sig .tc := ⟨.hbm, 151, rfl⟩
abbrev main_call4_v2 : Ref sig .tc := ⟨.hbm, 152, rfl⟩
abbrev main_call4_v3 : Ref sig .tc := ⟨.hbm, 153, rfl⟩
abbrev main_call4_cst_0 : Ref sig .tc := ⟨.hbm, 154, rfl⟩
abbrev main_call4_v4 : Ref sig .tc := ⟨.hbm, 155, rfl⟩
abbrev main_call4_v5 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩

abbrev nD : Nat := 1
abbrev τ : Topo := Topo.v7x

variable {F : FTy → Type} [FloatOps F]
-- ==== SampleBand.lean ====
abbrev S8x16x22528 : Shape := ⟨3, ![8, 16, 22528]⟩
abbrev S2x8x512x8x128 : Shape := ⟨5, ![2, 8, 512, 8, 128]⟩
abbrev S8x257 : Shape := ⟨2, ![8, 257]⟩
abbrev S128 : Shape := ⟨1, ![128]⟩
abbrev S2x8x4096x128 : Shape := ⟨4, ![2, 8, 4096, 128]⟩
abbrev S8x1 : Shape := ⟨2, ![8, 1]⟩
abbrev S8x385 : Shape := ⟨2, ![8, 385]⟩
abbrev S8x143 : Shape := ⟨2, ![8, 143]⟩
abbrev S8x16 : Shape := ⟨2, ![8, 16]⟩
abbrev S8x544 : Shape := ⟨2, ![8, 544]⟩
abbrev S1x8x1x544 : Shape := ⟨4, ![1, 8, 1, 544]⟩
abbrev S1x8x16x544 : Shape := ⟨4, ![1, 8, 16, 544]⟩
abbrev S8x8704 : Shape := ⟨2, ![8, 8704]⟩
abbrev S8x8688 : Shape := ⟨2, ![8, 8688]⟩
abbrev S8x16x543 : Shape := ⟨3, ![8, 16, 543]⟩
abbrev S8x16x528 : Shape := ⟨3, ![8, 16, 528]⟩
abbrev S_ : Shape := ⟨0, ![]⟩
abbrev S8x16x640 : Shape := ⟨3, ![8, 16, 640]⟩
abbrev S1x128 : Shape := ⟨2, ![1, 128]⟩
abbrev S8x16x1024 : Shape := ⟨3, ![8, 16, 1024]⟩
abbrev S1x16x1024 : Shape := ⟨3, ![1, 16, 1024]⟩
abbrev S1x1x4096x128 : Shape := ⟨4, ![1, 1, 4096, 128]⟩
abbrev S112x128 : Shape := ⟨2, ![112, 128]⟩
abbrev S1x16x128 : Shape := ⟨3, ![1, 16, 128]⟩
abbrev S16x128 : Shape := ⟨2, ![16, 128]⟩
abbrev S16 : Shape := ⟨1, ![16]⟩
abbrev S16x1 : Shape := ⟨2, ![16, 1]⟩
abbrev S128x128 : Shape := ⟨2, ![128, 128]⟩
abbrev S1x1x512x128 : Shape := ⟨4, ![1, 1, 512, 128]⟩
abbrev S512x128 : Shape := ⟨2, ![512, 128]⟩
abbrev S16x512 : Shape := ⟨2, ![16, 512]⟩
abbrev S1x16x512 : Shape := ⟨3, ![1, 16, 512]⟩

abbrev nBuf : Space → Nat
  | .hbm => 28
  | .vmem => 19
  | .smem => 0
  | _ => 0

abbrev bufTy : (tb : Table) → Fin (tcTables nBuf tb) → BufTy
  | .hbm, ⟨0, _⟩ => ⟨S8x16x22528, .f32⟩
  | .hbm, ⟨1, _⟩ => ⟨S2x8x512x8x128, .f32⟩
  | .hbm, ⟨2, _⟩ => ⟨S2x8x512x8x128, .f32⟩
  | .hbm, ⟨3, _⟩ => ⟨S8x257, .f32⟩
  | .hbm, ⟨4, _⟩ => ⟨S128, .f32⟩
  | .hbm, ⟨5, _⟩ => ⟨S128, .f32⟩
  | .hbm, ⟨6, _⟩ => ⟨S2x8x4096x128, .f32⟩
  | .hbm, ⟨7, _⟩ => ⟨S2x8x4096x128, .f32⟩
  | .hbm, ⟨8, _⟩ => ⟨S8x1, .f32⟩
  | .hbm, ⟨9, _⟩ => ⟨S8x385, .f32⟩
  | .hbm, ⟨10, _⟩ => ⟨S8x143, .f32⟩
  | .hbm, ⟨11, _⟩ => ⟨S8x143, .f32⟩
  | .hbm, ⟨12, _⟩ => ⟨S8x1, .f32⟩
  | .hbm, ⟨13, _⟩ => ⟨S8x16, .f32⟩
  | .hbm, ⟨14, _⟩ => ⟨S8x544, .f32⟩
  | .hbm, ⟨15, _⟩ => ⟨S1x8x1x544, .f32⟩
  | .hbm, ⟨16, _⟩ => ⟨S1x8x16x544, .f32⟩
  | .hbm, ⟨17, _⟩ => ⟨S8x8704, .f32⟩
  | .hbm, ⟨18, _⟩ => ⟨S8x8688, .f32⟩
  | .hbm, ⟨19, _⟩ => ⟨S8x16x543, .f32⟩
  | .hbm, ⟨20, _⟩ => ⟨S8x16x528, .f32⟩
  | .hbm, ⟨21, _⟩ => ⟨S_, .f32⟩
  | .hbm, ⟨22, _⟩ => ⟨S_, .f32⟩
  | .hbm, ⟨23, _⟩ => ⟨S8x16x640, .f32⟩
  | .hbm, ⟨24, _⟩ => ⟨S1x128, .f32⟩
  | .hbm, ⟨25, _⟩ => ⟨S1x128, .f32⟩
  | .hbm, ⟨26, _⟩ => ⟨S8x16x1024, .bf16⟩
  | .hbm, ⟨27, _⟩ => ⟨S8x16x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1x4096x128, .f32⟩
  | .local _ .vmem, ⟨7, _⟩ => ⟨S1x1x4096x128, .f32⟩
  | .local _ .vmem, ⟨8, _⟩ => ⟨S1x1x4096x128, .f32⟩
  | .local _ .vmem, ⟨9, _⟩ => ⟨S1x1x4096x128, .f32⟩
  | .local _ .vmem, ⟨10, _⟩ => ⟨S1x16x1024, .f32⟩
  | .local _ .vmem, ⟨11, _⟩ => ⟨S1x16x1024, .f32⟩
  | .local _ .vmem, ⟨12, _⟩ => ⟨S8x16x640, .f32⟩
  | .local _ .vmem, ⟨13, _⟩ => ⟨S1x128, .f32⟩
  | .local _ .vmem, ⟨14, _⟩ => ⟨S1x128, .f32⟩
  | .local _ .vmem, ⟨15, _⟩ => ⟨S1x16x1024, .bf16⟩
  | .local _ .vmem, ⟨16, _⟩ => ⟨S1x16x1024, .bf16⟩
  | .local _ .vmem, ⟨17, _⟩ => ⟨S1x16x1024, .f32⟩
  | .local _ .vmem, ⟨18, _⟩ => ⟨S1x16x1024, .f32⟩
  | _, _ => ⟨S8x16x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_1 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x16x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SampleBandIdeal.lean ====
variable {F : FTy → Type} [FloatOps F] [Named F]
def κ : String → Option EReal := fun
  | "inv_sqrt_d" => some (((Real.sqrt 128)⁻¹ : ℝ) : EReal)
  | _ => none
-- ==== SampleBandRefIdeal.lean ====
abbrev S8x16x22528 : Shape := ⟨3, ![8, 16, 22528]⟩
abbrev S2x8x512x8x128 : Shape := ⟨5, ![2, 8, 512, 8, 128]⟩
abbrev S8x257 : Shape := ⟨2, ![8, 257]⟩
abbrev S128 : Shape := ⟨1, ![128]⟩
abbrev S8x16x4096 : Shape := ⟨3, ![8, 16, 4096]⟩
abbrev S8x16x1024 : Shape := ⟨3, ![8, 16, 1024]⟩
abbrev S8x16x8x128 : Shape := ⟨4, ![8, 16, 8, 128]⟩
abbrev S_ : Shape := ⟨0, ![]⟩
abbrev S8x16x8 : Shape := ⟨3, ![8, 16, 8]⟩
abbrev S8x16x8x1 : Shape := ⟨4, ![8, 16, 8, 1]⟩
abbrev S1x1x1x128 : Shape := ⟨4, ![1, 1, 1, 128]⟩
abbrev S1x8x512x8x128 : Shape := ⟨5, ![1, 8, 512, 8, 128]⟩
abbrev S8x512x8x128 : Shape := ⟨4, ![8, 512, 8, 128]⟩
abbrev S8x528x8x128 : Shape := ⟨4, ![8, 528, 8, 128]⟩
abbrev S528 : Shape := ⟨1, ![528]⟩
abbrev S1x528 : Shape := ⟨2, ![1, 528]⟩
abbrev S16 : Shape := ⟨1, ![16]⟩
abbrev S16x1 : Shape := ⟨2, ![16, 1]⟩
abbrev S16x528 : Shape := ⟨2, ![16, 528]⟩
abbrev S16x528x1 : Shape := ⟨3, ![16, 528, 1]⟩
abbrev S8x16x528 : Shape := ⟨3, ![8, 16, 528]⟩
abbrev S8x8x16x528 : Shape := ⟨4, ![8, 8, 16, 528]⟩
abbrev S1x8x16x528 : Shape := ⟨4, ![1, 8, 16, 528]⟩
abbrev S8x8x16 : Shape := ⟨3, ![8, 8, 16]⟩
abbrev S8x8x16x1 : Shape := ⟨4, ![8, 8, 16, 1]⟩
abbrev S8x8x128x16 : Shape := ⟨4, ![8, 8, 128, 16]⟩

abbrev nBuf : Space → Nat
  | .hbm => 121
  | .vmem => 0
  | .smem => 0
  | _ => 0

abbrev bufTy : (tb : Table) → Fin (tcTables nBuf tb) → BufTy
  | .hbm, ⟨0, _⟩ => ⟨S8x16x22528, .f32⟩
  | .hbm, ⟨1, _⟩ => ⟨S2x8x512x8x128, .f32⟩
  | .hbm, ⟨2, _⟩ => ⟨S2x8x512x8x128, .f32⟩
  | .hbm, ⟨3, _⟩ => ⟨S8x257, .f32⟩
  | .hbm, ⟨4, _⟩ => ⟨S128, .f32⟩
  | .hbm, ⟨5, _⟩ => ⟨S128, .f32⟩
  | .hbm, ⟨6, _⟩ => ⟨S8x16x4096, .f32⟩
  | .hbm, ⟨7, _⟩ => ⟨S8x16x1024, .f32⟩
  | .hbm, ⟨8, _⟩ => ⟨S8x16x1024, .f32⟩
  | .hbm, ⟨9, _⟩ => ⟨S8x16x1024, .f32⟩
  | .hbm, ⟨10, _⟩ => ⟨S8x16x1024, .f32⟩
  | .hbm, ⟨11, _⟩ => ⟨S8x16x8x128, .f32⟩
  | .hbm, ⟨12, _⟩ => ⟨S8x16x8x128, .f32⟩
  | .hbm, ⟨13, _⟩ => ⟨S_, .f32⟩
  | .hbm, ⟨14, _⟩ => ⟨S8x16x8, .f32⟩
  | .hbm, ⟨15, _⟩ => ⟨S8x16x8x1, .f32⟩
  | .hbm, ⟨16, _⟩ => ⟨S_, .f32⟩
  | .hbm, ⟨17, _⟩ => ⟨S8x16x8x1, .f32⟩
  | .hbm, ⟨18, _⟩ => ⟨S8x16x8x1, .f32⟩
  | .hbm, ⟨19, _⟩ => ⟨S_, .f32⟩
  | .hbm, ⟨20, _⟩ => ⟨S8x16x8x1, .f32⟩
  | .hbm, ⟨21, _⟩ => ⟨S8x16x8x1, .f32⟩
  | .hbm, ⟨22, _⟩ => ⟨S8x16x8x1, .f32⟩
  | .hbm, ⟨23, _⟩ => ⟨S8x16x8x128, .f32⟩
  | .hbm, ⟨24, _⟩ => ⟨S8x16x8x128, .f32⟩
  | .hbm, ⟨25, _⟩ => ⟨S1x1x1x128, .f32⟩
  | .hbm, ⟨26, _⟩ => ⟨S8x16x8x128, .f32⟩
  | .hbm, ⟨27, _⟩ => ⟨S8x16x8x128, .f32⟩
  | .hbm, ⟨28, _⟩ => ⟨S8x16x8x128, .f32⟩
  | .hbm, ⟨29, _⟩ => ⟨S8x16x8x128, .f32⟩
  | .hbm, ⟨30, _⟩ => ⟨S_, .f32⟩
  | .hbm, ⟨31, _⟩ => ⟨S8x16x8, .f32⟩
  | .hbm, ⟨32, _⟩ => ⟨S8x16x8x1, .f32⟩
  | .hbm, ⟨33, _⟩ => ⟨S_, .f32⟩
  | .hbm, ⟨34, _⟩ => ⟨S8x16x8x1, .f32⟩
  | .hbm, ⟨35, _⟩ => ⟨S8x16x8x1, .f32⟩
  | .hbm, ⟨36, _⟩ => ⟨S_, .f32⟩
  | .hbm, ⟨37, _⟩ => ⟨S8x16x8x1, .f32⟩
  | .hbm, ⟨38, _⟩ => ⟨S8x16x8x1, .f32⟩
  | .hbm, ⟨39, _⟩ => ⟨S8x16x8x1, .f32⟩
  | .hbm, ⟨40, _⟩ => ⟨S8x16x8x128, .f32⟩
  | .hbm, ⟨41, _⟩ => ⟨S8x16x8x128, .f32⟩
  | .hbm, ⟨42, _⟩ => ⟨S1x1x1x128, .f32⟩
  | .hbm, ⟨43, _⟩ => ⟨S8x16x8x128, .f32⟩
  | .hbm, ⟨44, _⟩ => ⟨S8x16x8x128, .f32⟩
  | .hbm, ⟨45, _⟩ => ⟨S8x16x8x128, .f32⟩
  | .hbm, ⟨46, _⟩ => ⟨S1x8x512x8x128, .f32⟩
  | .hbm, ⟨47, _⟩ => ⟨S8x512x8x128, .f32⟩
  | .hbm, ⟨48, _⟩ => ⟨S8x528x8x128, .f32⟩
  | .hbm, ⟨49, _⟩ => ⟨S1x8x512x8x128, .f32⟩
  | .hbm, ⟨50, _⟩ => ⟨S8x512x8x128, .f32⟩
  | .hbm, ⟨51, _⟩ => ⟨S8x528x8x128, .f32⟩
  | .hbm, ⟨52, _⟩ => ⟨S528, .i32⟩
  | .hbm, ⟨53, _⟩ => ⟨S1x528, .i32⟩
  | .hbm, ⟨54, _⟩ => ⟨S16, .i32⟩
  | .hbm, ⟨55, _⟩ => ⟨S16x1, .i32⟩
  | .hbm, ⟨56, _⟩ => ⟨S_, .i32⟩
  | .hbm, ⟨57, _⟩ => ⟨S16x1, .i32⟩
  | .hbm, ⟨58, _⟩ => ⟨S16x1, .i32⟩
  | .hbm, ⟨59, _⟩ => ⟨S16x528, .i32⟩
  | .hbm, ⟨60, _⟩ => ⟨S16x528, .i32⟩
  | .hbm, ⟨61, _⟩ => ⟨S16x528, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S16x528, .i32⟩
  | .hbm, ⟨66, _⟩ => ⟨S16x528, .i32⟩
  | .hbm, ⟨67, _⟩ => ⟨S_, .i32⟩
  | .hbm, ⟨68, _⟩ => ⟨S16x528, .i32⟩
  | .hbm, ⟨69, _⟩ => ⟨S16x528, .i32⟩
  | .hbm, ⟨70, _⟩ => ⟨S_, .i32⟩
  | .hbm, ⟨71, _⟩ => ⟨S16x528, .i32⟩
  | .hbm, ⟨72, _⟩ => ⟨S16x528, .i32⟩
  | .hbm, ⟨73, _⟩ => ⟨S_, .i32⟩
  | .hbm, ⟨74, _⟩ => ⟨S16x528, .i32⟩
  | .hbm, ⟨75, _⟩ => ⟨S16x528, .i1⟩
  | .hbm, ⟨76, _⟩ => ⟨S_, .i32⟩
  | .hbm, ⟨77, _⟩ => ⟨S16x528, .i32⟩
  | .hbm, ⟨78, _⟩ => ⟨S16x528, .i32⟩
  | .hbm, ⟨79, _⟩ => ⟨S16x528, .i32⟩
  | .hbm, ⟨80, _⟩ => ⟨S16x528x1, .i32⟩
  | .hbm, ⟨81, _⟩ => ⟨S8x16x528, .f32⟩
  | .hbm, ⟨82, _⟩ => ⟨S8x8x16x528, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8x8x16x528, .f32⟩
  | .hbm, ⟨88, _⟩ => ⟨S8x8x16x528, .f32⟩
  | .hbm, ⟨89, _⟩ => ⟨S1x8x16x528, .f32⟩
  | .hbm, ⟨90, _⟩ => ⟨S8x8x16x528, .f32⟩
  | .hbm, ⟨91, _⟩ => ⟨S8x8x16x528, .f32⟩
  | .hbm, ⟨92, _⟩ => ⟨S_, .f32⟩
  | .hbm, ⟨93, _⟩ => ⟨S8x8x16, .f32⟩
  | .hbm, ⟨94, _⟩ => ⟨S_, .f32⟩
  | .hbm, ⟨95, _⟩ => ⟨S8x8x16, .f32⟩
  | .hbm, ⟨96, _⟩ => ⟨S8x8x16, .f32⟩
  | .hbm, ⟨97, _⟩ => ⟨S8x8x16x1, .f32⟩
  | .hbm, ⟨98, _⟩ => ⟨S8x8x16x528, .f32⟩
  | .hbm, ⟨99, _⟩ => ⟨S8x8x16x528, .f32⟩
  | .hbm, ⟨100, _⟩ => ⟨S8x8x16x528, .f32⟩
  | .hbm, ⟨101, _⟩ => ⟨S_, .f32⟩
  | .hbm, ⟨102, _⟩ => ⟨S8x8x16, .f32⟩
  | .hbm, ⟨103, _⟩ => ⟨S8x8x16x1, .f32⟩
  | .hbm, ⟨104, _⟩ => ⟨S8x8x16x528, .f32⟩
  | .hbm, ⟨105, _⟩ => ⟨S8x8x16x528, .f32⟩
  | .hbm, ⟨106, _⟩ => ⟨S8x8x128x16, .f32⟩
  | .hbm, ⟨107, _⟩ => ⟨S8x16x8x128, .f32⟩
  | .hbm, ⟨108, _⟩ => ⟨S8x16x1024, .f32⟩
  | .hbm, ⟨109, _⟩ => ⟨S8x16x1024, .f32⟩
  | .hbm, ⟨110, _⟩ => ⟨S8x16x1024, .f32⟩
  | .hbm, ⟨111, _⟩ => ⟨S_, .f32⟩
  | .hbm, ⟨112, _⟩ => ⟨S8x16x1024, .f32⟩
  | .hbm, ⟨113, _⟩ => ⟨S8x16x1024, .f32⟩
  | .hbm, ⟨114, _⟩ => ⟨S_, .f32⟩
  | .hbm, ⟨115, _⟩ => ⟨S8x16x1024, .f32⟩
  | .hbm, ⟨116, _⟩ => ⟨S8x16x1024, .f32⟩
  | .hbm, ⟨117, _⟩ => ⟨S8x16x1024, .f32⟩
  | .hbm, ⟨118, _⟩ => ⟨S8x16x1024, .f32⟩
  | .hbm, ⟨119, _⟩ => ⟨S8x16x1024, .bf16⟩
  | .hbm, ⟨120, _⟩ => ⟨S8x16x1024, .f32⟩
  | _, _ => ⟨S8x16x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_5 : Ref sig .tc := ⟨.hbm, 62, rfl⟩
abbrev main_c_6 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v49 : Ref sig .tc := ⟨.hbm, 69, rfl⟩
abbrev main_c_7 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_call1_v0 : Ref sig .tc := ⟨.hbm, 109, rfl⟩
abbrev main_call1_v1 : Ref sig .tc := ⟨.hbm, 110, rfl⟩
abbrev main_call1_cst : Ref sig .tc := ⟨.hbm, 111, rfl⟩
abbrev main_call1_v2 : Ref sig .tc := ⟨.hbm, 112, rfl⟩
abbrev main_call1_v3 : Ref sig .tc := ⟨.hbm, 113, rfl⟩
abbrev main_call1_cst_0 : Ref sig .tc := ⟨.hbm, 114, rfl⟩
abbrev main_call1_v4 : Ref sig .tc := ⟨.hbm, 115, rfl⟩
abbrev main_call1_v5 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]
-- ==== Proof.Reals.lean ====
/-
  Stick-breaking over the reals: the softplus, its masked sums from the right, and the arithmetic of the extended reals
  that both programs' scalar expressions reduce to.
-/
module

public import Idealize.ShloMosaic.PureOps.Ideal
public import Idealize.ShloMosaic.PureOps.Ideal.Laws
public import Idealize.ShloMosaic.Lib.IdealHost

@[expose] public section

noncomputable section

namespace Cert.Sb

open Idealize.ShloMosaic
open scoped BigOperators

/-- The softplus of a real, as both programs write it. -/
def sp (z : ℝ) : ℝ := max z 0 + Real.log (1 + Real.exp (-|z|))

/-- A finite sum of reals is the sum of their coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, coerced. -/
theorem coe_max (x y : ℝ) : max (x : EReal) (y : EReal) = ((max x y : ℝ) : EReal) :=
  (Monotone.map_max (f := fun r : ℝ => (r : EReal)) EReal.coe_strictMono.monotone).symm

/-- The magnitude of a real, coerced. -/
theorem abs_coe (x : ℝ) : max (x : EReal) (-(x : EReal)) = ((|x| : ℝ) : EReal) := by
  rw [← EReal.coe_neg, coe_max, abs_eq_max_neg]

/-- The logarithm both programs take is of a number above one. -/
theorem log_one_add_exp (z : ℝ) :
    Ideal.log (1 + Ideal.exp (((-|z| : ℝ)) : EReal)) = ((Real.log (1 + Real.exp (-|z|)) : ℝ) : EReal) := by
  have h : (1 : EReal) + ((Real.exp (-|z|) : ℝ) : EReal) = ((1 + Real.exp (-|z|) : ℝ) : EReal) := by
    rw [EReal.coe_add, EReal.coe_one]
  rw [Ideal.exp_coe, h, Ideal.log_coe, if_neg (not_le.2 (add_pos one_pos (Real.exp_pos _)))]

/-- The kernel's softplus at a real. -/
theorem softplus_coe (z : ℝ) :
    max (z : EReal) 0 + Ideal.log (1 + Ideal.exp (0 - max (z : EReal) (-(z : EReal)))) = ((sp z : ℝ) : EReal) := by
  rw [abs_coe, zero_sub, ← EReal.coe_neg, log_one_add_exp, ← EReal.coe_zero, coe_max, ← EReal.coe_add]
  rfl

/-- The logarithm of the sigmoid is the argument less its softplus. -/
theorem neg_sp_neg (z : ℝ) : -sp (-z) = z - sp z := by
  unfold sp
  rw [abs_neg]
  rcases le_total z 0 with h | h
  · rw [max_eq_right h, max_eq_left (by linarith : (0 : ℝ) ≤ -z)]; ring
  · rw [max_eq_left h, max_eq_right (by linarith : -z ≤ 0)]; ring

/-- The softplus of row `r` at key `j`, zero from the diagonal on. -/
def fl (z : ℕ → ℝ) (r j : ℕ) : ℝ := if j < r then sp (z j) else 0

/-- The masked softplus summed over the keys from `a` on. -/
def tl (z : ℕ → ℝ) (r a : ℕ) : ℝ := ∑ j ∈ Finset.Ico a 2048, fl z r j

/-- The weight of row `r` on key `j`. -/
def wt (z : ℕ → ℝ) (r j : ℕ) : EReal := if j < r then ((Real.exp (z j - tl z r j) : ℝ) : EReal) else 0

theorem tl_split (z : ℕ → ℝ) (r a n : ℕ) (h : a + n ≤ 2048) :
    tl z r a = (∑ j : Fin n, fl z r (a + j.val)) + tl z r (a + n) := by
  unfold tl
  rw [← Finset.sum_Ico_consecutive (fun j => fl z r j) (Nat.le_add_right a n) h, Finset.sum_Ico_eq_sum_range,
    Nat.add_sub_cancel_left, Finset.sum_range]

theorem tl_eq_zero (z : ℕ → ℝ) (r a : ℕ) (h : r ≤ a) : tl z r a = 0 :=
  Finset.sum_eq_zero fun j hj => if_neg (by have := (Finset.mem_Ico.1 hj).1; omega)

end Cert.Sb

end
-- ==== Proof.Step.lean ====
/-
  One group of 256 keys of the stick-breaking kernel, at any number `n` of query rows: the kernel unrolls eight such
  groups per head over 256, 512, …, 2048 rows. `coreZ` … `coreAcc` are the operations of one group in the printed order,
  `stepCarry` and `stepAcc` put the rows back under the ones the group leaves alone. What they are worth on finite
  queries and keys is `coreCarry_apply` and `coreW_apply`.
-/
module

public import proofs.«01_k».proof.KernelIdeal
public import proofs.«01_k».proof.Proof.Gen.KernelIdeal
public import proofs.«01_k».proof.Proof.Reals
public import Idealize.ShloMosaic.Lib.MatmulPlain
public import Idealize.ShloMosaic.Lib.IdealHost
public import Idealize.ShloMosaic.Lib.Pipeline.Value
public import Idealize.ShloMosaic.Lib.Pointwise
public import Idealize.ShloMosaic.PureOps.IdealRules

@[expose] public section

set_option maxRecDepth 16384

noncomputable section

namespace Cert.Sb

open Idealize.ShloMosaic Idealize.ShloMosaic.ValueIdx
open scoped BigOperators

section Defs
variable {F : FTy → Type} [FloatOps F] [Named F]

/-- The scaled scores of `n` rows against one group of keys. -/
def coreZ (n : ℕ) (q : FVec F ⟨2, ![n, 128]⟩ .bf16) (k : FVec F ⟨2, ![256, 128]⟩ .f32) (hb : FTy.bf16.bits < FTy.f32.bits) :
    FVec F ⟨2, ![n, 256]⟩ .f32 :=
  mulf (matmul (DotDims.transposedRhs n 128 256) none q (truncf .bf16 k hb) (constant ⟨2, ![n, 256]⟩ .f32 0x00000000#32))
    (broadcast ⟨2, ![n, 256]⟩ (Named.named Cert.KernelIdeal.κ "inv_sqrt_d" (φ := .f32) 0x3DB504F3#32))

/-- The causal mask of the group: key before row, both counted from the group's first key. -/
def coreMask (n : ℕ) (h1 : (⟨2, ![n, 256]⟩ : Shape).Iotas .tc 32 [1]) (h0 : (⟨2, ![n, 256]⟩ : Shape).Iotas .tc 32 [0]) :
    IVec ⟨2, ![n, 256]⟩ 1 :=
  cmpi .slt (iota .tc ⟨2, ![n, 256]⟩ 32 [1] h1) (iota .tc ⟨2, ![n, 256]⟩ 32 [0] h0)

/-- The masked softplus of the scores. -/
def coreFail (n : ℕ) (z : FVec F ⟨2, ![n, 256]⟩ .f32) (mask : IVec ⟨2, ![n, 256]⟩ 1) : FVec F ⟨2, ![n, 256]⟩ .f32 :=
  select mask
    (addf (maximumf z (broadcast ⟨2, ![n, 256]⟩ (Scalar.ofBits .f32 0x00000000#32)))
      (log (addf (broadcast ⟨2, ![n, 256]⟩ (Scalar.ofBits .f32 0x3F800000#32))
        (exp (subf (broadcast ⟨2, ![n, 256]⟩ (Scalar.ofBits .f32 0x00000000#32)) (absf z))))))
    (broadcast ⟨2, ![n, 256]⟩ (Scalar.ofBits .f32 0x00000000#32))

/-- Minus the sums within one half of the group: the high and the low part of the softplus against the constant matrix. -/
def coreSums (n o : ℕ) (fail : FVec F ⟨2, ![n, 256]⟩ .f32) (u : FVec F ⟨2, ![256, 256]⟩ .bf16)
    (hb : FTy.bf16.bits < FTy.f32.bits) (hs : (⟨2, ![n, 256]⟩ : Shape).Slices ![0, o] ⟨2, ![n, 128]⟩)
    (hc : Shape.Concatenates [⟨2, ![n, 128]⟩, ⟨2, ![n, 128]⟩] ⟨2, ![n, 256]⟩ 1) : FVec F ⟨2, ![n, 256]⟩ .f32 :=
  matmul (DotDims.plain n 256 256) none
    (concatenate ⟨2, ![n, 256]⟩ 1
      [⟨⟨2, ![n, 128]⟩, extractStridedSlice ⟨2, ![n, 128]⟩ ![0, o] (truncf .bf16 fail hb) hs⟩,
       ⟨⟨2, ![n, 128]⟩, extractStridedSlice ⟨2, ![n, 128]⟩ ![0, o]
          (truncf .bf16 (subf fail (extf .f32 (truncf .bf16 fail hb) hb)) hb) hs⟩] hc)
    u (constant ⟨2, ![n, 256]⟩ .f32 0x00000000#32)

/-- The carry after the group's upper half. -/
def coreMid (n : ℕ) (c : FVec F ⟨2, ![n, 128]⟩ .f32) (s1 : FVec F ⟨2, ![n, 256]⟩ .f32)
    (h1 : (⟨2, ![n, 256]⟩ : Shape).Slices ![0, 128] ⟨2, ![n, 128]⟩) : FVec F ⟨2, ![n, 128]⟩ .f32 :=
  addf c (extractStridedSlice ⟨2, ![n, 128]⟩ ![0, 128] s1 h1)

/-- The weights of the group, from the sums of its two halves and the carry it starts from. -/
def coreW (n : ℕ) (z : FVec F ⟨2, ![n, 256]⟩ .f32) (mask : IVec ⟨2, ![n, 256]⟩ 1) (c : FVec F ⟨2, ![n, 128]⟩ .f32)
    (s0 s1 : FVec F ⟨2, ![n, 256]⟩ .f32) (h0 : (⟨2, ![n, 256]⟩ : Shape).Slices ![0, 0] ⟨2, ![n, 128]⟩)
    (h1 : (⟨2, ![n, 256]⟩ : Shape).Slices ![0, 128] ⟨2, ![n, 128]⟩)
    (hc : Shape.Concatenates [⟨2, ![n, 128]⟩, ⟨2, ![n, 128]⟩] ⟨2, ![n, 256]⟩ 1) : FVec F ⟨2, ![n, 256]⟩ .f32 :=
  select mask
    (exp (concatenate ⟨2, ![n, 256]⟩ 1
      [⟨⟨2, ![n, 128]⟩, addf (addf (extractStridedSlice ⟨2, ![n, 128]⟩ ![0, 0] z h0) (extractStridedSlice ⟨2, ![n, 128]⟩ ![0, 0] s0 h0))
          (coreMid n c s1 h1)⟩,
       ⟨⟨2, ![n, 128]⟩, addf (addf (extractStridedSlice ⟨2, ![n, 128]⟩ ![0, 128] z h1) (extractStridedSlice ⟨2, ![n, 128]⟩ ![0, 0] s1 h0))
          c⟩] hc))
    (broadcast ⟨2, ![n, 256]⟩ (Scalar.ofBits .f32 0x00000000#32))

/-- The facts about shapes that one group's operations take. -/
structure GroupFacts (n : ℕ) : Prop where
  hb : FTy.bf16.bits < FTy.f32.bits
  hi1 : (⟨2, ![n, 256]⟩ : Shape).Iotas .tc 32 [1]
  hi0 : (⟨2, ![n, 256]⟩ : Shape).Iotas .tc 32 [0]
  h0 : (⟨2, ![n, 256]⟩ : Shape).Slices ![0, 0] ⟨2, ![n, 128]⟩
  h1 : (⟨2, ![n, 256]⟩ : Shape).Slices ![0, 128] ⟨2, ![n, 128]⟩
  hc : Shape.Concatenates [⟨2, ![n, 128]⟩, ⟨2, ![n, 128]⟩] ⟨2, ![n, 256]⟩ 1

/-- The masked softplus of the group, from its queries and keys. -/
abbrev groupFail (n : ℕ) (G : GroupFacts n) (q : FVec F ⟨2, ![n, 128]⟩ .bf16) (k : FVec F ⟨2, ![256, 128]⟩ .f32) :
    FVec F ⟨2, ![n, 256]⟩ .f32 :=
  coreFail n (coreZ n q k G.hb) (coreMask n G.hi1 G.hi0)

/-- The carry after the group. -/
def groupCarry (n : ℕ) (G : GroupFacts n) (q : FVec F ⟨2, ![n, 128]⟩ .bf16) (u : FVec F ⟨2, ![256, 256]⟩ .bf16)
    (c : FVec F ⟨2, ![n, 128]⟩ .f32) (k : FVec F ⟨2, ![256, 128]⟩ .f32) : FVec F ⟨2, ![n, 128]⟩ .f32 :=
  addf (coreMid n c (coreSums n 128 (groupFail n G q k) u G.hb G.h1 G.hc) G.h1)
    (extractStridedSlice ⟨2, ![n, 128]⟩ ![0, 128] (coreSums n 0 (groupFail n G q k) u G.hb G.h0 G.hc) G.h1)

/-- The accumulator after the group. -/
def groupAcc (n : ℕ) (G : GroupFacts n) (q : FVec F ⟨2, ![n, 128]⟩ .bf16) (u : FVec F ⟨2, ![256, 256]⟩ .bf16)
    (c a : FVec F ⟨2, ![n, 128]⟩ .f32) (k v : FVec F ⟨2, ![256, 128]⟩ .f32) : FVec F ⟨2, ![n, 128]⟩ .f32 :=
  addf a (matmul (DotDims.plain n 256 128) none
    (truncf .bf16 (coreW n (coreZ n q k G.hb) (coreMask n G.hi1 G.hi0) c (coreSums n 0 (groupFail n G q k) u G.hb G.h0 G.hc)
      (coreSums n 128 (groupFail n G q k) u G.hb G.h1 G.hc) G.h0 G.h1 G.hc) G.hb)
    (truncf .bf16 v G.hb) (constant ⟨2, ![n, 128]⟩ .f32 0x00000000#32))

/-- The facts about shapes that one group's rows take, `n` of them from row `r` on. -/
structure RowFacts (n r : ℕ) : Prop where
  hn : r + n = 2048
  G : GroupFacts n
  hs : (⟨2, ![2048, 128]⟩ : Shape).Slices ![r, 0] ⟨2, ![n, 128]⟩
  ht : (⟨2, ![2048, 128]⟩ : Shape).Slices ![0, 0] ⟨2, ![r, 128]⟩
  hj : Shape.Concatenates [⟨2, ![r, 128]⟩, ⟨2, ![n, 128]⟩] ⟨2, ![2048, 128]⟩ 0

/-- The carry of all rows after a group of the rows from `r` on. -/
def stepCarry (n r : ℕ) (R : RowFacts n r) (q : FVec F ⟨2, ![2048, 128]⟩ .bf16) (u : FVec F ⟨2, ![256, 256]⟩ .bf16)
    (c : FVec F ⟨2, ![2048, 128]⟩ .f32) (k : FVec F ⟨2, ![256, 128]⟩ .f32) : FVec F ⟨2, ![2048, 128]⟩ .f32 :=
  concatenate ⟨2, ![2048, 128]⟩ 0
    [⟨⟨2, ![r, 128]⟩, extractStridedSlice ⟨2, ![r, 128]⟩ ![0, 0] c R.ht⟩,
     ⟨⟨2, ![n, 128]⟩, groupCarry n R.G (extractStridedSlice ⟨2, ![n, 128]⟩ ![r, 0] q R.hs) u
        (extractStridedSlice ⟨2, ![n, 128]⟩ ![r, 0] c R.hs) k⟩] R.hj

/-- The accumulator of all rows after a group of the rows from `r` on. -/
def stepAcc (n r : ℕ) (R : RowFacts n r) (q : FVec F ⟨2, ![2048, 128]⟩ .bf16) (u : FVec F ⟨2, ![256, 256]⟩ .bf16)
    (c a : FVec F ⟨2, ![2048, 128]⟩ .f32) (k v : FVec F ⟨2, ![256, 128]⟩ .f32) : FVec F ⟨2, ![2048, 128]⟩ .f32 :=
  concatenate ⟨2, ![2048, 128]⟩ 0
    [⟨⟨2, ![r, 128]⟩, extractStridedSlice ⟨2, ![r, 128]⟩ ![0, 0] a R.ht⟩,
     ⟨⟨2, ![n, 128]⟩, groupAcc n R.G (extractStridedSlice ⟨2, ![n, 128]⟩ ![r, 0] q R.hs) u
        (extractStridedSlice ⟨2, ![n, 128]⟩ ![r, 0] c R.hs) (extractStridedSlice ⟨2, ![n, 128]⟩ ![r, 0] a R.hs) k v⟩] R.hj

end Defs

end Cert.Sb

end
-- ==== Proof.Group.lean ====
/-
  What one group of keys is worth at the ideal numbers: with finite scores `z`, the carry of a row becomes minus the masked
  softplus summed from the group's first key on, and the accumulator gains the group's weighted values.
-/
module

public import proofs.«01_k».proof.Proof.Step
public import proofs.«01_k».proof.Proof.Reals
public import Idealize.ShloMosaic.Lib.MatmulPlain
public import Idealize.ShloMosaic.Lib.WordCmp

@[expose] public section

set_option maxRecDepth 16384

noncomputable section

namespace Cert.Sb

open Idealize.ShloMosaic hiding ix2
open Idealize.ShloMosaic.ValueIdx
open scoped BigOperators

section Value

variable {n r : ℕ} (z : ℕ → ℕ → ℝ)

/-- The named scale of the idealized kernel. -/
theorem scale_named : (Named.named Cert.KernelIdeal.κ "inv_sqrt_d" (φ := .f32) 0x3DB504F3#32 : Ideal .f32) = (((√(128 : ℝ))⁻¹ : ℝ) : EReal) := by
  exact IdealRules.named_const.ideal_named_scalar _ _ _ _ rfl

/-- The mask of a group holds where the key is before the row. -/
theorem coreMask_apply (hn : n ≤ 2048) (h1 : (⟨2, ![n, 256]⟩ : Shape).Iotas .tc 32 [1]) (h0 : (⟨2, ![n, 256]⟩ : Shape).Iotas .tc 32 [0])
    (i : Fin n) (j : Fin 256) : coreMask n h1 h0 (ix2 i j) = if j.val < i.val then 1#1 else 0#1 := by
  have hi := i.isLt
  have hj := j.isLt
  unfold coreMask
  rw [cmpi_apply, iota_single_apply, iota_single_apply]
  show IntOp.cmpi .slt (BitVec.ofNat 32 j.val) (BitVec.ofNat 32 i.val) = _
  have e : ∀ a, a < 2048 → (BitVec.ofNat 32 a).toNat = a := fun a ha => by
    rw [BitVec.toNat_ofNat]; exact Nat.mod_eq_of_lt (by omega)
  rw [WordCmp.cmpi_slt_of_lt (by rw [e _ (by omega)]; norm_num; omega) (by rw [e _ (by omega)]; norm_num; omega), e _ (by omega), e _ (by omega)]
  by_cases h : j.val < i.val <;> simp [h]

/-- The scaled score of finite queries and keys. -/
theorem coreZ_apply (q : FVec Ideal ⟨2, ![n, 128]⟩ .bf16) (k : FVec Ideal ⟨2, ![256, 128]⟩ .f32) (hb : FTy.bf16.bits < FTy.f32.bits)
    (qr : Fin n → Fin 128 → ℝ) (kr : Fin 256 → Fin 128 → ℝ) (hq : ∀ i l, q (ix2 i l) = ((qr i l : ℝ) : EReal))
    (hk : ∀ j l, k (ix2 j l) = ((kr j l : ℝ) : EReal)) (i : Fin n) (j : Fin 256) :
    coreZ n q k hb (ix2 i j) = (((∑ l : Fin 128, qr i l * kr j l) * (√(128 : ℝ))⁻¹ : ℝ) : EReal) := by
  show FloatOps.matmul (DotDims.transposedRhs n 128 256) none q (truncf .bf16 k hb) (constant ⟨2, ![n, 256]⟩ .f32 0x00000000#32) (ix2 i j)
    * Named.named Cert.KernelIdeal.κ "inv_sqrt_d" (φ := .f32) 0x3DB504F3#32 = _
  rw [scale_named, Ideal.matmul_transposedRhs_apply]
  have h0 : (constant ⟨2, ![n, 256]⟩ .f32 0x00000000#32 : FVec Ideal ⟨2, ![n, 256]⟩ .f32) (ix2 i j) = 0 := Ideal.ofBits_zero_f32
  rw [h0, zero_add, EReal.coe_mul, coe_sum]
  congr 1
  refine Finset.sum_congr rfl fun l _ => ?_
  show q (ix2 i l) * k (ix2 j l) = _
  rw [hq, hk, EReal.coe_mul]

/-- The masked softplus of a group. -/
theorem coreFail_apply (Z : FVec Ideal ⟨2, ![n, 256]⟩ .f32) (M : IVec ⟨2, ![n, 256]⟩ 1)
    (hZ : ∀ (i : Fin n) (j : Fin 256), Z (ix2 i j) = ((z (r + i.val) (r + j.val) : ℝ) : EReal))
    (hM : ∀ (i : Fin n) (j : Fin 256), M (ix2 i j) = if j.val < i.val then 1#1 else 0#1) (i : Fin n) (j : Fin 256) :
    coreFail n Z M (ix2 i j) = ((fl (z (r + i.val)) (r + i.val) (r + j.val) : ℝ) : EReal) := by
  unfold coreFail
  rw [ValueIdx.select_apply, hM]
  unfold fl
  by_cases h : j.val < i.val
  · rw [if_pos h, if_pos (by omega), ← softplus_coe, ← hZ]
    show max (Z (ix2 i j)) (Ideal.ofBits .f32 0x00000000#32)
      + Ideal.log (Ideal.ofBits .f32 0x3F800000#32 + Ideal.exp (Ideal.ofBits .f32 0x00000000#32 - max (Z (ix2 i j)) (-(Z (ix2 i j))))) = _
    rw [Ideal.ofBits_zero_f32, Ideal.ofBits_one_f32]
  · rw [if_neg h, if_neg (by omega), EReal.coe_zero]
    exact Ideal.ofBits_zero_f32

/-- The coefficient of the constant matrix: minus one where the key counts for the column, else zero. -/
def uc (j c : ℕ) : EReal := if 128 ≤ c ∨ c ≤ j % 128 then -1 else 0

/-- Minus the sums within one half of the group, as differences of the sums from the right. -/
theorem coreSums_apply (o : ℕ) (ho : o = 0 ∨ o = 128) (hr : r + 256 ≤ 2048) (f : FVec Ideal ⟨2, ![n, 256]⟩ .f32) (u : FVec Ideal ⟨2, ![256, 256]⟩ .bf16)
    (hb : FTy.bf16.bits < FTy.f32.bits) (hs : (⟨2, ![n, 256]⟩ : Shape).Slices ![0, o] ⟨2, ![n, 128]⟩)
    (hc : Shape.Concatenates [⟨2, ![n, 128]⟩, ⟨2, ![n, 128]⟩] ⟨2, ![n, 256]⟩ 1)
    (hf : ∀ (i : Fin n) (j : Fin 256), f (ix2 i j) = ((fl (z (r + i.val)) (r + i.val) (r + j.val) : ℝ) : EReal))
    (hu : ∀ j c : Fin 256, u (ix2 j c) = uc j.val c.val) (i : Fin n) (c : Fin 256) :
    coreSums n o f u hb hs hc (ix2 i c) = ((tl (z (r + i.val)) (r + i.val) (r + o + 128)
      - tl (z (r + i.val)) (r + i.val) (r + o + if c.val < 128 then c.val else 0) : ℝ) : EReal) := by
  set R := r + i.val with hR
  have ho2 : o + 128 ≤ 256 := by omega
  unfold coreSums
  rw [show (matmul (DotDims.plain n 256 256) none _ u (constant ⟨2, ![n, 256]⟩ .f32 0x00000000#32) : FVec Ideal _ _) (ix2 i c) = _ from
    Ideal.matmul_plain_apply _ _ _ _ _ _]
  have h0 : (constant ⟨2, ![n, 256]⟩ .f32 0x00000000#32 : FVec Ideal ⟨2, ![n, 256]⟩ .f32) (ix2 i c) = 0 := Ideal.ofBits_zero_f32
  rw [h0, zero_add]
  refine (Fin.sum_univ_add (a := 128) (b := 128) _).trans ?_
  have hL : ∀ j : Fin 128, concatenate ⟨2, ![n, 256]⟩ 1
      [⟨⟨2, ![n, 128]⟩, extractStridedSlice ⟨2, ![n, 128]⟩ ![0, o] (truncf .bf16 f hb) hs⟩,
       ⟨⟨2, ![n, 128]⟩, extractStridedSlice ⟨2, ![n, 128]⟩ ![0, o] (truncf .bf16 (subf f (extf .f32 (truncf .bf16 f hb) hb)) hb) hs⟩] hc
      (ix2 i (Fin.castAdd 128 j)) = ((fl (z R) R (r + o + j.val) : ℝ) : EReal) := by
    intro j
    rw [concatenate_pair_apply_left (s₁ := ⟨2, ![n, 128]⟩) (s₂ := ⟨2, ![n, 128]⟩) 1 _ _ hc _ rfl (ix2 i j) (by intro b; fin_cases b <;> rfl),
      extractStridedSlice_apply _ _ hs _ (ix2 i ⟨o + j.val, by omega⟩) (by intro b; fin_cases b <;> simp [ix2])]
    show f _ = _
    rw [hf, ← hR]
    congr 2
    show r + (o + j.val) = _
    omega
  have hRt : ∀ j : Fin 128, concatenate ⟨2, ![n, 256]⟩ 1
      [⟨⟨2, ![n, 128]⟩, extractStridedSlice ⟨2, ![n, 128]⟩ ![0, o] (truncf .bf16 f hb) hs⟩,
       ⟨⟨2, ![n, 128]⟩, extractStridedSlice ⟨2, ![n, 128]⟩ ![0, o] (truncf .bf16 (subf f (extf .f32 (truncf .bf16 f hb) hb)) hb) hs⟩] hc
      (ix2 i (Fin.natAdd 128 j)) = 0 := by
    intro j
    rw [concatenate_pair_apply_right (s₁ := ⟨2, ![n, 128]⟩) (s₂ := ⟨2, ![n, 128]⟩) 1 _ _ hc (ix2 i (Fin.natAdd 128 j)) rfl rfl (ix2 i j)
        (by intro b hb'; match b with | ⟨0, _⟩ => rfl | ⟨1, _⟩ => exact absurd rfl hb') (Nat.add_comm j.val 128),
      extractStridedSlice_apply _ _ hs _ (ix2 i ⟨o + j.val, by omega⟩) (by intro b; fin_cases b <;> simp [ix2])]
    show f _ - f _ = 0
    rw [hf, ← EReal.coe_sub, sub_self, EReal.coe_zero]
  have e2 : ∀ j : Fin 128, (fl (z R) R (r + o + j.val) : EReal) * uc j.val c.val
      = ((-(if 128 ≤ c.val ∨ c.val ≤ j.val then fl (z R) R (r + o + j.val) else 0) : ℝ) : EReal) := by
    intro j
    unfold uc
    rw [Nat.mod_eq_of_lt j.isLt]
    split_ifs
    · rw [EReal.coe_neg, mul_neg, mul_one]
    · rw [mul_zero, neg_zero, EReal.coe_zero]
  rw [Finset.sum_congr rfl (fun j _ => by rw [hL j, hu, show (Fin.castAdd 128 j).val = j.val from rfl, e2 j]),
    Finset.sum_eq_zero (s := Finset.univ) (f := fun j : Fin 128 => _ * _) (fun j _ => by rw [hRt j, zero_mul]), add_zero, ← coe_sum]
  congr 1
  rw [Finset.sum_neg_distrib]
  by_cases hcc : c.val < 128
  · rw [if_pos hcc, tl_split (z R) R (r + o + c.val) (128 - c.val) (by omega), show r + o + c.val + (128 - c.val) = r + o + 128 by omega]
    have : ∑ j : Fin 128, (if 128 ≤ c.val ∨ c.val ≤ j.val then fl (z R) R (r + o + j.val) else 0)
        = ∑ j : Fin (128 - c.val), fl (z R) R (r + o + c.val + j.val) := by
      rw [Fin.sum_univ_eq_sum_range (fun j => if 128 ≤ c.val ∨ c.val ≤ j then fl (z R) R (r + o + j) else 0),
        Fin.sum_univ_eq_sum_range (fun j => fl (z R) R (r + o + c.val + j)),
        ← Finset.sum_range_add_sum_Ico _ (show c.val ≤ 128 by omega), Finset.sum_Ico_eq_sum_range]
      rw [Finset.sum_eq_zero (fun j hj => if_neg (by have := Finset.mem_range.1 hj; omega)), zero_add]
      exact Finset.sum_congr rfl fun j _ => by rw [if_pos (by omega)]; congr 1; omega
    rw [this]; ring
  · rw [if_neg hcc, add_zero, tl_split (z R) R (r + o) 128 (by omega)]
    rw [Finset.sum_congr rfl (fun j _ => if_pos (Or.inl (by omega)))]; ring

/-- The carry after the upper half of the group. -/
theorem coreMid_apply (hr : r + 256 ≤ 2048) (C : FVec Ideal ⟨2, ![n, 128]⟩ .f32) (s1 : FVec Ideal ⟨2, ![n, 256]⟩ .f32)
    (h1 : (⟨2, ![n, 256]⟩ : Shape).Slices ![0, 128] ⟨2, ![n, 128]⟩)
    (hC : ∀ (i : Fin n) (l : Fin 128), C (ix2 i l) = ((-tl (z (r + i.val)) (r + i.val) (r + 256) : ℝ) : EReal))
    (hs : ∀ (i : Fin n) (c : Fin 256), s1 (ix2 i c) = ((tl (z (r + i.val)) (r + i.val) (r + 128 + 128)
      - tl (z (r + i.val)) (r + i.val) (r + 128 + if c.val < 128 then c.val else 0) : ℝ) : EReal)) (i : Fin n) (l : Fin 128) :
    coreMid n C s1 h1 (ix2 i l) = ((-tl (z (r + i.val)) (r + i.val) (r + 128) : ℝ) : EReal) := by
  show C (ix2 i l) + extractStridedSlice ⟨2, ![n, 128]⟩ ![0, 128] s1 h1 (ix2 i l) = _
  rw [extractStridedSlice_apply _ _ h1 _ (ix2 i ⟨128 + l.val, by omega⟩) (by intro b; fin_cases b <;> simp [ix2]), hC, hs,
    if_neg (by simp), ← EReal.coe_add]
  congr 1
  rw [show r + 128 + 128 = r + 256 by omega, Nat.add_zero]
  ring

/-- The weights of the group. -/
theorem coreW_apply (hr : r + 256 ≤ 2048) (Z : FVec Ideal ⟨2, ![n, 256]⟩ .f32) (M : IVec ⟨2, ![n, 256]⟩ 1) (C : FVec Ideal ⟨2, ![n, 128]⟩ .f32)
    (s0 s1 : FVec Ideal ⟨2, ![n, 256]⟩ .f32) (h0 : (⟨2, ![n, 256]⟩ : Shape).Slices ![0, 0] ⟨2, ![n, 128]⟩)
    (h1 : (⟨2, ![n, 256]⟩ : Shape).Slices ![0, 128] ⟨2, ![n, 128]⟩)
    (hc : Shape.Concatenates [⟨2, ![n, 128]⟩, ⟨2, ![n, 128]⟩] ⟨2, ![n, 256]⟩ 1)
    (hZ : ∀ (i : Fin n) (j : Fin 256), Z (ix2 i j) = ((z (r + i.val) (r + j.val) : ℝ) : EReal))
    (hM : ∀ (i : Fin n) (j : Fin 256), M (ix2 i j) = if j.val < i.val then 1#1 else 0#1)
    (hC : ∀ (i : Fin n) (l : Fin 128), C (ix2 i l) = ((-tl (z (r + i.val)) (r + i.val) (r + 256) : ℝ) : EReal))
    (hs0 : ∀ (i : Fin n) (c : Fin 256), s0 (ix2 i c) = ((tl (z (r + i.val)) (r + i.val) (r + 0 + 128)
      - tl (z (r + i.val)) (r + i.val) (r + 0 + if c.val < 128 then c.val else 0) : ℝ) : EReal))
    (hs1 : ∀ (i : Fin n) (c : Fin 256), s1 (ix2 i c) = ((tl (z (r + i.val)) (r + i.val) (r + 128 + 128)
      - tl (z (r + i.val)) (r + i.val) (r + 128 + if c.val < 128 then c.val else 0) : ℝ) : EReal))
    (i : Fin n) (j : Fin 256) : coreW n Z M C s0 s1 h0 h1 hc (ix2 i j) = wt (z (r + i.val)) (r + i.val) (r + j.val) := by
  set R := r + i.val with hR
  unfold coreW
  rw [ValueIdx.select_apply, hM]
  unfold wt
  by_cases h : j.val < i.val
  · rw [if_pos h, if_pos (by omega), ← Ideal.exp_coe]
    refine congrArg Ideal.exp ?_
    by_cases hj : j.val < 128
    · rw [concatenate_pair_apply_left (s₁ := ⟨2, ![n, 128]⟩) (s₂ := ⟨2, ![n, 128]⟩) 1 _ _ hc _ rfl (ix2 i ⟨j.val, hj⟩) (by intro b; fin_cases b <;> rfl)]
      show extractStridedSlice ⟨2, ![n, 128]⟩ ![0, 0] Z h0 (ix2 i ⟨j.val, hj⟩) + extractStridedSlice ⟨2, ![n, 128]⟩ ![0, 0] s0 h0 (ix2 i ⟨j.val, hj⟩)
        + coreMid n C s1 h1 (ix2 i ⟨j.val, hj⟩) = _
      rw [coreMid_apply z hr C s1 h1 hC hs1, extractStridedSlice_apply _ _ h0 _ (ix2 i j) (by intro b; fin_cases b <;> simp [ix2]),
        extractStridedSlice_apply _ _ h0 _ (ix2 i j) (by intro b; fin_cases b <;> simp [ix2]), hZ, hs0, if_pos hj, ← hR, ← EReal.coe_add, ← EReal.coe_add]
      congr 1
      show z R (r + j.val) + (tl (z R) R (r + 0 + 128) - tl (z R) R (r + 0 + j.val)) + -tl (z R) R (r + 128) = _
      rw [Nat.add_zero]; ring_nf
    · rw [concatenate_pair_apply_right (s₁ := ⟨2, ![n, 128]⟩) (s₂ := ⟨2, ![n, 128]⟩) 1 _ _ hc (ix2 i j) rfl rfl (ix2 i ⟨j.val - 128, by omega⟩)
        (by intro b hb'; match b with | ⟨0, _⟩ => rfl | ⟨1, _⟩ => exact absurd rfl hb') (show j.val - 128 + 128 = j.val by omega)]
      show extractStridedSlice ⟨2, ![n, 128]⟩ ![0, 128] Z h1 (ix2 i ⟨j.val - 128, _⟩) + extractStridedSlice ⟨2, ![n, 128]⟩ ![0, 0] s1 h0 (ix2 i ⟨j.val - 128, _⟩)
        + C (ix2 i ⟨j.val - 128, _⟩) = _
      rw [hC, extractStridedSlice_apply _ _ h1 _ (ix2 i j)
          (by intro b; match b with | ⟨0, _⟩ => exact (Nat.zero_add _).symm | ⟨1, _⟩ => show j.val = 128 + (j.val - 128); omega),
        extractStridedSlice_apply _ _ h0 _ (ix2 i ⟨j.val - 128, by omega⟩) (by intro b; fin_cases b <;> simp [ix2]), hZ, hs1,
        if_pos (show j.val - 128 < 128 by omega), ← hR, ← EReal.coe_add, ← EReal.coe_add]
      congr 1
      show z R (r + j.val) + (tl (z R) R (r + 128 + 128) - tl (z R) R (r + 128 + (j.val - 128))) + -tl (z R) R (r + 256) = _
      rw [show r + 128 + 128 = r + 256 by omega, show r + 128 + (j.val - 128) = r + j.val by omega]
      ring
  · rw [if_neg h, if_neg (by omega)]
    exact Ideal.ofBits_zero_f32

end Value

end Cert.Sb

end
-- ==== Proof.Head.lean ====
/-
  One head of the stick-breaking kernel at the ideal numbers: after all eight groups the accumulator of row `i` is the sum
  over every key of its weight times its value.
-/
module

public import proofs.«01_k».proof.Proof.Group

@[expose] public section

set_option maxRecDepth 16384

noncomputable section

namespace Cert.Sb

open Idealize.ShloMosaic hiding ix2
open Idealize.ShloMosaic.ValueIdx
open scoped BigOperators

/-- The scaled score of a row against a key, over the reals. -/
def score (qr kr : ℕ → Fin 128 → ℝ) (R J : ℕ) : ℝ := (∑ l : Fin 128, qr R l * kr J l) * (√(128 : ℝ))⁻¹

section Value

variable {n r : ℕ} (qr kr : ℕ → Fin 128 → ℝ) (vv : ℕ → Fin 128 → EReal)

theorem groupFail_apply (hn : n ≤ 2048) (G : GroupFacts n) (q : FVec Ideal ⟨2, ![n, 128]⟩ .bf16) (k : FVec Ideal ⟨2, ![256, 128]⟩ .f32)
    (hq : ∀ (i : Fin n) l, q (ix2 i l) = ((qr (r + i.val) l : ℝ) : EReal))
    (hk : ∀ (j : Fin 256) l, k (ix2 j l) = ((kr (r + j.val) l : ℝ) : EReal)) (i : Fin n) (j : Fin 256) :
    groupFail n G q k (ix2 i j) = ((fl (score qr kr (r + i.val)) (r + i.val) (r + j.val) : ℝ) : EReal) :=
  coreFail_apply (score qr kr) _ _ (fun i j => coreZ_apply q k G.hb (fun i => qr (r + i.val)) (fun j => kr (r + j.val)) hq hk i j)
    (fun i j => coreMask_apply hn _ _ i j) i j

/-- The carry after a group is minus the masked softplus summed from the group's first key on. -/
theorem groupCarry_apply (hn : n ≤ 2048) (hr : r + 256 ≤ 2048) (G : GroupFacts n) (q : FVec Ideal ⟨2, ![n, 128]⟩ .bf16)
    (u : FVec Ideal ⟨2, ![256, 256]⟩ .bf16) (C : FVec Ideal ⟨2, ![n, 128]⟩ .f32) (k : FVec Ideal ⟨2, ![256, 128]⟩ .f32)
    (hq : ∀ (i : Fin n) l, q (ix2 i l) = ((qr (r + i.val) l : ℝ) : EReal))
    (hk : ∀ (j : Fin 256) l, k (ix2 j l) = ((kr (r + j.val) l : ℝ) : EReal))
    (hu : ∀ j c : Fin 256, u (ix2 j c) = uc j.val c.val)
    (hC : ∀ (i : Fin n) (l : Fin 128), C (ix2 i l) = ((-tl (score qr kr (r + i.val)) (r + i.val) (r + 256) : ℝ) : EReal))
    (i : Fin n) (l : Fin 128) :
    groupCarry n G q u C k (ix2 i l) = ((-tl (score qr kr (r + i.val)) (r + i.val) r : ℝ) : EReal) := by
  have hf := groupFail_apply qr kr hn G q k hq hk
  have hs1 := coreSums_apply (score qr kr) 128 (Or.inr rfl) hr _ u G.hb G.h1 G.hc hf hu
  have hs0 := coreSums_apply (score qr kr) 0 (Or.inl rfl) hr _ u G.hb G.h0 G.hc hf hu
  show coreMid n C (coreSums n 128 (groupFail n G q k) u G.hb G.h1 G.hc) G.h1 (ix2 i l)
    + extractStridedSlice ⟨2, ![n, 128]⟩ ![0, 128] (coreSums n 0 (groupFail n G q k) u G.hb G.h0 G.hc) G.h1 (ix2 i l) = _
  rw [coreMid_apply _ hr C _ G.h1 hC hs1,
    extractStridedSlice_apply _ _ G.h1 _ (ix2 i ⟨128 + l.val, by omega⟩) (by intro b; fin_cases b <;> simp [ix2]), hs0,
    if_neg (by simp), ← EReal.coe_add]
  congr 1
  simp only [Nat.add_zero]
  ring

/-- The accumulator gains the group's weighted values. -/
theorem groupAcc_apply (hn : n ≤ 2048) (hr : r + 256 ≤ 2048) (G : GroupFacts n) (q : FVec Ideal ⟨2, ![n, 128]⟩ .bf16)
    (u : FVec Ideal ⟨2, ![256, 256]⟩ .bf16) (C A : FVec Ideal ⟨2, ![n, 128]⟩ .f32) (k v : FVec Ideal ⟨2, ![256, 128]⟩ .f32)
    (hq : ∀ (i : Fin n) l, q (ix2 i l) = ((qr (r + i.val) l : ℝ) : EReal))
    (hk : ∀ (j : Fin 256) l, k (ix2 j l) = ((kr (r + j.val) l : ℝ) : EReal))
    (hv : ∀ (j : Fin 256) l, v (ix2 j l) = vv (r + j.val) l)
    (hu : ∀ j c : Fin 256, u (ix2 j c) = uc j.val c.val)
    (hC : ∀ (i : Fin n) (l : Fin 128), C (ix2 i l) = ((-tl (score qr kr (r + i.val)) (r + i.val) (r + 256) : ℝ) : EReal))
    (hA : ∀ (i : Fin n) (l : Fin 128), A (ix2 i l)
      = ∑ J ∈ Finset.Ico (r + 256) 2048, wt (score qr kr (r + i.val)) (r + i.val) J * vv J l)
    (i : Fin n) (l : Fin 128) :
    groupAcc n G q u C A k v (ix2 i l) = ∑ J ∈ Finset.Ico r 2048, wt (score qr kr (r + i.val)) (r + i.val) J * vv J l := by
  have hf := groupFail_apply qr kr hn G q k hq hk
  have hs1 := coreSums_apply (score qr kr) 128 (Or.inr rfl) hr _ u G.hb G.h1 G.hc hf hu
  have hs0 := coreSums_apply (score qr kr) 0 (Or.inl rfl) hr _ u G.hb G.h0 G.hc hf hu
  have hw := coreW_apply (score qr kr) hr (coreZ n q k G.hb) (coreMask n G.hi1 G.hi0) C
    (coreSums n 0 (groupFail n G q k) u G.hb G.h0 G.hc) (coreSums n 128 (groupFail n G q k) u G.hb G.h1 G.hc) G.h0 G.h1 G.hc
    (fun i j => coreZ_apply q k G.hb (fun i => qr (r + i.val)) (fun j => kr (r + j.val)) hq hk i j)
    (fun i j => coreMask_apply hn _ _ i j) hC hs0 hs1
  unfold groupAcc
  refine (congrArg (A (ix2 i l) + ·) (Ideal.matmul_plain_apply _ _ _ _ i l)).trans ?_
  have h0 : (constant ⟨2, ![n, 128]⟩ .f32 0x00000000#32 : FVec Ideal ⟨2, ![n, 128]⟩ .f32) (ix2 i l) = 0 := Ideal.ofBits_zero_f32
  have hsum : ∑ j : Fin 256, wt (score qr kr (r + i.val)) (r + i.val) (r + j.val) * vv (r + j.val) l
      = ∑ J ∈ Finset.Ico r (r + 256), wt (score qr kr (r + i.val)) (r + i.val) J * vv J l := by
    rw [Finset.sum_Ico_eq_sum_range, Nat.add_sub_cancel_left, Finset.sum_range]
  rw [h0]
  show A (ix2 i l) + (0 + ∑ j : Fin 256, coreW n _ _ _ _ _ _ _ _ (ix2 i j) * v (ix2 j l)) = _
  rw [zero_add, hA, ← Finset.sum_Ico_consecutive _ (Nat.le_add_right r 256) hr, ← hsum, add_comm]
  congr 1
  exact Finset.sum_congr rfl fun j _ => by rw [hw, hv]

/-- What the run holds after the groups from key `a` on: each row's carry, and its weighted values so far. -/
def Inv (a : ℕ) (C A : FVec Ideal ⟨2, ![2048, 128]⟩ .f32) : Prop :=
  (∀ (i : Fin 2048) (l : Fin 128), C (ix2 i l) = ((-tl (score qr kr i.val) i.val a : ℝ) : EReal)) ∧
    ∀ (i : Fin 2048) (l : Fin 128), A (ix2 i l) = ∑ J ∈ Finset.Ico a 2048, wt (score qr kr i.val) i.val J * vv J l

/-- Before the first group. -/
theorem inv_start (C : FVec Ideal ⟨2, ![2048, 128]⟩ .f32) (hC : ∀ y, C y = 0) : Inv qr kr vv 2048 C C :=
  ⟨fun i l => by rw [hC, tl_eq_zero _ _ _ i.isLt.le, neg_zero, EReal.coe_zero], fun i l => by rw [hC, Finset.Ico_self, Finset.sum_empty]⟩

theorem wt_eq_zero (z : ℕ → ℝ) (R J : ℕ) (h : R ≤ J) : wt z R J = 0 := if_neg (by omega)

/-- One group, over all the rows. -/
theorem inv_step (R : RowFacts n r) (hr : r + 256 ≤ 2048) (q : FVec Ideal ⟨2, ![2048, 128]⟩ .bf16)
    (u : FVec Ideal ⟨2, ![256, 256]⟩ .bf16) (C A : FVec Ideal ⟨2, ![2048, 128]⟩ .f32) (k v : FVec Ideal ⟨2, ![256, 128]⟩ .f32)
    (hq : ∀ (i : Fin 2048) l, q (ix2 i l) = ((qr i.val l : ℝ) : EReal))
    (hk : ∀ (j : Fin 256) l, k (ix2 j l) = ((kr (r + j.val) l : ℝ) : EReal))
    (hv : ∀ (j : Fin 256) l, v (ix2 j l) = vv (r + j.val) l)
    (hu : ∀ j c : Fin 256, u (ix2 j c) = uc j.val c.val) (h : Inv qr kr vv (r + 256) C A) :
    Inv qr kr vv r (stepCarry n r R q u C k) (stepAcc n r R q u C A k v) := by
  have hrn := R.hn
  have hsl : ∀ {φ : FTy} (x : FVec Ideal ⟨2, ![2048, 128]⟩ φ) (i : Fin n) (l : Fin 128),
      extractStridedSlice ⟨2, ![n, 128]⟩ ![r, 0] x R.hs (ix2 i l) = x (ix2 ⟨r + i.val, by omega⟩ l) := fun x i l =>
    extractStridedSlice_apply _ _ R.hs _ _ (by intro b; fin_cases b <;> simp [ix2])
  have hst : ∀ {φ : FTy} (x : FVec Ideal ⟨2, ![2048, 128]⟩ φ) (i : Fin r) (l : Fin 128),
      extractStridedSlice ⟨2, ![r, 128]⟩ ![0, 0] x R.ht (ix2 i l) = x (ix2 ⟨i.val, by omega⟩ l) := fun x i l =>
    extractStridedSlice_apply _ _ R.ht _ _ (by intro b; fin_cases b <;> simp [ix2])
  have hq' : ∀ (i : Fin n) l, extractStridedSlice ⟨2, ![n, 128]⟩ ![r, 0] q R.hs (ix2 i l) = ((qr (r + i.val) l : ℝ) : EReal) :=
    fun i l => by rw [hsl, hq]
  have hC' : ∀ (i : Fin n) l, extractStridedSlice ⟨2, ![n, 128]⟩ ![r, 0] C R.hs (ix2 i l)
      = ((-tl (score qr kr (r + i.val)) (r + i.val) (r + 256) : ℝ) : EReal) := fun i l => by rw [hsl, h.1]
  have hA' : ∀ (i : Fin n) l, extractStridedSlice ⟨2, ![n, 128]⟩ ![r, 0] A R.hs (ix2 i l)
      = ∑ J ∈ Finset.Ico (r + 256) 2048, wt (score qr kr (r + i.val)) (r + i.val) J * vv J l := fun i l => by rw [hsl, h.2]
  constructor
  · intro i l
    unfold stepCarry
    by_cases hi : i.val < r
    · rw [concatenate_pair_apply_left (s₁ := ⟨2, ![r, 128]⟩) (s₂ := ⟨2, ![n, 128]⟩) 0 _ _ R.hj (ix2 i l) rfl (ix2 ⟨i.val, hi⟩ l) (by intro b; fin_cases b <;> rfl),
        hst, h.1, tl_eq_zero _ _ _ (by show i.val ≤ r + 256; omega), tl_eq_zero _ _ _ hi.le]
    · rw [concatenate_pair_apply_right (s₁ := ⟨2, ![r, 128]⟩) (s₂ := ⟨2, ![n, 128]⟩) 0 _ _ R.hj (ix2 i l) rfl rfl (ix2 ⟨i.val - r, by omega⟩ l)
          (by intro b hb; match b with | ⟨1, _⟩ => rfl | ⟨0, _⟩ => exact absurd rfl hb) (show i.val - r + r = i.val by omega),
        groupCarry_apply qr kr (by omega) hr R.G _ u _ k hq' hk hu hC']
      show ((-tl (score qr kr (r + (i.val - r))) (r + (i.val - r)) r : ℝ) : EReal) = _
      rw [show r + (i.val - r) = i.val by omega]
  · intro i l
    unfold stepAcc
    by_cases hi : i.val < r
    · rw [concatenate_pair_apply_left (s₁ := ⟨2, ![r, 128]⟩) (s₂ := ⟨2, ![n, 128]⟩) 0 _ _ R.hj (ix2 i l) rfl (ix2 ⟨i.val, hi⟩ l) (by intro b; fin_cases b <;> rfl),
        hst, h.2, Finset.sum_eq_zero, Finset.sum_eq_zero]
      · intro J hJ
        rw [wt_eq_zero _ _ _ (by have := (Finset.mem_Ico.1 hJ).1; omega), zero_mul]
      · intro J hJ
        rw [wt_eq_zero _ _ _ (by have := (Finset.mem_Ico.1 hJ).1; show i.val ≤ J; omega), zero_mul]
    · rw [concatenate_pair_apply_right (s₁ := ⟨2, ![r, 128]⟩) (s₂ := ⟨2, ![n, 128]⟩) 0 _ _ R.hj (ix2 i l) rfl rfl (ix2 ⟨i.val - r, by omega⟩ l)
          (by intro b hb; match b with | ⟨1, _⟩ => rfl | ⟨0, _⟩ => exact absurd rfl hb) (show i.val - r + r = i.val by omega),
        groupAcc_apply qr kr vv (by omega) hr R.G _ u _ _ k v hq' hk hv hu hC' hA']
      show ∑ J ∈ Finset.Ico r 2048, wt (score qr kr (r + (i.val - r))) (r + (i.val - r)) J * vv J l = _
      rw [show r + (i.val - r) = i.val by omega]

/-- The same of any two values that are the step's. -/
theorem inv_next (R : RowFacts n r) (hr : r + 256 ≤ 2048) {q : FVec Ideal ⟨2, ![2048, 128]⟩ .bf16}
    {u : FVec Ideal ⟨2, ![256, 256]⟩ .bf16} {C A C' A' : FVec Ideal ⟨2, ![2048, 128]⟩ .f32} {k v : FVec Ideal ⟨2, ![256, 128]⟩ .f32}
    (hC : C' = stepCarry n r R q u C k) (hA : A' = stepAcc n r R q u C A k v)
    (hq : ∀ (i : Fin 2048) l, q (ix2 i l) = ((qr i.val l : ℝ) : EReal))
    (hk : ∀ (j : Fin 256) l, k (ix2 j l) = ((kr (r + j.val) l : ℝ) : EReal))
    (hv : ∀ (j : Fin 256) l, v (ix2 j l) = vv (r + j.val) l)
    (hu : ∀ j c : Fin 256, u (ix2 j c) = uc j.val c.val) (h : Inv qr kr vv (r + 256) C A) : Inv qr kr vv r C' A' := by
  rw [hC, hA]
  exact inv_step qr kr vv R hr q u C A k v hq hk hv hu h

/-- The last group, over all the rows at once. -/
theorem inv_last (G : GroupFacts 2048) (q : FVec Ideal ⟨2, ![2048, 128]⟩ .bf16)
    (u : FVec Ideal ⟨2, ![256, 256]⟩ .bf16) (C A : FVec Ideal ⟨2, ![2048, 128]⟩ .f32) (k v : FVec Ideal ⟨2, ![256, 128]⟩ .f32)
    (hq : ∀ (i : Fin 2048) l, q (ix2 i l) = ((qr i.val l : ℝ) : EReal))
    (hk : ∀ (j : Fin 256) l, k (ix2 j l) = ((kr (0 + j.val) l : ℝ) : EReal))
    (hv : ∀ (j : Fin 256) l, v (ix2 j l) = vv (0 + j.val) l)
    (hu : ∀ j c : Fin 256, u (ix2 j c) = uc j.val c.val) (h : Inv qr kr vv 256 C A) (i : Fin 2048) (l : Fin 128) :
    groupAcc 2048 G q u C A k v (ix2 i l) = ∑ J ∈ Finset.range 2048, wt (score qr kr i.val) i.val J * vv J l := by
  have e := groupAcc_apply (r := 0) qr kr vv le_rfl (by omega) G q u C A k v (fun i l => by rw [hq, Nat.zero_add]) hk hv hu
    (fun i l => by rw [h.1, Nat.zero_add, Nat.zero_add]) (fun i l => by rw [h.2, Nat.zero_add, Nat.zero_add]) i l
  rw [e, Nat.zero_add, Finset.range_eq_Ico]

end Value

end Cert.Sb

end
-- ==== Proof.Chain.lean ====
/-
  The kernel's unrolled groups, one by one: what the run holds after each of the eight groups of keys of each of the two
  heads is the generic step (Step.lean) at that group's rows, of what it held before.
-/
module

public import proofs.«01_k».proof.Proof.Step
public import proofs.«01_k».proof.Proof.Gen.KernelIdeal.Value

@[expose] public section

set_option maxRecDepth 65536

noncomputable section

namespace Cert.Sb

open Idealize.ShloMosaic Idealize.ShloMosaic.ValueIdx Cert.KernelIdeal Cert.KernelIdeal.Gen
open scoped BigOperators

theorem rows7 : RowFacts 256 1792 := by constructor <;> first | decide | exact ⟨by decide, by decide, by decide, by decide, by decide, by decide⟩
theorem rows6 : RowFacts 512 1536 := by constructor <;> first | decide | exact ⟨by decide, by decide, by decide, by decide, by decide, by decide⟩
theorem rows5 : RowFacts 768 1280 := by constructor <;> first | decide | exact ⟨by decide, by decide, by decide, by decide, by decide, by decide⟩
theorem rows4 : RowFacts 1024 1024 := by constructor <;> first | decide | exact ⟨by decide, by decide, by decide, by decide, by decide, by decide⟩
theorem rows3 : RowFacts 1280 768 := by constructor <;> first | decide | exact ⟨by decide, by decide, by decide, by decide, by decide, by decide⟩
theorem rows2 : RowFacts 1536 512 := by constructor <;> first | decide | exact ⟨by decide, by decide, by decide, by decide, by decide, by decide⟩
theorem rows1 : RowFacts 1792 256 := by constructor <;> first | decide | exact ⟨by decide, by decide, by decide, by decide, by decide, by decide⟩
theorem group0 : GroupFacts 2048 := ⟨by decide, by decide, by decide, by decide, by decide, by decide⟩

section Chain
variable {F : FTy → Type} [FloatOps F] [Named F]
variable (c : Dev nD) (i : grid0.Coords) (arg3 : Memref sig .tc .vmem S1x2048x256 .f32) (harg3 : arg3.IsWhole)
  (arg4 : Memref sig .tc .vmem S1x2048x256 .f32) (harg4 : arg4.IsWhole)
  (arg5 : Memref sig .tc .vmem S1x2048x256 .f32) (harg5 : arg5.IsWhole)
  (x0 x1 x2 : Vec F S1x2048x256 .f32)

theorem carry0_7 : kernelRun0_A.sl.r_4 c i arg3 harg3 arg4 harg4 x0 x1 = stepCarry 256 1792 rows7 (kernelRun0_A.sl.v2 c arg3 harg3 x0) (kernelRun0_A.sl.v28 (F := F))
    (kernelRun0_A.sl.v30 (F := F)) (shapeCast S256x128 (View.readAt (Elt F) arg4.view (Rect.unit (s := S1x2048x256) (k0_off1 i 1792#32) S1x256x128.size (k0_off1_inb i 7)).toLoadRect (harg4.unread x1)) shapeCasts_S1x256x128_S256x128) := rfl

theorem acc0_7 : kernelRun0_A.sl.r_5 c i arg3 harg3 arg4 harg4 arg5 harg5 x0 x1 x2 = stepAcc 256 1792 rows7 (kernelRun0_A.sl.v2 c arg3 harg3 x0) (kernelRun0_A.sl.v28 (F := F))
    (kernelRun0_A.sl.v30 (F := F))
    (kernelRun0_A.sl.v30 (F := F))
    (shapeCast S256x128 (View.readAt (Elt F) arg4.view (Rect.unit (s := S1x2048x256) (k0_off1 i 1792#32) S1x256x128.size (k0_off1_inb i 7)).toLoadRect (harg4.unread x1)) shapeCasts_S1x256x128_S256x128)
    (shapeCast S256x128 (View.readAt (Elt F) arg5.view (Rect.unit (s := S1x2048x256) (k0_off1 i 1792#32) S1x256x128.size (k0_off1_inb i 7)).toLoadRect (harg5.unread x2)) shapeCasts_S1x256x128_S256x128) := rfl

theorem carry0_6 : kernelRun0_A.sl.r_13 c i arg3 harg3 arg4 harg4 x0 x1 = stepCarry 512 1536 rows6 (kernelRun0_A.sl.v2 c arg3 harg3 x0) (kernelRun0_A.sl.v28 (F := F))
    (kernelRun0_A.sl.r_4 c i arg3 harg3 arg4 harg4 x0 x1) (shapeCast S256x128 (View.readAt (Elt F) arg4.view (Rect.unit (s := S1x2048x256) (k0_off1 i 1536#32) S1x256x128.size (k0_off1_inb i 6)).toLoadRect (harg4.unread x1)) shapeCasts_S1x256x128_S256x128) := rfl

theorem acc0_6 : kernelRun0_A.sl.r_14 c i arg3 harg3 arg4 harg4 arg5 harg5 x0 x1 x2 = stepAcc 512 1536 rows6 (kernelRun0_A.sl.v2 c arg3 harg3 x0) (kernelRun0_A.sl.v28 (F := F))
    (kernelRun0_A.sl.r_4 c i arg3 harg3 arg4 harg4 x0 x1)
    (kernelRun0_A.sl.r_5 c i arg3 harg3 arg4 harg4 arg5 harg5 x0 x1 x2)
    (shapeCast S256x128 (View.readAt (Elt F) arg4.view (Rect.unit (s := S1x2048x256) (k0_off1 i 1536#32) S1x256x128.size (k0_off1_inb i 6)).toLoadRect (harg4.unread x1)) shapeCasts_S1x256x128_S256x128)
    (shapeCast S256x128 (View.readAt (Elt F) arg5.view (Rect.unit (s := S1x2048x256) (k0_off1 i 1536#32) S1x256x128.size (k0_off1_inb i 6)).toLoadRect (harg5.unread x2)) shapeCasts_S1x256x128_S256x128) := rfl

theorem carry0_5 : kernelRun0_A.sl.v227 c i arg3 harg3 arg4 harg4 x0 x1 = stepCarry 768 1280 rows5 (kernelRun0_A.sl.v2 c arg3 harg3 x0) (kernelRun0_A.sl.v28 (F := F))
    (kernelRun0_A.sl.r_13 c i arg3 harg3 arg4 harg4 x0 x1) (shapeCast S256x128 (View.readAt (Elt F) arg4.view (Rect.unit (s := S1x2048x256) (k0_off1 i 1280#32) S1x256x128.size (k0_off1_inb i 5)).toLoadRect (harg4.unread x1)) shapeCasts_S1x256x128_S256x128) := rfl

theorem acc0_5 : kernelRun0_A.sl.v229 c i arg3 harg3 arg4 harg4 arg5 harg5 x0 x1 x2 = stepAcc 768 1280 rows5 (kernelRun0_A.sl.v2 c arg3 harg3 x0) (kernelRun0_A.sl.v28 (F := F))
    (kernelRun0_A.sl.r_13 c i arg3 harg3 arg4 harg4 x0 x1)
    (kernelRun0_A.sl.r_14 c i arg3 harg3 arg4 harg4 arg5 harg5 x0 x1 x2)
    (shapeCast S256x128 (View.readAt (Elt F) arg4.view (Rect.unit (s := S1x2048x256) (k0_off1 i 1280#32) S1x256x128.size (k0_off1_inb i 5)).toLoadRect (harg4.unread x1)) shapeCasts_S1x256x128_S256x128)
    (shapeCast S256x128 (View.readAt (Elt F) arg5.view (Rect.unit (s := S1x2048x256) (k0_off1 i 1280#32) S1x256x128.size (k0_off1_inb i 5)).toLoadRect (harg5.unread x2)) shapeCasts_S1x256x128_S256x128) := rfl

theorem carry0_4 : kernelRun0_A.sl.r_26 c i arg3 harg3 arg4 harg4 x0 x1 = stepCarry 1024 1024 rows4 (kernelRun0_A.sl.v2 c arg3 harg3 x0) (kernelRun0_A.sl.v28 (F := F))
    (kernelRun0_A.sl.v227 c i arg3 harg3 arg4 harg4 x0 x1) (shapeCast S256x128 (View.readAt (Elt F) arg4.view (Rect.unit (s := S1x2048x256) (k0_off1 i 1024#32) S1x256x128.size (k0_off1_inb i 4)).toLoadRect (harg4.unread x1)) shapeCasts_S1x256x128_S256x128) := rfl

theorem acc0_4 : kernelRun0_A.sl.r_27 c i arg3 harg3 arg4 harg4 arg5 harg5 x0 x1 x2 = stepAcc 1024 1024 rows4 (kernelRun0_A.sl.v2 c arg3 harg3 x0) (kernelRun0_A.sl.v28 (F := F))
    (kernelRun0_A.sl.v227 c i arg3 harg3 arg4 harg4 x0 x1)
    (kernelRun0_A.sl.v229 c i arg3 harg3 arg4 harg4 arg5 harg5 x0 x1 x2)
    (shapeCast S256x128 (View.readAt (Elt F) arg4.view (Rect.unit (s := S1x2048x256) (k0_off1 i 1024#32) S1x256x128.size (k0_off1_inb i 4)).toLoadRect (harg4.unread x1)) shapeCasts_S1x256x128_S256x128)
    (shapeCast S256x128 (View.readAt (Elt F) arg5.view (Rect.unit (s := S1x2048x256) (k0_off1 i 1024#32) S1x256x128.size (k0_off1_inb i 4)).toLoadRect (harg5.unread x2)) shapeCasts_S1x256x128_S256x128) := rfl

theorem carry0_3 : kernelRun0_A.sl.r_35 c i arg3 harg3 arg4 harg4 x0 x1 = stepCarry 1280 768 rows3 (kernelRun0_A.sl.v2 c arg3 harg3 x0) (kernelRun0_A.sl.v28 (F := F))
    (kernelRun0_A.sl.r_26 c i arg3 harg3 arg4 harg4 x0 x1) (shapeCast S256x128 (View.readAt (Elt F) arg4.view (Rect.unit (s := S1x2048x256) (k0_off1 i 768#32) S1x256x128.size (k0_off1_inb i 3)).toLoadRect (harg4.unread x1)) shapeCasts_S1x256x128_S256x128) := rfl

theorem acc0_3 : kernelRun0_A.sl.r_36 c i arg3 harg3 arg4 harg4 arg5 harg5 x0 x1 x2 = stepAcc 1280 768 rows3 (kernelRun0_A.sl.v2 c arg3 harg3 x0) (kernelRun0_A.sl.v28 (F := F))
    (kernelRun0_A.sl.r_26 c i arg3 harg3 arg4 harg4 x0 x1)
    (kernelRun0_A.sl.r_27 c i arg3 harg3 arg4 harg4 arg5 harg5 x0 x1 x2)
    (shapeCast S256x128 (View.readAt (Elt F) arg4.view (Rect.unit (s := S1x2048x256) (k0_off1 i 768#32) S1x256x128.size (k0_off1_inb i 3)).toLoadRect (harg4.unread x1)) shapeCasts_S1x256x128_S256x128)
    (shapeCast S256x128 (View.readAt (Elt F) arg5.view (Rect.unit (s := S1x2048x256) (k0_off1 i 768#32) S1x256x128.size (k0_off1_inb i 3)).toLoadRect (harg5.unread x2)) shapeCasts_S1x256x128_S256x128) := rfl

theorem carry0_2 : kernelRun0_A.sl.v425 c i arg3 harg3 arg4 harg4 x0 x1 = stepCarry 1536 512 rows2 (kernelRun0_A.sl.v2 c arg3 harg3 x0) (kernelRun0_A.sl.v28 (F := F))
    (kernelRun0_A.sl.r_35 c i arg3 harg3 arg4 harg4 x0 x1) (shapeCast S256x128 (View.readAt (Elt F) arg4.view (Rect.unit (s := S1x2048x256) (k0_off1 i 512#32) S1x256x128.size (k0_off1_inb i 2)).toLoadRect (harg4.unread x1)) shapeCasts_S1x256x128_S256x128) := rfl

theorem acc0_2 : kernelRun0_A.sl.v427 c i arg3 harg3 arg4 harg4 arg5 harg5 x0 x1 x2 = stepAcc 1536 512 rows2 (kernelRun0_A.sl.v2 c arg3 harg3 x0) (kernelRun0_A.sl.v28 (F := F))
    (kernelRun0_A.sl.r_35 c i arg3 harg3 arg4 harg4 x0 x1)
    (kernelRun0_A.sl.r_36 c i arg3 harg3 arg4 harg4 arg5 harg5 x0 x1 x2)
    (shapeCast S256x128 (View.readAt (Elt F) arg4.view (Rect.unit (s := S1x2048x256) (k0_off1 i 512#32) S1x256x128.size (k0_off1_inb i 2)).toLoadRect (harg4.unread x1)) shapeCasts_S1x256x128_S256x128)
    (shapeCast S256x128 (View.readAt (Elt F) arg5.view (Rect.unit (s := S1x2048x256) (k0_off1 i 512#32) S1x256x128.size (k0_off1_inb i 2)).toLoadRect (harg5.unread x2)) shapeCasts_S1x256x128_S256x128) := rfl

theorem carry0_1 : kernelRun0_A.sl.r_48 c i arg3 harg3 arg4 harg4 x0 x1 = stepCarry 1792 256 rows1 (kernelRun0_A.sl.v2 c arg3 harg3 x0) (kernelRun0_A.sl.v28 (F := F))
    (kernelRun0_A.sl.v425 c i arg3 harg3 arg4 harg4 x0 x1) (shapeCast S256x128 (View.readAt (Elt F) arg4.view (Rect.unit (s := S1x2048x256) (k0_off1 i 256#32) S1x256x128.size (k0_off1_inb i 1)).toLoadRect (harg4.unread x1)) shapeCasts_S1x256x128_S256x128) := rfl

theorem acc0_1 : kernelRun0_A.sl.r_49 c i arg3 harg3 arg4 harg4 arg5 harg5 x0 x1 x2 = stepAcc 1792 256 rows1 (kernelRun0_A.sl.v2 c arg3 harg3 x0) (kernelRun0_A.sl.v28 (F := F))
    (kernelRun0_A.sl.v425 c i arg3 harg3 arg4 harg4 x0 x1)
    (kernelRun0_A.sl.v427 c i arg3 harg3 arg4 harg4 arg5 harg5 x0 x1 x2)
    (shapeCast S256x128 (View.readAt (Elt F) arg4.view (Rect.unit (s := S1x2048x256) (k0_off1 i 256#32) S1x256x128.size (k0_off1_inb i 1)).toLoadRect (harg4.unread x1)) shapeCasts_S1x256x128_S256x128)
    (shapeCast S256x128 (View.readAt (Elt F) arg5.view (Rect.unit (s := S1x2048x256) (k0_off1 i 256#32) S1x256x128.size (k0_off1_inb i 1)).toLoadRect (harg5.unread x2)) shapeCasts_S1x256x128_S256x128) := rfl

theorem acc0_0 : k0_pay321 (kernelRun0_A.sl.v28 (F := F)) (kernelRun0_A.sl.r_48 c i arg3 harg3 arg4 harg4 x0 x1) (kernelRun0_A.sl.r_49 c i arg3 harg3 arg4 harg4 arg5 harg5 x0 x1 x2) (kernelRun0_A.sl.r_50 c i arg5 harg5 x2) k0_pay311 (kernelRun0_A.sl.r_51 c i arg3 harg3 arg4 harg4 x0 x1)
      (kernelRun0_A.sl.r_52 c i arg3 harg3 arg4 harg4 x0 x1) (kernelRun0_A.sl.r_53 c i arg3 harg3 arg4 harg4 x0 x1) (kernelRun0_A.sl.r_54 c i arg3 harg3 arg4 harg4 x0 x1) = groupAcc 2048 group0 (kernelRun0_A.sl.v2 c arg3 harg3 x0) (kernelRun0_A.sl.v28 (F := F))
    (kernelRun0_A.sl.r_48 c i arg3 harg3 arg4 harg4 x0 x1)
    (kernelRun0_A.sl.r_49 c i arg3 harg3 arg4 harg4 arg5 harg5 x0 x1 x2)
    (shapeCast S256x128 (View.readAt (Elt F) arg4.view (Rect.unit (s := S1x2048x256) (k0_off1 i 0#32) S1x256x128.size (k0_off1_inb i 0)).toLoadRect (harg4.unread x1)) shapeCasts_S1x256x128_S256x128)
    (shapeCast S256x128 (View.readAt (Elt F) arg5.view (Rect.unit (s := S1x2048x256) (k0_off1 i 0#32) S1x256x128.size (k0_off1_inb i 0)).toLoadRect (harg5.unread x2)) shapeCasts_S1x256x128_S256x128) := rfl

theorem carry1_7 : kernelRun0_A.sl.r_58 c i arg3 harg3 arg4 harg4 x0 x1 = stepCarry 256 1792 rows7 (kernelRun0_A.sl.v572 c arg3 harg3 x0) (kernelRun0_A.sl.v598 (F := F))
    (kernelRun0_A.sl.v600 (F := F)) (shapeCast S256x128 (View.readAt (Elt F) arg4.view (Rect.unit (s := S1x2048x256) (k0_off4 i 1792#32) S1x256x128.size (k0_off4_inb i 7)).toLoadRect (harg4.unread x1)) shapeCasts_S1x256x128_S256x128) := rfl

theorem acc1_7 : kernelRun0_A.sl.r_59 c i arg3 harg3 arg4 harg4 arg5 harg5 x0 x1 x2 = stepAcc 256 1792 rows7 (kernelRun0_A.sl.v572 c arg3 harg3 x0) (kernelRun0_A.sl.v598 (F := F))
    (kernelRun0_A.sl.v600 (F := F))
    (kernelRun0_A.sl.v600 (F := F))
    (shapeCast S256x128 (View.readAt (Elt F) arg4.view (Rect.unit (s := S1x2048x256) (k0_off4 i 1792#32) S1x256x128.size (k0_off4_inb i 7)).toLoadRect (harg4.unread x1)) shapeCasts_S1x256x128_S256x128)
    (shapeCast S256x128 (View.readAt (Elt F) arg5.view (Rect.unit (s := S1x2048x256) (k0_off4 i 1792#32) S1x256x128.size (k0_off4_inb i 7)).toLoadRect (harg5.unread x2)) shapeCasts_S1x256x128_S256x128) := rfl

theorem carry1_6 : kernelRun0_A.sl.r_69 c i arg3 harg3 arg4 harg4 x0 x1 = stepCarry 512 1536 rows6 (kernelRun0_A.sl.v572 c arg3 harg3 x0) (kernelRun0_A.sl.v598 (F := F))
    (kernelRun0_A.sl.r_58 c i arg3 harg3 arg4 harg4 x0 x1) (shapeCast S256x128 (View.readAt (Elt F) arg4.view (Rect.unit (s := S1x2048x256) (k0_off4 i 1536#32) S1x256x128.size (k0_off4_inb i 6)).toLoadRect (harg4.unread x1)) shapeCasts_S1x256x128_S256x128) := rfl

theorem acc1_6 : kernelRun0_A.sl.r_70 c i arg3 harg3 arg4 harg4 arg5 harg5 x0 x1 x2 = stepAcc 512 1536 rows6 (kernelRun0_A.sl.v572 c arg3 harg3 x0) (kernelRun0_A.sl.v598 (F := F))
    (kernelRun0_A.sl.r_58 c i arg3 harg3 arg4 harg4 x0 x1)
    (kernelRun0_A.sl.r_59 c i arg3 harg3 arg4 harg4 arg5 harg5 x0 x1 x2)
    (shapeCast S256x128 (View.readAt (Elt F) arg4.view (Rect.unit (s := S1x2048x256) (k0_off4 i 1536#32) S1x256x128.size (k0_off4_inb i 6)).toLoadRect (harg4.unread x1)) shapeCasts_S1x256x128_S256x128)
    (shapeCast S256x128 (View.readAt (Elt F) arg5.view (Rect.unit (s := S1x2048x256) (k0_off4 i 1536#32) S1x256x128.size (k0_off4_inb i 6)).toLoadRect (harg5.unread x2)) shapeCasts_S1x256x128_S256x128) := rfl

theorem carry1_5 : kernelRun0_A.sl.v797 c i arg3 harg3 arg4 harg4 x0 x1 = stepCarry 768 1280 rows5 (kernelRun0_A.sl.v572 c arg3 harg3 x0) (kernelRun0_A.sl.v598 (F := F))
    (kernelRun0_A.sl.r_69 c i arg3 harg3 arg4 harg4 x0 x1) (shapeCast S256x128 (View.readAt (Elt F) arg4.view (Rect.unit (s := S1x2048x256) (k0_off4 i 1280#32) S1x256x128.size (k0_off4_inb i 5)).toLoadRect (harg4.unread x1)) shapeCasts_S1x256x128_S256x128) := rfl

theorem acc1_5 : kernelRun0_A.sl.v799 c i arg3 harg3 arg4 harg4 arg5 harg5 x0 x1 x2 = stepAcc 768 1280 rows5 (kernelRun0_A.sl.v572 c arg3 harg3 x0) (kernelRun0_A.sl.v598 (F := F))
    (kernelRun0_A.sl.r_69 c i arg3 harg3 arg4 harg4 x0 x1)
    (kernelRun0_A.sl.r_70 c i arg3 harg3 arg4 harg4 arg5 harg5 x0 x1 x2)
    (shapeCast S256x128 (View.readAt (Elt F) arg4.view (Rect.unit (s := S1x2048x256) (k0_off4 i 1280#32) S1x256x128.size (k0_off4_inb i 5)).toLoadRect (harg4.unread x1)) shapeCasts_S1x256x128_S256x128)
    (shapeCast S256x128 (View.readAt (Elt F) arg5.view (Rect.unit (s := S1x2048x256) (k0_off4 i 1280#32) S1x256x128.size (k0_off4_inb i 5)).toLoadRect (harg5.unread x2)) shapeCasts_S1x256x128_S256x128) := rfl

theorem carry1_4 : kernelRun0_A.sl.r_81 c i arg3 harg3 arg4 harg4 x0 x1 = stepCarry 1024 1024 rows4 (kernelRun0_A.sl.v572 c arg3 harg3 x0) (kernelRun0_A.sl.v598 (F := F))
    (kernelRun0_A.sl.v797 c i arg3 harg3 arg4 harg4 x0 x1) (shapeCast S256x128 (View.readAt (Elt F) arg4.view (Rect.unit (s := S1x2048x256) (k0_off4 i 1024#32) S1x256x128.size (k0_off4_inb i 4)).toLoadRect (harg4.unread x1)) shapeCasts_S1x256x128_S256x128) := rfl

theorem acc1_4 : kernelRun0_A.sl.r_82 c i arg3 harg3 arg4 harg4 arg5 harg5 x0 x1 x2 = stepAcc 1024 1024 rows4 (kernelRun0_A.sl.v572 c arg3 harg3 x0) (kernelRun0_A.sl.v598 (F := F))
    (kernelRun0_A.sl.v797 c i arg3 harg3 arg4 harg4 x0 x1)
    (kernelRun0_A.sl.v799 c i arg3 harg3 arg4 harg4 arg5 harg5 x0 x1 x2)
    (shapeCast S256x128 (View.readAt (Elt F) arg4.view (Rect.unit (s := S1x2048x256) (k0_off4 i 1024#32) S1x256x128.size (k0_off4_inb i 4)).toLoadRect (harg4.unread x1)) shapeCasts_S1x256x128_S256x128)
    (shapeCast S256x128 (View.readAt (Elt F) arg5.view (Rect.unit (s := S1x2048x256) (k0_off4 i 1024#32) S1x256x128.size (k0_off4_inb i 4)).toLoadRect (harg5.unread x2)) shapeCasts_S1x256x128_S256x128) := rfl

theorem carry1_3 : kernelRun0_A.sl.r_90 c i arg3 harg3 arg4 harg4 x0 x1 = stepCarry 1280 768 rows3 (kernelRun0_A.sl.v572 c arg3 harg3 x0) (kernelRun0_A.sl.v598 (F := F))
    (kernelRun0_A.sl.r_81 c i arg3 harg3 arg4 harg4 x0 x1) (shapeCast S256x128 (View.readAt (Elt F) arg4.view (Rect.unit (s := S1x2048x256) (k0_off4 i 768#32) S1x256x128.size (k0_off4_inb i 3)).toLoadRect (harg4.unread x1)) shapeCasts_S1x256x128_S256x128) := rfl

theorem acc1_3 : kernelRun0_A.sl.r_91 c i arg3 harg3 arg4 harg4 arg5 harg5 x0 x1 x2 = stepAcc 1280 768 rows3 (kernelRun0_A.sl.v572 c arg3 harg3 x0) (kernelRun0_A.sl.v598 (F := F))
    (kernelRun0_A.sl.r_81 c i arg3 harg3 arg4 harg4 x0 x1)
    (kernelRun0_A.sl.r_82 c i arg3 harg3 arg4 harg4 arg5 harg5 x0 x1 x2)
    (shapeCast S256x128 (View.readAt (Elt F) arg4.view (Rect.unit (s := S1x2048x256) (k0_off4 i 768#32) S1x256x128.size (k0_off4_inb i 3)).toLoadRect (harg4.unread x1)) shapeCasts_S1x256x128_S256x128)
    (shapeCast S256x128 (View.readAt (Elt F) arg5.view (Rect.unit (s := S1x2048x256) (k0_off4 i 768#32) S1x256x128.size (k0_off4_inb i 3)).toLoadRect (harg5.unread x2)) shapeCasts_S1x256x128_S256x128) := rfl

theorem carry1_2 : kernelRun0_A.sl.v995 c i arg3 harg3 arg4 harg4 x0 x1 = stepCarry 1536 512 rows2 (kernelRun0_A.sl.v572 c arg3 harg3 x0) (kernelRun0_A.sl.v598 (F := F))
    (kernelRun0_A.sl.r_90 c i arg3 harg3 arg4 harg4 x0 x1) (shapeCast S256x128 (View.readAt (Elt F) arg4.view (Rect.unit (s := S1x2048x256) (k0_off4 i 512#32) S1x256x128.size (k0_off4_inb i 2)).toLoadRect (harg4.unread x1)) shapeCasts_S1x256x128_S256x128) := rfl

theorem acc1_2 : kernelRun0_A.sl.v997 c i arg3 harg3 arg4 harg4 arg5 harg5 x0 x1 x2 = stepAcc 1536 512 rows2 (kernelRun0_A.sl.v572 c arg3 harg3 x0) (kernelRun0_A.sl.v598 (F := F))
    (kernelRun0_A.sl.r_90 c i arg3 harg3 arg4 harg4 x0 x1)
    (kernelRun0_A.sl.r_91 c i arg3 harg3 arg4 harg4 arg5 harg5 x0 x1 x2)
    (shapeCast S256x128 (View.readAt (Elt F) arg4.view (Rect.unit (s := S1x2048x256) (k0_off4 i 512#32) S1x256x128.size (k0_off4_inb i 2)).toLoadRect (harg4.unread x1)) shapeCasts_S1x256x128_S256x128)
    (shapeCast S256x128 (View.readAt (Elt F) arg5.view (Rect.unit (s := S1x2048x256) (k0_off4 i 512#32) S1x256x128.size (k0_off4_inb i 2)).toLoadRect (harg5.unread x2)) shapeCasts_S1x256x128_S256x128) := rfl

theorem carry1_1 : kernelRun0_A.sl.r_103 c i arg3 harg3 arg4 harg4 x0 x1 = stepCarry 1792 256 rows1 (kernelRun0_A.sl.v572 c arg3 harg3 x0) (kernelRun0_A.sl.v598 (F := F))
    (kernelRun0_A.sl.v995 c i arg3 harg3 arg4 harg4 x0 x1) (shapeCast S256x128 (View.readAt (Elt F) arg4.view (Rect.unit (s := S1x2048x256) (k0_off4 i 256#32) S1x256x128.size (k0_off4_inb i 1)).toLoadRect (harg4.unread x1)) shapeCasts_S1x256x128_S256x128) := rfl

theorem acc1_1 : kernelRun0_A.sl.r_104 c i arg3 harg3 arg4 harg4 arg5 harg5 x0 x1 x2 = stepAcc 1792 256 rows1 (kernelRun0_A.sl.v572 c arg3 harg3 x0) (kernelRun0_A.sl.v598 (F := F))
    (kernelRun0_A.sl.v995 c i arg3 harg3 arg4 harg4 x0 x1)
    (kernelRun0_A.sl.v997 c i arg3 harg3 arg4 harg4 arg5 harg5 x0 x1 x2)
    (shapeCast S256x128 (View.readAt (Elt F) arg4.view (Rect.unit (s := S1x2048x256) (k0_off4 i 256#32) S1x256x128.size (k0_off4_inb i 1)).toLoadRect (harg4.unread x1)) shapeCasts_S1x256x128_S256x128)
    (shapeCast S256x128 (View.readAt (Elt F) arg5.view (Rect.unit (s := S1x2048x256) (k0_off4 i 256#32) S1x256x128.size (k0_off4_inb i 1)).toLoadRect (harg5.unread x2)) shapeCasts_S1x256x128_S256x128) := rfl

theorem acc1_0 : kernelRun0_A.sl.r_111 c i arg3 harg3 arg4 harg4 arg5 harg5 x0 x1 x2 = groupAcc 2048 group0 (kernelRun0_A.sl.v572 c arg3 harg3 x0) (kernelRun0_A.sl.v598 (F := F))
    (kernelRun0_A.sl.r_103 c i arg3 harg3 arg4 harg4 x0 x1)
    (kernelRun0_A.sl.r_104 c i arg3 harg3 arg4 harg4 arg5 harg5 x0 x1 x2)
    (shapeCast S256x128 (View.readAt (Elt F) arg4.view (Rect.unit (s := S1x2048x256) (k0_off4 i 0#32) S1x256x128.size (k0_off4_inb i 0)).toLoadRect (harg4.unread x1)) shapeCasts_S1x256x128_S256x128)
    (shapeCast S256x128 (View.readAt (Elt F) arg5.view (Rect.unit (s := S1x2048x256) (k0_off4 i 0#32) S1x256x128.size (k0_off4_inb i 0)).toLoadRect (harg5.unread x2)) shapeCasts_S1x256x128_S256x128) := rfl

end Chain

end Cert.Sb

end
-- ==== Proof.Point.lean ====
/-
  One grid point of the stick-breaking kernel at the ideal numbers: its two stores, and what each of them holds at an
  index, from the blocks the point reads.
-/
module

public import proofs.«01_k».proof.Proof.Head
public import proofs.«01_k».proof.Proof.Chain
public import proofs.«01_k».proof.Proof.Gen.KernelIdeal.Value

@[expose] public section

set_option maxRecDepth 65536

noncomputable section

namespace Cert.Sb

open Idealize.ShloMosaic hiding ix2 ix3
open Idealize.ShloMosaic.ValueIdx
open Cert.KernelIdeal Cert.KernelIdeal.Gen
open scoped BigOperators

section Pieces
variable {F : FTy → Type} [FloatOps F] [Named F]
variable (c : Dev nD) (i : grid0.Coords) (arg3 : Memref sig .tc .vmem S1x2048x256 .f32) (harg3 : arg3.IsWhole)
  (arg4 : Memref sig .tc .vmem S1x2048x256 .f32) (harg4 : arg4.IsWhole)
  (arg5 : Memref sig .tc .vmem S1x2048x256 .f32) (harg5 : arg5.IsWhole)
  (arg6 : Memref sig .tc .vmem S1x2048x256 .f32) (harg6 : arg6.IsWhole)
  (arg7 : Memref sig .tc .vmem S1x2048x256 .bf16) (harg7 : arg7.IsWhole)
  (x0 x1 x2 x3 : Vec F S1x2048x256 .f32)

/-- The accumulator of the point's first head. -/
abbrev accA : FVec F S2048x128 .f32 :=
  k0_pay321 (kernelRun0_A.sl.v28 (F := F)) (kernelRun0_A.sl.r_48 c i arg3 harg3 arg4 harg4 x0 x1)
    (kernelRun0_A.sl.r_49 c i arg3 harg3 arg4 harg4 arg5 harg5 x0 x1 x2) (kernelRun0_A.sl.r_50 c i arg5 harg5 x2) k0_pay311
    (kernelRun0_A.sl.r_51 c i arg3 harg3 arg4 harg4 x0 x1) (kernelRun0_A.sl.r_52 c i arg3 harg3 arg4 harg4 x0 x1)
    (kernelRun0_A.sl.r_53 c i arg3 harg3 arg4 harg4 x0 x1) (kernelRun0_A.sl.r_54 c i arg3 harg3 arg4 harg4 x0 x1)

/-- The accumulator of the point's second head. -/
abbrev accB : FVec F S2048x128 .f32 := kernelRun0_A.sl.r_111 c i arg3 harg3 arg4 harg4 arg5 harg5 x0 x1 x2

/-- The point's two stores, newest first. -/
theorem pieces (hi : (i 2).val = 0) :
    (kernelRun0_A c i arg3 harg3 arg4 harg4 arg5 harg5 arg6 harg6 arg7 harg7 x0 x1 x2 x3).1 =
      [⟨Rect.unit ![0, 0, 128] ![1, 2048, 128] inb_S1x2048x256_S1x2048x128_0_0_128,
          k0_pay9 (accB c i arg3 harg3 arg4 harg4 arg5 harg5 x0 x1 x2)
            (View.ld x3 (Rect.unit ![0, 0, 128] ![1, 2048, 128] inb_S1x2048x256_S1x2048x128_0_0_128))⟩,
        ⟨Rect.unit ![0, 0, 0] ![1, 2048, 128] inb_S1x2048x256_S1x2048x128_0_0_0,
          k0_pay330 (accA c i arg3 harg3 arg4 harg4 arg5 harg5 x0 x1 x2)
            (View.ld x3 (Rect.unit ![0, 0, 0] ![1, 2048, 128] inb_S1x2048x256_S1x2048x128_0_0_0))⟩] := by
  have t0 : Scf.trips (0#32) (Scalar.addi (0#32)
      (Scalar.muli (Scalar.divsi (Scalar.subi (Scalar.muli (BitVec.ofNat 32 0) 2#32) 0#32) 1#32) 1#32)) 1#32 = 0 := by decide
  have t1 : Scf.trips (Scalar.addi (0#32)
      (Scalar.muli (Scalar.divsi (Scalar.subi (Scalar.muli (BitVec.ofNat 32 0) 2#32) 0#32) 1#32) 1#32))
      (Scalar.addi (0#32) (Scalar.subi (Scalar.muli (BitVec.ofNat 32 0) 2#32) 0#32)) 1#32 = 0 := by decide
  unfold kernelRun0_A
  dsimp only
  simp only [View.readAt_eq_ld, harg3.read_unread, harg4.read_unread, harg5.read_unread, harg6.read_unread, hi, t0, t1]
  rfl

end Pieces

end Cert.Sb

end
-- ==== Proof.PointVal.lean ====
/-
  What one grid point of the stick-breaking kernel stores, at an index: the two heads of its block, each the masked
  stick-breaking sum of its values, gated.
-/
module

public import proofs.«01_k».proof.Proof.Point

@[expose] public section

set_option maxRecDepth 65536

noncomputable section

namespace Cert.Sb

open Idealize.ShloMosaic hiding ix2 ix3
open Idealize.ShloMosaic.ValueIdx
open Cert.KernelIdeal Cert.KernelIdeal.Gen
open scoped BigOperators

/-- The constant matrix of the kernel's sums. -/
theorem umat_apply (j c : Fin 256) : (k0_pay203 (F := Ideal)) (ix2 j c) = uc j.val c.val := by
  have hw : ∀ a : Fin 256, (Scalar.select
      (IntOp.andi (IntOp.xori (IntOp.cmpi .slt (IntOp.remsi .vector (BitVec.ofNat 32 a.val) 128#32) 0#32) (IntOp.cmpi .slt 128#32 0#32))
        (IntOp.cmpi .ne (IntOp.remsi .vector (BitVec.ofNat 32 a.val) 128#32) 0#32))
      (IntOp.addi (IntOp.remsi .vector (BitVec.ofNat 32 a.val) 128#32) 128#32)
      (IntOp.remsi .vector (BitVec.ofNat 32 a.val) 128#32)) = BitVec.ofNat 32 (a.val % 128) := by decide
  have e : ∀ a, a < 256 → (BitVec.ofNat 32 a).toNat = a := fun a ha => by
    rw [BitVec.toNat_ofNat]; exact Nat.mod_eq_of_lt (by omega)
  have hg : ∀ a b : ℕ, a < 256 → b < 256 → IntOp.cmpi .sge (BitVec.ofNat 32 a) (BitVec.ofNat 32 b) = BitVec.ofBool (decide (b ≤ a)) := by
    intro a b ha hb
    rw [WordCmp.cmpi_sge_of_lt (by rw [e _ ha]; norm_num; omega) (by rw [e _ hb]; norm_num; omega), e _ ha, e _ hb]
  show Scalar.select (IntOp.ori (IntOp.cmpi .sge (iota .tc S256x256 32 [1] iota_S256x256_d1_w32 (ix2 j c)) 128#32)
    (IntOp.cmpi .sge (Scalar.select
      (IntOp.andi (IntOp.xori (IntOp.cmpi .slt (IntOp.remsi .vector (iota .tc S256x256 32 [0] iota_S256x256_d0_w32 (ix2 j c)) 128#32) 0#32) (IntOp.cmpi .slt 128#32 0#32))
        (IntOp.cmpi .ne (IntOp.remsi .vector (iota .tc S256x256 32 [0] iota_S256x256_d0_w32 (ix2 j c)) 128#32) 0#32))
      (IntOp.addi (IntOp.remsi .vector (iota .tc S256x256 32 [0] iota_S256x256_d0_w32 (ix2 j c)) 128#32) 128#32)
      (IntOp.remsi .vector (iota .tc S256x256 32 [0] iota_S256x256_d0_w32 (ix2 j c)) 128#32)) (iota .tc S256x256 32 [1] iota_S256x256_d1_w32 (ix2 j c))))
    (Ideal.ofBits .f32 0xBF800000#32) (Ideal.ofBits .f32 0x00000000#32) = _
  rw [iota_single_apply, iota_single_apply]
  show Scalar.select (IntOp.ori (IntOp.cmpi .sge (BitVec.ofNat 32 c.val) 128#32) (IntOp.cmpi .sge (Scalar.select
      (IntOp.andi (IntOp.xori (IntOp.cmpi .slt (IntOp.remsi .vector (BitVec.ofNat 32 j.val) 128#32) 0#32) (IntOp.cmpi .slt 128#32 0#32))
        (IntOp.cmpi .ne (IntOp.remsi .vector (BitVec.ofNat 32 j.val) 128#32) 0#32))
      (IntOp.addi (IntOp.remsi .vector (BitVec.ofNat 32 j.val) 128#32) 128#32)
      (IntOp.remsi .vector (BitVec.ofNat 32 j.val) 128#32)) (BitVec.ofNat 32 c.val))) (Ideal.ofBits .f32 0xBF800000#32) (Ideal.ofBits .f32 0x00000000#32) = _
  rw [hw j, hg c.val 128 c.isLt (by norm_num), hg (j.val % 128) c.val (by omega) c.isLt, Ideal.ofBits_zero_f32]
  unfold uc
  have hm : Ideal.ofBits .f32 0xBF800000#32 = -1 := by
    simp [Ideal.ofBits, Ideal.ieee, -EReal.coe_mul]; norm_num
  rw [hm]
  by_cases h1 : 128 ≤ c.val <;> by_cases h2 : c.val ≤ j.val % 128 <;> simp [h1, h2, IntOp.ori, Scalar.select]

/-- Column `l` of row `R` of half `o` of a block, zero past the last row. -/
def rowAt (o : Fin 2) (x : FVec Ideal S1x2048x256 .f32) (R : ℕ) (l : Fin 128) : EReal :=
  if h : R < 2048 then x (ix3 (0 : Fin 1) ⟨R, h⟩ ⟨128 * o.val + l.val, by omega⟩) else 0

section Reads
variable (i : grid0.Coords) (hi : (i 2).val = 0) (arg : Memref sig .tc .vmem S1x2048x256 .f32) (harg : arg.IsWhole)
  (x : FVec Ideal S1x2048x256 .f32)
include hi

theorem read0 (w : BitVec 32) (r : ℕ) (hr : r + 256 ≤ 2048) (he : k0_off1 i w = ![0, 2048 * (i 2).val + r, 0])
    (hin : ∀ a, k0_off1 i w a + S1x256x128.size a ≤ S1x2048x256.size a) (j : Fin 256) (l : Fin 128) :
    shapeCast S256x128 (View.readAt (Elt Ideal) arg.view (Rect.unit (s := S1x2048x256) (k0_off1 i w) S1x256x128.size hin).toLoadRect
      (harg.unread x)) shapeCasts_S1x256x128_S256x128 (ix2 j l) = rowAt 0 x (r + j.val) l := by
  have hj := j.isLt
  rw [View.readAt_eq_ld, harg.read_unread]
  rw [shapeCast_dropUnit_apply]
  unfold rowAt
  rw [dif_pos (by omega)]
  refine congrArg x (funext fun a => Fin.ext ?_)
  match a with
  | ⟨0, _⟩ => show k0_off1 i w 0 + 1 * 0 = 0; rw [he]; rfl
  | ⟨1, _⟩ => show k0_off1 i w 1 + 1 * j.val = r + j.val; rw [he, hi]; show 2048 * 0 + r + 1 * j.val = _; omega
  | ⟨2, _⟩ => show k0_off1 i w 2 + 1 * l.val = 128 * 0 + l.val; rw [he]; show 0 + 1 * l.val = _; omega

theorem read1 (w : BitVec 32) (r : ℕ) (hr : r + 256 ≤ 2048) (he : k0_off4 i w = ![0, 2048 * (i 2).val + r, 128])
    (hin : ∀ a, k0_off4 i w a + S1x256x128.size a ≤ S1x2048x256.size a) (j : Fin 256) (l : Fin 128) :
    shapeCast S256x128 (View.readAt (Elt Ideal) arg.view (Rect.unit (s := S1x2048x256) (k0_off4 i w) S1x256x128.size hin).toLoadRect
      (harg.unread x)) shapeCasts_S1x256x128_S256x128 (ix2 j l) = rowAt 1 x (r + j.val) l := by
  have hj := j.isLt
  rw [View.readAt_eq_ld, harg.read_unread]
  rw [shapeCast_dropUnit_apply]
  unfold rowAt
  rw [dif_pos (by omega)]
  refine congrArg x (funext fun a => Fin.ext ?_)
  match a with
  | ⟨0, _⟩ => show k0_off4 i w 0 + 1 * 0 = 0; rw [he]; rfl
  | ⟨1, _⟩ => show k0_off4 i w 1 + 1 * j.val = r + j.val; rw [he, hi]; show 2048 * 0 + r + 1 * j.val = _; omega
  | ⟨2, _⟩ => show k0_off4 i w 2 + 1 * l.val = 128 * 1 + l.val; rw [he]; show 128 + 1 * l.val = _; omega

end Reads

section Heads
variable (c : Dev nD) (i : grid0.Coords) (hi : (i 2).val = 0) (arg3 : Memref sig .tc .vmem S1x2048x256 .f32) (harg3 : arg3.IsWhole)
  (arg4 : Memref sig .tc .vmem S1x2048x256 .f32) (harg4 : arg4.IsWhole)
  (arg5 : Memref sig .tc .vmem S1x2048x256 .f32) (harg5 : arg5.IsWhole)
  (x0 x1 x2 : FVec Ideal S1x2048x256 .f32) (h0 : ∀ y, x0 y = ((x0 y).toReal : EReal)) (h1 : ∀ y, x1 y = ((x1 y).toReal : EReal))

/-- The real queries and keys of one half of a block. -/
def rr (o : Fin 2) (x : FVec Ideal S1x2048x256 .f32) (R : ℕ) (l : Fin 128) : ℝ := (rowAt o x R l).toReal

theorem rowAt_real (o : Fin 2) (x : FVec Ideal S1x2048x256 .f32) (h : ∀ y, x y = ((x y).toReal : EReal)) (R : ℕ) (l : Fin 128) :
    rowAt o x R l = ((rr o x R l : ℝ) : EReal) := by
  unfold rr rowAt
  split_ifs with hR
  · exact h _
  · simp

/-- The masked stick-breaking sum of one half of a block. -/
def headSum (o : Fin 2) (x0 x1 x2 : FVec Ideal S1x2048x256 .f32) (R : ℕ) (l : Fin 128) : EReal :=
  ∑ J ∈ Finset.range 2048, wt (score (rr o x0) (rr o x1) R) R J * rowAt o x2 J l

theorem zeros0 (y : S2048x128.Idx) : (kernelRun0_A.sl.v30 (F := Ideal)) y = 0 := Ideal.ofBits_zero_f32
theorem zeros1 (y : S2048x128.Idx) : (kernelRun0_A.sl.v600 (F := Ideal)) y = 0 := Ideal.ofBits_zero_f32

theorem query0 (r : Fin 2048) (l : Fin 128) : (kernelRun0_A.sl.v2 (F := Ideal) c arg3 harg3 x0) (ix2 r l) = rowAt 0 x0 r.val l := by
  show shapeCast S2048x128 (View.readAt (Elt Ideal) arg3.view (Rect.unit (s := S1x2048x256) ![0, 0, 0] S1x2048x128.size inb_S1x2048x256_S1x2048x128_0_0_0).toLoadRect (harg3.unread x0)) shapeCasts_S1x2048x128_S2048x128 (ix2 r l) = _
  rw [View.readAt_eq_ld, harg3.read_unread, shapeCast_dropUnit_apply]
  unfold rowAt
  rw [dif_pos r.isLt]
  refine congrArg x0 (funext fun a => Fin.ext ?_)
  match a with
  | ⟨0, _⟩ => rfl
  | ⟨1, _⟩ => show 0 + 1 * r.val = r.val; omega
  | ⟨2, _⟩ => show 0 + 1 * l.val = 128 * 0 + l.val; omega

theorem query1 (r : Fin 2048) (l : Fin 128) : (kernelRun0_A.sl.v572 (F := Ideal) c arg3 harg3 x0) (ix2 r l) = rowAt 1 x0 r.val l := by
  show shapeCast S2048x128 (View.readAt (Elt Ideal) arg3.view (Rect.unit (s := S1x2048x256) ![0, 0, 128] S1x2048x128.size inb_S1x2048x256_S1x2048x128_0_0_128).toLoadRect (harg3.unread x0)) shapeCasts_S1x2048x128_S2048x128 (ix2 r l) = _
  rw [View.readAt_eq_ld, harg3.read_unread, shapeCast_dropUnit_apply]
  unfold rowAt
  rw [dif_pos r.isLt]
  refine congrArg x0 (funext fun a => Fin.ext ?_)
  match a with
  | ⟨0, _⟩ => rfl
  | ⟨1, _⟩ => show 0 + 1 * r.val = r.val; omega
  | ⟨2, _⟩ => show 128 + 1 * l.val = 128 * 1 + l.val; omega

include hi h0 h1

theorem accA_apply (r : Fin 2048) (l : Fin 128) :
    accA (F := Ideal) c i arg3 harg3 arg4 harg4 arg5 harg5 x0 x1 x2 (ix2 r l) = headSum 0 x0 x1 x2 r.val l := by
  have hq : ∀ (r : Fin 2048) l, (kernelRun0_A.sl.v2 (F := Ideal) c arg3 harg3 x0) (ix2 r l) = ((rr 0 x0 r.val l : ℝ) : EReal) :=
    fun r l => (query0 c arg3 harg3 x0 r l).trans (rowAt_real 0 x0 h0 _ _)
  have hu : ∀ j c : Fin 256, (kernelRun0_A.sl.v28 (F := Ideal)) (ix2 j c) = uc j.val c.val := umat_apply
  have hk := fun w r hr he hin (j : Fin 256) l => (read0 i hi arg4 harg4 x1 w r hr he hin j l).trans (rowAt_real 0 x1 h1 _ _)
  have hv := fun w r hr he hin (j : Fin 256) l => read0 i hi arg5 harg5 x2 w r hr he hin j l
  have s8 := inv_start (rr 0 x0) (rr 0 x1) (rowAt 0 x2) _ zeros0
  have s7 := inv_next _ _ _ rows7 (by omega) (carry0_7 (F := Ideal) c i arg3 harg3 arg4 harg4 x0 x1)
    (acc0_7 (F := Ideal) c i arg3 harg3 arg4 harg4 arg5 harg5 x0 x1 x2) hq
    (hk 1792#32 1792 (by omega) (k0_off1_eq i ⟨7, by decide⟩) _) (hv 1792#32 1792 (by omega) (k0_off1_eq i ⟨7, by decide⟩) _) hu s8
  have s6 := inv_next _ _ _ rows6 (by omega) (carry0_6 (F := Ideal) c i arg3 harg3 arg4 harg4 x0 x1)
    (acc0_6 (F := Ideal) c i arg3 harg3 arg4 harg4 arg5 harg5 x0 x1 x2) hq
    (hk 1536#32 1536 (by omega) (k0_off1_eq i ⟨6, by decide⟩) _) (hv 1536#32 1536 (by omega) (k0_off1_eq i ⟨6, by decide⟩) _) hu s7
  have s5 := inv_next _ _ _ rows5 (by omega) (carry0_5 (F := Ideal) c i arg3 harg3 arg4 harg4 x0 x1)
    (acc0_5 (F := Ideal) c i arg3 harg3 arg4 harg4 arg5 harg5 x0 x1 x2) hq
    (hk 1280#32 1280 (by omega) (k0_off1_eq i ⟨5, by decide⟩) _) (hv 1280#32 1280 (by omega) (k0_off1_eq i ⟨5, by decide⟩) _) hu s6
  have s4 := inv_next _ _ _ rows4 (by omega) (carry0_4 (F := Ideal) c i arg3 harg3 arg4 harg4 x0 x1)
    (acc0_4 (F := Ideal) c i arg3 harg3 arg4 harg4 arg5 harg5 x0 x1 x2) hq
    (hk 1024#32 1024 (by omega) (k0_off1_eq i ⟨4, by decide⟩) _) (hv 1024#32 1024 (by omega) (k0_off1_eq i ⟨4, by decide⟩) _) hu s5
  have s3 := inv_next _ _ _ rows3 (by omega) (carry0_3 (F := Ideal) c i arg3 harg3 arg4 harg4 x0 x1)
    (acc0_3 (F := Ideal) c i arg3 harg3 arg4 harg4 arg5 harg5 x0 x1 x2) hq
    (hk 768#32 768 (by omega) (k0_off1_eq i ⟨3, by decide⟩) _) (hv 768#32 768 (by omega) (k0_off1_eq i ⟨3, by decide⟩) _) hu s4
  have s2 := inv_next _ _ _ rows2 (by omega) (carry0_2 (F := Ideal) c i arg3 harg3 arg4 harg4 x0 x1)
    (acc0_2 (F := Ideal) c i arg3 harg3 arg4 harg4 arg5 harg5 x0 x1 x2) hq
    (hk 512#32 512 (by omega) (k0_off1_eq i ⟨2, by decide⟩) _) (hv 512#32 512 (by omega) (k0_off1_eq i ⟨2, by decide⟩) _) hu s3
  have s1 := inv_next _ _ _ rows1 (by omega) (carry0_1 (F := Ideal) c i arg3 harg3 arg4 harg4 x0 x1)
    (acc0_1 (F := Ideal) c i arg3 harg3 arg4 harg4 arg5 harg5 x0 x1 x2) hq
    (hk 256#32 256 (by omega) (k0_off1_eq i ⟨1, by decide⟩) _) (hv 256#32 256 (by omega) (k0_off1_eq i ⟨1, by decide⟩) _) hu s2
  unfold headSum
  exact (congrFun (acc0_0 (F := Ideal) c i arg3 harg3 arg4 harg4 arg5 harg5 x0 x1 x2) (ix2 r l)).trans
    (inv_last _ _ _ group0 _ _ _ _ _ _ hq (hk 0#32 0 (by omega) (k0_off1_eq i ⟨0, by decide⟩) _)
      (hv 0#32 0 (by omega) (k0_off1_eq i ⟨0, by decide⟩) _) hu s1 r l)

theorem accB_apply (r : Fin 2048) (l : Fin 128) :
    accB (F := Ideal) c i arg3 harg3 arg4 harg4 arg5 harg5 x0 x1 x2 (ix2 r l) = headSum 1 x0 x1 x2 r.val l := by
  have hq : ∀ (r : Fin 2048) l, (kernelRun0_A.sl.v572 (F := Ideal) c arg3 harg3 x0) (ix2 r l) = ((rr 1 x0 r.val l : ℝ) : EReal) :=
    fun r l => (query1 c arg3 harg3 x0 r l).trans (rowAt_real 1 x0 h0 _ _)
  have hu : ∀ j c : Fin 256, (kernelRun0_A.sl.v598 (F := Ideal)) (ix2 j c) = uc j.val c.val := umat_apply
  have hk := fun w r hr he hin (j : Fin 256) l => (read1 i hi arg4 harg4 x1 w r hr he hin j l).trans (rowAt_real 1 x1 h1 _ _)
  have hv := fun w r hr he hin (j : Fin 256) l => read1 i hi arg5 harg5 x2 w r hr he hin j l
  have s8 := inv_start (rr 1 x0) (rr 1 x1) (rowAt 1 x2) _ zeros1
  have s7 := inv_next _ _ _ rows7 (by omega) (carry1_7 (F := Ideal) c i arg3 harg3 arg4 harg4 x0 x1)
    (acc1_7 (F := Ideal) c i arg3 harg3 arg4 harg4 arg5 harg5 x0 x1 x2) hq
    (hk 1792#32 1792 (by omega) (k0_off4_eq i ⟨7, by decide⟩) _) (hv 1792#32 1792 (by omega) (k0_off4_eq i ⟨7, by decide⟩) _) hu s8
  have s6 := inv_next _ _ _ rows6 (by omega) (carry1_6 (F := Ideal) c i arg3 harg3 arg4 harg4 x0 x1)
    (acc1_6 (F := Ideal) c i arg3 harg3 arg4 harg4 arg5 harg5 x0 x1 x2) hq
    (hk 1536#32 1536 (by omega) (k0_off4_eq i ⟨6, by decide⟩) _) (hv 1536#32 1536 (by omega) (k0_off4_eq i ⟨6, by decide⟩) _) hu s7
  have s5 := inv_next _ _ _ rows5 (by omega) (carry1_5 (F := Ideal) c i arg3 harg3 arg4 harg4 x0 x1)
    (acc1_5 (F := Ideal) c i arg3 harg3 arg4 harg4 arg5 harg5 x0 x1 x2) hq
    (hk 1280#32 1280 (by omega) (k0_off4_eq i ⟨5, by decide⟩) _) (hv 1280#32 1280 (by omega) (k0_off4_eq i ⟨5, by decide⟩) _) hu s6
  have s4 := inv_next _ _ _ rows4 (by omega) (carry1_4 (F := Ideal) c i arg3 harg3 arg4 harg4 x0 x1)
    (acc1_4 (F := Ideal) c i arg3 harg3 arg4 harg4 arg5 harg5 x0 x1 x2) hq
    (hk 1024#32 1024 (by omega) (k0_off4_eq i ⟨4, by decide⟩) _) (hv 1024#32 1024 (by omega) (k0_off4_eq i ⟨4, by decide⟩) _) hu s5
  have s3 := inv_next _ _ _ rows3 (by omega) (carry1_3 (F := Ideal) c i arg3 harg3 arg4 harg4 x0 x1)
    (acc1_3 (F := Ideal) c i arg3 harg3 arg4 harg4 arg5 harg5 x0 x1 x2) hq
    (hk 768#32 768 (by omega) (k0_off4_eq i ⟨3, by decide⟩) _) (hv 768#32 768 (by omega) (k0_off4_eq i ⟨3, by decide⟩) _) hu s4
  have s2 := inv_next _ _ _ rows2 (by omega) (carry1_2 (F := Ideal) c i arg3 harg3 arg4 harg4 x0 x1)
    (acc1_2 (F := Ideal) c i arg3 harg3 arg4 harg4 arg5 harg5 x0 x1 x2) hq
    (hk 512#32 512 (by omega) (k0_off4_eq i ⟨2, by decide⟩) _) (hv 512#32 512 (by omega) (k0_off4_eq i ⟨2, by decide⟩) _) hu s3
  have s1 := inv_next _ _ _ rows1 (by omega) (carry1_1 (F := Ideal) c i arg3 harg3 arg4 harg4 x0 x1)
    (acc1_1 (F := Ideal) c i arg3 harg3 arg4 harg4 arg5 harg5 x0 x1 x2) hq
    (hk 256#32 256 (by omega) (k0_off4_eq i ⟨1, by decide⟩) _) (hv 256#32 256 (by omega) (k0_off4_eq i ⟨1, by decide⟩) _) hu s2
  unfold headSum
  exact (congrFun (acc1_0 (F := Ideal) c i arg3 harg3 arg4 harg4 arg5 harg5 x0 x1 x2) (ix2 r l)).trans
    (inv_last _ _ _ group0 _ _ _ _ _ _ hq (hk 0#32 0 (by omega) (k0_off4_eq i ⟨0, by decide⟩) _)
      (hv 0#32 0 (by omega) (k0_off4_eq i ⟨0, by decide⟩) _) hu s1 r l)

end Heads

end Cert.Sb

end
-- ==== Proof.Array.lean ====
/-
  The array the stick-breaking kernel leaves, at an index: the masked stick-breaking attention of its batch, head and row,
  as a function of the projection's columns.
-/
module

public import Idealize.ShloMosaic.Lib.Pipeline.ValueKit.Geometry
public import proofs.«01_k».proof.Proof.PointVal

@[expose] public section

set_option maxRecDepth 65536

noncomputable section

namespace Cert.Sb

open Idealize.ShloMosaic hiding ix2 ix3
open Idealize.ShloMosaic.ValueIdx
open Cert.KernelIdeal Cert.KernelIdeal.Gen
open scoped BigOperators

/-- The gate both programs apply. -/
def gated (s g : EReal) : EReal := s * (g * Ideal.logistic g)

/-- What a point's stores leave in its block, at column `l` of half `o`. -/
theorem canon_apply (c : Dev nD) (i : grid0.Coords) (hi : (i 2).val = 0) (arg3 : Memref sig .tc .vmem S1x2048x256 .f32) (harg3 : arg3.IsWhole)
    (arg4 : Memref sig .tc .vmem S1x2048x256 .f32) (harg4 : arg4.IsWhole)
    (arg5 : Memref sig .tc .vmem S1x2048x256 .f32) (harg5 : arg5.IsWhole)
    (arg6 : Memref sig .tc .vmem S1x2048x256 .f32) (harg6 : arg6.IsWhole)
    (arg7 : Memref sig .tc .vmem S1x2048x256 .bf16) (harg7 : arg7.IsWhole)
    (x0 x1 x2 x3 : FVec Ideal S1x2048x256 .f32) (h0 : ∀ y, x0 y = ((x0 y).toReal : EReal)) (h1 : ∀ y, x1 y = ((x1 y).toReal : EReal))
    (o : Fin 2) (r : Fin 2048) (l : Fin 128) :
    View.canon (kernelRun0_A (F := Ideal) c i arg3 harg3 arg4 harg4 arg5 harg5 arg6 harg6 arg7 harg7 x0 x1 x2 x3).1
      (ix3 (0 : Fin 1) r ⟨128 * o.val + l.val, by omega⟩) = gated (headSum o x0 x1 x2 r.val l) (rowAt o x3 r.val l) := by
  rw [pieces (F := Ideal) c i arg3 harg3 arg4 harg4 arg5 harg5 arg6 harg6 arg7 harg7 x0 x1 x2 x3 hi]
  have hg1 : (shapeCast S2048x128 (View.ld (Val := Elt Ideal) (e' := .f32) x3 (Rect.unit (s := S1x2048x256) ![0, 0, 128] ![1, 2048, 128] inb_S1x2048x256_S1x2048x128_0_0_128))
      shapeCasts_S1x2048x128_S2048x128 : FVec Ideal S2048x128 .f32) (ix2 r l) = rowAt 1 x3 r.val l := by
    rw [shapeCast_dropUnit_apply]
    unfold rowAt
    rw [dif_pos r.isLt]
    refine congrArg x3 (funext fun a => Fin.ext ?_)
    match a with
    | ⟨0, _⟩ => rfl
    | ⟨1, _⟩ => show 0 + 1 * r.val = r.val; omega
    | ⟨2, _⟩ => show 128 + 1 * l.val = 128 * 1 + l.val; omega
  have hg0 : (shapeCast S2048x128 (View.ld (Val := Elt Ideal) (e' := .f32) x3 (Rect.unit (s := S1x2048x256) ![0, 0, 0] ![1, 2048, 128] inb_S1x2048x256_S1x2048x128_0_0_0))
      shapeCasts_S1x2048x128_S2048x128 : FVec Ideal S2048x128 .f32) (ix2 r l) = rowAt 0 x3 r.val l := by
    rw [shapeCast_dropUnit_apply]
    unfold rowAt
    rw [dif_pos r.isLt]
    refine congrArg x3 (funext fun a => Fin.ext ?_)
    match a with
    | ⟨0, _⟩ => rfl
    | ⟨1, _⟩ => show 0 + 1 * r.val = r.val; omega
    | ⟨2, _⟩ => show 0 + 1 * l.val = 128 * 0 + l.val; omega
  have hsplit : ∀ (A : FVec Ideal S2048x128 .f32) (g : FVec Ideal S1x2048x128 .f32),
      k0_pay9 A g (ix3 (0 : Fin 1) r l) = gated (A (ix2 r l)) (shapeCast S2048x128 g shapeCasts_S1x2048x128_S2048x128 (ix2 r l)) := by
    intro A g
    show shapeCast S1x2048x128 (truncf .bf16 (mulf A (mulf (shapeCast S2048x128 g shapeCasts_S1x2048x128_S2048x128)
      (logistic (shapeCast S2048x128 g shapeCasts_S1x2048x128_S2048x128)))) bitsLt_bf16_f32) shapeCasts_S2048x128_S1x2048x128 (ix3 (0 : Fin 1) r l) = _
    rw [shapeCast_addUnit_apply]
    have e : (fun a : Fin 2 => (ix3 (0 : Fin 1) r l : S1x2048x128.Idx) a.succ) = (ix2 r l : S2048x128.Idx) := by
      funext a; match a with | ⟨0, _⟩ => rfl | ⟨1, _⟩ => rfl
    exact congrArg (fun y : S2048x128.Idx => gated (A y) (shapeCast S2048x128 g shapeCasts_S1x2048x128_S2048x128 y)) e
  match o with
  | ⟨1, _⟩ =>
    have e : (ix3 (0 : Fin 1) r ⟨128 * 1 + l.val, by omega⟩ : S1x2048x256.Idx)
        = (Rect.unit (s := S1x2048x256) ![0, 0, 128] ![1, 2048, 128] inb_S1x2048x256_S1x2048x128_0_0_128).emb (ix3 (0 : Fin 1) r l) := by
      funext a; refine Fin.ext ?_
      match a with
      | ⟨0, _⟩ => rfl
      | ⟨1, _⟩ => show r.val = 0 + 1 * r.val; omega
      | ⟨2, _⟩ => show 128 * 1 + l.val = 128 + 1 * l.val; omega
    refine (congrArg _ e).trans ((View.canon_cons_emb _ _ _ _).trans ?_)
    rw [hsplit, accB_apply c i hi arg3 harg3 arg4 harg4 arg5 harg5 x0 x1 x2 h0 h1, hg1]
    rfl
  | ⟨0, _⟩ =>
    have e : (ix3 (0 : Fin 1) r ⟨128 * 0 + l.val, by omega⟩ : S1x2048x256.Idx)
        = (Rect.unit (s := S1x2048x256) ![0, 0, 0] ![1, 2048, 128] inb_S1x2048x256_S1x2048x128_0_0_0).emb (ix3 (0 : Fin 1) r l) := by
      funext a; refine Fin.ext ?_
      match a with
      | ⟨0, _⟩ => rfl
      | ⟨1, _⟩ => show r.val = 0 + 1 * r.val; omega
      | ⟨2, _⟩ => show 128 * 0 + l.val = 0 + 1 * l.val; omega
    rw [View.canon_cons_of_not_mem]
    · refine (congrArg _ e).trans ((View.canon_cons_emb _ _ _ _).trans ?_)
      refine (hsplit _ _).trans ?_
      rw [accA_apply c i hi arg3 harg3 arg4 harg4 arg5 harg5 x0 x1 x2 h0 h1, hg0]
      rfl
    · rw [Rect.mem_set_unit]
      intro h
      have := (h 2).1
      have hl := l.isLt
      have h2 : 128 ≤ 128 * 0 + l.val := this
      omega

/-- Row `R` of a column of the projection, zero past the last row. -/
def prc (P : S8x2048x22528.Idx → EReal) (b : Fin 8) (col : Fin 22528) (R : ℕ) : EReal :=
  if h : R < 2048 then P (ix3 b ⟨R, h⟩ col) else 0

/-- The masked stick-breaking attention of head `H`: what row `s` holds in its column `l`. -/
def specH (P : S8x2048x22528.Idx → EReal) (b H : Fin 8) (l : Fin 128) (s : ℕ) : EReal :=
  gated (∑ J ∈ Finset.range 2048,
      wt (score (fun R k => (prc P b ⟨6144 + 128 * H.val + k.val, by omega⟩ R).toReal)
        (fun R k => (prc P b ⟨7168 + 128 * H.val + k.val, by omega⟩ R).toReal) s) s J * prc P b ⟨8192 + 128 * H.val + l.val, by omega⟩ J)
    (prc P b ⟨9216 + 128 * H.val + l.val, by omega⟩ s)

/-- The result at an index: head by the column's hundred and twenty-eight. -/
def spec (P : S8x2048x22528.Idx → EReal) (y : S8x2048x1024.Idx) : EReal :=
  specH P (y 0) ⟨(y 2).val / 128, by have h : (y 2).val < 1024 := (y 2).isLt; omega⟩ ⟨(y 2).val % 128, Nat.mod_lt _ (by norm_num)⟩ (y 1).val

theorem spec_congr (P : S8x2048x22528.Idx → EReal) {b b' H H' : Fin 8} {l l' : Fin 128} {s s' : ℕ} (hb : b = b') (hH : H = H') (hl : l = l') (hs : s = s') :
    specH P b H l s = specH P b' H' l' s' := by
  subst hb hH hl hs
  rfl

theorem index_eq : ∀ t : Fin cfg0.N, (win0_0.index t 0 = win0_4.index t 0 ∧ win0_0.index t 1 = 0 ∧ win0_0.index t 2 = 24 + win0_4.index t 2)
    ∧ (win0_1.index t 0 = win0_4.index t 0 ∧ win0_1.index t 1 = 0 ∧ win0_1.index t 2 = 28 + win0_4.index t 2)
    ∧ (win0_2.index t 0 = win0_4.index t 0 ∧ win0_2.index t 1 = 0 ∧ win0_2.index t 2 = 32 + win0_4.index t 2)
    ∧ (win0_3.index t 0 = win0_4.index t 0 ∧ win0_3.index t 1 = 0 ∧ win0_3.index t 2 = 36 + win0_4.index t 2)
    ∧ win0_4.index t 0 < 8 ∧ win0_4.index t 1 = 0 ∧ win0_4.index t 2 < 4 ∧ ((grid0.coords t) 2).val = 0 :=
  (by decide +kernel : ∀ t : Fin grid0.N, (win0_0.index t 0 = win0_4.index t 0 ∧ win0_0.index t 1 = 0 ∧ win0_0.index t 2 = 24 + win0_4.index t 2)
    ∧ (win0_1.index t 0 = win0_4.index t 0 ∧ win0_1.index t 1 = 0 ∧ win0_1.index t 2 = 28 + win0_4.index t 2)
    ∧ (win0_2.index t 0 = win0_4.index t 0 ∧ win0_2.index t 1 = 0 ∧ win0_2.index t 2 = 32 + win0_4.index t 2)
    ∧ (win0_3.index t 0 = win0_4.index t 0 ∧ win0_3.index t 1 = 0 ∧ win0_3.index t 2 = 36 + win0_4.index t 2)
    ∧ win0_4.index t 0 < 8 ∧ win0_4.index t 1 = 0 ∧ win0_4.index t 2 < 4 ∧ ((grid0.coords t) 2).val = 0)

theorem out_eq {F : FTy → Type} [FloatOps F] [Named F] (c : Dev nD) (i : grid0.Coords) (arg3 : Memref sig .tc .vmem S1x2048x256 .f32) (harg3 : arg3.IsWhole)
    (arg4 : Memref sig .tc .vmem S1x2048x256 .f32) (harg4 : arg4.IsWhole)
    (arg5 : Memref sig .tc .vmem S1x2048x256 .f32) (harg5 : arg5.IsWhole)
    (arg6 : Memref sig .tc .vmem S1x2048x256 .f32) (harg6 : arg6.IsWhole)
    (arg7 : Memref sig .tc .vmem S1x2048x256 .bf16) (harg7 : arg7.IsWhole)
    (x0 x1 x2 x3 : FVec F S1x2048x256 .f32) :
    out0_A_4 (F := F) c i arg3 harg3 arg4 harg4 arg5 harg5 arg6 harg6 arg7 harg7 x0 x1 x2 x3 = View.canon (kernelRun0_A (F := F) c i arg3 harg3 arg4 harg4 arg5 harg5 arg6 harg6 arg7 harg7 x0 x1 x2 x3).1 := by
  unfold out0_A_4
  exact View.read_writes_eq_canon _ _ _ (cover0_A_4 (F := F) c i arg3 harg3 arg4 harg4 arg5 harg5 arg6 harg6 arg7 harg7 x0 x1 x2 x3)

section Final
variable (m : (ℓ : Loc nD τ sig) → Buf (Elt Ideal) ℓ) (c : Dev nD)

/-- The projection, as the program holds it. -/
abbrev proj : S8x2048x22528.Idx → EReal := V m c main_arg0

theorem iblk_apply0 (t : Fin cfg0.N) (r : Fin 2048) (k : Fin 256) (b : Fin 8) (hb : b.val = win0_4.index t 0)
    (col : Fin 22528) (hc : col.val = 6144 + 256 * win0_4.index t 2 + k.val) :
    (iblk m c 0 t : S1x2048x256.Idx → EReal) (ix3 (0 : Fin 1) r k) = proj m c (ix3 b r col) := by
  obtain ⟨⟨a0, a1, a2⟩, -⟩ := index_eq t
  show V m c main_arg0 (((cfg0.win 0).blk t).view.emb (ix3 (0 : Fin 1) r k)) = _
  refine congrArg (V m c main_arg0) (funext fun d => Fin.ext ?_)
  fin_cases d
  · show win0_0.index t (0 : Fin 3) * 1 + 1 * 0 = b.val; omega
  · show win0_0.index t (1 : Fin 3) * 2048 + 1 * r.val = r.val; omega
  · show win0_0.index t (2 : Fin 3) * 256 + 1 * k.val = col.val; omega

theorem iblk_apply1 (t : Fin cfg0.N) (r : Fin 2048) (k : Fin 256) (b : Fin 8) (hb : b.val = win0_4.index t 0)
    (col : Fin 22528) (hc : col.val = 7168 + 256 * win0_4.index t 2 + k.val) :
    (iblk m c 1 t : S1x2048x256.Idx → EReal) (ix3 (0 : Fin 1) r k) = proj m c (ix3 b r col) := by
  obtain ⟨-, ⟨a0, a1, a2⟩, -⟩ := index_eq t
  show V m c main_arg0 (((cfg0.win 1).blk t).view.emb (ix3 (0 : Fin 1) r k)) = _
  refine congrArg (V m c main_arg0) (funext fun d => Fin.ext ?_)
  fin_cases d
  · show win0_1.index t (0 : Fin 3) * 1 + 1 * 0 = b.val; omega
  · show win0_1.index t (1 : Fin 3) * 2048 + 1 * r.val = r.val; omega
  · show win0_1.index t (2 : Fin 3) * 256 + 1 * k.val = col.val; omega

theorem iblk_apply2 (t : Fin cfg0.N) (r : Fin 2048) (k : Fin 256) (b : Fin 8) (hb : b.val = win0_4.index t 0)
    (col : Fin 22528) (hc : col.val = 8192 + 256 * win0_4.index t 2 + k.val) :
    (iblk m c 2 t : S1x2048x256.Idx → EReal) (ix3 (0 : Fin 1) r k) = proj m c (ix3 b r col) := by
  obtain ⟨-, -, ⟨a0, a1, a2⟩, -⟩ := index_eq t
  show V m c main_arg0 (((cfg0.win 2).blk t).view.emb (ix3 (0 : Fin 1) r k)) = _
  refine congrArg (V m c main_arg0) (funext fun d => Fin.ext ?_)
  fin_cases d
  · show win0_2.index t (0 : Fin 3) * 1 + 1 * 0 = b.val; omega
  · show win0_2.index t (1 : Fin 3) * 2048 + 1 * r.val = r.val; omega
  · show win0_2.index t (2 : Fin 3) * 256 + 1 * k.val = col.val; omega

theorem iblk_apply3 (t : Fin cfg0.N) (r : Fin 2048) (k : Fin 256) (b : Fin 8) (hb : b.val = win0_4.index t 0)
    (col : Fin 22528) (hc : col.val = 9216 + 256 * win0_4.index t 2 + k.val) :
    (iblk m c 3 t : S1x2048x256.Idx → EReal) (ix3 (0 : Fin 1) r k) = proj m c (ix3 b r col) := by
  obtain ⟨-, -, -, ⟨a0, a1, a2⟩, -⟩ := index_eq t
  show V m c main_arg0 (((cfg0.win 3).blk t).view.emb (ix3 (0 : Fin 1) r k)) = _
  refine congrArg (V m c main_arg0) (funext fun d => Fin.ext ?_)
  fin_cases d
  · show win0_3.index t (0 : Fin 3) * 1 + 1 * 0 = b.val; omega
  · show win0_3.index t (1 : Fin 3) * 2048 + 1 * r.val = r.val; omega
  · show win0_3.index t (2 : Fin 3) * 256 + 1 * k.val = col.val; omega

/-- A head's row of a block is the row of the projection's columns it was cut from. -/
theorem rowAt_of (x : S1x2048x256.Idx → EReal) (P : S8x2048x22528.Idx → EReal) (o : Fin 2) (b : Fin 8) (l : Fin 128) (col : Fin 22528)
    (hx : ∀ r : Fin 2048, x (ix3 (0 : Fin 1) r ⟨128 * o.val + l.val, by omega⟩) = P (ix3 b r col)) (R : ℕ) :
    rowAt o x R l = prc P b col R := by
  unfold rowAt prc
  split
  · exact hx _
  · rfl

theorem blk3_eq (y : S1x2048x256.Idx) : y = ix3 (0 : Fin 1) (y 1) (y 2) := by
  funext a
  match a with
  | ⟨0, _⟩ => exact Subsingleton.elim (α := Fin 1) _ _
  | ⟨1, _⟩ => rfl
  | ⟨2, _⟩ => rfl

theorem real_of (x : S1x2048x256.Idx → EReal) (h : ∀ (r : Fin 2048) (k : Fin 256), x (ix3 (0 : Fin 1) r k) = ((x (ix3 (0 : Fin 1) r k)).toReal : EReal)) (y) :
    x y = ((x y).toReal : EReal) := by
  rw [blk3_eq y]
  exact h (y 1) (y 2)

/-- What point `t` leaves in its block, at a row and a column of a head. -/
theorem block_apply (hfin : ∀ (b : Fin 8) (r : Fin 2048) (col : Fin 22528), 6144 ≤ col.val → col.val < 8192 →
      proj m c (ix3 b r col) = ((proj m c (ix3 b r col)).toReal : EReal))
    (t : Fin cfg0.N) (o : Fin 2) (r : Fin 2048) (l : Fin 128) (b H : Fin 8) (hb : b.val = win0_4.index t 0)
    (hH : H.val = 2 * win0_4.index t 2 + o.val) :
    outsAt0 m c t (ix3 (0 : Fin 1) r ⟨128 * o.val + l.val, by omega⟩) = specH (proj m c) b H l r.val := by
  obtain ⟨-, -, -, -, b0, b1, b2, ht⟩ := index_eq t
  refine (congrFun (out_eq (F := Ideal) c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t)) _).trans ?_
  refine (canon_apply c (grid0.coords t) ht (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) ?_ ?_ o r l).trans ?_
  · refine real_of _ fun r k => ?_
    have e := iblk_apply0 m c t r k b hb ⟨6144 + 256 * win0_4.index t 2 + k.val, by omega⟩ rfl
    exact e.trans ((hfin _ _ _ (by show 6144 ≤ 6144 + 256 * win0_4.index t 2 + k.val; omega)
      (by show 6144 + 256 * win0_4.index t 2 + k.val < 8192; omega)).trans (congrArg (fun z : EReal => (z.toReal : EReal)) e.symm))
  · refine real_of _ fun r k => ?_
    have e := iblk_apply1 m c t r k b hb ⟨7168 + 256 * win0_4.index t 2 + k.val, by omega⟩ rfl
    exact e.trans ((hfin _ _ _ (by show 6144 ≤ 7168 + 256 * win0_4.index t 2 + k.val; omega)
      (by show 7168 + 256 * win0_4.index t 2 + k.val < 8192; omega)).trans (congrArg (fun z : EReal => (z.toReal : EReal)) e.symm))
  · have e0 : rr o (iblk m c 0 t) = fun R (k : Fin 128) => (prc (proj m c) b ⟨6144 + 128 * H.val + k.val, by omega⟩ R).toReal := by
      funext R k
      exact congrArg EReal.toReal (rowAt_of _ (proj m c) o b k _ (fun r => iblk_apply0 m c t r _ b hb _ (by
        show 6144 + 128 * H.val + k.val = 6144 + 256 * win0_4.index t 2 + (128 * o.val + k.val); omega)) R)
    have e1 : rr o (iblk m c 1 t) = fun R (k : Fin 128) => (prc (proj m c) b ⟨7168 + 128 * H.val + k.val, by omega⟩ R).toReal := by
      funext R k
      exact congrArg EReal.toReal (rowAt_of _ (proj m c) o b k _ (fun r => iblk_apply1 m c t r _ b hb _ (by
        show 7168 + 128 * H.val + k.val = 7168 + 256 * win0_4.index t 2 + (128 * o.val + k.val); omega)) R)
    have e2 : ∀ J, rowAt o (iblk m c 2 t) J l = prc (proj m c) b ⟨8192 + 128 * H.val + l.val, by omega⟩ J := fun J =>
      rowAt_of _ (proj m c) o b l _ (fun r => iblk_apply2 m c t r _ b hb _ (by
        show 8192 + 128 * H.val + l.val = 8192 + 256 * win0_4.index t 2 + (128 * o.val + l.val); omega)) J
    have e3 : ∀ J, rowAt o (iblk m c 3 t) J l = prc (proj m c) b ⟨9216 + 128 * H.val + l.val, by omega⟩ J := fun J =>
      rowAt_of _ (proj m c) o b l _ (fun r => iblk_apply3 m c t r _ b hb _ (by
        show 9216 + 128 * H.val + l.val = 9216 + 256 * win0_4.index t 2 + (128 * o.val + l.val); omega)) J
    unfold headSum specH
    rw [e0, e1, e3]
    simp only [e2]

/-- Whatever the point holds of the result, the array ends holding the attention. -/
theorem arr_eq (hfin : ∀ (b : Fin 8) (r : Fin 2048) (col : Fin 22528), 6144 ≤ col.val → col.val < 8192 →
      proj m c (ix3 b r col) = ((proj m c (ix3 b r col)).toReal : EReal)) :
    (dats m 0 c).arrAt 4 cfg0.N = spec (proj m c) := by
  refine (dats m 0 c).arrAt_eq_of_covers 4 (spec (proj m c)) (by decide +kernel) fun t hf y => ?_
  blk_simp
  rw [after0_4]
  have y2 : (y 2).val < 256 := (y 2).isLt
  have y1 : (y 1).val < 2048 := (y 1).isLt
  have y0 : (y 0).val < 1 := (y 0).isLt
  obtain ⟨-, -, -, -, b0, b1, b2, ht⟩ := index_eq t
  have f0 : (((win0_4.blk t).view.emb y) 0).val = win0_4.index t 0 := by
    show win0_4.index t (0 : Fin 3) * 1 + 1 * (y 0).val = win0_4.index t 0; omega
  have f1 : (((win0_4.blk t).view.emb y) 1).val = (y 1).val := by
    show win0_4.index t (1 : Fin 3) * 2048 + 1 * (y 1).val = (y 1).val; omega
  have f2 : (((win0_4.blk t).view.emb y) 2).val = 256 * win0_4.index t 2 + (y 2).val := by
    show win0_4.index t (2 : Fin 3) * 256 + 1 * (y 2).val = _; omega
  have e := block_apply m c hfin t ⟨(y 2).val / 128, by omega⟩ ⟨(y 1).val, y1⟩ ⟨(y 2).val % 128, Nat.mod_lt _ (by norm_num)⟩
    ⟨win0_4.index t 0, b0⟩ ⟨2 * win0_4.index t 2 + (y 2).val / 128, by omega⟩ rfl rfl
  refine Eq.trans (congrArg (outsAt0 m c t) ?_) (e.trans ?_)
  · refine (blk3_eq y).trans (congrArg (ix3 (0 : Fin 1) (⟨(y 1).val, y1⟩ : Fin 2048)) (Fin.ext ?_))
    show (y 2).val = 128 * ((y 2).val / 128) + (y 2).val % 128
    omega
  · unfold spec
    refine spec_congr (proj m c) (Fin.ext f0.symm) (Fin.ext ?_) (Fin.ext ?_) f1.symm
    · show 2 * win0_4.index t 2 + (y 2).val / 128 = (((win0_4.blk t).view.emb y) 2).val / 128
      rw [f2]; omega
    · show (y 2).val % 128 = (((win0_4.blk t).view.emb y) 2).val % 128
      rw [f2]; omega

end Final

end Cert.Sb

end
-- ==== Proof.Ref.lean ====
/-
  The stick-breaking attention as the reference computes it, value by value, down to the same formula the kernel's
  array holds.
-/
module

public import Idealize.ShloMosaic.Lib.FinSumWindow
public import proofs.«01_k».proof.Proof.Gen.ReferenceIdeal.Read
public import proofs.«01_k».proof.Proof.Array

@[expose] public section

set_option maxRecDepth 65536

noncomputable section

namespace Cert.Sb.Ref

open Cert.ReferenceIdeal Cert.ReferenceIdeal.Read
open Idealize.ShloMosaic hiding ix2 ix3 ix4
open Idealize.ShloMosaic.ValueIdx
open scoped BigOperators

/-- The softplus of a real, as the host writes it. -/
theorem host_softplus (z : ℝ) : Scalar.select (Ideal.cmp .une ((z : EReal) - 0) ((z : EReal) - 0)) ((z : EReal) + 0)
    (max (z : EReal) 0 + Ideal.log1p (Ideal.exp (-(max ((z : EReal) - 0) (-((z : EReal) - 0)))))) = ((sp z : ℝ) : EReal) := by
  have e : Ideal.cmp .une ((z : EReal) - 0) ((z : EReal) - 0) = 0#1 := by
    simp [Ideal.cmp]
  rw [e, sub_zero, abs_coe, ← EReal.coe_neg]
  show max (z : EReal) 0 + Ideal.log (1 + Ideal.exp _) = _
  rw [log_one_add_exp, ← EReal.coe_zero, coe_max, ← EReal.coe_add]
  rfl

variable (x0 : (⟨S8x2048x22528, .f32⟩ : BufTy).Contents (Elt Ideal))

theorem hundred28 : (FloatOps.ofBits .f32 0x43000000#32 : Ideal .f32) = ((128 : ℝ) : EReal) := by
  show Ideal.ofBits .f32 0x43000000#32 = _
  simp [Ideal.ofBits, Ideal.ieee, -EReal.coe_mul]; norm_num

/-- The query, key, value and gate columns, read. -/
theorem q_apply (b : Fin 8) (s : Fin 2048) (H : Fin 8) (l : Fin 128) :
    val_main_v5 (F := Ideal) x0 (ix4 b s H l) = prc x0 b ⟨6144 + 128 * H.val + l.val, by omega⟩ s.val := by
  rw [val_main_v5_apply, val_main_v1_apply, val_main_v0_apply]
  unfold prc
  rw [dif_pos s.isLt]
  refine congrArg x0 (funext fun a => Fin.ext ?_)
  match a with
  | ⟨0, _⟩ => show ((((b.val * 2048 + s.val) * 8 + H.val) * 128 + l.val) / 2097152) = b.val; omega
  | ⟨1, _⟩ => show ((((b.val * 2048 + s.val) * 8 + H.val) * 128 + l.val) / 1024 % 2048) = s.val; omega
  | ⟨2, _⟩ => show 6144 + ((((b.val * 2048 + s.val) * 8 + H.val) * 128 + l.val) % 1024) = 6144 + 128 * H.val + l.val; omega

theorem k_apply (b : Fin 8) (s : Fin 2048) (H : Fin 8) (l : Fin 128) :
    val_main_v6 (F := Ideal) x0 (ix4 b s H l) = prc x0 b ⟨7168 + 128 * H.val + l.val, by omega⟩ s.val := by
  rw [val_main_v6_apply, val_main_v2_apply, val_main_v0_apply]
  unfold prc
  rw [dif_pos s.isLt]
  refine congrArg x0 (funext fun a => Fin.ext ?_)
  match a with
  | ⟨0, _⟩ => show ((((b.val * 2048 + s.val) * 8 + H.val) * 128 + l.val) / 2097152) = b.val; omega
  | ⟨1, _⟩ => show ((((b.val * 2048 + s.val) * 8 + H.val) * 128 + l.val) / 1024 % 2048) = s.val; omega
  | ⟨2, _⟩ => show 6144 + (1024 + (((b.val * 2048 + s.val) * 8 + H.val) * 128 + l.val) % 1024) = 7168 + 128 * H.val + l.val; omega

theorem v_apply (b : Fin 8) (s : Fin 2048) (H : Fin 8) (l : Fin 128) :
    val_main_v7 (F := Ideal) x0 (ix4 b s H l) = prc x0 b ⟨8192 + 128 * H.val + l.val, by omega⟩ s.val := by
  rw [val_main_v7_apply, val_main_v3_apply, val_main_v0_apply]
  unfold prc
  rw [dif_pos s.isLt]
  refine congrArg x0 (funext fun a => Fin.ext ?_)
  match a with
  | ⟨0, _⟩ => show ((((b.val * 2048 + s.val) * 8 + H.val) * 128 + l.val) / 2097152) = b.val; omega
  | ⟨1, _⟩ => show ((((b.val * 2048 + s.val) * 8 + H.val) * 128 + l.val) / 1024 % 2048) = s.val; omega
  | ⟨2, _⟩ => show 6144 + (2048 + (((b.val * 2048 + s.val) * 8 + H.val) * 128 + l.val) % 1024) = 8192 + 128 * H.val + l.val; omega

theorem g_apply (y : S8x2048x1024.Idx) (h) :
    val_main_v4 (F := Ideal) x0 y = prc x0 (y 0) ⟨9216 + (y 2).val, h⟩ (y 1).val := by
  rw [val_main_v4_apply, val_main_v0_apply]
  unfold prc
  rw [dif_pos (show (y 1).val < 2048 from (y 1).isLt)]
  refine congrArg x0 (funext fun a => Fin.ext ?_)
  match a with
  | ⟨0, _⟩ => rfl
  | ⟨1, _⟩ => rfl
  | ⟨2, _⟩ => show 6144 + (3072 + (y 2).val) = 9216 + (y 2).val; omega

/-- The causal mask. -/
theorem mask_apply (R J : Fin 2048) : val_main_v19 (F := Ideal) (ix2 R J) = if J.val < R.val then 1#1 else 0#1 := by
  have hR := R.isLt
  have hJ := J.isLt
  rw [val_main_v19_apply, val_main_v17_apply, val_main_v18_apply, val_main_v15_apply, val_main_v16_apply, val_main_v8_apply, val_main_v9_apply]
  show IntOp.cmpi .slt (BitVec.ofNat 32 J.val) (BitVec.ofNat 32 R.val) = _
  have e : ∀ a, a < 2048 → (BitVec.ofNat 32 a).toNat = a := fun a ha => by
    rw [BitVec.toNat_ofNat]; exact Nat.mod_eq_of_lt (by omega)
  rw [WordCmp.cmpi_slt_of_lt (by rw [e _ (by omega)]; norm_num; omega) (by rw [e _ (by omega)]; norm_num; omega), e _ (by omega), e _ (by omega)]
  by_cases h : J.val < R.val <;> simp [h]

theorem idx2_eq {a b : ℕ} (i : (⟨2, ![a, b]⟩ : Shape).Idx) (x : Fin a) (y : Fin b) (hx : i 0 = x) (hy : i 1 = y) : i = ix2 x y := by
  funext d
  match d with
  | ⟨0, _⟩ => exact hx
  | ⟨1, _⟩ => exact hy

/-- Folding an addition is adding the sum. -/
theorem foldl_add {α : Type*} (f : α → EReal) (L : List α) (v : EReal) : L.foldl (fun r n => r + f n) v = v + (L.map f).sum := by
  induction L generalizing v with
  | nil => simp
  | cons a L ih => rw [List.foldl_cons, ih, List.map_cons, List.sum_cons, add_assoc]

theorem fold_sum {n : ℕ} {ι : Type*} [Fintype ι] (e : Fin n ≃ ι) (F : EReal → Fin n → EReal) (T : ι → EReal) (hF : ∀ r k, F r k = r + T (e k)) :
    (List.finRange n).foldl F 0 = ∑ i, T i := by
  rw [show F = fun r k => r + T (e k) from funext fun r => funext fun k => hF r k, foldl_add, zero_add, ← Fin.sum_univ_def, Equiv.sum_comp e T]

/-- The positions of a window of one row are that row's. -/
def windowRow (N : ℕ) : (⟨4, ![1, 1, 1, N]⟩ : Shape).Idx ≃ Fin N where
  toFun i := i 3
  invFun w := ix4 (0 : Fin 1) (0 : Fin 1) (0 : Fin 1) w
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv w := rfl

theorem window_term {A B M N : ℕ} (x : (⟨4, ![A, B, M, N]⟩ : Shape).Idx → EReal) (b : Fin A) (H : Fin B) (R : Fin M) (J : Fin N) (g : ℕ → ℝ)
    (hx : ∀ j : Fin N, x (ix4 b H R j) = (g j.val : EReal)) (w : (⟨4, ![1, 1, 1, N]⟩ : Shape).Idx)
    (dec : Decidable (∀ a : Fin 4, (![0, 0, 0, 0] : Fin 4 → ℕ) a ≤ (ix4 b H R J a).val * (![1, 1, 1, 1] : Fin 4 → ℕ) a + (w a).val
        ∧ (ix4 b H R J a).val * (![1, 1, 1, 1] : Fin 4 → ℕ) a + (w a).val - (![0, 0, 0, 0] : Fin 4 → ℕ) a < (![A, B, M, N] : Fin 4 → ℕ) a)) :
    @dite EReal (∀ a : Fin 4, (![0, 0, 0, 0] : Fin 4 → ℕ) a ≤ (ix4 b H R J a).val * (![1, 1, 1, 1] : Fin 4 → ℕ) a + (w a).val
        ∧ (ix4 b H R J a).val * (![1, 1, 1, 1] : Fin 4 → ℕ) a + (w a).val - (![0, 0, 0, 0] : Fin 4 → ℕ) a < (![A, B, M, N] : Fin 4 → ℕ) a) dec
      (fun hin => x (fun a => ⟨(ix4 b H R J a).val * (![1, 1, 1, 1] : Fin 4 → ℕ) a + (w a).val - (![0, 0, 0, 0] : Fin 4 → ℕ) a, (hin a).2⟩)) (fun _ => 0)
      = if J.val + (w 3).val < N then (g (J.val + (w 3).val) : EReal) else 0 := by
  have hJ := J.isLt
  have hR := R.isLt
  have hH := H.isLt
  have hb := b.isLt
  have w0 : (w 0).val < 1 := (w 0).isLt
  have w1 : (w 1).val < 1 := (w 1).isLt
  have w2 : (w 2).val < 1 := (w 2).isLt
  split
  · next hin =>
    have h3 : 0 ≤ J.val * 1 + (w 3).val ∧ J.val * 1 + (w 3).val - 0 < N := hin 3
    rw [if_pos (by omega)]
    refine Eq.trans (congrArg x ?_) (hx ⟨J.val + (w 3).val, by omega⟩)
    funext a
    refine Fin.ext ?_
    match a with
    | ⟨0, _⟩ => show b.val * 1 + (w 0).val - 0 = b.val; omega
    | ⟨1, _⟩ => show H.val * 1 + (w 1).val - 0 = H.val; omega
    | ⟨2, _⟩ => show R.val * 1 + (w 2).val - 0 = R.val; omega
    | ⟨3, _⟩ => show J.val * 1 + (w 3).val - 0 = J.val + (w 3).val; omega
  · next hin =>
    refine (if_neg fun hle => hin fun a => ?_).symm
    match a with
    | ⟨0, _⟩ => show 0 ≤ b.val * 1 + (w 0).val ∧ b.val * 1 + (w 0).val - 0 < A; omega
    | ⟨1, _⟩ => show 0 ≤ H.val * 1 + (w 1).val ∧ H.val * 1 + (w 1).val - 0 < B; omega
    | ⟨2, _⟩ => show 0 ≤ R.val * 1 + (w 2).val ∧ R.val * 1 + (w 2).val - 0 < M; omega
    | ⟨3, _⟩ => show 0 ≤ J.val * 1 + (w 3).val ∧ J.val * 1 + (w 3).val - 0 < N; omega

/-- The window sum padded past the row's end is the sum from the position on. -/
theorem cumsum_apply {A B M N P : ℕ} (x : (⟨4, ![A, B, M, N]⟩ : Shape).Idx → EReal) (init : (⟨0, ![]⟩ : Shape).Idx → EReal) (hinit : ∀ i, init i = 0)
    (h : (⟨4, ![A, B, M, N]⟩ : Shape).ReduceWindows ![1, 1, 1, N] ![1, 1, 1, 1] ![0, 0, 0, 0] ![0, 0, 0, P] ⟨4, ![A, B, M, N]⟩) (hu : 0 < (⟨0, ![]⟩ : Shape).numel)
    (b : Fin A) (H : Fin B) (R : Fin M) (J : Fin N) (g : ℕ → ℝ) (hx : ∀ j : Fin N, x (ix4 b H R j) = (g j.val : EReal)) :
    Host.reduceWindowAdd (F := Ideal) (φ := .f32) ![1, 1, 1, N] ![1, 1, 1, 1] ![0, 0, 0, 0] ![0, 0, 0, P] x init h hu (ix4 b H R J)
      = ((∑ j ∈ Finset.Ico J.val N, g j : ℝ) : EReal) := by
  have hJ := J.isLt
  have hR := R.isLt
  have hH := H.isLt
  have hb := b.isLt
  show Host.reduceWindow (· + ·) _ _ _ _ _ (fun _ : (⟨0, ![]⟩ : Shape).Idx => init (Shape.Idx.first hu)) h hu (ix4 b H R J) = _
  rw [hinit]
  refine (fold_sum (Shape.rowMajor ⟨4, ![1, 1, 1, N]⟩).symm _ (fun i => if J.val + (i 3).val < N then (g (J.val + (i 3).val) : EReal) else 0) fun r n => ?_).trans ?_
  · exact congrArg (r + ·) (window_term x b H R J g hx _ _)
  · rw [← Equiv.sum_comp (windowRow N).symm, coe_sum, Finset.sum_Ico_eq_sum_range]
    show ∑ w : Fin N, (if J.val + w.val < N then (g (J.val + w.val) : EReal) else 0) = _
    rw [Fin.sum_univ_eq_sum_range (fun w => if J.val + w < N then (g (J.val + w) : EReal) else 0) N]
    refine (Finset.sum_subset (Finset.range_mono (Nat.sub_le N J.val)) fun w _ hw => if_neg ?_).symm.trans
      (Finset.sum_congr rfl fun w hw => if_pos ?_)
    · rw [Finset.mem_range] at hw; omega
    · rw [Finset.mem_range] at hw; omega

/-- The queries and keys of a head, as reals. -/
abbrev qr (b H : Fin 8) : ℕ → Fin 128 → ℝ := fun R k => (prc x0 b ⟨6144 + 128 * H.val + k.val, by omega⟩ R).toReal
abbrev kr (b H : Fin 8) : ℕ → Fin 128 → ℝ := fun R k => (prc x0 b ⟨7168 + 128 * H.val + k.val, by omega⟩ R).toReal

variable (hfin : ∀ (b : Fin 8) (r : Fin 2048) (col : Fin 22528), 6144 ≤ col.val → col.val < 8192 → x0 (ix3 b r col) = ((x0 (ix3 b r col)).toReal : EReal))
include hfin

theorem prc_real (b : Fin 8) (col : Fin 22528) (h1 : 6144 ≤ col.val) (h2 : col.val < 8192) (R : ℕ) :
    prc x0 b col R = ((prc x0 b col R).toReal : EReal) := by
  unfold prc
  split
  · exact hfin _ _ _ h1 h2
  · simp

/-- The scores. -/
theorem z_apply (b H : Fin 8) (R J : Fin 2048) :
    val_main_v14 (F := Ideal) x0 (ix4 b H R J) = ((score (qr x0 b H) (kr x0 b H) R.val J.val : ℝ) : EReal) := by
  rw [val_main_v14_apply, val_main_v10_apply, val_main_v13_apply, val_main_v12_apply, val_main_v11_apply, val_main_cst_apply, val_main_cst_0_apply]
  rw [hundred28, Ideal.hostUnary_sqrt_def, Ideal.sqrt_coe, if_neg (by norm_num), Ideal.hostDivf_def, Ideal.div_coe (by positivity), Ideal.mulf_def]
  have h1 : (FloatOps.ofBits .f32 0x3F800000#32 : Ideal .f32) = (1 : EReal) := Ideal.ofBits_one_f32
  rw [h1, one_mul, one_div]
  unfold score
  rw [EReal.coe_mul, coe_sum]
  congr 1
  refine Finset.sum_congr rfl fun l _ => ?_
  rw [EReal.coe_mul]
  refine congrArg₂ (· * ·) ?_ ?_
  · refine Eq.trans (congrArg (val_main_v5 (F := Ideal) x0) ?_) ((q_apply x0 b R H l).trans (prc_real x0 hfin b _ (by show 6144 ≤ 6144 + 128 * H.val + l.val; omega) (by show 6144 + 128 * H.val + l.val < 8192; omega) _))
    funext a
    match a with
    | ⟨0, _⟩ => rfl
    | ⟨1, _⟩ => rfl
    | ⟨2, _⟩ => rfl
    | ⟨3, _⟩ => rfl
  · refine Eq.trans (congrArg (val_main_v6 (F := Ideal) x0) ?_) ((k_apply x0 b J H l).trans (prc_real x0 hfin b _ (by show 6144 ≤ 7168 + 128 * H.val + l.val; omega) (by show 7168 + 128 * H.val + l.val < 8192; omega) _))
    funext a
    match a with
    | ⟨0, _⟩ => rfl
    | ⟨1, _⟩ => rfl
    | ⟨2, _⟩ => rfl
    | ⟨3, _⟩ => rfl

/-- The logarithm of the sigmoid of a score. -/
theorem logbeta_apply (b H : Fin 8) (R J : Fin 2048) (z : ℝ) (hz : val_main_v14 (F := Ideal) x0 (ix4 b H R J) = (z : EReal)) :
    val_main_v20 (F := Ideal) x0 (ix4 b H R J) = ((z - sp z : ℝ) : EReal) := by
  simp only [val_main_v20_apply, val_main_call0_v1_apply, val_main_call0_call0_v4_apply, val_main_call0_call0_v6_apply, val_main_call0_call0_v11_apply,
    val_main_call0_call0_v10_apply, val_main_call0_call0_v9_apply, val_main_call0_call0_v8_apply, val_main_call0_call0_v7_apply, val_main_call0_call0_v5_apply,
    val_main_call0_call0_v3_apply, val_main_call0_call0_v2_apply, val_main_call0_call0_v1_apply, val_main_call0_call0_v0_apply, val_main_call0_call0_cst_apply,
    val_main_call0_v0_apply, hz]
  have h0 : (FloatOps.ofBits .f32 0x00000000#32 : Ideal .f32) = (0 : EReal) := Ideal.ofBits_zero_f32
  rw [h0]
  rw [← neg_sp_neg, EReal.coe_neg, ← host_softplus, EReal.coe_neg]
  rfl

/-- The logarithm of the sigmoid of a negated score. -/
theorem logfail_apply (b H : Fin 8) (R J : Fin 2048) (z : ℝ) (hz : val_main_v14 (F := Ideal) x0 (ix4 b H R J) = (z : EReal)) :
    val_main_v22 (F := Ideal) x0 (ix4 b H R J) = ((-sp z : ℝ) : EReal) := by
  simp only [val_main_v22_apply, val_main_call1_v1_apply, val_main_call1_call0_v4_apply, val_main_call1_call0_v6_apply, val_main_call1_call0_v11_apply,
    val_main_call1_call0_v10_apply, val_main_call1_call0_v9_apply, val_main_call1_call0_v8_apply, val_main_call1_call0_v7_apply, val_main_call1_call0_v5_apply,
    val_main_call1_call0_v3_apply, val_main_call1_call0_v2_apply, val_main_call1_call0_v1_apply, val_main_call1_call0_v0_apply, val_main_call1_call0_cst_apply,
    val_main_call1_v0_apply, val_main_v21_apply, hz]
  have h0 : (FloatOps.ofBits .f32 0x00000000#32 : Ideal .f32) = (0 : EReal) := Ideal.ofBits_zero_f32
  have hn : (FloatOps.hostNegf (F := Ideal) (φ := .f32) (FloatOps.hostNegf (F := Ideal) (φ := .f32) (z : EReal))) = (z : EReal) := neg_neg (z : EReal)
  rw [h0, hn, EReal.coe_neg, ← host_softplus]
  rfl

theorem masked_apply (b H : Fin 8) (R J : Fin 2048) :
    val_main_v23 (F := Ideal) x0 (ix4 b H R J) = ((-fl (score (qr x0 b H) (kr x0 b H) R.val) R.val J.val : ℝ) : EReal) := by
  rw [val_main_v23_apply, val_main_call2_v1_apply, val_main_call2_v2_apply, val_main_call2_v0_apply, val_main_cst_1_apply,
    logfail_apply x0 hfin b H R J _ (z_apply x0 hfin b H R J),
    show idx_main_call2_v1 (ix4 b H R J) = ix2 R J from idx2_eq _ _ _ rfl rfl, mask_apply]
  have h0 : (FloatOps.ofBits .f32 0x00000000#32 : Ideal .f32) = (0 : EReal) := Ideal.ofBits_zero_f32
  unfold fl
  split
  · rfl
  · rw [neg_zero]; exact h0

/-- What is summed after a key. -/
theorem later_apply (b H : Fin 8) (R J : Fin 2048) :
    val_main_v24 (F := Ideal) x0 (ix4 b H R J) = ((-tl (score (qr x0 b H) (kr x0 b H) R.val) R.val J.val : ℝ) : EReal) := by
  refine (cumsum_apply (val_main_v23 (F := Ideal) x0) (val_main_call3_v0 (F := Ideal)) (fun i => ?_) _ _ b H R J
    (fun j => -fl (score (qr x0 b H) (kr x0 b H) R.val) R.val j) (masked_apply x0 hfin b H R)).trans ?_
  · rw [val_main_call3_v0_apply, val_main_call3_cst_apply]
    exact Ideal.ofBits_zero_f32
  · unfold tl
    rw [Finset.sum_neg_distrib]

/-- The weights. -/
theorem weight_apply (b H : Fin 8) (R J : Fin 2048) :
    val_main_v28 (F := Ideal) x0 (ix4 b H R J) = wt (score (qr x0 b H) (kr x0 b H) R.val) R.val J.val := by
  rw [val_main_v28_apply, val_main_call4_v1_apply, val_main_call4_v2_apply, val_main_call4_v0_apply, val_main_cst_2_apply, val_main_v27_apply,
    val_main_v26_apply, val_main_v25_apply, later_apply x0 hfin, masked_apply x0 hfin, logbeta_apply x0 hfin b H R J _ (z_apply x0 hfin b H R J),
    show idx_main_call4_v1 (ix4 b H R J) = ix2 R J from idx2_eq _ _ _ rfl rfl, mask_apply]
  have h0 : (FloatOps.ofBits .f32 0x00000000#32 : Ideal .f32) = (0 : EReal) := Ideal.ofBits_zero_f32
  unfold wt
  split
  · next hlt =>
    rw [Ideal.subf_def, Ideal.addf_def, Ideal.hostUnary_exp_def, ← EReal.coe_sub, ← EReal.coe_add, Ideal.exp_coe]
    unfold fl
    rw [if_pos hlt]
    show ((_ : ℝ) : EReal) = _
    congr 2
    ring
  · exact h0

/-- The result. -/
theorem ref_apply : val_main_v34 (F := Ideal) x0 = spec x0 := by
  funext y
  have h0 : (y 0).val < 8 := (y 0).isLt
  have h1 : (y 1).val < 2048 := (y 1).isLt
  have h2 : (y 2).val < 1024 := (y 2).isLt
  have hg := g_apply x0 y (by omega)
  rw [val_main_v34_apply, Ideal.truncf_def, val_main_v33_apply, val_main_v32_apply, val_main_call5_v5_apply, val_main_call5_v4_apply, val_main_call5_v3_apply,
    val_main_call5_v2_apply, val_main_call5_v1_apply, val_main_call5_v0_apply, val_main_call5_cst_apply, val_main_call5_cst_0_apply, hg]
  have e1 : (FloatOps.ofBits .f32 0x3F800000#32 : Ideal .f32) = (1 : EReal) := Ideal.ofBits_one_f32
  rw [e1]
  unfold spec specH gated
  refine congrArg₂ (· * ·) ?_ ?_
  · rw [val_main_v31_apply, val_main_v30_apply, val_main_v29_apply,
      ← Fin.sum_univ_eq_sum_range (fun J => wt (score (fun R k => (prc x0 (y 0) ⟨6144 + 128 * ((y 2).val / 128) + k.val, by omega⟩ R).toReal)
        (fun R k => (prc x0 (y 0) ⟨7168 + 128 * ((y 2).val / 128) + k.val, by omega⟩ R).toReal) (y 1).val) (y 1).val J
        * prc x0 (y 0) ⟨8192 + 128 * ((y 2).val / 128) + (y 2).val % 128, by omega⟩ J) 2048]
    refine Finset.sum_congr rfl fun J _ => ?_
    rw [mul_comm]
    have w := weight_apply x0 hfin (y 0) ⟨(y 2).val / 128, by omega⟩ (y 1) J
    have v := v_apply x0 (y 0) J ⟨(y 2).val / 128, by omega⟩ ⟨(y 2).val % 128, by omega⟩
    refine congrArg₂ (· * ·) (Eq.trans (congrArg (val_main_v28 (F := Ideal) x0) ?_) w) (Eq.trans (congrArg (val_main_v7 (F := Ideal) x0) ?_) v)
    · funext a
      refine Fin.ext ?_
      match a with
      | ⟨0, _⟩ => show (((y 0).val * 2048 + (y 1).val) * 1024 + (y 2).val) / 2097152 = (y 0).val; omega
      | ⟨1, _⟩ => show (((y 0).val * 2048 + (y 1).val) * 1024 + (y 2).val) / 128 % 8 = (y 2).val / 128; omega
      | ⟨2, _⟩ => show (((y 0).val * 2048 + (y 1).val) * 1024 + (y 2).val) / 1024 % 2048 = (y 1).val; omega
      | ⟨3, _⟩ => rfl
    · funext a
      refine Fin.ext ?_
      match a with
      | ⟨0, _⟩ => show (((y 0).val * 2048 + (y 1).val) * 1024 + (y 2).val) / 2097152 = (y 0).val; omega
      | ⟨1, _⟩ => rfl
      | ⟨2, _⟩ => show (((y 0).val * 2048 + (y 1).val) * 1024 + (y 2).val) / 128 % 8 = (y 2).val / 128; omega
      | ⟨3, _⟩ => show (((y 0).val * 2048 + (y 1).val) * 1024 + (y 2).val) % 128 = (y 2).val % 128; omega
  · have e : (⟨9216 + (y 2).val, by omega⟩ : Fin 22528) = ⟨9216 + 128 * ((y 2).val / 128) + (y 2).val % 128, by omega⟩ := Fin.ext (by
      show 9216 + (y 2).val = 9216 + 128 * ((y 2).val / 128) + (y 2).val % 128; omega)
    rw [e]
    rfl

end Cert.Sb.Ref

end
-- ==== Proof.Frames.lean ====
/-
  The claims that hold without the value: both prints of the kernel run and end quiescent (their generated frames), the
  plain reference runs (its generated run; a host program holds no semaphore), and the one kind of ledger entry, the
  scale literal named `(√128)⁻¹`.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_qk
public import Idealize.ShloMosaic.Lib.Quiescent

@[expose] public section

noncomputable section

open Idealize.ShloMosaic Idealize.ShloMosaic.TcCoe Idealize.SL.Sem

namespace Cert.Proof.SbClaims

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_pi_pre :
    letI := Cert.KernelIdeal.Gen.facts; letI := Cert.Pre_finite_qk.Gen.facts
    Cert.quiescent_KernelIdeal_pre_finite_qk := fun m ρ _ => Cert.KernelIdeal.Gen.frame m ρ
theorem frame_ri_pre :
    letI := Cert.ReferenceIdeal.Gen.facts; letI := Cert.Pre_finite_qk.Gen.facts
    Cert.quiescent_ReferenceIdeal_pre_finite_qk := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Every entry of the ledger names the same literal, so one statement covers them all. -/
theorem preserves : Cert.preserves_Kernel_KernelIdeal :=
  IdealRules.named_const.statement Cert.KernelIdeal.κ "inv_sqrt_d" .f32 0x3DB504F3#32 (((Real.sqrt 128)⁻¹ : ℝ) : EReal) rfl

end Cert.Proof.SbClaims

end
-- ==== Proof.Assemble.lean ====
/-
  What the precondition says of the projection, and the claim that both programs leave the same array.
-/
module

public import Idealize.ShloMosaic.Lib.ReduceAll
public import proofs.«01_k».proof.Proof.Ref
public import proofs.«01_k».proof.Proof.Frames
public import proofs.«01_k».proof.Proof.Gen.KernelIdeal.Value
public import proofs.«01_k».proof.Proof.Gen.Pre_finite_qk

@[expose] public section

noncomputable section

open Idealize.ShloMosaic hiding ix0 ix2 ix3 ix4
open Idealize.ShloMosaic.ValueIdx Idealize.ShloMosaic.TcCoe Idealize.SL.Sem

namespace Cert.Proof.SbClaims

open Cert.Sb

theorem infinity_word : (Ideal.ofBits .f32 0x7F800000#32 : EReal) = ⊤ := by
  simp [Ideal.ofBits, Ideal.ieee]

/-- A magnitude below infinity is a real's. -/
theorem real_of_lt (x : EReal) (h : Ideal.cmp .olt (max x (-x)) ⊤ = 1#1) : x = (x.toReal : EReal) := by
  have hlt : max x (-x) < ⊤ := by
    by_contra hn
    have : Ideal.cmp .olt (max x (-x)) ⊤ = 0#1 := by simp [Ideal.cmp, hn]
    rw [this] at h
    exact absurd h (by decide)
  refine (EReal.coe_toReal (ne_of_lt (lt_of_le_of_lt (le_max_left _ _) hlt)) ?_).symm
  rintro rfl
  have := lt_of_le_of_lt (le_max_right (⊥ : EReal) (-⊥)) hlt
  simp at this

/-- The precondition, read: the queries and keys are real. -/
theorem finite_of (P : FVec Ideal Cert.Pre_finite_qk.S8x2048x22528 .f32)
    (h : letI := Cert.Pre_finite_qk.Gen.facts; Cert.Pre_finite_qk.fn (F := Ideal) P = fun _ => 1#1)
    (b : Fin 8) (r : Fin 2048) (col : Fin 22528) (h1 : 6144 ≤ col.val) (h2 : col.val < 8192) :
    P (ix3 b r col) = ((P (ix3 b r col)).toReal : EReal) := by
  letI := Cert.Pre_finite_qk.Gen.facts
  have e := congrFun h ix0
  unfold Cert.Pre_finite_qk.fn at e
  dsimp only at e
  haveI : Subsingleton Cert.Pre_finite_qk.S_.Idx := ⟨fun a b => funext fun d => d.elim0⟩
  have e2 := Host.reduce_andi_all _ _ _ _ _ e (ix3 b r (⟨col.val - 6144, by omega⟩ : Fin 2048))
  rw [cmpf_apply] at e2
  refine real_of_lt _ ?_
  rw [← infinity_word]
  refine Eq.trans ?_ e2
  refine congrArg₂ (Ideal.cmp .olt) ?_ ?_
  · show max (P (ix3 b r col)) (-(P (ix3 b r col))) = max (extractStridedSlice _ _ P _ _) (-(extractStridedSlice _ _ P _ _))
    rw [extractStridedSlice_apply ![0, 0, 6144] P _ (ix3 b r (⟨col.val - 6144, by omega⟩ : Fin 2048)) (ix3 b r col) (fun a => match a with
      | ⟨0, _⟩ => (Nat.zero_add _).symm
      | ⟨1, _⟩ => (Nat.zero_add _).symm
      | ⟨2, _⟩ => by show col.val = 6144 + (col.val - 6144); omega)]
  · have hc : (constant Cert.Pre_finite_qk.S_ .f32 0x7F800000#32 : FVec Ideal Cert.Pre_finite_qk.S_ .f32) ix0 = Ideal.ofBits .f32 0x7F800000#32 := rfl
    rw [← hc]
    exact (broadcastInDim_apply _ _ _ _ ix0 (fun a => a.elim0)).symm

/-- Both programs leave the masked stick-breaking attention. -/
theorem algebraic :
    letI := Cert.KernelIdeal.Gen.facts; letI := Cert.ReferenceIdeal.Gen.facts; letI := Cert.Pre_finite_qk.Gen.facts
    Cert.algebraic_KernelIdeal_ReferenceIdeal_pre_finite_qk := by
  intro m ρ m' ρ' hpre hag
  refine ⟨fun c => spec (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩) (Cert.KernelIdeal.Value.run_blocks (F := Ideal) m ρ)
    exact arr_eq m c (finite_of _ (hpre c))
  · refine (θ_run Cert.ReferenceIdeal.defs _ _).mono (fun r h c => ⟨(h c).1.trans ?_, (h c).2⟩) (Cert.ReferenceIdeal.Value.run (F := Ideal) m' ρ')
    rw [Cert.ReferenceIdeal.Read.val_main_v34_eq, hag c]
    exact Ref.ref_apply _ (finite_of _ (hpre c))

end Cert.Proof.SbClaims

end
-- ==== Proof.InProjRun.lean ====
/-
  The projection's program to its last state: after its two kernels and the host lines around them, every array it keeps
  holds what the chain of stages says.
-/
module

public import proofs.«01_k».proof.Proof.Gen.InProjIdeal.Frame

@[expose] public section

set_option maxRecDepth 16384

noncomputable section

namespace Cert.InProjIdeal.Stage

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the launch no stage has run: the pools are as allocated and nothing is owed to any device. -/
theorem pools : (ownU (initOf (Pipeline.cells cfgs cellOf_inj) (Pipeline.launchToks cfgs cellOf_inj)) : sProp 𝕄)
    ⊢ |={Set.univ}=> (BI.own (emb₁ (initOf (Pipeline.cells cfgs cellOf_inj) (Pipeline.launchToks cfgs cellOf_inj)))
        ∗ bigSep Finset.univ (fun _ : Dev nD => (BI.emp : sProp 𝕄))) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iempintro

theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) := by
  refine Pipeline.θ_run_regions_kit_sems (pcfgs (F := F)) adm (pdats m ρ) () cellOf_inj emb₁ defs₀ 𝒱₀ L lv m ρ main (segs m ρ)
    (fun c Q => by rw [main_run m ρ c]) ?_ (O₀ := 0) (hL := fun _ _ => rfl) (G := fun _ => iprop(emp))
    (u₀ := initOf (Pipeline.cells cfgs cellOf_inj) (Pipeline.launchToks cfgs cellOf_inj)) (hu₀ := pools)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => ?_⟩) (hinit := ?_)
    (QY := fun c s => ∀ b ∈ Pipeline.ucRefs τ sig, s.mem (((c : Thread nD τ)).1, b) = W4 m ρ c b)
    (hfin := fun c s' => ?_) (hQ := fun s h _ c => h c)
  · simp only [segs, Pipeline.Seg.pipes_host, Pipeline.Seg.pipes_region, Pipeline.Seg.pipes_nil]
    decide
  · dsimp only [Pipeline.Seg.post, hseg, Pipeline.HostSeg.ofOps]
    iintro ⟨Ha, Hr, Ho⟩
    isplitl [Ha Hr]
    · isplitl [Ha]
      · iexact Ha
      · iexact Hr
    · iexact Ho
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Ha, -, Ho, -, Hr, -⟩, -⟩
    imodintro
    isplitl [Ha]
    · iexact Ha
    · isplitl [Hr]
      · iexists _
        iexact Hr
      · iexists ∅
        iexact Ho
  · iintro ⟨⟨Ha, -⟩, Hs⟩
    unfold StableHlo.held
    imodintro
    iapply (pointsTo_read_all (Pipeline.ucRefs τ sig) (fun b => (((c : Thread nD τ)).1, b)) (W4 m ρ c) s')
    isplitl [Ha] <;> iassumption

end Cert.InProjIdeal.Stage

end
-- ==== Proof.Dense.lean ====
/-
  The block computations of the dense calls, read at an index, at any extents: a block product into zeros, and a row scaled by
  the reciprocal root of its mean square.
-/
module

public import Idealize.ShloMosaic.Lib.MatmulPlain
public import Idealize.ShloMosaic.Lib.Pipeline.ValueKit.Geometry

@[expose] public section

noncomputable section

namespace Cert.Dense

open Idealize.ShloMosaic
open Idealize.ShloMosaic.ValueIdx
open scoped BigOperators

variable {M K N : ℕ}

/-- A block times a slab of stacked weights, into zeros: the sum over the contracted axis. -/
theorem slab_apply {φ₁ φ₂ : FTy} (a : FVec Ideal ⟨2, ![M, K]⟩ φ₁) (w : FVec Ideal ⟨3, ![1, K, N]⟩ φ₂)
    (hw : Shape.ShapeCasts ⟨3, ![1, K, N]⟩ ⟨2, ![K, N]⟩) (i : Fin M) (j : Fin N) :
    (matmul (DotDims.plain M K N) none a (shapeCast ⟨2, ![K, N]⟩ w hw)
      (constant ⟨2, ![M, N]⟩ .f32 0x00000000#32) : FVec Ideal ⟨2, ![M, N]⟩ .f32) (ix2 i j) = ∑ k : Fin K, a (ix2 i k) * w (ix3 (0 : Fin 1) k j) := by
  refine (Ideal.matmul_plain_apply _ _ _ _ i j).trans ?_
  rw [show (constant ⟨2, ![M, N]⟩ .f32 0x00000000#32 : FVec Ideal ⟨2, ![M, N]⟩ .f32) (ix2 i j) = 0 from Ideal.ofBits_zero_f32, zero_add]
  refine Finset.sum_congr rfl fun k _ => congrArg (a (ix2 i k) * ·) ?_
  refine (shapeCast_dropUnit_apply ![K, N] w hw (ix2 k j)).trans (congrArg w (funext fun d => Fin.ext ?_))
  match d with
  | ⟨0, _⟩ => rfl
  | ⟨1, _⟩ => rfl
  | ⟨2, _⟩ => rfl

/-- The same with the block recast to its own shape. -/
theorem product_apply {φ₁ φ₂ : FTy} (a : FVec Ideal ⟨2, ![M, K]⟩ φ₁) (w : FVec Ideal ⟨3, ![1, K, N]⟩ φ₂)
    (ha : Shape.ShapeCasts ⟨2, ![M, K]⟩ ⟨2, ![M, K]⟩) (hw : Shape.ShapeCasts ⟨3, ![1, K, N]⟩ ⟨2, ![K, N]⟩) (i : Fin M) (j : Fin N) :
    (matmul (DotDims.plain M K N) none (shapeCast ⟨2, ![M, K]⟩ a ha) (shapeCast ⟨2, ![K, N]⟩ w hw)
      (constant ⟨2, ![M, N]⟩ .f32 0x00000000#32) : FVec Ideal ⟨2, ![M, N]⟩ .f32) (ix2 i j) = ∑ k : Fin K, a (ix2 i k) * w (ix3 (0 : Fin 1) k j) := by
  rw [shapeCast_self]
  exact slab_apply a w hw i j

/-- The logistic gate of a block, its bias one row. -/
theorem gate_apply (g : FVec Ideal ⟨2, ![M, N]⟩ .f32) (b : FVec Ideal ⟨2, ![1, N]⟩ .f32) (hc : Shape.ShapeCasts ⟨2, ![1, N]⟩ ⟨2, ![1, N]⟩)
    (hb : Shape.Broadcasts ⟨2, ![1, N]⟩ ⟨2, ![M, N]⟩) (i : Fin M) (j : Fin N) :
    (logistic (addf g (broadcastTo ⟨2, ![M, N]⟩ (shapeCast ⟨2, ![1, N]⟩ b hc) hb)) : FVec Ideal ⟨2, ![M, N]⟩ .f32) (ix2 i j)
      = Ideal.logistic (g (ix2 i j) + b (ix2 (0 : Fin 1) j)) := by
  rw [shapeCast_self]
  refine congrArg (fun z => Ideal.logistic (g (ix2 i j) + z)) (broadcastTo_apply _ hb (ix2 i j) (ix2 (0 : Fin 1) j) ?_)
  intro a
  match a with
  | ⟨0, _⟩ => show 0 = if (1 : ℕ) = 1 then 0 else i.val; rw [if_pos rfl]
  | ⟨1, _⟩ => show j.val = if N = 1 then 0 else j.val; have := j.isLt; split <;> omega

/-- Rows of a batched array, laid end to end. -/
theorem flat_apply {A B C : ℕ} {α : Type} (v : (⟨3, ![A, B, N]⟩ : Shape).Idx → α) (h : Shape.ShapeCasts ⟨3, ![A, B, N]⟩ ⟨2, ![C, N]⟩)
    (b : Fin A) (t : Fin B) (r : Fin C) (hr : r.val = B * b.val + t.val) (j : Fin N) :
    shapeCast ⟨2, ![C, N]⟩ v h (ix2 r j) = v (ix3 b t j) := by
  refine shapeCast_apply _ _ _ _ ?_
  rw [Shape.rowMajor_val_two, Shape.rowMajor_val_three]
  show (b.val * B + t.val) * N + j.val = r.val * N + j.val
  rw [hr, Nat.mul_comm B]

/-- One entry of a row scaled by the reciprocal root of the row's mean square (a constant added), and by its gain. -/
def normed (row : Fin K → EReal) (g : EReal) (k : Fin K) : EReal :=
  row k * Ideal.rsqrt (Ideal.div (∑ j : Fin K, row j * row j) (Ideal.ofBits .f32 0x45800000#32) + Ideal.ofBits .f32 0x358637BD#32) * g

theorem normed_apply (x : FVec Ideal ⟨2, ![M, K]⟩ .f32) (g : FVec Ideal ⟨2, ![1, K]⟩ .f32)
    (hr : Shape.Reduces ⟨2, ![M, K]⟩ [1] ⟨1, ![M]⟩) (hc : Shape.ShapeCasts ⟨1, ![M]⟩ ⟨2, ![M, 1]⟩)
    (hb : Shape.Broadcasts ⟨2, ![M, 1]⟩ ⟨2, ![M, K]⟩) (hg : Shape.Broadcasts ⟨2, ![1, K]⟩ ⟨2, ![M, K]⟩) (hφ : FKind.Formats .f32)
    (hacc : (0x00000000#32 : BitVec 32) = FKind.add.neutral .f32 hφ) (i : Fin M) (k : Fin K) :
    (mulf (mulf x (broadcastTo ⟨2, ![M, K]⟩ (rsqrt (addf (divf (shapeCast ⟨2, ![M, 1]⟩
        (multiReduction .add [1] ⟨1, ![M]⟩ (mulf x x) 0x00000000#32 hr hφ hacc) hc)
        (broadcast ⟨2, ![M, 1]⟩ (Scalar.ofBits .f32 0x45800000#32 : Ideal .f32)))
        (broadcast ⟨2, ![M, 1]⟩ (Scalar.ofBits .f32 0x358637BD#32 : Ideal .f32)))) hb))
      (broadcastTo ⟨2, ![M, K]⟩ g hg) : FVec Ideal ⟨2, ![M, K]⟩ .f32) (ix2 i k) = normed (fun j => x (ix2 i j)) (g (ix2 (0 : Fin 1) k)) k := by
  unfold normed
  refine congr (congrArg HMul.hMul (congrArg (x (ix2 i k) * ·) ?_)) ?_
  · refine (broadcastTo_apply _ hb (ix2 i k) (ix2 i (0 : Fin 1)) ?_).trans ?_
    · intro a
      match a with
      | ⟨0, _⟩ => show i.val = if M = 1 then 0 else i.val; have := i.isLt; split <;> omega
      | ⟨1, _⟩ => show 0 = if (1 : ℕ) = 1 then 0 else k.val; rw [if_pos rfl]
    · refine congrArg (fun z => Ideal.rsqrt (Ideal.div z (Ideal.ofBits .f32 0x45800000#32) + Ideal.ofBits .f32 0x358637BD#32)) ?_
      refine (shapeCast_apply _ hc (ix2 i (0 : Fin 1)) (ix1 i) ?_).trans ?_
      · rw [Shape.rowMajor_val_two, Shape.rowMajor_val_one]
        show i.val = i.val * 1 + 0
        omega
      · refine (Ideal.multiReduction_add_single _ _ hr hφ hacc (ix1 i)).trans (Finset.sum_congr rfl fun j _ => ?_)
        have e : hr.lift (ix1 i) j = ix2 i j := funext fun a => Fin.ext (by match a with | ⟨0, _⟩ => rfl | ⟨1, _⟩ => rfl)
        rw [e]
        rfl
  · refine broadcastTo_apply _ hg (ix2 i k) (ix2 (0 : Fin 1) k) ?_
    intro a
    match a with
    | ⟨0, _⟩ => show 0 = if (1 : ℕ) = 1 then 0 else i.val; rw [if_pos rfl]
    | ⟨1, _⟩ => show k.val = if K = 1 then 0 else k.val; have := k.isLt; split <;> omega

end Cert.Dense

end
-- ==== Proof.InProjArr.lean ====
/-
  The two arrays the projection's kernels leave, each a function of the arrays it reads: the normalized input, and its product
  with one layer's weights.
-/
module

public import Idealize.ShloMosaic.Lib.Pipeline.ValueKit.Geometry
public import proofs.«01_k».proof.Proof.Gen.InProjIdeal.Frame
public import proofs.«01_k».proof.Proof.Dense

@[expose] public section

set_option maxRecDepth 65536

noncomputable section

namespace Cert.InProjIdeal.Stage

open Idealize.ShloMosaic
open Idealize.ShloMosaic.ValueIdx Idealize.ShloMosaic.TcCoe
open Cert.InProjIdeal Cert.InProjIdeal.Gen Cert.Dense
open scoped BigOperators

/-- Every row of the input, normalized. -/
def normedAll (x : S16384x4096.Idx → EReal) (g : S1x4096.Idx → EReal) : S16384x4096.Idx → EReal :=
  fun y => normed (fun j => x (ix2 (y 0) j)) (g (ix2 (0 : Fin 1) (y 1))) (y 1)

/-- The product with the first layer's weights. -/
def projAll (h : S16384x4096.Idx → EReal) (w : S2x4096x22528.Idx → EReal) : S16384x22528.Idx → EReal :=
  fun y => ∑ k : Fin 4096, h (ix2 (y 0) k) * w (ix3 (0 : Fin 2) k (y 1))

variable (V : (c : Dev nD) → (b : Ref sig .tc) → Buf (Elt Ideal) ((c : Thread nD τ).loc b)) (c : Dev nD)

theorem index0 : ∀ t : Fin cfg0.N, (win0_0.index t 0 = win0_2.index t 0 ∧ win0_0.index t 1 = 0)
    ∧ (win0_1.index t 0 = 0 ∧ win0_1.index t 1 = 0) ∧ win0_2.index t 0 < 32 ∧ win0_2.index t 1 = 0 :=
  (by decide +kernel : ∀ t : Fin grid0.N, (win0_0.index t 0 = win0_2.index t 0 ∧ win0_0.index t 1 = 0)
    ∧ (win0_1.index t 0 = 0 ∧ win0_1.index t 1 = 0) ∧ win0_2.index t 0 < 32 ∧ win0_2.index t 1 = 0)

theorem index1 : ∀ t : Fin cfg1.N, (win1_0.index t 0 = win1_2.index t 0 ∧ win1_0.index t 1 = 0)
    ∧ (win1_1.index t 0 = 0 ∧ win1_1.index t 1 = 0 ∧ win1_1.index t 2 = win1_2.index t 1) ∧ win1_2.index t 0 < 16 ∧ win1_2.index t 1 < 22 :=
  (by decide +kernel : ∀ t : Fin grid1.N, (win1_0.index t 0 = win1_2.index t 0 ∧ win1_0.index t 1 = 0)
    ∧ (win1_1.index t 0 = 0 ∧ win1_1.index t 1 = 0 ∧ win1_1.index t 2 = win1_2.index t 1) ∧ win1_2.index t 0 < 16 ∧ win1_2.index t 1 < 22)

theorem in0_0 (t : Fin cfg0.N) (p : Fin 512) (k : Fin 4096) (r : Fin 16384) (hr : r.val = 512 * win0_2.index t 0 + p.val) :
    (iblk0 V c 0 t : S512x4096.Idx → EReal) (ix2 p k) = (V c main_v1 : S16384x4096.Idx → EReal) (ix2 r k) := by
  obtain ⟨⟨a0, a1⟩, -⟩ := index0 t
  show V c main_v1 (((cfg0.win 0).blk t).view.emb (ix2 p k)) = _
  refine congrArg (V c main_v1) (funext fun d => Fin.ext ?_)
  fin_cases d
  · show win0_0.index t (0 : Fin 2) * 512 + 1 * p.val = r.val; omega
  · show win0_0.index t (1 : Fin 2) * 4096 + 1 * k.val = k.val; omega

theorem in0_1 (t : Fin cfg0.N) (k : Fin 4096) :
    (iblk0 V c 1 t : S1x4096.Idx → EReal) (ix2 (0 : Fin 1) k) = (V c main_v2 : S1x4096.Idx → EReal) (ix2 (0 : Fin 1) k) := by
  obtain ⟨-, ⟨a0, a1⟩, -⟩ := index0 t
  show V c main_v2 (((cfg0.win 1).blk t).view.emb (ix2 (0 : Fin 1) k)) = _
  refine congrArg (V c main_v2) (funext fun d => Fin.ext ?_)
  fin_cases d
  · show win0_1.index t (0 : Fin 2) * 1 + 1 * 0 = 0; omega
  · show win0_1.index t (1 : Fin 2) * 4096 + 1 * k.val = k.val; omega

theorem in1_0 (t : Fin cfg1.N) (p : Fin 1024) (k : Fin 4096) (r : Fin 16384) (hr : r.val = 1024 * win1_2.index t 0 + p.val) :
    (iblk1 V c 0 t : S1024x4096.Idx → EReal) (ix2 p k) = (V c main_v3 : S16384x4096.Idx → EReal) (ix2 r k) := by
  obtain ⟨⟨a0, a1⟩, -⟩ := index1 t
  show V c main_v3 (((cfg1.win 0).blk t).view.emb (ix2 p k)) = _
  refine congrArg (V c main_v3) (funext fun d => Fin.ext ?_)
  fin_cases d
  · show win1_0.index t (0 : Fin 2) * 1024 + 1 * p.val = r.val; omega
  · show win1_0.index t (1 : Fin 2) * 4096 + 1 * k.val = k.val; omega

theorem in1_1 (t : Fin cfg1.N) (k : Fin 4096) (q : Fin 1024) (s : Fin 22528) (hs : s.val = 1024 * win1_2.index t 1 + q.val) :
    (iblk1 V c 1 t : S1x4096x1024.Idx → EReal) (ix3 (0 : Fin 1) k q) = (V c main_v0 : S2x4096x22528.Idx → EReal) (ix3 (0 : Fin 2) k s) := by
  obtain ⟨-, ⟨a0, a1, a2⟩, -⟩ := index1 t
  show V c main_v0 (((cfg1.win 1).blk t).view.emb (ix3 (0 : Fin 1) k q)) = _
  refine congrArg (V c main_v0) (funext fun d => Fin.ext ?_)
  fin_cases d
  · show win1_1.index t (0 : Fin 3) * 1 + 1 * 0 = 0; omega
  · show win1_1.index t (1 : Fin 3) * 4096 + 1 * k.val = k.val; omega
  · show win1_1.index t (2 : Fin 3) * 1024 + 1 * q.val = s.val; omega

theorem pay0 (x : FVec Ideal S512x4096 .f32) (g : FVec Ideal S1x4096 .f32) (p : Fin 512) (k : Fin 4096) :
    k0_pay1 (F := Ideal) x g (ix2 p k) = normed (fun j => x (ix2 p j)) (g (ix2 (0 : Fin 1) k)) k := by
  unfold k0_pay1
  rw [shapeCast_self, shapeCast_self]
  exact normed_apply x g _ _ _ _ _ _ p k

theorem pay1 (x : FVec Ideal S1024x4096 .bf16) (w : FVec Ideal S1x4096x1024 .bf16) (p q : Fin 1024) :
    k1_pay1 (F := Ideal) x w (ix2 p q) = ∑ k : Fin 4096, x (ix2 p k) * w (ix3 (0 : Fin 1) k q) := by
  unfold k1_pay1
  exact product_apply x w _ _ p q

theorem out0_eq (x : FVec Ideal S512x4096 .f32) (g : FVec Ideal S1x4096 .f32) : out0_2 (F := Ideal) x g = k0_pay1 (F := Ideal) x g := by
  unfold out0_2
  refine (View.canon_cons_unit_zero (funext fun a => by fin_cases a <;> rfl) _ _ _).trans ?_
  rw [View.ld_unit_zero (funext fun a => by fin_cases a <;> rfl), View.ld_unit_zero (funext fun a => by fin_cases a <;> rfl)]

theorem out1_eq (x : FVec Ideal S1024x4096 .bf16) (w : FVec Ideal S1x4096x1024 .bf16) : out1_2 (F := Ideal) x w = k1_pay1 (F := Ideal) x w := by
  unfold out1_2
  refine (View.canon_cons_unit_zero (funext fun a => by fin_cases a <;> rfl) _ _ _).trans ?_
  rw [View.ld_unit_zero (funext fun a => by fin_cases a <;> rfl), View.ld_unit_zero (funext fun a => by fin_cases a <;> rfl)]

theorem arr0 : (dat0 V c).arrAt 2 cfg0.N = normedAll (V c main_v1) (V c main_v2) := by
  refine (dat0 V c).arrAt_eq_of_covers 2 (normedAll (V c main_v1) (V c main_v2)) (by decide +kernel) fun t hf y => ?_
  blk_simp
  rw [after0_2, out0_eq]
  obtain ⟨-, -, b0, b1⟩ := index0 t
  have y0 : (y 0).val < 512 := (y 0).isLt
  have y1 : (y 1).val < 4096 := (y 1).isLt
  have f0 : (((win0_2.blk t).view.emb y) 0).val = 512 * win0_2.index t 0 + (y 0).val := by
    show win0_2.index t (0 : Fin 2) * 512 + 1 * (y 0).val = _; omega
  have f1 : ((win0_2.blk t).view.emb y) 1 = (y 1 : Fin 4096) := Fin.ext (by
    show win0_2.index t (1 : Fin 2) * 4096 + 1 * (y 1).val = (y 1).val; omega)
  have ey : y = ix2 (y 0 : Fin 512) (y 1 : Fin 4096) := funext fun a => by fin_cases a <;> rfl
  refine (congrArg (k0_pay1 (F := Ideal) (iblk0 V c 0 t) (iblk0 V c 1 t)) ey).trans ((pay0 (iblk0 V c 0 t) (iblk0 V c 1 t) (y 0) (y 1)).trans ?_)
  unfold normedAll
  rw [f1, in0_1 V c t (y 1)]
  exact congrArg (fun h => normed h _ _) (funext fun j => in0_0 V c t (y 0) j _ f0)

theorem arr1 : (dat1 V c).arrAt 2 cfg1.N = projAll (V c main_v3) (V c main_v0) := by
  refine (dat1 V c).arrAt_eq_of_covers 2 (projAll (V c main_v3) (V c main_v0)) (by decide +kernel) fun t hf y => ?_
  blk_simp
  rw [after1_2, out1_eq]
  obtain ⟨-, -, b0, b1⟩ := index1 t
  have y0 : (y 0).val < 1024 := (y 0).isLt
  have y1 : (y 1).val < 1024 := (y 1).isLt
  have f0 : (((win1_2.blk t).view.emb y) 0).val = 1024 * win1_2.index t 0 + (y 0).val := by
    show win1_2.index t (0 : Fin 2) * 1024 + 1 * (y 0).val = _; omega
  have f1 : (((win1_2.blk t).view.emb y) 1).val = 1024 * win1_2.index t 1 + (y 1).val := by
    show win1_2.index t (1 : Fin 2) * 1024 + 1 * (y 1).val = _; omega
  have ey : y = ix2 (y 0 : Fin 1024) (y 1 : Fin 1024) := funext fun a => by fin_cases a <;> rfl
  refine (congrArg (k1_pay1 (F := Ideal) (iblk1 V c 0 t) (iblk1 V c 1 t)) ey).trans ((pay1 (iblk1 V c 0 t) (iblk1 V c 1 t) (y 0) (y 1)).trans ?_)
  unfold projAll
  exact Finset.sum_congr rfl fun k _ => congr (congrArg HMul.hMul (in1_0 V c t (y 0) k _ f0)) (in1_1 V c t k (y 1) _ f1)

end Cert.InProjIdeal.Stage

end
-- ==== Proof.InProjVal.lean ====
/-
  The projection's results against the reference's: the product of the normalized input with the first layer's weights, and the
  two cuts of it that become the heads of keys and values.
-/
module

public import Idealize.ShloMosaic.Lib.Claim
public import Idealize.ShloMosaic.Lib.StableHlo.Run
public import proofs.«01_k».proof.Proof.InProjRun
public import proofs.«01_k».proof.Proof.InProjArr
public import proofs.«01_k».proof.Proof.Gen.InProjRefIdeal.Read

@[expose] public section

set_option maxRecDepth 65536

noncomputable section

namespace Cert.InProjIdeal.Stage

open Idealize.ShloMosaic
open Idealize.ShloMosaic.ValueIdx Idealize.ShloMosaic.TcCoe
open Cert.InProjIdeal Cert.InProjIdeal.Gen Cert.Dense
open scoped BigOperators

/-- The projection of every token, as a function of the program's arguments. -/
def spec (x : S8x2048x4096.Idx → EReal) (g : S4096.Idx → EReal) (w : S2x4096x22528.Idx → EReal) : S8x2048x22528.Idx → EReal :=
  fun y => ∑ k : Fin 4096, normed (fun j => x (ix3 (y 0) (y 1) j)) (g (ix1 k)) k * w (ix3 (0 : Fin 2) k (y 2))

/-- The two arrays in a row, over the reshaped arguments, are the projection. -/
theorem spec_eq (x : S8x2048x4096.Idx → EReal) (g : S4096.Idx → EReal) (w : S2x4096x22528.Idx → EReal) :
    shapeCast S8x2048x22528 (projAll (normedAll (shapeCast S16384x4096 x shapeCasts_S8x2048x4096_S16384x4096)
      (shapeCast S1x4096 g shapeCasts_S4096_S1x4096)) w) shapeCasts_S16384x22528_S8x2048x22528 = spec x g w := by
  funext y
  have y0 : (y 0).val < 8 := (y 0).isLt
  have y1 : (y 1).val < 2048 := (y 1).isLt
  refine (shapeCast_apply _ _ y (ix2 (⟨2048 * (y 0).val + (y 1).val, by omega⟩ : Fin 16384) (y 2 : Fin 22528)) ?_).trans ?_
  · rw [Shape.rowMajor_val_two, Shape.rowMajor_val_three]
    show (2048 * (y 0).val + (y 1).val) * 22528 + (y 2).val = ((y 0).val * 2048 + (y 1).val) * 22528 + (y 2).val
    omega
  · refine Finset.sum_congr rfl fun k _ => congrArg (· * _) ?_
    refine congr (congrArg (fun h g => normed h g k) (funext fun j => ?_)) ?_
    · refine shapeCast_apply _ _ _ (ix3 (y 0) (y 1) j) ?_
      rw [Shape.rowMajor_val_two, Shape.rowMajor_val_three]
      show ((y 0).val * 2048 + (y 1).val) * 4096 + j.val = (2048 * (y 0).val + (y 1).val) * 4096 + j.val
      omega
    · refine shapeCast_apply _ _ _ (ix1 k) ?_
      rw [Shape.rowMajor_val_two, Shape.rowMajor_val_one]
      show k.val = 0 * 4096 + k.val
      omega

section Kernel

variable (m : (ℓ : Loc nD τ sig) → Buf (Elt Ideal) ℓ) (ρ : Dev nD → PrngReg) (c : Dev nD)

theorem entry_w : V1 m ρ c main_v0 = m ((c : Thread nD τ).loc main_arg2) := by
  unfold_abbrev_sides
  after_results
  rfl

theorem entry_x : V1 m ρ c main_v1 = shapeCast S16384x4096 (m ((c : Thread nD τ).loc main_arg0)) shapeCasts_S8x2048x4096_S16384x4096 := by
  unfold_abbrev_sides
  after_results
  rfl

theorem entry_g : V1 m ρ c main_v2 = shapeCast S1x4096 (m ((c : Thread nD τ).loc main_arg1)) shapeCasts_S4096_S1x4096 := by
  unfold_abbrev_sides
  after_results
  rfl

theorem whole : shapeCast S8x2048x22528 (W3 m ρ c (Proc.devRef .tc main_v4)) shapeCasts_S16384x22528_S8x2048x22528
    = spec (m ((c : Thread nD τ).loc main_arg0)) (m ((c : Thread nD τ).loc main_arg1)) (m ((c : Thread nD τ).loc main_arg2)) := by
  have e : W3 m ρ c (Proc.devRef .tc main_v4) = projAll (normedAll
      (shapeCast S16384x4096 (m ((c : Thread nD τ).loc main_arg0)) shapeCasts_S8x2048x4096_S16384x4096)
      (shapeCast S1x4096 (m ((c : Thread nD τ).loc main_arg1)) shapeCasts_S4096_S1x4096)) (m ((c : Thread nD τ).loc main_arg2)) := by
    refine (W3_arr m ρ c 2).trans ((arr1 (V2 m ρ) c).trans ?_)
    refine congr (congrArg projAll ?_) ((W2_of m ρ c main_v0 (by decide)).trans (entry_w m ρ c))
    refine (W2_arr m ρ c 2).trans ((arr0 (V1 m ρ) c).trans ?_)
    exact congr (congrArg normedAll (entry_x m ρ c)) (entry_g m ρ c)
  exact (congrArg (fun v : S16384x22528.Idx → EReal => shapeCast S8x2048x22528 v shapeCasts_S16384x22528_S8x2048x22528) e).trans (spec_eq _ _ _)

theorem res_v5 : W4 m ρ c (Proc.devRef .tc main_v5) = spec (m ((c : Thread nD τ).loc main_arg0)) (m ((c : Thread nD τ).loc main_arg1)) (m ((c : Thread nD τ).loc main_arg2)) := by
  refine Eq.trans ?_ (whole m ρ c)
  unfold_abbrev_sides
  after_results
  rfl

theorem res_v10 : W4 m ρ c (Proc.devRef .tc main_v10) = shapeCast S8x2048x8x128 (extractStridedSlice S8x2048x1024 ![0, 0, 7168]
    (spec (m ((c : Thread nD τ).loc main_arg0)) (m ((c : Thread nD τ).loc main_arg1)) (m ((c : Thread nD τ).loc main_arg2)))
    slices_S8x2048x22528_S8x2048x1024_0_0_7168) shapeCasts_S8x2048x1024_S8x2048x8x128 := by
  rw [← whole m ρ c]
  unfold_abbrev_sides
  after_results
  rfl

theorem res_v11 : W4 m ρ c (Proc.devRef .tc main_v11) = shapeCast S8x2048x8x128 (extractStridedSlice S8x2048x1024 ![0, 0, 8192]
    (spec (m ((c : Thread nD τ).loc main_arg0)) (m ((c : Thread nD τ).loc main_arg1)) (m ((c : Thread nD τ).loc main_arg2)))
    slices_S8x2048x22528_S8x2048x1024_0_0_8192) shapeCasts_S8x2048x1024_S8x2048x8x128 := by
  rw [← whole m ρ c]
  unfold_abbrev_sides
  after_results
  rfl

theorem res_v12 : W4 m ρ c (Proc.devRef .tc main_v12) = shapeCast S8x512x8x128 (extractStridedSlice S8x512x1024 ![0, 1536, 0]
    (extractStridedSlice S8x2048x1024 ![0, 0, 4096]
    (spec (m ((c : Thread nD τ).loc main_arg0)) (m ((c : Thread nD τ).loc main_arg1)) (m ((c : Thread nD τ).loc main_arg2)))
    slices_S8x2048x22528_S8x2048x1024_0_0_4096) slices_S8x2048x1024_S8x512x1024_0_1536_0) shapeCasts_S8x512x1024_S8x512x8x128 := by
  rw [← whole m ρ c]
  unfold_abbrev_sides
  after_results
  rfl

end Kernel

section Reference

open Cert.InProjRefIdeal.Read

variable (x : (⟨S8x2048x4096, .f32⟩ : BufTy).Contents (Elt Ideal)) (g : (⟨S4096, .f32⟩ : BufTy).Contents (Elt Ideal))
  (w : (⟨S2x4096x22528, .f32⟩ : BufTy).Contents (Elt Ideal))

theorem ref_normed (y : S8x2048x22528.Idx) (k : Fin 4096) :
    val_main_v12 (F := Ideal) x g (lidx_main_v15 y k) = normed (fun j => x (ix3 (y 0) (y 1) j)) (g (ix1 k)) k := by
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply, val_main_cst_apply, val_main_cst_0_apply, val_main_cst_1_apply]
  rw [show (FloatOps.ofBits .f32 0x00000000#32 : Ideal .f32) = 0 from Ideal.ofBits_zero_f32, zero_add]
  unfold normed
  refine congr (congrArg (fun a b : EReal => a * b) ?_) (congrArg g (funext fun a => Fin.ext (by fin_cases a; rfl)))
  refine congr (congrArg (fun a b : EReal => a * b) ?_) (congrArg (fun z => Ideal.rsqrt (Ideal.div z (Ideal.ofBits .f32 0x45800000#32) + Ideal.ofBits .f32 0x358637BD#32)) ?_)
  · exact congrArg x (funext fun a => Fin.ext (by fin_cases a <;> rfl))
  · refine Finset.sum_congr rfl fun j _ => ?_
    rw [val_main_v0_apply]
    have e : idx_main_v1 (idx_main_v2 (idx_main_v8 (lidx_main_v15 y k))) j = ix3 (y 0) (y 1) j := funext fun a => Fin.ext (by fin_cases a <;> rfl)
    rw [e]
    rfl

theorem ref_eq : val_main_v15 (F := Ideal) x g w = spec x g w := by
  funext y
  rw [val_main_v15_apply]
  refine Finset.sum_congr rfl fun k _ => congr (congrArg HMul.hMul (ref_normed x g y k)) ?_
  rw [val_main_v14_apply, val_main_v13_apply]
  refine congrArg w (funext fun a => Fin.ext ?_)
  have hk : k.val < 4096 := k.isLt
  have h2 : (y 2).val < 22528 := (y 2).isLt
  fin_cases a
  · rfl
  · show (k.val * 22528 + (y 2).val) / 22528 % 4096 = k.val; omega
  · show (k.val * 22528 + (y 2).val) % 22528 = (y 2).val; omega

theorem ref_v17 : shapeCast S8x2048x8x128 (extractStridedSlice S8x2048x1024 ![0, 0, 7168] (spec x g w)
    slices_S8x2048x22528_S8x2048x1024_0_0_7168) shapeCasts_S8x2048x1024_S8x2048x8x128 = val_main_v17 (F := Ideal) x g w := by
  unfold val_main_v17 val_main_v16
  rw [ref_eq]

theorem ref_v19 : shapeCast S8x2048x8x128 (extractStridedSlice S8x2048x1024 ![0, 0, 8192] (spec x g w)
    slices_S8x2048x22528_S8x2048x1024_0_0_8192) shapeCasts_S8x2048x1024_S8x2048x8x128 = val_main_v19 (F := Ideal) x g w := by
  unfold val_main_v19 val_main_v18
  rw [ref_eq]

theorem ref_v22 : shapeCast S8x512x8x128 (extractStridedSlice S8x512x1024 ![0, 1536, 0] (extractStridedSlice S8x2048x1024 ![0, 0, 4096] (spec x g w)
    slices_S8x2048x22528_S8x2048x1024_0_0_4096) slices_S8x2048x1024_S8x512x1024_0_1536_0) shapeCasts_S8x512x1024_S8x512x8x128
      = val_main_v22 (F := Ideal) x g w := by
  funext y
  have y0 : (y 0).val < 8 := (y 0).isLt
  have y1 : (y 1).val < 512 := (y 1).isLt
  have y2 : (y 2).val < 8 := (y 2).isLt
  have y3 : (y 3).val < 128 := (y 3).isLt
  rw [val_main_v22_apply, val_main_v21_apply, val_main_v20_apply, ref_eq]
  refine (shapeCast_apply _ _ y (ix3 (y 0 : Fin 8) (y 1 : Fin 512) (⟨(y 2).val * 128 + (y 3).val, by omega⟩ : Fin 1024)) ?_).trans ?_
  · rw [Shape.rowMajor_val_three, Shape.rowMajor_val_four]
    show ((y 0).val * 512 + (y 1).val) * 1024 + ((y 2).val * 128 + (y 3).val) = (((y 0).val * 512 + (y 1).val) * 8 + (y 2).val) * 128 + (y 3).val
    omega
  · unfold extractStridedSlice
    refine congrArg (spec x g w) (funext fun a => Fin.ext ?_)
    fin_cases a
    · show 0 + (0 + (y 0).val) = ((((y 0).val * 2048 + (1536 + (y 1).val)) * 8 + (y 2).val) * 128 + (y 3).val) / 2097152; omega
    · show 0 + (1536 + (y 1).val) = ((((y 0).val * 2048 + (1536 + (y 1).val)) * 8 + (y 2).val) * 128 + (y 3).val) / 1024 % 2048; omega
    · show 4096 + (0 + ((y 2).val * 128 + (y 3).val)) = 4096 + ((((y 0).val * 2048 + (1536 + (y 1).val)) * 8 + (y 2).val) * 128 + (y 3).val) % 1024; omega

end Reference

end Cert.InProjIdeal.Stage

end
-- ==== Proof.InProjClaims.lean ====
/-
  The projection's claims: its three programs run and leave their arguments as they found them, and its results are the
  reference's.
-/
module

public import proofs.«01_k».proof.Defs
public import proofs.«01_k».proof.Proof.Gen.InProj.Frame
public import proofs.«01_k».proof.Proof.Gen.InProjRefIdeal.Run
public import proofs.«01_k».proof.Proof.InProjVal
public import Idealize.ShloMosaic.Lib.Quiescent

@[expose] public section

noncomputable section

open Idealize.ShloMosaic Idealize.ShloMosaic.TcCoe Idealize.SL.Sem

namespace Cert.Proof.InProjClaims

open Cert.InProjIdeal.Stage

theorem frame_p : Cert.quiescent_InProj := fun m ρ _ => Cert.InProj.Gen.frame m ρ
theorem frame_pi : Cert.quiescent_InProjIdeal := fun m ρ _ => Cert.InProjIdeal.Gen.frame m ρ
theorem frame_ri : Cert.quiescent_InProjRefIdeal := fun m ρ _ =>
  (θ_run Cert.InProjRefIdeal.defs _ _).mono (fun r h => ⟨fun c => (h c).2.2.2.2,
      Idealize.ShloMosaic.sem_eq_zero_of_no_sems (by decide) r.2⟩)
    (Cert.InProjRefIdeal.Value.run (F := Ideal) m ρ)

theorem preserves : Cert.preserves_InProj_InProjIdeal := trivial

open Cert.InProjIdeal Cert.InProjIdeal.Gen in
/-- The projection's run, its results named. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_v10) = W4 m ρ c (Proc.devRef .tc main_v10)
      ∧ r.2.mem ((c.tc : Thread nD τ).loc main_v11) = W4 m ρ c (Proc.devRef .tc main_v11)
      ∧ r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c _ (mem_uc main_v5 (by decide)), h c _ (mem_uc main_v10 (by decide)), h c _ (mem_uc main_v11 (by decide)), h c _ (mem_uc main_v12 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c)⟩) (run m ρ)

theorem algebraic :
    letI := Cert.InProjIdeal.Gen.facts; letI := Cert.InProjRefIdeal.Gen.facts
    Cert.algebraic_InProjIdeal_InProjRefIdeal := by
  intro m ρ m' ρ' _ hag
  refine ⟨fun c => Cert.InProjRefIdeal.Read.val_main_v15 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1))
      (m ((c.tc : Thread Cert.InProjIdeal.nD Cert.InProjIdeal.τ).loc Cert.InProjIdeal.main_arg2)),
    fun c => Cert.InProjRefIdeal.Read.val_main_v17 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1))
      (m ((c.tc : Thread Cert.InProjIdeal.nD Cert.InProjIdeal.τ).loc Cert.InProjIdeal.main_arg2)),
    fun c => Cert.InProjRefIdeal.Read.val_main_v19 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1))
      (m ((c.tc : Thread Cert.InProjIdeal.nD Cert.InProjIdeal.τ).loc Cert.InProjIdeal.main_arg2)),
    fun c => Cert.InProjRefIdeal.Read.val_main_v22 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1))
      (m ((c.tc : Thread Cert.InProjIdeal.nD Cert.InProjIdeal.τ).loc Cert.InProjIdeal.main_arg2)),
    (θ_run Cert.InProjIdeal.defs _ _).mono (fun r h c => ?_) (kernel_run m ρ),
    (θ_run Cert.InProjRefIdeal.defs _ _).mono (fun r h c => ?_) (Cert.InProjRefIdeal.Value.run (F := Ideal) m' ρ')⟩
  · obtain ⟨h0, h1, h2, h3, ha⟩ := h c
    exact ⟨h0.trans ((res_v5 m ρ c).trans (ref_eq _ _ _).symm), h1.trans ((res_v10 m ρ c).trans (ref_v17 _ _ _)), h2.trans ((res_v11 m ρ c).trans (ref_v19 _ _ _)), h3.trans ((res_v12 m ρ c).trans (ref_v22 _ _ _)), ha⟩
  · obtain ⟨h0, h1, h2, h3, ha⟩ := h c
    obtain ⟨g0, g1, g2⟩ := hag c
    refine ⟨h0.trans ?_, h1.trans ?_, h2.trans ?_, h3.trans ?_, ha⟩
    · rw [Cert.InProjRefIdeal.Read.val_main_v15_eq, g0, g1, g2]
    · rw [Cert.InProjRefIdeal.Read.val_main_v17_eq, g0, g1, g2]
    · rw [Cert.InProjRefIdeal.Read.val_main_v19_eq, g0, g1, g2]
    · rw [Cert.InProjRefIdeal.Read.val_main_v22_eq, g0, g1, g2]

end Cert.Proof.InProjClaims

end
-- ==== Proof.OutProjRun.lean ====
/-
  The output projection's program to its last state: after its two kernels and the host lines around them, every array it keeps
  holds what the chain of stages says.
-/
module

public import proofs.«01_k».proof.Proof.Gen.OutProjIdeal.Frame

@[expose] public section

set_option maxRecDepth 16384

noncomputable section

namespace Cert.OutProjIdeal.Stage

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the launch no stage has run: the pools are as allocated and nothing is owed to any device. -/
theorem pools : (ownU (initOf (Pipeline.cells cfgs cellOf_inj) (Pipeline.launchToks cfgs cellOf_inj)) : sProp 𝕄)
    ⊢ |={Set.univ}=> (BI.own (emb₁ (initOf (Pipeline.cells cfgs cellOf_inj) (Pipeline.launchToks cfgs cellOf_inj)))
        ∗ bigSep Finset.univ (fun _ : Dev nD => (BI.emp : sProp 𝕄))) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iempintro

theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) := by
  refine Pipeline.θ_run_regions_kit_sems (pcfgs (F := F)) adm (pdats m ρ) () cellOf_inj emb₁ defs₀ 𝒱₀ L lv m ρ main (segs m ρ)
    (fun c Q => by rw [main_run m ρ c]) ?_ (O₀ := 0) (hL := fun _ _ => rfl) (G := fun _ => iprop(emp))
    (u₀ := initOf (Pipeline.cells cfgs cellOf_inj) (Pipeline.launchToks cfgs cellOf_inj)) (hu₀ := pools)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => ?_⟩) (hinit := ?_)
    (QY := fun c s => ∀ b ∈ Pipeline.ucRefs τ sig, s.mem (((c : Thread nD τ)).1, b) = W4 m ρ c b)
    (hfin := fun c s' => ?_) (hQ := fun s h _ c => h c)
  · simp only [segs, Pipeline.Seg.pipes_host, Pipeline.Seg.pipes_region, Pipeline.Seg.pipes_nil]
    decide
  · dsimp only [Pipeline.Seg.post, hseg, Pipeline.HostSeg.ofOps]
    iintro ⟨Ha, Hr, Ho⟩
    isplitl [Ha Hr]
    · isplitl [Ha]
      · iexact Ha
      · iexact Hr
    · iexact Ho
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Ha, -, Ho, -, Hr, -⟩, -⟩
    imodintro
    isplitl [Ha]
    · iexact Ha
    · isplitl [Hr]
      · iexists _
        iexact Hr
      · iexists ∅
        iexact Ho
  · iintro ⟨⟨Ha, -⟩, Hs⟩
    unfold StableHlo.held
    imodintro
    iapply (pointsTo_read_all (Pipeline.ucRefs τ sig) (fun b => (((c : Thread nD τ)).1, b)) (W4 m ρ c) s')
    isplitl [Ha] <;> iassumption

end Cert.OutProjIdeal.Stage

end
-- ==== Proof.OutProjArr.lean ====
/-
  The two arrays the output projection's kernels leave, each a function of the arrays it reads: the gated sum of the three
  branches' products, and the residual plus its product with one layer's weights.
-/
module

public import Idealize.ShloMosaic.Lib.Pipeline.ValueKit.Geometry
public import proofs.«01_k».proof.Proof.Gen.OutProjIdeal.Frame
public import proofs.«01_k».proof.Proof.Dense

@[expose] public section

set_option maxRecDepth 65536

noncomputable section

namespace Cert.OutProjIdeal.Stage

open Idealize.ShloMosaic
open Idealize.ShloMosaic.ValueIdx Idealize.ShloMosaic.TcCoe
open Cert.OutProjIdeal Cert.OutProjIdeal.Gen Cert.Dense
open scoped BigOperators

/-- A branch's gate at a token and a channel. -/
def gate (P : S16384x22528.Idx → EReal) (b : S1x12288.Idx → EReal) (o : Fin 3) (r : Fin 16384) (s : Fin 4096) : EReal :=
  Ideal.logistic (P (ix2 r ⟨10240 + (4096 * o.val + s.val), by omega⟩) + b (ix2 (0 : Fin 1) ⟨4096 * o.val + s.val, by omega⟩))

/-- A branch's output at a token and a channel. -/
def branch (l : S16384x1024.Idx → EReal) (w : S2x1024x4096.Idx → EReal) (r : Fin 16384) (s : Fin 4096) : EReal :=
  ∑ k : Fin 1024, l (ix2 r k) * w (ix3 (0 : Fin 2) k s)

/-- The gated sum of the branches. -/
def mixAll (la lb lc : S16384x1024.Idx → EReal) (wa wb wc : S2x1024x4096.Idx → EReal) (P : S16384x22528.Idx → EReal) (b : S1x12288.Idx → EReal) :
    S16384x4096.Idx → EReal :=
  fun y => gate P b 0 (y 0) (y 1) * branch la wa (y 0) (y 1) + gate P b 1 (y 0) (y 1) * branch lb wb (y 0) (y 1)
    + gate P b 2 (y 0) (y 1) * branch lc wc (y 0) (y 1)

/-- The residual plus the product with the first layer's weights. -/
def outAll (h : S16384x4096.Idx → EReal) (w : S2x4096x4096.Idx → EReal) (x : S16384x4096.Idx → EReal) : S16384x4096.Idx → EReal :=
  fun y => x y + ∑ k : Fin 4096, h (ix2 (y 0) k) * w (ix3 (0 : Fin 2) k (y 1))

variable (V : (c : Dev nD) → (b : Ref sig .tc) → Buf (Elt Ideal) ((c : Thread nD τ).loc b)) (c : Dev nD)

theorem index0 : ∀ t : Fin cfg0.N, (win0_0.index t 0 = win0_12.index t 0 ∧ win0_0.index t 1 = 0)
    ∧ (win0_1.index t 0 = win0_12.index t 0 ∧ win0_1.index t 1 = 0)
    ∧ (win0_2.index t 0 = win0_12.index t 0 ∧ win0_2.index t 1 = 0)
    ∧ (win0_3.index t 0 = 0 ∧ win0_3.index t 1 = 0 ∧ win0_3.index t 2 = win0_12.index t 1)
    ∧ (win0_4.index t 0 = 0 ∧ win0_4.index t 1 = 0 ∧ win0_4.index t 2 = win0_12.index t 1)
    ∧ (win0_5.index t 0 = 0 ∧ win0_5.index t 1 = 0 ∧ win0_5.index t 2 = win0_12.index t 1)
    ∧ (win0_6.index t 0 = win0_12.index t 0 ∧ win0_6.index t 1 = 10 + win0_12.index t 1)
    ∧ (win0_7.index t 0 = win0_12.index t 0 ∧ win0_7.index t 1 = 14 + win0_12.index t 1)
    ∧ (win0_8.index t 0 = win0_12.index t 0 ∧ win0_8.index t 1 = 18 + win0_12.index t 1)
    ∧ (win0_9.index t 0 = 0 ∧ win0_9.index t 1 = 0 + win0_12.index t 1)
    ∧ (win0_10.index t 0 = 0 ∧ win0_10.index t 1 = 4 + win0_12.index t 1)
    ∧ (win0_11.index t 0 = 0 ∧ win0_11.index t 1 = 8 + win0_12.index t 1)
    ∧ (win0_12.index t 0 < 32 ∧ win0_12.index t 1 < 4) :=
  (by decide +kernel : ∀ t : Fin grid0.N, (win0_0.index t 0 = win0_12.index t 0 ∧ win0_0.index t 1 = 0)
    ∧ (win0_1.index t 0 = win0_12.index t 0 ∧ win0_1.index t 1 = 0)
    ∧ (win0_2.index t 0 = win0_12.index t 0 ∧ win0_2.index t 1 = 0)
    ∧ (win0_3.index t 0 = 0 ∧ win0_3.index t 1 = 0 ∧ win0_3.index t 2 = win0_12.index t 1)
    ∧ (win0_4.index t 0 = 0 ∧ win0_4.index t 1 = 0 ∧ win0_4.index t 2 = win0_12.index t 1)
    ∧ (win0_5.index t 0 = 0 ∧ win0_5.index t 1 = 0 ∧ win0_5.index t 2 = win0_12.index t 1)
    ∧ (win0_6.index t 0 = win0_12.index t 0 ∧ win0_6.index t 1 = 10 + win0_12.index t 1)
    ∧ (win0_7.index t 0 = win0_12.index t 0 ∧ win0_7.index t 1 = 14 + win0_12.index t 1)
    ∧ (win0_8.index t 0 = win0_12.index t 0 ∧ win0_8.index t 1 = 18 + win0_12.index t 1)
    ∧ (win0_9.index t 0 = 0 ∧ win0_9.index t 1 = 0 + win0_12.index t 1)
    ∧ (win0_10.index t 0 = 0 ∧ win0_10.index t 1 = 4 + win0_12.index t 1)
    ∧ (win0_11.index t 0 = 0 ∧ win0_11.index t 1 = 8 + win0_12.index t 1)
    ∧ (win0_12.index t 0 < 32 ∧ win0_12.index t 1 < 4))

theorem index1 : ∀ t : Fin cfg1.N, (win1_0.index t 0 = win1_3.index t 0 ∧ win1_0.index t 1 = 0)
    ∧ (win1_1.index t 0 = 0 ∧ win1_1.index t 1 = 0 ∧ win1_1.index t 2 = win1_3.index t 1)
    ∧ (win1_2.index t 0 = win1_3.index t 0 ∧ win1_2.index t 1 = win1_3.index t 1)
    ∧ (win1_3.index t 0 < 16 ∧ win1_3.index t 1 < 4) :=
  (by decide +kernel : ∀ t : Fin grid1.N, (win1_0.index t 0 = win1_3.index t 0 ∧ win1_0.index t 1 = 0)
    ∧ (win1_1.index t 0 = 0 ∧ win1_1.index t 1 = 0 ∧ win1_1.index t 2 = win1_3.index t 1)
    ∧ (win1_2.index t 0 = win1_3.index t 0 ∧ win1_2.index t 1 = win1_3.index t 1)
    ∧ (win1_3.index t 0 < 16 ∧ win1_3.index t 1 < 4))

theorem in0_0 (t : Fin cfg0.N) (p : Fin 512) (k : Fin 1024) (r : Fin 16384) (hr : r.val = 512 * win0_12.index t 0 + p.val) :
    (iblk0 V c 0 t : S512x1024.Idx → EReal) (ix2 p k) = (V c main_arg0 : S16384x1024.Idx → EReal) (ix2 r k) := by
  obtain ⟨⟨a0, a1⟩, -⟩ := index0 t
  show V c main_arg0 (((cfg0.win 0).blk t).view.emb (ix2 p k)) = _
  refine congrArg (V c main_arg0) (funext fun d => Fin.ext ?_)
  fin_cases d
  · show win0_0.index t (0 : Fin 2) * 512 + 1 * p.val = r.val; omega
  · show win0_0.index t (1 : Fin 2) * 1024 + 1 * k.val = k.val; omega

theorem in0_1 (t : Fin cfg0.N) (p : Fin 512) (k : Fin 1024) (r : Fin 16384) (hr : r.val = 512 * win0_12.index t 0 + p.val) :
    (iblk0 V c 1 t : S512x1024.Idx → EReal) (ix2 p k) = (V c main_v5 : S16384x1024.Idx → EReal) (ix2 r k) := by
  obtain ⟨-, ⟨a0, a1⟩, -⟩ := index0 t
  show V c main_v5 (((cfg0.win 1).blk t).view.emb (ix2 p k)) = _
  refine congrArg (V c main_v5) (funext fun d => Fin.ext ?_)
  fin_cases d
  · show win0_1.index t (0 : Fin 2) * 512 + 1 * p.val = r.val; omega
  · show win0_1.index t (1 : Fin 2) * 1024 + 1 * k.val = k.val; omega

theorem in0_2 (t : Fin cfg0.N) (p : Fin 512) (k : Fin 1024) (r : Fin 16384) (hr : r.val = 512 * win0_12.index t 0 + p.val) :
    (iblk0 V c 2 t : S512x1024.Idx → EReal) (ix2 p k) = (V c main_v6 : S16384x1024.Idx → EReal) (ix2 r k) := by
  obtain ⟨-, -, ⟨a0, a1⟩, -⟩ := index0 t
  show V c main_v6 (((cfg0.win 2).blk t).view.emb (ix2 p k)) = _
  refine congrArg (V c main_v6) (funext fun d => Fin.ext ?_)
  fin_cases d
  · show win0_2.index t (0 : Fin 2) * 512 + 1 * p.val = r.val; omega
  · show win0_2.index t (1 : Fin 2) * 1024 + 1 * k.val = k.val; omega

theorem in0_3 (t : Fin cfg0.N) (k q : Fin 1024) (s : Fin 4096) (hs : s.val = 1024 * win0_12.index t 1 + q.val) :
    (iblk0 V c 3 t : S1x1024x1024.Idx → EReal) (ix3 (0 : Fin 1) k q) = (V c main_v0 : S2x1024x4096.Idx → EReal) (ix3 (0 : Fin 2) k s) := by
  obtain ⟨-, -, -, ⟨a0, a1, a2⟩, -⟩ := index0 t
  show V c main_v0 (((cfg0.win 3).blk t).view.emb (ix3 (0 : Fin 1) k q)) = _
  refine congrArg (V c main_v0) (funext fun d => Fin.ext ?_)
  fin_cases d
  · show win0_3.index t (0 : Fin 3) * 1 + 1 * 0 = 0; omega
  · show win0_3.index t (1 : Fin 3) * 1024 + 1 * k.val = k.val; omega
  · show win0_3.index t (2 : Fin 3) * 1024 + 1 * q.val = s.val; omega

theorem in0_4 (t : Fin cfg0.N) (k q : Fin 1024) (s : Fin 4096) (hs : s.val = 1024 * win0_12.index t 1 + q.val) :
    (iblk0 V c 4 t : S1x1024x1024.Idx → EReal) (ix3 (0 : Fin 1) k q) = (V c main_v1 : S2x1024x4096.Idx → EReal) (ix3 (0 : Fin 2) k s) := by
  obtain ⟨-, -, -, -, ⟨a0, a1, a2⟩, -⟩ := index0 t
  show V c main_v1 (((cfg0.win 4).blk t).view.emb (ix3 (0 : Fin 1) k q)) = _
  refine congrArg (V c main_v1) (funext fun d => Fin.ext ?_)
  fin_cases d
  · show win0_4.index t (0 : Fin 3) * 1 + 1 * 0 = 0; omega
  · show win0_4.index t (1 : Fin 3) * 1024 + 1 * k.val = k.val; omega
  · show win0_4.index t (2 : Fin 3) * 1024 + 1 * q.val = s.val; omega

theorem in0_5 (t : Fin cfg0.N) (k q : Fin 1024) (s : Fin 4096) (hs : s.val = 1024 * win0_12.index t 1 + q.val) :
    (iblk0 V c 5 t : S1x1024x1024.Idx → EReal) (ix3 (0 : Fin 1) k q) = (V c main_v2 : S2x1024x4096.Idx → EReal) (ix3 (0 : Fin 2) k s) := by
  obtain ⟨-, -, -, -, -, ⟨a0, a1, a2⟩, -⟩ := index0 t
  show V c main_v2 (((cfg0.win 5).blk t).view.emb (ix3 (0 : Fin 1) k q)) = _
  refine congrArg (V c main_v2) (funext fun d => Fin.ext ?_)
  fin_cases d
  · show win0_5.index t (0 : Fin 3) * 1 + 1 * 0 = 0; omega
  · show win0_5.index t (1 : Fin 3) * 1024 + 1 * k.val = k.val; omega
  · show win0_5.index t (2 : Fin 3) * 1024 + 1 * q.val = s.val; omega

theorem in0_6 (t : Fin cfg0.N) (p : Fin 512) (q : Fin 1024) (r : Fin 16384) (hr : r.val = 512 * win0_12.index t 0 + p.val) (s : Fin 4096) (hs : s.val = 1024 * win0_12.index t 1 + q.val) :
    (iblk0 V c 6 t : S512x1024.Idx → EReal) (ix2 p q) = (V c main_arg3 : S16384x22528.Idx → EReal) (ix2 r ⟨10240 + (4096 * (0 : Fin 3).val + s.val), by omega⟩) := by
  obtain ⟨-, -, -, -, -, -, ⟨a0, a1⟩, -⟩ := index0 t
  show V c main_arg3 (((cfg0.win 6).blk t).view.emb (ix2 p q)) = _
  refine congrArg (V c main_arg3) (funext fun d => Fin.ext ?_)
  fin_cases d
  · show win0_6.index t (0 : Fin 2) * 512 + 1 * p.val = r.val; omega
  · show win0_6.index t (1 : Fin 2) * 1024 + 1 * q.val = 10240 + (4096 * 0 + s.val); omega

theorem in0_7 (t : Fin cfg0.N) (p : Fin 512) (q : Fin 1024) (r : Fin 16384) (hr : r.val = 512 * win0_12.index t 0 + p.val) (s : Fin 4096) (hs : s.val = 1024 * win0_12.index t 1 + q.val) :
    (iblk0 V c 7 t : S512x1024.Idx → EReal) (ix2 p q) = (V c main_arg3 : S16384x22528.Idx → EReal) (ix2 r ⟨10240 + (4096 * (1 : Fin 3).val + s.val), by omega⟩) := by
  obtain ⟨-, -, -, -, -, -, -, ⟨a0, a1⟩, -⟩ := index0 t
  show V c main_arg3 (((cfg0.win 7).blk t).view.emb (ix2 p q)) = _
  refine congrArg (V c main_arg3) (funext fun d => Fin.ext ?_)
  fin_cases d
  · show win0_7.index t (0 : Fin 2) * 512 + 1 * p.val = r.val; omega
  · show win0_7.index t (1 : Fin 2) * 1024 + 1 * q.val = 10240 + (4096 * 1 + s.val); omega

theorem in0_8 (t : Fin cfg0.N) (p : Fin 512) (q : Fin 1024) (r : Fin 16384) (hr : r.val = 512 * win0_12.index t 0 + p.val) (s : Fin 4096) (hs : s.val = 1024 * win0_12.index t 1 + q.val) :
    (iblk0 V c 8 t : S512x1024.Idx → EReal) (ix2 p q) = (V c main_arg3 : S16384x22528.Idx → EReal) (ix2 r ⟨10240 + (4096 * (2 : Fin 3).val + s.val), by omega⟩) := by
  obtain ⟨-, -, -, -, -, -, -, -, ⟨a0, a1⟩, -⟩ := index0 t
  show V c main_arg3 (((cfg0.win 8).blk t).view.emb (ix2 p q)) = _
  refine congrArg (V c main_arg3) (funext fun d => Fin.ext ?_)
  fin_cases d
  · show win0_8.index t (0 : Fin 2) * 512 + 1 * p.val = r.val; omega
  · show win0_8.index t (1 : Fin 2) * 1024 + 1 * q.val = 10240 + (4096 * 2 + s.val); omega

theorem in0_9 (t : Fin cfg0.N) (q : Fin 1024) (s : Fin 4096) (hs : s.val = 1024 * win0_12.index t 1 + q.val) :
    (iblk0 V c 9 t : S1x1024.Idx → EReal) (ix2 (0 : Fin 1) q) = (V c main_v7 : S1x12288.Idx → EReal) (ix2 (0 : Fin 1) ⟨4096 * (0 : Fin 3).val + s.val, by omega⟩) := by
  obtain ⟨-, -, -, -, -, -, -, -, -, ⟨a0, a1⟩, -⟩ := index0 t
  show V c main_v7 (((cfg0.win 9).blk t).view.emb (ix2 (0 : Fin 1) q)) = _
  refine congrArg (V c main_v7) (funext fun d => Fin.ext ?_)
  fin_cases d
  · show win0_9.index t (0 : Fin 2) * 1 + 1 * 0 = 0; omega
  · show win0_9.index t (1 : Fin 2) * 1024 + 1 * q.val = 4096 * 0 + s.val; omega

theorem in0_10 (t : Fin cfg0.N) (q : Fin 1024) (s : Fin 4096) (hs : s.val = 1024 * win0_12.index t 1 + q.val) :
    (iblk0 V c 10 t : S1x1024.Idx → EReal) (ix2 (0 : Fin 1) q) = (V c main_v7 : S1x12288.Idx → EReal) (ix2 (0 : Fin 1) ⟨4096 * (1 : Fin 3).val + s.val, by omega⟩) := by
  obtain ⟨-, -, -, -, -, -, -, -, -, -, ⟨a0, a1⟩, -⟩ := index0 t
  show V c main_v7 (((cfg0.win 10).blk t).view.emb (ix2 (0 : Fin 1) q)) = _
  refine congrArg (V c main_v7) (funext fun d => Fin.ext ?_)
  fin_cases d
  · show win0_10.index t (0 : Fin 2) * 1 + 1 * 0 = 0; omega
  · show win0_10.index t (1 : Fin 2) * 1024 + 1 * q.val = 4096 * 1 + s.val; omega

theorem in0_11 (t : Fin cfg0.N) (q : Fin 1024) (s : Fin 4096) (hs : s.val = 1024 * win0_12.index t 1 + q.val) :
    (iblk0 V c 11 t : S1x1024.Idx → EReal) (ix2 (0 : Fin 1) q) = (V c main_v7 : S1x12288.Idx → EReal) (ix2 (0 : Fin 1) ⟨4096 * (2 : Fin 3).val + s.val, by omega⟩) := by
  obtain ⟨-, -, -, -, -, -, -, -, -, -, -, ⟨a0, a1⟩, -⟩ := index0 t
  show V c main_v7 (((cfg0.win 11).blk t).view.emb (ix2 (0 : Fin 1) q)) = _
  refine congrArg (V c main_v7) (funext fun d => Fin.ext ?_)
  fin_cases d
  · show win0_11.index t (0 : Fin 2) * 1 + 1 * 0 = 0; omega
  · show win0_11.index t (1 : Fin 2) * 1024 + 1 * q.val = 4096 * 2 + s.val; omega

theorem in1_0 (t : Fin cfg1.N) (p : Fin 1024) (k : Fin 4096) (r : Fin 16384) (hr : r.val = 1024 * win1_3.index t 0 + p.val) :
    (iblk1 V c 0 t : S1024x4096.Idx → EReal) (ix2 p k) = (V c main_v8 : S16384x4096.Idx → EReal) (ix2 r k) := by
  obtain ⟨⟨a0, a1⟩, -⟩ := index1 t
  show V c main_v8 (((cfg1.win 0).blk t).view.emb (ix2 p k)) = _
  refine congrArg (V c main_v8) (funext fun d => Fin.ext ?_)
  fin_cases d
  · show win1_0.index t (0 : Fin 2) * 1024 + 1 * p.val = r.val; omega
  · show win1_0.index t (1 : Fin 2) * 4096 + 1 * k.val = k.val; omega

theorem in1_1 (t : Fin cfg1.N) (k : Fin 4096) (q : Fin 1024) (s : Fin 4096) (hs : s.val = 1024 * win1_3.index t 1 + q.val) :
    (iblk1 V c 1 t : S1x4096x1024.Idx → EReal) (ix3 (0 : Fin 1) k q) = (V c main_v3 : S2x4096x4096.Idx → EReal) (ix3 (0 : Fin 2) k s) := by
  obtain ⟨-, ⟨a0, a1, a2⟩, -⟩ := index1 t
  show V c main_v3 (((cfg1.win 1).blk t).view.emb (ix3 (0 : Fin 1) k q)) = _
  refine congrArg (V c main_v3) (funext fun d => Fin.ext ?_)
  fin_cases d
  · show win1_1.index t (0 : Fin 3) * 1 + 1 * 0 = 0; omega
  · show win1_1.index t (1 : Fin 3) * 4096 + 1 * k.val = k.val; omega
  · show win1_1.index t (2 : Fin 3) * 1024 + 1 * q.val = s.val; omega

theorem in1_2 (t : Fin cfg1.N) (p q : Fin 1024) (r : Fin 16384) (hr : r.val = 1024 * win1_3.index t 0 + p.val) (s : Fin 4096) (hs : s.val = 1024 * win1_3.index t 1 + q.val) :
    (iblk1 V c 2 t : S1024x1024.Idx → EReal) (ix2 p q) = (V c main_v4 : S16384x4096.Idx → EReal) (ix2 r s) := by
  obtain ⟨-, -, ⟨a0, a1⟩, -⟩ := index1 t
  show V c main_v4 (((cfg1.win 2).blk t).view.emb (ix2 p q)) = _
  refine congrArg (V c main_v4) (funext fun d => Fin.ext ?_)
  fin_cases d
  · show win1_2.index t (0 : Fin 2) * 1024 + 1 * p.val = r.val; omega
  · show win1_2.index t (1 : Fin 2) * 1024 + 1 * q.val = s.val; omega

theorem pay0 (x0 x1 x2 : FVec Ideal S512x1024 .bf16) (x3 x4 x5 : FVec Ideal S1x1024x1024 .bf16) (x6 x7 x8 : FVec Ideal S512x1024 .f32) (x9 x10 x11 : FVec Ideal S1x1024 .f32) (p : Fin 512) (q : Fin 1024) :
    k0_pay1 (F := Ideal) (k0_pay2 (F := Ideal) x0 x3 x6 x9 x1 x4 x7 x10) (k0_pay3 (F := Ideal) x2 x5) x8 x11 (ix2 p q)
      = Ideal.logistic (x6 (ix2 p q) + x9 (ix2 (0 : Fin 1) q)) * ∑ k : Fin 1024, x0 (ix2 p k) * x3 (ix3 (0 : Fin 1) k q)
        + Ideal.logistic (x7 (ix2 p q) + x10 (ix2 (0 : Fin 1) q)) * ∑ k : Fin 1024, x1 (ix2 p k) * x4 (ix3 (0 : Fin 1) k q)
        + Ideal.logistic (x8 (ix2 p q) + x11 (ix2 (0 : Fin 1) q)) * ∑ k : Fin 1024, x2 (ix2 p k) * x5 (ix3 (0 : Fin 1) k q) := by
  unfold k0_pay1 k0_pay2 k0_pay3
  refine congr (congrArg (fun a b : EReal => a + b) (congr (congrArg (fun a b : EReal => a + b)
    (congr (congrArg (fun a b : EReal => a * b) (gate_apply x6 x9 _ _ p q)) (slab_apply x0 x3 _ p q)))
    (congr (congrArg (fun a b : EReal => a * b) (gate_apply x7 x10 _ _ p q)) (product_apply x1 x4 _ _ p q))))
    (congr (congrArg (fun a b : EReal => a * b) (gate_apply x8 x11 _ _ p q)) (product_apply x2 x5 _ _ p q))

theorem pay1 (x : FVec Ideal S1024x1024 .f32) (h : FVec Ideal S1024x4096 .bf16) (w : FVec Ideal S1x4096x1024 .bf16) (p q : Fin 1024) :
    k1_pay1 (F := Ideal) x h w (ix2 p q) = x (ix2 p q) + ∑ k : Fin 4096, h (ix2 p k) * w (ix3 (0 : Fin 1) k q) := by
  unfold k1_pay1
  refine congr (congrArg (fun a b : EReal => a + b) ?_) (product_apply h w _ _ p q)
  rw [shapeCast_self]

theorem out0_eq (x0 x1 x2 : FVec Ideal S512x1024 .bf16) (x3 x4 x5 : FVec Ideal S1x1024x1024 .bf16) (x6 x7 x8 : FVec Ideal S512x1024 .f32) (x9 x10 x11 : FVec Ideal S1x1024 .f32) : out0_12 (F := Ideal) x0 x1 x2 x3 x4 x5 x6 x7 x8 x9 x10 x11 = k0_pay1 (F := Ideal) (k0_pay2 (F := Ideal) x0 x3 x6 x9 x1 x4 x7 x10) (k0_pay3 (F := Ideal) x2 x5) x8 x11 := by
  unfold out0_12
  refine (View.canon_cons_unit_zero (funext fun a => by fin_cases a <;> rfl) _ _ _).trans ?_
  simp only [View.ld_unit_zero (S := S512x1024) (off := ![0, 0]) (funext fun a => by fin_cases a <;> rfl), View.ld_unit_zero (S := S1x1024x1024) (off := ![0, 0, 0]) (funext fun a => by fin_cases a <;> rfl),
    View.ld_unit_zero (S := S1x1024) (off := ![0, 0]) (funext fun a => by fin_cases a <;> rfl)]

theorem out1_eq (x0 : FVec Ideal S1024x4096 .bf16) (x1 : FVec Ideal S1x4096x1024 .bf16) (x2 : FVec Ideal S1024x1024 .f32) :
    out1_3 (F := Ideal) x0 x1 x2 = k1_pay1 (F := Ideal) x2 x0 x1 := by
  unfold out1_3
  refine (View.canon_cons_unit_zero (funext fun a => by fin_cases a <;> rfl) _ _ _).trans ?_
  rw [View.ld_unit_zero (funext fun a => by fin_cases a <;> rfl), View.ld_unit_zero (funext fun a => by fin_cases a <;> rfl), View.ld_unit_zero (funext fun a => by fin_cases a <;> rfl)]

theorem arr0 : (dat0 V c).arrAt 12 cfg0.N = mixAll (V c main_arg0) (V c main_v5) (V c main_v6) (V c main_v0) (V c main_v1) (V c main_v2) (V c main_arg3) (V c main_v7) := by
  refine (dat0 V c).arrAt_eq_of_covers 12 (mixAll (V c main_arg0) (V c main_v5) (V c main_v6) (V c main_v0) (V c main_v1) (V c main_v2) (V c main_arg3) (V c main_v7)) (by decide +kernel) fun t hf y => ?_
  blk_simp
  rw [after0_12, out0_eq]
  have y0 : (y 0).val < 512 := (y 0).isLt
  have y1 : (y 1).val < 1024 := (y 1).isLt
  have f0 : (((win0_12.blk t).view.emb y) 0).val = 512 * win0_12.index t 0 + (y 0).val := by
    show win0_12.index t (0 : Fin 2) * 512 + 1 * (y 0).val = _; omega
  have f1 : (((win0_12.blk t).view.emb y) 1).val = 1024 * win0_12.index t 1 + (y 1).val := by
    show win0_12.index t (1 : Fin 2) * 1024 + 1 * (y 1).val = _; omega
  have ey : y = ix2 (y 0 : Fin 512) (y 1 : Fin 1024) := funext fun a => by fin_cases a <;> rfl
  refine (congrArg (k0_pay1 (F := Ideal) (k0_pay2 (F := Ideal) (iblk0 V c 0 t) (iblk0 V c 3 t) (iblk0 V c 6 t) (iblk0 V c 9 t) (iblk0 V c 1 t) (iblk0 V c 4 t) (iblk0 V c 7 t) (iblk0 V c 10 t)) (k0_pay3 (F := Ideal) (iblk0 V c 2 t) (iblk0 V c 5 t)) (iblk0 V c 8 t) (iblk0 V c 11 t)) ey).trans ((pay0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (y 0) (y 1)).trans ?_)
  unfold mixAll gate branch
  exact congr (congrArg (fun a b : EReal => a + b) (congr (congrArg (fun a b : EReal => a + b)
    (congr (congrArg (fun a b : EReal => a * b) (congrArg Ideal.logistic (congr (congrArg (fun a b : EReal => a + b) (in0_6 V c t (y 0) (y 1) _ f0 _ f1)) (in0_9 V c t (y 1) _ f1))))
      (Finset.sum_congr rfl fun k _ => congr (congrArg (fun a b : EReal => a * b) (in0_0 V c t (y 0) k _ f0)) (in0_3 V c t k (y 1) _ f1))))
    (congr (congrArg (fun a b : EReal => a * b) (congrArg Ideal.logistic (congr (congrArg (fun a b : EReal => a + b) (in0_7 V c t (y 0) (y 1) _ f0 _ f1)) (in0_10 V c t (y 1) _ f1))))
      (Finset.sum_congr rfl fun k _ => congr (congrArg (fun a b : EReal => a * b) (in0_1 V c t (y 0) k _ f0)) (in0_4 V c t k (y 1) _ f1)))))
    (congr (congrArg (fun a b : EReal => a * b) (congrArg Ideal.logistic (congr (congrArg (fun a b : EReal => a + b) (in0_8 V c t (y 0) (y 1) _ f0 _ f1)) (in0_11 V c t (y 1) _ f1))))
      (Finset.sum_congr rfl fun k _ => congr (congrArg (fun a b : EReal => a * b) (in0_2 V c t (y 0) k _ f0)) (in0_5 V c t k (y 1) _ f1)))

theorem arr1 : (dat1 V c).arrAt 3 cfg1.N = outAll (V c main_v8) (V c main_v3) (V c main_v4) := by
  refine (dat1 V c).arrAt_eq_of_covers 3 (outAll (V c main_v8) (V c main_v3) (V c main_v4)) (by decide +kernel) fun t hf y => ?_
  blk_simp
  rw [after1_3, out1_eq]
  have y0 : (y 0).val < 1024 := (y 0).isLt
  have y1 : (y 1).val < 1024 := (y 1).isLt
  have f0 : (((win1_3.blk t).view.emb y) 0).val = 1024 * win1_3.index t 0 + (y 0).val := by
    show win1_3.index t (0 : Fin 2) * 1024 + 1 * (y 0).val = _; omega
  have f1 : (((win1_3.blk t).view.emb y) 1).val = 1024 * win1_3.index t 1 + (y 1).val := by
    show win1_3.index t (1 : Fin 2) * 1024 + 1 * (y 1).val = _; omega
  have ey : y = ix2 (y 0 : Fin 1024) (y 1 : Fin 1024) := funext fun a => by fin_cases a <;> rfl
  have ez : (win1_3.blk t).view.emb y = ix2 (((win1_3.blk t).view.emb y) 0 : Fin 16384) (((win1_3.blk t).view.emb y) 1 : Fin 4096) :=
    funext fun a => by fin_cases a <;> rfl
  refine (congrArg (k1_pay1 (F := Ideal) (iblk1 V c 2 t) (iblk1 V c 0 t) (iblk1 V c 1 t)) ey).trans
    ((pay1 (iblk1 V c 2 t) (iblk1 V c 0 t) (iblk1 V c 1 t) (y 0) (y 1)).trans ?_)
  unfold outAll
  exact congr (congrArg (fun a b : EReal => a + b) ((in1_2 V c t (y 0) (y 1) _ f0 _ f1).trans (congrArg (V c main_v4) ez.symm)))
    (Finset.sum_congr rfl fun k _ => congr (congrArg (fun a b : EReal => a * b) (in1_0 V c t (y 0) k _ f0)) (in1_1 V c t k (y 1) _ f1))

end Cert.OutProjIdeal.Stage

end
-- ==== Proof.OutProjVal.lean ====
/-
  The output projection's result against the reference's: the residual plus the gated sum of the branches times the first layer's
  output weights.
-/
module

public import Idealize.ShloMosaic.Lib.Claim
public import Idealize.ShloMosaic.Lib.IdealHost
public import Idealize.ShloMosaic.Lib.StableHlo.Run
public import proofs.«01_k».proof.Proof.OutProjRun
public import proofs.«01_k».proof.Proof.OutProjArr
public import proofs.«01_k».proof.Proof.Gen.OutProjRefIdeal.Read

@[expose] public section

set_option maxRecDepth 65536

noncomputable section

namespace Cert.OutProjIdeal.Stage

open Idealize.ShloMosaic
open Idealize.ShloMosaic.ValueIdx Idealize.ShloMosaic.TcCoe
open Cert.OutProjIdeal Cert.OutProjIdeal.Gen Cert.Dense
open scoped BigOperators

/-- A token's row among the rows of all tokens. -/
def row (i : Fin 8) (t : Fin 2048) : Fin 16384 := ⟨2048 * i.val + t.val, by omega⟩

/-- A branch's gate at a token and a channel, the bias a vector. -/
def gateAt (P : S16384x22528.Idx → EReal) (b : S12288.Idx → EReal) (o : Fin 3) (r : Fin 16384) (s : Fin 4096) : EReal :=
  Ideal.logistic (P (ix2 r ⟨10240 + (4096 * o.val + s.val), by omega⟩) + b (ix1 ⟨4096 * o.val + s.val, by omega⟩))

/-- A branch's output at a token of a sequence and a channel. -/
def branchAt (l : S8x2048x1024.Idx → EReal) (w : S2x1024x4096.Idx → EReal) (i : Fin 8) (t : Fin 2048) (s : Fin 4096) : EReal :=
  ∑ k : Fin 1024, l (ix3 i t k) * w (ix3 (0 : Fin 2) k s)

/-- The gated sum at a token of a sequence and a channel. -/
def mixAt (la : S16384x1024.Idx → EReal) (lb lc : S8x2048x1024.Idx → EReal) (P : S16384x22528.Idx → EReal)
    (wa wb wc : S2x1024x4096.Idx → EReal) (b : S12288.Idx → EReal) (i : Fin 8) (t : Fin 2048) (s : Fin 4096) : EReal :=
  gateAt P b 0 (row i t) s * branch la wa (row i t) s + gateAt P b 1 (row i t) s * branchAt lb wb i t s + gateAt P b 2 (row i t) s * branchAt lc wc i t s

/-- The layer's result, as a function of the program's arguments. -/
def spec (la : S16384x1024.Idx → EReal) (lb lc : S8x2048x1024.Idx → EReal) (P : S16384x22528.Idx → EReal) (x : S8x2048x4096.Idx → EReal) (wa wb wc : S2x1024x4096.Idx → EReal) (b : S12288.Idx → EReal) (w : S2x4096x4096.Idx → EReal) : S8x2048x4096.Idx → EReal :=
  fun y => x y + ∑ k : Fin 4096, mixAt la lb lc P wa wb wc b (y 0) (y 1) k * w (ix3 (0 : Fin 2) k (y 2))

theorem gate_eq (P : S16384x22528.Idx → EReal) (b : S12288.Idx → EReal) (o : Fin 3) (r : Fin 16384) (s : Fin 4096) :
    gate P (shapeCast S1x12288 b shapeCasts_S12288_S1x12288) o r s = gateAt P b o r s := by
  unfold gate gateAt
  refine congrArg (fun z => Ideal.logistic (_ + z)) (shapeCast_apply _ _ _ (ix1 _) ?_)
  rw [Shape.rowMajor_val_two, Shape.rowMajor_val_one]
  show 4096 * o.val + s.val = 0 * 12288 + (4096 * o.val + s.val)
  omega

theorem branch_eq (l : S8x2048x1024.Idx → EReal) (w : S2x1024x4096.Idx → EReal) (i : Fin 8) (t : Fin 2048) (s : Fin 4096) :
    branch (shapeCast S16384x1024 l shapeCasts_S8x2048x1024_S16384x1024) w (row i t) s = branchAt l w i t s :=
  Finset.sum_congr rfl fun k _ => congrArg (· * _) (flat_apply l shapeCasts_S8x2048x1024_S16384x1024 i t (row i t) rfl k)

/-- The two arrays in a row, over the reshaped arguments, are the layer's result. -/
theorem spec_eq (la : S16384x1024.Idx → EReal) (lb lc : S8x2048x1024.Idx → EReal) (P : S16384x22528.Idx → EReal) (x : S8x2048x4096.Idx → EReal) (wa wb wc : S2x1024x4096.Idx → EReal) (b : S12288.Idx → EReal) (w : S2x4096x4096.Idx → EReal) :
    shapeCast S8x2048x4096 (outAll (mixAll la (shapeCast S16384x1024 lb shapeCasts_S8x2048x1024_S16384x1024) (shapeCast S16384x1024 lc shapeCasts_S8x2048x1024_S16384x1024) wa wb wc P
      (shapeCast S1x12288 b shapeCasts_S12288_S1x12288)) w (shapeCast S16384x4096 x shapeCasts_S8x2048x4096_S16384x4096))
      shapeCasts_S16384x4096_S8x2048x4096 = spec la lb lc P x wa wb wc b w := by
  funext y
  have y0 : (y 0).val < 8 := (y 0).isLt
  have y1 : (y 1).val < 2048 := (y 1).isLt
  refine (shapeCast_apply _ _ y (ix2 (row (y 0) (y 1)) (y 2 : Fin 4096)) ?_).trans ?_
  · rw [Shape.rowMajor_val_two, Shape.rowMajor_val_three]
    show (2048 * (y 0).val + (y 1).val) * 4096 + (y 2).val = ((y 0).val * 2048 + (y 1).val) * 4096 + (y 2).val
    omega
  · have ey : y = ix3 (y 0 : Fin 8) (y 1 : Fin 2048) (y 2 : Fin 4096) := funext fun a => by fin_cases a <;> rfl
    refine congr (congrArg (fun a b : EReal => a + b) ((flat_apply x shapeCasts_S8x2048x4096_S16384x4096 (y 0) (y 1) (row (y 0) (y 1)) rfl (y 2)).trans (congrArg x ey.symm))) ?_
    refine Finset.sum_congr rfl fun k _ => congrArg (· * _) ?_
    exact congr (congrArg (fun a b : EReal => a + b) (congr (congrArg (fun a b : EReal => a + b)
      (congrArg (· * _) (gate_eq P b 0 (row (y 0) (y 1)) k)))
      (congr (congrArg (fun a b : EReal => a * b) (gate_eq P b 1 (row (y 0) (y 1)) k)) (branch_eq lb wb (y 0) (y 1) k))))
      (congr (congrArg (fun a b : EReal => a * b) (gate_eq P b 2 (row (y 0) (y 1)) k)) (branch_eq lc wc (y 0) (y 1) k))

section Kernel

variable (m : (ℓ : Loc nD τ sig) → Buf (Elt Ideal) ℓ) (ρ : Dev nD → PrngReg) (c : Dev nD)

theorem entry_wa : V1 m ρ c main_v0 = m ((c : Thread nD τ).loc main_arg5) := by
  unfold_abbrev_sides
  after_results
  rfl

theorem entry_wb : V1 m ρ c main_v1 = m ((c : Thread nD τ).loc main_arg6) := by
  unfold_abbrev_sides
  after_results
  rfl

theorem entry_wc : V1 m ρ c main_v2 = m ((c : Thread nD τ).loc main_arg7) := by
  unfold_abbrev_sides
  after_results
  rfl

theorem entry_w : V1 m ρ c main_v3 = m ((c : Thread nD τ).loc main_arg9) := by
  unfold_abbrev_sides
  after_results
  rfl

theorem entry_x : V1 m ρ c main_v4 = shapeCast S16384x4096 (m ((c : Thread nD τ).loc main_arg4)) shapeCasts_S8x2048x4096_S16384x4096 := by
  unfold_abbrev_sides
  after_results
  rfl

theorem entry_lb : V1 m ρ c main_v5 = shapeCast S16384x1024 (m ((c : Thread nD τ).loc main_arg1)) shapeCasts_S8x2048x1024_S16384x1024 := by
  unfold_abbrev_sides
  after_results
  rfl

theorem entry_lc : V1 m ρ c main_v6 = shapeCast S16384x1024 (m ((c : Thread nD τ).loc main_arg2)) shapeCasts_S8x2048x1024_S16384x1024 := by
  unfold_abbrev_sides
  after_results
  rfl

theorem entry_b : V1 m ρ c main_v7 = shapeCast S1x12288 (m ((c : Thread nD τ).loc main_arg8)) shapeCasts_S12288_S1x12288 := by
  unfold_abbrev_sides
  after_results
  rfl

theorem entry_la : V1 m ρ c main_arg0 = m ((c : Thread nD τ).loc main_arg0) := by
  unfold_abbrev_sides
  after_results

theorem entry_P : V1 m ρ c main_arg3 = m ((c : Thread nD τ).loc main_arg3) := by
  unfold_abbrev_sides
  after_results

theorem whole : W3 m ρ c (Proc.devRef .tc main_v9) = outAll (mixAll (m ((c : Thread nD τ).loc main_arg0)) (shapeCast S16384x1024 (m ((c : Thread nD τ).loc main_arg1)) shapeCasts_S8x2048x1024_S16384x1024) (shapeCast S16384x1024 (m ((c : Thread nD τ).loc main_arg2)) shapeCasts_S8x2048x1024_S16384x1024) (m ((c : Thread nD τ).loc main_arg5)) (m ((c : Thread nD τ).loc main_arg6)) (m ((c : Thread nD τ).loc main_arg7)) (m ((c : Thread nD τ).loc main_arg3))
      (shapeCast S1x12288 (m ((c : Thread nD τ).loc main_arg8)) shapeCasts_S12288_S1x12288)) (m ((c : Thread nD τ).loc main_arg9)) (shapeCast S16384x4096 (m ((c : Thread nD τ).loc main_arg4)) shapeCasts_S8x2048x4096_S16384x4096) := by
  refine (W3_arr m ρ c 3).trans ((arr1 (V2 m ρ) c).trans ?_)
  refine congr (congr (congrArg outAll ?_) ((W2_of m ρ c main_v3 (by decide)).trans (entry_w m ρ c))) ((W2_of m ρ c main_v4 (by decide)).trans (entry_x m ρ c))
  refine (W2_arr m ρ c 12).trans ((arr0 (V1 m ρ) c).trans ?_)
  exact congr (congr (congr (congr (congr (congr (congr (congrArg mixAll (entry_la m ρ c)) (entry_lb m ρ c)) (entry_lc m ρ c)) (entry_wa m ρ c)) (entry_wb m ρ c)) (entry_wc m ρ c)) (entry_P m ρ c)) (entry_b m ρ c)

theorem res_v10 : W4 m ρ c (Proc.devRef .tc main_v10) = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine Eq.trans ?_ ((congrArg (fun v : S16384x4096.Idx → EReal => shapeCast S8x2048x4096 v shapeCasts_S16384x4096_S8x2048x4096) (whole m ρ c)).trans
    (spec_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))))
  unfold_abbrev_sides
  after_results
  rfl

end Kernel

section Reference

open Cert.OutProjRefIdeal.Read

variable (la : (⟨S16384x1024, .bf16⟩ : BufTy).Contents (Elt Ideal)) (lb lc : (⟨S8x2048x1024, .bf16⟩ : BufTy).Contents (Elt Ideal))
  (P : (⟨S16384x22528, .f32⟩ : BufTy).Contents (Elt Ideal)) (x : (⟨S8x2048x4096, .f32⟩ : BufTy).Contents (Elt Ideal))
  (wa wb wc : (⟨S2x1024x4096, .f32⟩ : BufTy).Contents (Elt Ideal)) (b : (⟨S12288, .f32⟩ : BufTy).Contents (Elt Ideal))
  (w : (⟨S2x4096x4096, .f32⟩ : BufTy).Contents (Elt Ideal))

/-- The reference's gate, before it is cut into the branches' channels. -/
theorem ref_gate (i : Fin 8) (t : Fin 2048) (o : Fin 3) (s : Fin 4096) :
    val_main_v24 (F := Ideal) P b (ix4 i t o s) = gateAt P b o (row i t) s := by
  rw [val_main_v24_apply, val_main_v23_apply, val_main_v22_apply, val_main_v21_apply, val_main_v20_apply, val_main_v19_apply, val_main_v18_apply,
    val_main_v17_apply, val_main_v14_apply, val_main_v13_apply, val_main_v16_apply, val_main_v15_apply, val_main_cst_apply, val_main_cst_0_apply]
  have e1 : (FloatOps.ofBits .f32 0x3F800000#32 : Ideal .f32) = (1 : EReal) := Ideal.ofBits_one_f32
  rw [e1]
  have eP : idx_main_v13 (idx_main_v14 (idx_main_v24 (ix4 i t o s))) = ix2 (row i t) ⟨10240 + (4096 * o.val + s.val), by omega⟩ :=
    funext fun a => Fin.ext (by
      have hi := i.isLt; have ht := t.isLt; have ho := o.isLt; have hs := s.isLt
      have h0 : (((i.val * 2048 + t.val) * 3 + o.val) * 4096 + s.val) / 25165824 = i.val := by omega
      have h1 : (((i.val * 2048 + t.val) * 3 + o.val) * 4096 + s.val) / 12288 % 2048 = t.val := by omega
      have h2 : (((i.val * 2048 + t.val) * 3 + o.val) * 4096 + s.val) % 12288 = 4096 * o.val + s.val := by omega
      fin_cases a
      · show (((((i.val * 2048 + t.val) * 3 + o.val) * 4096 + s.val) / 25165824 * 2048 + (((i.val * 2048 + t.val) * 3 + o.val) * 4096 + s.val) / 12288 % 2048) * 22528
          + (10240 + (((i.val * 2048 + t.val) * 3 + o.val) * 4096 + s.val) % 12288)) / 22528 = 2048 * i.val + t.val
        rw [h0, h1, h2]; omega
      · show (((((i.val * 2048 + t.val) * 3 + o.val) * 4096 + s.val) / 25165824 * 2048 + (((i.val * 2048 + t.val) * 3 + o.val) * 4096 + s.val) / 12288 % 2048) * 22528
          + (10240 + (((i.val * 2048 + t.val) * 3 + o.val) * 4096 + s.val) % 12288)) % 22528 = 10240 + (4096 * o.val + s.val)
        rw [h0, h1, h2]; omega)
  have eb : idx_main_v15 (idx_main_v16 (idx_main_v24 (ix4 i t o s))) = ix1 ⟨4096 * o.val + s.val, by omega⟩ :=
    funext fun a => Fin.ext (by
      have hi := i.isLt; have ht := t.isLt; have ho := o.isLt; have hs := s.isLt
      fin_cases a
      show (((i.val * 2048 + t.val) * 3 + o.val) * 4096 + s.val) % 12288 = 4096 * o.val + s.val
      omega)
  rw [eP, eb]
  rfl

theorem ref_gate0 (i : Fin 8) (t : Fin 2048) (s : Fin 4096) : val_main_v26 (F := Ideal) P b (ix3 i t s) = gateAt P b 0 (row i t) s := by
  rw [val_main_v26_apply, val_main_v25_apply, ← ref_gate P b i t 0 s]
  refine congrArg (val_main_v24 (F := Ideal) P b) (funext fun a => Fin.ext ?_)
  have hi := i.isLt; have ht := t.isLt; have hs := s.isLt
  fin_cases a
  · show ((i.val * 2048 + t.val) * 4096 + s.val) / 8388608 = i.val; omega
  · show ((i.val * 2048 + t.val) * 4096 + s.val) / 4096 % 2048 = t.val; omega
  · rfl
  · show ((i.val * 2048 + t.val) * 4096 + s.val) % 4096 = s.val; omega

theorem ref_gate1 (i : Fin 8) (t : Fin 2048) (s : Fin 4096) : val_main_v29 (F := Ideal) P b (ix3 i t s) = gateAt P b 1 (row i t) s := by
  rw [val_main_v29_apply, val_main_v28_apply, ← ref_gate P b i t 1 s]
  refine congrArg (val_main_v24 (F := Ideal) P b) (funext fun a => Fin.ext ?_)
  have hi := i.isLt; have ht := t.isLt; have hs := s.isLt
  fin_cases a
  · show ((i.val * 2048 + t.val) * 4096 + s.val) / 8388608 = i.val; omega
  · show ((i.val * 2048 + t.val) * 4096 + s.val) / 4096 % 2048 = t.val; omega
  · rfl
  · show ((i.val * 2048 + t.val) * 4096 + s.val) % 4096 = s.val; omega

theorem ref_gate2 (i : Fin 8) (t : Fin 2048) (s : Fin 4096) : val_main_v33 (F := Ideal) P b (ix3 i t s) = gateAt P b 2 (row i t) s := by
  rw [val_main_v33_apply, val_main_v32_apply, ← ref_gate P b i t 2 s]
  refine congrArg (val_main_v24 (F := Ideal) P b) (funext fun a => Fin.ext ?_)
  have hi := i.isLt; have ht := t.isLt; have hs := s.isLt
  fin_cases a
  · show ((i.val * 2048 + t.val) * 4096 + s.val) / 8388608 = i.val; omega
  · show ((i.val * 2048 + t.val) * 4096 + s.val) / 4096 % 2048 = t.val; omega
  · rfl
  · show ((i.val * 2048 + t.val) * 4096 + s.val) % 4096 = s.val; omega

theorem ref_branch0 (i : Fin 8) (t : Fin 2048) (s : Fin 4096) : val_main_v4 (F := Ideal) la wa (ix3 i t s) = branch la wa (row i t) s := by
  rw [val_main_v4_apply]
  refine Finset.sum_congr rfl fun k _ => congr (congrArg (fun a b : EReal => a * b) ?_) ?_
  · rw [val_main_v1_apply, val_main_v0_apply]
    refine congrArg la (funext fun a => Fin.ext ?_)
    have hi := i.isLt; have ht := t.isLt; have hk := k.isLt
    fin_cases a
    · show ((i.val * 2048 + t.val) * 1024 + k.val) / 1024 = 2048 * i.val + t.val; omega
    · show ((i.val * 2048 + t.val) * 1024 + k.val) % 1024 = k.val; omega
  · rw [val_main_v3_apply, val_main_v2_apply]
    refine congrArg wa (funext fun a => Fin.ext ?_)
    have hk := k.isLt; have hs := s.isLt
    fin_cases a
    · rfl
    · show (k.val * 4096 + s.val) / 4096 % 1024 = k.val; omega
    · show (k.val * 4096 + s.val) % 4096 = s.val; omega

theorem ref_branch1 (i : Fin 8) (t : Fin 2048) (s : Fin 4096) : val_main_v8 (F := Ideal) lb wb (ix3 i t s) = branchAt lb wb i t s := by
  rw [val_main_v8_apply]
  refine Finset.sum_congr rfl fun k _ => congr (congrArg (fun a b : EReal => a * b) ?_) ?_
  · rw [val_main_v5_apply]
    exact congrArg lb (funext fun a => Fin.ext (by fin_cases a <;> rfl))
  · rw [val_main_v7_apply, val_main_v6_apply]
    refine congrArg wb (funext fun a => Fin.ext ?_)
    have hk := k.isLt; have hs := s.isLt
    fin_cases a
    · rfl
    · show (k.val * 4096 + s.val) / 4096 % 1024 = k.val; omega
    · show (k.val * 4096 + s.val) % 4096 = s.val; omega

theorem ref_branch2 (i : Fin 8) (t : Fin 2048) (s : Fin 4096) : val_main_v12 (F := Ideal) lc wc (ix3 i t s) = branchAt lc wc i t s := by
  rw [val_main_v12_apply]
  refine Finset.sum_congr rfl fun k _ => congr (congrArg (fun a b : EReal => a * b) ?_) ?_
  · rw [val_main_v9_apply]
    exact congrArg lc (funext fun a => Fin.ext (by fin_cases a <;> rfl))
  · rw [val_main_v11_apply, val_main_v10_apply]
    refine congrArg wc (funext fun a => Fin.ext ?_)
    have hk := k.isLt; have hs := s.isLt
    fin_cases a
    · rfl
    · show (k.val * 4096 + s.val) / 4096 % 1024 = k.val; omega
    · show (k.val * 4096 + s.val) % 4096 = s.val; omega

theorem ref_mix (i : Fin 8) (t : Fin 2048) (s : Fin 4096) :
    val_main_v35 (F := Ideal) la lb lc P wa wb wc b (ix3 i t s) = mixAt la lb lc P wa wb wc b i t s := by
  rw [val_main_v35_apply, val_main_v31_apply, val_main_v27_apply, val_main_v30_apply, val_main_v34_apply, ref_gate0, ref_gate1, ref_gate2,
    ref_branch0, ref_branch1, ref_branch2]
  rfl

theorem ref_eq : val_main_v39 (F := Ideal) la lb lc P x wa wb wc b w = spec la lb lc P x wa wb wc b w := by
  funext y
  rw [val_main_v39_apply, val_main_v38_apply]
  refine congrArg (fun z : EReal => x y + z) (Finset.sum_congr rfl fun k _ => congr (congrArg (fun a b : EReal => a * b) ?_) ?_)
  · refine Eq.trans (congrArg (val_main_v35 (F := Ideal) la lb lc P wa wb wc b) ?_) (ref_mix la lb lc P wa wb wc b (y 0) (y 1) k)
    exact funext fun a => Fin.ext (by fin_cases a <;> rfl)
  · rw [val_main_v37_apply, val_main_v36_apply]
    refine congrArg w (funext fun a => Fin.ext ?_)
    have hk := k.isLt
    have h2 : (y 2).val < 4096 := (y 2).isLt
    fin_cases a
    · rfl
    · show (k.val * 4096 + (y 2).val) / 4096 % 4096 = k.val; omega
    · show (k.val * 4096 + (y 2).val) % 4096 = (y 2).val; omega

end Reference

end Cert.OutProjIdeal.Stage

end
-- ==== Proof.OutProjClaims.lean ====
/-
  The output projection's claims: its three programs run and leave their arguments as they found them, and its result is the
  reference's.
-/
module

public import proofs.«01_k».proof.Defs
public import proofs.«01_k».proof.Proof.Gen.OutProj.Frame
public import proofs.«01_k».proof.Proof.Gen.OutProjRefIdeal.Run
public import proofs.«01_k».proof.Proof.OutProjVal
public import Idealize.ShloMosaic.Lib.Quiescent

@[expose] public section

noncomputable section

open Idealize.ShloMosaic Idealize.ShloMosaic.TcCoe Idealize.SL.Sem

namespace Cert.Proof.OutProjClaims

open Cert.OutProjIdeal.Stage

theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

theorem preserves : Cert.preserves_OutProj_OutProjIdeal := trivial

open Cert.OutProjIdeal Cert.OutProjIdeal.Gen in
/-- The output projection's run, its result named. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v10 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c)⟩) (run m ρ)

theorem algebraic :
    letI := Cert.OutProjIdeal.Gen.facts; letI := Cert.OutProjRefIdeal.Gen.facts
    Cert.algebraic_OutProjIdeal_OutProjRefIdeal := by
  intro m ρ m' ρ' _ hag
  refine ⟨fun c => Cert.OutProjRefIdeal.Read.val_main_v39 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)),
    (θ_run Cert.OutProjIdeal.defs _ _).mono (fun r h c => ?_) (kernel_run m ρ),
    (θ_run Cert.OutProjRefIdeal.defs _ _).mono (fun r h c => ?_) (Cert.OutProjRefIdeal.Value.run (F := Ideal) m' ρ')⟩
  · obtain ⟨h0, ha⟩ := h c
    exact ⟨h0.trans ((res_v10 m ρ c).trans (ref_eq _ _ _ _ _ _ _ _ _ _).symm), ha⟩
  · obtain ⟨h0, ha⟩ := h c
    obtain ⟨g0, g1, g2, g3, g4, g5, g6, g7, g8, g9⟩ := hag c
    refine ⟨h0.trans ?_, ha⟩
    rw [Cert.OutProjRefIdeal.Read.val_main_v39_eq, g0, g1, g2, g3, g4, g5, g6, g7, g8, g9]

end Cert.Proof.OutProjClaims

end
-- ==== Proof.GluVal.lean ====
/-
  The state space mixer's gate: the array its kernel leaves, as a function of the program's arguments, and the reference's.
-/
module

public import Idealize.ShloMosaic.Lib.Claim
public import Idealize.ShloMosaic.Lib.IdealHost
public import Idealize.ShloMosaic.Lib.StableHlo.Run
public import Idealize.ShloMosaic.Lib.Pipeline.ValueKit.Geometry
public import proofs.«01_k».proof.Proof.Gen.GluIdeal.Value
public import proofs.«01_k».proof.Proof.Gen.GluRefIdeal.Read
public import proofs.«01_k».proof.Proof.Dense

@[expose] public section

set_option maxRecDepth 65536

noncomputable section

namespace Cert.GluIdeal.Stage

open Idealize.ShloMosaic
open Idealize.ShloMosaic.ValueIdx Idealize.ShloMosaic.TcCoe
open Cert.GluIdeal Cert.GluIdeal.Gen Cert.Dense
open scoped BigOperators

/-- The step of a row. -/
def pos (r : Fin 16384) : Fin 2048 := ⟨r.val % 2048, by omega⟩

/-- The stream of a row. -/
def stream (r : Fin 16384) : Fin 8 := ⟨r.val / 2048, by omega⟩

/-- A channel of a row's stream, among the channels of all streams. -/
def lane (r : Fin 16384) (s : Fin 1024) : Fin 8192 := ⟨1024 * (r.val / 2048) + s.val, by omega⟩

/-- A value under its gate, times its gate path's SiLU. -/
def gated (v g z : EReal) : EReal := v * Ideal.logistic g * (z * Ideal.logistic z)

/-- An entry of the array the kernel leaves, of the arrays it reads. -/
def gluAt (y : S2048x8192.Idx → EReal) (w : S2x1024x1024.Idx → EReal) (b : S1x1024.Idx → EReal) (P : S16384x22528.Idx → EReal)
    (r : Fin 16384) (s : Fin 1024) : EReal :=
  gated (y (ix2 (pos r) (lane r s))) ((∑ k : Fin 1024, y (ix2 (pos r) (lane r k)) * w (ix3 (0 : Fin 2) k s)) + b (ix2 (0 : Fin 1) s))
    (P (ix2 r ⟨1024 + s.val, by omega⟩))

/-- The array the kernel leaves, of the arrays it reads. -/
def gluAll (y : S2048x8192.Idx → EReal) (w : S2x1024x1024.Idx → EReal) (b : S1x1024.Idx → EReal) (P : S16384x22528.Idx → EReal) : S16384x1024.Idx → EReal :=
  fun i => gluAt y w b P (i 0) (i 1)

/-- The same of the program's arguments. -/
def spec (y : S2048x8x1024.Idx → EReal) (w : S2x1024x1024.Idx → EReal) (b : S1024.Idx → EReal) (P : S16384x22528.Idx → EReal) : S16384x1024.Idx → EReal :=
  fun i => gated (y (ix3 (pos (i 0)) (stream (i 0)) (i 1)))
    ((∑ k : Fin 1024, y (ix3 (pos (i 0)) (stream (i 0)) k) * w (ix3 (0 : Fin 2) k (i 1))) + b (ix1 (i 1)))
    (P (ix2 (i 0) ⟨1024 + (i 1).val, by have h : (i 1).val < 1024 := (i 1).isLt; omega⟩))

theorem lane_eq (y : S2048x8x1024.Idx → EReal) (r : Fin 16384) (s : Fin 1024) :
    shapeCast S2048x8192 y shapeCasts_S2048x8x1024_S2048x8192 (ix2 (pos r) (lane r s)) = y (ix3 (pos r) (stream r) s) := by
  refine shapeCast_apply _ _ _ (ix3 (pos r) (stream r) s) ?_
  rw [Shape.rowMajor_val_two, Shape.rowMajor_val_three]
  show ((pos r).val * 8 + r.val / 2048) * 1024 + s.val = (pos r).val * 8192 + (1024 * (r.val / 2048) + s.val)
  omega

theorem spec_eq (y : S2048x8x1024.Idx → EReal) (w : S2x1024x1024.Idx → EReal) (b : S1024.Idx → EReal) (P : S16384x22528.Idx → EReal) :
    gluAll (shapeCast S2048x8192 y shapeCasts_S2048x8x1024_S2048x8192) w (shapeCast S1x1024 b shapeCasts_S1024_S1x1024) P = spec y w b P := by
  funext i
  refine congrArg₂ (fun v g : EReal => gated v g _) (lane_eq y (i 0) (i 1)) ?_
  refine congr (congrArg (fun a b : EReal => a + b) (Finset.sum_congr rfl fun k _ => congrArg (· * _) (lane_eq y (i 0) k))) ?_
  refine shapeCast_apply _ _ _ (ix1 (i 1)) ?_
  rw [Shape.rowMajor_val_two, Shape.rowMajor_val_one]
  show (i 1).val = 0 * 1024 + (i 1).val
  omega

section Array

variable (m : (ℓ : Loc nD τ sig) → Buf (Elt Ideal) ℓ) (c : Dev nD)

theorem index : ∀ t : Fin cfg0.N, (win0_0.index t 0 < 4 ∧ win0_0.index t 1 < 8)
    ∧ (win0_1.index t 0 = 0 ∧ win0_1.index t 1 = 0 ∧ win0_1.index t 2 = 0) ∧ (win0_2.index t 0 = 0 ∧ win0_2.index t 1 = 0)
    ∧ (win0_3.index t 0 = win0_4.index t 0 ∧ win0_3.index t 1 = 1) ∧ (win0_4.index t 0 = 4 * win0_0.index t 1 + win0_0.index t 0 ∧ win0_4.index t 1 = 0) :=
  (by decide +kernel : ∀ t : Fin grid0.N, (win0_0.index t 0 < 4 ∧ win0_0.index t 1 < 8)
    ∧ (win0_1.index t 0 = 0 ∧ win0_1.index t 1 = 0 ∧ win0_1.index t 2 = 0) ∧ (win0_2.index t 0 = 0 ∧ win0_2.index t 1 = 0)
    ∧ (win0_3.index t 0 = win0_4.index t 0 ∧ win0_3.index t 1 = 1) ∧ (win0_4.index t 0 = 4 * win0_0.index t 1 + win0_0.index t 0 ∧ win0_4.index t 1 = 0))

theorem in0 (t : Fin cfg0.N) (p : Fin 512) (k : Fin 1024) (r : Fin 16384) (hr : r.val = 512 * win0_4.index t 0 + p.val) :
    (iblk m c 0 t : S512x1024.Idx → EReal) (ix2 p k) = (V m c main_v1 : S2048x8192.Idx → EReal) (ix2 (pos r) (lane r k)) := by
  obtain ⟨⟨a0, a1⟩, -, -, -, ⟨a2, -⟩⟩ := index t
  show V m c main_v1 (((cfg0.win 0).blk t).view.emb (ix2 p k)) = _
  refine congrArg (V m c main_v1) (funext fun d => Fin.ext ?_)
  fin_cases d
  · show win0_0.index t (0 : Fin 2) * 512 + 1 * p.val = r.val % 2048; omega
  · show win0_0.index t (1 : Fin 2) * 1024 + 1 * k.val = 1024 * (r.val / 2048) + k.val; omega

theorem in1 (t : Fin cfg0.N) (k q : Fin 1024) :
    (iblk m c 1 t : S1x1024x1024.Idx → EReal) (ix3 (0 : Fin 1) k q) = (V m c main_v0 : S2x1024x1024.Idx → EReal) (ix3 (0 : Fin 2) k q) := by
  obtain ⟨-, ⟨a0, a1, a2⟩, -⟩ := index t
  show V m c main_v0 (((cfg0.win 1).blk t).view.emb (ix3 (0 : Fin 1) k q)) = _
  refine congrArg (V m c main_v0) (funext fun d => Fin.ext ?_)
  fin_cases d
  · show win0_1.index t (0 : Fin 3) * 1 + 1 * 0 = 0; omega
  · show win0_1.index t (1 : Fin 3) * 1024 + 1 * k.val = k.val; omega
  · show win0_1.index t (2 : Fin 3) * 1024 + 1 * q.val = q.val; omega

theorem in2 (t : Fin cfg0.N) (q : Fin 1024) :
    (iblk m c 2 t : S1x1024.Idx → EReal) (ix2 (0 : Fin 1) q) = (V m c main_v2 : S1x1024.Idx → EReal) (ix2 (0 : Fin 1) q) := by
  obtain ⟨-, -, ⟨a0, a1⟩, -⟩ := index t
  show V m c main_v2 (((cfg0.win 2).blk t).view.emb (ix2 (0 : Fin 1) q)) = _
  refine congrArg (V m c main_v2) (funext fun d => Fin.ext ?_)
  fin_cases d
  · show win0_2.index t (0 : Fin 2) * 1 + 1 * 0 = 0; omega
  · show win0_2.index t (1 : Fin 2) * 1024 + 1 * q.val = q.val; omega

theorem in3 (t : Fin cfg0.N) (p : Fin 512) (q : Fin 1024) (r : Fin 16384) (hr : r.val = 512 * win0_4.index t 0 + p.val) :
    (iblk m c 3 t : S512x1024.Idx → EReal) (ix2 p q) = (V m c main_arg3 : S16384x22528.Idx → EReal) (ix2 r ⟨1024 + q.val, by omega⟩) := by
  obtain ⟨-, -, -, ⟨a0, a1⟩, -⟩ := index t
  show V m c main_arg3 (((cfg0.win 3).blk t).view.emb (ix2 p q)) = _
  refine congrArg (V m c main_arg3) (funext fun d => Fin.ext ?_)
  fin_cases d
  · show win0_3.index t (0 : Fin 2) * 512 + 1 * p.val = r.val; omega
  · show win0_3.index t (1 : Fin 2) * 1024 + 1 * q.val = 1024 + q.val; omega

theorem pay (y : FVec Ideal S512x1024 .f32) (w : FVec Ideal S1x1024x1024 .bf16) (b : FVec Ideal S1x1024 .f32) (z : FVec Ideal S512x1024 .f32)
    (p : Fin 512) (q : Fin 1024) : k0_pay1 (F := Ideal) y w b z (ix2 p q)
      = gated (y (ix2 p q)) ((∑ k : Fin 1024, y (ix2 p k) * w (ix3 (0 : Fin 1) k q)) + b (ix2 (0 : Fin 1) q)) (z (ix2 p q)) := by
  unfold k0_pay1 gated
  rw [shapeCast_self]
  refine congrArg (fun a : EReal => y (ix2 p q) * a * (z (ix2 p q) * Ideal.logistic (z (ix2 p q)))) ?_
  refine (gate_apply _ b _ _ p q).trans (congrArg (fun a : EReal => Ideal.logistic (a + b (ix2 (0 : Fin 1) q))) ?_)
  exact slab_apply (truncf .bf16 y bitsLt_bf16_f32) w _ p q

theorem out_eq (x0 : FVec Ideal S512x1024 .f32) (x1 : FVec Ideal S1x1024x1024 .bf16) (x2 : FVec Ideal S1x1024 .f32) (x3 : FVec Ideal S512x1024 .f32) :
    out0_4 (F := Ideal) x0 x1 x2 x3 = k0_pay1 (F := Ideal) x0 x1 x2 x3 := by
  unfold out0_4
  refine (View.canon_cons_unit_zero (funext fun a => by fin_cases a <;> rfl) _ _ _).trans ?_
  simp only [View.ld_unit_zero (S := S512x1024) (off := ![0, 0]) (funext fun a => by fin_cases a <;> rfl),
    View.ld_unit_zero (S := S1x1024x1024) (off := ![0, 0, 0]) (funext fun a => by fin_cases a <;> rfl),
    View.ld_unit_zero (S := S1x1024) (off := ![0, 0]) (funext fun a => by fin_cases a <;> rfl)]

theorem arr : (dats m 0 c).arrAt 4 cfg0.N = gluAll (V m c main_v1) (V m c main_v0) (V m c main_v2) (V m c main_arg3) := by
  refine (dats m 0 c).arrAt_eq_of_covers 4 (gluAll (V m c main_v1) (V m c main_v0) (V m c main_v2) (V m c main_arg3)) (by decide +kernel) fun t hf y => ?_
  blk_simp
  rw [after0_4, out_eq]
  have y0 : (y 0).val < 512 := (y 0).isLt
  have y1 : (y 1).val < 1024 := (y 1).isLt
  have f0 : (((win0_4.blk t).view.emb y) 0).val = 512 * win0_4.index t 0 + (y 0).val := by
    show win0_4.index t (0 : Fin 2) * 512 + 1 * (y 0).val = _; omega
  have f1 : (((win0_4.blk t).view.emb y) 1 : Fin 1024) = (y 1 : Fin 1024) := Fin.ext (by
    have h := (index t).2.2.2.2.2
    show win0_4.index t (1 : Fin 2) * 1024 + 1 * (y 1).val = _; omega)
  have ey : y = ix2 (y 0 : Fin 512) (y 1 : Fin 1024) := funext fun a => by fin_cases a <;> rfl
  refine (congrArg (k0_pay1 (F := Ideal) (iblk m c 0 t) (iblk m c 1 t) (iblk m c 2 t) (iblk m c 3 t)) ey).trans
    ((pay (iblk m c 0 t) (iblk m c 1 t) (iblk m c 2 t) (iblk m c 3 t) (y 0) (y 1)).trans ?_)
  generalize hR : (((win0_4.blk t).view.emb y) 0 : Fin 16384) = R at f0
  have f2 : gluAll (V m c main_v1) (V m c main_v0) (V m c main_v2) (V m c main_arg3) ((win0_4.blk t).view.emb y)
      = gluAt (V m c main_v1) (V m c main_v0) (V m c main_v2) (V m c main_arg3) R (y 1) :=
    congr (congrArg (gluAt (V m c main_v1) (V m c main_v0) (V m c main_v2) (V m c main_arg3)) hR) f1
  refine Eq.trans ?_ f2.symm
  have e : ∀ k : Fin 1024, (iblk m c 0 t : S512x1024.Idx → EReal) (ix2 (y 0) k) = (V m c main_v1 : S2048x8192.Idx → EReal) (ix2 (pos R) (lane R k)) :=
    fun k => in0 m c t (y 0) k R f0
  exact congr (congr (congrArg gated (e (y 1))) (congr (congrArg (fun a b : EReal => a + b)
    (Finset.sum_congr rfl fun k _ => congr (congrArg (fun a b : EReal => a * b) (e k)) (in1 m c t k (y 1)))) (in2 m c t (y 1))))
    (in3 m c t (y 0) (y 1) R f0)

theorem entry_w : V m c main_v0 = m ((c : Thread nD τ).loc main_arg1) := by
  unfold_abbrev_sides
  after_results
  rfl

theorem entry_y : V m c main_v1 = shapeCast S2048x8192 (m ((c : Thread nD τ).loc main_arg0)) shapeCasts_S2048x8x1024_S2048x8192 := by
  unfold_abbrev_sides
  after_results
  rfl

theorem entry_b : V m c main_v2 = shapeCast S1x1024 (m ((c : Thread nD τ).loc main_arg2)) shapeCasts_S1024_S1x1024 := by
  unfold_abbrev_sides
  after_results
  rfl

theorem result : (dats m 0 c).arrAt 4 cfg0.N = spec (m ((c : Thread nD τ).loc main_arg0)) (m ((c : Thread nD τ).loc main_arg1))
    (m ((c : Thread nD τ).loc main_arg2)) (m ((c : Thread nD τ).loc main_arg3)) := by
  refine (arr m c).trans (Eq.trans ?_ (spec_eq _ _ _ _))
  exact congr (congr (congr (congrArg gluAll (entry_y m c)) (entry_w m c)) (entry_b m c)) (V_main_arg3 m c)

end Array

section Reference

open Cert.GluRefIdeal.Read

variable (y : (⟨S2048x8x1024, .f32⟩ : BufTy).Contents (Elt Ideal)) (w : (⟨S2x1024x1024, .f32⟩ : BufTy).Contents (Elt Ideal))
  (b : (⟨S1024, .f32⟩ : BufTy).Contents (Elt Ideal)) (P : (⟨S16384x22528, .f32⟩ : BufTy).Contents (Elt Ideal))

theorem ref_sum (i : Fin 8) (t : Fin 2048) (s : Fin 1024) : val_main_v8 (F := Ideal) y w b (ix3 i t s)
    = (∑ k : Fin 1024, y (ix3 t i k) * w (ix3 (0 : Fin 2) k s)) + b (ix1 s) := by
  rw [val_main_v8_apply, val_main_v5_apply, val_main_v7_apply, val_main_v6_apply]
  refine congr (congrArg (fun a b : EReal => a + b) (Finset.sum_congr rfl fun k _ => congr (congrArg (fun a b : EReal => a * b) ?_) ?_))
    (congrArg b (funext fun a => Fin.ext (by fin_cases a; rfl)))
  · rw [val_main_v0_apply]
    exact congrArg y (funext fun a => Fin.ext (by fin_cases a <;> rfl))
  · rw [val_main_v4_apply, val_main_v3_apply]
    refine congrArg w (funext fun a => Fin.ext ?_)
    have hk := k.isLt; have hs := s.isLt
    fin_cases a
    · rfl
    · show (k.val * 1024 + s.val) / 1024 % 1024 = k.val; omega
    · show (k.val * 1024 + s.val) % 1024 = s.val; omega

theorem ref_path (i : Fin 8) (t : Fin 2048) (s : Fin 1024) (r : Fin 16384) (hr : r.val = 2048 * i.val + t.val) :
    val_main_v2 (F := Ideal) P (ix3 i t s) = P (ix2 r ⟨1024 + s.val, by omega⟩) := by
  rw [val_main_v2_apply, val_main_v1_apply]
  refine congrArg P (funext fun a => Fin.ext ?_)
  have hi := i.isLt; have ht := t.isLt; have hs := s.isLt
  fin_cases a
  · show ((i.val * 2048 + t.val) * 22528 + (1024 + s.val)) / 22528 = r.val; omega
  · show ((i.val * 2048 + t.val) * 22528 + (1024 + s.val)) % 22528 = 1024 + s.val; omega

theorem ref_gated (i : Fin 8) (t : Fin 2048) (s : Fin 1024) : val_main_v17 (F := Ideal) y w b P (ix3 i t s)
    = gated (val_main_v0 (F := Ideal) y (ix3 i t s)) (val_main_v8 (F := Ideal) y w b (ix3 i t s)) (val_main_v2 (F := Ideal) P (ix3 i t s)) := by
  rw [val_main_v17_apply, val_main_v15_apply, val_main_v14_apply, val_main_v13_apply, val_main_v12_apply, val_main_v11_apply, val_main_v10_apply,
    val_main_v9_apply, val_main_v16_apply, val_main_call0_v5_apply, val_main_call0_v4_apply, val_main_call0_v3_apply, val_main_call0_v2_apply,
    val_main_call0_v1_apply, val_main_call0_v0_apply, val_main_cst_apply, val_main_cst_0_apply, val_main_call0_cst_apply, val_main_call0_cst_0_apply]
  have e1 : (FloatOps.ofBits .f32 0x3F800000#32 : Ideal .f32) = (1 : EReal) := Ideal.ofBits_one_f32
  rw [e1]
  rfl

theorem ref_eq : val_main_v19 (F := Ideal) y w b P = spec y w b P := by
  funext x
  have x0 : (x 0).val < 16384 := (x 0).isLt
  have x1 : (x 1).val < 1024 := (x 1).isLt
  have e : idx_main_v19 x = ix3 (stream (x 0)) (pos (x 0)) (x 1 : Fin 1024) := funext fun a => Fin.ext (by
    fin_cases a
    · show ((x 0).val * 1024 + (x 1).val) / 2097152 = (x 0).val / 2048; omega
    · show ((x 0).val * 1024 + (x 1).val) / 1024 % 2048 = (x 0).val % 2048; omega
    · show ((x 0).val * 1024 + (x 1).val) % 1024 = (x 1).val; omega)
  rw [val_main_v19_apply, val_main_v18_apply, e]
  refine (ref_gated y w b P (stream (x 0)) (pos (x 0)) (x 1)).trans ?_
  refine congr (congr (congrArg gated ?_) (ref_sum y w b (stream (x 0)) (pos (x 0)) (x 1)))
    (ref_path P (stream (x 0)) (pos (x 0)) (x 1) (x 0) (by show (x 0).val = 2048 * ((x 0).val / 2048) + (x 0).val % 2048; omega))
  rw [val_main_v0_apply]
  exact congrArg y (funext fun a => Fin.ext (by fin_cases a <;> rfl))

end Reference

end Cert.GluIdeal.Stage

end
-- ==== Proof.GluClaims.lean ====
/-
  The gate's claims: its three programs run and leave their arguments as they found them, and its result is the reference's.
-/
module

public import proofs.«01_k».proof.Defs
public import proofs.«01_k».proof.Proof.Gen.Glu.Frame
public import proofs.«01_k».proof.Proof.Gen.GluRefIdeal.Run
public import proofs.«01_k».proof.Proof.GluVal
public import Idealize.ShloMosaic.Lib.Quiescent

@[expose] public section

noncomputable section

open Idealize.ShloMosaic Idealize.ShloMosaic.TcCoe Idealize.SL.Sem

namespace Cert.Proof.GluClaims

open Cert.GluIdeal.Stage

theorem frame_p : Cert.quiescent_Glu := fun m ρ _ => Cert.Glu.Gen.frame m ρ
theorem frame_pi : Cert.quiescent_GluIdeal := fun m ρ _ => Cert.GluIdeal.Gen.frame m ρ
theorem frame_ri : Cert.quiescent_GluRefIdeal := fun m ρ _ =>
  (θ_run Cert.GluRefIdeal.defs _ _).mono (fun r h => ⟨fun c => (h c).2,
      Idealize.ShloMosaic.sem_eq_zero_of_no_sems (by decide) r.2⟩)
    (Cert.GluRefIdeal.Value.run (F := Ideal) m ρ)

theorem preserves : Cert.preserves_Glu_GluIdeal := trivial

theorem algebraic :
    letI := Cert.GluIdeal.Gen.facts; letI := Cert.GluRefIdeal.Gen.facts
    Cert.algebraic_GluIdeal_GluRefIdeal := by
  intro m ρ m' ρ' _ hag
  refine ⟨fun c => Cert.GluRefIdeal.Read.val_main_v19 (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3)),
    (θ_run Cert.GluIdeal.defs _ _).mono (fun r h c => ?_) (Cert.GluIdeal.Value.run_blocks (F := Ideal) m ρ),
    (θ_run Cert.GluRefIdeal.defs _ _).mono (fun r h c => ?_) (Cert.GluRefIdeal.Value.run (F := Ideal) m' ρ')⟩
  · obtain ⟨h0, ha⟩ := h c
    exact ⟨h0.trans ((result m c).trans (ref_eq _ _ _ _).symm), ha⟩
  · obtain ⟨h0, ha⟩ := h c
    obtain ⟨g0, g1, g2, g3⟩ := hag c
    refine ⟨h0.trans ?_, ha⟩
    rw [Cert.GluRefIdeal.Read.val_main_v19_eq, g0, g1, g2, g3]

end Cert.Proof.GluClaims

end
-- ==== Proof.SampleInRun.lean ====
/-
  The sample's program to its last state: after its two kernels and the host lines around them, every array it keeps
  holds what the chain of stages says.
-/
module

public import proofs.«01_k».proof.Proof.Gen.SampleInIdeal.Frame

@[expose] public section

set_option maxRecDepth 16384

noncomputable section

namespace Cert.SampleInIdeal.Stage

open Cert.SampleInIdeal Cert.SampleInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the launch no stage has run: the pools are as allocated and nothing is owed to any device. -/
theorem pools : (ownU (initOf (Pipeline.cells cfgs cellOf_inj) (Pipeline.launchToks cfgs cellOf_inj)) : sProp 𝕄)
    ⊢ |={Set.univ}=> (BI.own (emb₁ (initOf (Pipeline.cells cfgs cellOf_inj) (Pipeline.launchToks cfgs cellOf_inj)))
        ∗ bigSep Finset.univ (fun _ : Dev nD => (BI.emp : sProp 𝕄))) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iempintro

theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) := by
  refine Pipeline.θ_run_regions_kit_sems (pcfgs (F := F)) adm (pdats m ρ) () cellOf_inj emb₁ defs₀ 𝒱₀ L lv m ρ main (segs m ρ)
    (fun c Q => by rw [main_run m ρ c]) ?_ (O₀ := 0) (hL := fun _ _ => rfl) (G := fun _ => iprop(emp))
    (u₀ := initOf (Pipeline.cells cfgs cellOf_inj) (Pipeline.launchToks cfgs cellOf_inj)) (hu₀ := pools)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => ?_⟩) (hinit := ?_)
    (QY := fun c s => ∀ b ∈ Pipeline.ucRefs τ sig, s.mem (((c : Thread nD τ)).1, b) = W4 m ρ c b)
    (hfin := fun c s' => ?_) (hQ := fun s h _ c => h c)
  · simp only [segs, Pipeline.Seg.pipes_host, Pipeline.Seg.pipes_region, Pipeline.Seg.pipes_nil]
    decide
  · dsimp only [Pipeline.Seg.post, hseg, Pipeline.HostSeg.ofOps]
    iintro ⟨Ha, Hr, Ho⟩
    isplitl [Ha Hr]
    · isplitl [Ha]
      · iexact Ha
      · iexact Hr
    · iexact Ho
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Ha, -, Ho, -, Hr, -⟩, -⟩
    imodintro
    isplitl [Ha]
    · iexact Ha
    · isplitl [Hr]
      · iexists _
        iexact Hr
      · iexists ∅
        iexact Ho
  · iintro ⟨⟨Ha, -⟩, Hs⟩
    unfold StableHlo.held
    imodintro
    iapply (pointsTo_read_all (Pipeline.ucRefs τ sig) (fun b => (((c : Thread nD τ)).1, b)) (W4 m ρ c) s')
    isplitl [Ha] <;> iassumption

end Cert.SampleInIdeal.Stage

end
-- ==== Proof.SampleInArr.lean ====
/-
  The two arrays the projection's kernels leave, each a function of the arrays it reads: the normalized input, and its product
  with one layer's weights.
-/
module

public import Idealize.ShloMosaic.Lib.Pipeline.ValueKit.Geometry
public import proofs.«01_k».proof.Proof.Gen.SampleInIdeal.Frame
public import proofs.«01_k».proof.Proof.Dense

@[expose] public section

set_option maxRecDepth 65536

noncomputable section

namespace Cert.SampleInIdeal.Stage

open Idealize.ShloMosaic
open Idealize.ShloMosaic.ValueIdx Idealize.ShloMosaic.TcCoe
open Cert.SampleInIdeal Cert.SampleInIdeal.Gen Cert.Dense
open scoped BigOperators

/-- Every row of the input, normalized. -/
def normedAll (x : S128x4096.Idx → EReal) (g : S1x4096.Idx → EReal) : S128x4096.Idx → EReal :=
  fun y => normed (fun j => x (ix2 (y 0) j)) (g (ix2 (0 : Fin 1) (y 1))) (y 1)

/-- The product with the first layer's weights. -/
def projAll (h : S128x4096.Idx → EReal) (w : S2x4096x22528.Idx → EReal) : S128x22528.Idx → EReal :=
  fun y => ∑ k : Fin 4096, h (ix2 (y 0) k) * w (ix3 (0 : Fin 2) k (y 1))

variable (V : (c : Dev nD) → (b : Ref sig .tc) → Buf (Elt Ideal) ((c : Thread nD τ).loc b)) (c : Dev nD)

theorem index0 : ∀ t : Fin cfg0.N, (win0_0.index t 0 = win0_2.index t 0 ∧ win0_0.index t 1 = 0)
    ∧ (win0_1.index t 0 = 0 ∧ win0_1.index t 1 = 0) ∧ win0_2.index t 0 < 1 ∧ win0_2.index t 1 = 0 :=
  (by decide +kernel : ∀ t : Fin grid0.N, (win0_0.index t 0 = win0_2.index t 0 ∧ win0_0.index t 1 = 0)
    ∧ (win0_1.index t 0 = 0 ∧ win0_1.index t 1 = 0) ∧ win0_2.index t 0 < 1 ∧ win0_2.index t 1 = 0)

theorem index1 : ∀ t : Fin cfg1.N, (win1_0.index t 0 = win1_2.index t 0 ∧ win1_0.index t 1 = 0)
    ∧ (win1_1.index t 0 = 0 ∧ win1_1.index t 1 = 0 ∧ win1_1.index t 2 = win1_2.index t 1) ∧ win1_2.index t 0 < 1 ∧ win1_2.index t 1 < 22 :=
  (by decide +kernel : ∀ t : Fin grid1.N, (win1_0.index t 0 = win1_2.index t 0 ∧ win1_0.index t 1 = 0)
    ∧ (win1_1.index t 0 = 0 ∧ win1_1.index t 1 = 0 ∧ win1_1.index t 2 = win1_2.index t 1) ∧ win1_2.index t 0 < 1 ∧ win1_2.index t 1 < 22)

theorem in0_0 (t : Fin cfg0.N) (p : Fin 128) (k : Fin 4096) (r : Fin 128) (hr : r.val = 128 * win0_2.index t 0 + p.val) :
    (iblk0 V c 0 t : S128x4096.Idx → EReal) (ix2 p k) = (V c main_v1 : S128x4096.Idx → EReal) (ix2 r k) := by
  obtain ⟨⟨a0, a1⟩, -⟩ := index0 t
  show V c main_v1 (((cfg0.win 0).blk t).view.emb (ix2 p k)) = _
  refine congrArg (V c main_v1) (funext fun d => Fin.ext ?_)
  fin_cases d
  · show win0_0.index t (0 : Fin 2) * 128 + 1 * p.val = r.val; omega
  · show win0_0.index t (1 : Fin 2) * 4096 + 1 * k.val = k.val; omega

theorem in0_1 (t : Fin cfg0.N) (k : Fin 4096) :
    (iblk0 V c 1 t : S1x4096.Idx → EReal) (ix2 (0 : Fin 1) k) = (V c main_v2 : S1x4096.Idx → EReal) (ix2 (0 : Fin 1) k) := by
  obtain ⟨-, ⟨a0, a1⟩, -⟩ := index0 t
  show V c main_v2 (((cfg0.win 1).blk t).view.emb (ix2 (0 : Fin 1) k)) = _
  refine congrArg (V c main_v2) (funext fun d => Fin.ext ?_)
  fin_cases d
  · show win0_1.index t (0 : Fin 2) * 1 + 1 * 0 = 0; omega
  · show win0_1.index t (1 : Fin 2) * 4096 + 1 * k.val = k.val; omega

theorem in1_0 (t : Fin cfg1.N) (p : Fin 128) (k : Fin 4096) (r : Fin 128) (hr : r.val = 128 * win1_2.index t 0 + p.val) :
    (iblk1 V c 0 t : S128x4096.Idx → EReal) (ix2 p k) = (V c main_v3 : S128x4096.Idx → EReal) (ix2 r k) := by
  obtain ⟨⟨a0, a1⟩, -⟩ := index1 t
  show V c main_v3 (((cfg1.win 0).blk t).view.emb (ix2 p k)) = _
  refine congrArg (V c main_v3) (funext fun d => Fin.ext ?_)
  fin_cases d
  · show win1_0.index t (0 : Fin 2) * 128 + 1 * p.val = r.val; omega
  · show win1_0.index t (1 : Fin 2) * 4096 + 1 * k.val = k.val; omega

theorem in1_1 (t : Fin cfg1.N) (k : Fin 4096) (q : Fin 1024) (s : Fin 22528) (hs : s.val = 1024 * win1_2.index t 1 + q.val) :
    (iblk1 V c 1 t : S1x4096x1024.Idx → EReal) (ix3 (0 : Fin 1) k q) = (V c main_v0 : S2x4096x22528.Idx → EReal) (ix3 (0 : Fin 2) k s) := by
  obtain ⟨-, ⟨a0, a1, a2⟩, -⟩ := index1 t
  show V c main_v0 (((cfg1.win 1).blk t).view.emb (ix3 (0 : Fin 1) k q)) = _
  refine congrArg (V c main_v0) (funext fun d => Fin.ext ?_)
  fin_cases d
  · show win1_1.index t (0 : Fin 3) * 1 + 1 * 0 = 0; omega
  · show win1_1.index t (1 : Fin 3) * 4096 + 1 * k.val = k.val; omega
  · show win1_1.index t (2 : Fin 3) * 1024 + 1 * q.val = s.val; omega

theorem pay0 (x : FVec Ideal S128x4096 .f32) (g : FVec Ideal S1x4096 .f32) (p : Fin 128) (k : Fin 4096) :
    k0_pay1 (F := Ideal) x g (ix2 p k) = normed (fun j => x (ix2 p j)) (g (ix2 (0 : Fin 1) k)) k := by
  unfold k0_pay1
  rw [shapeCast_self, shapeCast_self]
  exact normed_apply x g _ _ _ _ _ _ p k

theorem pay1 (x : FVec Ideal S128x4096 .bf16) (w : FVec Ideal S1x4096x1024 .bf16) (p : Fin 128) (q : Fin 1024) :
    k1_pay1 (F := Ideal) x w (ix2 p q) = ∑ k : Fin 4096, x (ix2 p k) * w (ix3 (0 : Fin 1) k q) := by
  unfold k1_pay1
  exact product_apply x w _ _ p q

theorem out0_eq (x : FVec Ideal S128x4096 .f32) (g : FVec Ideal S1x4096 .f32) : out0_2 (F := Ideal) x g = k0_pay1 (F := Ideal) x g := by
  unfold out0_2
  refine (View.canon_cons_unit_zero (funext fun a => by fin_cases a <;> rfl) _ _ _).trans ?_
  rw [View.ld_unit_zero (funext fun a => by fin_cases a <;> rfl), View.ld_unit_zero (funext fun a => by fin_cases a <;> rfl)]

theorem out1_eq (x : FVec Ideal S128x4096 .bf16) (w : FVec Ideal S1x4096x1024 .bf16) : out1_2 (F := Ideal) x w = k1_pay1 (F := Ideal) x w := by
  unfold out1_2
  refine (View.canon_cons_unit_zero (funext fun a => by fin_cases a <;> rfl) _ _ _).trans ?_
  rw [View.ld_unit_zero (funext fun a => by fin_cases a <;> rfl), View.ld_unit_zero (funext fun a => by fin_cases a <;> rfl)]

theorem arr0 : (dat0 V c).arrAt 2 cfg0.N = normedAll (V c main_v1) (V c main_v2) := by
  refine (dat0 V c).arrAt_eq_of_covers 2 (normedAll (V c main_v1) (V c main_v2)) (by decide +kernel) fun t hf y => ?_
  blk_simp
  rw [after0_2, out0_eq]
  obtain ⟨-, -, b0, b1⟩ := index0 t
  have y0 : (y 0).val < 128 := (y 0).isLt
  have y1 : (y 1).val < 4096 := (y 1).isLt
  have f0 : (((win0_2.blk t).view.emb y) 0).val = 128 * win0_2.index t 0 + (y 0).val := by
    show win0_2.index t (0 : Fin 2) * 128 + 1 * (y 0).val = _; omega
  have f1 : ((win0_2.blk t).view.emb y) 1 = (y 1 : Fin 4096) := Fin.ext (by
    show win0_2.index t (1 : Fin 2) * 4096 + 1 * (y 1).val = (y 1).val; omega)
  have ey : y = ix2 (y 0 : Fin 128) (y 1 : Fin 4096) := funext fun a => by fin_cases a <;> rfl
  refine (congrArg (k0_pay1 (F := Ideal) (iblk0 V c 0 t) (iblk0 V c 1 t)) ey).trans ((pay0 (iblk0 V c 0 t) (iblk0 V c 1 t) (y 0) (y 1)).trans ?_)
  unfold normedAll
  rw [f1, in0_1 V c t (y 1)]
  exact congrArg (fun h => normed h _ _) (funext fun j => in0_0 V c t (y 0) j _ f0)

theorem arr1 : (dat1 V c).arrAt 2 cfg1.N = projAll (V c main_v3) (V c main_v0) := by
  refine (dat1 V c).arrAt_eq_of_covers 2 (projAll (V c main_v3) (V c main_v0)) (by decide +kernel) fun t hf y => ?_
  blk_simp
  rw [after1_2, out1_eq]
  obtain ⟨-, -, b0, b1⟩ := index1 t
  have y0 : (y 0).val < 128 := (y 0).isLt
  have y1 : (y 1).val < 1024 := (y 1).isLt
  have f0 : (((win1_2.blk t).view.emb y) 0).val = 128 * win1_2.index t 0 + (y 0).val := by
    show win1_2.index t (0 : Fin 2) * 128 + 1 * (y 0).val = _; omega
  have f1 : (((win1_2.blk t).view.emb y) 1).val = 1024 * win1_2.index t 1 + (y 1).val := by
    show win1_2.index t (1 : Fin 2) * 1024 + 1 * (y 1).val = _; omega
  have ey : y = ix2 (y 0 : Fin 128) (y 1 : Fin 1024) := funext fun a => by fin_cases a <;> rfl
  refine (congrArg (k1_pay1 (F := Ideal) (iblk1 V c 0 t) (iblk1 V c 1 t)) ey).trans ((pay1 (iblk1 V c 0 t) (iblk1 V c 1 t) (y 0) (y 1)).trans ?_)
  unfold projAll
  exact Finset.sum_congr rfl fun k _ => congr (congrArg HMul.hMul (in1_0 V c t (y 0) k _ f0)) (in1_1 V c t k (y 1) _ f1)

end Cert.SampleInIdeal.Stage

end
-- ==== Proof.SampleInVal.lean ====
/-
  The projection's results against the reference's: the product of the normalized input with the first layer's weights, and the
  two cuts of it that become the heads of keys and values.
-/
module

public import Idealize.ShloMosaic.Lib.Claim
public import Idealize.ShloMosaic.Lib.StableHlo.Run
public import proofs.«01_k».proof.Proof.SampleInRun
public import proofs.«01_k».proof.Proof.SampleInArr
public import proofs.«01_k».proof.Proof.Gen.SampleInRefIdeal.Read

@[expose] public section

set_option maxRecDepth 65536

noncomputable section

namespace Cert.SampleInIdeal.Stage

open Idealize.ShloMosaic
open Idealize.ShloMosaic.ValueIdx Idealize.ShloMosaic.TcCoe
open Cert.SampleInIdeal Cert.SampleInIdeal.Gen Cert.Dense
open scoped BigOperators

/-- The projection of every token, as a function of the program's arguments. -/
def spec (x : S8x16x4096.Idx → EReal) (g : S4096.Idx → EReal) (w : S2x4096x22528.Idx → EReal) : S8x16x22528.Idx → EReal :=
  fun y => ∑ k : Fin 4096, normed (fun j => x (ix3 (y 0) (y 1) j)) (g (ix1 k)) k * w (ix3 (0 : Fin 2) k (y 2))

/-- The two arrays in a row, over the reshaped arguments, are the projection. -/
theorem spec_eq (x : S8x16x4096.Idx → EReal) (g : S4096.Idx → EReal) (w : S2x4096x22528.Idx → EReal) :
    shapeCast S8x16x22528 (projAll (normedAll (shapeCast S128x4096 x shapeCasts_S8x16x4096_S128x4096)
      (shapeCast S1x4096 g shapeCasts_S4096_S1x4096)) w) shapeCasts_S128x22528_S8x16x22528 = spec x g w := by
  funext y
  have y0 : (y 0).val < 8 := (y 0).isLt
  have y1 : (y 1).val < 16 := (y 1).isLt
  refine (shapeCast_apply _ _ y (ix2 (⟨16 * (y 0).val + (y 1).val, by omega⟩ : Fin 128) (y 2 : Fin 22528)) ?_).trans ?_
  · rw [Shape.rowMajor_val_two, Shape.rowMajor_val_three]
    show (16 * (y 0).val + (y 1).val) * 22528 + (y 2).val = ((y 0).val * 16 + (y 1).val) * 22528 + (y 2).val
    omega
  · refine Finset.sum_congr rfl fun k _ => congrArg (· * _) ?_
    refine congr (congrArg (fun h g => normed h g k) (funext fun j => ?_)) ?_
    · refine shapeCast_apply _ _ _ (ix3 (y 0) (y 1) j) ?_
      rw [Shape.rowMajor_val_two, Shape.rowMajor_val_three]
      show ((y 0).val * 16 + (y 1).val) * 4096 + j.val = (16 * (y 0).val + (y 1).val) * 4096 + j.val
      omega
    · refine shapeCast_apply _ _ _ (ix1 k) ?_
      rw [Shape.rowMajor_val_two, Shape.rowMajor_val_one]
      show k.val = 0 * 4096 + k.val
      omega

section Kernel

variable (m : (ℓ : Loc nD τ sig) → Buf (Elt Ideal) ℓ) (ρ : Dev nD → PrngReg) (c : Dev nD)

theorem entry_w : V1 m ρ c main_v0 = m ((c : Thread nD τ).loc main_arg2) := by
  unfold_abbrev_sides
  after_results
  rfl

theorem entry_x : V1 m ρ c main_v1 = shapeCast S128x4096 (m ((c : Thread nD τ).loc main_arg0)) shapeCasts_S8x16x4096_S128x4096 := by
  unfold_abbrev_sides
  after_results
  rfl

theorem entry_g : V1 m ρ c main_v2 = shapeCast S1x4096 (m ((c : Thread nD τ).loc main_arg1)) shapeCasts_S4096_S1x4096 := by
  unfold_abbrev_sides
  after_results
  rfl

theorem whole : shapeCast S8x16x22528 (W3 m ρ c (Proc.devRef .tc main_v4)) shapeCasts_S128x22528_S8x16x22528
    = spec (m ((c : Thread nD τ).loc main_arg0)) (m ((c : Thread nD τ).loc main_arg1)) (m ((c : Thread nD τ).loc main_arg2)) := by
  have e : W3 m ρ c (Proc.devRef .tc main_v4) = projAll (normedAll
      (shapeCast S128x4096 (m ((c : Thread nD τ).loc main_arg0)) shapeCasts_S8x16x4096_S128x4096)
      (shapeCast S1x4096 (m ((c : Thread nD τ).loc main_arg1)) shapeCasts_S4096_S1x4096)) (m ((c : Thread nD τ).loc main_arg2)) := by
    refine (W3_arr m ρ c 2).trans ((arr1 (V2 m ρ) c).trans ?_)
    refine congr (congrArg projAll ?_) ((W2_of m ρ c main_v0 (by decide)).trans (entry_w m ρ c))
    refine (W2_arr m ρ c 2).trans ((arr0 (V1 m ρ) c).trans ?_)
    exact congr (congrArg normedAll (entry_x m ρ c)) (entry_g m ρ c)
  exact (congrArg (fun v : S128x22528.Idx → EReal => shapeCast S8x16x22528 v shapeCasts_S128x22528_S8x16x22528) e).trans (spec_eq _ _ _)

theorem res_v5 : W4 m ρ c (Proc.devRef .tc main_v5) = spec (m ((c : Thread nD τ).loc main_arg0)) (m ((c : Thread nD τ).loc main_arg1)) (m ((c : Thread nD τ).loc main_arg2)) := by
  refine Eq.trans ?_ (whole m ρ c)
  unfold_abbrev_sides
  after_results
  rfl

theorem res_v9 : W4 m ρ c (Proc.devRef .tc main_v9) = shapeCast S8x16x8x128 (extractStridedSlice S8x16x1024 ![0, 0, 7168]
    (spec (m ((c : Thread nD τ).loc main_arg0)) (m ((c : Thread nD τ).loc main_arg1)) (m ((c : Thread nD τ).loc main_arg2)))
    slices_S8x16x22528_S8x16x1024_0_0_7168) shapeCasts_S8x16x1024_S8x16x8x128 := by
  rw [← whole m ρ c]
  unfold_abbrev_sides
  after_results
  rfl

theorem res_v10 : W4 m ρ c (Proc.devRef .tc main_v10) = shapeCast S8x16x8x128 (extractStridedSlice S8x16x1024 ![0, 0, 8192]
    (spec (m ((c : Thread nD τ).loc main_arg0)) (m ((c : Thread nD τ).loc main_arg1)) (m ((c : Thread nD τ).loc main_arg2)))
    slices_S8x16x22528_S8x16x1024_0_0_8192) shapeCasts_S8x16x1024_S8x16x8x128 := by
  rw [← whole m ρ c]
  unfold_abbrev_sides
  after_results
  rfl

theorem res_v11 : W4 m ρ c (Proc.devRef .tc main_v11) = shapeCast S8x16x8x128 (extractStridedSlice S8x16x1024 ![0, 0, 4096]
    (spec (m ((c : Thread nD τ).loc main_arg0)) (m ((c : Thread nD τ).loc main_arg1)) (m ((c : Thread nD τ).loc main_arg2)))
    slices_S8x16x22528_S8x16x1024_0_0_4096) shapeCasts_S8x16x1024_S8x16x8x128 := by
  rw [← whole m ρ c]
  unfold_abbrev_sides
  after_results
  rfl

end Kernel

section Reference

open Cert.SampleInRefIdeal.Read

variable (x : (⟨S8x16x4096, .f32⟩ : BufTy).Contents (Elt Ideal)) (g : (⟨S4096, .f32⟩ : BufTy).Contents (Elt Ideal))
  (w : (⟨S2x4096x22528, .f32⟩ : BufTy).Contents (Elt Ideal))

theorem ref_normed (y : S8x16x22528.Idx) (k : Fin 4096) :
    val_main_v12 (F := Ideal) x g (lidx_main_v15 y k) = normed (fun j => x (ix3 (y 0) (y 1) j)) (g (ix1 k)) k := by
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply, val_main_cst_apply, val_main_cst_0_apply, val_main_cst_1_apply]
  rw [show (FloatOps.ofBits .f32 0x00000000#32 : Ideal .f32) = 0 from Ideal.ofBits_zero_f32, zero_add]
  unfold normed
  refine congr (congrArg (fun a b : EReal => a * b) ?_) (congrArg g (funext fun a => Fin.ext (by fin_cases a; rfl)))
  refine congr (congrArg (fun a b : EReal => a * b) ?_) (congrArg (fun z => Ideal.rsqrt (Ideal.div z (Ideal.ofBits .f32 0x45800000#32) + Ideal.ofBits .f32 0x358637BD#32)) ?_)
  · exact congrArg x (funext fun a => Fin.ext (by fin_cases a <;> rfl))
  · refine Finset.sum_congr rfl fun j _ => ?_
    rw [val_main_v0_apply]
    have e : idx_main_v1 (idx_main_v2 (idx_main_v8 (lidx_main_v15 y k))) j = ix3 (y 0) (y 1) j := funext fun a => Fin.ext (by fin_cases a <;> rfl)
    rw [e]
    rfl

theorem ref_eq : val_main_v15 (F := Ideal) x g w = spec x g w := by
  funext y
  rw [val_main_v15_apply]
  refine Finset.sum_congr rfl fun k _ => congr (congrArg HMul.hMul (ref_normed x g y k)) ?_
  rw [val_main_v14_apply, val_main_v13_apply]
  refine congrArg w (funext fun a => Fin.ext ?_)
  have hk : k.val < 4096 := k.isLt
  have h2 : (y 2).val < 22528 := (y 2).isLt
  fin_cases a
  · rfl
  · show (k.val * 22528 + (y 2).val) / 22528 % 4096 = k.val; omega
  · show (k.val * 22528 + (y 2).val) % 22528 = (y 2).val; omega

theorem ref_v17 : shapeCast S8x16x8x128 (extractStridedSlice S8x16x1024 ![0, 0, 7168] (spec x g w)
    slices_S8x16x22528_S8x16x1024_0_0_7168) shapeCasts_S8x16x1024_S8x16x8x128 = val_main_v17 (F := Ideal) x g w := by
  unfold val_main_v17 val_main_v16
  rw [ref_eq]

theorem ref_v19 : shapeCast S8x16x8x128 (extractStridedSlice S8x16x1024 ![0, 0, 8192] (spec x g w)
    slices_S8x16x22528_S8x16x1024_0_0_8192) shapeCasts_S8x16x1024_S8x16x8x128 = val_main_v19 (F := Ideal) x g w := by
  unfold val_main_v19 val_main_v18
  rw [ref_eq]

theorem ref_v21 : shapeCast S8x16x8x128 (extractStridedSlice S8x16x1024 ![0, 0, 4096] (spec x g w)
    slices_S8x16x22528_S8x16x1024_0_0_4096) shapeCasts_S8x16x1024_S8x16x8x128 = val_main_v21 (F := Ideal) x g w := by
  unfold val_main_v21 val_main_v20
  rw [ref_eq]

end Reference

end Cert.SampleInIdeal.Stage

end
-- ==== Proof.SampleInClaims.lean ====
/-
  The projection's claims: its three programs run and leave their arguments as they found them, and its results are the
  reference's.
-/
module

public import proofs.«01_k».proof.Defs
public import proofs.«01_k».proof.Proof.Gen.SampleIn.Frame
public import proofs.«01_k».proof.Proof.Gen.SampleInRefIdeal.Run
public import proofs.«01_k».proof.Proof.SampleInVal
public import Idealize.ShloMosaic.Lib.Quiescent

@[expose] public section

noncomputable section

open Idealize.ShloMosaic Idealize.ShloMosaic.TcCoe Idealize.SL.Sem

namespace Cert.Proof.SampleInClaims

open Cert.SampleInIdeal.Stage

theorem frame_p : Cert.quiescent_SampleIn := fun m ρ _ => Cert.SampleIn.Gen.frame m ρ
theorem frame_pi : Cert.quiescent_SampleInIdeal := fun m ρ _ => Cert.SampleInIdeal.Gen.frame m ρ
theorem frame_ri : Cert.quiescent_SampleInRefIdeal := fun m ρ _ =>
  (θ_run Cert.SampleInRefIdeal.defs _ _).mono (fun r h => ⟨fun c => (h c).2.2.2.2,
      Idealize.ShloMosaic.sem_eq_zero_of_no_sems (by decide) r.2⟩)
    (Cert.SampleInRefIdeal.Value.run (F := Ideal) m ρ)

theorem preserves : Cert.preserves_SampleIn_SampleInIdeal := trivial

open Cert.SampleInIdeal Cert.SampleInIdeal.Gen in
/-- The projection's run, its results named. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_v9) = W4 m ρ c (Proc.devRef .tc main_v9)
      ∧ r.2.mem ((c.tc : Thread nD τ).loc main_v10) = W4 m ρ c (Proc.devRef .tc main_v10)
      ∧ r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h c _ (mem_uc main_v5 (by decide)), h c _ (mem_uc main_v9 (by decide)), h c _ (mem_uc main_v10 (by decide)), h c _ (mem_uc main_v11 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c)⟩) (run m ρ)

theorem algebraic :
    letI := Cert.SampleInIdeal.Gen.facts; letI := Cert.SampleInRefIdeal.Gen.facts
    Cert.algebraic_SampleInIdeal_SampleInRefIdeal := by
  intro m ρ m' ρ' _ hag
  refine ⟨fun c => Cert.SampleInRefIdeal.Read.val_main_v15 (F := Ideal) (m ((c.tc : Thread Cert.SampleInIdeal.nD Cert.SampleInIdeal.τ).loc Cert.SampleInIdeal.main_arg0)) (m ((c.tc : Thread Cert.SampleInIdeal.nD Cert.SampleInIdeal.τ).loc Cert.SampleInIdeal.main_arg1))
      (m ((c.tc : Thread Cert.SampleInIdeal.nD Cert.SampleInIdeal.τ).loc Cert.SampleInIdeal.main_arg2)),
    fun c => Cert.SampleInRefIdeal.Read.val_main_v17 (F := Ideal) (m ((c.tc : Thread Cert.SampleInIdeal.nD Cert.SampleInIdeal.τ).loc Cert.SampleInIdeal.main_arg0)) (m ((c.tc : Thread Cert.SampleInIdeal.nD Cert.SampleInIdeal.τ).loc Cert.SampleInIdeal.main_arg1))
      (m ((c.tc : Thread Cert.SampleInIdeal.nD Cert.SampleInIdeal.τ).loc Cert.SampleInIdeal.main_arg2)),
    fun c => Cert.SampleInRefIdeal.Read.val_main_v19 (F := Ideal) (m ((c.tc : Thread Cert.SampleInIdeal.nD Cert.SampleInIdeal.τ).loc Cert.SampleInIdeal.main_arg0)) (m ((c.tc : Thread Cert.SampleInIdeal.nD Cert.SampleInIdeal.τ).loc Cert.SampleInIdeal.main_arg1))
      (m ((c.tc : Thread Cert.SampleInIdeal.nD Cert.SampleInIdeal.τ).loc Cert.SampleInIdeal.main_arg2)),
    fun c => Cert.SampleInRefIdeal.Read.val_main_v21 (F := Ideal) (m ((c.tc : Thread Cert.SampleInIdeal.nD Cert.SampleInIdeal.τ).loc Cert.SampleInIdeal.main_arg0)) (m ((c.tc : Thread Cert.SampleInIdeal.nD Cert.SampleInIdeal.τ).loc Cert.SampleInIdeal.main_arg1))
      (m ((c.tc : Thread Cert.SampleInIdeal.nD Cert.SampleInIdeal.τ).loc Cert.SampleInIdeal.main_arg2)),
    (θ_run Cert.SampleInIdeal.defs _ _).mono (fun r h c => ?_) (kernel_run m ρ),
    (θ_run Cert.SampleInRefIdeal.defs _ _).mono (fun r h c => ?_) (Cert.SampleInRefIdeal.Value.run (F := Ideal) m' ρ')⟩
  · obtain ⟨h0, h1, h2, h3, ha⟩ := h c
    exact ⟨h0.trans ((res_v5 m ρ c).trans (ref_eq _ _ _).symm), h1.trans ((res_v9 m ρ c).trans (ref_v17 _ _ _)), h2.trans ((res_v10 m ρ c).trans (ref_v19 _ _ _)), h3.trans ((res_v11 m ρ c).trans (ref_v21 _ _ _)), ha⟩
  · obtain ⟨h0, h1, h2, h3, ha⟩ := h c
    obtain ⟨g0, g1, g2⟩ := hag c
    refine ⟨h0.trans ?_, h1.trans ?_, h2.trans ?_, h3.trans ?_, ha⟩
    · rw [Cert.SampleInRefIdeal.Read.val_main_v15_eq, g0, g1, g2]
    · rw [Cert.SampleInRefIdeal.Read.val_main_v17_eq, g0, g1, g2]
    · rw [Cert.SampleInRefIdeal.Read.val_main_v19_eq, g0, g1, g2]
    · rw [Cert.SampleInRefIdeal.Read.val_main_v21_eq, g0, g1, g2]

end Cert.Proof.SampleInClaims

end
-- ==== Proof.SampleOutRun.lean ====
/-
  The output projection's program to its last state: after its two kernels and the host lines around them, every array it keeps
  holds what the chain of stages says.
-/
module

public import proofs.«01_k».proof.Proof.Gen.SampleOutIdeal.Frame

@[expose] public section

set_option maxRecDepth 16384

noncomputable section

namespace Cert.SampleOutIdeal.Stage

open Cert.SampleOutIdeal Cert.SampleOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the launch no stage has run: the pools are as allocated and nothing is owed to any device. -/
theorem pools : (ownU (initOf (Pipeline.cells cfgs cellOf_inj) (Pipeline.launchToks cfgs cellOf_inj)) : sProp 𝕄)
    ⊢ |={Set.univ}=> (BI.own (emb₁ (initOf (Pipeline.cells cfgs cellOf_inj) (Pipeline.launchToks cfgs cellOf_inj)))
        ∗ bigSep Finset.univ (fun _ : Dev nD => (BI.emp : sProp 𝕄))) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iempintro

theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) := by
  refine Pipeline.θ_run_regions_kit_sems (pcfgs (F := F)) adm (pdats m ρ) () cellOf_inj emb₁ defs₀ 𝒱₀ L lv m ρ main (segs m ρ)
    (fun c Q => by rw [main_run m ρ c]) ?_ (O₀ := 0) (hL := fun _ _ => rfl) (G := fun _ => iprop(emp))
    (u₀ := initOf (Pipeline.cells cfgs cellOf_inj) (Pipeline.launchToks cfgs cellOf_inj)) (hu₀ := pools)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => ?_⟩) (hinit := ?_)
    (QY := fun c s => ∀ b ∈ Pipeline.ucRefs τ sig, s.mem (((c : Thread nD τ)).1, b) = W4 m ρ c b)
    (hfin := fun c s' => ?_) (hQ := fun s h _ c => h c)
  · simp only [segs, Pipeline.Seg.pipes_host, Pipeline.Seg.pipes_region, Pipeline.Seg.pipes_nil]
    decide
  · dsimp only [Pipeline.Seg.post, hseg, Pipeline.HostSeg.ofOps]
    iintro ⟨Ha, Hr, Ho⟩
    isplitl [Ha Hr]
    · isplitl [Ha]
      · iexact Ha
      · iexact Hr
    · iexact Ho
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Ha, -, Ho, -, Hr, -⟩, -⟩
    imodintro
    isplitl [Ha]
    · iexact Ha
    · isplitl [Hr]
      · iexists _
        iexact Hr
      · iexists ∅
        iexact Ho
  · iintro ⟨⟨Ha, -⟩, Hs⟩
    unfold StableHlo.held
    imodintro
    iapply (pointsTo_read_all (Pipeline.ucRefs τ sig) (fun b => (((c : Thread nD τ)).1, b)) (W4 m ρ c) s')
    isplitl [Ha] <;> iassumption

end Cert.SampleOutIdeal.Stage

end
-- ==== Proof.SampleOutArr.lean ====
/-
  The two arrays the output projection's kernels leave, each a function of the arrays it reads: the gated sum of the three
  branches' products, and the residual plus its product with one layer's weights.
-/
module

public import Idealize.ShloMosaic.Lib.Pipeline.ValueKit.Geometry
public import proofs.«01_k».proof.Proof.Gen.SampleOutIdeal.Frame
public import proofs.«01_k».proof.Proof.Dense

@[expose] public section

set_option maxRecDepth 65536

noncomputable section

namespace Cert.SampleOutIdeal.Stage

open Idealize.ShloMosaic
open Idealize.ShloMosaic.ValueIdx Idealize.ShloMosaic.TcCoe
open Cert.SampleOutIdeal Cert.SampleOutIdeal.Gen Cert.Dense
open scoped BigOperators

/-- A branch's gate at a token and a channel. -/
def gate (P : S128x22528.Idx → EReal) (b : S1x12288.Idx → EReal) (o : Fin 3) (r : Fin 128) (s : Fin 4096) : EReal :=
  Ideal.logistic (P (ix2 r ⟨10240 + (4096 * o.val + s.val), by omega⟩) + b (ix2 (0 : Fin 1) ⟨4096 * o.val + s.val, by omega⟩))

/-- A branch's output at a token and a channel. -/
def branch (l : S128x1024.Idx → EReal) (w : S2x1024x4096.Idx → EReal) (r : Fin 128) (s : Fin 4096) : EReal :=
  ∑ k : Fin 1024, l (ix2 r k) * w (ix3 (0 : Fin 2) k s)

/-- The gated sum of the branches. -/
def mixAll (la lb lc : S128x1024.Idx → EReal) (wa wb wc : S2x1024x4096.Idx → EReal) (P : S128x22528.Idx → EReal) (b : S1x12288.Idx → EReal) :
    S128x4096.Idx → EReal :=
  fun y => gate P b 0 (y 0) (y 1) * branch la wa (y 0) (y 1) + gate P b 1 (y 0) (y 1) * branch lb wb (y 0) (y 1)
    + gate P b 2 (y 0) (y 1) * branch lc wc (y 0) (y 1)

/-- The residual plus the product with the first layer's weights. -/
def outAll (h : S128x4096.Idx → EReal) (w : S2x4096x4096.Idx → EReal) (x : S128x4096.Idx → EReal) : S128x4096.Idx → EReal :=
  fun y => x y + ∑ k : Fin 4096, h (ix2 (y 0) k) * w (ix3 (0 : Fin 2) k (y 1))

variable (V : (c : Dev nD) → (b : Ref sig .tc) → Buf (Elt Ideal) ((c : Thread nD τ).loc b)) (c : Dev nD)

theorem index0 : ∀ t : Fin cfg0.N, (win0_0.index t 0 = win0_12.index t 0 ∧ win0_0.index t 1 = 0)
    ∧ (win0_1.index t 0 = win0_12.index t 0 ∧ win0_1.index t 1 = 0)
    ∧ (win0_2.index t 0 = win0_12.index t 0 ∧ win0_2.index t 1 = 0)
    ∧ (win0_3.index t 0 = 0 ∧ win0_3.index t 1 = 0 ∧ win0_3.index t 2 = win0_12.index t 1)
    ∧ (win0_4.index t 0 = 0 ∧ win0_4.index t 1 = 0 ∧ win0_4.index t 2 = win0_12.index t 1)
    ∧ (win0_5.index t 0 = 0 ∧ win0_5.index t 1 = 0 ∧ win0_5.index t 2 = win0_12.index t 1)
    ∧ (win0_6.index t 0 = win0_12.index t 0 ∧ win0_6.index t 1 = 10 + win0_12.index t 1)
    ∧ (win0_7.index t 0 = win0_12.index t 0 ∧ win0_7.index t 1 = 14 + win0_12.index t 1)
    ∧ (win0_8.index t 0 = win0_12.index t 0 ∧ win0_8.index t 1 = 18 + win0_12.index t 1)
    ∧ (win0_9.index t 0 = 0 ∧ win0_9.index t 1 = 0 + win0_12.index t 1)
    ∧ (win0_10.index t 0 = 0 ∧ win0_10.index t 1 = 4 + win0_12.index t 1)
    ∧ (win0_11.index t 0 = 0 ∧ win0_11.index t 1 = 8 + win0_12.index t 1)
    ∧ (win0_12.index t 0 < 1 ∧ win0_12.index t 1 < 4) :=
  (by decide +kernel : ∀ t : Fin grid0.N, (win0_0.index t 0 = win0_12.index t 0 ∧ win0_0.index t 1 = 0)
    ∧ (win0_1.index t 0 = win0_12.index t 0 ∧ win0_1.index t 1 = 0)
    ∧ (win0_2.index t 0 = win0_12.index t 0 ∧ win0_2.index t 1 = 0)
    ∧ (win0_3.index t 0 = 0 ∧ win0_3.index t 1 = 0 ∧ win0_3.index t 2 = win0_12.index t 1)
    ∧ (win0_4.index t 0 = 0 ∧ win0_4.index t 1 = 0 ∧ win0_4.index t 2 = win0_12.index t 1)
    ∧ (win0_5.index t 0 = 0 ∧ win0_5.index t 1 = 0 ∧ win0_5.index t 2 = win0_12.index t 1)
    ∧ (win0_6.index t 0 = win0_12.index t 0 ∧ win0_6.index t 1 = 10 + win0_12.index t 1)
    ∧ (win0_7.index t 0 = win0_12.index t 0 ∧ win0_7.index t 1 = 14 + win0_12.index t 1)
    ∧ (win0_8.index t 0 = win0_12.index t 0 ∧ win0_8.index t 1 = 18 + win0_12.index t 1)
    ∧ (win0_9.index t 0 = 0 ∧ win0_9.index t 1 = 0 + win0_12.index t 1)
    ∧ (win0_10.index t 0 = 0 ∧ win0_10.index t 1 = 4 + win0_12.index t 1)
    ∧ (win0_11.index t 0 = 0 ∧ win0_11.index t 1 = 8 + win0_12.index t 1)
    ∧ (win0_12.index t 0 < 1 ∧ win0_12.index t 1 < 4))

theorem index1 : ∀ t : Fin cfg1.N, (win1_0.index t 0 = win1_3.index t 0 ∧ win1_0.index t 1 = 0)
    ∧ (win1_1.index t 0 = 0 ∧ win1_1.index t 1 = 0 ∧ win1_1.index t 2 = win1_3.index t 1)
    ∧ (win1_2.index t 0 = win1_3.index t 0 ∧ win1_2.index t 1 = win1_3.index t 1)
    ∧ (win1_3.index t 0 < 1 ∧ win1_3.index t 1 < 4) :=
  (by decide +kernel : ∀ t : Fin grid1.N, (win1_0.index t 0 = win1_3.index t 0 ∧ win1_0.index t 1 = 0)
    ∧ (win1_1.index t 0 = 0 ∧ win1_1.index t 1 = 0 ∧ win1_1.index t 2 = win1_3.index t 1)
    ∧ (win1_2.index t 0 = win1_3.index t 0 ∧ win1_2.index t 1 = win1_3.index t 1)
    ∧ (win1_3.index t 0 < 1 ∧ win1_3.index t 1 < 4))

theorem in0_0 (t : Fin cfg0.N) (p : Fin 128) (k : Fin 1024) (r : Fin 128) (hr : r.val = 128 * win0_12.index t 0 + p.val) :
    (iblk0 V c 0 t : S128x1024.Idx → EReal) (ix2 p k) = (V c main_arg0 : S128x1024.Idx → EReal) (ix2 r k) := by
  obtain ⟨⟨a0, a1⟩, -⟩ := index0 t
  show V c main_arg0 (((cfg0.win 0).blk t).view.emb (ix2 p k)) = _
  refine congrArg (V c main_arg0) (funext fun d => Fin.ext ?_)
  fin_cases d
  · show win0_0.index t (0 : Fin 2) * 128 + 1 * p.val = r.val; omega
  · show win0_0.index t (1 : Fin 2) * 1024 + 1 * k.val = k.val; omega

theorem in0_1 (t : Fin cfg0.N) (p : Fin 128) (k : Fin 1024) (r : Fin 128) (hr : r.val = 128 * win0_12.index t 0 + p.val) :
    (iblk0 V c 1 t : S128x1024.Idx → EReal) (ix2 p k) = (V c main_v5 : S128x1024.Idx → EReal) (ix2 r k) := by
  obtain ⟨-, ⟨a0, a1⟩, -⟩ := index0 t
  show V c main_v5 (((cfg0.win 1).blk t).view.emb (ix2 p k)) = _
  refine congrArg (V c main_v5) (funext fun d => Fin.ext ?_)
  fin_cases d
  · show win0_1.index t (0 : Fin 2) * 128 + 1 * p.val = r.val; omega
  · show win0_1.index t (1 : Fin 2) * 1024 + 1 * k.val = k.val; omega

theorem in0_2 (t : Fin cfg0.N) (p : Fin 128) (k : Fin 1024) (r : Fin 128) (hr : r.val = 128 * win0_12.index t 0 + p.val) :
    (iblk0 V c 2 t : S128x1024.Idx → EReal) (ix2 p k) = (V c main_v6 : S128x1024.Idx → EReal) (ix2 r k) := by
  obtain ⟨-, -, ⟨a0, a1⟩, -⟩ := index0 t
  show V c main_v6 (((cfg0.win 2).blk t).view.emb (ix2 p k)) = _
  refine congrArg (V c main_v6) (funext fun d => Fin.ext ?_)
  fin_cases d
  · show win0_2.index t (0 : Fin 2) * 128 + 1 * p.val = r.val; omega
  · show win0_2.index t (1 : Fin 2) * 1024 + 1 * k.val = k.val; omega

theorem in0_3 (t : Fin cfg0.N) (k q : Fin 1024) (s : Fin 4096) (hs : s.val = 1024 * win0_12.index t 1 + q.val) :
    (iblk0 V c 3 t : S1x1024x1024.Idx → EReal) (ix3 (0 : Fin 1) k q) = (V c main_v0 : S2x1024x4096.Idx → EReal) (ix3 (0 : Fin 2) k s) := by
  obtain ⟨-, -, -, ⟨a0, a1, a2⟩, -⟩ := index0 t
  show V c main_v0 (((cfg0.win 3).blk t).view.emb (ix3 (0 : Fin 1) k q)) = _
  refine congrArg (V c main_v0) (funext fun d => Fin.ext ?_)
  fin_cases d
  · show win0_3.index t (0 : Fin 3) * 1 + 1 * 0 = 0; omega
  · show win0_3.index t (1 : Fin 3) * 1024 + 1 * k.val = k.val; omega
  · show win0_3.index t (2 : Fin 3) * 1024 + 1 * q.val = s.val; omega

theorem in0_4 (t : Fin cfg0.N) (k q : Fin 1024) (s : Fin 4096) (hs : s.val = 1024 * win0_12.index t 1 + q.val) :
    (iblk0 V c 4 t : S1x1024x1024.Idx → EReal) (ix3 (0 : Fin 1) k q) = (V c main_v1 : S2x1024x4096.Idx → EReal) (ix3 (0 : Fin 2) k s) := by
  obtain ⟨-, -, -, -, ⟨a0, a1, a2⟩, -⟩ := index0 t
  show V c main_v1 (((cfg0.win 4).blk t).view.emb (ix3 (0 : Fin 1) k q)) = _
  refine congrArg (V c main_v1) (funext fun d => Fin.ext ?_)
  fin_cases d
  · show win0_4.index t (0 : Fin 3) * 1 + 1 * 0 = 0; omega
  · show win0_4.index t (1 : Fin 3) * 1024 + 1 * k.val = k.val; omega
  · show win0_4.index t (2 : Fin 3) * 1024 + 1 * q.val = s.val; omega

theorem in0_5 (t : Fin cfg0.N) (k q : Fin 1024) (s : Fin 4096) (hs : s.val = 1024 * win0_12.index t 1 + q.val) :
    (iblk0 V c 5 t : S1x1024x1024.Idx → EReal) (ix3 (0 : Fin 1) k q) = (V c main_v2 : S2x1024x4096.Idx → EReal) (ix3 (0 : Fin 2) k s) := by
  obtain ⟨-, -, -, -, -, ⟨a0, a1, a2⟩, -⟩ := index0 t
  show V c main_v2 (((cfg0.win 5).blk t).view.emb (ix3 (0 : Fin 1) k q)) = _
  refine congrArg (V c main_v2) (funext fun d => Fin.ext ?_)
  fin_cases d
  · show win0_5.index t (0 : Fin 3) * 1 + 1 * 0 = 0; omega
  · show win0_5.index t (1 : Fin 3) * 1024 + 1 * k.val = k.val; omega
  · show win0_5.index t (2 : Fin 3) * 1024 + 1 * q.val = s.val; omega

theorem in0_6 (t : Fin cfg0.N) (p : Fin 128) (q : Fin 1024) (r : Fin 128) (hr : r.val = 128 * win0_12.index t 0 + p.val) (s : Fin 4096) (hs : s.val = 1024 * win0_12.index t 1 + q.val) :
    (iblk0 V c 6 t : S128x1024.Idx → EReal) (ix2 p q) = (V c main_arg3 : S128x22528.Idx → EReal) (ix2 r ⟨10240 + (4096 * (0 : Fin 3).val + s.val), by omega⟩) := by
  obtain ⟨-, -, -, -, -, -, ⟨a0, a1⟩, -⟩ := index0 t
  show V c main_arg3 (((cfg0.win 6).blk t).view.emb (ix2 p q)) = _
  refine congrArg (V c main_arg3) (funext fun d => Fin.ext ?_)
  fin_cases d
  · show win0_6.index t (0 : Fin 2) * 128 + 1 * p.val = r.val; omega
  · show win0_6.index t (1 : Fin 2) * 1024 + 1 * q.val = 10240 + (4096 * 0 + s.val); omega

theorem in0_7 (t : Fin cfg0.N) (p : Fin 128) (q : Fin 1024) (r : Fin 128) (hr : r.val = 128 * win0_12.index t 0 + p.val) (s : Fin 4096) (hs : s.val = 1024 * win0_12.index t 1 + q.val) :
    (iblk0 V c 7 t : S128x1024.Idx → EReal) (ix2 p q) = (V c main_arg3 : S128x22528.Idx → EReal) (ix2 r ⟨10240 + (4096 * (1 : Fin 3).val + s.val), by omega⟩) := by
  obtain ⟨-, -, -, -, -, -, -, ⟨a0, a1⟩, -⟩ := index0 t
  show V c main_arg3 (((cfg0.win 7).blk t).view.emb (ix2 p q)) = _
  refine congrArg (V c main_arg3) (funext fun d => Fin.ext ?_)
  fin_cases d
  · show win0_7.index t (0 : Fin 2) * 128 + 1 * p.val = r.val; omega
  · show win0_7.index t (1 : Fin 2) * 1024 + 1 * q.val = 10240 + (4096 * 1 + s.val); omega

theorem in0_8 (t : Fin cfg0.N) (p : Fin 128) (q : Fin 1024) (r : Fin 128) (hr : r.val = 128 * win0_12.index t 0 + p.val) (s : Fin 4096) (hs : s.val = 1024 * win0_12.index t 1 + q.val) :
    (iblk0 V c 8 t : S128x1024.Idx → EReal) (ix2 p q) = (V c main_arg3 : S128x22528.Idx → EReal) (ix2 r ⟨10240 + (4096 * (2 : Fin 3).val + s.val), by omega⟩) := by
  obtain ⟨-, -, -, -, -, -, -, -, ⟨a0, a1⟩, -⟩ := index0 t
  show V c main_arg3 (((cfg0.win 8).blk t).view.emb (ix2 p q)) = _
  refine congrArg (V c main_arg3) (funext fun d => Fin.ext ?_)
  fin_cases d
  · show win0_8.index t (0 : Fin 2) * 128 + 1 * p.val = r.val; omega
  · show win0_8.index t (1 : Fin 2) * 1024 + 1 * q.val = 10240 + (4096 * 2 + s.val); omega

theorem in0_9 (t : Fin cfg0.N) (q : Fin 1024) (s : Fin 4096) (hs : s.val = 1024 * win0_12.index t 1 + q.val) :
    (iblk0 V c 9 t : S1x1024.Idx → EReal) (ix2 (0 : Fin 1) q) = (V c main_v7 : S1x12288.Idx → EReal) (ix2 (0 : Fin 1) ⟨4096 * (0 : Fin 3).val + s.val, by omega⟩) := by
  obtain ⟨-, -, -, -, -, -, -, -, -, ⟨a0, a1⟩, -⟩ := index0 t
  show V c main_v7 (((cfg0.win 9).blk t).view.emb (ix2 (0 : Fin 1) q)) = _
  refine congrArg (V c main_v7) (funext fun d => Fin.ext ?_)
  fin_cases d
  · show win0_9.index t (0 : Fin 2) * 1 + 1 * 0 = 0; omega
  · show win0_9.index t (1 : Fin 2) * 1024 + 1 * q.val = 4096 * 0 + s.val; omega

theorem in0_10 (t : Fin cfg0.N) (q : Fin 1024) (s : Fin 4096) (hs : s.val = 1024 * win0_12.index t 1 + q.val) :
    (iblk0 V c 10 t : S1x1024.Idx → EReal) (ix2 (0 : Fin 1) q) = (V c main_v7 : S1x12288.Idx → EReal) (ix2 (0 : Fin 1) ⟨4096 * (1 : Fin 3).val + s.val, by omega⟩) := by
  obtain ⟨-, -, -, -, -, -, -, -, -, -, ⟨a0, a1⟩, -⟩ := index0 t
  show V c main_v7 (((cfg0.win 10).blk t).view.emb (ix2 (0 : Fin 1) q)) = _
  refine congrArg (V c main_v7) (funext fun d => Fin.ext ?_)
  fin_cases d
  · show win0_10.index t (0 : Fin 2) * 1 + 1 * 0 = 0; omega
  · show win0_10.index t (1 : Fin 2) * 1024 + 1 * q.val = 4096 * 1 + s.val; omega

theorem in0_11 (t : Fin cfg0.N) (q : Fin 1024) (s : Fin 4096) (hs : s.val = 1024 * win0_12.index t 1 + q.val) :
    (iblk0 V c 11 t : S1x1024.Idx → EReal) (ix2 (0 : Fin 1) q) = (V c main_v7 : S1x12288.Idx → EReal) (ix2 (0 : Fin 1) ⟨4096 * (2 : Fin 3).val + s.val, by omega⟩) := by
  obtain ⟨-, -, -, -, -, -, -, -, -, -, -, ⟨a0, a1⟩, -⟩ := index0 t
  show V c main_v7 (((cfg0.win 11).blk t).view.emb (ix2 (0 : Fin 1) q)) = _
  refine congrArg (V c main_v7) (funext fun d => Fin.ext ?_)
  fin_cases d
  · show win0_11.index t (0 : Fin 2) * 1 + 1 * 0 = 0; omega
  · show win0_11.index t (1 : Fin 2) * 1024 + 1 * q.val = 4096 * 2 + s.val; omega

theorem in1_0 (t : Fin cfg1.N) (p : Fin 128) (k : Fin 4096) (r : Fin 128) (hr : r.val = 128 * win1_3.index t 0 + p.val) :
    (iblk1 V c 0 t : S128x4096.Idx → EReal) (ix2 p k) = (V c main_v8 : S128x4096.Idx → EReal) (ix2 r k) := by
  obtain ⟨⟨a0, a1⟩, -⟩ := index1 t
  show V c main_v8 (((cfg1.win 0).blk t).view.emb (ix2 p k)) = _
  refine congrArg (V c main_v8) (funext fun d => Fin.ext ?_)
  fin_cases d
  · show win1_0.index t (0 : Fin 2) * 128 + 1 * p.val = r.val; omega
  · show win1_0.index t (1 : Fin 2) * 4096 + 1 * k.val = k.val; omega

theorem in1_1 (t : Fin cfg1.N) (k : Fin 4096) (q : Fin 1024) (s : Fin 4096) (hs : s.val = 1024 * win1_3.index t 1 + q.val) :
    (iblk1 V c 1 t : S1x4096x1024.Idx → EReal) (ix3 (0 : Fin 1) k q) = (V c main_v3 : S2x4096x4096.Idx → EReal) (ix3 (0 : Fin 2) k s) := by
  obtain ⟨-, ⟨a0, a1, a2⟩, -⟩ := index1 t
  show V c main_v3 (((cfg1.win 1).blk t).view.emb (ix3 (0 : Fin 1) k q)) = _
  refine congrArg (V c main_v3) (funext fun d => Fin.ext ?_)
  fin_cases d
  · show win1_1.index t (0 : Fin 3) * 1 + 1 * 0 = 0; omega
  · show win1_1.index t (1 : Fin 3) * 4096 + 1 * k.val = k.val; omega
  · show win1_1.index t (2 : Fin 3) * 1024 + 1 * q.val = s.val; omega

theorem in1_2 (t : Fin cfg1.N) (p : Fin 128) (q : Fin 1024) (r : Fin 128) (hr : r.val = 128 * win1_3.index t 0 + p.val) (s : Fin 4096) (hs : s.val = 1024 * win1_3.index t 1 + q.val) :
    (iblk1 V c 2 t : S128x1024.Idx → EReal) (ix2 p q) = (V c main_v4 : S128x4096.Idx → EReal) (ix2 r s) := by
  obtain ⟨-, -, ⟨a0, a1⟩, -⟩ := index1 t
  show V c main_v4 (((cfg1.win 2).blk t).view.emb (ix2 p q)) = _
  refine congrArg (V c main_v4) (funext fun d => Fin.ext ?_)
  fin_cases d
  · show win1_2.index t (0 : Fin 2) * 128 + 1 * p.val = r.val; omega
  · show win1_2.index t (1 : Fin 2) * 1024 + 1 * q.val = s.val; omega

theorem pay0 (x0 x1 x2 : FVec Ideal S128x1024 .bf16) (x3 x4 x5 : FVec Ideal S1x1024x1024 .bf16) (x6 x7 x8 : FVec Ideal S128x1024 .f32) (x9 x10 x11 : FVec Ideal S1x1024 .f32) (p : Fin 128) (q : Fin 1024) :
    k0_pay1 (F := Ideal) (k0_pay2 (F := Ideal) x0 x3 x6 x9 x1 x4 x7 x10) (k0_pay3 (F := Ideal) x2 x5) x8 x11 (ix2 p q)
      = Ideal.logistic (x6 (ix2 p q) + x9 (ix2 (0 : Fin 1) q)) * ∑ k : Fin 1024, x0 (ix2 p k) * x3 (ix3 (0 : Fin 1) k q)
        + Ideal.logistic (x7 (ix2 p q) + x10 (ix2 (0 : Fin 1) q)) * ∑ k : Fin 1024, x1 (ix2 p k) * x4 (ix3 (0 : Fin 1) k q)
        + Ideal.logistic (x8 (ix2 p q) + x11 (ix2 (0 : Fin 1) q)) * ∑ k : Fin 1024, x2 (ix2 p k) * x5 (ix3 (0 : Fin 1) k q) := by
  unfold k0_pay1 k0_pay2 k0_pay3
  refine congr (congrArg (fun a b : EReal => a + b) (congr (congrArg (fun a b : EReal => a + b)
    (congr (congrArg (fun a b : EReal => a * b) (gate_apply x6 x9 _ _ p q)) (slab_apply x0 x3 _ p q)))
    (congr (congrArg (fun a b : EReal => a * b) (gate_apply x7 x10 _ _ p q)) (product_apply x1 x4 _ _ p q))))
    (congr (congrArg (fun a b : EReal => a * b) (gate_apply x8 x11 _ _ p q)) (product_apply x2 x5 _ _ p q))

theorem pay1 (x : FVec Ideal S128x1024 .f32) (h : FVec Ideal S128x4096 .bf16) (w : FVec Ideal S1x4096x1024 .bf16) (p : Fin 128) (q : Fin 1024) :
    k1_pay1 (F := Ideal) x h w (ix2 p q) = x (ix2 p q) + ∑ k : Fin 4096, h (ix2 p k) * w (ix3 (0 : Fin 1) k q) := by
  unfold k1_pay1
  refine congr (congrArg (fun a b : EReal => a + b) ?_) (product_apply h w _ _ p q)
  rw [shapeCast_self]

theorem out0_eq (x0 x1 x2 : FVec Ideal S128x1024 .bf16) (x3 x4 x5 : FVec Ideal S1x1024x1024 .bf16) (x6 x7 x8 : FVec Ideal S128x1024 .f32) (x9 x10 x11 : FVec Ideal S1x1024 .f32) : out0_12 (F := Ideal) x0 x1 x2 x3 x4 x5 x6 x7 x8 x9 x10 x11 = k0_pay1 (F := Ideal) (k0_pay2 (F := Ideal) x0 x3 x6 x9 x1 x4 x7 x10) (k0_pay3 (F := Ideal) x2 x5) x8 x11 := by
  unfold out0_12
  refine (View.canon_cons_unit_zero (funext fun a => by fin_cases a <;> rfl) _ _ _).trans ?_
  simp only [View.ld_unit_zero (S := S128x1024) (off := ![0, 0]) (funext fun a => by fin_cases a <;> rfl), View.ld_unit_zero (S := S1x1024x1024) (off := ![0, 0, 0]) (funext fun a => by fin_cases a <;> rfl),
    View.ld_unit_zero (S := S1x1024) (off := ![0, 0]) (funext fun a => by fin_cases a <;> rfl)]

theorem out1_eq (x0 : FVec Ideal S128x4096 .bf16) (x1 : FVec Ideal S1x4096x1024 .bf16) (x2 : FVec Ideal S128x1024 .f32) :
    out1_3 (F := Ideal) x0 x1 x2 = k1_pay1 (F := Ideal) x2 x0 x1 := by
  unfold out1_3
  refine (View.canon_cons_unit_zero (funext fun a => by fin_cases a <;> rfl) _ _ _).trans ?_
  rw [View.ld_unit_zero (funext fun a => by fin_cases a <;> rfl), View.ld_unit_zero (funext fun a => by fin_cases a <;> rfl), View.ld_unit_zero (funext fun a => by fin_cases a <;> rfl)]

theorem arr0 : (dat0 V c).arrAt 12 cfg0.N = mixAll (V c main_arg0) (V c main_v5) (V c main_v6) (V c main_v0) (V c main_v1) (V c main_v2) (V c main_arg3) (V c main_v7) := by
  refine (dat0 V c).arrAt_eq_of_covers 12 (mixAll (V c main_arg0) (V c main_v5) (V c main_v6) (V c main_v0) (V c main_v1) (V c main_v2) (V c main_arg3) (V c main_v7)) (by decide +kernel) fun t hf y => ?_
  blk_simp
  rw [after0_12, out0_eq]
  have y0 : (y 0).val < 128 := (y 0).isLt
  have y1 : (y 1).val < 1024 := (y 1).isLt
  have f0 : (((win0_12.blk t).view.emb y) 0).val = 128 * win0_12.index t 0 + (y 0).val := by
    show win0_12.index t (0 : Fin 2) * 128 + 1 * (y 0).val = _; omega
  have f1 : (((win0_12.blk t).view.emb y) 1).val = 1024 * win0_12.index t 1 + (y 1).val := by
    show win0_12.index t (1 : Fin 2) * 1024 + 1 * (y 1).val = _; omega
  have ey : y = ix2 (y 0 : Fin 128) (y 1 : Fin 1024) := funext fun a => by fin_cases a <;> rfl
  refine (congrArg (k0_pay1 (F := Ideal) (k0_pay2 (F := Ideal) (iblk0 V c 0 t) (iblk0 V c 3 t) (iblk0 V c 6 t) (iblk0 V c 9 t) (iblk0 V c 1 t) (iblk0 V c 4 t) (iblk0 V c 7 t) (iblk0 V c 10 t)) (k0_pay3 (F := Ideal) (iblk0 V c 2 t) (iblk0 V c 5 t)) (iblk0 V c 8 t) (iblk0 V c 11 t)) ey).trans ((pay0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (y 0) (y 1)).trans ?_)
  unfold mixAll gate branch
  exact congr (congrArg (fun a b : EReal => a + b) (congr (congrArg (fun a b : EReal => a + b)
    (congr (congrArg (fun a b : EReal => a * b) (congrArg Ideal.logistic (congr (congrArg (fun a b : EReal => a + b) (in0_6 V c t (y 0) (y 1) _ f0 _ f1)) (in0_9 V c t (y 1) _ f1))))
      (Finset.sum_congr rfl fun k _ => congr (congrArg (fun a b : EReal => a * b) (in0_0 V c t (y 0) k _ f0)) (in0_3 V c t k (y 1) _ f1))))
    (congr (congrArg (fun a b : EReal => a * b) (congrArg Ideal.logistic (congr (congrArg (fun a b : EReal => a + b) (in0_7 V c t (y 0) (y 1) _ f0 _ f1)) (in0_10 V c t (y 1) _ f1))))
      (Finset.sum_congr rfl fun k _ => congr (congrArg (fun a b : EReal => a * b) (in0_1 V c t (y 0) k _ f0)) (in0_4 V c t k (y 1) _ f1)))))
    (congr (congrArg (fun a b : EReal => a * b) (congrArg Ideal.logistic (congr (congrArg (fun a b : EReal => a + b) (in0_8 V c t (y 0) (y 1) _ f0 _ f1)) (in0_11 V c t (y 1) _ f1))))
      (Finset.sum_congr rfl fun k _ => congr (congrArg (fun a b : EReal => a * b) (in0_2 V c t (y 0) k _ f0)) (in0_5 V c t k (y 1) _ f1)))

theorem arr1 : (dat1 V c).arrAt 3 cfg1.N = outAll (V c main_v8) (V c main_v3) (V c main_v4) := by
  refine (dat1 V c).arrAt_eq_of_covers 3 (outAll (V c main_v8) (V c main_v3) (V c main_v4)) (by decide +kernel) fun t hf y => ?_
  blk_simp
  rw [after1_3, out1_eq]
  have y0 : (y 0).val < 128 := (y 0).isLt
  have y1 : (y 1).val < 1024 := (y 1).isLt
  have f0 : (((win1_3.blk t).view.emb y) 0).val = 128 * win1_3.index t 0 + (y 0).val := by
    show win1_3.index t (0 : Fin 2) * 128 + 1 * (y 0).val = _; omega
  have f1 : (((win1_3.blk t).view.emb y) 1).val = 1024 * win1_3.index t 1 + (y 1).val := by
    show win1_3.index t (1 : Fin 2) * 1024 + 1 * (y 1).val = _; omega
  have ey : y = ix2 (y 0 : Fin 128) (y 1 : Fin 1024) := funext fun a => by fin_cases a <;> rfl
  have ez : (win1_3.blk t).view.emb y = ix2 (((win1_3.blk t).view.emb y) 0 : Fin 128) (((win1_3.blk t).view.emb y) 1 : Fin 4096) :=
    funext fun a => by fin_cases a <;> rfl
  refine (congrArg (k1_pay1 (F := Ideal) (iblk1 V c 2 t) (iblk1 V c 0 t) (iblk1 V c 1 t)) ey).trans
    ((pay1 (iblk1 V c 2 t) (iblk1 V c 0 t) (iblk1 V c 1 t) (y 0) (y 1)).trans ?_)
  unfold outAll
  exact congr (congrArg (fun a b : EReal => a + b) ((in1_2 V c t (y 0) (y 1) _ f0 _ f1).trans (congrArg (V c main_v4) ez.symm)))
    (Finset.sum_congr rfl fun k _ => congr (congrArg (fun a b : EReal => a * b) (in1_0 V c t (y 0) k _ f0)) (in1_1 V c t k (y 1) _ f1))

end Cert.SampleOutIdeal.Stage

end
-- ==== Proof.SampleOutVal.lean ====
/-
  The output projection's result against the reference's: the residual plus the gated sum of the branches times the first layer's
  output weights.
-/
module

public import Idealize.ShloMosaic.Lib.Claim
public import Idealize.ShloMosaic.Lib.IdealHost
public import Idealize.ShloMosaic.Lib.StableHlo.Run
public import proofs.«01_k».proof.Proof.SampleOutRun
public import proofs.«01_k».proof.Proof.SampleOutArr
public import proofs.«01_k».proof.Proof.Gen.SampleOutRefIdeal.Read

@[expose] public section

set_option maxRecDepth 65536

noncomputable section

namespace Cert.SampleOutIdeal.Stage

open Idealize.ShloMosaic
open Idealize.ShloMosaic.ValueIdx Idealize.ShloMosaic.TcCoe
open Cert.SampleOutIdeal Cert.SampleOutIdeal.Gen Cert.Dense
open scoped BigOperators

/-- A token's row among the rows of all tokens. -/
def row (i : Fin 8) (t : Fin 16) : Fin 128 := ⟨16 * i.val + t.val, by omega⟩

/-- A branch's gate at a token and a channel, the bias a vector. -/
def gateAt (P : S128x22528.Idx → EReal) (b : S12288.Idx → EReal) (o : Fin 3) (r : Fin 128) (s : Fin 4096) : EReal :=
  Ideal.logistic (P (ix2 r ⟨10240 + (4096 * o.val + s.val), by omega⟩) + b (ix1 ⟨4096 * o.val + s.val, by omega⟩))

/-- A branch's output at a token of a sequence and a channel. -/
def branchAt (l : S8x16x1024.Idx → EReal) (w : S2x1024x4096.Idx → EReal) (i : Fin 8) (t : Fin 16) (s : Fin 4096) : EReal :=
  ∑ k : Fin 1024, l (ix3 i t k) * w (ix3 (0 : Fin 2) k s)

/-- The gated sum at a token of a sequence and a channel. -/
def mixAt (la : S128x1024.Idx → EReal) (lb lc : S8x16x1024.Idx → EReal) (P : S128x22528.Idx → EReal)
    (wa wb wc : S2x1024x4096.Idx → EReal) (b : S12288.Idx → EReal) (i : Fin 8) (t : Fin 16) (s : Fin 4096) : EReal :=
  gateAt P b 0 (row i t) s * branch la wa (row i t) s + gateAt P b 1 (row i t) s * branchAt lb wb i t s + gateAt P b 2 (row i t) s * branchAt lc wc i t s

/-- The layer's result, as a function of the program's arguments. -/
def spec (la : S128x1024.Idx → EReal) (lb lc : S8x16x1024.Idx → EReal) (P : S128x22528.Idx → EReal) (x : S8x16x4096.Idx → EReal) (wa wb wc : S2x1024x4096.Idx → EReal) (b : S12288.Idx → EReal) (w : S2x4096x4096.Idx → EReal) : S8x16x4096.Idx → EReal :=
  fun y => x y + ∑ k : Fin 4096, mixAt la lb lc P wa wb wc b (y 0) (y 1) k * w (ix3 (0 : Fin 2) k (y 2))

theorem gate_eq (P : S128x22528.Idx → EReal) (b : S12288.Idx → EReal) (o : Fin 3) (r : Fin 128) (s : Fin 4096) :
    gate P (shapeCast S1x12288 b shapeCasts_S12288_S1x12288) o r s = gateAt P b o r s := by
  unfold gate gateAt
  refine congrArg (fun z => Ideal.logistic (_ + z)) (shapeCast_apply _ _ _ (ix1 _) ?_)
  rw [Shape.rowMajor_val_two, Shape.rowMajor_val_one]
  show 4096 * o.val + s.val = 0 * 12288 + (4096 * o.val + s.val)
  omega

theorem branch_eq (l : S8x16x1024.Idx → EReal) (w : S2x1024x4096.Idx → EReal) (i : Fin 8) (t : Fin 16) (s : Fin 4096) :
    branch (shapeCast S128x1024 l shapeCasts_S8x16x1024_S128x1024) w (row i t) s = branchAt l w i t s :=
  Finset.sum_congr rfl fun k _ => congrArg (· * _) (flat_apply l shapeCasts_S8x16x1024_S128x1024 i t (row i t) rfl k)

/-- The two arrays in a row, over the reshaped arguments, are the layer's result. -/
theorem spec_eq (la : S128x1024.Idx → EReal) (lb lc : S8x16x1024.Idx → EReal) (P : S128x22528.Idx → EReal) (x : S8x16x4096.Idx → EReal) (wa wb wc : S2x1024x4096.Idx → EReal) (b : S12288.Idx → EReal) (w : S2x4096x4096.Idx → EReal) :
    shapeCast S8x16x4096 (outAll (mixAll la (shapeCast S128x1024 lb shapeCasts_S8x16x1024_S128x1024) (shapeCast S128x1024 lc shapeCasts_S8x16x1024_S128x1024) wa wb wc P
      (shapeCast S1x12288 b shapeCasts_S12288_S1x12288)) w (shapeCast S128x4096 x shapeCasts_S8x16x4096_S128x4096))
      shapeCasts_S128x4096_S8x16x4096 = spec la lb lc P x wa wb wc b w := by
  funext y
  have y0 : (y 0).val < 8 := (y 0).isLt
  have y1 : (y 1).val < 16 := (y 1).isLt
  refine (shapeCast_apply _ _ y (ix2 (row (y 0) (y 1)) (y 2 : Fin 4096)) ?_).trans ?_
  · rw [Shape.rowMajor_val_two, Shape.rowMajor_val_three]
    show (16 * (y 0).val + (y 1).val) * 4096 + (y 2).val = ((y 0).val * 16 + (y 1).val) * 4096 + (y 2).val
    omega
  · have ey : y = ix3 (y 0 : Fin 8) (y 1 : Fin 16) (y 2 : Fin 4096) := funext fun a => by fin_cases a <;> rfl
    refine congr (congrArg (fun a b : EReal => a + b) ((flat_apply x shapeCasts_S8x16x4096_S128x4096 (y 0) (y 1) (row (y 0) (y 1)) rfl (y 2)).trans (congrArg x ey.symm))) ?_
    refine Finset.sum_congr rfl fun k _ => congrArg (· * _) ?_
    exact congr (congrArg (fun a b : EReal => a + b) (congr (congrArg (fun a b : EReal => a + b)
      (congrArg (· * _) (gate_eq P b 0 (row (y 0) (y 1)) k)))
      (congr (congrArg (fun a b : EReal => a * b) (gate_eq P b 1 (row (y 0) (y 1)) k)) (branch_eq lb wb (y 0) (y 1) k))))
      (congr (congrArg (fun a b : EReal => a * b) (gate_eq P b 2 (row (y 0) (y 1)) k)) (branch_eq lc wc (y 0) (y 1) k))

section Kernel

variable (m : (ℓ : Loc nD τ sig) → Buf (Elt Ideal) ℓ) (ρ : Dev nD → PrngReg) (c : Dev nD)

theorem entry_wa : V1 m ρ c main_v0 = m ((c : Thread nD τ).loc main_arg5) := by
  unfold_abbrev_sides
  after_results
  rfl

theorem entry_wb : V1 m ρ c main_v1 = m ((c : Thread nD τ).loc main_arg6) := by
  unfold_abbrev_sides
  after_results
  rfl

theorem entry_wc : V1 m ρ c main_v2 = m ((c : Thread nD τ).loc main_arg7) := by
  unfold_abbrev_sides
  after_results
  rfl

theorem entry_w : V1 m ρ c main_v3 = m ((c : Thread nD τ).loc main_arg9) := by
  unfold_abbrev_sides
  after_results
  rfl

theorem entry_x : V1 m ρ c main_v4 = shapeCast S128x4096 (m ((c : Thread nD τ).loc main_arg4)) shapeCasts_S8x16x4096_S128x4096 := by
  unfold_abbrev_sides
  after_results
  rfl

theorem entry_lb : V1 m ρ c main_v5 = shapeCast S128x1024 (m ((c : Thread nD τ).loc main_arg1)) shapeCasts_S8x16x1024_S128x1024 := by
  unfold_abbrev_sides
  after_results
  rfl

theorem entry_lc : V1 m ρ c main_v6 = shapeCast S128x1024 (m ((c : Thread nD τ).loc main_arg2)) shapeCasts_S8x16x1024_S128x1024 := by
  unfold_abbrev_sides
  after_results
  rfl

theorem entry_b : V1 m ρ c main_v7 = shapeCast S1x12288 (m ((c : Thread nD τ).loc main_arg8)) shapeCasts_S12288_S1x12288 := by
  unfold_abbrev_sides
  after_results
  rfl

theorem entry_la : V1 m ρ c main_arg0 = m ((c : Thread nD τ).loc main_arg0) := by
  unfold_abbrev_sides
  after_results

theorem entry_P : V1 m ρ c main_arg3 = m ((c : Thread nD τ).loc main_arg3) := by
  unfold_abbrev_sides
  after_results

theorem whole : W3 m ρ c (Proc.devRef .tc main_v9) = outAll (mixAll (m ((c : Thread nD τ).loc main_arg0)) (shapeCast S128x1024 (m ((c : Thread nD τ).loc main_arg1)) shapeCasts_S8x16x1024_S128x1024) (shapeCast S128x1024 (m ((c : Thread nD τ).loc main_arg2)) shapeCasts_S8x16x1024_S128x1024) (m ((c : Thread nD τ).loc main_arg5)) (m ((c : Thread nD τ).loc main_arg6)) (m ((c : Thread nD τ).loc main_arg7)) (m ((c : Thread nD τ).loc main_arg3))
      (shapeCast S1x12288 (m ((c : Thread nD τ).loc main_arg8)) shapeCasts_S12288_S1x12288)) (m ((c : Thread nD τ).loc main_arg9)) (shapeCast S128x4096 (m ((c : Thread nD τ).loc main_arg4)) shapeCasts_S8x16x4096_S128x4096) := by
  refine (W3_arr m ρ c 3).trans ((arr1 (V2 m ρ) c).trans ?_)
  refine congr (congr (congrArg outAll ?_) ((W2_of m ρ c main_v3 (by decide)).trans (entry_w m ρ c))) ((W2_of m ρ c main_v4 (by decide)).trans (entry_x m ρ c))
  refine (W2_arr m ρ c 12).trans ((arr0 (V1 m ρ) c).trans ?_)
  exact congr (congr (congr (congr (congr (congr (congr (congrArg mixAll (entry_la m ρ c)) (entry_lb m ρ c)) (entry_lc m ρ c)) (entry_wa m ρ c)) (entry_wb m ρ c)) (entry_wc m ρ c)) (entry_P m ρ c)) (entry_b m ρ c)

theorem res_v10 : W4 m ρ c (Proc.devRef .tc main_v10) = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine Eq.trans ?_ ((congrArg (fun v : S128x4096.Idx → EReal => shapeCast S8x16x4096 v shapeCasts_S128x4096_S8x16x4096) (whole m ρ c)).trans
    (spec_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))))
  unfold_abbrev_sides
  after_results
  rfl

end Kernel

section Reference

open Cert.SampleOutRefIdeal.Read

variable (la : (⟨S128x1024, .bf16⟩ : BufTy).Contents (Elt Ideal)) (lb lc : (⟨S8x16x1024, .bf16⟩ : BufTy).Contents (Elt Ideal))
  (P : (⟨S128x22528, .f32⟩ : BufTy).Contents (Elt Ideal)) (x : (⟨S8x16x4096, .f32⟩ : BufTy).Contents (Elt Ideal))
  (wa wb wc : (⟨S2x1024x4096, .f32⟩ : BufTy).Contents (Elt Ideal)) (b : (⟨S12288, .f32⟩ : BufTy).Contents (Elt Ideal))
  (w : (⟨S2x4096x4096, .f32⟩ : BufTy).Contents (Elt Ideal))

/-- The reference's gate, before it is cut into the branches' channels. -/
theorem ref_gate (i : Fin 8) (t : Fin 16) (o : Fin 3) (s : Fin 4096) :
    val_main_v24 (F := Ideal) P b (ix4 i t o s) = gateAt P b o (row i t) s := by
  rw [val_main_v24_apply, val_main_v23_apply, val_main_v22_apply, val_main_v21_apply, val_main_v20_apply, val_main_v19_apply, val_main_v18_apply,
    val_main_v17_apply, val_main_v14_apply, val_main_v13_apply, val_main_v16_apply, val_main_v15_apply, val_main_cst_apply, val_main_cst_0_apply]
  have e1 : (FloatOps.ofBits .f32 0x3F800000#32 : Ideal .f32) = (1 : EReal) := Ideal.ofBits_one_f32
  rw [e1]
  have eP : idx_main_v13 (idx_main_v14 (idx_main_v24 (ix4 i t o s))) = ix2 (row i t) ⟨10240 + (4096 * o.val + s.val), by omega⟩ :=
    funext fun a => Fin.ext (by
      have hi := i.isLt; have ht := t.isLt; have ho := o.isLt; have hs := s.isLt
      have h0 : (((i.val * 16 + t.val) * 3 + o.val) * 4096 + s.val) / 196608 = i.val := by omega
      have h1 : (((i.val * 16 + t.val) * 3 + o.val) * 4096 + s.val) / 12288 % 16 = t.val := by omega
      have h2 : (((i.val * 16 + t.val) * 3 + o.val) * 4096 + s.val) % 12288 = 4096 * o.val + s.val := by omega
      fin_cases a
      · show (((((i.val * 16 + t.val) * 3 + o.val) * 4096 + s.val) / 196608 * 16 + (((i.val * 16 + t.val) * 3 + o.val) * 4096 + s.val) / 12288 % 16) * 22528
          + (10240 + (((i.val * 16 + t.val) * 3 + o.val) * 4096 + s.val) % 12288)) / 22528 = 16 * i.val + t.val
        rw [h0, h1, h2]; omega
      · show (((((i.val * 16 + t.val) * 3 + o.val) * 4096 + s.val) / 196608 * 16 + (((i.val * 16 + t.val) * 3 + o.val) * 4096 + s.val) / 12288 % 16) * 22528
          + (10240 + (((i.val * 16 + t.val) * 3 + o.val) * 4096 + s.val) % 12288)) % 22528 = 10240 + (4096 * o.val + s.val)
        rw [h0, h1, h2]; omega)
  have eb : idx_main_v15 (idx_main_v16 (idx_main_v24 (ix4 i t o s))) = ix1 ⟨4096 * o.val + s.val, by omega⟩ :=
    funext fun a => Fin.ext (by
      have hi := i.isLt; have ht := t.isLt; have ho := o.isLt; have hs := s.isLt
      fin_cases a
      show (((i.val * 16 + t.val) * 3 + o.val) * 4096 + s.val) % 12288 = 4096 * o.val + s.val
      omega)
  rw [eP, eb]
  rfl

theorem ref_gate0 (i : Fin 8) (t : Fin 16) (s : Fin 4096) : val_main_v26 (F := Ideal) P b (ix3 i t s) = gateAt P b 0 (row i t) s := by
  rw [val_main_v26_apply, val_main_v25_apply, ← ref_gate P b i t 0 s]
  refine congrArg (val_main_v24 (F := Ideal) P b) (funext fun a => Fin.ext ?_)
  have hi := i.isLt; have ht := t.isLt; have hs := s.isLt
  fin_cases a
  · show ((i.val * 16 + t.val) * 4096 + s.val) / 65536 = i.val; omega
  · show ((i.val * 16 + t.val) * 4096 + s.val) / 4096 % 16 = t.val; omega
  · rfl
  · show ((i.val * 16 + t.val) * 4096 + s.val) % 4096 = s.val; omega

theorem ref_gate1 (i : Fin 8) (t : Fin 16) (s : Fin 4096) : val_main_v29 (F := Ideal) P b (ix3 i t s) = gateAt P b 1 (row i t) s := by
  rw [val_main_v29_apply, val_main_v28_apply, ← ref_gate P b i t 1 s]
  refine congrArg (val_main_v24 (F := Ideal) P b) (funext fun a => Fin.ext ?_)
  have hi := i.isLt; have ht := t.isLt; have hs := s.isLt
  fin_cases a
  · show ((i.val * 16 + t.val) * 4096 + s.val) / 65536 = i.val; omega
  · show ((i.val * 16 + t.val) * 4096 + s.val) / 4096 % 16 = t.val; omega
  · rfl
  · show ((i.val * 16 + t.val) * 4096 + s.val) % 4096 = s.val; omega

theorem ref_gate2 (i : Fin 8) (t : Fin 16) (s : Fin 4096) : val_main_v33 (F := Ideal) P b (ix3 i t s) = gateAt P b 2 (row i t) s := by
  rw [val_main_v33_apply, val_main_v32_apply, ← ref_gate P b i t 2 s]
  refine congrArg (val_main_v24 (F := Ideal) P b) (funext fun a => Fin.ext ?_)
  have hi := i.isLt; have ht := t.isLt; have hs := s.isLt
  fin_cases a
  · show ((i.val * 16 + t.val) * 4096 + s.val) / 65536 = i.val; omega
  · show ((i.val * 16 + t.val) * 4096 + s.val) / 4096 % 16 = t.val; omega
  · rfl
  · show ((i.val * 16 + t.val) * 4096 + s.val) % 4096 = s.val; omega

theorem ref_branch0 (i : Fin 8) (t : Fin 16) (s : Fin 4096) : val_main_v4 (F := Ideal) la wa (ix3 i t s) = branch la wa (row i t) s := by
  rw [val_main_v4_apply]
  refine Finset.sum_congr rfl fun k _ => congr (congrArg (fun a b : EReal => a * b) ?_) ?_
  · rw [val_main_v1_apply, val_main_v0_apply]
    refine congrArg la (funext fun a => Fin.ext ?_)
    have hi := i.isLt; have ht := t.isLt; have hk := k.isLt
    fin_cases a
    · show ((i.val * 16 + t.val) * 1024 + k.val) / 1024 = 16 * i.val + t.val; omega
    · show ((i.val * 16 + t.val) * 1024 + k.val) % 1024 = k.val; omega
  · rw [val_main_v3_apply, val_main_v2_apply]
    refine congrArg wa (funext fun a => Fin.ext ?_)
    have hk := k.isLt; have hs := s.isLt
    fin_cases a
    · rfl
    · show (k.val * 4096 + s.val) / 4096 % 1024 = k.val; omega
    · show (k.val * 4096 + s.val) % 4096 = s.val; omega

theorem ref_branch1 (i : Fin 8) (t : Fin 16) (s : Fin 4096) : val_main_v8 (F := Ideal) lb wb (ix3 i t s) = branchAt lb wb i t s := by
  rw [val_main_v8_apply]
  refine Finset.sum_congr rfl fun k _ => congr (congrArg (fun a b : EReal => a * b) ?_) ?_
  · rw [val_main_v5_apply]
    exact congrArg lb (funext fun a => Fin.ext (by fin_cases a <;> rfl))
  · rw [val_main_v7_apply, val_main_v6_apply]
    refine congrArg wb (funext fun a => Fin.ext ?_)
    have hk := k.isLt; have hs := s.isLt
    fin_cases a
    · rfl
    · show (k.val * 4096 + s.val) / 4096 % 1024 = k.val; omega
    · show (k.val * 4096 + s.val) % 4096 = s.val; omega

theorem ref_branch2 (i : Fin 8) (t : Fin 16) (s : Fin 4096) : val_main_v12 (F := Ideal) lc wc (ix3 i t s) = branchAt lc wc i t s := by
  rw [val_main_v12_apply]
  refine Finset.sum_congr rfl fun k _ => congr (congrArg (fun a b : EReal => a * b) ?_) ?_
  · rw [val_main_v9_apply]
    exact congrArg lc (funext fun a => Fin.ext (by fin_cases a <;> rfl))
  · rw [val_main_v11_apply, val_main_v10_apply]
    refine congrArg wc (funext fun a => Fin.ext ?_)
    have hk := k.isLt; have hs := s.isLt
    fin_cases a
    · rfl
    · show (k.val * 4096 + s.val) / 4096 % 1024 = k.val; omega
    · show (k.val * 4096 + s.val) % 4096 = s.val; omega

theorem ref_mix (i : Fin 8) (t : Fin 16) (s : Fin 4096) :
    val_main_v35 (F := Ideal) la lb lc P wa wb wc b (ix3 i t s) = mixAt la lb lc P wa wb wc b i t s := by
  rw [val_main_v35_apply, val_main_v31_apply, val_main_v27_apply, val_main_v30_apply, val_main_v34_apply, ref_gate0, ref_gate1, ref_gate2,
    ref_branch0, ref_branch1, ref_branch2]
  rfl

theorem ref_eq : val_main_v39 (F := Ideal) la lb lc P x wa wb wc b w = spec la lb lc P x wa wb wc b w := by
  funext y
  rw [val_main_v39_apply, val_main_v38_apply]
  refine congrArg (fun z : EReal => x y + z) (Finset.sum_congr rfl fun k _ => congr (congrArg (fun a b : EReal => a * b) ?_) ?_)
  · refine Eq.trans (congrArg (val_main_v35 (F := Ideal) la lb lc P wa wb wc b) ?_) (ref_mix la lb lc P wa wb wc b (y 0) (y 1) k)
    exact funext fun a => Fin.ext (by fin_cases a <;> rfl)
  · rw [val_main_v37_apply, val_main_v36_apply]
    refine congrArg w (funext fun a => Fin.ext ?_)
    have hk := k.isLt
    have h2 : (y 2).val < 4096 := (y 2).isLt
    fin_cases a
    · rfl
    · show (k.val * 4096 + (y 2).val) / 4096 % 4096 = k.val; omega
    · show (k.val * 4096 + (y 2).val) % 4096 = (y 2).val; omega

end Reference

end Cert.SampleOutIdeal.Stage

end
-- ==== Proof.SampleOutClaims.lean ====
/-
  The output projection's claims: its three programs run and leave their arguments as they found them, and its result is the
  reference's.
-/
module

public import proofs.«01_k».proof.Defs
public import proofs.«01_k».proof.Proof.Gen.SampleOut.Frame
public import proofs.«01_k».proof.Proof.Gen.SampleOutRefIdeal.Run
public import proofs.«01_k».proof.Proof.SampleOutVal
public import Idealize.ShloMosaic.Lib.Quiescent

@[expose] public section

noncomputable section

open Idealize.ShloMosaic Idealize.ShloMosaic.TcCoe Idealize.SL.Sem

namespace Cert.Proof.SampleOutClaims

open Cert.SampleOutIdeal.Stage

theorem frame_p : Cert.quiescent_SampleOut := fun m ρ _ => Cert.SampleOut.Gen.frame m ρ
theorem frame_pi : Cert.quiescent_SampleOutIdeal := fun m ρ _ => Cert.SampleOutIdeal.Gen.frame m ρ
theorem frame_ri : Cert.quiescent_SampleOutRefIdeal := fun m ρ _ =>
  (θ_run Cert.SampleOutRefIdeal.defs _ _).mono (fun r h => ⟨fun c => (h c).2,
      Idealize.ShloMosaic.sem_eq_zero_of_no_sems (by decide) r.2⟩)
    (Cert.SampleOutRefIdeal.Value.run (F := Ideal) m ρ)

theorem preserves : Cert.preserves_SampleOut_SampleOutIdeal := trivial

open Cert.SampleOutIdeal Cert.SampleOutIdeal.Gen in
/-- The output projection's run, its result named. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v10 (by decide)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c)⟩) (run m ρ)

theorem algebraic :
    letI := Cert.SampleOutIdeal.Gen.facts; letI := Cert.SampleOutRefIdeal.Gen.facts
    Cert.algebraic_SampleOutIdeal_SampleOutRefIdeal := by
  intro m ρ m' ρ' _ hag
  refine ⟨fun c => Cert.SampleOutRefIdeal.Read.val_main_v39 (F := Ideal) (m ((c.tc : Thread Cert.SampleOutIdeal.nD Cert.SampleOutIdeal.τ).loc Cert.SampleOutIdeal.main_arg0)) (m ((c.tc : Thread Cert.SampleOutIdeal.nD Cert.SampleOutIdeal.τ).loc Cert.SampleOutIdeal.main_arg1)) (m ((c.tc : Thread Cert.SampleOutIdeal.nD Cert.SampleOutIdeal.τ).loc Cert.SampleOutIdeal.main_arg2)) (m ((c.tc : Thread Cert.SampleOutIdeal.nD Cert.SampleOutIdeal.τ).loc Cert.SampleOutIdeal.main_arg3)) (m ((c.tc : Thread Cert.SampleOutIdeal.nD Cert.SampleOutIdeal.τ).loc Cert.SampleOutIdeal.main_arg4)) (m ((c.tc : Thread Cert.SampleOutIdeal.nD Cert.SampleOutIdeal.τ).loc Cert.SampleOutIdeal.main_arg5)) (m ((c.tc : Thread Cert.SampleOutIdeal.nD Cert.SampleOutIdeal.τ).loc Cert.SampleOutIdeal.main_arg6)) (m ((c.tc : Thread Cert.SampleOutIdeal.nD Cert.SampleOutIdeal.τ).loc Cert.SampleOutIdeal.main_arg7)) (m ((c.tc : Thread Cert.SampleOutIdeal.nD Cert.SampleOutIdeal.τ).loc Cert.SampleOutIdeal.main_arg8)) (m ((c.tc : Thread Cert.SampleOutIdeal.nD Cert.SampleOutIdeal.τ).loc Cert.SampleOutIdeal.main_arg9)),
    (θ_run Cert.SampleOutIdeal.defs _ _).mono (fun r h c => ?_) (kernel_run m ρ),
    (θ_run Cert.SampleOutRefIdeal.defs _ _).mono (fun r h c => ?_) (Cert.SampleOutRefIdeal.Value.run (F := Ideal) m' ρ')⟩
  · obtain ⟨h0, ha⟩ := h c
    exact ⟨h0.trans ((res_v10 m ρ c).trans (ref_eq _ _ _ _ _ _ _ _ _ _).symm), ha⟩
  · obtain ⟨h0, ha⟩ := h c
    obtain ⟨g0, g1, g2, g3, g4, g5, g6, g7, g8, g9⟩ := hag c
    refine ⟨h0.trans ?_, ha⟩
    rw [Cert.SampleOutRefIdeal.Read.val_main_v39_eq, g0, g1, g2, g3, g4, g5, g6, g7, g8, g9]

end Cert.Proof.SampleOutClaims

end
-- ==== Proof.SampleGluVal.lean ====
/-
  The state space mixer's gate: the array its kernel leaves, as a function of the program's arguments, and the reference's.
-/
module

public import Idealize.ShloMosaic.Lib.Claim
public import Idealize.ShloMosaic.Lib.IdealHost
public import Idealize.ShloMosaic.Lib.StableHlo.Run
public import Idealize.ShloMosaic.Lib.Pipeline.ValueKit.Geometry
public import proofs.«01_k».proof.Proof.Gen.SampleGluIdeal.Value
public import proofs.«01_k».proof.Proof.Gen.SampleGluRefIdeal.Read
public import proofs.«01_k».proof.Proof.Dense

@[expose] public section

set_option maxRecDepth 65536

noncomputable section

namespace Cert.SampleGluIdeal.Stage

open Idealize.ShloMosaic
open Idealize.ShloMosaic.ValueIdx Idealize.ShloMosaic.TcCoe
open Cert.SampleGluIdeal Cert.SampleGluIdeal.Gen Cert.Dense
open scoped BigOperators

/-- The step of a row. -/
def pos (r : Fin 128) : Fin 16 := ⟨r.val % 16, by omega⟩

/-- The stream of a row. -/
def stream (r : Fin 128) : Fin 8 := ⟨r.val / 16, by omega⟩

/-- A channel of a row's stream, among the channels of all streams. -/
def lane (r : Fin 128) (s : Fin 1024) : Fin 8192 := ⟨1024 * (r.val / 16) + s.val, by omega⟩

/-- A value under its gate, times its gate path's SiLU. -/
def gated (v g z : EReal) : EReal := v * Ideal.logistic g * (z * Ideal.logistic z)

/-- An entry of the array the kernel leaves, of the arrays it reads. -/
def gluAt (y : S16x8192.Idx → EReal) (w : S2x1024x1024.Idx → EReal) (b : S1x1024.Idx → EReal) (P : S128x22528.Idx → EReal)
    (r : Fin 128) (s : Fin 1024) : EReal :=
  gated (y (ix2 (pos r) (lane r s))) ((∑ k : Fin 1024, y (ix2 (pos r) (lane r k)) * w (ix3 (0 : Fin 2) k s)) + b (ix2 (0 : Fin 1) s))
    (P (ix2 r ⟨1024 + s.val, by omega⟩))

/-- The array the kernel leaves, of the arrays it reads. -/
def gluAll (y : S16x8192.Idx → EReal) (w : S2x1024x1024.Idx → EReal) (b : S1x1024.Idx → EReal) (P : S128x22528.Idx → EReal) : S128x1024.Idx → EReal :=
  fun i => gluAt y w b P (i 0) (i 1)

/-- The same of the program's arguments. -/
def spec (y : S16x8x1024.Idx → EReal) (w : S2x1024x1024.Idx → EReal) (b : S1024.Idx → EReal) (P : S128x22528.Idx → EReal) : S128x1024.Idx → EReal :=
  fun i => gated (y (ix3 (pos (i 0)) (stream (i 0)) (i 1)))
    ((∑ k : Fin 1024, y (ix3 (pos (i 0)) (stream (i 0)) k) * w (ix3 (0 : Fin 2) k (i 1))) + b (ix1 (i 1)))
    (P (ix2 (i 0) ⟨1024 + (i 1).val, by have h : (i 1).val < 1024 := (i 1).isLt; omega⟩))

theorem lane_eq (y : S16x8x1024.Idx → EReal) (r : Fin 128) (s : Fin 1024) :
    shapeCast S16x8192 y shapeCasts_S16x8x1024_S16x8192 (ix2 (pos r) (lane r s)) = y (ix3 (pos r) (stream r) s) := by
  refine shapeCast_apply _ _ _ (ix3 (pos r) (stream r) s) ?_
  rw [Shape.rowMajor_val_two, Shape.rowMajor_val_three]
  show ((pos r).val * 8 + r.val / 16) * 1024 + s.val = (pos r).val * 8192 + (1024 * (r.val / 16) + s.val)
  omega

theorem spec_eq (y : S16x8x1024.Idx → EReal) (w : S2x1024x1024.Idx → EReal) (b : S1024.Idx → EReal) (P : S128x22528.Idx → EReal) :
    gluAll (shapeCast S16x8192 y shapeCasts_S16x8x1024_S16x8192) w (shapeCast S1x1024 b shapeCasts_S1024_S1x1024) P = spec y w b P := by
  funext i
  refine congrArg₂ (fun v g : EReal => gated v g _) (lane_eq y (i 0) (i 1)) ?_
  refine congr (congrArg (fun a b : EReal => a + b) (Finset.sum_congr rfl fun k _ => congrArg (· * _) (lane_eq y (i 0) k))) ?_
  refine shapeCast_apply _ _ _ (ix1 (i 1)) ?_
  rw [Shape.rowMajor_val_two, Shape.rowMajor_val_one]
  show (i 1).val = 0 * 1024 + (i 1).val
  omega

section Array

variable (m : (ℓ : Loc nD τ sig) → Buf (Elt Ideal) ℓ) (c : Dev nD)

theorem index : ∀ t : Fin cfg0.N, (win0_0.index t 0 < 1 ∧ win0_0.index t 1 < 8)
    ∧ (win0_1.index t 0 = 0 ∧ win0_1.index t 1 = 0 ∧ win0_1.index t 2 = 0) ∧ (win0_2.index t 0 = 0 ∧ win0_2.index t 1 = 0)
    ∧ (win0_3.index t 0 = win0_4.index t 0 ∧ win0_3.index t 1 = 1) ∧ (win0_4.index t 0 = 1 * win0_0.index t 1 + win0_0.index t 0 ∧ win0_4.index t 1 = 0) :=
  (by decide +kernel : ∀ t : Fin grid0.N, (win0_0.index t 0 < 1 ∧ win0_0.index t 1 < 8)
    ∧ (win0_1.index t 0 = 0 ∧ win0_1.index t 1 = 0 ∧ win0_1.index t 2 = 0) ∧ (win0_2.index t 0 = 0 ∧ win0_2.index t 1 = 0)
    ∧ (win0_3.index t 0 = win0_4.index t 0 ∧ win0_3.index t 1 = 1) ∧ (win0_4.index t 0 = 1 * win0_0.index t 1 + win0_0.index t 0 ∧ win0_4.index t 1 = 0))

theorem in0 (t : Fin cfg0.N) (p : Fin 16) (k : Fin 1024) (r : Fin 128) (hr : r.val = 16 * win0_4.index t 0 + p.val) :
    (iblk m c 0 t : S16x1024.Idx → EReal) (ix2 p k) = (V m c main_v1 : S16x8192.Idx → EReal) (ix2 (pos r) (lane r k)) := by
  obtain ⟨⟨a0, a1⟩, -, -, -, ⟨a2, -⟩⟩ := index t
  show V m c main_v1 (((cfg0.win 0).blk t).view.emb (ix2 p k)) = _
  refine congrArg (V m c main_v1) (funext fun d => Fin.ext ?_)
  fin_cases d
  · show win0_0.index t (0 : Fin 2) * 16 + 1 * p.val = r.val % 16; omega
  · show win0_0.index t (1 : Fin 2) * 1024 + 1 * k.val = 1024 * (r.val / 16) + k.val; omega

theorem in1 (t : Fin cfg0.N) (k q : Fin 1024) :
    (iblk m c 1 t : S1x1024x1024.Idx → EReal) (ix3 (0 : Fin 1) k q) = (V m c main_v0 : S2x1024x1024.Idx → EReal) (ix3 (0 : Fin 2) k q) := by
  obtain ⟨-, ⟨a0, a1, a2⟩, -⟩ := index t
  show V m c main_v0 (((cfg0.win 1).blk t).view.emb (ix3 (0 : Fin 1) k q)) = _
  refine congrArg (V m c main_v0) (funext fun d => Fin.ext ?_)
  fin_cases d
  · show win0_1.index t (0 : Fin 3) * 1 + 1 * 0 = 0; omega
  · show win0_1.index t (1 : Fin 3) * 1024 + 1 * k.val = k.val; omega
  · show win0_1.index t (2 : Fin 3) * 1024 + 1 * q.val = q.val; omega

theorem in2 (t : Fin cfg0.N) (q : Fin 1024) :
    (iblk m c 2 t : S1x1024.Idx → EReal) (ix2 (0 : Fin 1) q) = (V m c main_v2 : S1x1024.Idx → EReal) (ix2 (0 : Fin 1) q) := by
  obtain ⟨-, -, ⟨a0, a1⟩, -⟩ := index t
  show V m c main_v2 (((cfg0.win 2).blk t).view.emb (ix2 (0 : Fin 1) q)) = _
  refine congrArg (V m c main_v2) (funext fun d => Fin.ext ?_)
  fin_cases d
  · show win0_2.index t (0 : Fin 2) * 1 + 1 * 0 = 0; omega
  · show win0_2.index t (1 : Fin 2) * 1024 + 1 * q.val = q.val; omega

theorem in3 (t : Fin cfg0.N) (p : Fin 16) (q : Fin 1024) (r : Fin 128) (hr : r.val = 16 * win0_4.index t 0 + p.val) :
    (iblk m c 3 t : S16x1024.Idx → EReal) (ix2 p q) = (V m c main_arg3 : S128x22528.Idx → EReal) (ix2 r ⟨1024 + q.val, by omega⟩) := by
  obtain ⟨-, -, -, ⟨a0, a1⟩, -⟩ := index t
  show V m c main_arg3 (((cfg0.win 3).blk t).view.emb (ix2 p q)) = _
  refine congrArg (V m c main_arg3) (funext fun d => Fin.ext ?_)
  fin_cases d
  · show win0_3.index t (0 : Fin 2) * 16 + 1 * p.val = r.val; omega
  · show win0_3.index t (1 : Fin 2) * 1024 + 1 * q.val = 1024 + q.val; omega

theorem pay (y : FVec Ideal S16x1024 .f32) (w : FVec Ideal S1x1024x1024 .bf16) (b : FVec Ideal S1x1024 .f32) (z : FVec Ideal S16x1024 .f32)
    (p : Fin 16) (q : Fin 1024) : k0_pay1 (F := Ideal) y w b z (ix2 p q)
      = gated (y (ix2 p q)) ((∑ k : Fin 1024, y (ix2 p k) * w (ix3 (0 : Fin 1) k q)) + b (ix2 (0 : Fin 1) q)) (z (ix2 p q)) := by
  unfold k0_pay1 gated
  rw [shapeCast_self]
  refine congrArg (fun a : EReal => y (ix2 p q) * a * (z (ix2 p q) * Ideal.logistic (z (ix2 p q)))) ?_
  refine (gate_apply _ b _ _ p q).trans (congrArg (fun a : EReal => Ideal.logistic (a + b (ix2 (0 : Fin 1) q))) ?_)
  exact slab_apply (truncf .bf16 y bitsLt_bf16_f32) w _ p q

theorem out_eq (x0 : FVec Ideal S16x1024 .f32) (x1 : FVec Ideal S1x1024x1024 .bf16) (x2 : FVec Ideal S1x1024 .f32) (x3 : FVec Ideal S16x1024 .f32) :
    out0_4 (F := Ideal) x0 x1 x2 x3 = k0_pay1 (F := Ideal) x0 x1 x2 x3 := by
  unfold out0_4
  refine (View.canon_cons_unit_zero (funext fun a => by fin_cases a <;> rfl) _ _ _).trans ?_
  simp only [View.ld_unit_zero (S := S16x1024) (off := ![0, 0]) (funext fun a => by fin_cases a <;> rfl),
    View.ld_unit_zero (S := S1x1024x1024) (off := ![0, 0, 0]) (funext fun a => by fin_cases a <;> rfl),
    View.ld_unit_zero (S := S1x1024) (off := ![0, 0]) (funext fun a => by fin_cases a <;> rfl)]

theorem arr : (dats m 0 c).arrAt 4 cfg0.N = gluAll (V m c main_v1) (V m c main_v0) (V m c main_v2) (V m c main_arg3) := by
  refine (dats m 0 c).arrAt_eq_of_covers 4 (gluAll (V m c main_v1) (V m c main_v0) (V m c main_v2) (V m c main_arg3)) (by decide +kernel) fun t hf y => ?_
  blk_simp
  rw [after0_4, out_eq]
  have y0 : (y 0).val < 16 := (y 0).isLt
  have y1 : (y 1).val < 1024 := (y 1).isLt
  have f0 : (((win0_4.blk t).view.emb y) 0).val = 16 * win0_4.index t 0 + (y 0).val := by
    show win0_4.index t (0 : Fin 2) * 16 + 1 * (y 0).val = _; omega
  have f1 : (((win0_4.blk t).view.emb y) 1 : Fin 1024) = (y 1 : Fin 1024) := Fin.ext (by
    have h := (index t).2.2.2.2.2
    show win0_4.index t (1 : Fin 2) * 1024 + 1 * (y 1).val = _; omega)
  have ey : y = ix2 (y 0 : Fin 16) (y 1 : Fin 1024) := funext fun a => by fin_cases a <;> rfl
  refine (congrArg (k0_pay1 (F := Ideal) (iblk m c 0 t) (iblk m c 1 t) (iblk m c 2 t) (iblk m c 3 t)) ey).trans
    ((pay (iblk m c 0 t) (iblk m c 1 t) (iblk m c 2 t) (iblk m c 3 t) (y 0) (y 1)).trans ?_)
  generalize hR : (((win0_4.blk t).view.emb y) 0 : Fin 128) = R at f0
  have f2 : gluAll (V m c main_v1) (V m c main_v0) (V m c main_v2) (V m c main_arg3) ((win0_4.blk t).view.emb y)
      = gluAt (V m c main_v1) (V m c main_v0) (V m c main_v2) (V m c main_arg3) R (y 1) :=
    congr (congrArg (gluAt (V m c main_v1) (V m c main_v0) (V m c main_v2) (V m c main_arg3)) hR) f1
  refine Eq.trans ?_ f2.symm
  have e : ∀ k : Fin 1024, (iblk m c 0 t : S16x1024.Idx → EReal) (ix2 (y 0) k) = (V m c main_v1 : S16x8192.Idx → EReal) (ix2 (pos R) (lane R k)) :=
    fun k => in0 m c t (y 0) k R f0
  exact congr (congr (congrArg gated (e (y 1))) (congr (congrArg (fun a b : EReal => a + b)
    (Finset.sum_congr rfl fun k _ => congr (congrArg (fun a b : EReal => a * b) (e k)) (in1 m c t k (y 1)))) (in2 m c t (y 1))))
    (in3 m c t (y 0) (y 1) R f0)

theorem entry_w : V m c main_v0 = m ((c : Thread nD τ).loc main_arg1) := by
  unfold_abbrev_sides
  after_results
  rfl

theorem entry_y : V m c main_v1 = shapeCast S16x8192 (m ((c : Thread nD τ).loc main_arg0)) shapeCasts_S16x8x1024_S16x8192 := by
  unfold_abbrev_sides
  after_results
  rfl

theorem entry_b : V m c main_v2 = shapeCast S1x1024 (m ((c : Thread nD τ).loc main_arg2)) shapeCasts_S1024_S1x1024 := by
  unfold_abbrev_sides
  after_results
  rfl

theorem result : (dats m 0 c).arrAt 4 cfg0.N = spec (m ((c : Thread nD τ).loc main_arg0)) (m ((c : Thread nD τ).loc main_arg1))
    (m ((c : Thread nD τ).loc main_arg2)) (m ((c : Thread nD τ).loc main_arg3)) := by
  refine (arr m c).trans (Eq.trans ?_ (spec_eq _ _ _ _))
  exact congr (congr (congr (congrArg gluAll (entry_y m c)) (entry_w m c)) (entry_b m c)) (V_main_arg3 m c)

end Array

section Reference

open Cert.SampleGluRefIdeal.Read

variable (y : (⟨S16x8x1024, .f32⟩ : BufTy).Contents (Elt Ideal)) (w : (⟨S2x1024x1024, .f32⟩ : BufTy).Contents (Elt Ideal))
  (b : (⟨S1024, .f32⟩ : BufTy).Contents (Elt Ideal)) (P : (⟨S128x22528, .f32⟩ : BufTy).Contents (Elt Ideal))

theorem ref_sum (i : Fin 8) (t : Fin 16) (s : Fin 1024) : val_main_v8 (F := Ideal) y w b (ix3 i t s)
    = (∑ k : Fin 1024, y (ix3 t i k) * w (ix3 (0 : Fin 2) k s)) + b (ix1 s) := by
  rw [val_main_v8_apply, val_main_v5_apply, val_main_v7_apply, val_main_v6_apply]
  refine congr (congrArg (fun a b : EReal => a + b) (Finset.sum_congr rfl fun k _ => congr (congrArg (fun a b : EReal => a * b) ?_) ?_))
    (congrArg b (funext fun a => Fin.ext (by fin_cases a; rfl)))
  · rw [val_main_v0_apply]
    exact congrArg y (funext fun a => Fin.ext (by fin_cases a <;> rfl))
  · rw [val_main_v4_apply, val_main_v3_apply]
    refine congrArg w (funext fun a => Fin.ext ?_)
    have hk := k.isLt; have hs := s.isLt
    fin_cases a
    · rfl
    · show (k.val * 1024 + s.val) / 1024 % 1024 = k.val; omega
    · show (k.val * 1024 + s.val) % 1024 = s.val; omega

theorem ref_path (i : Fin 8) (t : Fin 16) (s : Fin 1024) (r : Fin 128) (hr : r.val = 16 * i.val + t.val) :
    val_main_v2 (F := Ideal) P (ix3 i t s) = P (ix2 r ⟨1024 + s.val, by omega⟩) := by
  rw [val_main_v2_apply, val_main_v1_apply]
  refine congrArg P (funext fun a => Fin.ext ?_)
  have hi := i.isLt; have ht := t.isLt; have hs := s.isLt
  fin_cases a
  · show ((i.val * 16 + t.val) * 22528 + (1024 + s.val)) / 22528 = r.val; omega
  · show ((i.val * 16 + t.val) * 22528 + (1024 + s.val)) % 22528 = 1024 + s.val; omega

theorem ref_gated (i : Fin 8) (t : Fin 16) (s : Fin 1024) : val_main_v17 (F := Ideal) y w b P (ix3 i t s)
    = gated (val_main_v0 (F := Ideal) y (ix3 i t s)) (val_main_v8 (F := Ideal) y w b (ix3 i t s)) (val_main_v2 (F := Ideal) P (ix3 i t s)) := by
  rw [val_main_v17_apply, val_main_v15_apply, val_main_v14_apply, val_main_v13_apply, val_main_v12_apply, val_main_v11_apply, val_main_v10_apply,
    val_main_v9_apply, val_main_v16_apply, val_main_call0_v5_apply, val_main_call0_v4_apply, val_main_call0_v3_apply, val_main_call0_v2_apply,
    val_main_call0_v1_apply, val_main_call0_v0_apply, val_main_cst_apply, val_main_cst_0_apply, val_main_call0_cst_apply, val_main_call0_cst_0_apply]
  have e1 : (FloatOps.ofBits .f32 0x3F800000#32 : Ideal .f32) = (1 : EReal) := Ideal.ofBits_one_f32
  rw [e1]
  rfl

theorem ref_eq : val_main_v19 (F := Ideal) y w b P = spec y w b P := by
  funext x
  have x0 : (x 0).val < 128 := (x 0).isLt
  have x1 : (x 1).val < 1024 := (x 1).isLt
  have e : idx_main_v19 x = ix3 (stream (x 0)) (pos (x 0)) (x 1 : Fin 1024) := funext fun a => Fin.ext (by
    fin_cases a
    · show ((x 0).val * 1024 + (x 1).val) / 16384 = (x 0).val / 16; omega
    · show ((x 0).val * 1024 + (x 1).val) / 1024 % 16 = (x 0).val % 16; omega
    · show ((x 0).val * 1024 + (x 1).val) % 1024 = (x 1).val; omega)
  rw [val_main_v19_apply, val_main_v18_apply, e]
  refine (ref_gated y w b P (stream (x 0)) (pos (x 0)) (x 1)).trans ?_
  refine congr (congr (congrArg gated ?_) (ref_sum y w b (stream (x 0)) (pos (x 0)) (x 1)))
    (ref_path P (stream (x 0)) (pos (x 0)) (x 1) (x 0) (by show (x 0).val = 16 * ((x 0).val / 16) + (x 0).val % 16; omega))
  rw [val_main_v0_apply]
  exact congrArg y (funext fun a => Fin.ext (by fin_cases a <;> rfl))

end Reference

end Cert.SampleGluIdeal.Stage

end
-- ==== Proof.SampleGluClaims.lean ====
/-
  The gate's claims: its three programs run and leave their arguments as they found them, and its result is the reference's.
-/
module

public import proofs.«01_k».proof.Defs
public import proofs.«01_k».proof.Proof.Gen.SampleGlu.Frame
public import proofs.«01_k».proof.Proof.Gen.SampleGluRefIdeal.Run
public import proofs.«01_k».proof.Proof.SampleGluVal
public import Idealize.ShloMosaic.Lib.Quiescent

@[expose] public section

noncomputable section

open Idealize.ShloMosaic Idealize.ShloMosaic.TcCoe Idealize.SL.Sem

namespace Cert.Proof.SampleGluClaims

open Cert.SampleGluIdeal.Stage

theorem frame_p : Cert.quiescent_SampleGlu := fun m ρ _ => Cert.SampleGlu.Gen.frame m ρ
theorem frame_pi : Cert.quiescent_SampleGluIdeal := fun m ρ _ => Cert.SampleGluIdeal.Gen.frame m ρ
theorem frame_ri : Cert.quiescent_SampleGluRefIdeal := fun m ρ _ =>
  (θ_run Cert.SampleGluRefIdeal.defs _ _).mono (fun r h => ⟨fun c => (h c).2,
      Idealize.ShloMosaic.sem_eq_zero_of_no_sems (by decide) r.2⟩)
    (Cert.SampleGluRefIdeal.Value.run (F := Ideal) m ρ)

theorem preserves : Cert.preserves_SampleGlu_SampleGluIdeal := trivial

theorem algebraic :
    letI := Cert.SampleGluIdeal.Gen.facts; letI := Cert.SampleGluRefIdeal.Gen.facts
    Cert.algebraic_SampleGluIdeal_SampleGluRefIdeal := by
  intro m ρ m' ρ' _ hag
  refine ⟨fun c => Cert.SampleGluRefIdeal.Read.val_main_v19 (F := Ideal) (m ((c.tc : Thread Cert.SampleGluIdeal.nD Cert.SampleGluIdeal.τ).loc Cert.SampleGluIdeal.main_arg0)) (m ((c.tc : Thread Cert.SampleGluIdeal.nD Cert.SampleGluIdeal.τ).loc Cert.SampleGluIdeal.main_arg1)) (m ((c.tc : Thread Cert.SampleGluIdeal.nD Cert.SampleGluIdeal.τ).loc Cert.SampleGluIdeal.main_arg2)) (m ((c.tc : Thread Cert.SampleGluIdeal.nD Cert.SampleGluIdeal.τ).loc Cert.SampleGluIdeal.main_arg3)),
    (θ_run Cert.SampleGluIdeal.defs _ _).mono (fun r h c => ?_) (Cert.SampleGluIdeal.Value.run_blocks (F := Ideal) m ρ),
    (θ_run Cert.SampleGluRefIdeal.defs _ _).mono (fun r h c => ?_) (Cert.SampleGluRefIdeal.Value.run (F := Ideal) m' ρ')⟩
  · obtain ⟨h0, ha⟩ := h c
    exact ⟨h0.trans ((result m c).trans (ref_eq _ _ _ _).symm), ha⟩
  · obtain ⟨h0, ha⟩ := h c
    obtain ⟨g0, g1, g2, g3⟩ := hag c
    refine ⟨h0.trans ?_, ha⟩
    rw [Cert.SampleGluRefIdeal.Read.val_main_v19_eq, g0, g1, g2, g3]

end Cert.Proof.SampleGluClaims

end
-- ==== Proof.BandMath.lean ====
/-
  The softmax of a row of scores, over all its keys and over a window that holds every key it can see.
-/
module

public import Idealize.ShloMosaic.PureOps.Ideal
public import Idealize.ShloMosaic.PureOps.Ideal.Laws
public import Idealize.ShloMosaic.Lib.IdealHost
public import proofs.«01_k».proof.Proof.Reals

@[expose] public section

noncomputable section

namespace Cert.BandMath

open Idealize.ShloMosaic
open scoped BigOperators

variable {N W : ℕ}

/-- The greatest score. -/
def top (S : Fin N → EReal) : EReal := (Finset.univ : Finset (Fin N)).fold max ⊥ S

/-- The weighted values, each weight divided. -/
def att (S v : Fin N → EReal) : EReal :=
  ∑ k, Ideal.div (Ideal.exp (S k - top S)) (∑ j, Ideal.exp (S j - top S)) * v k

/-- The weighted values, divided at the end. -/
def win (S v : Fin N → EReal) : EReal :=
  Ideal.div (∑ k, Ideal.exp (S k - top S) * v k) (∑ j, Ideal.exp (S j - top S))

theorem top_eq_sup (S : Fin N → EReal) : top S = Finset.univ.sup S := rfl

theorem le_top (S : Fin N → EReal) (k : Fin N) : S k ≤ top S := by
  rw [top_eq_sup]
  exact Finset.le_sup (Finset.mem_univ k)

/-- A row whose scores are real or masked, one of them real: its greatest score is real. -/
theorem top_real (S : Fin N → EReal) (hS : ∀ k, S k = ⊥ ∨ ∃ x : ℝ, S k = x) (h0 : ∃ k, S k ≠ ⊥) :
    ∃ (k : Fin N) (x : ℝ), top S = x ∧ S k = x := by
  obtain ⟨k0, hk0⟩ := h0
  obtain ⟨k, -, hk⟩ := Finset.exists_mem_eq_sup (Finset.univ : Finset (Fin N)) ⟨k0, Finset.mem_univ k0⟩ S
  rw [← top_eq_sup] at hk
  rcases hS k with h | ⟨x, h⟩
  · exact absurd (le_bot_iff.1 ((le_top S k0).trans (hk.trans h).le)) hk0
  · exact ⟨k, x, hk.trans h, h⟩

/-- The weights are nonnegative reals. -/
theorem weight (S : Fin N → EReal) (hS : ∀ k, S k = ⊥ ∨ ∃ x : ℝ, S k = x) (x : ℝ) (hx : top S = x) (k : Fin N) :
    ∃ e : ℝ, 0 ≤ e ∧ Ideal.exp (S k - top S) = (e : EReal) := by
  rw [hx]
  rcases hS k with h | ⟨y, h⟩
  · refine ⟨0, le_refl _, ?_⟩
    rw [h, EReal.bot_sub]
    rfl
  · refine ⟨Real.exp (y - x), (Real.exp_pos _).le, ?_⟩
    rw [h, ← EReal.coe_sub]
    rfl

theorem sum_mul_coe {ι : Type*} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (EReal.coe_nonneg.2 hr) (EReal.coe_ne_top r) _ _

/-- Dividing at the end or each weight is the same. -/
theorem win_eq_att (S v : Fin N → EReal) (hS : ∀ k, S k = ⊥ ∨ ∃ x : ℝ, S k = x) (h0 : ∃ k, S k ≠ ⊥) : win S v = att S v := by
  obtain ⟨k0, x, hx, hk0⟩ := top_real S hS h0
  choose e he hE using weight S hS x hx
  have hk : Ideal.exp (S k0 - top S) = ((1 : ℝ) : EReal) := by
    rw [hx, hk0, ← EReal.coe_sub, sub_self]
    show ((Real.exp 0 : ℝ) : EReal) = _
    rw [Real.exp_zero]
  have he0 : e k0 = 1 := EReal.coe_injective ((hE k0).symm.trans hk)
  have hL : ∑ j, Ideal.exp (S j - top S) = ((∑ j, e j : ℝ) : EReal) := by
    rw [Cert.Sb.coe_sum]
    exact Finset.sum_congr rfl fun j _ => hE j
  have hpos : 0 < ∑ j, e j := lt_of_lt_of_le (by rw [he0]; norm_num) (Finset.single_le_sum (fun j _ => he j) (Finset.mem_univ k0))
  have hdiv : ∀ a : EReal, Ideal.div a ((∑ j, e j : ℝ) : EReal) = a * (((∑ j, e j)⁻¹ : ℝ) : EReal) := fun a => by
    unfold Ideal.div
    rw [if_neg (by rw [← EReal.coe_zero]; exact fun h => hpos.ne' (EReal.coe_injective h)), EReal.coe_inv]
  unfold win att
  rw [hL, hdiv, sum_mul_coe _ _ _ (inv_nonneg.2 hpos.le)]
  refine Finset.sum_congr rfl fun k _ => ?_
  rw [hdiv, mul_right_comm]

/-- A window that holds every key the row can see has the row's softmax. -/
theorem win_window (S v : Fin N → EReal) (s u : Fin W → EReal) (R : Fin N → Fin W → Prop)
    (h1 : ∀ k c c', R k c → R k c' → c = c') (h2 : ∀ k k' c, R k c → R k' c → k = k')
    (hs : ∀ k c, R k c → s c = S k) (hu : ∀ k c, R k c → u c = v k)
    (hS : ∀ k, S k ≠ ⊥ → ∃ c, R k c) (hW : ∀ c, s c ≠ ⊥ → ∃ k, R k c)
    (hreal : ∀ k, S k = ⊥ ∨ ∃ x : ℝ, S k = x) (h0 : ∃ k, S k ≠ ⊥) : win s u = att S v := by
  rw [← win_eq_att S v hreal h0]
  have htop : top s = top S := by
    rw [top_eq_sup, top_eq_sup]
    refine le_antisymm (Finset.sup_le fun c _ => ?_) (Finset.sup_le fun k _ => ?_)
    · by_cases h : s c = ⊥
      · rw [h]; exact bot_le
      · obtain ⟨k, hk⟩ := hW c h
        rw [hs k c hk]
        exact Finset.le_sup (Finset.mem_univ k)
    · by_cases h : S k = ⊥
      · rw [h]; exact bot_le
      · obtain ⟨c, hc⟩ := hS k h
        rw [← hs k c hc]
        exact Finset.le_sup (Finset.mem_univ c)
  obtain ⟨k0, x, hx, hk0⟩ := top_real S hreal h0
  have hbot : Ideal.exp (⊥ - top S) = 0 := by
    rw [hx, EReal.bot_sub]
    rfl
  have key : ∀ (a : Fin W → EReal) (b : Fin N → EReal), (∀ k c, R k c → a c = b k) →
      ∑ c, Ideal.exp (s c - top S) * a c = ∑ k, Ideal.exp (S k - top S) * b k := fun a b hab => by
    have hc : ∀ c, Ideal.exp (s c - top S) * a c ≠ 0 → ∃ k, R k c := fun c h => hW c fun hb => h (by rw [hb, hbot, zero_mul])
    refine Finset.sum_bij_ne_zero (fun c _ h => (hc c h).choose) (fun _ _ _ => Finset.mem_univ _) ?_ ?_ ?_
    · intro c _ hc1 c' _ hc2 he
      exact h1 _ c c' (hc c hc1).choose_spec (by rw [he]; exact (hc c' hc2).choose_spec)
    · intro k _ hk
      obtain ⟨c, hkc⟩ := hS k fun hb => hk (by rw [hb, hbot, zero_mul])
      have hne : Ideal.exp (s c - top S) * a c ≠ 0 := by rw [hs k c hkc, hab k c hkc]; exact hk
      exact ⟨c, Finset.mem_univ _, hne, h2 _ _ c (hc c hne).choose_spec hkc⟩
    · intro c _ h
      rw [hs _ c (hc c h).choose_spec, hab _ c (hc c h).choose_spec]
  have one : ∑ c, Ideal.exp (s c - top S) = ∑ k, Ideal.exp (S k - top S) := by
    have h := key (fun _ => 1) (fun _ => 1) fun _ _ _ => rfl
    simpa only [mul_one] using h
  unfold win
  rw [htop, key u v hu, one]

end Cert.BandMath

end
-- ==== Proof.BandSpec.lean ====
/-
  The banded attention as a function of its arguments: normed queries and keys, the band, the bias, and the window a block
  of rows reads.
-/
module

public import Idealize.ShloMosaic.Lib.Pipeline.Value
public import Idealize.ShloMosaic.Lib.Pipeline.ValueKit.Geometry
public import proofs.«01_k».proof.Proof.BandMath

@[expose] public section

set_option maxRecDepth 65536

noncomputable section

namespace Cert.BandSpec

open Idealize.ShloMosaic Idealize.ShloMosaic.ValueIdx
open Cert.BandMath
open scoped BigOperators

abbrev Proj := (⟨3, ![8, 2048, 22528]⟩ : Shape).Idx → EReal
abbrev Bias := (⟨2, ![8, 257]⟩ : Shape).Idx → EReal
abbrev Gain := (⟨1, ![128]⟩ : Shape).Idx → EReal

/-- A vector divided by its root mean square, times a gain. -/
def nrm (x : Fin 128 → EReal) (g : Gain) (d : Fin 128) : EReal :=
  x d * Ideal.rsqrt (Ideal.div (∑ l, x l * x l) (Ideal.ofBits .f32 0x43000000#32) + Ideal.ofBits .f32 0x358637BD#32) * g (ix1 d)

/-- A column of the projection. -/
def col (x : Proj) (o : Fin 21) (b : Fin 8) (s : Fin 2048) (h : Fin 8) (d : Fin 128) : EReal :=
  x (ix3 b s ⟨1024 * o.val + (128 * h.val + d.val), by omega⟩)

/-- The bias column of a query and a key: their distance, clipped. -/
def rel (q k : ℕ) : Fin 257 := ⟨128 + q - k - (128 + q - k - 256), by omega⟩

/-- The band: a query sees its chunk and the eight before it. -/
def seen (q k : ℕ) : Prop := k / 64 ≤ q / 64 ∧ q / 64 ≤ k / 64 + 8

instance (q k : ℕ) : Decidable (seen q k) := by unfold seen; infer_instance

/-- The scaled product of a query and a key. -/
def dotp (u v : Fin 128 → EReal) : EReal := (∑ d, u d * v d) * (((√(128 : ℝ))⁻¹ : ℝ) : EReal)

/-- The masked score of a query and a key. -/
def sc (x : Proj) (B : Bias) (gq gk : Gain) (b h : Fin 8) (q k : Fin 2048) : EReal :=
  if seen q.val k.val then dotp (nrm (col x 2 b q h) gq) (nrm (col x 3 b k h) gk) + B (ix2 h (rel q.val k.val)) else ⊥

/-- A number times its logistic. -/
def silu (z : EReal) : EReal := z * Ideal.logistic z

/-- The gated attention. -/
def out (x : Proj) (B : Bias) (gq gk : Gain) (b : Fin 8) (s : Fin 2048) (h : Fin 8) (d : Fin 128) : EReal :=
  att (sc x B gq gk b h s) (fun k => col x 4 b k h d) * silu (col x 5 b s h d)

/-- The band's new keys: the last 512 normed keys. -/
def key (x : Proj) (gk : Gain) (b : Fin 8) (s : Fin 512) (h : Fin 8) (d : Fin 128) : EReal :=
  nrm (col x 3 b ⟨1536 + s.val, by omega⟩ h) gk d

def Real' (e : EReal) : Prop := ∃ r : ℝ, e = (r : EReal)

theorem c128 : Ideal.ofBits .f32 0x43000000#32 = ((128 : ℝ) : EReal) := by
  simp [Ideal.ofBits, Ideal.ieee, -EReal.coe_mul]; norm_num

theorem ceps : ∃ e : ℝ, 0 < e ∧ Ideal.ofBits .f32 0x358637BD#32 = ((e : ℝ) : EReal) := by
  refine ⟨8796093 / 8796093022208, by norm_num, ?_⟩
  simp [Ideal.ofBits, Ideal.ieee, -EReal.coe_mul]; norm_num

theorem sq_nonneg (e : EReal) : 0 ≤ e * e := by
  induction e with
  | bot => simp
  | top => simp
  | coe r => rw [← EReal.coe_mul]; exact EReal.coe_nonneg.2 (mul_self_nonneg r)

theorem sq_top (e : EReal) (h : ¬ Real' e) : e * e = ⊤ := by
  induction e with
  | bot => simp
  | top => simp
  | coe r => exact absurd ⟨r, rfl⟩ h

/-- A vector with an infinite entry: its root mean square is infinite, and it is normed to zero. -/
theorem nrm_inf (x : Fin 128 → EReal) (g : Gain) (l : Fin 128) (hl : ¬ Real' (x l)) (d : Fin 128) : nrm x g d = 0 := by
  obtain ⟨e, he, hE⟩ := ceps
  have hs : ∑ l, x l * x l = ⊤ := top_le_iff.1 ((sq_top _ hl).symm.le.trans
    (Finset.single_le_sum (f := fun l => x l * x l) (fun l _ => sq_nonneg (x l)) (Finset.mem_univ l)))
  have hr : Ideal.div (∑ l, x l * x l) (Ideal.ofBits .f32 0x43000000#32) + Ideal.ofBits .f32 0x358637BD#32 = ⊤ := by
    rw [c128, hE, hs]
    unfold Ideal.div
    rw [if_neg (by rw [← EReal.coe_zero]; exact fun h => absurd (EReal.coe_injective h) (by norm_num)), ← EReal.coe_inv,
      EReal.top_mul_coe_of_pos (by norm_num), EReal.top_add_coe]
  unfold nrm
  rw [hr]
  show x d * 0 * _ = 0
  rw [mul_zero, zero_mul]

theorem nrm_real_of (x : Fin 128 → EReal) (g : Gain) (hx : ∀ l, Real' (x l)) (hg : ∀ i, Real' (g i)) (d : Fin 128) : Real' (nrm x g d) := by
  choose y hy using hx
  obtain ⟨w, hw⟩ := hg (ix1 d)
  obtain ⟨e, he, hE⟩ := ceps
  have hs : ∑ l, x l * x l = ((∑ l, y l * y l : ℝ) : EReal) := by
    rw [Cert.Sb.coe_sum]
    exact Finset.sum_congr rfl fun l _ => by rw [hy, EReal.coe_mul]
  have hp : 0 < (∑ l, y l * y l) * (128 : ℝ)⁻¹ + e :=
    add_pos_of_nonneg_of_pos (mul_nonneg (Finset.sum_nonneg fun l _ => mul_self_nonneg _) (by norm_num)) he
  have hr : Ideal.div (∑ l, x l * x l) (Ideal.ofBits .f32 0x43000000#32) + Ideal.ofBits .f32 0x358637BD#32
      = (((∑ l, y l * y l) * (128 : ℝ)⁻¹ + e : ℝ) : EReal) := by
    rw [c128, hE, hs]
    unfold Ideal.div
    rw [if_neg (by rw [← EReal.coe_zero]; exact fun h => absurd (EReal.coe_injective h) (by norm_num)), ← EReal.coe_inv, ← EReal.coe_mul, ← EReal.coe_add]
  unfold nrm
  rw [hr, hw, hy]
  refine ⟨y d * (√((∑ l, y l * y l) * (128 : ℝ)⁻¹ + e))⁻¹ * w, ?_⟩
  have hq : Ideal.rsqrt (((∑ l, y l * y l) * (128 : ℝ)⁻¹ + e : ℝ) : EReal) = (((√((∑ l, y l * y l) * (128 : ℝ)⁻¹ + e))⁻¹ : ℝ) : EReal) := by
    show (if _ < (0 : ℝ) then _ else if _ = (0 : ℝ) then _ else _) = _
    rw [if_neg (not_lt.2 hp.le), if_neg hp.ne']
  rw [hq, ← EReal.coe_mul, ← EReal.coe_mul]

/-- A normed vector is real, whatever the vector. -/
theorem nrm_real (x : Fin 128 → EReal) (g : Gain) (hg : ∀ i, Real' (g i)) (d : Fin 128) : Real' (nrm x g d) := by
  by_cases h : ∀ l, Real' (x l)
  · exact nrm_real_of x g h hg d
  · obtain ⟨l, hl⟩ := not_forall.1 h
    exact ⟨0, (nrm_inf x g l hl d).trans EReal.coe_zero.symm⟩

theorem dotp_real (u v : Fin 128 → EReal) (hu : ∀ d, Real' (u d)) (hv : ∀ d, Real' (v d)) : Real' (dotp u v) := by
  choose a ha using hu
  choose b hb using hv
  refine ⟨(∑ d, a d * b d) * (√(128 : ℝ))⁻¹, ?_⟩
  unfold dotp
  rw [EReal.coe_mul, Cert.Sb.coe_sum]
  exact congrArg (fun z : EReal => z * _) (Finset.sum_congr rfl fun d _ => by rw [ha, hb, EReal.coe_mul])

theorem add_real (a b : EReal) (ha : Real' a) (hb : Real' b) : Real' (a + b) := by
  obtain ⟨r, rfl⟩ := ha
  obtain ⟨s, rfl⟩ := hb
  exact ⟨r + s, (EReal.coe_add r s).symm⟩

/-- The table and the gains are finite. -/
structure Finite (B : Bias) (gq gk : Gain) : Prop where
  bias : ∀ i, Real' (B i)
  gq : ∀ i, Real' (gq i)
  gk : ∀ i, Real' (gk i)

theorem dot_real {x : Proj} {B : Bias} {gq gk : Gain} (H : Finite B gq gk) (b h : Fin 8) (q k : Fin 2048) :
    Real' (dotp (nrm (col x 2 b q h) gq) (nrm (col x 3 b k h) gk)) :=
  dotp_real _ _ (nrm_real _ _ H.gq) (nrm_real _ _ H.gk)

theorem sc_real {x : Proj} {B : Bias} {gq gk : Gain} (H : Finite B gq gk) (b h : Fin 8) (q k : Fin 2048) :
    sc x B gq gk b h q k = ⊥ ∨ ∃ r : ℝ, sc x B gq gk b h q k = (r : EReal) := by
  unfold sc
  split_ifs with hs
  · exact Or.inr (add_real _ _ (dot_real H b h q k) (H.bias _))
  · exact Or.inl rfl

/-- The window of a block of 128 rows, 640 columns from 512 before it, has the softmax of each of its rows. -/
theorem window {x : Proj} {B : Bias} {gq gk : Gain} (H : Finite B gq gk) (b h : Fin 8) (p : ℕ) (r : ℕ) (hr : r < 128) (q : Fin 2048) (hq : q.val = 128 * p + r)
    (s u : Fin 640 → EReal) (v : Fin 2048 → EReal)
    (hs : ∀ (k : Fin 2048) (c : Fin 640), k.val + 512 = 128 * p + c.val → s c = sc x B gq gk b h q k)
    (hu : ∀ (k : Fin 2048) (c : Fin 640), k.val + 512 = 128 * p + c.val → u c = v k)
    (hm : ∀ c : Fin 640, 128 * p + c.val < 512 → s c = ⊥) : win s u = att (sc x B gq gk b h q) v := by
  have hqb := q.isLt
  refine win_window (sc x B gq gk b h q) v s u (fun k c => k.val + 512 = 128 * p + c.val) (fun k c c' h1 h2 => Fin.ext (by omega))
    (fun k k' c h1 h2 => Fin.ext (by omega)) hs hu (fun k hk => ?_) (fun c hc => ?_) (sc_real H b h q) ⟨q, ?_⟩
  · have : seen q.val k.val := by
      by_contra hn
      exact hk (if_neg hn)
    obtain ⟨h1, h2⟩ := this
    have h3 := k.isLt
    exact ⟨⟨k.val + 512 - 128 * p, by omega⟩, by show k.val + 512 = 128 * p + (k.val + 512 - 128 * p); omega⟩
  · have hc' : ¬ 128 * p + c.val < 512 := fun h => hc (hm c h)
    have h3 := c.isLt
    exact ⟨⟨128 * p + c.val - 512, by omega⟩, by show 128 * p + c.val - 512 + 512 = 128 * p + c.val; omega⟩
  · unfold sc
    rw [if_pos ⟨le_refl _, Nat.le_add_right _ _⟩]
    obtain ⟨e, he⟩ := add_real _ _ (dot_real H b h q q) (H.bias (ix2 h (rel q.val q.val)))
    rw [he]
    exact EReal.coe_ne_bot e

end Cert.BandSpec

end
-- ==== Proof.BandVal.lean ====
/-
  One block of the banded attention's kernel: its queries and keys normed, and each of its sixteen groups of rows, at an
  index.
-/
module

public import Idealize.ShloMosaic.Lib.MatmulPlain
public import Idealize.ShloMosaic.Lib.WordCmp
public import Idealize.ShloMosaic.Lib.IdealHost
public import proofs.«01_k».proof.Proof.Gen.BandIdeal.Value
public import proofs.«01_k».proof.Proof.BandSpec

@[expose] public section

set_option maxRecDepth 65536

noncomputable section

namespace Cert.BandIdeal.Stage

open Idealize.ShloMosaic
open Idealize.ShloMosaic.ValueIdx
open Cert.BandIdeal Cert.BandIdeal.Gen Cert.BandMath Cert.BandSpec
open scoped BigOperators

theorem scale_named : (Named.named κ "inv_sqrt_d" (φ := .f32) 0x3DB504F3#32 : Ideal .f32) = (((√(128 : ℝ))⁻¹ : ℝ) : EReal) := by
  exact IdealRules.named_const.ideal_named_scalar _ _ _ _ rfl

theorem mask_named : (Named.named κ "mask" (φ := .f32) 0xF149F2CA#32 : Ideal .f32) = (⊥ : EReal) := by
  exact IdealRules.named_const.ideal_named_scalar _ _ _ _ rfl

/-- A block of rows, each divided by its root mean square, times the gain. -/
theorem rms_apply {M : ℕ} (x : FVec Ideal ⟨2, ![M, 128]⟩ .f32) (g : FVec Ideal ⟨2, ![1, 128]⟩ .f32)
    (hr : Shape.Reduces ⟨2, ![M, 128]⟩ [1] ⟨1, ![M]⟩) (hc : Shape.ShapeCasts ⟨1, ![M]⟩ ⟨2, ![M, 1]⟩)
    (hb : Shape.Broadcasts ⟨2, ![M, 1]⟩ ⟨2, ![M, 128]⟩) (hg : Shape.Broadcasts ⟨2, ![1, 128]⟩ ⟨2, ![M, 128]⟩)
    (hs : Shape.ShapeCasts ⟨2, ![1, 128]⟩ ⟨2, ![1, 128]⟩) (hφ : FKind.Formats .f32)
    (hacc : (0x00000000#32 : BitVec 32) = FKind.add.neutral .f32 hφ) (i : Fin M) (k : Fin 128) :
    (mulf (mulf x (broadcastTo ⟨2, ![M, 128]⟩ (rsqrt (addf (divf (shapeCast ⟨2, ![M, 1]⟩
        (multiReduction .add [1] ⟨1, ![M]⟩ (mulf x x) 0x00000000#32 hr hφ hacc) hc)
        (broadcast ⟨2, ![M, 1]⟩ (Scalar.ofBits .f32 0x43000000#32 : Ideal .f32)))
        (broadcast ⟨2, ![M, 1]⟩ (Scalar.ofBits .f32 0x358637BD#32 : Ideal .f32)))) hb))
      (broadcastTo ⟨2, ![M, 128]⟩ (shapeCast ⟨2, ![1, 128]⟩ g hs) hg) : FVec Ideal ⟨2, ![M, 128]⟩ .f32) (ix2 i k)
      = nrm (fun j => x (ix2 i j)) (fun y => g (ix2 (0 : Fin 1) (y 0))) k := by
  unfold nrm
  rw [shapeCast_self]
  refine congr (congrArg HMul.hMul (congrArg (x (ix2 i k) * ·) ?_)) ?_
  · refine (broadcastTo_apply _ hb (ix2 i k) (ix2 i (0 : Fin 1)) ?_).trans ?_
    · intro a
      match a with
      | ⟨0, _⟩ => show i.val = if M = 1 then 0 else i.val; have := i.isLt; split <;> omega
      | ⟨1, _⟩ => show 0 = if (1 : ℕ) = 1 then 0 else k.val; rw [if_pos rfl]
    · refine congrArg (fun z => Ideal.rsqrt (Ideal.div z (Ideal.ofBits .f32 0x43000000#32) + Ideal.ofBits .f32 0x358637BD#32)) ?_
      refine (shapeCast_apply _ hc (ix2 i (0 : Fin 1)) (ix1 i) ?_).trans ?_
      · rw [Shape.rowMajor_val_two, Shape.rowMajor_val_one]
        show i.val = i.val * 1 + 0
        omega
      · refine (Ideal.multiReduction_add_single _ _ hr hφ hacc (ix1 i)).trans (Finset.sum_congr rfl fun j _ => ?_)
        have e : hr.lift (ix1 i) j = ix2 i j := funext fun a => Fin.ext (by match a with | ⟨0, _⟩ => rfl | ⟨1, _⟩ => rfl)
        rw [e]
        rfl
  · refine broadcastTo_apply _ hg (ix2 i k) (ix2 (0 : Fin 1) k) ?_
    intro a
    match a with
    | ⟨0, _⟩ => show 0 = if (1 : ℕ) = 1 then 0 else i.val; rw [if_pos rfl]
    | ⟨1, _⟩ => show k.val = if (128 : ℕ) = 1 then 0 else k.val; rw [if_neg (by decide)]

/-- The gain of a row of gains. -/
def gain (g : FVec Ideal S1x128 .f32) : Gain := fun y => g (ix2 (0 : Fin 1) (y 0))

theorem drop_apply {n : ℕ} {φ : FTy} (v : FVec Ideal ⟨3, ![1, n, 128]⟩ φ) (h : Shape.ShapeCasts ⟨3, ![1, n, 128]⟩ ⟨2, ![n, 128]⟩) (i : Fin n) (d : Fin 128) :
    shapeCast ⟨2, ![n, 128]⟩ v h (ix2 i d) = v (ix3 (0 : Fin 1) i d) := by
  refine (shapeCast_dropUnit_apply ![n, 128] v h (ix2 i d)).trans (congrArg v (funext fun a => Fin.ext ?_))
  match a with
  | ⟨0, _⟩ => rfl
  | ⟨1, _⟩ => rfl
  | ⟨2, _⟩ => rfl

/-- The scaled products of 128 rows and the 640 of their window, the bias added. -/
def scores (o : ℕ) (hq : S2048x128.Slices ![o, 0] S128x128) (hk : S2560x128.Slices ![o, 0] S640x128) (q : FVec Ideal S2048x128 .bf16)
    (k : FVec Ideal S2560x128 .bf16) (bias : FVec Ideal S128x640 .f32) : FVec Ideal S128x640 .f32 :=
  addf (mulf (matmul dot_S128x128_S640x128_S128x640_1_1_0_0_n_n none (extractStridedSlice S128x128 ![o, 0] q hq)
    (extractStridedSlice S640x128 ![o, 0] k hk) (constant S128x640 .f32 0x00000000#32))
    (broadcast S128x640 (Named.named κ "inv_sqrt_d" (φ := .f32) 0x3DB504F3#32))) bias

/-- The columns before a number masked. -/
def masked (a : BitVec 32) (n : BitVec 32) (s : FVec Ideal S128x640 .f32) : FVec Ideal S128x640 .f32 :=
  select (cmpi .slt (iota .tc S128x640 32 [1] iota_S128x640_d1_w32) (broadcast S128x640 (Scalar.select (Scalar.cmpi .eq a 0#32) n 0#32)))
    (broadcast S128x640 (Named.named κ "mask" (φ := .f32) 0xF149F2CA#32)) s

/-- The weights of a row of scores. -/
def weights (s : FVec Ideal S128x640 .f32) : FVec Ideal S128x640 .f32 :=
  exp (subf s (broadcastTo S128x640 (shapeCast S128x1 (multiReduction .maximumf [1] S128 s 0xFF800000#32 reduces_S128x640_S128 (.inl rfl) rfl)
    shapeCasts_S128_S128x1) broadcasts_S128x1_S128x640))

/-- The weighted values, divided and gated. -/
def rows (o : ℕ) (hv : S2560x128.Slices ![o, 0] S640x128) (hz : S2048x128.Slices ![o, 0] S128x128) (z : FVec Ideal S2048x128 .f32)
    (w : FVec Ideal S128x640 .f32) (v : FVec Ideal S2560x128 .bf16) : FVec Ideal S1x128x128 .bf16 :=
  shapeCast S1x128x128 (truncf .bf16 (mulf (divf
      (matmul dot_S128x640_S640x128_S128x128_1_0_0_1_n_n none (truncf .bf16 w bitsLt_bf16_f32) (extractStridedSlice S640x128 ![o, 0] v hv) (constant S128x128 .f32 0x00000000#32))
      (broadcastTo S128x128 (shapeCast S128x1 (multiReduction .add [1] S128 w 0x00000000#32 reduces_S128x640_S128 (.inl rfl) rfl)
        shapeCasts_S128_S128x1) broadcasts_S128x1_S128x128))
    (mulf (extractStridedSlice S128x128 ![o, 0] z hz) (logistic (extractStridedSlice S128x128 ![o, 0] z hz)))) bitsLt_bf16_f32)
    shapeCasts_S128x128_S1x128x128

theorem slice_apply {n m : ℕ} {φ : FTy} (o : ℕ) (v : FVec Ideal ⟨2, ![n, 128]⟩ φ) (h : Shape.Slices ⟨2, ![n, 128]⟩ ![o, 0] ⟨2, ![m, 128]⟩) (i : Fin m) (d : Fin 128)
    (hb : o + i.val < n) : extractStridedSlice ⟨2, ![m, 128]⟩ ![o, 0] v h (ix2 i d) = v (ix2 ⟨o + i.val, hb⟩ d) := by
  refine extractStridedSlice_apply _ v h (ix2 i d) _ fun a => ?_
  match a with
  | ⟨0, _⟩ => rfl
  | ⟨1, _⟩ => show d.val = 0 + d.val; omega

theorem scores_apply (o : ℕ) (hq) (hk) (ho : o ≤ 1920) (q : FVec Ideal S2048x128 .bf16) (k : FVec Ideal S2560x128 .bf16) (bias : FVec Ideal S128x640 .f32)
    (r : Fin 128) (c : Fin 640) : scores o hq hk q k bias (ix2 r c)
      = dotp (fun d => q (ix2 ⟨o + r.val, by omega⟩ d)) (fun d => k (ix2 ⟨o + c.val, by omega⟩ d)) + bias (ix2 r c) := by
  refine congrArg (fun a : EReal => a + bias (ix2 r c)) (congr (congrArg (fun a b : EReal => a * b) ?_) scale_named)
  refine (Ideal.matmul_transposedRhs_apply none (extractStridedSlice S128x128 ![o, 0] q hq) (extractStridedSlice S640x128 ![o, 0] k hk) _ r c).trans ?_
  rw [show (constant S128x640 .f32 0x00000000#32 : FVec Ideal S128x640 .f32) (ix2 r c) = 0 from Ideal.ofBits_zero_f32, zero_add]
  exact Finset.sum_congr rfl fun d _ => congr (congrArg (fun a b : EReal => a * b) (slice_apply o q hq r d (by omega))) (slice_apply o k hk c d (by omega))

theorem masked_apply (n : ℕ) (hn : n ≤ 512) (s : FVec Ideal S128x640 .f32) (r : Fin 128) (c : Fin 640) :
    masked (BitVec.ofNat 32 0) (BitVec.ofNat 32 n) s (ix2 r c) = if c.val < n then ⊥ else s (ix2 r c) := by
  have hc := c.isLt
  unfold masked
  rw [ValueIdx.select_apply]
  show Scalar.select (IntOp.cmpi .slt (iota .tc S128x640 32 [1] iota_S128x640_d1_w32 (ix2 r c)) (BitVec.ofNat 32 n)) (Named.named κ "mask" (φ := .f32) 0xF149F2CA#32 : Ideal .f32) (s (ix2 r c)) = _
  rw [iota_single_apply]
  show Scalar.select (IntOp.cmpi .slt (BitVec.ofNat 32 c.val) (BitVec.ofNat 32 n)) (Named.named κ "mask" (φ := .f32) 0xF149F2CA#32 : Ideal .f32) (s (ix2 r c)) = _
  have e : ∀ a, a < 2048 → (BitVec.ofNat 32 a).toNat = a := fun a ha => by
    rw [BitVec.toNat_ofNat]; exact Nat.mod_eq_of_lt (by omega)
  rw [WordCmp.cmpi_slt_of_lt (by rw [e _ (by omega)]; norm_num; omega) (by rw [e _ (by omega)]; norm_num; omega), e _ (by omega), e _ (by omega), mask_named]
  by_cases h : c.val < n <;> simp [h, Scalar.select]

theorem weights_apply (s : FVec Ideal S128x640 .f32) (r : Fin 128) (c : Fin 640) :
    weights s (ix2 r c) = Ideal.exp (s (ix2 r c) - top fun c => s (ix2 r c)) := by
  refine congrArg (fun a : EReal => Ideal.exp (s (ix2 r c) - a)) ?_
  refine (broadcastTo_apply _ broadcasts_S128x1_S128x640 (ix2 r c) (ix2 r (0 : Fin 1)) ?_).trans ?_
  · intro a
    match a with
    | ⟨0, _⟩ => show r.val = if (128 : ℕ) = 1 then 0 else r.val; rw [if_neg (by decide)]
    | ⟨1, _⟩ => show 0 = if (1 : ℕ) = 1 then 0 else c.val; rw [if_pos rfl]
  · refine (shapeCast_apply _ shapeCasts_S128_S128x1 (ix2 r (0 : Fin 1)) (ix1 r) ?_).trans ?_
    · rw [Shape.rowMajor_val_two, Shape.rowMajor_val_one]
      show r.val = r.val * 1 + 0
      omega
    · refine (Ideal.multiReduction_maximumf_single s _ reduces_S128x640_S128 (.inl rfl) rfl (ix1 r)).trans ?_
      have e : ∀ j : Fin 640, reduces_S128x640_S128.lift (ix1 r) j = ix2 r j := fun j => funext fun a => Fin.ext (by match a with | ⟨0, _⟩ => rfl | ⟨1, _⟩ => rfl)
      have hb : (FloatOps.ofBits .f32 0xFF800000#32 : Ideal .f32) = (⊥ : EReal) := by
        show Ideal.ofBits .f32 0xFF800000#32 = _
        simp [Ideal.ofBits, Ideal.ieee]
      exact congrArg₂ (fun (a : EReal) (f : Fin 640 → EReal) => Finset.univ.fold max a f) hb (funext fun j => congrArg s (e j))

theorem rows_apply (o : ℕ) (hv) (hz) (ho : o ≤ 1920) (z : FVec Ideal S2048x128 .f32) (s : FVec Ideal S128x640 .f32) (v : FVec Ideal S2560x128 .bf16)
    (r d : Fin 128) : rows o hv hz z (weights s) v (ix3 (0 : Fin 1) r d)
      = win (fun c => s (ix2 r c)) (fun c => v (ix2 ⟨o + c.val, by omega⟩ d)) * silu (z (ix2 ⟨o + r.val, by omega⟩ d)) := by
  unfold rows
  refine (shapeCast_apply _ _ _ (ix2 r d) ?_).trans ?_
  · rw [Shape.rowMajor_val_two, Shape.rowMajor_val_three]
    show r.val * 128 + d.val = (0 * 128 + r.val) * 128 + d.val
    omega
  refine congr (congrArg (fun a b : EReal => a * b) ?_) (congrArg silu (slice_apply o z hz r d (by omega)))
  unfold win
  refine congr (congrArg (fun a b : EReal => Ideal.div a b) ?_) ?_
  · refine (Ideal.matmul_plain_apply none (truncf .bf16 (weights s) bitsLt_bf16_f32) (extractStridedSlice S640x128 ![o, 0] v hv) _ r d).trans ?_
    rw [show (constant S128x128 .f32 0x00000000#32 : FVec Ideal S128x128 .f32) (ix2 r d) = 0 from Ideal.ofBits_zero_f32, zero_add]
    exact Finset.sum_congr rfl fun c _ => congr (congrArg (fun a b : EReal => a * b) (weights_apply s r c)) (slice_apply o v hv c d (by omega))
  · refine (broadcastTo_apply _ broadcasts_S128x1_S128x128 (ix2 r d) (ix2 r (0 : Fin 1)) ?_).trans ?_
    · intro a
      match a with
      | ⟨0, _⟩ => show r.val = if (128 : ℕ) = 1 then 0 else r.val; rw [if_neg (by decide)]
      | ⟨1, _⟩ => show 0 = if (1 : ℕ) = 1 then 0 else d.val; rw [if_pos rfl]
    · refine (shapeCast_apply _ shapeCasts_S128_S128x1 (ix2 r (0 : Fin 1)) (ix1 r) ?_).trans ?_
      · rw [Shape.rowMajor_val_two, Shape.rowMajor_val_one]
        show r.val = r.val * 1 + 0
        omega
      · refine (Ideal.multiReduction_add_single (weights s) _ reduces_S128x640_S128 (.inl rfl) rfl (ix1 r)).trans (Finset.sum_congr rfl fun j _ => ?_)
        have e : reduces_S128x640_S128.lift (ix1 r) j = ix2 r j := funext fun a => Fin.ext (by match a with | ⟨0, _⟩ => rfl | ⟨1, _⟩ => rfl)
        exact (congrArg (weights s) e).trans (weights_apply s r j)

end Cert.BandIdeal.Stage

end
-- ==== Proof.BandPay.lean ====
/-
  The block the banded attention's kernel writes: its sixteen groups of rows are one function of the block's inputs.
-/
module

public import proofs.«01_k».proof.Proof.BandVal

@[expose] public section

set_option maxRecDepth 65536

noncomputable section

namespace Cert.BandIdeal.Stage

open Idealize.ShloMosaic
open Idealize.ShloMosaic.ValueIdx
open Cert.BandIdeal Cert.BandIdeal.Gen Cert.BandMath Cert.BandSpec
open scoped BigOperators

/-- The score of a row of a block and a column of its window. -/
def blockSc (q : FVec Ideal S2048x128 .bf16) (k : FVec Ideal S2560x128 .bf16) (bias : FVec Ideal S128x640 .f32) (s : Fin 2048) (c : Fin 640) : EReal :=
  if 128 * (s.val / 128) + c.val < 512 then ⊥ else
    dotp (fun d => q (ix2 s d)) (fun d => k (ix2 ⟨128 * (s.val / 128) + c.val, by omega⟩ d)) + bias (ix2 ⟨s.val % 128, by omega⟩ c)

/-- An entry of the block. -/
def blockOut (q : FVec Ideal S2048x128 .bf16) (k : FVec Ideal S2560x128 .bf16) (bias : FVec Ideal S128x640 .f32) (z : FVec Ideal S2048x128 .f32)
    (v : FVec Ideal S2560x128 .bf16) (s : Fin 2048) (d : Fin 128) : EReal :=
  win (blockSc q k bias s) (fun c => v (ix2 ⟨128 * (s.val / 128) + c.val, by omega⟩ d)) * silu (z (ix2 s d))

section Group

variable (q : FVec Ideal S2048x128 .bf16) (k : FVec Ideal S2560x128 .bf16) (bias : FVec Ideal S128x640 .f32)

theorem blockSc_at (o : ℕ) (ho : o ≤ 1920) (hp : ∃ p, o = 128 * p) (r : Fin 128) (c : Fin 640) : blockSc q k bias ⟨o + r.val, by omega⟩ c
    = if o + c.val < 512 then ⊥ else
      dotp (fun d => q (ix2 ⟨o + r.val, by omega⟩ d)) (fun d => k (ix2 ⟨o + c.val, by omega⟩ d)) + bias (ix2 r c) := by
  obtain ⟨p, hp⟩ := hp
  have e1 : 128 * ((o + r.val) / 128) = o := by omega
  have e2 : (⟨(o + r.val) % 128, by omega⟩ : Fin 128) = r := Fin.ext (by show (o + r.val) % 128 = r.val; omega)
  have e3 : (⟨128 * ((o + r.val) / 128) + c.val, by omega⟩ : Fin 2560) = ⟨o + c.val, by omega⟩ := Fin.ext (by show _ + _ = _ + _; omega)
  unfold blockSc
  by_cases h : o + c.val < 512
  · rw [if_pos h, if_pos (by show 128 * ((o + r.val) / 128) + c.val < 512; omega)]
  · rw [if_neg h, if_neg (by show ¬ (128 * ((o + r.val) / 128) + c.val < 512); omega)]
    exact congr (congrArg (fun a b : EReal => a + b) (congrArg (fun n => dotp (fun d => q (ix2 ⟨o + r.val, by omega⟩ d)) (fun d => k (ix2 n d))) e3))
      (congrArg (fun n => bias (ix2 n c)) e2)

theorem masked_at (i : grid0.Coords) (hi : (i 2).val = 0) (o n : ℕ) (hn : n + o = 512) (hp : ∃ p, o = 128 * p) (hq) (hk) (r : Fin 128) (c : Fin 640) :
    masked (BitVec.ofNat 32 (i 2).val) (BitVec.ofNat 32 n) (scores o hq hk q k bias) (ix2 r c) = blockSc q k bias ⟨o + r.val, by omega⟩ c := by
  rw [hi, masked_apply n (by omega), scores_apply o hq hk (by omega), blockSc_at q k bias o (by omega) hp]
  exact if_congr (by omega) rfl rfl

theorem plain_at (o : ℕ) (h1 : 512 ≤ o) (ho : o ≤ 1920) (hp : ∃ p, o = 128 * p) (hq) (hk) (r : Fin 128) (c : Fin 640) :
    scores o hq hk q k bias (ix2 r c) = blockSc q k bias ⟨o + r.val, by omega⟩ c := by
  rw [scores_apply o hq hk (by omega), blockSc_at q k bias o (by omega) hp, if_neg (by omega)]

theorem rows_block (o : ℕ) (ho : o ≤ 1920) (hp : ∃ p, o = 128 * p) (hv) (hz) (hb) (z : FVec Ideal S2048x128 .f32) (v : FVec Ideal S2560x128 .bf16)
    (S : FVec Ideal S128x640 .f32) (hS : ∀ (r : Fin 128) (c : Fin 640), S (ix2 r c) = blockSc q k bias ⟨o + r.val, by omega⟩ c) (x : S1x128x128.Idx) :
    rows o hv hz z (weights S) v x
      = (fun y : S1x2048x128.Idx => blockOut q k bias z v (y 1) (y 2)) ((Rect.unit (s := S1x2048x128) ![0, o, 0] S1x128x128.size hb).emb x) := by
  have hx : x = ix3 (0 : Fin 1) (x 1) (x 2) := funext fun a => by
    match a with
    | ⟨0, _⟩ => exact Subsingleton.elim (α := Fin 1) _ _
    | ⟨1, _⟩ => rfl
    | ⟨2, _⟩ => rfl
  have h1 : (x 1).val < 128 := (x 1).isLt
  have e1 : (Rect.unit (s := S1x2048x128) ![0, o, 0] S1x128x128.size hb).emb x 1 = (⟨o + (x 1).val, by omega⟩ : Fin 2048) :=
    Fin.ext (by show o + 1 * (x 1).val = o + (x 1).val; omega)
  have e2 : (Rect.unit (s := S1x2048x128) ![0, o, 0] S1x128x128.size hb).emb x 2 = (x 2 : Fin 128) :=
    Fin.ext (by show 0 + 1 * (x 2).val = (x 2).val; omega)
  refine Eq.trans ?_ (congrArg₂ (fun (s : Fin 2048) (d : Fin 128) => blockOut q k bias z v s d) e1 e2).symm
  refine ((congrArg (rows o hv hz z (weights S) v) hx).trans (rows_apply o hv hz ho z S v (x 1) (x 2))).trans ?_
  obtain ⟨p, hp⟩ := hp
  unfold blockOut
  refine congrArg (fun a : EReal => a * silu (z (ix2 ⟨o + (x 1).val, by omega⟩ (x 2)))) ?_
  refine congrArg₂ (fun (f g : Fin 640 → EReal) => win f g) (funext fun c => hS (x 1) c) (funext fun c => ?_)
  refine congrArg (fun n : Fin 2560 => v (ix2 n (x 2))) (Fin.ext ?_)
  show o + c.val = 128 * ((o + (x 1).val) / 128) + c.val
  omega

end Group

section Payload

variable (z : FVec Ideal S2048x128 .f32) (w : FVec Ideal S128x640 .f32) (v : FVec Ideal S2560x128 .bf16)

theorem p0 : k0_pay66 z w (k0_pay49 v w) = rows 0 slices_S2560x128_o0_0_S640x128 slices_S2048x128_o0_0_S128x128 z w v := rfl
theorem p1 : k0_pay67 z w (k0_pay50 v w) = rows 128 slices_S2560x128_o128_0_S640x128 slices_S2048x128_o128_0_S128x128 z w v := rfl
theorem p2 : k0_pay71 (k0_pay68 w (k0_pay51 v w)) (k0_pay69 z) (k0_pay70 z) = rows 256 slices_S2560x128_o256_0_S640x128 slices_S2048x128_o256_0_S128x128 z w v := rfl
theorem p3 : k0_pay72 z w (k0_pay52 v w) = rows 384 slices_S2560x128_o384_0_S640x128 slices_S2048x128_o384_0_S128x128 z w v := rfl
theorem p4 : k0_pay73 z w (k0_pay53 v w) = rows 512 slices_S2560x128_o512_0_S640x128 slices_S2048x128_o512_0_S128x128 z w v := rfl
theorem p5 : k0_pay74 z w (k0_pay54 v w) = rows 640 slices_S2560x128_o640_0_S640x128 slices_S2048x128_o640_0_S128x128 z w v := rfl
theorem p6 : k0_pay75 z w (k0_pay55 v w) = rows 768 slices_S2560x128_o768_0_S640x128 slices_S2048x128_o768_0_S128x128 z w v := rfl
theorem p7 : k0_pay76 z w (k0_pay56 v w) = rows 896 slices_S2560x128_o896_0_S640x128 slices_S2048x128_o896_0_S128x128 z w v := rfl
theorem p8 : k0_pay77 z w (k0_pay57 v w) = rows 1024 slices_S2560x128_o1024_0_S640x128 slices_S2048x128_o1024_0_S128x128 z w v := rfl
theorem p9 : k0_pay80 (k0_pay78 w (k0_pay58 v w)) (k0_pay79 z) = rows 1152 slices_S2560x128_o1152_0_S640x128 slices_S2048x128_o1152_0_S128x128 z w v := rfl
theorem p10 : k0_pay81 z w (k0_pay59 v w) = rows 1280 slices_S2560x128_o1280_0_S640x128 slices_S2048x128_o1280_0_S128x128 z w v := rfl
theorem p11 : k0_pay82 z w (k0_pay61 v (k0_pay60 w)) = rows 1408 slices_S2560x128_o1408_0_S640x128 slices_S2048x128_o1408_0_S128x128 z w v := rfl
theorem p12 : k0_pay83 z w (k0_pay62 v w) = rows 1536 slices_S2560x128_o1536_0_S640x128 slices_S2048x128_o1536_0_S128x128 z w v := rfl
theorem p13 : k0_pay84 z w (k0_pay63 v w) = rows 1664 slices_S2560x128_o1664_0_S640x128 slices_S2048x128_o1664_0_S128x128 z w v := rfl
theorem p14 : k0_pay85 z w (k0_pay64 v w) = rows 1792 slices_S2560x128_o1792_0_S640x128 slices_S2048x128_o1792_0_S128x128 z w v := rfl
theorem p15 : k0_pay1 (k0_pay86 z w (k0_pay65 v w)) = rows 1920 slices_S2560x128_o1920_0_S640x128 slices_S2048x128_o1920_0_S128x128 z w v := rfl

end Payload

section Block

variable (i : grid0.Coords) (x0 : Vec Ideal S1x2048x128 .f32) (x1 : Vec Ideal S1x512x128 .f32) (x2 : Vec Ideal S1x2048x128 .f32)
  (x3 : Vec Ideal S1x512x128 .f32) (x4 : Vec Ideal S1x2048x128 .f32) (x5 : Vec Ideal S1x2048x128 .f32) (x6 : Vec Ideal S1x128x640 .f32)
  (x7 : Vec Ideal S1x128 .f32) (x8 : Vec Ideal S1x128 .f32)

theorem w0 : k0_pay97 i x0 x1 x2 x3 x4 x5 x6 x7 x8 = weights (masked (BitVec.ofNat 32 (i 2).val) 512#32 (scores 0 slices_S2048x128_o0_0_S128x128 slices_S2560x128_o0_0_S640x128 (k0_pay87 i x0 x1 x2 x3 x4 x5 x6 x7 x8) (k0_pay91 i x0 x1 x2 x3 x4 x5 x6 x7 x8) (k0_pay93 i x0 x1 x2 x3 x4 x5 x6 x7 x8))) := rfl
theorem w1 : k0_pay98 i x0 x1 x2 x3 x4 x5 x6 x7 x8 = weights (masked (BitVec.ofNat 32 (i 2).val) 384#32 (scores 128 slices_S2048x128_o128_0_S128x128 slices_S2560x128_o128_0_S640x128 (k0_pay87 i x0 x1 x2 x3 x4 x5 x6 x7 x8) (k0_pay91 i x0 x1 x2 x3 x4 x5 x6 x7 x8) (k0_pay93 i x0 x1 x2 x3 x4 x5 x6 x7 x8))) := rfl
theorem w2 : k0_pay99 i x0 x1 x2 x3 x4 x5 x6 x7 x8 = weights (masked (BitVec.ofNat 32 (i 2).val) 256#32 (scores 256 slices_S2048x128_o256_0_S128x128 slices_S2560x128_o256_0_S640x128 (k0_pay87 i x0 x1 x2 x3 x4 x5 x6 x7 x8) (k0_pay91 i x0 x1 x2 x3 x4 x5 x6 x7 x8) (k0_pay93 i x0 x1 x2 x3 x4 x5 x6 x7 x8))) := rfl
theorem w3 : k0_pay100 i x0 x1 x2 x3 x4 x5 x6 x7 x8 = weights (masked (BitVec.ofNat 32 (i 2).val) 128#32 (scores 384 slices_S2048x128_o384_0_S128x128 slices_S2560x128_o384_0_S640x128 (k0_pay87 i x0 x1 x2 x3 x4 x5 x6 x7 x8) (k0_pay91 i x0 x1 x2 x3 x4 x5 x6 x7 x8) (k0_pay93 i x0 x1 x2 x3 x4 x5 x6 x7 x8))) := rfl
theorem w4 : k0_pay101 i x0 x1 x2 x3 x4 x5 x6 x7 x8 = weights (scores 512 slices_S2048x128_o512_0_S128x128 slices_S2560x128_o512_0_S640x128 (k0_pay87 i x0 x1 x2 x3 x4 x5 x6 x7 x8) (k0_pay91 i x0 x1 x2 x3 x4 x5 x6 x7 x8) (k0_pay93 i x0 x1 x2 x3 x4 x5 x6 x7 x8)) := rfl
theorem w5 : k0_pay102 i x0 x1 x2 x3 x4 x5 x6 x7 x8 = weights (scores 640 slices_S2048x128_o640_0_S128x128 slices_S2560x128_o640_0_S640x128 (k0_pay87 i x0 x1 x2 x3 x4 x5 x6 x7 x8) (k0_pay91 i x0 x1 x2 x3 x4 x5 x6 x7 x8) (k0_pay93 i x0 x1 x2 x3 x4 x5 x6 x7 x8)) := rfl
theorem w6 : k0_pay103 i x0 x1 x2 x3 x4 x5 x6 x7 x8 = weights (scores 768 slices_S2048x128_o768_0_S128x128 slices_S2560x128_o768_0_S640x128 (k0_pay87 i x0 x1 x2 x3 x4 x5 x6 x7 x8) (k0_pay91 i x0 x1 x2 x3 x4 x5 x6 x7 x8) (k0_pay93 i x0 x1 x2 x3 x4 x5 x6 x7 x8)) := rfl
theorem w7 : k0_pay104 i x0 x1 x2 x3 x4 x5 x6 x7 x8 = weights (scores 896 slices_S2048x128_o896_0_S128x128 slices_S2560x128_o896_0_S640x128 (k0_pay87 i x0 x1 x2 x3 x4 x5 x6 x7 x8) (k0_pay91 i x0 x1 x2 x3 x4 x5 x6 x7 x8) (k0_pay93 i x0 x1 x2 x3 x4 x5 x6 x7 x8)) := rfl
theorem w8 : k0_pay105 i x0 x1 x2 x3 x4 x5 x6 x7 x8 = weights (scores 1024 slices_S2048x128_o1024_0_S128x128 slices_S2560x128_o1024_0_S640x128 (k0_pay87 i x0 x1 x2 x3 x4 x5 x6 x7 x8) (k0_pay91 i x0 x1 x2 x3 x4 x5 x6 x7 x8) (k0_pay93 i x0 x1 x2 x3 x4 x5 x6 x7 x8)) := rfl
theorem w9 : k0_pay106 i x0 x1 x2 x3 x4 x5 x6 x7 x8 = weights (scores 1152 slices_S2048x128_o1152_0_S128x128 slices_S2560x128_o1152_0_S640x128 (k0_pay87 i x0 x1 x2 x3 x4 x5 x6 x7 x8) (k0_pay91 i x0 x1 x2 x3 x4 x5 x6 x7 x8) (k0_pay93 i x0 x1 x2 x3 x4 x5 x6 x7 x8)) := rfl
theorem w10 : k0_pay107 i x0 x1 x2 x3 x4 x5 x6 x7 x8 = weights (scores 1280 slices_S2048x128_o1280_0_S128x128 slices_S2560x128_o1280_0_S640x128 (k0_pay87 i x0 x1 x2 x3 x4 x5 x6 x7 x8) (k0_pay91 i x0 x1 x2 x3 x4 x5 x6 x7 x8) (k0_pay93 i x0 x1 x2 x3 x4 x5 x6 x7 x8)) := rfl
theorem w11 : k0_pay108 i x0 x1 x2 x3 x4 x5 x6 x7 x8 = weights (scores 1408 slices_S2048x128_o1408_0_S128x128 slices_S2560x128_o1408_0_S640x128 (k0_pay87 i x0 x1 x2 x3 x4 x5 x6 x7 x8) (k0_pay91 i x0 x1 x2 x3 x4 x5 x6 x7 x8) (k0_pay93 i x0 x1 x2 x3 x4 x5 x6 x7 x8)) := rfl
theorem w12 : k0_pay109 i x0 x1 x2 x3 x4 x5 x6 x7 x8 = weights (scores 1536 slices_S2048x128_o1536_0_S128x128 slices_S2560x128_o1536_0_S640x128 (k0_pay87 i x0 x1 x2 x3 x4 x5 x6 x7 x8) (k0_pay91 i x0 x1 x2 x3 x4 x5 x6 x7 x8) (k0_pay93 i x0 x1 x2 x3 x4 x5 x6 x7 x8)) := rfl
theorem w13 : k0_pay110 i x0 x1 x2 x3 x4 x5 x6 x7 x8 = weights (scores 1664 slices_S2048x128_o1664_0_S128x128 slices_S2560x128_o1664_0_S640x128 (k0_pay87 i x0 x1 x2 x3 x4 x5 x6 x7 x8) (k0_pay91 i x0 x1 x2 x3 x4 x5 x6 x7 x8) (k0_pay93 i x0 x1 x2 x3 x4 x5 x6 x7 x8)) := rfl
theorem w14 : k0_pay111 i x0 x1 x2 x3 x4 x5 x6 x7 x8 = weights (scores 1792 slices_S2048x128_o1792_0_S128x128 slices_S2560x128_o1792_0_S640x128 (k0_pay87 i x0 x1 x2 x3 x4 x5 x6 x7 x8) (k0_pay91 i x0 x1 x2 x3 x4 x5 x6 x7 x8) (k0_pay93 i x0 x1 x2 x3 x4 x5 x6 x7 x8)) := rfl
theorem w15 : k0_pay112 i x0 x1 x2 x3 x4 x5 x6 x7 x8 = weights (scores 1920 slices_S2048x128_o1920_0_S128x128 slices_S2560x128_o1920_0_S640x128 (k0_pay87 i x0 x1 x2 x3 x4 x5 x6 x7 x8) (k0_pay91 i x0 x1 x2 x3 x4 x5 x6 x7 x8) (k0_pay93 i x0 x1 x2 x3 x4 x5 x6 x7 x8)) := rfl

/-- The block the kernel writes. -/
theorem out_block (hi : (i 2).val = 0) (y : S1x2048x128.Idx) : out0_9 (F := Ideal) i x0 x1 x2 x3 x4 x5 x6 x7 x8 y
    = blockOut (k0_pay87 i x0 x1 x2 x3 x4 x5 x6 x7 x8) (k0_pay91 i x0 x1 x2 x3 x4 x5 x6 x7 x8) (k0_pay93 i x0 x1 x2 x3 x4 x5 x6 x7 x8) (k0_pay94 i x0 x1 x2 x3 x4 x5 x6 x7 x8) (k0_pay92 i x0 x1 x2 x3 x4 x5 x6 x7 x8) (y 1) (y 2) := by
  unfold out0_9
  refine View.canon_apply_of_pieces (Val := Elt Ideal) (e := .bf16) (fun y : S1x2048x128.Idx => blockOut (k0_pay87 i x0 x1 x2 x3 x4 x5 x6 x7 x8) (k0_pay91 i x0 x1 x2 x3 x4 x5 x6 x7 x8) (k0_pay93 i x0 x1 x2 x3 x4 x5 x6 x7 x8) (k0_pay94 i x0 x1 x2 x3 x4 x5 x6 x7 x8) (k0_pay92 i x0 x1 x2 x3 x4 x5 x6 x7 x8) (y 1) (y 2))
    _ ?_ y (cover0_9 _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_⟩
  · intro x
    refine (congrFun (p15 (k0_pay94 i x0 x1 x2 x3 x4 x5 x6 x7 x8) (k0_pay112 i x0 x1 x2 x3 x4 x5 x6 x7 x8) (k0_pay92 i x0 x1 x2 x3 x4 x5 x6 x7 x8)) x).trans ?_
    rw [w15 i x0 x1 x2 x3 x4 x5 x6 x7 x8]
    exact rows_block _ _ _ 1920 (by omega) ⟨15, rfl⟩ slices_S2560x128_o1920_0_S640x128 slices_S2048x128_o1920_0_S128x128 inb_S1x2048x128_S1x128x128_0_1920_0 _ _ _ (plain_at _ _ _ 1920 (by omega) (by omega) ⟨15, rfl⟩ slices_S2048x128_o1920_0_S128x128 slices_S2560x128_o1920_0_S640x128) x
  · intro x
    refine (congrFun (p14 (k0_pay94 i x0 x1 x2 x3 x4 x5 x6 x7 x8) (k0_pay111 i x0 x1 x2 x3 x4 x5 x6 x7 x8) (k0_pay92 i x0 x1 x2 x3 x4 x5 x6 x7 x8)) x).trans ?_
    rw [w14 i x0 x1 x2 x3 x4 x5 x6 x7 x8]
    exact rows_block _ _ _ 1792 (by omega) ⟨14, rfl⟩ slices_S2560x128_o1792_0_S640x128 slices_S2048x128_o1792_0_S128x128 inb_S1x2048x128_S1x128x128_0_1792_0 _ _ _ (plain_at _ _ _ 1792 (by omega) (by omega) ⟨14, rfl⟩ slices_S2048x128_o1792_0_S128x128 slices_S2560x128_o1792_0_S640x128) x
  · intro x
    refine (congrFun (p13 (k0_pay94 i x0 x1 x2 x3 x4 x5 x6 x7 x8) (k0_pay110 i x0 x1 x2 x3 x4 x5 x6 x7 x8) (k0_pay92 i x0 x1 x2 x3 x4 x5 x6 x7 x8)) x).trans ?_
    rw [w13 i x0 x1 x2 x3 x4 x5 x6 x7 x8]
    exact rows_block _ _ _ 1664 (by omega) ⟨13, rfl⟩ slices_S2560x128_o1664_0_S640x128 slices_S2048x128_o1664_0_S128x128 inb_S1x2048x128_S1x128x128_0_1664_0 _ _ _ (plain_at _ _ _ 1664 (by omega) (by omega) ⟨13, rfl⟩ slices_S2048x128_o1664_0_S128x128 slices_S2560x128_o1664_0_S640x128) x
  · intro x
    refine (congrFun (p12 (k0_pay94 i x0 x1 x2 x3 x4 x5 x6 x7 x8) (k0_pay109 i x0 x1 x2 x3 x4 x5 x6 x7 x8) (k0_pay92 i x0 x1 x2 x3 x4 x5 x6 x7 x8)) x).trans ?_
    rw [w12 i x0 x1 x2 x3 x4 x5 x6 x7 x8]
    exact rows_block _ _ _ 1536 (by omega) ⟨12, rfl⟩ slices_S2560x128_o1536_0_S640x128 slices_S2048x128_o1536_0_S128x128 inb_S1x2048x128_S1x128x128_0_1536_0 _ _ _ (plain_at _ _ _ 1536 (by omega) (by omega) ⟨12, rfl⟩ slices_S2048x128_o1536_0_S128x128 slices_S2560x128_o1536_0_S640x128) x
  · intro x
    refine (congrFun (p11 (k0_pay94 i x0 x1 x2 x3 x4 x5 x6 x7 x8) (k0_pay108 i x0 x1 x2 x3 x4 x5 x6 x7 x8) (k0_pay92 i x0 x1 x2 x3 x4 x5 x6 x7 x8)) x).trans ?_
    rw [w11 i x0 x1 x2 x3 x4 x5 x6 x7 x8]
    exact rows_block _ _ _ 1408 (by omega) ⟨11, rfl⟩ slices_S2560x128_o1408_0_S640x128 slices_S2048x128_o1408_0_S128x128 inb_S1x2048x128_S1x128x128_0_1408_0 _ _ _ (plain_at _ _ _ 1408 (by omega) (by omega) ⟨11, rfl⟩ slices_S2048x128_o1408_0_S128x128 slices_S2560x128_o1408_0_S640x128) x
  · intro x
    refine (congrFun (p10 (k0_pay94 i x0 x1 x2 x3 x4 x5 x6 x7 x8) (k0_pay107 i x0 x1 x2 x3 x4 x5 x6 x7 x8) (k0_pay92 i x0 x1 x2 x3 x4 x5 x6 x7 x8)) x).trans ?_
    rw [w10 i x0 x1 x2 x3 x4 x5 x6 x7 x8]
    exact rows_block _ _ _ 1280 (by omega) ⟨10, rfl⟩ slices_S2560x128_o1280_0_S640x128 slices_S2048x128_o1280_0_S128x128 inb_S1x2048x128_S1x128x128_0_1280_0 _ _ _ (plain_at _ _ _ 1280 (by omega) (by omega) ⟨10, rfl⟩ slices_S2048x128_o1280_0_S128x128 slices_S2560x128_o1280_0_S640x128) x
  · intro x
    refine (congrFun (p9 (k0_pay94 i x0 x1 x2 x3 x4 x5 x6 x7 x8) (k0_pay106 i x0 x1 x2 x3 x4 x5 x6 x7 x8) (k0_pay92 i x0 x1 x2 x3 x4 x5 x6 x7 x8)) x).trans ?_
    rw [w9 i x0 x1 x2 x3 x4 x5 x6 x7 x8]
    exact rows_block _ _ _ 1152 (by omega) ⟨9, rfl⟩ slices_S2560x128_o1152_0_S640x128 slices_S2048x128_o1152_0_S128x128 inb_S1x2048x128_S1x128x128_0_1152_0 _ _ _ (plain_at _ _ _ 1152 (by omega) (by omega) ⟨9, rfl⟩ slices_S2048x128_o1152_0_S128x128 slices_S2560x128_o1152_0_S640x128) x
  · intro x
    refine (congrFun (p8 (k0_pay94 i x0 x1 x2 x3 x4 x5 x6 x7 x8) (k0_pay105 i x0 x1 x2 x3 x4 x5 x6 x7 x8) (k0_pay92 i x0 x1 x2 x3 x4 x5 x6 x7 x8)) x).trans ?_
    rw [w8 i x0 x1 x2 x3 x4 x5 x6 x7 x8]
    exact rows_block _ _ _ 1024 (by omega) ⟨8, rfl⟩ slices_S2560x128_o1024_0_S640x128 slices_S2048x128_o1024_0_S128x128 inb_S1x2048x128_S1x128x128_0_1024_0 _ _ _ (plain_at _ _ _ 1024 (by omega) (by omega) ⟨8, rfl⟩ slices_S2048x128_o1024_0_S128x128 slices_S2560x128_o1024_0_S640x128) x
  · intro x
    refine (congrFun (p7 (k0_pay94 i x0 x1 x2 x3 x4 x5 x6 x7 x8) (k0_pay104 i x0 x1 x2 x3 x4 x5 x6 x7 x8) (k0_pay92 i x0 x1 x2 x3 x4 x5 x6 x7 x8)) x).trans ?_
    rw [w7 i x0 x1 x2 x3 x4 x5 x6 x7 x8]
    exact rows_block _ _ _ 896 (by omega) ⟨7, rfl⟩ slices_S2560x128_o896_0_S640x128 slices_S2048x128_o896_0_S128x128 inb_S1x2048x128_S1x128x128_0_896_0 _ _ _ (plain_at _ _ _ 896 (by omega) (by omega) ⟨7, rfl⟩ slices_S2048x128_o896_0_S128x128 slices_S2560x128_o896_0_S640x128) x
  · intro x
    refine (congrFun (p6 (k0_pay94 i x0 x1 x2 x3 x4 x5 x6 x7 x8) (k0_pay103 i x0 x1 x2 x3 x4 x5 x6 x7 x8) (k0_pay92 i x0 x1 x2 x3 x4 x5 x6 x7 x8)) x).trans ?_
    rw [w6 i x0 x1 x2 x3 x4 x5 x6 x7 x8]
    exact rows_block _ _ _ 768 (by omega) ⟨6, rfl⟩ slices_S2560x128_o768_0_S640x128 slices_S2048x128_o768_0_S128x128 inb_S1x2048x128_S1x128x128_0_768_0 _ _ _ (plain_at _ _ _ 768 (by omega) (by omega) ⟨6, rfl⟩ slices_S2048x128_o768_0_S128x128 slices_S2560x128_o768_0_S640x128) x
  · intro x
    refine (congrFun (p5 (k0_pay94 i x0 x1 x2 x3 x4 x5 x6 x7 x8) (k0_pay102 i x0 x1 x2 x3 x4 x5 x6 x7 x8) (k0_pay92 i x0 x1 x2 x3 x4 x5 x6 x7 x8)) x).trans ?_
    rw [w5 i x0 x1 x2 x3 x4 x5 x6 x7 x8]
    exact rows_block _ _ _ 640 (by omega) ⟨5, rfl⟩ slices_S2560x128_o640_0_S640x128 slices_S2048x128_o640_0_S128x128 inb_S1x2048x128_S1x128x128_0_640_0 _ _ _ (plain_at _ _ _ 640 (by omega) (by omega) ⟨5, rfl⟩ slices_S2048x128_o640_0_S128x128 slices_S2560x128_o640_0_S640x128) x
  · intro x
    refine (congrFun (p4 (k0_pay94 i x0 x1 x2 x3 x4 x5 x6 x7 x8) (k0_pay101 i x0 x1 x2 x3 x4 x5 x6 x7 x8) (k0_pay92 i x0 x1 x2 x3 x4 x5 x6 x7 x8)) x).trans ?_
    rw [w4 i x0 x1 x2 x3 x4 x5 x6 x7 x8]
    exact rows_block _ _ _ 512 (by omega) ⟨4, rfl⟩ slices_S2560x128_o512_0_S640x128 slices_S2048x128_o512_0_S128x128 inb_S1x2048x128_S1x128x128_0_512_0 _ _ _ (plain_at _ _ _ 512 (by omega) (by omega) ⟨4, rfl⟩ slices_S2048x128_o512_0_S128x128 slices_S2560x128_o512_0_S640x128) x
  · intro x
    refine (congrFun (p3 (k0_pay94 i x0 x1 x2 x3 x4 x5 x6 x7 x8) (k0_pay100 i x0 x1 x2 x3 x4 x5 x6 x7 x8) (k0_pay92 i x0 x1 x2 x3 x4 x5 x6 x7 x8)) x).trans ?_
    rw [w3 i x0 x1 x2 x3 x4 x5 x6 x7 x8]
    exact rows_block _ _ _ 384 (by omega) ⟨3, rfl⟩ slices_S2560x128_o384_0_S640x128 slices_S2048x128_o384_0_S128x128 inb_S1x2048x128_S1x128x128_0_384_0 _ _ _ (masked_at _ _ _ i hi 384 128 rfl ⟨3, rfl⟩ slices_S2048x128_o384_0_S128x128 slices_S2560x128_o384_0_S640x128) x
  · intro x
    refine (congrFun (p2 (k0_pay94 i x0 x1 x2 x3 x4 x5 x6 x7 x8) (k0_pay99 i x0 x1 x2 x3 x4 x5 x6 x7 x8) (k0_pay92 i x0 x1 x2 x3 x4 x5 x6 x7 x8)) x).trans ?_
    rw [w2 i x0 x1 x2 x3 x4 x5 x6 x7 x8]
    exact rows_block _ _ _ 256 (by omega) ⟨2, rfl⟩ slices_S2560x128_o256_0_S640x128 slices_S2048x128_o256_0_S128x128 inb_S1x2048x128_S1x128x128_0_256_0 _ _ _ (masked_at _ _ _ i hi 256 256 rfl ⟨2, rfl⟩ slices_S2048x128_o256_0_S128x128 slices_S2560x128_o256_0_S640x128) x
  · intro x
    refine (congrFun (p1 (k0_pay94 i x0 x1 x2 x3 x4 x5 x6 x7 x8) (k0_pay98 i x0 x1 x2 x3 x4 x5 x6 x7 x8) (k0_pay92 i x0 x1 x2 x3 x4 x5 x6 x7 x8)) x).trans ?_
    rw [w1 i x0 x1 x2 x3 x4 x5 x6 x7 x8]
    exact rows_block _ _ _ 128 (by omega) ⟨1, rfl⟩ slices_S2560x128_o128_0_S640x128 slices_S2048x128_o128_0_S128x128 inb_S1x2048x128_S1x128x128_0_128_0 _ _ _ (masked_at _ _ _ i hi 128 384 rfl ⟨1, rfl⟩ slices_S2048x128_o128_0_S128x128 slices_S2560x128_o128_0_S640x128) x
  · intro x
    refine (congrFun (p0 (k0_pay94 i x0 x1 x2 x3 x4 x5 x6 x7 x8) (k0_pay97 i x0 x1 x2 x3 x4 x5 x6 x7 x8) (k0_pay92 i x0 x1 x2 x3 x4 x5 x6 x7 x8)) x).trans ?_
    rw [w0 i x0 x1 x2 x3 x4 x5 x6 x7 x8]
    exact rows_block _ _ _ 0 (by omega) ⟨0, rfl⟩ slices_S2560x128_o0_0_S640x128 slices_S2048x128_o0_0_S128x128 inb_S1x2048x128_S1x128x128_0_0_0 _ _ _ (masked_at _ _ _ i hi 0 512 rfl ⟨0, rfl⟩ slices_S2048x128_o0_0_S128x128 slices_S2560x128_o0_0_S640x128) x

end Block

end Cert.BandIdeal.Stage

end
-- ==== Proof.BandArr.lean ====
/-
  The arrays the banded attention's kernel leaves, as functions of the arrays it reads.
-/
module

public import Idealize.ShloMosaic.Lib.Claim
public import proofs.«01_k».proof.Proof.BandPay

@[expose] public section

set_option maxRecDepth 65536

noncomputable section

namespace Cert.BandIdeal.Stage

open Idealize.ShloMosaic
open Idealize.ShloMosaic.ValueIdx Idealize.ShloMosaic.TcCoe
open Cert.BandIdeal Cert.BandIdeal.Gen Cert.BandMath Cert.BandSpec
open scoped BigOperators

section Block

variable (i : grid0.Coords) (x0 : Vec Ideal S1x2048x128 .f32) (x1 : Vec Ideal S1x512x128 .f32) (x2 : Vec Ideal S1x2048x128 .f32)
  (x3 : Vec Ideal S1x512x128 .f32) (x4 : Vec Ideal S1x2048x128 .f32) (x5 : Vec Ideal S1x2048x128 .f32) (x6 : Vec Ideal S1x128x640 .f32)
  (x7 : Vec Ideal S1x128 .f32) (x8 : Vec Ideal S1x128 .f32)

theorem whole0 (x : Vec Ideal S1x2048x128 .f32) : View.ld x r0_0 = x := View.ld_unit_zero (S := S1x2048x128) (off := ![0, 0, 0]) (funext fun a => by fin_cases a <;> rfl) _ _
theorem whole1 (x : Vec Ideal S1x128 .f32) : View.ld x r0_1 = x := View.ld_unit_zero (S := S1x128) (off := ![0, 0]) (funext fun a => by fin_cases a <;> rfl) _ _
theorem whole3 (x : Vec Ideal S1x128x640 .f32) : View.ld x r0_3 = x := View.ld_unit_zero (S := S1x128x640) (off := ![0, 0, 0]) (funext fun a => by fin_cases a <;> rfl) _ _

theorem q_block (s : Fin 2048) (d : Fin 128) : k0_pay87 i x0 x1 x2 x3 x4 x5 x6 x7 x8 (ix2 s d) = nrm (fun j => x0 (ix3 (0 : Fin 1) s j)) (gain x7) d := by
  unfold k0_pay87
  rw [whole0, whole1]
  refine (rms_apply (shapeCast S2048x128 x0 shapeCasts_S1x2048x128_S2048x128) x7 _ _ _ _ _ _ _ s d).trans ?_
  exact congrArg (fun f => nrm f (gain x7) d) (funext fun j => drop_apply x0 _ s j)

theorem normed (x : Vec Ideal S1x2048x128 .f32) (g : Vec Ideal S1x128 .f32) (s : Fin 2048) (d : Fin 128) :
    k0_pay5 (k0_pay4 x) g (ix2 s d) = nrm (fun j => x (ix3 (0 : Fin 1) s j)) (gain g) d := by
  refine (rms_apply (shapeCast S2048x128 x shapeCasts_S1x2048x128_S2048x128) g _ _ _ _ _ _ _ s d).trans ?_
  exact congrArg (fun f => nrm f (gain g) d) (funext fun j => drop_apply x _ s j)

theorem k_block (s : Fin 2048) (d : Fin 128) : k0_pay91 i x0 x1 x2 x3 x4 x5 x6 x7 x8 (ix2 (⟨512 + s.val, by omega⟩ : Fin 2560) d)
    = nrm (fun j => x2 (ix3 (0 : Fin 1) s j)) (gain x8) d := by
  unfold k0_pay91 k0_pay89
  rw [whole0, whole1]
  refine Eq.trans ?_ (normed x2 x8 s d)
  refine concatenate_pair_apply_right (α := EReal) (t := S2560x128) (s₁ := S512x128) (s₂ := S2048x128) (0 : Fin 2) _ _
    concatenates_S512x128_S2048x128_S2560x128_d0 (ix2 (⟨512 + s.val, by omega⟩ : Fin 2560) d) rfl rfl (ix2 s d) ?_ ?_
  · intro b hb
    match b with
    | ⟨0, _⟩ => exact absurd rfl hb
    | ⟨1, _⟩ => rfl
  · show s.val + 512 = 512 + s.val
    omega

theorem v_block (s : Fin 2048) (d : Fin 128) : k0_pay92 i x0 x1 x2 x3 x4 x5 x6 x7 x8 (ix2 (⟨512 + s.val, by omega⟩ : Fin 2560) d) = x4 (ix3 (0 : Fin 1) s d) := by
  unfold k0_pay92
  rw [whole0]
  refine Eq.trans ?_ (drop_apply x4 shapeCasts_S1x2048x128_S2048x128 s d)
  refine concatenate_pair_apply_right (α := EReal) (t := S2560x128) (s₁ := S512x128) (s₂ := S2048x128) (0 : Fin 2) _ _
    concatenates_S512x128_S2048x128_S2560x128_d0 (ix2 (⟨512 + s.val, by omega⟩ : Fin 2560) d) rfl rfl (ix2 s d) ?_ ?_
  · intro b hb
    match b with
    | ⟨0, _⟩ => exact absurd rfl hb
    | ⟨1, _⟩ => rfl
  · show s.val + 512 = 512 + s.val
    omega

theorem z_block (s : Fin 2048) (d : Fin 128) : k0_pay94 i x0 x1 x2 x3 x4 x5 x6 x7 x8 (ix2 s d) = x5 (ix3 (0 : Fin 1) s d) := by
  unfold k0_pay94
  rw [whole0]
  exact drop_apply x5 shapeCasts_S1x2048x128_S2048x128 s d

theorem bias_block (r : Fin 128) (c : Fin 640) : k0_pay93 i x0 x1 x2 x3 x4 x5 x6 x7 x8 (ix2 r c) = x6 (ix3 (0 : Fin 1) r c) := by
  unfold k0_pay93
  rw [whole3]
  refine (shapeCast_dropUnit_apply ![128, 640] x6 shapeCasts_S1x128x640_S128x640 (ix2 r c)).trans (congrArg x6 (funext fun a => Fin.ext ?_))
  match a with
  | ⟨0, _⟩ => rfl
  | ⟨1, _⟩ => rfl
  | ⟨2, _⟩ => rfl

/-- The column of the table a row and a column of the window read. -/
def rcol (r c : ℕ) : Fin 257 := ⟨640 + r - c - (640 + r - c - 256), by omega⟩

/-- A block of the gated attention. -/
theorem block_out {P : Proj} {B : Bias} {gq gk : Gain} (H : Finite B gq gk) (b h : Fin 8)
    (h0 : ∀ s d, x0 (ix3 (0 : Fin 1) s d) = col P 2 b s h d) (h2 : ∀ s d, x2 (ix3 (0 : Fin 1) s d) = col P 3 b s h d)
    (h4 : ∀ s d, x4 (ix3 (0 : Fin 1) s d) = col P 4 b s h d) (h5 : ∀ s d, x5 (ix3 (0 : Fin 1) s d) = col P 5 b s h d)
    (h6 : ∀ (r : Fin 128) (c : Fin 640), x6 (ix3 (0 : Fin 1) r c)
      = if r.val / 64 ≤ c.val / 64 ∧ c.val / 64 ≤ r.val / 64 + 8 then B (ix2 h (rcol r.val c.val)) else ⊥)
    (h7 : gain x7 = gq) (h8 : gain x8 = gk) (s : Fin 2048) (d : Fin 128) :
    blockOut (k0_pay87 i x0 x1 x2 x3 x4 x5 x6 x7 x8) (k0_pay91 i x0 x1 x2 x3 x4 x5 x6 x7 x8) (k0_pay93 i x0 x1 x2 x3 x4 x5 x6 x7 x8)
      (k0_pay94 i x0 x1 x2 x3 x4 x5 x6 x7 x8) (k0_pay92 i x0 x1 x2 x3 x4 x5 x6 x7 x8) s d = out P B gq gk b s h d := by
  unfold blockOut out
  refine congr (congrArg (fun a b : EReal => a * b) ?_) (congrArg silu ((z_block i x0 x1 x2 x3 x4 x5 x6 x7 x8 s d).trans (h5 s d)))
  refine window H b h (s.val / 128) (s.val % 128) (by omega) s (by omega) _ _ (fun k => col P 4 b k h d) (fun k c hk => ?_) (fun k c hk => ?_) (fun c hc => ?_)
  · have en : (⟨128 * (s.val / 128) + c.val, by omega⟩ : Fin 2560) = ⟨512 + k.val, by omega⟩ := Fin.ext (by show 128 * (s.val / 128) + c.val = 512 + k.val; omega)
    unfold blockSc
    rw [if_neg (by omega), en, bias_block, h6]
    have eq : (fun d => k0_pay87 i x0 x1 x2 x3 x4 x5 x6 x7 x8 (ix2 s d)) = nrm (col P 2 b s h) gq := funext fun d => by
      rw [q_block, h7]
      exact congrArg (fun f => nrm f gq d) (funext fun j => h0 s j)
    have ek : (fun d => k0_pay91 i x0 x1 x2 x3 x4 x5 x6 x7 x8 (ix2 (⟨512 + k.val, by omega⟩ : Fin 2560) d)) = nrm (col P 3 b k h) gk := funext fun d => by
      rw [k_block, h8]
      exact congrArg (fun f => nrm f gk d) (funext fun j => h2 k j)
    rw [eq, ek]
    unfold sc
    by_cases hs : seen s.val k.val
    · have hs' := hs
      obtain ⟨s1, s2⟩ := hs'
      rw [if_pos hs, if_pos (by show s.val % 128 / 64 ≤ c.val / 64 ∧ c.val / 64 ≤ s.val % 128 / 64 + 8; omega)]
      refine congrArg (fun n => _ + B (ix2 h n)) (Fin.ext ?_)
      show 640 + s.val % 128 - c.val - (640 + s.val % 128 - c.val - 256) = 128 + s.val - k.val - (128 + s.val - k.val - 256)
      omega
    · have hn : ¬ (k.val / 64 ≤ s.val / 64 ∧ s.val / 64 ≤ k.val / 64 + 8) := hs
      rw [if_neg hs, if_neg (by show ¬ (s.val % 128 / 64 ≤ c.val / 64 ∧ c.val / 64 ≤ s.val % 128 / 64 + 8); omega)]
      exact EReal.add_bot _
  · have en : (⟨128 * (s.val / 128) + c.val, by omega⟩ : Fin 2560) = ⟨512 + k.val, by omega⟩ := Fin.ext (by show 128 * (s.val / 128) + c.val = 512 + k.val; omega)
    show k0_pay92 i x0 x1 x2 x3 x4 x5 x6 x7 x8 (ix2 ⟨128 * (s.val / 128) + c.val, by omega⟩ d) = _
    rw [en, v_block, h4]
  · unfold blockSc
    rw [if_pos hc]

/-- A block of the band's keys. -/
theorem block_key {P : Proj} {gk : Gain} (b h : Fin 8) (h2 : ∀ s d, x2 (ix3 (0 : Fin 1) s d) = col P 3 b s h d) (h8 : gain x8 = gk) (y : S1x512x128.Idx) :
    out0_10 (F := Ideal) i x0 x1 x2 x3 x4 x5 x6 x7 x8 y = key P gk b (y 1) h (y 2) := by
  unfold out0_10
  refine (congrFun (View.canon_cons_unit_zero (funext fun a => by fin_cases a <;> rfl) _ _ _) y).trans ?_
  unfold k0_pay89
  rw [whole0, whole1]
  unfold k0_pay6
  have h0 : (y 0).val < 1 := (y 0).isLt
  refine (shapeCast_apply _ shapeCasts_S512x128_S1x512x128 y (ix2 (y 1 : Fin 512) (y 2 : Fin 128)) ?_).trans ?_
  · rw [Shape.rowMajor_val_two, Shape.rowMajor_val_three]
    show (y 1).val * 128 + (y 2).val = ((y 0).val * 512 + (y 1).val) * 128 + (y 2).val
    omega
  have y1 : (y 1).val < 512 := (y 1).isLt
  refine (slice_apply 1536 (k0_pay5 (k0_pay4 x2) x8) slices_S2048x128_o1536_0_S512x128 (y 1) (y 2) (by omega)).trans ?_
  refine (normed x2 x8 (⟨1536 + (y 1).val, by omega⟩ : Fin 2048) (y 2)).trans ?_
  rw [h8]
  exact congrArg (fun f => nrm f gk (y 2)) (funext fun j => h2 (⟨1536 + (y 1).val, by omega⟩ : Fin 2048) j)

end Block

section Array

variable (m : (ℓ : Loc nD τ sig) → Buf (Elt Ideal) ℓ) (c : Dev nD)

theorem index : ∀ t : Fin cfg0.N, (grid0.coords t 2).val = 0
    ∧ (win0_0.index t 0 = win0_9.index t 0 ∧ win0_0.index t 1 = 0 ∧ win0_0.index t 2 = 16 + win0_9.index t 2)
    ∧ (win0_2.index t 0 = win0_9.index t 0 ∧ win0_2.index t 1 = 0 ∧ win0_2.index t 2 = 24 + win0_9.index t 2)
    ∧ (win0_4.index t 0 = win0_9.index t 0 ∧ win0_4.index t 1 = 0 ∧ win0_4.index t 2 = 32 + win0_9.index t 2)
    ∧ (win0_5.index t 0 = win0_9.index t 0 ∧ win0_5.index t 1 = 0 ∧ win0_5.index t 2 = 40 + win0_9.index t 2)
    ∧ (win0_6.index t 0 = win0_9.index t 2 ∧ win0_6.index t 1 = 0 ∧ win0_6.index t 2 = 0)
    ∧ (win0_7.index t 0 = 0 ∧ win0_7.index t 1 = 0 ∧ win0_8.index t 0 = 0 ∧ win0_8.index t 1 = 0)
    ∧ (win0_9.index t 0 < 8 ∧ win0_9.index t 1 = 0 ∧ win0_9.index t 2 < 8)
    ∧ (win0_10.index t 0 = win0_9.index t 0 ∧ win0_10.index t 1 = 0 ∧ win0_10.index t 2 = win0_9.index t 2) :=
  (by decide +kernel : ∀ t : Fin grid0.N, (grid0.coords t 2).val = 0
    ∧ (win0_0.index t 0 = win0_9.index t 0 ∧ win0_0.index t 1 = 0 ∧ win0_0.index t 2 = 16 + win0_9.index t 2)
    ∧ (win0_2.index t 0 = win0_9.index t 0 ∧ win0_2.index t 1 = 0 ∧ win0_2.index t 2 = 24 + win0_9.index t 2)
    ∧ (win0_4.index t 0 = win0_9.index t 0 ∧ win0_4.index t 1 = 0 ∧ win0_4.index t 2 = 32 + win0_9.index t 2)
    ∧ (win0_5.index t 0 = win0_9.index t 0 ∧ win0_5.index t 1 = 0 ∧ win0_5.index t 2 = 40 + win0_9.index t 2)
    ∧ (win0_6.index t 0 = win0_9.index t 2 ∧ win0_6.index t 1 = 0 ∧ win0_6.index t 2 = 0)
    ∧ (win0_7.index t 0 = 0 ∧ win0_7.index t 1 = 0 ∧ win0_8.index t 0 = 0 ∧ win0_8.index t 1 = 0)
    ∧ (win0_9.index t 0 < 8 ∧ win0_9.index t 1 = 0 ∧ win0_9.index t 2 < 8)
    ∧ (win0_10.index t 0 = win0_9.index t 0 ∧ win0_10.index t 1 = 0 ∧ win0_10.index t 2 = win0_9.index t 2))

/-- The stream of a point. -/
def bt (t : Fin cfg0.N) : Fin 8 := ⟨win0_9.index t 0, (index t).2.2.2.2.2.2.2.1.1⟩

/-- The head of a point. -/
def ht (t : Fin cfg0.N) : Fin 8 := ⟨win0_9.index t 2, (index t).2.2.2.2.2.2.2.1.2.2⟩

theorem in0 (t : Fin cfg0.N) (s : Fin 2048) (d : Fin 128) :
    (iblk m c 0 t : S1x2048x128.Idx → EReal) (ix3 (0 : Fin 1) s d) = col (V m c main_arg0 : S8x2048x22528.Idx → EReal) 2 (bt t) s (ht t) d := by
  obtain ⟨-, ⟨a0, a1, a2⟩, -⟩ := index t
  show V m c main_arg0 (((cfg0.win 0).blk t).view.emb (ix3 (0 : Fin 1) s d)) = _
  refine congrArg (V m c main_arg0) (funext fun a => Fin.ext ?_)
  fin_cases a
  · show win0_0.index t (0 : Fin 3) * 1 + 1 * 0 = win0_9.index t 0; omega
  · show win0_0.index t (1 : Fin 3) * 2048 + 1 * s.val = s.val; omega
  · show win0_0.index t (2 : Fin 3) * 128 + 1 * d.val = 1024 * 2 + (128 * win0_9.index t 2 + d.val); omega

theorem in2 (t : Fin cfg0.N) (s : Fin 2048) (d : Fin 128) :
    (iblk m c 2 t : S1x2048x128.Idx → EReal) (ix3 (0 : Fin 1) s d) = col (V m c main_arg0 : S8x2048x22528.Idx → EReal) 3 (bt t) s (ht t) d := by
  obtain ⟨-, -, ⟨a0, a1, a2⟩, -⟩ := index t
  show V m c main_arg0 (((cfg0.win 2).blk t).view.emb (ix3 (0 : Fin 1) s d)) = _
  refine congrArg (V m c main_arg0) (funext fun a => Fin.ext ?_)
  fin_cases a
  · show win0_2.index t (0 : Fin 3) * 1 + 1 * 0 = win0_9.index t 0; omega
  · show win0_2.index t (1 : Fin 3) * 2048 + 1 * s.val = s.val; omega
  · show win0_2.index t (2 : Fin 3) * 128 + 1 * d.val = 1024 * 3 + (128 * win0_9.index t 2 + d.val); omega

theorem in4 (t : Fin cfg0.N) (s : Fin 2048) (d : Fin 128) :
    (iblk m c 4 t : S1x2048x128.Idx → EReal) (ix3 (0 : Fin 1) s d) = col (V m c main_arg0 : S8x2048x22528.Idx → EReal) 4 (bt t) s (ht t) d := by
  obtain ⟨-, -, -, ⟨a0, a1, a2⟩, -⟩ := index t
  show V m c main_arg0 (((cfg0.win 4).blk t).view.emb (ix3 (0 : Fin 1) s d)) = _
  refine congrArg (V m c main_arg0) (funext fun a => Fin.ext ?_)
  fin_cases a
  · show win0_4.index t (0 : Fin 3) * 1 + 1 * 0 = win0_9.index t 0; omega
  · show win0_4.index t (1 : Fin 3) * 2048 + 1 * s.val = s.val; omega
  · show win0_4.index t (2 : Fin 3) * 128 + 1 * d.val = 1024 * 4 + (128 * win0_9.index t 2 + d.val); omega

theorem in5 (t : Fin cfg0.N) (s : Fin 2048) (d : Fin 128) :
    (iblk m c 5 t : S1x2048x128.Idx → EReal) (ix3 (0 : Fin 1) s d) = col (V m c main_arg0 : S8x2048x22528.Idx → EReal) 5 (bt t) s (ht t) d := by
  obtain ⟨-, -, -, -, ⟨a0, a1, a2⟩, -⟩ := index t
  show V m c main_arg0 (((cfg0.win 5).blk t).view.emb (ix3 (0 : Fin 1) s d)) = _
  refine congrArg (V m c main_arg0) (funext fun a => Fin.ext ?_)
  fin_cases a
  · show win0_5.index t (0 : Fin 3) * 1 + 1 * 0 = win0_9.index t 0; omega
  · show win0_5.index t (1 : Fin 3) * 2048 + 1 * s.val = s.val; omega
  · show win0_5.index t (2 : Fin 3) * 128 + 1 * d.val = 1024 * 5 + (128 * win0_9.index t 2 + d.val); omega

theorem in6 (t : Fin cfg0.N) (r : Fin 128) (j : Fin 640) :
    (iblk m c 6 t : S1x128x640.Idx → EReal) (ix3 (0 : Fin 1) r j) = (V m c main_v14 : S8x128x640.Idx → EReal) (ix3 (ht t) r j) := by
  obtain ⟨-, -, -, -, -, ⟨a0, a1, a2⟩, -⟩ := index t
  show V m c main_v14 (((cfg0.win 6).blk t).view.emb (ix3 (0 : Fin 1) r j)) = _
  refine congrArg (V m c main_v14) (funext fun a => Fin.ext ?_)
  fin_cases a
  · show win0_6.index t (0 : Fin 3) * 1 + 1 * 0 = win0_9.index t 2; omega
  · show win0_6.index t (1 : Fin 3) * 128 + 1 * r.val = r.val; omega
  · show win0_6.index t (2 : Fin 3) * 640 + 1 * j.val = j.val; omega

theorem in7 (t : Fin cfg0.N) (d : Fin 128) :
    (iblk m c 7 t : S1x128.Idx → EReal) (ix2 (0 : Fin 1) d) = (V m c main_v15 : S1x128.Idx → EReal) (ix2 (0 : Fin 1) d) := by
  obtain ⟨-, -, -, -, -, -, ⟨a0, a1, -, -⟩, -⟩ := index t
  show V m c main_v15 (((cfg0.win 7).blk t).view.emb (ix2 (0 : Fin 1) d)) = _
  refine congrArg (V m c main_v15) (funext fun a => Fin.ext ?_)
  fin_cases a
  · show win0_7.index t (0 : Fin 2) * 1 + 1 * 0 = 0; omega
  · show win0_7.index t (1 : Fin 2) * 128 + 1 * d.val = d.val; omega

theorem in8 (t : Fin cfg0.N) (d : Fin 128) :
    (iblk m c 8 t : S1x128.Idx → EReal) (ix2 (0 : Fin 1) d) = (V m c main_v16 : S1x128.Idx → EReal) (ix2 (0 : Fin 1) d) := by
  obtain ⟨-, -, -, -, -, -, ⟨-, -, a0, a1⟩, -⟩ := index t
  show V m c main_v16 (((cfg0.win 8).blk t).view.emb (ix2 (0 : Fin 1) d)) = _
  refine congrArg (V m c main_v16) (funext fun a => Fin.ext ?_)
  fin_cases a
  · show win0_8.index t (0 : Fin 2) * 1 + 1 * 0 = 0; omega
  · show win0_8.index t (1 : Fin 2) * 128 + 1 * d.val = d.val; omega

/-- The gated attention, an array. -/
def outAll (P : Proj) (B : Bias) (gq gk : Gain) : S8x2048x1024.Idx → EReal := fun y =>
  out P B gq gk (y 0) (y 1) ⟨(y 2).val / 128, by have h : (y 2).val < 1024 := (y 2).isLt; omega⟩ ⟨(y 2).val % 128, by omega⟩

/-- The band's keys, an array. -/
def keyAll (P : Proj) (gk : Gain) : S8x512x1024.Idx → EReal := fun y =>
  key P gk (y 0) (y 1) ⟨(y 2).val / 128, by have h : (y 2).val < 1024 := (y 2).isLt; omega⟩ ⟨(y 2).val % 128, by omega⟩

theorem gain7 {gq : Gain} (h7 : ∀ d : Fin 128, (V m c main_v15 : S1x128.Idx → EReal) (ix2 (0 : Fin 1) d) = gq (ix1 d)) (t : Fin cfg0.N) :
    gain (iblk m c 7 t) = gq := funext fun y => by
  have hy : y = ix1 (y 0) := funext fun a => by match a with | ⟨0, _⟩ => rfl
  rw [hy]
  exact (in7 m c t (y 0)).trans (h7 (y 0))

theorem gain8 {gk : Gain} (h8 : ∀ d : Fin 128, (V m c main_v16 : S1x128.Idx → EReal) (ix2 (0 : Fin 1) d) = gk (ix1 d)) (t : Fin cfg0.N) :
    gain (iblk m c 8 t) = gk := funext fun y => by
  have hy : y = ix1 (y 0) := funext fun a => by match a with | ⟨0, _⟩ => rfl
  rw [hy]
  exact (in8 m c t (y 0)).trans (h8 (y 0))

theorem arr9 {B : Bias} {gq gk : Gain} (H : Finite B gq gk)
    (h6 : ∀ (h : Fin 8) (r : Fin 128) (j : Fin 640), (V m c main_v14 : S8x128x640.Idx → EReal) (ix3 h r j)
      = if r.val / 64 ≤ j.val / 64 ∧ j.val / 64 ≤ r.val / 64 + 8 then B (ix2 h (rcol r.val j.val)) else ⊥)
    (h7 : ∀ d : Fin 128, (V m c main_v15 : S1x128.Idx → EReal) (ix2 (0 : Fin 1) d) = gq (ix1 d))
    (h8 : ∀ d : Fin 128, (V m c main_v16 : S1x128.Idx → EReal) (ix2 (0 : Fin 1) d) = gk (ix1 d)) :
    (dats m 0 c).arrAt 9 cfg0.N = outAll (V m c main_arg0 : S8x2048x22528.Idx → EReal) B gq gk := by
  refine (dats m 0 c).arrAt_eq_of_covers 9 (outAll (V m c main_arg0 : S8x2048x22528.Idx → EReal) B gq gk) (by decide +kernel) fun t hf y => ?_
  blk_simp
  rw [after0_9]
  obtain ⟨hi, -, -, -, -, -, -, ⟨a0, a1, a2⟩, -⟩ := index t
  have y0 : (y 0).val < 1 := (y 0).isLt
  have y2 : (y 2).val < 128 := (y 2).isLt
  refine (out_block (grid0.coords t) (iblk m c 0 t) (iblk m c 1 t) (iblk m c 2 t) (iblk m c 3 t) (iblk m c 4 t) (iblk m c 5 t) (iblk m c 6 t)
    (iblk m c 7 t) (iblk m c 8 t) hi y).trans ?_
  refine (block_out (grid0.coords t) (iblk m c 0 t) (iblk m c 1 t) (iblk m c 2 t) (iblk m c 3 t) (iblk m c 4 t) (iblk m c 5 t) (iblk m c 6 t)
    (iblk m c 7 t) (iblk m c 8 t) H (bt t) (ht t) (in0 m c t) (in2 m c t) (in4 m c t) (in5 m c t)
    (fun r j => (in6 m c t r j).trans (h6 (ht t) r j)) (gain7 m c h7 t) (gain8 m c h8 t) (y 1) (y 2)).trans ?_
  have f0 : (((win0_9.blk t).view.emb y) 0 : Fin 8) = bt t := Fin.ext (by
    show win0_9.index t (0 : Fin 3) * 1 + 1 * (y 0).val = win0_9.index t 0; omega)
  have f1 : (((win0_9.blk t).view.emb y) 1 : Fin 2048) = (y 1 : Fin 2048) := Fin.ext (by
    show win0_9.index t (1 : Fin 3) * 2048 + 1 * (y 1).val = (y 1).val; omega)
  have f2 : (((win0_9.blk t).view.emb y) 2).val = 128 * win0_9.index t 2 + (y 2).val := by
    show win0_9.index t (2 : Fin 3) * 128 + 1 * (y 2).val = _; omega
  symm
  unfold outAll
  refine congr (congr (congr (congrArg (out (V m c main_arg0 : S8x2048x22528.Idx → EReal) B gq gk) f0) f1) (Fin.ext ?_)) (Fin.ext ?_)
  · refine (congrArg (fun n : ℕ => n / 128) f2).trans ?_
    show (128 * win0_9.index t 2 + (y 2).val) / 128 = win0_9.index t 2
    omega
  · refine (congrArg (fun n : ℕ => n % 128) f2).trans ?_
    show (128 * win0_9.index t 2 + (y 2).val) % 128 = (y 2).val
    omega

theorem arr10 {gk : Gain} (h8 : ∀ d : Fin 128, (V m c main_v16 : S1x128.Idx → EReal) (ix2 (0 : Fin 1) d) = gk (ix1 d)) :
    (dats m 0 c).arrAt 10 cfg0.N = keyAll (V m c main_arg0 : S8x2048x22528.Idx → EReal) gk := by
  refine (dats m 0 c).arrAt_eq_of_covers 10 (keyAll (V m c main_arg0 : S8x2048x22528.Idx → EReal) gk) (by decide +kernel) fun t hf y => ?_
  blk_simp
  rw [after0_10]
  obtain ⟨-, -, -, -, -, -, -, ⟨a0, a1, a2⟩, ⟨b0, b1, b2⟩⟩ := index t
  have y0 : (y 0).val < 1 := (y 0).isLt
  have y2 : (y 2).val < 128 := (y 2).isLt
  refine (block_key (grid0.coords t) (iblk m c 0 t) (iblk m c 1 t) (iblk m c 2 t) (iblk m c 3 t) (iblk m c 4 t) (iblk m c 5 t) (iblk m c 6 t)
    (iblk m c 7 t) (iblk m c 8 t) (bt t) (ht t) (in2 m c t) (gain8 m c h8 t) y).trans ?_
  have f0 : (((win0_10.blk t).view.emb y) 0 : Fin 8) = bt t := Fin.ext (by
    show win0_10.index t (0 : Fin 3) * 1 + 1 * (y 0).val = win0_9.index t 0; omega)
  have f1 : (((win0_10.blk t).view.emb y) 1 : Fin 512) = (y 1 : Fin 512) := Fin.ext (by
    show win0_10.index t (1 : Fin 3) * 512 + 1 * (y 1).val = (y 1).val; omega)
  have f2 : (((win0_10.blk t).view.emb y) 2).val = 128 * win0_9.index t 2 + (y 2).val := by
    show win0_10.index t (2 : Fin 3) * 128 + 1 * (y 2).val = _; omega
  symm
  unfold keyAll
  refine congr (congr (congr (congrArg (key (V m c main_arg0 : S8x2048x22528.Idx → EReal) gk) f0) f1) (Fin.ext ?_)) (Fin.ext ?_)
  · refine (congrArg (fun n : ℕ => n / 128) f2).trans ?_
    show (128 * win0_9.index t 2 + (y 2).val) / 128 = win0_9.index t 2
    omega
  · refine (congrArg (fun n : ℕ => n % 128) f2).trans ?_
    show (128 * win0_9.index t 2 + (y 2).val) % 128 = (y 2).val
    omega

end Array

end Cert.BandIdeal.Stage

end
-- ==== Proof.BandLit.lean ====
/-
  The band's mask, as the program holds it: 128 rows of 640 bits, read as 640 runs of 128 bits, each one of three.
-/
module

public import proofs.«01_k».proof.Proof.Gen.BandIdeal

@[expose] public section

set_option maxRecDepth 65536

noncomputable section

namespace Cert.BandIdeal.Stage

open Idealize.ShloMosaic
open Cert.BandIdeal

/-- The bit of a place of the mask. -/
def bandBit (n : ℕ) : BitVec 1 := BitVec.ofBool (decide (n / 640 / 64 ≤ n % 640 / 64) && decide (n % 640 / 64 ≤ n / 640 / 64 + 8))

/-- A run's bit: the run, and whether the place is in its first half. -/
def runBit (k : ℕ) (t : Bool) : BitVec 1 := BitVec.ofBool (decide (k / 5 / 64 ≤ k % 5 * 2 + bif t then 0 else 1)
  && decide ((k % 5 * 2 + bif t then 0 else 1) ≤ k / 5 / 64 + 8))

theorem bandBit_eq (n : ℕ) : bandBit n = runBit (n / 128) (decide (n % 128 < 64)) := by
  have h1 : n / 640 = n / 128 / 5 := by omega
  have h2 : n % 640 / 64 = n / 128 % 5 * 2 + bif decide (n % 128 < 64) then 0 else 1 := by
    by_cases h : n % 128 < 64
    · rw [decide_eq_true h]
      show n % 640 / 64 = n / 128 % 5 * 2 + 0
      omega
    · rw [decide_eq_false h]
      show n % 640 / 64 = n / 128 % 5 * 2 + 1
      omega
  unfold bandBit runBit
  rw [h1, h2]

theorem mod_0 (i : ℕ) : lit0t0_0 i = lit0t0_0 (i % 128) := by unfold lit0t0_0; rw [Nat.mod_mod]
theorem mod_4 (i : ℕ) : lit0t0_4 i = lit0t0_4 (i % 128) := by unfold lit0t0_4; rw [Nat.mod_mod]
theorem mod_320 (i : ℕ) : lit0t0_320 i = lit0t0_320 (i % 128) := by unfold lit0t0_320; rw [Nat.mod_mod]

theorem bits_0 : ∀ c : Fin 128, lit0t0_0 c.val = 1#1 := by decide +kernel
theorem bits_4 : ∀ c : Fin 128, lit0t0_4 c.val = BitVec.ofBool (decide (c.val < 64)) := by decide +kernel
theorem bits_320 : ∀ c : Fin 128, lit0t0_320 c.val = BitVec.ofBool (!decide (c.val < 64)) := by decide +kernel

theorem run_0 (i : ℕ) : lit0t0_0 i = 1#1 := (mod_0 i).trans (bits_0 ⟨i % 128, Nat.mod_lt _ (by decide)⟩)
theorem run_4 (i : ℕ) : lit0t0_4 i = BitVec.ofBool (decide (i % 128 < 64)) := (mod_4 i).trans (bits_4 ⟨i % 128, Nat.mod_lt _ (by decide)⟩)
theorem run_320 (i : ℕ) : lit0t0_320 i = BitVec.ofBool (!decide (i % 128 < 64)) := (mod_320 i).trans (bits_320 ⟨i % 128, Nat.mod_lt _ (by decide)⟩)

/-- Runs 0 to 127: which of the three each is. -/
def pick_0 (j : ℕ) (x y z : BitVec 1) : BitVec 1 := match j with
  | 0 => x
  | 1 => x
  | 2 => x
  | 3 => x
  | 4 => y
  | 5 => x
  | 6 => x
  | 7 => x
  | 8 => x
  | 9 => y
  | 10 => x
  | 11 => x
  | 12 => x
  | 13 => x
  | 14 => y
  | 15 => x
  | 16 => x
  | 17 => x
  | 18 => x
  | 19 => y
  | 20 => x
  | 21 => x
  | 22 => x
  | 23 => x
  | 24 => y
  | 25 => x
  | 26 => x
  | 27 => x
  | 28 => x
  | 29 => y
  | 30 => x
  | 31 => x
  | 32 => x
  | 33 => x
  | 34 => y
  | 35 => x
  | 36 => x
  | 37 => x
  | 38 => x
  | 39 => y
  | 40 => x
  | 41 => x
  | 42 => x
  | 43 => x
  | 44 => y
  | 45 => x
  | 46 => x
  | 47 => x
  | 48 => x
  | 49 => y
  | 50 => x
  | 51 => x
  | 52 => x
  | 53 => x
  | 54 => y
  | 55 => x
  | 56 => x
  | 57 => x
  | 58 => x
  | 59 => y
  | 60 => x
  | 61 => x
  | 62 => x
  | 63 => x
  | 64 => y
  | 65 => x
  | 66 => x
  | 67 => x
  | 68 => x
  | 69 => y
  | 70 => x
  | 71 => x
  | 72 => x
  | 73 => x
  | 74 => y
  | 75 => x
  | 76 => x
  | 77 => x
  | 78 => x
  | 79 => y
  | 80 => x
  | 81 => x
  | 82 => x
  | 83 => x
  | 84 => y
  | 85 => x
  | 86 => x
  | 87 => x
  | 88 => x
  | 89 => y
  | 90 => x
  | 91 => x
  | 92 => x
  | 93 => x
  | 94 => y
  | 95 => x
  | 96 => x
  | 97 => x
  | 98 => x
  | 99 => y
  | 100 => x
  | 101 => x
  | 102 => x
  | 103 => x
  | 104 => y
  | 105 => x
  | 106 => x
  | 107 => x
  | 108 => x
  | 109 => y
  | 110 => x
  | 111 => x
  | 112 => x
  | 113 => x
  | 114 => y
  | 115 => x
  | 116 => x
  | 117 => x
  | 118 => x
  | 119 => y
  | 120 => x
  | 121 => x
  | 122 => x
  | 123 => x
  | 124 => y
  | 125 => x
  | 126 => x
  | 127 => x
  | _ => 0#1

theorem tree_0 (i : ℕ) : lit0t1_0 i = pick_0 (i / 128 % 128) (lit0t0_0 i) (lit0t0_4 i) (lit0t0_320 i) := rfl

theorem pick_0_eq : ∀ b : Fin 128, ∀ t : Bool, pick_0 b.val 1#1 (BitVec.ofBool t) (BitVec.ofBool !t) = runBit (0 + b.val) t := by decide +kernel

theorem part_0 (i : ℕ) (h : i / 16384 = 0) : lit0t1_0 i = bandBit i := by
  have hk : i / 128 = 0 + i / 128 % 128 := by omega
  rw [tree_0, run_0, run_4, run_320, bandBit_eq]
  refine (pick_0_eq ⟨i / 128 % 128, Nat.mod_lt _ (by decide)⟩ _).trans ?_
  exact congrArg (fun k => runBit k _) hk.symm

/-- Runs 128 to 255: which of the three each is. -/
def pick_1 (j : ℕ) (x y z : BitVec 1) : BitVec 1 := match j with
  | 0 => x
  | 1 => y
  | 2 => x
  | 3 => x
  | 4 => x
  | 5 => x
  | 6 => y
  | 7 => x
  | 8 => x
  | 9 => x
  | 10 => x
  | 11 => y
  | 12 => x
  | 13 => x
  | 14 => x
  | 15 => x
  | 16 => y
  | 17 => x
  | 18 => x
  | 19 => x
  | 20 => x
  | 21 => y
  | 22 => x
  | 23 => x
  | 24 => x
  | 25 => x
  | 26 => y
  | 27 => x
  | 28 => x
  | 29 => x
  | 30 => x
  | 31 => y
  | 32 => x
  | 33 => x
  | 34 => x
  | 35 => x
  | 36 => y
  | 37 => x
  | 38 => x
  | 39 => x
  | 40 => x
  | 41 => y
  | 42 => x
  | 43 => x
  | 44 => x
  | 45 => x
  | 46 => y
  | 47 => x
  | 48 => x
  | 49 => x
  | 50 => x
  | 51 => y
  | 52 => x
  | 53 => x
  | 54 => x
  | 55 => x
  | 56 => y
  | 57 => x
  | 58 => x
  | 59 => x
  | 60 => x
  | 61 => y
  | 62 => x
  | 63 => x
  | 64 => x
  | 65 => x
  | 66 => y
  | 67 => x
  | 68 => x
  | 69 => x
  | 70 => x
  | 71 => y
  | 72 => x
  | 73 => x
  | 74 => x
  | 75 => x
  | 76 => y
  | 77 => x
  | 78 => x
  | 79 => x
  | 80 => x
  | 81 => y
  | 82 => x
  | 83 => x
  | 84 => x
  | 85 => x
  | 86 => y
  | 87 => x
  | 88 => x
  | 89 => x
  | 90 => x
  | 91 => y
  | 92 => x
  | 93 => x
  | 94 => x
  | 95 => x
  | 96 => y
  | 97 => x
  | 98 => x
  | 99 => x
  | 100 => x
  | 101 => y
  | 102 => x
  | 103 => x
  | 104 => x
  | 105 => x
  | 106 => y
  | 107 => x
  | 108 => x
  | 109 => x
  | 110 => x
  | 111 => y
  | 112 => x
  | 113 => x
  | 114 => x
  | 115 => x
  | 116 => y
  | 117 => x
  | 118 => x
  | 119 => x
  | 120 => x
  | 121 => y
  | 122 => x
  | 123 => x
  | 124 => x
  | 125 => x
  | 126 => y
  | 127 => x
  | _ => 0#1

theorem tree_1 (i : ℕ) : lit0t1_1 i = pick_1 (i / 128 % 128) (lit0t0_0 i) (lit0t0_4 i) (lit0t0_320 i) := rfl

theorem pick_1_eq : ∀ b : Fin 128, ∀ t : Bool, pick_1 b.val 1#1 (BitVec.ofBool t) (BitVec.ofBool !t) = runBit (128 + b.val) t := by decide +kernel

theorem part_1 (i : ℕ) (h : i / 16384 = 1) : lit0t1_1 i = bandBit i := by
  have hk : i / 128 = 128 + i / 128 % 128 := by omega
  rw [tree_1, run_0, run_4, run_320, bandBit_eq]
  refine (pick_1_eq ⟨i / 128 % 128, Nat.mod_lt _ (by decide)⟩ _).trans ?_
  exact congrArg (fun k => runBit k _) hk.symm

/-- Runs 256 to 383: which of the three each is. -/
def pick_2 (j : ℕ) (x y z : BitVec 1) : BitVec 1 := match j with
  | 0 => x
  | 1 => x
  | 2 => x
  | 3 => y
  | 4 => x
  | 5 => x
  | 6 => x
  | 7 => x
  | 8 => y
  | 9 => x
  | 10 => x
  | 11 => x
  | 12 => x
  | 13 => y
  | 14 => x
  | 15 => x
  | 16 => x
  | 17 => x
  | 18 => y
  | 19 => x
  | 20 => x
  | 21 => x
  | 22 => x
  | 23 => y
  | 24 => x
  | 25 => x
  | 26 => x
  | 27 => x
  | 28 => y
  | 29 => x
  | 30 => x
  | 31 => x
  | 32 => x
  | 33 => y
  | 34 => x
  | 35 => x
  | 36 => x
  | 37 => x
  | 38 => y
  | 39 => x
  | 40 => x
  | 41 => x
  | 42 => x
  | 43 => y
  | 44 => x
  | 45 => x
  | 46 => x
  | 47 => x
  | 48 => y
  | 49 => x
  | 50 => x
  | 51 => x
  | 52 => x
  | 53 => y
  | 54 => x
  | 55 => x
  | 56 => x
  | 57 => x
  | 58 => y
  | 59 => x
  | 60 => x
  | 61 => x
  | 62 => x
  | 63 => y
  | 64 => z
  | 65 => x
  | 66 => x
  | 67 => x
  | 68 => x
  | 69 => z
  | 70 => x
  | 71 => x
  | 72 => x
  | 73 => x
  | 74 => z
  | 75 => x
  | 76 => x
  | 77 => x
  | 78 => x
  | 79 => z
  | 80 => x
  | 81 => x
  | 82 => x
  | 83 => x
  | 84 => z
  | 85 => x
  | 86 => x
  | 87 => x
  | 88 => x
  | 89 => z
  | 90 => x
  | 91 => x
  | 92 => x
  | 93 => x
  | 94 => z
  | 95 => x
  | 96 => x
  | 97 => x
  | 98 => x
  | 99 => z
  | 100 => x
  | 101 => x
  | 102 => x
  | 103 => x
  | 104 => z
  | 105 => x
  | 106 => x
  | 107 => x
  | 108 => x
  | 109 => z
  | 110 => x
  | 111 => x
  | 112 => x
  | 113 => x
  | 114 => z
  | 115 => x
  | 116 => x
  | 117 => x
  | 118 => x
  | 119 => z
  | 120 => x
  | 121 => x
  | 122 => x
  | 123 => x
  | 124 => z
  | 125 => x
  | 126 => x
  | 127 => x
  | _ => 0#1

theorem tree_2 (i : ℕ) : lit0t1_2 i = pick_2 (i / 128 % 128) (lit0t0_0 i) (lit0t0_4 i) (lit0t0_320 i) := rfl

theorem pick_2_eq : ∀ b : Fin 128, ∀ t : Bool, pick_2 b.val 1#1 (BitVec.ofBool t) (BitVec.ofBool !t) = runBit (256 + b.val) t := by decide +kernel

theorem part_2 (i : ℕ) (h : i / 16384 = 2) : lit0t1_2 i = bandBit i := by
  have hk : i / 128 = 256 + i / 128 % 128 := by omega
  rw [tree_2, run_0, run_4, run_320, bandBit_eq]
  refine (pick_2_eq ⟨i / 128 % 128, Nat.mod_lt _ (by decide)⟩ _).trans ?_
  exact congrArg (fun k => runBit k _) hk.symm

/-- Runs 384 to 511: which of the three each is. -/
def pick_3 (j : ℕ) (x y z : BitVec 1) : BitVec 1 := match j with
  | 0 => x
  | 1 => z
  | 2 => x
  | 3 => x
  | 4 => x
  | 5 => x
  | 6 => z
  | 7 => x
  | 8 => x
  | 9 => x
  | 10 => x
  | 11 => z
  | 12 => x
  | 13 => x
  | 14 => x
  | 15 => x
  | 16 => z
  | 17 => x
  | 18 => x
  | 19 => x
  | 20 => x
  | 21 => z
  | 22 => x
  | 23 => x
  | 24 => x
  | 25 => x
  | 26 => z
  | 27 => x
  | 28 => x
  | 29 => x
  | 30 => x
  | 31 => z
  | 32 => x
  | 33 => x
  | 34 => x
  | 35 => x
  | 36 => z
  | 37 => x
  | 38 => x
  | 39 => x
  | 40 => x
  | 41 => z
  | 42 => x
  | 43 => x
  | 44 => x
  | 45 => x
  | 46 => z
  | 47 => x
  | 48 => x
  | 49 => x
  | 50 => x
  | 51 => z
  | 52 => x
  | 53 => x
  | 54 => x
  | 55 => x
  | 56 => z
  | 57 => x
  | 58 => x
  | 59 => x
  | 60 => x
  | 61 => z
  | 62 => x
  | 63 => x
  | 64 => x
  | 65 => x
  | 66 => z
  | 67 => x
  | 68 => x
  | 69 => x
  | 70 => x
  | 71 => z
  | 72 => x
  | 73 => x
  | 74 => x
  | 75 => x
  | 76 => z
  | 77 => x
  | 78 => x
  | 79 => x
  | 80 => x
  | 81 => z
  | 82 => x
  | 83 => x
  | 84 => x
  | 85 => x
  | 86 => z
  | 87 => x
  | 88 => x
  | 89 => x
  | 90 => x
  | 91 => z
  | 92 => x
  | 93 => x
  | 94 => x
  | 95 => x
  | 96 => z
  | 97 => x
  | 98 => x
  | 99 => x
  | 100 => x
  | 101 => z
  | 102 => x
  | 103 => x
  | 104 => x
  | 105 => x
  | 106 => z
  | 107 => x
  | 108 => x
  | 109 => x
  | 110 => x
  | 111 => z
  | 112 => x
  | 113 => x
  | 114 => x
  | 115 => x
  | 116 => z
  | 117 => x
  | 118 => x
  | 119 => x
  | 120 => x
  | 121 => z
  | 122 => x
  | 123 => x
  | 124 => x
  | 125 => x
  | 126 => z
  | 127 => x
  | _ => 0#1

theorem tree_3 (i : ℕ) : lit0t1_3 i = pick_3 (i / 128 % 128) (lit0t0_0 i) (lit0t0_4 i) (lit0t0_320 i) := rfl

theorem pick_3_eq : ∀ b : Fin 128, ∀ t : Bool, pick_3 b.val 1#1 (BitVec.ofBool t) (BitVec.ofBool !t) = runBit (384 + b.val) t := by decide +kernel

theorem part_3 (i : ℕ) (h : i / 16384 = 3) : lit0t1_3 i = bandBit i := by
  have hk : i / 128 = 384 + i / 128 % 128 := by omega
  rw [tree_3, run_0, run_4, run_320, bandBit_eq]
  refine (pick_3_eq ⟨i / 128 % 128, Nat.mod_lt _ (by decide)⟩ _).trans ?_
  exact congrArg (fun k => runBit k _) hk.symm

/-- Runs 512 to 639: which of the three each is. -/
def pick_4 (j : ℕ) (x y z : BitVec 1) : BitVec 1 := match j with
  | 0 => x
  | 1 => x
  | 2 => x
  | 3 => z
  | 4 => x
  | 5 => x
  | 6 => x
  | 7 => x
  | 8 => z
  | 9 => x
  | 10 => x
  | 11 => x
  | 12 => x
  | 13 => z
  | 14 => x
  | 15 => x
  | 16 => x
  | 17 => x
  | 18 => z
  | 19 => x
  | 20 => x
  | 21 => x
  | 22 => x
  | 23 => z
  | 24 => x
  | 25 => x
  | 26 => x
  | 27 => x
  | 28 => z
  | 29 => x
  | 30 => x
  | 31 => x
  | 32 => x
  | 33 => z
  | 34 => x
  | 35 => x
  | 36 => x
  | 37 => x
  | 38 => z
  | 39 => x
  | 40 => x
  | 41 => x
  | 42 => x
  | 43 => z
  | 44 => x
  | 45 => x
  | 46 => x
  | 47 => x
  | 48 => z
  | 49 => x
  | 50 => x
  | 51 => x
  | 52 => x
  | 53 => z
  | 54 => x
  | 55 => x
  | 56 => x
  | 57 => x
  | 58 => z
  | 59 => x
  | 60 => x
  | 61 => x
  | 62 => x
  | 63 => z
  | 64 => x
  | 65 => x
  | 66 => x
  | 67 => x
  | 68 => z
  | 69 => x
  | 70 => x
  | 71 => x
  | 72 => x
  | 73 => z
  | 74 => x
  | 75 => x
  | 76 => x
  | 77 => x
  | 78 => z
  | 79 => x
  | 80 => x
  | 81 => x
  | 82 => x
  | 83 => z
  | 84 => x
  | 85 => x
  | 86 => x
  | 87 => x
  | 88 => z
  | 89 => x
  | 90 => x
  | 91 => x
  | 92 => x
  | 93 => z
  | 94 => x
  | 95 => x
  | 96 => x
  | 97 => x
  | 98 => z
  | 99 => x
  | 100 => x
  | 101 => x
  | 102 => x
  | 103 => z
  | 104 => x
  | 105 => x
  | 106 => x
  | 107 => x
  | 108 => z
  | 109 => x
  | 110 => x
  | 111 => x
  | 112 => x
  | 113 => z
  | 114 => x
  | 115 => x
  | 116 => x
  | 117 => x
  | 118 => z
  | 119 => x
  | 120 => x
  | 121 => x
  | 122 => x
  | 123 => z
  | 124 => x
  | 125 => x
  | 126 => x
  | 127 => x
  | _ => 0#1

theorem tree_4 (i : ℕ) : lit0t1_4 i = pick_4 (i / 128 % 128) (lit0t0_0 i) (lit0t0_4 i) (lit0t0_320 i) := rfl

theorem pick_4_eq : ∀ b : Fin 128, ∀ t : Bool, pick_4 b.val 1#1 (BitVec.ofBool t) (BitVec.ofBool !t) = runBit (512 + b.val) t := by decide +kernel

theorem part_4 (i : ℕ) (h : i / 16384 = 4) : lit0t1_4 i = bandBit i := by
  have hk : i / 128 = 512 + i / 128 % 128 := by omega
  rw [tree_4, run_0, run_4, run_320, bandBit_eq]
  refine (pick_4_eq ⟨i / 128 % 128, Nat.mod_lt _ (by decide)⟩ _).trans ?_
  exact congrArg (fun k => runBit k _) hk.symm

/-- The mask is the band: a row's chunk reaches from its own column of chunks to the eighth after it. -/
theorem lit_apply (n : ℕ) (h : n < 81920) : lit0t n = bandBit n := by
  have ha : n / 16384 < 5 := by omega
  unfold lit0t
  generalize hq : n / 16384 = a at ha
  interval_cases a
  · exact part_0 n hq
  · exact part_1 n hq
  · exact part_2 n hq
  · exact part_3 n hq
  · exact part_4 n hq

end Cert.BandIdeal.Stage

end
-- ==== Proof.BandHost.lean ====
/-
  The bias the banded attention's kernel reads, built from the table on the host: the table's entry for a row and a column
  of the window where the band holds them, −∞ elsewhere.
-/
module

public import Idealize.ShloMosaic.Lib.StableHlo.Run
public import proofs.«01_k».proof.Proof.BandArr
public import proofs.«01_k».proof.Proof.BandLit

@[expose] public section

set_option maxRecDepth 65536

noncomputable section

namespace Cert.BandIdeal.Stage

open Idealize.ShloMosaic
open Idealize.ShloMosaic.ValueIdx Idealize.ShloMosaic.TcCoe
open Cert.BandIdeal Cert.BandIdeal.Gen Cert.BandMath Cert.BandSpec
open scoped BigOperators

section Bias

variable (x : FVec Ideal S8x257 .f32)

/-- A row of the table, reversed, its ends repeated. -/
def long : FVec Ideal S8x768 .f32 :=
  concatenate S8x768 1 [⟨S8x385, broadcastInDim S8x385 ![0, 1] bcast_S8x1_S8x385_0_1 (extractStridedSlice S8x1 ![0, 256] x slices_S8x257_S8x1_0_256)⟩,
    ⟨S8x255, Host.reverse [1] (extractStridedSlice S8x255 ![0, 1] x slices_S8x257_S8x255_0_1)⟩,
    ⟨S8x128, broadcastInDim S8x128 ![0, 1] bcast_S8x1_S8x128_0_1 (extractStridedSlice S8x1 ![0, 256] x slices_S8x257_S8x1_0_256)⟩]
    concatenates_S8x385_S8x255_S8x128_S8x768_d1

/-- The rows of the window, each the one before it shifted by a column. -/
def shifted : FVec Ideal S8x128x640 .f32 :=
  extractStridedSlice S8x128x640 ![0, 0, 0] (shapeCast S8x128x767 (extractStridedSlice S8x98176 ![0, 0] (shapeCast S8x98304
    (broadcastInDim S1x8x128x768 ![0, 1, 2, 3] bcast_S1x8x1x768_S1x8x128x768_0_1_2_3 (shapeCast S1x8x1x768 (long x) shapeCasts_S8x768_S1x8x1x768))
    shapeCasts_S1x8x128x768_S8x98304) slices_S8x98304_S8x98176_0_0) shapeCasts_S8x98176_S8x128x767) slices_S8x128x767_S8x128x640_0_0_0

/-- The bias the kernel reads. -/
def biasOf : FVec Ideal S8x128x640 .f32 :=
  select (broadcastInDim S8x128x640 ![0, 1, 2] bcast_S1x128x640_S8x128x640_0_1_2 (broadcastInDim S1x128x640 ![1, 2] bcast_S128x640_S1x128x640_1_2
    (fun i => lit0 (S128x640.rowMajor i)))) (shifted x) (broadcastInDim S8x128x640 ![] bcast_S_S8x128x640 (constant S_ .f32 0xFF800000#32))

theorem end_apply (h : Fin 8) : extractStridedSlice S8x1 ![0, 256] x slices_S8x257_S8x1_0_256 (ix2 h (0 : Fin 1)) = x (ix2 h (⟨256, by omega⟩ : Fin 257)) := by
  refine extractStridedSlice_apply _ x _ (ix2 h (0 : Fin 1)) _ fun a => ?_
  match a with
  | ⟨0, _⟩ => show h.val = 0 + h.val; omega
  | ⟨1, _⟩ => rfl

theorem long_left (h : Fin 8) (n : Fin 768) (hn : n.val < 385) : long x (ix2 h n) = x (ix2 h (⟨256, by omega⟩ : Fin 257)) := by
  unfold long
  refine (concatenate_apply_piece 1 _ _ (ix2 h n) 0 (by show 0 < 3; decide) S8x385 _ rfl rfl 0 rfl (ix2 h (⟨n.val, hn⟩ : Fin 385)) ?_ ?_).trans ?_
  · intro b hb
    match b with
    | ⟨0, _⟩ => rfl
    | ⟨1, _⟩ => exact absurd rfl hb
  · exact Nat.zero_add _
  · refine (broadcastInDim_apply _ bcast_S8x1_S8x385_0_1 _ _ (ix2 h (0 : Fin 1)) fun a => ?_).trans (end_apply x h)
    match a with
    | ⟨0, _⟩ => show h.val = if (8 : ℕ) = 1 then 0 else h.val; rw [if_neg (by decide)]
    | ⟨1, _⟩ => show 0 = if (1 : ℕ) = 1 then 0 else n.val; rw [if_pos rfl]

theorem long_right (h : Fin 8) (n : Fin 768) (hn : 640 ≤ n.val) : long x (ix2 h n) = x (ix2 h (⟨256, by omega⟩ : Fin 257)) := by
  have hl := n.isLt
  unfold long
  refine (concatenate_apply_piece 1 _ _ (ix2 h n) 2 (by show 2 < 3; decide) S8x128 _ rfl rfl 640 rfl (ix2 h (⟨n.val - 640, by omega⟩ : Fin 128)) ?_ ?_).trans ?_
  · intro b hb
    match b with
    | ⟨0, _⟩ => rfl
    | ⟨1, _⟩ => exact absurd rfl hb
  · show 640 + (n.val - 640) = n.val
    omega
  · refine (broadcastInDim_apply _ bcast_S8x1_S8x128_0_1 _ _ (ix2 h (0 : Fin 1)) fun a => ?_).trans (end_apply x h)
    match a with
    | ⟨0, _⟩ => show h.val = if (8 : ℕ) = 1 then 0 else h.val; rw [if_neg (by decide)]
    | ⟨1, _⟩ => show 0 = if (1 : ℕ) = 1 then 0 else (n.val - 640); rw [if_pos rfl]

theorem long_mid (h : Fin 8) (n : Fin 768) (h1 : 385 ≤ n.val) (h2 : n.val < 640) : long x (ix2 h n) = x (ix2 h (⟨640 - n.val, by omega⟩ : Fin 257)) := by
  unfold long
  refine (concatenate_apply_piece 1 _ _ (ix2 h n) 1 (by show 1 < 3; decide) S8x255 _ rfl rfl 385 rfl (ix2 h (⟨n.val - 385, by omega⟩ : Fin 255)) ?_ ?_).trans ?_
  · intro b hb
    match b with
    | ⟨0, _⟩ => rfl
    | ⟨1, _⟩ => exact absurd rfl hb
  · show 385 + (n.val - 385) = n.val
    omega
  · refine (extractStridedSlice_apply _ x slices_S8x257_S8x255_0_1 _ (ix2 h (⟨640 - n.val, by omega⟩ : Fin 257)) fun a => ?_)
    match a with
    | ⟨0, _⟩ => show h.val = 0 + h.val; omega
    | ⟨1, _⟩ => show 640 - n.val = 1 + (255 - (n.val - 385 + 1)); omega

theorem shifted_apply (h : Fin 8) (r : Fin 128) (c : Fin 640) : shifted x (ix3 h r c) = x (ix2 h (rcol r.val c.val)) := by
  have hr := r.isLt
  have hc := c.isLt
  have hn : r.val * 767 + c.val < 98176 := by omega
  have e : shifted x (ix3 h r c) = long x (ix2 h (⟨(r.val * 767 + c.val) % 768, by omega⟩ : Fin 768)) := by
    unfold shifted
    refine (extractStridedSlice_apply _ _ slices_S8x128x767_S8x128x640_0_0_0 (ix3 h r c) (ix3 h r (⟨c.val, by omega⟩ : Fin 767)) fun a => ?_).trans ?_
    · match a with
      | ⟨0, _⟩ => show h.val = 0 + h.val; omega
      | ⟨1, _⟩ => show r.val = 0 + r.val; omega
      | ⟨2, _⟩ => show c.val = 0 + c.val; omega
    refine (shapeCast_apply _ shapeCasts_S8x98176_S8x128x767 _ (ix2 h (⟨r.val * 767 + c.val, hn⟩ : Fin 98176)) ?_).trans ?_
    · rw [Shape.rowMajor_val_two, Shape.rowMajor_val_three]
      show h.val * 98176 + (r.val * 767 + c.val) = (h.val * 128 + r.val) * 767 + c.val
      omega
    refine (extractStridedSlice_apply _ _ slices_S8x98304_S8x98176_0_0 _ (ix2 h (⟨r.val * 767 + c.val, by omega⟩ : Fin 98304)) fun a => ?_).trans ?_
    · match a with
      | ⟨0, _⟩ => show h.val = 0 + h.val; omega
      | ⟨1, _⟩ => show r.val * 767 + c.val = 0 + (r.val * 767 + c.val); omega
    refine (shapeCast_apply _ shapeCasts_S1x8x128x768_S8x98304 _ (ix4 (0 : Fin 1) h (⟨(r.val * 767 + c.val) / 768, by omega⟩ : Fin 128)
      (⟨(r.val * 767 + c.val) % 768, by omega⟩ : Fin 768)) ?_).trans ?_
    · rw [Shape.rowMajor_val_two, Shape.rowMajor_val_four]
      show ((0 * 8 + h.val) * 128 + (r.val * 767 + c.val) / 768) * 768 + (r.val * 767 + c.val) % 768 = h.val * 98304 + (r.val * 767 + c.val)
      omega
    refine (broadcastInDim_apply _ bcast_S1x8x1x768_S1x8x128x768_0_1_2_3 _ _ (ix4 (0 : Fin 1) h (0 : Fin 1)
      (⟨(r.val * 767 + c.val) % 768, by omega⟩ : Fin 768)) fun a => ?_).trans ?_
    · match a with
      | ⟨0, _⟩ => show 0 = if (1 : ℕ) = 1 then 0 else 0; rw [if_pos rfl]
      | ⟨1, _⟩ => show h.val = if (8 : ℕ) = 1 then 0 else h.val; rw [if_neg (by decide)]
      | ⟨2, _⟩ => show 0 = if (1 : ℕ) = 1 then 0 else (r.val * 767 + c.val) / 768; rw [if_pos rfl]
      | ⟨3, _⟩ => show (r.val * 767 + c.val) % 768 = if (768 : ℕ) = 1 then 0 else (r.val * 767 + c.val) % 768; rw [if_neg (by decide)]
    refine shapeCast_apply _ shapeCasts_S8x768_S1x8x1x768 _ _ ?_
    rw [Shape.rowMajor_val_two, Shape.rowMajor_val_four]
    show h.val * 768 + (r.val * 767 + c.val) % 768 = ((0 * 8 + h.val) * 1 + 0) * 768 + (r.val * 767 + c.val) % 768
    omega
  have hm : (r.val * 767 + c.val) % 768 = if r.val ≤ c.val then c.val - r.val else 768 + c.val - r.val := by
    by_cases hrc : r.val ≤ c.val
    · rw [if_pos hrc, show r.val * 767 + c.val = (c.val - r.val) + 768 * r.val by omega, Nat.add_mul_mod_self_left, Nat.mod_eq_of_lt (by omega)]
    · rw [if_neg hrc, show r.val * 767 + c.val = (768 + c.val - r.val) + 768 * (r.val - 1) by omega, Nat.add_mul_mod_self_left, Nat.mod_eq_of_lt (by omega)]
  rw [e]
  by_cases h1 : (r.val * 767 + c.val) % 768 < 385
  · rw [long_left x h _ h1]
    exact congrArg (fun n => x (ix2 h n)) (Fin.ext (by show 256 = 640 + r.val - c.val - (640 + r.val - c.val - 256); split_ifs at hm <;> omega))
  · by_cases h2 : (r.val * 767 + c.val) % 768 < 640
    · rw [long_mid x h _ (by show 385 ≤ (r.val * 767 + c.val) % 768; omega) h2]
      exact congrArg (fun n => x (ix2 h n)) (Fin.ext (by
        show 640 - (r.val * 767 + c.val) % 768 = 640 + r.val - c.val - (640 + r.val - c.val - 256); split_ifs at hm <;> omega))
    · rw [long_right x h _ (by show 640 ≤ (r.val * 767 + c.val) % 768; omega)]
      exact congrArg (fun n => x (ix2 h n)) (Fin.ext (by show 256 = 640 + r.val - c.val - (640 + r.val - c.val - 256); split_ifs at hm <;> omega))

theorem biasOf_apply (h : Fin 8) (r : Fin 128) (c : Fin 640) :
    biasOf x (ix3 h r c) = if r.val / 64 ≤ c.val / 64 ∧ c.val / 64 ≤ r.val / 64 + 8 then x (ix2 h (rcol r.val c.val)) else ⊥ := by
  have hr := r.isLt
  have hc := c.isLt
  have eb : (broadcastInDim S8x128x640 ![0, 1, 2] bcast_S1x128x640_S8x128x640_0_1_2 (broadcastInDim S1x128x640 ![1, 2] bcast_S128x640_S1x128x640_1_2
      (fun i => lit0 (S128x640.rowMajor i))) : S8x128x640.Idx → BitVec 1) (ix3 h r c)
      = BitVec.ofBool (decide (r.val / 64 ≤ c.val / 64) && decide (c.val / 64 ≤ r.val / 64 + 8)) := by
    refine (broadcastInDim_apply _ bcast_S1x128x640_S8x128x640_0_1_2 _ _ (ix3 (0 : Fin 1) r c) fun a => ?_).trans ?_
    · match a with
      | ⟨0, _⟩ => show 0 = if (1 : ℕ) = 1 then 0 else h.val; rw [if_pos rfl]
      | ⟨1, _⟩ => show r.val = if (128 : ℕ) = 1 then 0 else r.val; rw [if_neg (by decide)]
      | ⟨2, _⟩ => show c.val = if (640 : ℕ) = 1 then 0 else c.val; rw [if_neg (by decide)]
    refine (broadcastInDim_apply _ bcast_S128x640_S1x128x640_1_2 _ _ (ix2 r c) fun a => ?_).trans ?_
    · match a with
      | ⟨0, _⟩ => show r.val = if (128 : ℕ) = 1 then 0 else r.val; rw [if_neg (by decide)]
      | ⟨1, _⟩ => show c.val = if (640 : ℕ) = 1 then 0 else c.val; rw [if_neg (by decide)]
    have hv : (S128x640.rowMajor (ix2 r c)).val = r.val * 640 + c.val := Shape.rowMajor_val_two _
    show lit0t (S128x640.rowMajor (ix2 r c)).val = _
    rw [hv, lit_apply _ (by omega)]
    unfold bandBit
    rw [show (r.val * 640 + c.val) / 640 = r.val by omega, show (r.val * 640 + c.val) % 640 = c.val by omega]
  have en : (broadcastInDim S8x128x640 ![] bcast_S_S8x128x640 (constant S_ .f32 0xFF800000#32) : FVec Ideal S8x128x640 .f32) (ix3 h r c) = (⊥ : EReal) := by
    show Ideal.ofBits .f32 0xFF800000#32 = _
    simp [Ideal.ofBits, Ideal.ieee]
  unfold biasOf
  rw [ValueIdx.select_apply, eb, en, shifted_apply]
  by_cases h1 : r.val / 64 ≤ c.val / 64
  · by_cases h2 : c.val / 64 ≤ r.val / 64 + 8
    · rw [if_pos ⟨h1, h2⟩, decide_eq_true h1, decide_eq_true h2]; rfl
    · rw [if_neg (fun h => h2 h.2), decide_eq_true h1, decide_eq_false h2]; rfl
  · rw [if_neg (fun h => h1 h.1), decide_eq_false h1]; rfl

end Bias

section Entry

variable (m : (ℓ : Loc nD τ sig) → Buf (Elt Ideal) ℓ) (c : Dev nD)

theorem entry_bias : V m c main_v14 = biasOf (m ((c : Thread nD τ).loc main_arg1)) := by
  unfold_abbrev_sides
  simp only [hostOps0, hostOps0_1, hostOps0_2, List.flatten_cons, List.flatten_nil, List.append_nil, List.cons_append, List.nil_append]
  after_results
  rfl

theorem entry_gq : V m c main_v15 = shapeCast S1x128 (m ((c : Thread nD τ).loc main_arg2)) shapeCasts_S128_S1x128 := by
  unfold_abbrev_sides
  simp only [hostOps0, hostOps0_1, hostOps0_2, List.flatten_cons, List.flatten_nil, List.append_nil, List.cons_append, List.nil_append]
  after_results
  rfl

theorem entry_gk : V m c main_v16 = shapeCast S1x128 (m ((c : Thread nD τ).loc main_arg3)) shapeCasts_S128_S1x128 := by
  unfold_abbrev_sides
  simp only [hostOps0, hostOps0_1, hostOps0_2, List.flatten_cons, List.flatten_nil, List.append_nil, List.cons_append, List.nil_append]
  after_results
  rfl

end Entry

end Cert.BandIdeal.Stage

end
-- ==== Proof.BandRef.lean ====
/-
  The banded attention as the reference computes it, over all its keys.
-/
module

public import Idealize.ShloMosaic.Lib.KernelVsHost
public import Idealize.ShloMosaic.Lib.IdealHost
public import proofs.«01_k».proof.Proof.Gen.BandRefIdeal.Read
public import proofs.«01_k».proof.Proof.BandSpec

@[expose] public section

set_option maxRecDepth 65536

noncomputable section

namespace Cert.BandRefIdeal.Stage

open Idealize.ShloMosaic
open Idealize.ShloMosaic.ValueIdx
open Cert.BandRefIdeal Cert.BandRefIdeal.Gen Cert.BandRefIdeal.Read Cert.BandMath Cert.BandSpec
open scoped BigOperators

/-- The clipped distance's column, as words. -/
def clipw (d : BitVec 32) : BitVec 32 :=
  Scalar.select (IntOp.cmpi .slt (IntOp.addi (IntOp.minsi 128#32 (IntOp.maxsi 4294967168#32 d)) 128#32) 0#32)
    (IntOp.addi (IntOp.addi (IntOp.minsi 128#32 (IntOp.maxsi 4294967168#32 d)) 128#32) 257#32)
    (IntOp.addi (IntOp.minsi 128#32 (IntOp.maxsi 4294967168#32 d)) 128#32)

theorem clipw_table : ∀ n : Fin 4095, min (clipw (BitVec.ofNat 32 (n.val + 4294965249))).toInt.toNat 256
    = n.val + 128 - 2047 - (n.val + 128 - 2047 - 256) := by decide +kernel

theorem clipw_apply (q k : Fin 2048) : min (clipw (IntOp.subi (BitVec.ofNat 32 q.val) (BitVec.ofNat 32 k.val))).toInt.toNat 256
    = (rel q.val k.val).val := by
  have hq := q.isLt
  have hk := k.isLt
  have e : IntOp.subi (BitVec.ofNat 32 q.val) (BitVec.ofNat 32 k.val) = BitVec.ofNat 32 (q.val + 2047 - k.val + 4294965249) := by
    show BitVec.ofNat 32 q.val - BitVec.ofNat 32 k.val = _
    apply BitVec.eq_of_toNat_eq
    rw [BitVec.toNat_sub, BitVec.toNat_ofNat, BitVec.toNat_ofNat, BitVec.toNat_ofNat]
    omega
  rw [e]
  refine (clipw_table ⟨q.val + 2047 - k.val, by omega⟩).trans ?_
  show q.val + 2047 - k.val + 128 - 2047 - (q.val + 2047 - k.val + 128 - 2047 - 256) = 128 + q.val - k.val - (128 + q.val - k.val - 256)
  omega

def signw (a : BitVec 32) : BitVec 32 := if a = 0 then 0 else if a.msb then -1 else 1

/-- The quotient by 64, rounded down, as words. -/
def floorw (a : BitVec 32) : BitVec 32 :=
  Scalar.select (IntOp.andi (IntOp.cmpi .ne (signw a) (signw 64#32)) (IntOp.cmpi .ne (IntOp.remsi .host a 64#32) 0#32))
    (IntOp.subi (IntOp.divsi .host a 64#32) 1#32) (IntOp.divsi .host a 64#32)

theorem floorw_table : ∀ n : Fin 2048, floorw (BitVec.ofNat 32 n.val) = BitVec.ofNat 32 (n.val / 64) := by decide +kernel

theorem seen_table : ∀ a b : Fin 32, IntOp.andi (IntOp.cmpi .sge (IntOp.subi (BitVec.ofNat 32 a.val) (BitVec.ofNat 32 b.val)) 0#32)
    (IntOp.cmpi .sle (IntOp.subi (BitVec.ofNat 32 a.val) (BitVec.ofNat 32 b.val)) 8#32)
    = BitVec.ofBool (decide (b.val ≤ a.val ∧ a.val ≤ b.val + 8)) := by decide +kernel

theorem rel_apply (q k : Fin 2048) : min (val_main_v48 (F := Ideal) (ix2 q k)).toInt.toNat 256 = (rel q.val k.val).val := by
  rw [val_main_v48_apply, val_main_v45_apply, val_main_v47_apply, val_main_v43_apply, val_main_v41_apply, val_main_call0_v4_apply,
    val_main_call0_v3_apply, val_main_c_5_apply, val_main_call0_v2_apply, val_main_call0_v1_apply, val_main_call0_v0_apply, val_main_c_apply,
    val_main_v40_apply, val_main_v38_apply, val_main_v39_apply, val_main_v37_apply, val_main_v36_apply, val_main_v35_apply, val_main_v34_apply,
    val_main_v42_apply, val_main_c_6_apply, val_main_v44_apply, val_main_c_7_apply, val_main_v46_apply, val_main_c_8_apply]
  exact clipw_apply q k

theorem floor_q (q : Fin 2048) : val_main_v51 (F := Ideal) (ix2 q (0 : Fin 1)) = BitVec.ofNat 32 (q.val / 64) := by
  refine Eq.trans ?_ (floorw_table q)
  have e5 : ∀ i, val_main_call1_v3 (F := Ideal) i = signw (val_main_v37 (F := Ideal) i) := fun _ => rfl
  have e4 : ∀ i, val_main_call1_v4 (F := Ideal) i = signw (val_main_call1_v0 (F := Ideal) i) := fun _ => rfl
  rw [val_main_v51_apply, val_main_call1_v11_apply, val_main_call1_v6_apply, e5, val_main_call1_v5_apply, e4, val_main_call1_v10_apply,
    val_main_call1_v8_apply, val_main_call1_v7_apply, val_main_call1_v9_apply, val_main_call1_v13_apply, val_main_call1_v2_apply,
    val_main_call1_v1_apply, val_main_call1_v12_apply, val_main_v37_apply, val_main_v36_apply]
  rfl

theorem floor_k (k : Fin 2048) : val_main_v52 (F := Ideal) (ix2 (0 : Fin 1) k) = BitVec.ofNat 32 (k.val / 64) := by
  refine Eq.trans ?_ (floorw_table k)
  have e5 : ∀ i, val_main_call2_v3 (F := Ideal) i = signw (val_main_v35 (F := Ideal) i) := fun _ => rfl
  have e4 : ∀ i, val_main_call2_v4 (F := Ideal) i = signw (val_main_call2_v0 (F := Ideal) i) := fun _ => rfl
  rw [val_main_v52_apply, val_main_call2_v11_apply, val_main_call2_v6_apply, e5, val_main_call2_v5_apply, e4, val_main_call2_v10_apply,
    val_main_call2_v8_apply, val_main_call2_v7_apply, val_main_call2_v9_apply, val_main_call2_v13_apply, val_main_call2_v2_apply,
    val_main_call2_v1_apply, val_main_call2_v12_apply, val_main_v35_apply, val_main_v34_apply]
  rfl

theorem seen_apply (q k : Fin 2048) : val_main_v60 (F := Ideal) (ix2 q k) = BitVec.ofBool (decide (seen q.val k.val)) := by
  have eq : idx_main_v53 (ix2 q k) = ix2 q (0 : Fin 1) := funext fun a => Fin.ext (by match a with | ⟨0, _⟩ => rfl | ⟨1, _⟩ => rfl)
  have ek : idx_main_v54 (ix2 q k) = ix2 (0 : Fin 1) k := funext fun a => Fin.ext (by match a with | ⟨0, _⟩ => rfl | ⟨1, _⟩ => rfl)
  rw [val_main_v60_apply, val_main_v57_apply, val_main_v59_apply, val_main_v55_apply, val_main_v53_apply, val_main_v54_apply, eq, ek, floor_q, floor_k,
    val_main_v56_apply, val_main_c_11_apply, val_main_v58_apply, val_main_c_12_apply]
  exact seen_table ⟨q.val / 64, by omega⟩ ⟨k.val / 64, by omega⟩

variable (x0 : (⟨S8x2048x22528, .f32⟩ : BufTy).Contents (Elt Ideal)) (x1 : (⟨S8x257, .f32⟩ : BufTy).Contents (Elt Ideal))
  (x2 x3 : (⟨S128, .f32⟩ : BufTy).Contents (Elt Ideal))

theorem bias_apply (h : Fin 8) (q k : Fin 2048) : val_main_v50 (F := Ideal) x1 (ix3 h q k) = x1 (ix2 h (rel q.val k.val)) := by
  unfold val_main_v50 Host.gather
  refine congrArg x1 (funext fun a => Fin.ext ?_)
  have hb : ∀ a : Fin 2, a ∉ gather_S8x257_S2048x2048x1_S8x2048x2048_0_1_n_n_1_2_81.operandBatchingDims := by decide
  have hm0 : (0 : Fin 2) ∉ gather_S8x257_S2048x2048x1_S8x2048x2048_0_1_n_n_1_2_81.startIndexMap := by decide
  have hm1 : (1 : Fin 2) ∈ gather_S8x257_S2048x2048x1_S8x2048x2048_0_1_n_n_1_2_81.startIndexMap := by decide
  have hk1 : (1 : Fin 2) ∉ gather_S8x257_S2048x2048x1_S8x2048x2048_0_1_n_n_1_2_81.sKept := by decide
  show GatherDims.start gather_S8x257_S2048x2048x1_S8x2048x2048_0_1_n_n_1_2_81 (ix3 h q k) (val_main_v49 (F := Ideal)) a
    + GatherDims.batchCoord gather_S8x257_S2048x2048x1_S8x2048x2048_0_1_n_n_1_2_81 (ix3 h q k) a
    + GatherDims.offCoord gather_S8x257_S2048x2048x1_S8x2048x2048_0_1_n_n_1_2_81 (ix3 h q k) a = _
  rw [GatherDims.batchCoord_eq_zero _ _ _ (hb a), Nat.add_zero]
  match a with
  | ⟨0, _⟩ =>
    have e : GatherDims.start gather_S8x257_S2048x2048x1_S8x2048x2048_0_1_n_n_1_2_81 (ix3 h q k) (val_main_v49 (F := Ideal)) (0 : Fin 2) = 0 := by
      unfold GatherDims.start
      exact dif_neg hm0
    refine (congrArg (fun z => z + _) e).trans ((Nat.zero_add _).trans ?_)
    rfl
  | ⟨1, _⟩ =>
    refine (congrArg (fun z => _ + z) (GatherDims.offCoord_eq_zero gather_S8x257_S2048x2048x1_S8x2048x2048_0_1_n_n_1_2_81 (ix3 h q k) _ hk1)).trans ?_
    refine (Nat.add_zero _).trans (Eq.trans ?_ (rel_apply q k))
    unfold GatherDims.start
    refine (dif_pos hm1).trans ?_
    show min (val_main_v49 (F := Ideal) _).toInt.toNat 256 = _
    rw [val_main_v49_apply]
    refine congrArg (fun z => min (val_main_v48 (F := Ideal) z).toInt.toNat 256) (funext fun a => Fin.ext ?_)
    match a with
    | ⟨0, _⟩ => rfl
    | ⟨1, _⟩ => rfl

theorem q_apply (b : Fin 8) (s : Fin 2048) (h : Fin 8) (d : Fin 128) : val_main_v5 (F := Ideal) x0 (ix4 b s h d) = col x0 2 b s h d := by
  rw [val_main_v5_apply, val_main_v1_apply, val_main_v0_apply]
  unfold col
  refine congrArg x0 (funext fun a => Fin.ext ?_)
  match a with
  | ⟨0, _⟩ => show ((((b.val * 2048 + s.val) * 8 + h.val) * 128 + d.val) / 2097152) = b.val; omega
  | ⟨1, _⟩ => show ((((b.val * 2048 + s.val) * 8 + h.val) * 128 + d.val) / 1024 % 2048) = s.val; omega
  | ⟨2, _⟩ => show 2048 + (((b.val * 2048 + s.val) * 8 + h.val) * 128 + d.val) % 1024 = 1024 * 2 + (128 * h.val + d.val); omega

theorem k_apply (b : Fin 8) (s : Fin 2048) (h : Fin 8) (d : Fin 128) : val_main_v19 (F := Ideal) x0 (ix4 b s h d) = col x0 3 b s h d := by
  rw [val_main_v19_apply, val_main_v2_apply, val_main_v0_apply]
  unfold col
  refine congrArg x0 (funext fun a => Fin.ext ?_)
  match a with
  | ⟨0, _⟩ => show ((((b.val * 2048 + s.val) * 8 + h.val) * 128 + d.val) / 2097152) = b.val; omega
  | ⟨1, _⟩ => show ((((b.val * 2048 + s.val) * 8 + h.val) * 128 + d.val) / 1024 % 2048) = s.val; omega
  | ⟨2, _⟩ => show 2048 + (1024 + (((b.val * 2048 + s.val) * 8 + h.val) * 128 + d.val) % 1024) = 1024 * 3 + (128 * h.val + d.val); omega

theorem v_apply (b : Fin 8) (s : Fin 2048) (h : Fin 8) (d : Fin 128) : val_main_v33 (F := Ideal) x0 (ix4 b s h d) = col x0 4 b s h d := by
  rw [val_main_v33_apply, val_main_v3_apply, val_main_v0_apply]
  unfold col
  refine congrArg x0 (funext fun a => Fin.ext ?_)
  match a with
  | ⟨0, _⟩ => show ((((b.val * 2048 + s.val) * 8 + h.val) * 128 + d.val) / 2097152) = b.val; omega
  | ⟨1, _⟩ => show ((((b.val * 2048 + s.val) * 8 + h.val) * 128 + d.val) / 1024 % 2048) = s.val; omega
  | ⟨2, _⟩ => show 2048 + (2048 + (((b.val * 2048 + s.val) * 8 + h.val) * 128 + d.val) % 1024) = 1024 * 4 + (128 * h.val + d.val); omega

/-- The place of a head's channel. -/
def at3 (b : Fin 8) (s : Fin 2048) (h : Fin 8) (d : Fin 128) : S8x2048x1024.Idx := ix3 b s (⟨128 * h.val + d.val, by omega⟩ : Fin 1024)

theorem z_apply (b : Fin 8) (s : Fin 2048) (h : Fin 8) (d : Fin 128) : val_main_v4 (F := Ideal) x0 (at3 b s h d) = col x0 5 b s h d := by
  rw [val_main_v4_apply, val_main_v0_apply]
  unfold col
  refine congrArg x0 (funext fun a => Fin.ext ?_)
  match a with
  | ⟨0, _⟩ => rfl
  | ⟨1, _⟩ => rfl
  | ⟨2, _⟩ => show 2048 + (3072 + (128 * h.val + d.val)) = 1024 * 5 + (128 * h.val + d.val); omega

theorem qn_apply (b : Fin 8) (s : Fin 2048) (h : Fin 8) (d : Fin 128) : val_main_v18 (F := Ideal) x0 x2 (ix4 b s h d) = nrm (col x0 2 b s h) x2 d := by
  have e : ∀ k, idx_main_v7 (idx_main_v8 (idx_main_v14 (ix4 b s h d))) k = ix4 b s h k := fun k => funext fun a => Fin.ext (by
    match a with | ⟨0, _⟩ => rfl | ⟨1, _⟩ => rfl | ⟨2, _⟩ => rfl | ⟨3, _⟩ => rfl)
  have g : idx_main_v16 (idx_main_v17 (ix4 b s h d)) = ix1 d := funext fun a => Fin.ext (by match a with | ⟨0, _⟩ => rfl)
  have hs : ∑ k : Fin 128, val_main_v6 (F := Ideal) x0 (idx_main_v7 (idx_main_v8 (idx_main_v14 (ix4 b s h d))) k) = ∑ l, col x0 2 b s h l * col x0 2 b s h l :=
    Finset.sum_congr rfl fun k _ => by rw [e, val_main_v6_apply, q_apply]; rfl
  have hz : val_main_cst (F := Ideal) (Shape.Idx.first h_S_) = (0 : EReal) := Ideal.ofBits_zero_f32
  rw [val_main_v18_apply, val_main_v15_apply, val_main_v17_apply, val_main_v16_apply, g, val_main_v14_apply, val_main_v13_apply, val_main_v12_apply,
    val_main_v10_apply, val_main_v8_apply, val_main_v7_apply, hs, hz, zero_add, q_apply]
  rfl

theorem kn_apply (b : Fin 8) (s : Fin 2048) (h : Fin 8) (d : Fin 128) : val_main_v32 (F := Ideal) x0 x3 (ix4 b s h d) = nrm (col x0 3 b s h) x3 d := by
  have e : ∀ k, idx_main_v21 (idx_main_v22 (idx_main_v28 (ix4 b s h d))) k = ix4 b s h k := fun k => funext fun a => Fin.ext (by
    match a with | ⟨0, _⟩ => rfl | ⟨1, _⟩ => rfl | ⟨2, _⟩ => rfl | ⟨3, _⟩ => rfl)
  have g : idx_main_v30 (idx_main_v31 (ix4 b s h d)) = ix1 d := funext fun a => Fin.ext (by match a with | ⟨0, _⟩ => rfl)
  have hs : ∑ k : Fin 128, val_main_v20 (F := Ideal) x0 (idx_main_v21 (idx_main_v22 (idx_main_v28 (ix4 b s h d))) k) = ∑ l, col x0 3 b s h l * col x0 3 b s h l :=
    Finset.sum_congr rfl fun k _ => by rw [e, val_main_v20_apply, k_apply]; rfl
  have hz : val_main_cst_2 (F := Ideal) (Shape.Idx.first h_S_) = (0 : EReal) := Ideal.ofBits_zero_f32
  rw [val_main_v32_apply, val_main_v29_apply, val_main_v31_apply, val_main_v30_apply, g, val_main_v28_apply, val_main_v27_apply, val_main_v26_apply,
    val_main_v24_apply, val_main_v22_apply, val_main_v21_apply, hs, hz, zero_add, k_apply]
  rfl

theorem bot_word : (Ideal.ofBits .f32 0xFF800000#32 : EReal) = ⊥ := by simp [Ideal.ofBits, Ideal.ieee]

theorem scale : val_main_v63 (F := Ideal) (fun a => a.elim0) = (((√(128 : ℝ))⁻¹ : ℝ) : EReal) := by
  rw [val_main_v63_apply, val_main_v62_apply]
  show Ideal.div (Ideal.ofBits .f32 0x3F800000#32) (Ideal.sqrt (Ideal.ofBits .f32 0x43000000#32)) = _
  rw [c128, Ideal.sqrt_coe, if_neg (by norm_num), Ideal.ofBits_one_f32, Ideal.div_coe (by positivity), one_div, one_mul]

theorem score_apply (b h : Fin 8) (q k : Fin 2048) : val_main_v69 (F := Ideal) x0 x1 x2 x3 (ix4 b h q k) = sc x0 x1 x2 x3 b h q k := by
  have e1 : idx_main_call3_v1 (ix4 b h q k) = ix2 q k := funext fun a => Fin.ext (by match a with | ⟨0, _⟩ => rfl | ⟨1, _⟩ => rfl)
  have e2 : idx_main_v66 (idx_main_v67 (ix4 b h q k)) = ix3 h q k := funext fun a => Fin.ext (by match a with | ⟨0, _⟩ => rfl | ⟨1, _⟩ => rfl | ⟨2, _⟩ => rfl)
  have e3 : ∀ d, lidx_main_v61 (ix4 b h q k) d = ix4 b q h d := fun d => funext fun a => Fin.ext (by
    match a with | ⟨0, _⟩ => rfl | ⟨1, _⟩ => rfl | ⟨2, _⟩ => rfl | ⟨3, _⟩ => rfl)
  have e4 : ∀ d, ridx_main_v61 (ix4 b h q k) d = ix4 b k h d := fun d => funext fun a => Fin.ext (by
    match a with | ⟨0, _⟩ => rfl | ⟨1, _⟩ => rfl | ⟨2, _⟩ => rfl | ⟨3, _⟩ => rfl)
  have e5 : idx_main_v64 (ix4 b h q k) = fun a => a.elim0 := funext fun a => a.elim0
  have hd : val_main_v61 (F := Ideal) x0 x2 x3 (ix4 b h q k) = ∑ d, nrm (col x0 2 b q h) x2 d * nrm (col x0 3 b k h) x3 d := by
    rw [val_main_v61_apply]
    exact Finset.sum_congr rfl fun d _ => by rw [e3, e4, qn_apply, kn_apply]
  rw [val_main_v69_apply, val_main_call3_v1_apply, e1, seen_apply, val_main_v68_apply, val_main_v65_apply, hd, val_main_v64_apply, e5, scale,
    val_main_v67_apply, val_main_v66_apply, e2, bias_apply, val_main_call3_v2_apply]
  unfold sc dotp
  by_cases hq : seen q.val k.val
  · rw [if_pos hq, decide_eq_true hq]
    rfl
  · rw [if_neg hq, decide_eq_false hq]
    exact bot_word

theorem top_apply (b h : Fin 8) (q : Fin 2048) : val_main_v72 (F := Ideal) x0 x1 x2 x3 (ix3 b h q) = top (sc x0 x1 x2 x3 b h q) := by
  have hr : S8x8x2048x2048.Reduces [3] S8x8x2048 := by decide
  have h70 : val_main_v70 (F := Ideal) x0 x1 x2 x3 (ix3 b h q) = top (sc x0 x1 x2 x3 b h q) := by
    refine (congrFun (hostReduce_maximumf_eq_multiReduction (F := Ideal) (φ := .f32) (val_main_v69 (F := Ideal) x0 x1 x2 x3) 0xFF800000#32
      reducesTo_S8x8x2048x2048_S8x8x2048_d3 h_S_ hr (.inl rfl) rfl) (ix3 b h q)).trans ?_
    refine (Ideal.multiReduction_maximumf_single _ _ hr (.inl rfl) rfl (ix3 b h q)).trans ?_
    have e : ∀ j : Fin 2048, hr.lift (ix3 b h q) j = ix4 b h q j := fun j => funext fun a => Fin.ext (by
      match a with | ⟨0, _⟩ => rfl | ⟨1, _⟩ => rfl | ⟨2, _⟩ => rfl | ⟨3, _⟩ => rfl)
    exact congrArg₂ (fun (a : EReal) (f : Fin 2048 → EReal) => Finset.univ.fold max a f) bot_word
      (funext fun j => (congrArg (val_main_v69 (F := Ideal) x0 x1 x2 x3) (e j)).trans (score_apply x0 x1 x2 x3 b h q j))
  rw [val_main_v72_apply, h70, val_main_v71_apply]
  show max (Ideal.ofBits .f32 0xFF800000#32) _ = _
  rw [bot_word]
  exact max_eq_right bot_le

theorem exp_apply (b h : Fin 8) (q k : Fin 2048) : val_main_v76 (F := Ideal) x0 x1 x2 x3 (ix4 b h q k)
    = Ideal.exp (sc x0 x1 x2 x3 b h q k - top (sc x0 x1 x2 x3 b h q)) := by
  have e : idx_main_v73 (idx_main_v74 (ix4 b h q k)) = ix3 b h q := funext fun a => Fin.ext (by match a with | ⟨0, _⟩ => rfl | ⟨1, _⟩ => rfl | ⟨2, _⟩ => rfl)
  rw [val_main_v76_apply, val_main_v75_apply, score_apply, val_main_v74_apply, val_main_v73_apply, e, top_apply]
  rfl

theorem weight_apply (b h : Fin 8) (q k : Fin 2048) : val_main_v80 (F := Ideal) x0 x1 x2 x3 (ix4 b h q k)
    = Ideal.div (Ideal.exp (sc x0 x1 x2 x3 b h q k - top (sc x0 x1 x2 x3 b h q)))
      (∑ j, Ideal.exp (sc x0 x1 x2 x3 b h q j - top (sc x0 x1 x2 x3 b h q))) := by
  have e : ∀ j, idx_main_v77 (idx_main_v78 (idx_main_v79 (ix4 b h q k))) j = ix4 b h q j := fun j => funext fun a => Fin.ext (by
    match a with | ⟨0, _⟩ => rfl | ⟨1, _⟩ => rfl | ⟨2, _⟩ => rfl | ⟨3, _⟩ => rfl)
  have hs : ∑ j, val_main_v76 (F := Ideal) x0 x1 x2 x3 (idx_main_v77 (idx_main_v78 (idx_main_v79 (ix4 b h q k))) j)
      = ∑ j, Ideal.exp (sc x0 x1 x2 x3 b h q j - top (sc x0 x1 x2 x3 b h q)) := Finset.sum_congr rfl fun j _ => by rw [e, exp_apply]
  have hz : val_main_cst_18 (F := Ideal) (Shape.Idx.first h_S_) = (0 : EReal) := Ideal.ofBits_zero_f32
  rw [val_main_v80_apply, exp_apply, val_main_v79_apply, val_main_v78_apply, val_main_v77_apply, hs, hz, zero_add]
  rfl

theorem att_apply (b : Fin 8) (s : Fin 2048) (h : Fin 8) (d : Fin 128) : val_main_v82 (F := Ideal) x0 x1 x2 x3 (ix4 b s h d)
    = att (sc x0 x1 x2 x3 b h s) (fun k => col x0 4 b k h d) := by
  have e1 : ∀ k, lidx_main_v81 (idx_main_v82 (ix4 b s h d)) k = ix4 b k h d := fun d => funext fun a => Fin.ext (by
    match a with | ⟨0, _⟩ => rfl | ⟨1, _⟩ => rfl | ⟨2, _⟩ => rfl | ⟨3, _⟩ => rfl)
  have e2 : ∀ k, ridx_main_v81 (idx_main_v82 (ix4 b s h d)) k = ix4 b h s k := fun d => funext fun a => Fin.ext (by
    match a with | ⟨0, _⟩ => rfl | ⟨1, _⟩ => rfl | ⟨2, _⟩ => rfl | ⟨3, _⟩ => rfl)
  rw [val_main_v82_apply, val_main_v81_apply]
  unfold att
  exact Finset.sum_congr rfl fun k _ => by rw [e1, e2, v_apply, weight_apply]; exact mul_comm _ _

theorem silu_apply (i : S8x2048x1024.Idx) : val_main_v84 (F := Ideal) x0 i = silu (val_main_v4 (F := Ideal) x0 i) := by
  have h1 : (FloatOps.ofBits .f32 0x3F800000#32 : Ideal .f32) = (1 : EReal) := Ideal.ofBits_one_f32
  have e2 : val_main_call4_v2 (F := Ideal) i = (1 : EReal) := by rw [val_main_call4_v2_apply]; exact h1
  have e4 : val_main_call4_v4 (F := Ideal) i = (1 : EReal) := by rw [val_main_call4_v4_apply]; exact h1
  rw [val_main_v84_apply, val_main_call4_v5_apply, val_main_call4_v3_apply, e2, e4, val_main_call4_v1_apply, val_main_call4_v0_apply]
  rfl

theorem out_apply (b : Fin 8) (s : Fin 2048) (h : Fin 8) (d : Fin 128) : val_main_v86 (F := Ideal) x0 x1 x2 x3 (at3 b s h d) = out x0 x1 x2 x3 b s h d := by
  have e : idx_main_v83 (at3 b s h d) = ix4 b s h d := funext fun a => Fin.ext (by
    match a with
    | ⟨0, _⟩ => show ((b.val * 2048 + s.val) * 1024 + (128 * h.val + d.val)) / 2097152 = b.val; omega
    | ⟨1, _⟩ => show ((b.val * 2048 + s.val) * 1024 + (128 * h.val + d.val)) / 1024 % 2048 = s.val; omega
    | ⟨2, _⟩ => show ((b.val * 2048 + s.val) * 1024 + (128 * h.val + d.val)) / 128 % 8 = h.val; omega
    | ⟨3, _⟩ => show ((b.val * 2048 + s.val) * 1024 + (128 * h.val + d.val)) % 128 = d.val; omega)
  rw [val_main_v86_apply, val_main_v85_apply, val_main_v83_apply, e, att_apply, silu_apply, z_apply]
  rfl

theorem key_apply (b : Fin 8) (s : Fin 512) (h : Fin 8) (d : Fin 128) :
    val_main_v88 (F := Ideal) x0 x3 (ix3 b s (⟨128 * h.val + d.val, by omega⟩ : Fin 1024)) = key x0 x3 b s h d := by
  have e : idx_main_v87 (idx_main_v88 (ix3 b s (⟨128 * h.val + d.val, by omega⟩ : Fin 1024))) = ix4 b (⟨1536 + s.val, by omega⟩ : Fin 2048) h d := funext fun a => Fin.ext (by
    match a with
    | ⟨0, _⟩ => show ((b.val * 512 + s.val) * 1024 + (128 * h.val + d.val)) / 524288 = b.val; omega
    | ⟨1, _⟩ => show 1536 + ((b.val * 512 + s.val) * 1024 + (128 * h.val + d.val)) / 1024 % 512 = 1536 + s.val; omega
    | ⟨2, _⟩ => show ((b.val * 512 + s.val) * 1024 + (128 * h.val + d.val)) / 128 % 8 = h.val; omega
    | ⟨3, _⟩ => show ((b.val * 512 + s.val) * 1024 + (128 * h.val + d.val)) % 128 = d.val; omega)
  rw [val_main_v88_apply, val_main_v87_apply, e, kn_apply]
  rfl

end Cert.BandRefIdeal.Stage

end
-- ==== Proof.BandClaims.lean ====
/-
  The banded attention's claims: its three programs run and leave their arguments as they found them, and the gated
  attention and the band's keys are the reference's.
-/
module

public import proofs.«01_k».proof.Defs
public import proofs.«01_k».proof.Proof.Gen.Band.Frame
public import proofs.«01_k».proof.Proof.Gen.BandIdeal.Value
public import proofs.«01_k».proof.Proof.Gen.BandRefIdeal.Run
public import proofs.«01_k».proof.Proof.Gen.Pre_finite_band
public import proofs.«01_k».proof.Proof.BandHost
public import proofs.«01_k».proof.Proof.BandRef
public import Idealize.ShloMosaic.Lib.Quiescent
public import Idealize.ShloMosaic.Lib.ReduceAll

@[expose] public section

set_option maxRecDepth 65536

noncomputable section

open Idealize.ShloMosaic Idealize.ShloMosaic.ValueIdx Idealize.ShloMosaic.TcCoe Idealize.SL.Sem

namespace Cert.Proof.BandClaims

open Cert.BandSpec

theorem frame_p : Cert.quiescent_Band := fun m ρ _ => Cert.Band.Gen.frame m ρ
theorem frame_pi : Cert.quiescent_BandIdeal := fun m ρ _ => Cert.BandIdeal.Gen.frame m ρ
theorem frame_ri : Cert.quiescent_BandRefIdeal := fun m ρ _ =>
  (θ_run Cert.BandRefIdeal.defs _ _).mono (fun r h => ⟨fun c => (h c).2.2,
      Idealize.ShloMosaic.sem_eq_zero_of_no_sems (by decide) r.2⟩)
    (Cert.BandRefIdeal.Value.run (F := Ideal) m ρ)

theorem frame_pi_pre :
    letI := Cert.BandIdeal.Gen.facts; letI := Cert.Pre_finite_band.Gen.facts
    Cert.quiescent_BandIdeal_pre_finite_band := fun m ρ _ => Cert.BandIdeal.Gen.frame m ρ
theorem frame_ri_pre :
    letI := Cert.BandRefIdeal.Gen.facts; letI := Cert.Pre_finite_band.Gen.facts
    Cert.quiescent_BandRefIdeal_pre_finite_band := fun m ρ _ =>
  (θ_run Cert.BandRefIdeal.defs _ _).mono (fun r h => ⟨fun c => (h c).2.2,
      Idealize.ShloMosaic.sem_eq_zero_of_no_sems (by decide) r.2⟩)
    (Cert.BandRefIdeal.Value.run (F := Ideal) m ρ)

theorem preserves : Cert.preserves_Band_BandIdeal :=
  ⟨IdealRules.named_const.statement Cert.BandIdeal.κ "inv_sqrt_d" .f32 0x3DB504F3#32 (((Real.sqrt 128)⁻¹ : ℝ) : EReal) rfl,
    IdealRules.named_const.statement Cert.BandIdeal.κ "mask" .f32 0xF149F2CA#32 ⊥ rfl⟩

/-! ## The precondition, read -/

theorem infinity_word : (Ideal.ofBits .f32 0x7F800000#32 : EReal) = ⊤ := by
  simp [Ideal.ofBits, Ideal.ieee]

/-- A magnitude below infinity is a real's. -/
theorem real_of_lt (x : EReal) (h : Ideal.cmp .olt (max x (-x)) ⊤ = 1#1) : Real' x := by
  have hlt : max x (-x) < ⊤ := by
    by_contra hn
    have : Ideal.cmp .olt (max x (-x)) ⊤ = 0#1 := by simp [Ideal.cmp, hn]
    rw [this] at h
    exact absurd h (by decide)
  refine ⟨x.toReal, (EReal.coe_toReal (ne_of_lt (lt_of_le_of_lt (le_max_left _ _) hlt)) ?_).symm⟩
  rintro rfl
  have := lt_of_le_of_lt (le_max_right (⊥ : EReal) (-⊥)) hlt
  simp at this

theorem both {a b : BitVec 1} (h : a &&& b = 1#1) : a = 1#1 ∧ b = 1#1 := by
  revert a b
  decide

/-- An array every magnitude of which compares below infinity is an array of reals. -/
theorem real_all {S : Shape} (dims : List (Fin S.rank)) (x : FVec Ideal S .f32)
    (hb : Cert.Pre_finite_band.S_.BroadcastsInDim S (![] : Fin 0 → Fin S.rank)) (hr : S.ReducesTo dims Cert.Pre_finite_band.S_)
    (hp : 0 < Cert.Pre_finite_band.S_.numel)
    (e : Host.reduce IntOp.andi (cmpf .olt (Host.absf x) (broadcastInDim S ![] hb (constant Cert.Pre_finite_band.S_ .f32 0x7F800000#32 : FVec Ideal _ .f32)))
      (constantI Cert.Pre_finite_band.S_ 1 1#1) hr hp ix0 = 1#1) (i : S.Idx) : Real' (x i) := by
  haveI : Subsingleton Cert.Pre_finite_band.S_.Idx := ⟨fun a b => funext fun d => d.elim0⟩
  have e2 := Host.reduce_andi_all _ _ _ _ _ e i
  rw [cmpf_apply] at e2
  refine real_of_lt _ ?_
  rw [← infinity_word]
  refine Eq.trans ?_ e2
  refine congrArg₂ (Ideal.cmp .olt) rfl ?_
  have hc : (constant Cert.Pre_finite_band.S_ .f32 0x7F800000#32 : FVec Ideal Cert.Pre_finite_band.S_ .f32) ix0 = Ideal.ofBits .f32 0x7F800000#32 := rfl
  rw [← hc]
  exact (broadcastInDim_apply _ _ _ _ ix0 (fun a => a.elim0)).symm

/-- The precondition says the table and the gains are real. -/
theorem finite_of (P : FVec Ideal Cert.Pre_finite_band.S8x2048x22528 .f32) (B : FVec Ideal Cert.Pre_finite_band.S8x257 .f32)
    (gq gk : FVec Ideal Cert.Pre_finite_band.S128 .f32)
    (h : letI := Cert.Pre_finite_band.Gen.facts; Cert.Pre_finite_band.fn (F := Ideal) P B gq gk = fun _ => 1#1) : Finite B gq gk := by
  letI := Cert.Pre_finite_band.Gen.facts
  have e := congrFun h ix0
  unfold Cert.Pre_finite_band.fn at e
  dsimp only at e
  obtain ⟨e2, egk⟩ := both e
  obtain ⟨eb, egq⟩ := both e2
  exact ⟨real_all _ _ _ _ _ eb, real_all _ _ _ _ _ egq, real_all _ _ _ _ _ egk⟩

/-! ## The two programs' results -/

open Cert.BandIdeal.Stage (outAll keyAll)

theorem ref_out (P : (⟨Cert.BandRefIdeal.S8x2048x22528, .f32⟩ : BufTy).Contents (Elt Ideal)) (B : (⟨Cert.BandRefIdeal.S8x257, .f32⟩ : BufTy).Contents (Elt Ideal))
    (gq gk : (⟨Cert.BandRefIdeal.S128, .f32⟩ : BufTy).Contents (Elt Ideal)) : Cert.BandRefIdeal.Read.val_main_v86 (F := Ideal) P B gq gk = outAll P B gq gk := funext fun y => by
  have h2 : (y 2).val < 1024 := (y 2).isLt
  have hy : y = Cert.BandRefIdeal.Stage.at3 (y 0) (y 1) (⟨(y 2).val / 128, by omega⟩ : Fin 8) (⟨(y 2).val % 128, by omega⟩ : Fin 128) := funext fun a => Fin.ext (by
    match a with
    | ⟨0, _⟩ => rfl
    | ⟨1, _⟩ => rfl
    | ⟨2, _⟩ => show (y 2).val = 128 * ((y 2).val / 128) + (y 2).val % 128; omega)
  refine (congrArg (Cert.BandRefIdeal.Read.val_main_v86 (F := Ideal) P B gq gk) hy).trans ?_
  exact Cert.BandRefIdeal.Stage.out_apply P B gq gk _ _ _ _

theorem ref_key (P : (⟨Cert.BandRefIdeal.S8x2048x22528, .f32⟩ : BufTy).Contents (Elt Ideal))
    (gk : (⟨Cert.BandRefIdeal.S128, .f32⟩ : BufTy).Contents (Elt Ideal)) : Cert.BandRefIdeal.Read.val_main_v88 (F := Ideal) P gk = keyAll P gk := funext fun y => by
  have h2 : (y 2).val < 1024 := (y 2).isLt
  have hy : y = ix3 (y 0) (y 1) (⟨128 * ((y 2).val / 128) + (y 2).val % 128, by omega⟩ : Fin 1024) := funext fun a => Fin.ext (by
    match a with
    | ⟨0, _⟩ => rfl
    | ⟨1, _⟩ => rfl
    | ⟨2, _⟩ => show (y 2).val = 128 * ((y 2).val / 128) + (y 2).val % 128; omega)
  refine (congrArg (Cert.BandRefIdeal.Read.val_main_v88 (F := Ideal) P gk) hy).trans ?_
  exact Cert.BandRefIdeal.Stage.key_apply P gk (y 0) (y 1) (⟨(y 2).val / 128, by omega⟩ : Fin 8) (⟨(y 2).val % 128, by omega⟩ : Fin 128)

section Kernel

open Cert.BandIdeal Cert.BandIdeal.Gen Cert.BandIdeal.Stage

variable (m : (ℓ : Loc nD τ sig) → Buf (Elt Ideal) ℓ) (c : Dev nD)

theorem unit_apply (g : S128.Idx → EReal) (d : Fin 128) : shapeCast S1x128 g shapeCasts_S128_S1x128 (ix2 (0 : Fin 1) d) = g (ix1 d) := by
  refine shapeCast_apply g shapeCasts_S128_S1x128 _ _ ?_
  rw [Shape.rowMajor_val_one, Shape.rowMajor_val_two]
  show d.val = 0 * 128 + d.val
  omega

theorem kernel_out (H : Finite (m ((c : Thread nD τ).loc main_arg1)) (m ((c : Thread nD τ).loc main_arg2)) (m ((c : Thread nD τ).loc main_arg3))) :
    (dats m 0 c).arrAt 9 cfg0.N = outAll (m ((c : Thread nD τ).loc main_arg0)) (m ((c : Thread nD τ).loc main_arg1)) (m ((c : Thread nD τ).loc main_arg2)) (m ((c : Thread nD τ).loc main_arg3)) := by
  rw [← V_main_arg0 m c]
  exact arr9 m c H (fun h r j => by rw [entry_bias m c]; exact biasOf_apply _ h r j) (fun d => by rw [entry_gq m c]; exact unit_apply _ d)
    (fun d => by rw [entry_gk m c]; exact unit_apply _ d)

theorem kernel_key : (dats m 0 c).arrAt 10 cfg0.N = keyAll (m ((c : Thread nD τ).loc main_arg0)) (m ((c : Thread nD τ).loc main_arg3)) := by
  rw [← V_main_arg0 m c]
  exact arr10 m c (fun d => by rw [entry_gk m c]; exact unit_apply _ d)

end Kernel

/-- Both programs leave the gated banded attention and the band's keys. -/
theorem algebraic :
    letI := Cert.BandIdeal.Gen.facts; letI := Cert.BandRefIdeal.Gen.facts; letI := Cert.Pre_finite_band.Gen.facts
    Cert.algebraic_BandIdeal_BandRefIdeal_pre_finite_band := by
  intro m ρ m' ρ' hpre hag
  refine ⟨fun c => outAll (m ((c.tc : Thread Cert.BandIdeal.nD Cert.BandIdeal.τ).loc Cert.BandIdeal.main_arg0))
      (m ((c.tc : Thread Cert.BandIdeal.nD Cert.BandIdeal.τ).loc Cert.BandIdeal.main_arg1))
      (m ((c.tc : Thread Cert.BandIdeal.nD Cert.BandIdeal.τ).loc Cert.BandIdeal.main_arg2))
      (m ((c.tc : Thread Cert.BandIdeal.nD Cert.BandIdeal.τ).loc Cert.BandIdeal.main_arg3)),
    fun c => keyAll (m ((c.tc : Thread Cert.BandIdeal.nD Cert.BandIdeal.τ).loc Cert.BandIdeal.main_arg0))
      (m ((c.tc : Thread Cert.BandIdeal.nD Cert.BandIdeal.τ).loc Cert.BandIdeal.main_arg3)), ?_, ?_⟩
  · refine (θ_run Cert.BandIdeal.defs _ _).mono (fun r h c => ?_) (Cert.BandIdeal.Value.run_blocks (F := Ideal) m ρ)
    obtain ⟨h0, h1, ha⟩ := h c
    exact ⟨h0.trans (kernel_out m c (finite_of _ _ _ _ (hpre c))), h1.trans (kernel_key m c), ha⟩
  · refine (θ_run Cert.BandRefIdeal.defs _ _).mono (fun r h c => ?_) (Cert.BandRefIdeal.Value.run (F := Ideal) m' ρ')
    obtain ⟨h0, h1, ha⟩ := h c
    obtain ⟨g0, g1, g2, g3⟩ := hag c
    refine ⟨h0.trans ?_, h1.trans ?_, ha⟩
    · rw [Cert.BandRefIdeal.Read.val_main_v86_eq, g0, g1, g2, g3]
      exact ref_out _ _ _ _
    · rw [Cert.BandRefIdeal.Read.val_main_v88_eq, g0, g3]
      exact ref_key _ _

end Cert.Proof.BandClaims

end
-- ==== Proof.SampleBandSpec.lean ====
/-
  The banded attention over the cached keys as a function of its arguments.
-/
module

public import proofs.«01_k».proof.Proof.BandSpec

@[expose] public section

set_option maxRecDepth 65536

noncomputable section

namespace Cert.SampleBandSpec

open Idealize.ShloMosaic Idealize.ShloMosaic.ValueIdx
open Cert.BandMath Cert.BandSpec
open scoped BigOperators

abbrev New := (⟨3, ![8, 16, 22528]⟩ : Shape).Idx → EReal
abbrev Cache := (⟨5, ![2, 8, 512, 8, 128]⟩ : Shape).Idx → EReal

/-- A column of the projection. -/
def col (x : New) (o : Fin 21) (b : Fin 8) (s : Fin 16) (h : Fin 8) (d : Fin 128) : EReal :=
  x (ix3 b s ⟨1024 * o.val + (128 * h.val + d.val), by omega⟩)

/-- A cached row. -/
def past (C : Cache) (b : Fin 8) (k : Fin 512) (h : Fin 8) (d : Fin 128) : EReal := C (ix5 (0 : Fin 2) b k h d)

/-- The keys: the cached ones, then the new ones, normed. -/
def keyAt (x : New) (C : Cache) (gk : Gain) (b h : Fin 8) (k : Fin 528) : Fin 128 → EReal :=
  if hk : k.val < 512 then past C b ⟨k.val, hk⟩ h else nrm (col x 3 b ⟨k.val - 512, by omega⟩ h) gk

/-- The values: the cached ones, then the new ones. -/
def valAt (x : New) (C : Cache) (b h : Fin 8) (k : Fin 528) : Fin 128 → EReal :=
  if hk : k.val < 512 then past C b ⟨k.val, hk⟩ h else col x 4 b ⟨k.val - 512, by omega⟩ h

/-- The score of a query and a key. -/
def sc (x : New) (C : Cache) (B : Bias) (gq gk : Gain) (b h : Fin 8) (q : Fin 16) (k : Fin 528) : EReal :=
  dotp (nrm (col x 2 b q h) gq) (keyAt x C gk b h k) + B (ix2 h (rel (512 + q.val) k.val))

/-- The gated attention. -/
def out (x : New) (C D : Cache) (B : Bias) (gq gk : Gain) (b : Fin 8) (s : Fin 16) (h : Fin 8) (d : Fin 128) : EReal :=
  att (sc x C B gq gk b h s) (fun k => valAt x D b h k d) * silu (col x 5 b s h d)

/-- The new keys, normed. -/
def key (x : New) (gk : Gain) (b : Fin 8) (s : Fin 16) (h : Fin 8) (d : Fin 128) : EReal := nrm (col x 3 b s h) gk d

/-- The cached keys, the table and the gains are finite. -/
structure Finite' (C : Cache) (B : Bias) (gq gk : Gain) : Prop where
  cache : ∀ b k h d, Real' (past C b k h d)
  rest : Finite B gq gk

theorem sc_real {x : New} {C : Cache} {B : Bias} {gq gk : Gain} (H : Finite' C B gq gk) (b h : Fin 8) (q : Fin 16) (k : Fin 528) :
    Real' (sc x C B gq gk b h q k) := by
  refine add_real _ _ (dotp_real _ _ (nrm_real _ _ H.rest.gq) fun d => ?_) (H.rest.bias _)
  unfold keyAt
  split_ifs with hk
  · exact H.cache _ _ _ _
  · exact nrm_real _ _ H.rest.gk d

/-- The weighted values of two runs of scores, divided at the end. -/
def win2 {m n : ℕ} (s v : Fin m → EReal) (s' v' : Fin n → EReal) : EReal :=
  Ideal.div ((∑ k, Ideal.exp (s k - max (top s) (top s')) * v k) + ∑ k, Ideal.exp (s' k - max (top s) (top s')) * v' k)
    ((∑ k, Ideal.exp (s k - max (top s) (top s'))) + ∑ k, Ideal.exp (s' k - max (top s) (top s')))

theorem win2_eq {m n : ℕ} (s v : Fin (m + n) → EReal) :
    win2 (fun k : Fin m => s (Fin.castAdd n k)) (fun k => v (Fin.castAdd n k)) (fun k : Fin n => s (Fin.natAdd m k)) (fun k => v (Fin.natAdd m k)) = win s v := by
  have ht : max (top fun k : Fin m => s (Fin.castAdd n k)) (top fun k : Fin n => s (Fin.natAdd m k)) = top s := by
    rw [top_eq_sup, top_eq_sup, top_eq_sup]
    refine le_antisymm (max_le (Finset.sup_le fun c _ => Finset.le_sup (f := s) (Finset.mem_univ _)) (Finset.sup_le fun c _ => Finset.le_sup (f := s) (Finset.mem_univ _)))
      (Finset.sup_le fun c _ => ?_)
    refine Fin.addCases (motive := fun c => s c ≤ _) (fun k => ?_) (fun k => ?_) c
    · exact le_trans (Finset.le_sup (f := fun k : Fin m => s (Fin.castAdd n k)) (Finset.mem_univ k)) (le_max_left _ _)
    · exact le_trans (Finset.le_sup (f := fun k : Fin n => s (Fin.natAdd m k)) (Finset.mem_univ k)) (le_max_right _ _)
  unfold win2 win
  rw [ht, Fin.sum_univ_add, Fin.sum_univ_add]

/-- Two runs, one after the other. -/
def join {m n : ℕ} (a : Fin m → EReal) (b : Fin n → EReal) (c : Fin (m + n)) : EReal :=
  if h : c.val < m then a ⟨c.val, h⟩ else b ⟨c.val - m, by have := c.isLt; omega⟩

theorem join_lt {m n : ℕ} (a : Fin m → EReal) (b : Fin n → EReal) (c : Fin (m + n)) (h : c.val < m) : join a b c = a ⟨c.val, h⟩ := dif_pos h

theorem join_ge {m n : ℕ} (a : Fin m → EReal) (b : Fin n → EReal) (c : Fin (m + n)) (h : ¬ c.val < m) :
    join a b c = b ⟨c.val - m, by have := c.isLt; omega⟩ := dif_neg h

theorem win2_join {m n : ℕ} (s v : Fin m → EReal) (s' v' : Fin n → EReal) : win2 s v s' v' = win (join s s') (join v v') := by
  have l : ∀ (a : Fin m → EReal) (b : Fin n → EReal), (fun k : Fin m => join a b (Fin.castAdd n k)) = a := fun a b =>
    funext fun k => join_lt a b _ k.isLt
  have r : ∀ (a : Fin m → EReal) (b : Fin n → EReal), (fun k : Fin n => join a b (Fin.natAdd m k)) = b := fun a b =>
    funext fun k => (join_ge a b _ (by show ¬ m + k.val < m; omega)).trans
      (congrArg b (Fin.ext (by show m + k.val - m = k.val; omega)))
  have e := win2_eq (join s s') (join v v')
  rw [l, l, r, r] at e
  exact e

/-- The cached keys' scores, then the new keys' with the rest masked, have the row's softmax. -/
theorem window {x : New} {C : Cache} {B : Bias} {gq gk : Gain} (H : Finite' C B gq gk) (b h : Fin 8) (q : Fin 16)
    (s v : Fin 512 → EReal) (s' v' : Fin 128 → EReal) (u : Fin 528 → EReal)
    (hs : ∀ c : Fin 512, s c = sc x C B gq gk b h q ⟨c.val, by omega⟩) (hv : ∀ c : Fin 512, v c = u ⟨c.val, by omega⟩)
    (hs' : ∀ (c : Fin 128) (hc : c.val < 16), s' c = sc x C B gq gk b h q ⟨512 + c.val, by omega⟩)
    (hv' : ∀ (c : Fin 128) (hc : c.val < 16), v' c = u ⟨512 + c.val, by omega⟩)
    (hm : ∀ c : Fin 128, ¬ c.val < 16 → s' c = ⊥) : win2 s v s' v' = att (sc x C B gq gk b h q) u := by
  rw [win2_join]
  obtain ⟨r0, hr0⟩ := sc_real (x := x) H b h q ⟨0, by omega⟩
  refine win_window (sc x C B gq gk b h q) u _ _ (fun k c => k.val = c.val) (fun k c c' h1 h2 => Fin.ext (by omega))
    (fun k k' c h1 h2 => Fin.ext (by omega)) (fun k c hkc => ?_) (fun k c hkc => ?_) (fun k _ => ?_) (fun c hc => ?_)
    (fun k => Or.inr (sc_real H b h q k)) ⟨⟨0, by omega⟩, by rw [hr0]; exact EReal.coe_ne_bot _⟩
  · by_cases hc : c.val < 512
    · rw [join_lt s s' c hc, hs]
      exact congrArg _ (Fin.ext hkc.symm)
    · have hk := k.isLt
      rw [join_ge s s' c hc, hs' _ (by show c.val - 512 < 16; omega)]
      exact congrArg _ (Fin.ext (by show 512 + (c.val - 512) = k.val; omega))
  · by_cases hc : c.val < 512
    · rw [join_lt v v' c hc, hv]
      exact congrArg _ (Fin.ext hkc.symm)
    · have hk := k.isLt
      rw [join_ge v v' c hc, hv' _ (by show c.val - 512 < 16; omega)]
      exact congrArg _ (Fin.ext (by show 512 + (c.val - 512) = k.val; omega))
  · have hk := k.isLt
    exact ⟨⟨k.val, by omega⟩, rfl⟩
  · by_cases h1 : c.val < 512
    · exact ⟨⟨c.val, by omega⟩, rfl⟩
    · by_cases h2 : c.val - 512 < 16
      · exact ⟨⟨c.val, by omega⟩, rfl⟩
      · exact absurd ((join_ge s s' c h1).trans (hm _ h2)) hc

end Cert.SampleBandSpec

end
-- ==== Proof.SampleBandPieces.lean ====
/-
  The kernel of the banded attention over the cached keys: the sixteen rows of each head, as one function of what is read.
-/
module

public import Idealize.ShloMosaic.Lib.ValueIdx
public import proofs.«01_k».proof.Proof.Gen.SampleBandIdeal.Value

@[expose] public section

set_option maxRecDepth 65536
noncomputable section

namespace Cert.SampleBandIdeal.Stage

open Idealize.ShloMosaic
open Idealize.ShloMosaic.ValueIdx
open Cert.SampleBandIdeal Cert.SampleBandIdeal.Gen

section Pieces
variable {F : FTy → Type} [FloatOps F] [Named F]

/-- What a strided read of an array finds. -/
def lines {Val : EltTy → Type} {s : Shape} {e : EltTy} (x : s.Idx → Val e) (r : LoadRect s) : r.shape.Idx → Val e := fun i => x (r.idx i)

theorem readAt_lines {Val : EltTy → Type} {sig : RefSig} {κ : Kind} {sp : Space} {s : Shape} {e : EltTy} (v : View sig κ sp s e) (f : v.ty.Contents Val)
    (r : LoadRect s) : v.readAt Val r f = lines (v.read Val f) r := rfl

/-- One head's rows of the gated attention. -/
def headOut (q : Vec F S1x16x128 .f32) (g : Vec F S1x128 .f32) (k : Vec F S1x16x128 .f32) (g' : Vec F S1x128 .f32) (v : Vec F S1x16x128 .f32)
    (ck : Vec F S1x1x512x128 .f32) (bp : Vec F S1x16x512 .f32) (bc : Vec F S1x16x128 .f32) (cv : Vec F S1x1x512x128 .f32) (z : Vec F S1x16x128 .f32) :
    FVec F S1x16x128 .bf16 :=
  k0_pay15 (k0_pay7 k0_pay2 v) (k0_pay12 (k0_pay3 q g) (k0_pay6 k g') ck bp bc) (k0_pay13 (k0_pay3 q g) (k0_pay6 k g') ck bp bc)
    (k0_pay14 (k0_pay3 q g) (k0_pay6 k g') ck bp bc) cv z

variable (c : Dev nD) (i : grid0.Coords) (arg1 : Memref sig .tc .vmem S1x16x1024 .f32) (harg1 : arg1.IsWhole)
  (arg2 : Memref sig .tc .vmem S1x16x1024 .f32) (harg2 : arg2.IsWhole) (arg3 : Memref sig .tc .vmem S1x16x1024 .f32) (harg3 : arg3.IsWhole)
  (arg4 : Memref sig .tc .vmem S1x1x4096x128 .f32) (harg4 : arg4.IsWhole) (arg5 : Memref sig .tc .vmem S1x1x4096x128 .f32) (harg5 : arg5.IsWhole)
  (arg6 : Memref sig .tc .vmem S1x16x1024 .f32) (harg6 : arg6.IsWhole) (arg7 : Memref sig .tc .vmem S8x16x640 .f32) (harg7 : arg7.IsWhole)
  (arg8 : Memref sig .tc .vmem S1x128 .f32) (harg8 : arg8.IsWhole) (arg9 : Memref sig .tc .vmem S1x128 .f32) (harg9 : arg9.IsWhole)
  (arg10 : Memref sig .tc .vmem S1x16x1024 .bf16) (harg10 : arg10.IsWhole) (arg11 : Memref sig .tc .vmem S1x16x1024 .f32) (harg11 : arg11.IsWhole)
  (x0 x1 x2 : Vec F S1x16x1024 .f32) (x3 x4 : Vec F S1x1x4096x128 .f32) (x5 : Vec F S1x16x1024 .f32) (x6 : Vec F S8x16x640 .f32)
  (x7 x8 : Vec F S1x128 .f32)

theorem pieces : (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8).1 =
    [⟨(Rect.unit ![0, 0, 896] ![1, 16, 128] inb_S1x16x1024_S1x16x128_0_0_896), headOut (View.ld x0 (Rect.unit ![0, 0, 896] ![1, 16, 128] inb_S1x16x1024_S1x16x128_0_0_896)) (View.ld x7 (Rect.unit ![0, 0] ![1, 128] inb_S1x128_S1x128_0_0)) (View.ld x1 (Rect.unit ![0, 0, 896] ![1, 16, 128] inb_S1x16x1024_S1x16x128_0_0_896)) (View.ld x8 (Rect.unit ![0, 0] ![1, 128] inb_S1x128_S1x128_0_0)) (View.ld x2 (Rect.unit ![0, 0, 896] ![1, 16, 128] inb_S1x16x1024_S1x16x128_0_0_896))
        (lines x3 (LoadRect.mk ![0, 0, 7, 0] ![1, 1, 512, 128] ![1, 1, 8, 1] inb_S1x1x4096x128_S1x1x512x128_0_0_7_0_s_1_1_8_1)) (View.ld x6 (Rect.unit ![7, 0, 0] ![1, 16, 512] inb_S8x16x640_S1x16x512_7_0_0)) (View.ld x6 (Rect.unit ![7, 0, 512] ![1, 16, 128] inb_S8x16x640_S1x16x128_7_0_512))
        (lines x4 (LoadRect.mk ![0, 0, 7, 0] ![1, 1, 512, 128] ![1, 1, 8, 1] inb_S1x1x4096x128_S1x1x512x128_0_0_7_0_s_1_1_8_1)) (View.ld x5 (Rect.unit ![0, 0, 896] ![1, 16, 128] inb_S1x16x1024_S1x16x128_0_0_896))⟩,
      ⟨(Rect.unit ![0, 0, 768] ![1, 16, 128] inb_S1x16x1024_S1x16x128_0_0_768), headOut (View.ld x0 (Rect.unit ![0, 0, 768] ![1, 16, 128] inb_S1x16x1024_S1x16x128_0_0_768)) (View.ld x7 (Rect.unit ![0, 0] ![1, 128] inb_S1x128_S1x128_0_0)) (View.ld x1 (Rect.unit ![0, 0, 768] ![1, 16, 128] inb_S1x16x1024_S1x16x128_0_0_768)) (View.ld x8 (Rect.unit ![0, 0] ![1, 128] inb_S1x128_S1x128_0_0)) (View.ld x2 (Rect.unit ![0, 0, 768] ![1, 16, 128] inb_S1x16x1024_S1x16x128_0_0_768))
        (lines x3 (LoadRect.mk ![0, 0, 6, 0] ![1, 1, 512, 128] ![1, 1, 8, 1] inb_S1x1x4096x128_S1x1x512x128_0_0_6_0_s_1_1_8_1)) (View.ld x6 (Rect.unit ![6, 0, 0] ![1, 16, 512] inb_S8x16x640_S1x16x512_6_0_0)) (View.ld x6 (Rect.unit ![6, 0, 512] ![1, 16, 128] inb_S8x16x640_S1x16x128_6_0_512))
        (lines x4 (LoadRect.mk ![0, 0, 6, 0] ![1, 1, 512, 128] ![1, 1, 8, 1] inb_S1x1x4096x128_S1x1x512x128_0_0_6_0_s_1_1_8_1)) (View.ld x5 (Rect.unit ![0, 0, 768] ![1, 16, 128] inb_S1x16x1024_S1x16x128_0_0_768))⟩,
      ⟨(Rect.unit ![0, 0, 640] ![1, 16, 128] inb_S1x16x1024_S1x16x128_0_0_640), headOut (View.ld x0 (Rect.unit ![0, 0, 640] ![1, 16, 128] inb_S1x16x1024_S1x16x128_0_0_640)) (View.ld x7 (Rect.unit ![0, 0] ![1, 128] inb_S1x128_S1x128_0_0)) (View.ld x1 (Rect.unit ![0, 0, 640] ![1, 16, 128] inb_S1x16x1024_S1x16x128_0_0_640)) (View.ld x8 (Rect.unit ![0, 0] ![1, 128] inb_S1x128_S1x128_0_0)) (View.ld x2 (Rect.unit ![0, 0, 640] ![1, 16, 128] inb_S1x16x1024_S1x16x128_0_0_640))
        (lines x3 (LoadRect.mk ![0, 0, 5, 0] ![1, 1, 512, 128] ![1, 1, 8, 1] inb_S1x1x4096x128_S1x1x512x128_0_0_5_0_s_1_1_8_1)) (View.ld x6 (Rect.unit ![5, 0, 0] ![1, 16, 512] inb_S8x16x640_S1x16x512_5_0_0)) (View.ld x6 (Rect.unit ![5, 0, 512] ![1, 16, 128] inb_S8x16x640_S1x16x128_5_0_512))
        (lines x4 (LoadRect.mk ![0, 0, 5, 0] ![1, 1, 512, 128] ![1, 1, 8, 1] inb_S1x1x4096x128_S1x1x512x128_0_0_5_0_s_1_1_8_1)) (View.ld x5 (Rect.unit ![0, 0, 640] ![1, 16, 128] inb_S1x16x1024_S1x16x128_0_0_640))⟩,
      ⟨(Rect.unit ![0, 0, 512] ![1, 16, 128] inb_S1x16x1024_S1x16x128_0_0_512), headOut (View.ld x0 (Rect.unit ![0, 0, 512] ![1, 16, 128] inb_S1x16x1024_S1x16x128_0_0_512)) (View.ld x7 (Rect.unit ![0, 0] ![1, 128] inb_S1x128_S1x128_0_0)) (View.ld x1 (Rect.unit ![0, 0, 512] ![1, 16, 128] inb_S1x16x1024_S1x16x128_0_0_512)) (View.ld x8 (Rect.unit ![0, 0] ![1, 128] inb_S1x128_S1x128_0_0)) (View.ld x2 (Rect.unit ![0, 0, 512] ![1, 16, 128] inb_S1x16x1024_S1x16x128_0_0_512))
        (lines x3 (LoadRect.mk ![0, 0, 4, 0] ![1, 1, 512, 128] ![1, 1, 8, 1] inb_S1x1x4096x128_S1x1x512x128_0_0_4_0_s_1_1_8_1)) (View.ld x6 (Rect.unit ![4, 0, 0] ![1, 16, 512] inb_S8x16x640_S1x16x512_4_0_0)) (View.ld x6 (Rect.unit ![4, 0, 512] ![1, 16, 128] inb_S8x16x640_S1x16x128_4_0_512))
        (lines x4 (LoadRect.mk ![0, 0, 4, 0] ![1, 1, 512, 128] ![1, 1, 8, 1] inb_S1x1x4096x128_S1x1x512x128_0_0_4_0_s_1_1_8_1)) (View.ld x5 (Rect.unit ![0, 0, 512] ![1, 16, 128] inb_S1x16x1024_S1x16x128_0_0_512))⟩,
      ⟨(Rect.unit ![0, 0, 384] ![1, 16, 128] inb_S1x16x1024_S1x16x128_0_0_384), headOut (View.ld x0 (Rect.unit ![0, 0, 384] ![1, 16, 128] inb_S1x16x1024_S1x16x128_0_0_384)) (View.ld x7 (Rect.unit ![0, 0] ![1, 128] inb_S1x128_S1x128_0_0)) (View.ld x1 (Rect.unit ![0, 0, 384] ![1, 16, 128] inb_S1x16x1024_S1x16x128_0_0_384)) (View.ld x8 (Rect.unit ![0, 0] ![1, 128] inb_S1x128_S1x128_0_0)) (View.ld x2 (Rect.unit ![0, 0, 384] ![1, 16, 128] inb_S1x16x1024_S1x16x128_0_0_384))
        (lines x3 (LoadRect.mk ![0, 0, 3, 0] ![1, 1, 512, 128] ![1, 1, 8, 1] inb_S1x1x4096x128_S1x1x512x128_0_0_3_0_s_1_1_8_1)) (View.ld x6 (Rect.unit ![3, 0, 0] ![1, 16, 512] inb_S8x16x640_S1x16x512_3_0_0)) (View.ld x6 (Rect.unit ![3, 0, 512] ![1, 16, 128] inb_S8x16x640_S1x16x128_3_0_512))
        (lines x4 (LoadRect.mk ![0, 0, 3, 0] ![1, 1, 512, 128] ![1, 1, 8, 1] inb_S1x1x4096x128_S1x1x512x128_0_0_3_0_s_1_1_8_1)) (View.ld x5 (Rect.unit ![0, 0, 384] ![1, 16, 128] inb_S1x16x1024_S1x16x128_0_0_384))⟩,
      ⟨(Rect.unit ![0, 0, 256] ![1, 16, 128] inb_S1x16x1024_S1x16x128_0_0_256), headOut (View.ld x0 (Rect.unit ![0, 0, 256] ![1, 16, 128] inb_S1x16x1024_S1x16x128_0_0_256)) (View.ld x7 (Rect.unit ![0, 0] ![1, 128] inb_S1x128_S1x128_0_0)) (View.ld x1 (Rect.unit ![0, 0, 256] ![1, 16, 128] inb_S1x16x1024_S1x16x128_0_0_256)) (View.ld x8 (Rect.unit ![0, 0] ![1, 128] inb_S1x128_S1x128_0_0)) (View.ld x2 (Rect.unit ![0, 0, 256] ![1, 16, 128] inb_S1x16x1024_S1x16x128_0_0_256))
        (lines x3 (LoadRect.mk ![0, 0, 2, 0] ![1, 1, 512, 128] ![1, 1, 8, 1] inb_S1x1x4096x128_S1x1x512x128_0_0_2_0_s_1_1_8_1)) (View.ld x6 (Rect.unit ![2, 0, 0] ![1, 16, 512] inb_S8x16x640_S1x16x512_2_0_0)) (View.ld x6 (Rect.unit ![2, 0, 512] ![1, 16, 128] inb_S8x16x640_S1x16x128_2_0_512))
        (lines x4 (LoadRect.mk ![0, 0, 2, 0] ![1, 1, 512, 128] ![1, 1, 8, 1] inb_S1x1x4096x128_S1x1x512x128_0_0_2_0_s_1_1_8_1)) (View.ld x5 (Rect.unit ![0, 0, 256] ![1, 16, 128] inb_S1x16x1024_S1x16x128_0_0_256))⟩,
      ⟨(Rect.unit ![0, 0, 128] ![1, 16, 128] inb_S1x16x1024_S1x16x128_0_0_128), headOut (View.ld x0 (Rect.unit ![0, 0, 128] ![1, 16, 128] inb_S1x16x1024_S1x16x128_0_0_128)) (View.ld x7 (Rect.unit ![0, 0] ![1, 128] inb_S1x128_S1x128_0_0)) (View.ld x1 (Rect.unit ![0, 0, 128] ![1, 16, 128] inb_S1x16x1024_S1x16x128_0_0_128)) (View.ld x8 (Rect.unit ![0, 0] ![1, 128] inb_S1x128_S1x128_0_0)) (View.ld x2 (Rect.unit ![0, 0, 128] ![1, 16, 128] inb_S1x16x1024_S1x16x128_0_0_128))
        (lines x3 (LoadRect.mk ![0, 0, 1, 0] ![1, 1, 512, 128] ![1, 1, 8, 1] inb_S1x1x4096x128_S1x1x512x128_0_0_1_0_s_1_1_8_1)) (View.ld x6 (Rect.unit ![1, 0, 0] ![1, 16, 512] inb_S8x16x640_S1x16x512_1_0_0)) (View.ld x6 (Rect.unit ![1, 0, 512] ![1, 16, 128] inb_S8x16x640_S1x16x128_1_0_512))
        (lines x4 (LoadRect.mk ![0, 0, 1, 0] ![1, 1, 512, 128] ![1, 1, 8, 1] inb_S1x1x4096x128_S1x1x512x128_0_0_1_0_s_1_1_8_1)) (View.ld x5 (Rect.unit ![0, 0, 128] ![1, 16, 128] inb_S1x16x1024_S1x16x128_0_0_128))⟩,
      ⟨(Rect.unit ![0, 0, 0] ![1, 16, 128] inb_S1x16x1024_S1x16x128_0_0_0), headOut (View.ld x0 (Rect.unit ![0, 0, 0] ![1, 16, 128] inb_S1x16x1024_S1x16x128_0_0_0)) (View.ld x7 (Rect.unit ![0, 0] ![1, 128] inb_S1x128_S1x128_0_0)) (View.ld x1 (Rect.unit ![0, 0, 0] ![1, 16, 128] inb_S1x16x1024_S1x16x128_0_0_0)) (View.ld x8 (Rect.unit ![0, 0] ![1, 128] inb_S1x128_S1x128_0_0)) (View.ld x2 (Rect.unit ![0, 0, 0] ![1, 16, 128] inb_S1x16x1024_S1x16x128_0_0_0))
        (lines x3 (LoadRect.mk ![0, 0, 0, 0] ![1, 1, 512, 128] ![1, 1, 8, 1] inb_S1x1x4096x128_S1x1x512x128_0_0_0_0_s_1_1_8_1)) (View.ld x6 (Rect.unit ![0, 0, 0] ![1, 16, 512] inb_S8x16x640_S1x16x512_0_0_0)) (View.ld x6 (Rect.unit ![0, 0, 512] ![1, 16, 128] inb_S8x16x640_S1x16x128_0_0_512))
        (lines x4 (LoadRect.mk ![0, 0, 0, 0] ![1, 1, 512, 128] ![1, 1, 8, 1] inb_S1x1x4096x128_S1x1x512x128_0_0_0_0_s_1_1_8_1)) (View.ld x5 (Rect.unit ![0, 0, 0] ![1, 16, 128] inb_S1x16x1024_S1x16x128_0_0_0))⟩] := by
  unfold kernelRun0_A
  dsimp only
  simp only [kernelRun0_A.sl.cst_163, kernelRun0_A.sl.cst_226, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_6, kernelRun0_A.sl.r_7, kernelRun0_A.sl.r_8, kernelRun0_A.sl.r_9, kernelRun0_A.sl.v133, kernelRun0_A.sl.v166, kernelRun0_A.sl.v225, kernelRun0_A.sl.v258, kernelRun0_A.sl.v317, kernelRun0_A.sl.v350, kernelRun0_A.sl.v409, kernelRun0_A.sl.v41, kernelRun0_A.sl.v442, kernelRun0_A.sl.v501, kernelRun0_A.sl.v534, kernelRun0_A.sl.v593, kernelRun0_A.sl.v626, kernelRun0_A.sl.v685, kernelRun0_A.sl.v718, kernelRun0_A.sl.v74, View.readAt_eq_ld,
    harg1.read_unread, harg2.read_unread, harg3.read_unread, harg4.read_unread, harg5.read_unread, harg6.read_unread, harg7.read_unread, harg8.read_unread, harg9.read_unread]
  simp only [readAt_lines, harg4.read_unread, harg5.read_unread]
  rfl

theorem pieces2 : (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8).2.1 =
    [⟨(Rect.unit ![0, 0, 896] ![1, 16, 128] inb_S1x16x1024_S1x16x128_0_0_896), k0_pay5 (View.ld x1 (Rect.unit ![0, 0, 896] ![1, 16, 128] inb_S1x16x1024_S1x16x128_0_0_896)) (View.ld x8 (Rect.unit ![0, 0] ![1, 128] inb_S1x128_S1x128_0_0))⟩,
      ⟨(Rect.unit ![0, 0, 768] ![1, 16, 128] inb_S1x16x1024_S1x16x128_0_0_768), k0_pay5 (View.ld x1 (Rect.unit ![0, 0, 768] ![1, 16, 128] inb_S1x16x1024_S1x16x128_0_0_768)) (View.ld x8 (Rect.unit ![0, 0] ![1, 128] inb_S1x128_S1x128_0_0))⟩,
      ⟨(Rect.unit ![0, 0, 640] ![1, 16, 128] inb_S1x16x1024_S1x16x128_0_0_640), k0_pay5 (View.ld x1 (Rect.unit ![0, 0, 640] ![1, 16, 128] inb_S1x16x1024_S1x16x128_0_0_640)) (View.ld x8 (Rect.unit ![0, 0] ![1, 128] inb_S1x128_S1x128_0_0))⟩,
      ⟨(Rect.unit ![0, 0, 512] ![1, 16, 128] inb_S1x16x1024_S1x16x128_0_0_512), k0_pay5 (View.ld x1 (Rect.unit ![0, 0, 512] ![1, 16, 128] inb_S1x16x1024_S1x16x128_0_0_512)) (View.ld x8 (Rect.unit ![0, 0] ![1, 128] inb_S1x128_S1x128_0_0))⟩,
      ⟨(Rect.unit ![0, 0, 384] ![1, 16, 128] inb_S1x16x1024_S1x16x128_0_0_384), k0_pay5 (View.ld x1 (Rect.unit ![0, 0, 384] ![1, 16, 128] inb_S1x16x1024_S1x16x128_0_0_384)) (View.ld x8 (Rect.unit ![0, 0] ![1, 128] inb_S1x128_S1x128_0_0))⟩,
      ⟨(Rect.unit ![0, 0, 256] ![1, 16, 128] inb_S1x16x1024_S1x16x128_0_0_256), k0_pay5 (View.ld x1 (Rect.unit ![0, 0, 256] ![1, 16, 128] inb_S1x16x1024_S1x16x128_0_0_256)) (View.ld x8 (Rect.unit ![0, 0] ![1, 128] inb_S1x128_S1x128_0_0))⟩,
      ⟨(Rect.unit ![0, 0, 128] ![1, 16, 128] inb_S1x16x1024_S1x16x128_0_0_128), k0_pay5 (View.ld x1 (Rect.unit ![0, 0, 128] ![1, 16, 128] inb_S1x16x1024_S1x16x128_0_0_128)) (View.ld x8 (Rect.unit ![0, 0] ![1, 128] inb_S1x128_S1x128_0_0))⟩,
      ⟨(Rect.unit ![0, 0, 0] ![1, 16, 128] inb_S1x16x1024_S1x16x128_0_0_0), k0_pay5 (View.ld x1 (Rect.unit ![0, 0, 0] ![1, 16, 128] inb_S1x16x1024_S1x16x128_0_0_0)) (View.ld x8 (Rect.unit ![0, 0] ![1, 128] inb_S1x128_S1x128_0_0))⟩] := by
  unfold kernelRun0_A
  dsimp only
  simp only [kernelRun0_A.sl.cst_163, kernelRun0_A.sl.cst_226, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_4, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_5, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_6, kernelRun0_A.sl.r_7, kernelRun0_A.sl.r_8, kernelRun0_A.sl.r_9, kernelRun0_A.sl.v133, kernelRun0_A.sl.v166, kernelRun0_A.sl.v225, kernelRun0_A.sl.v258, kernelRun0_A.sl.v317, kernelRun0_A.sl.v350, kernelRun0_A.sl.v409, kernelRun0_A.sl.v41, kernelRun0_A.sl.v442, kernelRun0_A.sl.v501, kernelRun0_A.sl.v534, kernelRun0_A.sl.v593, kernelRun0_A.sl.v626, kernelRun0_A.sl.v685, kernelRun0_A.sl.v718, kernelRun0_A.sl.v74, View.readAt_eq_ld,
    harg1.read_unread, harg2.read_unread, harg3.read_unread, harg4.read_unread, harg5.read_unread, harg6.read_unread, harg7.read_unread, harg8.read_unread, harg9.read_unread]
  rfl

end Pieces

end Cert.SampleBandIdeal.Stage

end
-- ==== Proof.SampleBandVal.lean ====
/-
  One head of the banded attention over the cached keys, at an index.
-/
module

public import proofs.«01_k».proof.Proof.BandVal
public import proofs.«01_k».proof.Proof.SampleBandSpec
public import proofs.«01_k».proof.Proof.SampleBandPieces

@[expose] public section

set_option maxRecDepth 65536

noncomputable section

namespace Cert.SampleBandIdeal.Stage

open Idealize.ShloMosaic
open Idealize.ShloMosaic.ValueIdx
open Cert.SampleBandIdeal Cert.SampleBandIdeal.Gen Cert.BandMath Cert.SampleBandSpec
open Cert.BandSpec hiding out col sc key window sc_real
open Cert.BandIdeal.Stage (rms_apply gain drop_apply)
open scoped BigOperators

theorem scale_named : (Named.named κ "inv_sqrt_d" (φ := .f32) 0x3DB504F3#32 : Ideal .f32) = (((√(128 : ℝ))⁻¹ : ℝ) : EReal) := by
  exact IdealRules.named_const.ideal_named_scalar _ _ _ _ rfl

theorem spread_apply {n : ℕ} {φ : FTy} (v : FVec Ideal ⟨2, ![16, 1]⟩ φ) (h : Shape.Broadcasts ⟨2, ![16, 1]⟩ ⟨2, ![16, n]⟩) (r : Fin 16) (c : Fin n) :
    broadcastTo ⟨2, ![16, n]⟩ v h (ix2 r c) = v (ix2 r (0 : Fin 1)) := by
  refine broadcastTo_apply v h (ix2 r c) (ix2 r (0 : Fin 1)) fun a => ?_
  match a with
  | ⟨0, _⟩ => show r.val = if (16 : ℕ) = 1 then 0 else r.val; rw [if_neg (by decide)]
  | ⟨1, _⟩ => show 0 = if (1 : ℕ) = 1 then 0 else c.val; rw [if_pos rfl]

theorem rowTop {n : ℕ} (s : FVec Ideal ⟨2, ![16, n]⟩ .f32) (hr : Shape.Reduces ⟨2, ![16, n]⟩ [1] ⟨1, ![16]⟩) (hφ : FKind.Formats .f32)
    (hacc : (0xFF800000#32 : BitVec 32) = FKind.maximumf.neutral .f32 hφ) (hc : Shape.ShapeCasts ⟨1, ![16]⟩ ⟨2, ![16, 1]⟩) (r : Fin 16) :
    shapeCast ⟨2, ![16, 1]⟩ (multiReduction .maximumf [1] ⟨1, ![16]⟩ s 0xFF800000#32 hr hφ hacc) hc (ix2 r (0 : Fin 1)) = top fun c => s (ix2 r c) := by
  refine (shapeCast_apply _ hc (ix2 r (0 : Fin 1)) (ix1 r) ?_).trans ?_
  · rw [Shape.rowMajor_val_two, Shape.rowMajor_val_one]
    show r.val = r.val * 1 + 0
    omega
  · refine (Ideal.multiReduction_maximumf_single s _ hr hφ hacc (ix1 r)).trans ?_
    have e : ∀ j : Fin n, hr.lift (ix1 r) j = ix2 r j := fun j => funext fun a => Fin.ext (by match a with | ⟨0, _⟩ => rfl | ⟨1, _⟩ => rfl)
    have hb : (FloatOps.ofBits .f32 0xFF800000#32 : Ideal .f32) = (⊥ : EReal) := by
      show Ideal.ofBits .f32 0xFF800000#32 = _
      simp [Ideal.ofBits, Ideal.ieee]
    exact congrArg₂ (fun (a : EReal) (f : Fin n → EReal) => Finset.univ.fold max a f) hb (funext fun j => congrArg s (e j))

theorem rowSum {n : ℕ} (s : FVec Ideal ⟨2, ![16, n]⟩ .f32) (hr : Shape.Reduces ⟨2, ![16, n]⟩ [1] ⟨1, ![16]⟩) (hφ : FKind.Formats .f32)
    (hacc : (0x00000000#32 : BitVec 32) = FKind.add.neutral .f32 hφ) (hc : Shape.ShapeCasts ⟨1, ![16]⟩ ⟨2, ![16, 1]⟩) (r : Fin 16) :
    shapeCast ⟨2, ![16, 1]⟩ (multiReduction .add [1] ⟨1, ![16]⟩ s 0x00000000#32 hr hφ hacc) hc (ix2 r (0 : Fin 1)) = ∑ c, s (ix2 r c) := by
  refine (shapeCast_apply _ hc (ix2 r (0 : Fin 1)) (ix1 r) ?_).trans ?_
  · rw [Shape.rowMajor_val_two, Shape.rowMajor_val_one]
    show r.val = r.val * 1 + 0
    omega
  · refine (Ideal.multiReduction_add_single s _ hr hφ hacc (ix1 r)).trans (Finset.sum_congr rfl fun j _ => ?_)
    exact congrArg s (funext fun a => Fin.ext (by match a with | ⟨0, _⟩ => rfl | ⟨1, _⟩ => rfl))

theorem cache_apply (v : Vec Ideal S1x1x512x128 .f32) (h) (c : Fin 512) (d : Fin 128) :
    shapeCast S512x128 v h (ix2 c d) = v (ix4 (0 : Fin 1) (0 : Fin 1) c d) := by
  refine shapeCast_apply v h (ix2 c d) _ ?_
  rw [Shape.rowMajor_val_two, Shape.rowMajor_val_four]
  show ((0 * 1 + 0) * 512 + c.val) * 128 + d.val = c.val * 128 + d.val
  omega

theorem past_apply (v : Vec Ideal S1x16x512 .f32) (h) (r : Fin 16) (c : Fin 512) :
    shapeCast S16x512 v h (ix2 r c) = v (ix3 (0 : Fin 1) r c) := by
  refine shapeCast_apply v h (ix2 r c) _ ?_
  rw [Shape.rowMajor_val_two, Shape.rowMajor_val_three]
  show (0 * 16 + r.val) * 512 + c.val = r.val * 512 + c.val
  omega

theorem pay2_apply (i : S112x128.Idx) : (k0_pay2 : FVec Ideal S112x128 .f32) i = 0 := Ideal.ofBits_zero_f32

theorem pay3_apply (q : Vec Ideal S1x16x128 .f32) (g : Vec Ideal S1x128 .f32) (r : Fin 16) (d : Fin 128) :
    k0_pay3 q g (ix2 r d) = nrm (fun d => q (ix3 (0 : Fin 1) r d)) (gain g) d := by
  refine (rms_apply (shapeCast S16x128 q shapeCasts_S1x16x128_S16x128) g _ _ _ _ _ _ _ r d).trans ?_
  exact congrArg (fun f => nrm f (gain g) d) (funext fun j => drop_apply q shapeCasts_S1x16x128_S16x128 r j)

theorem pay4_apply (q : Vec Ideal S1x16x128 .f32) (g : Vec Ideal S1x128 .f32) (r : Fin 16) (d : Fin 128) :
    k0_pay4 q g (ix2 r d) = nrm (fun d => q (ix3 (0 : Fin 1) r d)) (gain g) d := by
  refine (rms_apply (shapeCast S16x128 q shapeCasts_S1x16x128_S16x128) g _ _ _ _ _ _ _ r d).trans ?_
  exact congrArg (fun f => nrm f (gain g) d) (funext fun j => drop_apply q shapeCasts_S1x16x128_S16x128 r j)

theorem store_apply {φ : FTy} (v : FVec Ideal S16x128 φ) (h) (r : Fin 16) (d : Fin 128) :
    shapeCast S1x16x128 v h (ix3 (0 : Fin 1) r d) = v (ix2 r d) := by
  refine shapeCast_apply v h _ (ix2 r d) ?_
  rw [Shape.rowMajor_val_two, Shape.rowMajor_val_three]
  show r.val * 128 + d.val = (0 * 16 + r.val) * 128 + d.val
  omega

theorem pay5_apply (q : Vec Ideal S1x16x128 .f32) (g : Vec Ideal S1x128 .f32) (r : Fin 16) (d : Fin 128) :
    k0_pay5 q g (ix3 (0 : Fin 1) r d) = nrm (fun d => q (ix3 (0 : Fin 1) r d)) (gain g) d :=
  (store_apply _ _ r d).trans (pay4_apply q g r d)

/-- Sixteen rows, then zeros. -/
theorem padded_lt (v : FVec Ideal S16x128 .f32) (w : FVec Ideal S112x128 .f32) (h) (c : Fin 128) (d : Fin 128) (hc : c.val < 16) :
    concatenate S128x128 0 [⟨S16x128, v⟩, ⟨S112x128, w⟩] h (ix2 c d) = v (ix2 ⟨c.val, hc⟩ d) := by
  refine concatenate_pair_apply_left (α := EReal) (t := S128x128) (s₁ := S16x128) (s₂ := S112x128) 0 v w h (ix2 c d) rfl (ix2 ⟨c.val, hc⟩ d) fun a => ?_
  match a with
  | ⟨0, _⟩ => rfl
  | ⟨1, _⟩ => rfl

theorem pay6_apply (k : Vec Ideal S1x16x128 .f32) (g : Vec Ideal S1x128 .f32) (c d : Fin 128) (hc : c.val < 16) :
    k0_pay6 k g (ix2 c d) = nrm (fun d => k (ix3 (0 : Fin 1) (⟨c.val, hc⟩ : Fin 16) d)) (gain g) d :=
  (padded_lt _ _ concatenates_S16x128_S112x128_S128x128_d0 c d hc).trans (pay4_apply k g ⟨c.val, hc⟩ d)

theorem pay7_apply (v : Vec Ideal S1x16x128 .f32) (c d : Fin 128) (hc : c.val < 16) :
    k0_pay7 (F := Ideal) k0_pay2 v (ix2 c d) = v (ix3 (0 : Fin 1) (⟨c.val, hc⟩ : Fin 16) d) :=
  (padded_lt _ _ concatenates_S16x128_S112x128_S128x128_d0 c d hc).trans (drop_apply v shapeCasts_S1x16x128_S16x128 ⟨c.val, hc⟩ d)

/-- The scores of a cached key. -/
theorem pay8_apply (q : FVec Ideal S16x128 .bf16) (ck : Vec Ideal S1x1x512x128 .f32) (bp : Vec Ideal S1x16x512 .f32) (r : Fin 16) (c : Fin 512) :
    k0_pay8 q ck bp (ix2 r c) = dotp (fun d => q (ix2 r d)) (fun d => ck (ix4 (0 : Fin 1) (0 : Fin 1) c d)) + bp (ix3 (0 : Fin 1) r c) := by
  refine congr (congrArg (fun a b : EReal => a + b) (congr (congrArg (fun a b : EReal => a * b) ?_) scale_named)) (past_apply bp _ r c)
  refine (Ideal.matmul_transposedRhs_apply none q (truncf .bf16 (shapeCast S512x128 ck shapeCasts_S1x1x512x128_S512x128) bitsLt_bf16_f32) _ r c).trans ?_
  rw [show (constant S16x512 .f32 0x00000000#32 : FVec Ideal S16x512 .f32) (ix2 r c) = 0 from Ideal.ofBits_zero_f32, zero_add]
  exact Finset.sum_congr rfl fun d _ => congrArg (fun a : EReal => q (ix2 r d) * a) (cache_apply ck _ c d)

/-- The scores of a new key. -/
theorem pay9_apply (q : FVec Ideal S16x128 .bf16) (k : FVec Ideal S128x128 .f32) (bc : Vec Ideal S1x16x128 .f32) (r : Fin 16) (c : Fin 128) :
    k0_pay9 q k bc (ix2 r c) = dotp (fun d => q (ix2 r d)) (fun d => k (ix2 c d)) + bc (ix3 (0 : Fin 1) r c) := by
  refine congr (congrArg (fun a b : EReal => a + b) (congr (congrArg (fun a b : EReal => a * b) ?_) scale_named)) (drop_apply bc _ r c)
  refine (Ideal.matmul_transposedRhs_apply none q (truncf .bf16 k bitsLt_bf16_f32) _ r c).trans ?_
  rw [show (constant S16x128 .f32 0x00000000#32 : FVec Ideal S16x128 .f32) (ix2 r c) = 0 from Ideal.ofBits_zero_f32, zero_add]
  rfl

section Head
variable (q : FVec Ideal S16x128 .bf16) (k : FVec Ideal S128x128 .f32) (ck : Vec Ideal S1x1x512x128 .f32) (bp : Vec Ideal S1x16x512 .f32)
  (bc : Vec Ideal S1x16x128 .f32) (r : Fin 16)

theorem pay10_apply : k0_pay10 q k ck bp bc (ix2 r (0 : Fin 1))
    = max (top fun c => k0_pay8 q ck bp (ix2 r c)) (top fun c => k0_pay9 q k bc (ix2 r c)) := by
  exact congr (congrArg (fun a b : EReal => max a b) (rowTop (k0_pay8 q ck bp) _ _ _ _ r)) (rowTop (k0_pay9 q k bc) _ _ _ _ r)

theorem pay11_apply (c : Fin 512) : k0_pay11 q k ck bp bc (ix2 r c) = Ideal.exp (k0_pay8 q ck bp (ix2 r c)
    - max (top fun c => k0_pay8 q ck bp (ix2 r c)) (top fun c => k0_pay9 q k bc (ix2 r c))) := by
  refine congrArg (fun a : EReal => Ideal.exp (k0_pay8 q ck bp (ix2 r c) - a)) ?_
  exact (spread_apply _ _ r c).trans (pay10_apply q k ck bp bc r)

theorem pay12_apply (c : Fin 128) : k0_pay12 q k ck bp bc (ix2 r c) = Ideal.exp (k0_pay9 q k bc (ix2 r c)
    - max (top fun c => k0_pay8 q ck bp (ix2 r c)) (top fun c => k0_pay9 q k bc (ix2 r c))) := by
  refine congrArg (fun a : EReal => Ideal.exp (k0_pay9 q k bc (ix2 r c) - a)) ?_
  exact (spread_apply _ _ r c).trans (pay10_apply q k ck bp bc r)

theorem pay13_apply : k0_pay13 q k ck bp bc (ix2 r (0 : Fin 1))
    = (∑ c, k0_pay11 q k ck bp bc (ix2 r c)) + ∑ c, k0_pay12 q k ck bp bc (ix2 r c) := by
  exact congr (congrArg (fun a b : EReal => a + b) (rowSum (k0_pay11 q k ck bp bc) _ _ _ _ r)) (rowSum (k0_pay12 q k ck bp bc) _ _ _ _ r)

theorem pay15_apply (v : FVec Ideal S128x128 .f32) (cv : Vec Ideal S1x1x512x128 .f32) (z : Vec Ideal S1x16x128 .f32) (d : Fin 128) :
    k0_pay15 v (k0_pay12 q k ck bp bc) (k0_pay13 q k ck bp bc) (k0_pay14 q k ck bp bc) cv z (ix3 (0 : Fin 1) r d)
      = win2 (fun c => k0_pay8 q ck bp (ix2 r c)) (fun c => cv (ix4 (0 : Fin 1) (0 : Fin 1) c d))
          (fun c => k0_pay9 q k bc (ix2 r c)) (fun c => v (ix2 c d)) * silu (z (ix3 (0 : Fin 1) r d)) := by
  unfold k0_pay15
  refine (store_apply (φ := .bf16) _ _ r d).trans ?_
  refine congr (congrArg (fun a b : EReal => a * b) ?_) (congrArg silu (drop_apply z _ r d))
  unfold win2
  refine congr (congrArg (fun a b : EReal => Ideal.div a b) (congr (congrArg (fun a b : EReal => a + b) ?_) ?_)) ?_
  · refine (Ideal.matmul_plain_apply none (k0_pay14 q k ck bp bc) (truncf .bf16 (shapeCast S512x128 cv shapeCasts_S1x1x512x128_S512x128) bitsLt_bf16_f32) _ r d).trans ?_
    rw [show (constant S16x128 .f32 0x00000000#32 : FVec Ideal S16x128 .f32) (ix2 r d) = 0 from Ideal.ofBits_zero_f32, zero_add]
    exact Finset.sum_congr rfl fun c _ => congr (congrArg (fun a b : EReal => a * b) (pay11_apply q k ck bp bc r c)) (cache_apply cv _ c d)
  · refine (Ideal.matmul_plain_apply none (truncf .bf16 (k0_pay12 q k ck bp bc) bitsLt_bf16_f32) (truncf .bf16 v bitsLt_bf16_f32) _ r d).trans ?_
    rw [show (constant S16x128 .f32 0x00000000#32 : FVec Ideal S16x128 .f32) (ix2 r d) = 0 from Ideal.ofBits_zero_f32, zero_add]
    exact Finset.sum_congr rfl fun c _ => congrArg (fun a : EReal => a * v (ix2 c d)) (pay12_apply q k ck bp bc r c)
  · refine (spread_apply _ _ r d).trans ((pay13_apply q k ck bp bc r).trans ?_)
    exact congr (congrArg (fun a b : EReal => a + b) (Finset.sum_congr rfl fun c _ => pay11_apply q k ck bp bc r c))
      (Finset.sum_congr rfl fun c _ => pay12_apply q k ck bp bc r c)

end Head

/-- One head's rows, when what is read is a stream's. -/
theorem headOut_apply {x : New} {C D : Cache} {B : Bias} {gq gk : Gain} (H : Finite' C B gq gk) (b h : Fin 8)
    (q : Vec Ideal S1x16x128 .f32) (g : Vec Ideal S1x128 .f32) (k : Vec Ideal S1x16x128 .f32) (g' : Vec Ideal S1x128 .f32) (v : Vec Ideal S1x16x128 .f32)
    (ck : Vec Ideal S1x1x512x128 .f32) (bp : Vec Ideal S1x16x512 .f32) (bc : Vec Ideal S1x16x128 .f32) (cv : Vec Ideal S1x1x512x128 .f32) (z : Vec Ideal S1x16x128 .f32)
    (hq : ∀ s d, q (ix3 (0 : Fin 1) s d) = col x 2 b s h d) (hk : ∀ s d, k (ix3 (0 : Fin 1) s d) = col x 3 b s h d)
    (hv : ∀ s d, v (ix3 (0 : Fin 1) s d) = col x 4 b s h d) (hz : ∀ s d, z (ix3 (0 : Fin 1) s d) = col x 5 b s h d)
    (hg : gain g = gq) (hg' : gain g' = gk)
    (hck : ∀ c d, ck (ix4 (0 : Fin 1) (0 : Fin 1) c d) = past C b c h d) (hcv : ∀ c d, cv (ix4 (0 : Fin 1) (0 : Fin 1) c d) = past D b c h d)
    (hbp : ∀ (s : Fin 16) (c : Fin 512), bp (ix3 (0 : Fin 1) s c) = B (ix2 h (rel (512 + s.val) c.val)))
    (hbc : ∀ (s : Fin 16) (c : Fin 128), c.val < 16 → bc (ix3 (0 : Fin 1) s c) = B (ix2 h (rel (512 + s.val) (512 + c.val))))
    (hbm : ∀ (s : Fin 16) (c : Fin 128), ¬ c.val < 16 → bc (ix3 (0 : Fin 1) s c) = (⊥ : EReal)) (r : Fin 16) (d : Fin 128) :
    headOut q g k g' v ck bp bc cv z (ix3 (0 : Fin 1) r d) = out x C D B gq gk b r h d := by
  refine (pay15_apply (k0_pay3 q g) (k0_pay6 k g') ck bp bc r (k0_pay7 k0_pay2 v) cv z d).trans ?_
  unfold out
  rw [hz]
  refine congrArg (fun a : EReal => a * silu (col x 5 b r h d)) ?_
  have hqn : (fun d => k0_pay3 q g (ix2 r d)) = nrm (col x 2 b r h) gq := funext fun d => by
    rw [pay3_apply, hg]
    exact congrArg (fun f => nrm f gq d) (funext fun j => hq r j)
  refine window H b h r _ _ _ _ (fun k => valAt x D b h k d) (fun c => ?_) (fun c => ?_) (fun c hc => ?_) (fun c hc => ?_) (fun c hc => ?_)
  · rw [pay8_apply, hqn, hbp]
    refine congrArg (fun f => dotp (nrm (col x 2 b r h) gq) f + B (ix2 h (rel (512 + r.val) c.val))) (funext fun d => ?_)
    rw [hck]
    unfold keyAt
    rw [dif_pos c.isLt]
  · show cv _ = valAt x D b h _ d
    rw [hcv]
    unfold valAt
    rw [dif_pos c.isLt]
  · rw [pay9_apply, hqn, hbc r c hc]
    refine congrArg (fun f => dotp (nrm (col x 2 b r h) gq) f + B (ix2 h (rel (512 + r.val) (512 + c.val)))) (funext fun d => ?_)
    rw [pay6_apply k g' c d hc, hg']
    unfold keyAt
    rw [dif_neg (by show ¬ 512 + c.val < 512; omega)]
    refine congrArg (fun f => nrm f gk d) (funext fun j => (hk _ j).trans (congrArg (fun s => col x 3 b s h j) (Fin.ext ?_)))
    show c.val = 512 + c.val - 512
    omega
  · show k0_pay7 k0_pay2 v (ix2 c d) = valAt x D b h _ d
    rw [pay7_apply v c d hc, hv]
    unfold valAt
    rw [dif_neg (by show ¬ 512 + c.val < 512; omega)]
    refine congrArg (fun s => col x 4 b s h d) (Fin.ext ?_)
    show c.val = 512 + c.val - 512
    omega
  · rw [pay9_apply, hbm r c hc]
    exact EReal.add_bot _

/-- One head's new keys. -/
theorem headKey_apply {x : New} {gk : Gain} (b h : Fin 8) (k : Vec Ideal S1x16x128 .f32) (g' : Vec Ideal S1x128 .f32)
    (hk : ∀ s d, k (ix3 (0 : Fin 1) s d) = col x 3 b s h d) (hg' : gain g' = gk) (r : Fin 16) (d : Fin 128) :
    k0_pay5 k g' (ix3 (0 : Fin 1) r d) = key x gk b r h d := by
  rw [pay5_apply, hg']
  exact congrArg (fun f => nrm f gk d) (funext fun j => hk r j)

end Cert.SampleBandIdeal.Stage

end
-- ==== Proof.SampleBandArr.lean ====
/-
  The arrays the kernel of the banded attention over the cached keys leaves, as functions of the arrays it reads.
-/
module

public import Idealize.ShloMosaic.Lib.Claim
public import proofs.«01_k».proof.Proof.SampleBandVal

@[expose] public section

set_option maxRecDepth 65536

noncomputable section

namespace Cert.SampleBandIdeal.Stage

open Idealize.ShloMosaic
open Idealize.ShloMosaic.ValueIdx Idealize.ShloMosaic.TcCoe
open Cert.SampleBandIdeal Cert.SampleBandIdeal.Gen Cert.BandMath Cert.SampleBandSpec
open Cert.BandSpec hiding out col sc key window sc_real
open Cert.BandIdeal.Stage (gain)
open scoped BigOperators

theorem lane_ld (x : Vec Ideal S1x16x1024 .f32) (h : Fin 8) (o : ℕ) (ho : o = 128 * h.val) (hb) (s : Fin 16) (d : Fin 128) :
    (View.ld x (Rect.unit (s := S1x16x1024) ![0, 0, o] ![1, 16, 128] hb) : S1x16x128.Idx → EReal) (ix3 (0 : Fin 1) s d)
      = x (ix3 (0 : Fin 1) s (⟨128 * h.val + d.val, by omega⟩ : Fin 1024)) := by
  refine congrArg x (funext fun a => Fin.ext ?_)
  fin_cases a
  · rfl
  · show 0 + 1 * s.val = s.val; omega
  · show o + 1 * d.val = 128 * h.val + d.val; omega

theorem lines_ld (x : Vec Ideal S1x1x4096x128 .f32) (h : Fin 8) (o : ℕ) (ho : o = h.val) (hb) (c : Fin 512) (d : Fin 128) :
    (lines (Val := Elt Ideal) (e := .f32) x (LoadRect.mk (s := S1x1x4096x128) ![0, 0, o, 0] ![1, 1, 512, 128] ![1, 1, 8, 1] hb) : S1x1x512x128.Idx → EReal) (ix4 (0 : Fin 1) (0 : Fin 1) c d)
      = x (ix4 (0 : Fin 1) (0 : Fin 1) (⟨8 * c.val + h.val, by omega⟩ : Fin 4096) d) := by
  refine congrArg x (funext fun a => Fin.ext ?_)
  fin_cases a
  · rfl
  · rfl
  · show o + 8 * c.val = 8 * c.val + h.val; omega
  · show 0 + 1 * d.val = d.val; omega

theorem past_ld (x : Vec Ideal S8x16x640 .f32) (h : Fin 8) (o : ℕ) (ho : o = h.val) (hb) (s : Fin 16) (c : Fin 512) :
    (View.ld x (Rect.unit (s := S8x16x640) ![o, 0, 0] ![1, 16, 512] hb) : S1x16x512.Idx → EReal) (ix3 (0 : Fin 1) s c)
      = x (ix3 h s (⟨c.val, by omega⟩ : Fin 640)) := by
  refine congrArg x (funext fun a => Fin.ext ?_)
  fin_cases a
  · show o + 1 * 0 = h.val; omega
  · show 0 + 1 * s.val = s.val; omega
  · show 0 + 1 * c.val = c.val; omega

theorem new_ld (x : Vec Ideal S8x16x640 .f32) (h : Fin 8) (o : ℕ) (ho : o = h.val) (hb) (s : Fin 16) (c : Fin 128) :
    (View.ld x (Rect.unit (s := S8x16x640) ![o, 0, 512] ![1, 16, 128] hb) : S1x16x128.Idx → EReal) (ix3 (0 : Fin 1) s c)
      = x (ix3 h s (⟨512 + c.val, by omega⟩ : Fin 640)) := by
  refine congrArg x (funext fun a => Fin.ext ?_)
  fin_cases a
  · show o + 1 * 0 = h.val; omega
  · show 0 + 1 * s.val = s.val; omega
  · show 512 + 1 * c.val = 512 + c.val; omega

theorem gain_ld (x : Vec Ideal S1x128 .f32) (hb) : (View.ld x (Rect.unit (s := S1x128) ![0, 0] ![1, 128] hb) : S1x128.Idx → EReal) = x :=
  View.ld_unit_zero (S := S1x128) (off := ![0, 0]) (funext fun a => by fin_cases a <;> rfl) _ _

/-- A stream's rows of the gated attention, a block. -/
def outBlk (P : New) (C D : Cache) (B : Bias) (gq gk : Gain) (b : Fin 8) : S1x16x1024.Idx → EReal := fun y =>
  out P C D B gq gk b (y 1) ⟨(y 2).val / 128, by have h : (y 2).val < 1024 := (y 2).isLt; omega⟩ ⟨(y 2).val % 128, by omega⟩

/-- A stream's new keys, a block. -/
def keyBlk (P : New) (gk : Gain) (b : Fin 8) : S1x16x1024.Idx → EReal := fun y =>
  key P gk b (y 1) ⟨(y 2).val / 128, by have h : (y 2).val < 1024 := (y 2).isLt; omega⟩ ⟨(y 2).val % 128, by omega⟩

theorem lane_emb (f : Fin 16 → Fin 8 → Fin 128 → EReal) (h : Fin 8) (o : ℕ) (ho : o = 128 * h.val) (hb) (x : S1x16x128.Idx) :
    (fun y : S1x16x1024.Idx => f (y 1) ⟨(y 2).val / 128, by have h : (y 2).val < 1024 := (y 2).isLt; omega⟩ ⟨(y 2).val % 128, by omega⟩)
      ((Rect.unit (s := S1x16x1024) ![0, 0, o] ![1, 16, 128] hb).emb x) = f (x 1) h (x 2) := by
  have h2 : (x 2).val < 128 := (x 2).isLt
  refine congr (congr (congrArg f (Fin.ext ?_)) (Fin.ext ?_)) (Fin.ext ?_)
  · show 0 + 1 * (x 1).val = (x 1).val; omega
  · show (o + 1 * (x 2).val) / 128 = h.val; omega
  · show (o + 1 * (x 2).val) % 128 = (x 2).val; omega

theorem unit_ix (x : S1x16x128.Idx) : x = ix3 (0 : Fin 1) (x 1) (x 2) := funext fun a => by
  match a with
  | ⟨0, _⟩ => exact Subsingleton.elim (α := Fin 1) _ _
  | ⟨1, _⟩ => rfl
  | ⟨2, _⟩ => rfl

section Block

variable (x0 x1 x2 : Vec Ideal S1x16x1024 .f32) (x3 x4 : Vec Ideal S1x1x4096x128 .f32) (x5 : Vec Ideal S1x16x1024 .f32) (x6 : Vec Ideal S8x16x640 .f32)
  (x7 x8 : Vec Ideal S1x128 .f32) {P : New} {C D : Cache} {B : Bias} {gq gk : Gain}

theorem head_out (H : Finite' C B gq gk) (b : Fin 8)
    (h0 : ∀ (h : Fin 8) (s : Fin 16) (d : Fin 128), x0 (ix3 (0 : Fin 1) s (⟨128 * h.val + d.val, by omega⟩ : Fin 1024)) = col P 2 b s h d)
    (h1 : ∀ (h : Fin 8) (s : Fin 16) (d : Fin 128), x1 (ix3 (0 : Fin 1) s (⟨128 * h.val + d.val, by omega⟩ : Fin 1024)) = col P 3 b s h d)
    (h2 : ∀ (h : Fin 8) (s : Fin 16) (d : Fin 128), x2 (ix3 (0 : Fin 1) s (⟨128 * h.val + d.val, by omega⟩ : Fin 1024)) = col P 4 b s h d)
    (h5 : ∀ (h : Fin 8) (s : Fin 16) (d : Fin 128), x5 (ix3 (0 : Fin 1) s (⟨128 * h.val + d.val, by omega⟩ : Fin 1024)) = col P 5 b s h d)
    (h3 : ∀ (h : Fin 8) (c : Fin 512) (d : Fin 128), x3 (ix4 (0 : Fin 1) (0 : Fin 1) (⟨8 * c.val + h.val, by omega⟩ : Fin 4096) d) = past C b c h d)
    (h4 : ∀ (h : Fin 8) (c : Fin 512) (d : Fin 128), x4 (ix4 (0 : Fin 1) (0 : Fin 1) (⟨8 * c.val + h.val, by omega⟩ : Fin 4096) d) = past D b c h d)
    (h6 : ∀ (h : Fin 8) (s : Fin 16) (c : Fin 528), x6 (ix3 h s (⟨c.val, by omega⟩ : Fin 640)) = B (ix2 h (rel (512 + s.val) c.val)))
    (h6' : ∀ (h : Fin 8) (s : Fin 16) (c : Fin 640), 528 ≤ c.val → x6 (ix3 h s c) = (⊥ : EReal))
    (h7 : gain x7 = gq) (h8 : gain x8 = gk) (h : Fin 8) (o p : ℕ) (ho : o = 128 * h.val) (hp : p = h.val) (b1) (b2) (b3) (b4) (b5) (x : S1x16x128.Idx) :
    headOut (F := Ideal) (View.ld x0 (Rect.unit (s := S1x16x1024) ![0, 0, o] ![1, 16, 128] b1)) (View.ld x7 (Rect.unit (s := S1x128) ![0, 0] ![1, 128] b2))
      (View.ld x1 (Rect.unit (s := S1x16x1024) ![0, 0, o] ![1, 16, 128] b1)) (View.ld x8 (Rect.unit (s := S1x128) ![0, 0] ![1, 128] b2))
      (View.ld x2 (Rect.unit (s := S1x16x1024) ![0, 0, o] ![1, 16, 128] b1))
      (lines (Val := Elt Ideal) (e := .f32) x3 (LoadRect.mk (s := S1x1x4096x128) ![0, 0, p, 0] ![1, 1, 512, 128] ![1, 1, 8, 1] b3))
      (View.ld x6 (Rect.unit (s := S8x16x640) ![p, 0, 0] ![1, 16, 512] b4)) (View.ld x6 (Rect.unit (s := S8x16x640) ![p, 0, 512] ![1, 16, 128] b5))
      (lines (Val := Elt Ideal) (e := .f32) x4 (LoadRect.mk (s := S1x1x4096x128) ![0, 0, p, 0] ![1, 1, 512, 128] ![1, 1, 8, 1] b3))
      (View.ld x5 (Rect.unit (s := S1x16x1024) ![0, 0, o] ![1, 16, 128] b1)) x
    = outBlk P C D B gq gk b ((Rect.unit (s := S1x16x1024) ![0, 0, o] ![1, 16, 128] b1).emb x) := by
  refine Eq.trans ?_ (lane_emb (fun s h d => out P C D B gq gk b s h d) h o ho b1 x).symm
  refine (congrArg _ (unit_ix x)).trans ?_
  exact headOut_apply H b h _ _ _ _ _ _ _ _ _ _ (fun s d => (lane_ld x0 h o ho b1 s d).trans (h0 h s d)) (fun s d => (lane_ld x1 h o ho b1 s d).trans (h1 h s d))
    (fun s d => (lane_ld x2 h o ho b1 s d).trans (h2 h s d)) (fun s d => (lane_ld x5 h o ho b1 s d).trans (h5 h s d))
    ((congrArg gain (gain_ld x7 b2)).trans h7) ((congrArg gain (gain_ld x8 b2)).trans h8)
    (fun c d => (lines_ld x3 h p hp b3 c d).trans (h3 h c d)) (fun c d => (lines_ld x4 h p hp b3 c d).trans (h4 h c d))
    (fun s c => (past_ld x6 h p hp b4 s c).trans (h6 h s ⟨c.val, by omega⟩))
    (fun s c hc => (new_ld x6 h p hp b5 s c).trans (h6 h s ⟨512 + c.val, by omega⟩))
    (fun s c hc => (new_ld x6 h p hp b5 s c).trans (h6' h s _ (by show 528 ≤ 512 + c.val; omega))) (x 1) (x 2)

theorem head_key (b : Fin 8)
    (h1 : ∀ (h : Fin 8) (s : Fin 16) (d : Fin 128), x1 (ix3 (0 : Fin 1) s (⟨128 * h.val + d.val, by omega⟩ : Fin 1024)) = col P 3 b s h d)
    (h8 : gain x8 = gk) (h : Fin 8) (o : ℕ) (ho : o = 128 * h.val) (b1) (b2) (x : S1x16x128.Idx) :
    k0_pay5 (F := Ideal) (View.ld x1 (Rect.unit (s := S1x16x1024) ![0, 0, o] ![1, 16, 128] b1)) (View.ld x8 (Rect.unit (s := S1x128) ![0, 0] ![1, 128] b2)) x
    = keyBlk P gk b ((Rect.unit (s := S1x16x1024) ![0, 0, o] ![1, 16, 128] b1).emb x) := by
  refine Eq.trans ?_ (lane_emb (fun s h d => key P gk b s h d) h o ho b1 x).symm
  refine (congrArg _ (unit_ix x)).trans ?_
  exact headKey_apply b h _ _ (fun s d => (lane_ld x1 h o ho b1 s d).trans (h1 h s d)) ((congrArg gain (gain_ld x8 b2)).trans h8) (x 1) (x 2)

variable (c : Dev nD) (i : grid0.Coords) (arg1 : Memref sig .tc .vmem S1x16x1024 .f32) (harg1 : arg1.IsWhole)
  (arg2 : Memref sig .tc .vmem S1x16x1024 .f32) (harg2 : arg2.IsWhole) (arg3 : Memref sig .tc .vmem S1x16x1024 .f32) (harg3 : arg3.IsWhole)
  (arg4 : Memref sig .tc .vmem S1x1x4096x128 .f32) (harg4 : arg4.IsWhole) (arg5 : Memref sig .tc .vmem S1x1x4096x128 .f32) (harg5 : arg5.IsWhole)
  (arg6 : Memref sig .tc .vmem S1x16x1024 .f32) (harg6 : arg6.IsWhole) (arg7 : Memref sig .tc .vmem S8x16x640 .f32) (harg7 : arg7.IsWhole)
  (arg8 : Memref sig .tc .vmem S1x128 .f32) (harg8 : arg8.IsWhole) (arg9 : Memref sig .tc .vmem S1x128 .f32) (harg9 : arg9.IsWhole)
  (arg10 : Memref sig .tc .vmem S1x16x1024 .bf16) (harg10 : arg10.IsWhole) (arg11 : Memref sig .tc .vmem S1x16x1024 .f32) (harg11 : arg11.IsWhole)

theorem block_out (H : Finite' C B gq gk) (b : Fin 8)
    (h0 : ∀ (h : Fin 8) (s : Fin 16) (d : Fin 128), x0 (ix3 (0 : Fin 1) s (⟨128 * h.val + d.val, by omega⟩ : Fin 1024)) = col P 2 b s h d)
    (h1 : ∀ (h : Fin 8) (s : Fin 16) (d : Fin 128), x1 (ix3 (0 : Fin 1) s (⟨128 * h.val + d.val, by omega⟩ : Fin 1024)) = col P 3 b s h d)
    (h2 : ∀ (h : Fin 8) (s : Fin 16) (d : Fin 128), x2 (ix3 (0 : Fin 1) s (⟨128 * h.val + d.val, by omega⟩ : Fin 1024)) = col P 4 b s h d)
    (h5 : ∀ (h : Fin 8) (s : Fin 16) (d : Fin 128), x5 (ix3 (0 : Fin 1) s (⟨128 * h.val + d.val, by omega⟩ : Fin 1024)) = col P 5 b s h d)
    (h3 : ∀ (h : Fin 8) (c : Fin 512) (d : Fin 128), x3 (ix4 (0 : Fin 1) (0 : Fin 1) (⟨8 * c.val + h.val, by omega⟩ : Fin 4096) d) = past C b c h d)
    (h4 : ∀ (h : Fin 8) (c : Fin 512) (d : Fin 128), x4 (ix4 (0 : Fin 1) (0 : Fin 1) (⟨8 * c.val + h.val, by omega⟩ : Fin 4096) d) = past D b c h d)
    (h6 : ∀ (h : Fin 8) (s : Fin 16) (c : Fin 528), x6 (ix3 h s (⟨c.val, by omega⟩ : Fin 640)) = B (ix2 h (rel (512 + s.val) c.val)))
    (h6' : ∀ (h : Fin 8) (s : Fin 16) (c : Fin 640), 528 ≤ c.val → x6 (ix3 h s c) = (⊥ : EReal))
    (h7 : gain x7 = gq) (h8 : gain x8 = gk) (y : S1x16x1024.Idx) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 y = outBlk P C D B gq gk b y := by
  have e : out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8
      = View.canon (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7 x8).1 := by
    unfold out0_A_9
    exact View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8)
  refine (congrFun e y).trans ?_
  refine View.canon_apply_of_pieces (Val := Elt Ideal) (e := .bf16) (outBlk P C D B gq gk b) _ ?_ y (cover0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 y)
  rw [pieces]
  simp only [List.forall_mem_cons, List.not_mem_nil, false_imp_iff, implies_true, and_true]
  refine ⟨fun x => head_out x0 x1 x2 x3 x4 x5 x6 x7 x8 H b h0 h1 h2 h5 h3 h4 h6 h6' h7 h8 7 896 7 rfl rfl _ _ _ _ _ x,
    fun x => head_out x0 x1 x2 x3 x4 x5 x6 x7 x8 H b h0 h1 h2 h5 h3 h4 h6 h6' h7 h8 6 768 6 rfl rfl _ _ _ _ _ x,
    fun x => head_out x0 x1 x2 x3 x4 x5 x6 x7 x8 H b h0 h1 h2 h5 h3 h4 h6 h6' h7 h8 5 640 5 rfl rfl _ _ _ _ _ x,
    fun x => head_out x0 x1 x2 x3 x4 x5 x6 x7 x8 H b h0 h1 h2 h5 h3 h4 h6 h6' h7 h8 4 512 4 rfl rfl _ _ _ _ _ x,
    fun x => head_out x0 x1 x2 x3 x4 x5 x6 x7 x8 H b h0 h1 h2 h5 h3 h4 h6 h6' h7 h8 3 384 3 rfl rfl _ _ _ _ _ x,
    fun x => head_out x0 x1 x2 x3 x4 x5 x6 x7 x8 H b h0 h1 h2 h5 h3 h4 h6 h6' h7 h8 2 256 2 rfl rfl _ _ _ _ _ x,
    fun x => head_out x0 x1 x2 x3 x4 x5 x6 x7 x8 H b h0 h1 h2 h5 h3 h4 h6 h6' h7 h8 1 128 1 rfl rfl _ _ _ _ _ x,
    fun x => head_out x0 x1 x2 x3 x4 x5 x6 x7 x8 H b h0 h1 h2 h5 h3 h4 h6 h6' h7 h8 0 0 0 rfl rfl _ _ _ _ _ x⟩

theorem block_key (b : Fin 8)
    (h1 : ∀ (h : Fin 8) (s : Fin 16) (d : Fin 128), x1 (ix3 (0 : Fin 1) s (⟨128 * h.val + d.val, by omega⟩ : Fin 1024)) = col P 3 b s h d)
    (h8 : gain x8 = gk) (y : S1x16x1024.Idx) :
    out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 y = keyBlk P gk b y := by
  have e : out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8
      = View.canon (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7 x8).2.1 := by
    unfold out0_A_10
    exact View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8)
  refine (congrFun e y).trans ?_
  refine View.canon_apply_of_pieces (Val := Elt Ideal) (e := .f32) (keyBlk P gk b) _ ?_ y (cover0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 y)
  rw [pieces2]
  simp only [List.forall_mem_cons, List.not_mem_nil, false_imp_iff, implies_true, and_true]
  refine ⟨fun x => head_key x1 x8 b h1 h8 7 896 rfl _ _ x,
    fun x => head_key x1 x8 b h1 h8 6 768 rfl _ _ x,
    fun x => head_key x1 x8 b h1 h8 5 640 rfl _ _ x,
    fun x => head_key x1 x8 b h1 h8 4 512 rfl _ _ x,
    fun x => head_key x1 x8 b h1 h8 3 384 rfl _ _ x,
    fun x => head_key x1 x8 b h1 h8 2 256 rfl _ _ x,
    fun x => head_key x1 x8 b h1 h8 1 128 rfl _ _ x,
    fun x => head_key x1 x8 b h1 h8 0 0 rfl _ _ x⟩

end Block

section Array

variable (m : (ℓ : Loc nD τ sig) → Buf (Elt Ideal) ℓ) (c : Dev nD)

theorem index : ∀ t : Fin cfg0.N,
    (win0_0.index t 0 = win0_9.index t 0 ∧ win0_0.index t 1 = 0 ∧ win0_0.index t 2 = 2)
    ∧ (win0_1.index t 0 = win0_9.index t 0 ∧ win0_1.index t 1 = 0 ∧ win0_1.index t 2 = 3)
    ∧ (win0_2.index t 0 = win0_9.index t 0 ∧ win0_2.index t 1 = 0 ∧ win0_2.index t 2 = 4)
    ∧ (win0_5.index t 0 = win0_9.index t 0 ∧ win0_5.index t 1 = 0 ∧ win0_5.index t 2 = 5)
    ∧ (win0_3.index t 0 = 0 ∧ win0_3.index t 1 = win0_9.index t 0 ∧ win0_3.index t 2 = 0 ∧ win0_3.index t 3 = 0)
    ∧ (win0_4.index t 0 = 0 ∧ win0_4.index t 1 = win0_9.index t 0 ∧ win0_4.index t 2 = 0 ∧ win0_4.index t 3 = 0)
    ∧ (win0_6.index t 0 = 0 ∧ win0_6.index t 1 = 0 ∧ win0_6.index t 2 = 0)
    ∧ (win0_7.index t 0 = 0 ∧ win0_7.index t 1 = 0 ∧ win0_8.index t 0 = 0 ∧ win0_8.index t 1 = 0)
    ∧ (win0_9.index t 0 < 8 ∧ win0_9.index t 1 = 0 ∧ win0_9.index t 2 = 0)
    ∧ (win0_10.index t 0 = win0_9.index t 0 ∧ win0_10.index t 1 = 0 ∧ win0_10.index t 2 = 0) :=
  (by decide +kernel : ∀ t : Fin grid0.N,
    (win0_0.index t 0 = win0_9.index t 0 ∧ win0_0.index t 1 = 0 ∧ win0_0.index t 2 = 2)
    ∧ (win0_1.index t 0 = win0_9.index t 0 ∧ win0_1.index t 1 = 0 ∧ win0_1.index t 2 = 3)
    ∧ (win0_2.index t 0 = win0_9.index t 0 ∧ win0_2.index t 1 = 0 ∧ win0_2.index t 2 = 4)
    ∧ (win0_5.index t 0 = win0_9.index t 0 ∧ win0_5.index t 1 = 0 ∧ win0_5.index t 2 = 5)
    ∧ (win0_3.index t 0 = 0 ∧ win0_3.index t 1 = win0_9.index t 0 ∧ win0_3.index t 2 = 0 ∧ win0_3.index t 3 = 0)
    ∧ (win0_4.index t 0 = 0 ∧ win0_4.index t 1 = win0_9.index t 0 ∧ win0_4.index t 2 = 0 ∧ win0_4.index t 3 = 0)
    ∧ (win0_6.index t 0 = 0 ∧ win0_6.index t 1 = 0 ∧ win0_6.index t 2 = 0)
    ∧ (win0_7.index t 0 = 0 ∧ win0_7.index t 1 = 0 ∧ win0_8.index t 0 = 0 ∧ win0_8.index t 1 = 0)
    ∧ (win0_9.index t 0 < 8 ∧ win0_9.index t 1 = 0 ∧ win0_9.index t 2 = 0)
    ∧ (win0_10.index t 0 = win0_9.index t 0 ∧ win0_10.index t 1 = 0 ∧ win0_10.index t 2 = 0))

/-- The stream of a point. -/
def bt (t : Fin cfg0.N) : Fin 8 := ⟨win0_9.index t 0, (index t).2.2.2.2.2.2.2.2.1.1⟩

theorem in0 (t : Fin cfg0.N) (h : Fin 8) (s : Fin 16) (d : Fin 128) :
    (iblk m c 0 t : S1x16x1024.Idx → EReal) (ix3 (0 : Fin 1) s (⟨128 * h.val + d.val, by omega⟩ : Fin 1024))
      = col (V m c main_arg0 : S8x16x22528.Idx → EReal) 2 (bt t) s h d := by
  obtain ⟨⟨a0, a1, a2⟩, -⟩ := index t
  show V m c main_arg0 (((cfg0.win 0).blk t).view.emb (ix3 (0 : Fin 1) s (⟨128 * h.val + d.val, by omega⟩ : Fin 1024))) = _
  refine congrArg (V m c main_arg0) (funext fun a => Fin.ext ?_)
  fin_cases a
  · show win0_0.index t (0 : Fin 3) * 1 + 1 * 0 = win0_9.index t 0; omega
  · show win0_0.index t (1 : Fin 3) * 16 + 1 * s.val = s.val; omega
  · show win0_0.index t (2 : Fin 3) * 1024 + 1 * (128 * h.val + d.val) = 1024 * 2 + (128 * h.val + d.val); omega

theorem in1 (t : Fin cfg0.N) (h : Fin 8) (s : Fin 16) (d : Fin 128) :
    (iblk m c 1 t : S1x16x1024.Idx → EReal) (ix3 (0 : Fin 1) s (⟨128 * h.val + d.val, by omega⟩ : Fin 1024))
      = col (V m c main_arg0 : S8x16x22528.Idx → EReal) 3 (bt t) s h d := by
  obtain ⟨-, ⟨a0, a1, a2⟩, -⟩ := index t
  show V m c main_arg0 (((cfg0.win 1).blk t).view.emb (ix3 (0 : Fin 1) s (⟨128 * h.val + d.val, by omega⟩ : Fin 1024))) = _
  refine congrArg (V m c main_arg0) (funext fun a => Fin.ext ?_)
  fin_cases a
  · show win0_1.index t (0 : Fin 3) * 1 + 1 * 0 = win0_9.index t 0; omega
  · show win0_1.index t (1 : Fin 3) * 16 + 1 * s.val = s.val; omega
  · show win0_1.index t (2 : Fin 3) * 1024 + 1 * (128 * h.val + d.val) = 1024 * 3 + (128 * h.val + d.val); omega

theorem in2 (t : Fin cfg0.N) (h : Fin 8) (s : Fin 16) (d : Fin 128) :
    (iblk m c 2 t : S1x16x1024.Idx → EReal) (ix3 (0 : Fin 1) s (⟨128 * h.val + d.val, by omega⟩ : Fin 1024))
      = col (V m c main_arg0 : S8x16x22528.Idx → EReal) 4 (bt t) s h d := by
  obtain ⟨-, -, ⟨a0, a1, a2⟩, -⟩ := index t
  show V m c main_arg0 (((cfg0.win 2).blk t).view.emb (ix3 (0 : Fin 1) s (⟨128 * h.val + d.val, by omega⟩ : Fin 1024))) = _
  refine congrArg (V m c main_arg0) (funext fun a => Fin.ext ?_)
  fin_cases a
  · show win0_2.index t (0 : Fin 3) * 1 + 1 * 0 = win0_9.index t 0; omega
  · show win0_2.index t (1 : Fin 3) * 16 + 1 * s.val = s.val; omega
  · show win0_2.index t (2 : Fin 3) * 1024 + 1 * (128 * h.val + d.val) = 1024 * 4 + (128 * h.val + d.val); omega

theorem in5 (t : Fin cfg0.N) (h : Fin 8) (s : Fin 16) (d : Fin 128) :
    (iblk m c 5 t : S1x16x1024.Idx → EReal) (ix3 (0 : Fin 1) s (⟨128 * h.val + d.val, by omega⟩ : Fin 1024))
      = col (V m c main_arg0 : S8x16x22528.Idx → EReal) 5 (bt t) s h d := by
  obtain ⟨-, -, -, ⟨a0, a1, a2⟩, -⟩ := index t
  show V m c main_arg0 (((cfg0.win 5).blk t).view.emb (ix3 (0 : Fin 1) s (⟨128 * h.val + d.val, by omega⟩ : Fin 1024))) = _
  refine congrArg (V m c main_arg0) (funext fun a => Fin.ext ?_)
  fin_cases a
  · show win0_5.index t (0 : Fin 3) * 1 + 1 * 0 = win0_9.index t 0; omega
  · show win0_5.index t (1 : Fin 3) * 16 + 1 * s.val = s.val; omega
  · show win0_5.index t (2 : Fin 3) * 1024 + 1 * (128 * h.val + d.val) = 1024 * 5 + (128 * h.val + d.val); omega

theorem in3 (t : Fin cfg0.N) (j : Fin 4096) (d : Fin 128) :
    (iblk m c 3 t : S1x1x4096x128.Idx → EReal) (ix4 (0 : Fin 1) (0 : Fin 1) j d) = (V m c main_v0 : S2x8x4096x128.Idx → EReal) (ix4 (0 : Fin 2) (bt t) j d) := by
  obtain ⟨-, -, -, -, ⟨a0, a1, a2, a3⟩, -⟩ := index t
  show V m c main_v0 (((cfg0.win 3).blk t).view.emb (ix4 (0 : Fin 1) (0 : Fin 1) j d)) = _
  refine congrArg (V m c main_v0) (funext fun a => Fin.ext ?_)
  fin_cases a
  · show win0_3.index t (0 : Fin 4) * 1 + 1 * 0 = 0; omega
  · show win0_3.index t (1 : Fin 4) * 1 + 1 * 0 = win0_9.index t 0; omega
  · show win0_3.index t (2 : Fin 4) * 4096 + 1 * j.val = j.val; omega
  · show win0_3.index t (3 : Fin 4) * 128 + 1 * d.val = d.val; omega

theorem in4 (t : Fin cfg0.N) (j : Fin 4096) (d : Fin 128) :
    (iblk m c 4 t : S1x1x4096x128.Idx → EReal) (ix4 (0 : Fin 1) (0 : Fin 1) j d) = (V m c main_v1 : S2x8x4096x128.Idx → EReal) (ix4 (0 : Fin 2) (bt t) j d) := by
  obtain ⟨-, -, -, -, -, ⟨a0, a1, a2, a3⟩, -⟩ := index t
  show V m c main_v1 (((cfg0.win 4).blk t).view.emb (ix4 (0 : Fin 1) (0 : Fin 1) j d)) = _
  refine congrArg (V m c main_v1) (funext fun a => Fin.ext ?_)
  fin_cases a
  · show win0_4.index t (0 : Fin 4) * 1 + 1 * 0 = 0; omega
  · show win0_4.index t (1 : Fin 4) * 1 + 1 * 0 = win0_9.index t 0; omega
  · show win0_4.index t (2 : Fin 4) * 4096 + 1 * j.val = j.val; omega
  · show win0_4.index t (3 : Fin 4) * 128 + 1 * d.val = d.val; omega

theorem in7 (t : Fin cfg0.N) (d : Fin 128) :
    (iblk m c 7 t : S1x128.Idx → EReal) (ix2 (0 : Fin 1) d) = (V m c main_v16 : S1x128.Idx → EReal) (ix2 (0 : Fin 1) d) := by
  obtain ⟨-, -, -, -, -, -, -, ⟨a0, a1, -, -⟩, -⟩ := index t
  show V m c main_v16 (((cfg0.win 7).blk t).view.emb (ix2 (0 : Fin 1) d)) = _
  refine congrArg (V m c main_v16) (funext fun a => Fin.ext ?_)
  fin_cases a
  · show win0_7.index t (0 : Fin 2) * 1 + 1 * 0 = 0; omega
  · show win0_7.index t (1 : Fin 2) * 128 + 1 * d.val = d.val; omega

theorem in8 (t : Fin cfg0.N) (d : Fin 128) :
    (iblk m c 8 t : S1x128.Idx → EReal) (ix2 (0 : Fin 1) d) = (V m c main_v17 : S1x128.Idx → EReal) (ix2 (0 : Fin 1) d) := by
  obtain ⟨-, -, -, -, -, -, -, ⟨-, -, a0, a1⟩, -⟩ := index t
  show V m c main_v17 (((cfg0.win 8).blk t).view.emb (ix2 (0 : Fin 1) d)) = _
  refine congrArg (V m c main_v17) (funext fun a => Fin.ext ?_)
  fin_cases a
  · show win0_8.index t (0 : Fin 2) * 1 + 1 * 0 = 0; omega
  · show win0_8.index t (1 : Fin 2) * 128 + 1 * d.val = d.val; omega

theorem in6 (t : Fin cfg0.N) (h : Fin 8) (r : Fin 16) (j : Fin 640) :
    (iblk m c 6 t : S8x16x640.Idx → EReal) (ix3 h r j) = (V m c main_v15 : S8x16x640.Idx → EReal) (ix3 h r j) := by
  obtain ⟨-, -, -, -, -, -, ⟨a0, a1, a2⟩, -⟩ := index t
  show V m c main_v15 (((cfg0.win 6).blk t).view.emb (ix3 h r j)) = _
  refine congrArg (V m c main_v15) (funext fun a => Fin.ext ?_)
  fin_cases a
  · show win0_6.index t (0 : Fin 3) * 8 + 1 * h.val = h.val; omega
  · show win0_6.index t (1 : Fin 3) * 16 + 1 * r.val = r.val; omega
  · show win0_6.index t (2 : Fin 3) * 640 + 1 * j.val = j.val; omega

/-- The gated attention, an array. -/
def outAll (P : New) (C D : Cache) (B : Bias) (gq gk : Gain) : S8x16x1024.Idx → EReal := fun y =>
  out P C D B gq gk (y 0) (y 1) ⟨(y 2).val / 128, by have h : (y 2).val < 1024 := (y 2).isLt; omega⟩ ⟨(y 2).val % 128, by omega⟩

/-- The new keys, an array. -/
def keyAll (P : New) (gk : Gain) : S8x16x1024.Idx → EReal := fun y =>
  key P gk (y 0) (y 1) ⟨(y 2).val / 128, by have h : (y 2).val < 1024 := (y 2).isLt; omega⟩ ⟨(y 2).val % 128, by omega⟩

theorem gain7 {gq : Gain} (h7 : ∀ d : Fin 128, (V m c main_v16 : S1x128.Idx → EReal) (ix2 (0 : Fin 1) d) = gq (ix1 d)) (t : Fin cfg0.N) :
    gain (iblk m c 7 t) = gq := funext fun y => by
  have hy : y = ix1 (y 0) := funext fun a => by match a with | ⟨0, _⟩ => rfl
  rw [hy]
  exact (in7 m c t (y 0)).trans (h7 (y 0))

theorem gain8 {gk : Gain} (h8 : ∀ d : Fin 128, (V m c main_v17 : S1x128.Idx → EReal) (ix2 (0 : Fin 1) d) = gk (ix1 d)) (t : Fin cfg0.N) :
    gain (iblk m c 8 t) = gk := funext fun y => by
  have hy : y = ix1 (y 0) := funext fun a => by match a with | ⟨0, _⟩ => rfl
  rw [hy]
  exact (in8 m c t (y 0)).trans (h8 (y 0))

end Array

end Cert.SampleBandIdeal.Stage

end
-- ==== Proof.SampleBandHost.lean ====
/-
  The bias the kernel of the banded attention over the cached keys reads, built from the table on the host: the table's
  entry for a query and a key, −∞ past the last key.
-/
module

public import Idealize.ShloMosaic.Lib.StableHlo.Run
public import Idealize.ShloMosaic.Lib.KernelVsHost
public import proofs.«01_k».proof.Proof.SampleBandArr

@[expose] public section

set_option maxRecDepth 65536

noncomputable section

namespace Cert.SampleBandIdeal.Stage

open Idealize.ShloMosaic
open Idealize.ShloMosaic.ValueIdx Idealize.ShloMosaic.TcCoe
open Cert.SampleBandIdeal Cert.SampleBandIdeal.Gen Cert.BandMath Cert.SampleBandSpec
open Cert.BandSpec hiding out col sc key window sc_real
open scoped BigOperators

section Bias

variable (x : FVec Ideal S8x257 .f32)

/-- A row of the table, reversed, its ends repeated. -/
def long : FVec Ideal S8x544 .f32 :=
  concatenate S8x544 1 [⟨S8x385, broadcastInDim S8x385 ![0, 1] bcast_S8x1_S8x385_0_1 (extractStridedSlice S8x1 ![0, 256] x slices_S8x257_S8x1_0_256)⟩,
    ⟨S8x143, Host.reverse [1] (extractStridedSlice S8x143 ![0, 113] x slices_S8x257_S8x143_0_113)⟩,
    ⟨S8x16, broadcastInDim S8x16 ![0, 1] bcast_S8x1_S8x16_0_1 (extractStridedSlice S8x1 ![0, 256] x slices_S8x257_S8x1_0_256)⟩]
    concatenates_S8x385_S8x143_S8x16_S8x544_d1

/-- The rows of the window, each the one before it shifted by a column. -/
def shifted : FVec Ideal S8x16x528 .f32 :=
  extractStridedSlice S8x16x528 ![0, 0, 0] (shapeCast S8x16x543 (extractStridedSlice S8x8688 ![0, 0] (shapeCast S8x8704
    (broadcastInDim S1x8x16x544 ![0, 1, 2, 3] bcast_S1x8x1x544_S1x8x16x544_0_1_2_3 (shapeCast S1x8x1x544 (long x) shapeCasts_S8x544_S1x8x1x544))
    shapeCasts_S1x8x16x544_S8x8704) slices_S8x8704_S8x8688_0_0) shapeCasts_S8x8688_S8x16x543) slices_S8x16x543_S8x16x528_0_0_0

/-- The bias the kernel reads. -/
def biasOf : FVec Ideal S8x16x640 .f32 :=
  pad S8x16x640 ![0, 0, 0] ![0, 0, 112] ![0, 0, 0] (shifted x) (constant S_ .f32 0xFF800000#32 : FVec Ideal S_ .f32) pads_S8x16x528_S8x16x640_000_000_01120 h_S_

theorem end_apply (h : Fin 8) : extractStridedSlice S8x1 ![0, 256] x slices_S8x257_S8x1_0_256 (ix2 h (0 : Fin 1)) = x (ix2 h (⟨256, by omega⟩ : Fin 257)) := by
  refine extractStridedSlice_apply _ x _ (ix2 h (0 : Fin 1)) _ fun a => ?_
  match a with
  | ⟨0, _⟩ => show h.val = 0 + h.val; omega
  | ⟨1, _⟩ => rfl

theorem long_left (h : Fin 8) (n : Fin 544) (hn : n.val < 385) : long x (ix2 h n) = x (ix2 h (⟨256, by omega⟩ : Fin 257)) := by
  unfold long
  refine (concatenate_apply_piece 1 _ _ (ix2 h n) 0 (by show 0 < 3; decide) S8x385 _ rfl rfl 0 rfl (ix2 h (⟨n.val, hn⟩ : Fin 385)) ?_ ?_).trans ?_
  · intro b hb
    match b with
    | ⟨0, _⟩ => rfl
    | ⟨1, _⟩ => exact absurd rfl hb
  · exact Nat.zero_add _
  · refine (broadcastInDim_apply _ bcast_S8x1_S8x385_0_1 _ _ (ix2 h (0 : Fin 1)) fun a => ?_).trans (end_apply x h)
    match a with
    | ⟨0, _⟩ => show h.val = if (8 : ℕ) = 1 then 0 else h.val; rw [if_neg (by decide)]
    | ⟨1, _⟩ => show 0 = if (1 : ℕ) = 1 then 0 else n.val; rw [if_pos rfl]

theorem long_right (h : Fin 8) (n : Fin 544) (hn : 528 ≤ n.val) : long x (ix2 h n) = x (ix2 h (⟨256, by omega⟩ : Fin 257)) := by
  have hl := n.isLt
  unfold long
  refine (concatenate_apply_piece 1 _ _ (ix2 h n) 2 (by show 2 < 3; decide) S8x16 _ rfl rfl 528 rfl (ix2 h (⟨n.val - 528, by omega⟩ : Fin 16)) ?_ ?_).trans ?_
  · intro b hb
    match b with
    | ⟨0, _⟩ => rfl
    | ⟨1, _⟩ => exact absurd rfl hb
  · show 528 + (n.val - 528) = n.val
    omega
  · refine (broadcastInDim_apply _ bcast_S8x1_S8x16_0_1 _ _ (ix2 h (0 : Fin 1)) fun a => ?_).trans (end_apply x h)
    match a with
    | ⟨0, _⟩ => show h.val = if (8 : ℕ) = 1 then 0 else h.val; rw [if_neg (by decide)]
    | ⟨1, _⟩ => show 0 = if (1 : ℕ) = 1 then 0 else (n.val - 528); rw [if_pos rfl]

theorem long_mid (h : Fin 8) (n : Fin 544) (h1 : 385 ≤ n.val) (h2 : n.val < 528) : long x (ix2 h n) = x (ix2 h (⟨640 - n.val, by omega⟩ : Fin 257)) := by
  unfold long
  refine (concatenate_apply_piece 1 _ _ (ix2 h n) 1 (by show 1 < 3; decide) S8x143 _ rfl rfl 385 rfl (ix2 h (⟨n.val - 385, by omega⟩ : Fin 143)) ?_ ?_).trans ?_
  · intro b hb
    match b with
    | ⟨0, _⟩ => rfl
    | ⟨1, _⟩ => exact absurd rfl hb
  · show 385 + (n.val - 385) = n.val
    omega
  · refine (extractStridedSlice_apply _ x slices_S8x257_S8x143_0_113 _ (ix2 h (⟨640 - n.val, by omega⟩ : Fin 257)) fun a => ?_)
    match a with
    | ⟨0, _⟩ => show h.val = 0 + h.val; omega
    | ⟨1, _⟩ => show 640 - n.val = 113 + (143 - (n.val - 385 + 1)); omega

theorem shifted_apply (h : Fin 8) (r : Fin 16) (c : Fin 528) : shifted x (ix3 h r c) = x (ix2 h (rel (512 + r.val) c.val)) := by
  have hr := r.isLt
  have hc := c.isLt
  have hn : r.val * 543 + c.val < 8688 := by omega
  have e : shifted x (ix3 h r c) = long x (ix2 h (⟨(r.val * 543 + c.val) % 544, by omega⟩ : Fin 544)) := by
    unfold shifted
    refine (extractStridedSlice_apply _ _ slices_S8x16x543_S8x16x528_0_0_0 (ix3 h r c) (ix3 h r (⟨c.val, by omega⟩ : Fin 543)) fun a => ?_).trans ?_
    · match a with
      | ⟨0, _⟩ => show h.val = 0 + h.val; omega
      | ⟨1, _⟩ => show r.val = 0 + r.val; omega
      | ⟨2, _⟩ => show c.val = 0 + c.val; omega
    refine (shapeCast_apply _ shapeCasts_S8x8688_S8x16x543 _ (ix2 h (⟨r.val * 543 + c.val, hn⟩ : Fin 8688)) ?_).trans ?_
    · rw [Shape.rowMajor_val_two, Shape.rowMajor_val_three]
      show h.val * 8688 + (r.val * 543 + c.val) = (h.val * 16 + r.val) * 543 + c.val
      omega
    refine (extractStridedSlice_apply _ _ slices_S8x8704_S8x8688_0_0 _ (ix2 h (⟨r.val * 543 + c.val, by omega⟩ : Fin 8704)) fun a => ?_).trans ?_
    · match a with
      | ⟨0, _⟩ => show h.val = 0 + h.val; omega
      | ⟨1, _⟩ => show r.val * 543 + c.val = 0 + (r.val * 543 + c.val); omega
    refine (shapeCast_apply _ shapeCasts_S1x8x16x544_S8x8704 _ (ix4 (0 : Fin 1) h (⟨(r.val * 543 + c.val) / 544, by omega⟩ : Fin 16)
      (⟨(r.val * 543 + c.val) % 544, by omega⟩ : Fin 544)) ?_).trans ?_
    · rw [Shape.rowMajor_val_two, Shape.rowMajor_val_four]
      show ((0 * 8 + h.val) * 16 + (r.val * 543 + c.val) / 544) * 544 + (r.val * 543 + c.val) % 544 = h.val * 8704 + (r.val * 543 + c.val)
      omega
    refine (broadcastInDim_apply _ bcast_S1x8x1x544_S1x8x16x544_0_1_2_3 _ _ (ix4 (0 : Fin 1) h (0 : Fin 1)
      (⟨(r.val * 543 + c.val) % 544, by omega⟩ : Fin 544)) fun a => ?_).trans ?_
    · match a with
      | ⟨0, _⟩ => show 0 = if (1 : ℕ) = 1 then 0 else 0; rw [if_pos rfl]
      | ⟨1, _⟩ => show h.val = if (8 : ℕ) = 1 then 0 else h.val; rw [if_neg (by decide)]
      | ⟨2, _⟩ => show 0 = if (1 : ℕ) = 1 then 0 else (r.val * 543 + c.val) / 544; rw [if_pos rfl]
      | ⟨3, _⟩ => show (r.val * 543 + c.val) % 544 = if (544 : ℕ) = 1 then 0 else (r.val * 543 + c.val) % 544; rw [if_neg (by decide)]
    refine shapeCast_apply _ shapeCasts_S8x544_S1x8x1x544 _ _ ?_
    rw [Shape.rowMajor_val_two, Shape.rowMajor_val_four]
    show h.val * 544 + (r.val * 543 + c.val) % 544 = ((0 * 8 + h.val) * 1 + 0) * 544 + (r.val * 543 + c.val) % 544
    omega
  have hm : (r.val * 543 + c.val) % 544 = if r.val ≤ c.val then c.val - r.val else 544 + c.val - r.val := by
    by_cases hrc : r.val ≤ c.val
    · rw [if_pos hrc, show r.val * 543 + c.val = (c.val - r.val) + 544 * r.val by omega, Nat.add_mul_mod_self_left, Nat.mod_eq_of_lt (by omega)]
    · rw [if_neg hrc, show r.val * 543 + c.val = (544 + c.val - r.val) + 544 * (r.val - 1) by omega, Nat.add_mul_mod_self_left, Nat.mod_eq_of_lt (by omega)]
  rw [e]
  by_cases h1 : (r.val * 543 + c.val) % 544 < 385
  · rw [long_left x h _ h1]
    exact congrArg (fun n => x (ix2 h n)) (Fin.ext (by show 256 = 128 + (512 + r.val) - c.val - (128 + (512 + r.val) - c.val - 256); split_ifs at hm <;> omega))
  · by_cases h2 : (r.val * 543 + c.val) % 544 < 528
    · rw [long_mid x h _ (by show 385 ≤ (r.val * 543 + c.val) % 544; omega) h2]
      exact congrArg (fun n => x (ix2 h n)) (Fin.ext (by
        show 640 - (r.val * 543 + c.val) % 544 = 128 + (512 + r.val) - c.val - (128 + (512 + r.val) - c.val - 256); split_ifs at hm <;> omega))
    · rw [long_right x h _ (by show 528 ≤ (r.val * 543 + c.val) % 544; omega)]
      exact congrArg (fun n => x (ix2 h n)) (Fin.ext (by show 256 = 128 + (512 + r.val) - c.val - (128 + (512 + r.val) - c.val - 256); split_ifs at hm <;> omega))

theorem biasOf_in (h : Fin 8) (r : Fin 16) (c : Fin 528) :
    biasOf x (ix3 h r (⟨c.val, by omega⟩ : Fin 640)) = x (ix2 h (rel (512 + r.val) c.val)) := by
  refine (pad_apply_of_inside _ _ _ _ _ _ _ (ix3 h r (⟨c.val, by omega⟩ : Fin 640)) (ix3 h r c) fun a => ?_).trans (shifted_apply x h r c)
  match a with
  | ⟨0, _⟩ => show h.val = 0 + h.val * (0 + 1); omega
  | ⟨1, _⟩ => show r.val = 0 + r.val * (0 + 1); omega
  | ⟨2, _⟩ => show c.val = 0 + c.val * (0 + 1); omega

theorem biasOf_out (h : Fin 8) (r : Fin 16) (c : Fin 640) (hc : 528 ≤ c.val) : biasOf x (ix3 h r c) = (⊥ : EReal) := by
  refine (pad_apply_of_not_inside _ _ _ _ _ _ _ (ix3 h r c) (2 : Fin 3) ?_).trans ?_
  · show ¬ (0 ≤ c.val ∧ (c.val - 0) % (0 + 1) = 0 ∧ (c.val - 0) / (0 + 1) < 528)
    omega
  · show Ideal.ofBits .f32 0xFF800000#32 = _
    simp [Ideal.ofBits, Ideal.ieee]

end Bias

section Entry

variable (m : (ℓ : Loc nD τ sig) → Buf (Elt Ideal) ℓ) (c : Dev nD)

theorem entry_bias : V m c main_v15 = biasOf (m ((c : Thread nD τ).loc main_arg3)) := by
  unfold_abbrev_sides
  simp only [hostOps0, hostOps0_1, hostOps0_2, List.flatten_cons, List.flatten_nil, List.append_nil, List.cons_append, List.nil_append]
  after_results
  rfl

theorem entry_gq : V m c main_v16 = shapeCast S1x128 (m ((c : Thread nD τ).loc main_arg4)) shapeCasts_S128_S1x128 := by
  unfold_abbrev_sides
  simp only [hostOps0, hostOps0_1, hostOps0_2, List.flatten_cons, List.flatten_nil, List.append_nil, List.cons_append, List.nil_append]
  after_results
  rfl

theorem entry_gk : V m c main_v17 = shapeCast S1x128 (m ((c : Thread nD τ).loc main_arg5)) shapeCasts_S128_S1x128 := by
  unfold_abbrev_sides
  simp only [hostOps0, hostOps0_1, hostOps0_2, List.flatten_cons, List.flatten_nil, List.append_nil, List.cons_append, List.nil_append]
  after_results
  rfl

theorem entry_ck : V m c main_v0 = shapeCast S2x8x4096x128 (m ((c : Thread nD τ).loc main_arg1)) shapeCasts_S2x8x512x8x128_S2x8x4096x128 := by
  unfold_abbrev_sides
  simp only [hostOps0, hostOps0_1, hostOps0_2, List.flatten_cons, List.flatten_nil, List.append_nil, List.cons_append, List.nil_append]
  after_results
  rfl

theorem entry_cv : V m c main_v1 = shapeCast S2x8x4096x128 (m ((c : Thread nD τ).loc main_arg2)) shapeCasts_S2x8x512x8x128_S2x8x4096x128 := by
  unfold_abbrev_sides
  simp only [hostOps0, hostOps0_1, hostOps0_2, List.flatten_cons, List.flatten_nil, List.append_nil, List.cons_append, List.nil_append]
  after_results
  rfl

end Entry

end Cert.SampleBandIdeal.Stage

end
-- ==== Proof.SampleBandEnd.lean ====
/-
  The arrays the kernel of the banded attention over the cached keys leaves, from its blocks.
-/
module

public import proofs.«01_k».proof.Proof.SampleBandArr

@[expose] public section

set_option maxRecDepth 65536

noncomputable section

namespace Cert.SampleBandIdeal.Stage

open Idealize.ShloMosaic
open Idealize.ShloMosaic.ValueIdx Idealize.ShloMosaic.TcCoe
open Cert.SampleBandIdeal Cert.SampleBandIdeal.Gen Cert.BandMath Cert.SampleBandSpec
open Cert.BandSpec hiding out col sc key window sc_real
open Cert.BandIdeal.Stage (gain)
open scoped BigOperators

section Array

variable (m : (ℓ : Loc nD τ sig) → Buf (Elt Ideal) ℓ) (c : Dev nD)

theorem after9 (t : Fin cfg0.N) : (outsAt0 m c t).1 = out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) := by
  unfold outsAt0
  with_reducible rfl

theorem after10 (t : Fin cfg0.N) : (outsAt0 m c t).2 = out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) := by
  unfold outsAt0
  with_reducible rfl

theorem blk9 {C D : Cache} {B : Bias} {gq gk : Gain} (H : Finite' C B gq gk)
    (h3 : ∀ (b h : Fin 8) (k : Fin 512) (d : Fin 128), (V m c main_v0 : S2x8x4096x128.Idx → EReal) (ix4 (0 : Fin 2) b (⟨8 * k.val + h.val, by omega⟩ : Fin 4096) d) = past C b k h d)
    (h4 : ∀ (b h : Fin 8) (k : Fin 512) (d : Fin 128), (V m c main_v1 : S2x8x4096x128.Idx → EReal) (ix4 (0 : Fin 2) b (⟨8 * k.val + h.val, by omega⟩ : Fin 4096) d) = past D b k h d)
    (h6 : ∀ (h : Fin 8) (s : Fin 16) (k : Fin 528), (V m c main_v15 : S8x16x640.Idx → EReal) (ix3 h s (⟨k.val, by omega⟩ : Fin 640)) = B (ix2 h (rel (512 + s.val) k.val)))
    (h6' : ∀ (h : Fin 8) (s : Fin 16) (k : Fin 640), 528 ≤ k.val → (V m c main_v15 : S8x16x640.Idx → EReal) (ix3 h s k) = (⊥ : EReal))
    (h7 : ∀ d : Fin 128, (V m c main_v16 : S1x128.Idx → EReal) (ix2 (0 : Fin 1) d) = gq (ix1 d))
    (h8 : ∀ d : Fin 128, (V m c main_v17 : S1x128.Idx → EReal) (ix2 (0 : Fin 1) d) = gk (ix1 d)) (t : Fin cfg0.N) (y : S1x16x1024.Idx) :
    (outsAt0 m c t).1 y = outBlk (V m c main_arg0 : S8x16x22528.Idx → EReal) C D B gq gk (bt t) y := by
  refine (congrFun (after9 m c t) y).trans ?_
  exact block_out _ _ _ _ _ _ _ _ _ _ _ _ _ _ _ _ _ _ _ _ _ _ _ _ _ _ _ _ _ _ _ _ _ H (bt t) (in0 m c t) (in1 m c t) (in2 m c t) (in5 m c t)
    (fun h k d => (in3 m c t _ d).trans (h3 (bt t) h k d)) (fun h k d => (in4 m c t _ d).trans (h4 (bt t) h k d))
    (fun h s k => (in6 m c t h s _).trans (h6 h s k)) (fun h s k hk => (in6 m c t h s k).trans (h6' h s k hk)) (gain7 m c h7 t) (gain8 m c h8 t) y

theorem blk10 {gk : Gain} (h8 : ∀ d : Fin 128, (V m c main_v17 : S1x128.Idx → EReal) (ix2 (0 : Fin 1) d) = gk (ix1 d)) (t : Fin cfg0.N) (y : S1x16x1024.Idx) :
    (outsAt0 m c t).2 y = keyBlk (V m c main_arg0 : S8x16x22528.Idx → EReal) gk (bt t) y := by
  refine (congrFun (after10 m c t) y).trans ?_
  exact block_key _ _ _ _ _ _ _ _ _ _ _ _ _ _ _ _ _ _ _ _ _ _ _ _ _ _ _ _ _ _ _ _ _ (bt t) (in1 m c t) (gain8 m c h8 t) y

theorem at9 (P : New) (C D : Cache) (B : Bias) (gq gk : Gain) (t : Fin cfg0.N) (y : S1x16x1024.Idx) :
    outBlk P C D B gq gk (bt t) y = outAll P C D B gq gk ((win0_9.blk t).view.emb y) := by
  obtain ⟨-, -, -, -, -, -, -, -, ⟨a0, a1, a2⟩, -⟩ := index t
  have y0 : (y 0).val < 1 := (y 0).isLt
  have f0 : (((win0_9.blk t).view.emb y) 0 : Fin 8) = bt t := Fin.ext (by
    show win0_9.index t (0 : Fin 3) * 1 + 1 * (y 0).val = win0_9.index t 0; omega)
  have f1 : (((win0_9.blk t).view.emb y) 1 : Fin 16) = (y 1 : Fin 16) := Fin.ext (by
    show win0_9.index t (1 : Fin 3) * 16 + 1 * (y 1).val = (y 1).val; omega)
  have f2 : (((win0_9.blk t).view.emb y) 2).val = (y 2).val := by
    show win0_9.index t (2 : Fin 3) * 1024 + 1 * (y 2).val = _; omega
  symm
  unfold outAll outBlk
  exact congr (congr (congr (congrArg (out P C D B gq gk) f0) f1)
    (Fin.ext (congrArg (fun n : ℕ => n / 128) f2))) (Fin.ext (congrArg (fun n : ℕ => n % 128) f2))

theorem at10 (P : New) (gk : Gain) (t : Fin cfg0.N) (y : S1x16x1024.Idx) :
    keyBlk P gk (bt t) y = keyAll P gk ((win0_10.blk t).view.emb y) := by
  obtain ⟨-, -, -, -, -, -, -, -, ⟨a0, a1, a2⟩, ⟨b0, b1, b2⟩⟩ := index t
  have y0 : (y 0).val < 1 := (y 0).isLt
  have f0 : (((win0_10.blk t).view.emb y) 0 : Fin 8) = bt t := Fin.ext (by
    show win0_10.index t (0 : Fin 3) * 1 + 1 * (y 0).val = win0_9.index t 0; omega)
  have f1 : (((win0_10.blk t).view.emb y) 1 : Fin 16) = (y 1 : Fin 16) := Fin.ext (by
    show win0_10.index t (1 : Fin 3) * 16 + 1 * (y 1).val = (y 1).val; omega)
  have f2 : (((win0_10.blk t).view.emb y) 2).val = (y 2).val := by
    show win0_10.index t (2 : Fin 3) * 1024 + 1 * (y 2).val = _; omega
  symm
  unfold keyAll keyBlk
  exact congr (congr (congr (congrArg (key P gk) f0) f1)
    (Fin.ext (congrArg (fun n : ℕ => n / 128) f2))) (Fin.ext (congrArg (fun n : ℕ => n % 128) f2))

theorem arr9 {C D : Cache} {B : Bias} {gq gk : Gain} (H : Finite' C B gq gk)
    (h3 : ∀ (b h : Fin 8) (k : Fin 512) (d : Fin 128), (V m c main_v0 : S2x8x4096x128.Idx → EReal) (ix4 (0 : Fin 2) b (⟨8 * k.val + h.val, by omega⟩ : Fin 4096) d) = past C b k h d)
    (h4 : ∀ (b h : Fin 8) (k : Fin 512) (d : Fin 128), (V m c main_v1 : S2x8x4096x128.Idx → EReal) (ix4 (0 : Fin 2) b (⟨8 * k.val + h.val, by omega⟩ : Fin 4096) d) = past D b k h d)
    (h6 : ∀ (h : Fin 8) (s : Fin 16) (k : Fin 528), (V m c main_v15 : S8x16x640.Idx → EReal) (ix3 h s (⟨k.val, by omega⟩ : Fin 640)) = B (ix2 h (rel (512 + s.val) k.val)))
    (h6' : ∀ (h : Fin 8) (s : Fin 16) (k : Fin 640), 528 ≤ k.val → (V m c main_v15 : S8x16x640.Idx → EReal) (ix3 h s k) = (⊥ : EReal))
    (h7 : ∀ d : Fin 128, (V m c main_v16 : S1x128.Idx → EReal) (ix2 (0 : Fin 1) d) = gq (ix1 d))
    (h8 : ∀ d : Fin 128, (V m c main_v17 : S1x128.Idx → EReal) (ix2 (0 : Fin 1) d) = gk (ix1 d)) :
    (dats m 0 c).arrAt 9 cfg0.N = outAll (V m c main_arg0 : S8x16x22528.Idx → EReal) C D B gq gk := by
  refine (dats m 0 c).arrAt_eq_of_covers 9 (outAll (V m c main_arg0 : S8x16x22528.Idx → EReal) C D B gq gk) (by decide +kernel) fun t hf y => ?_
  blk_simp
  rw [after0_9]
  exact (blk9 m c H h3 h4 h6 h6' h7 h8 t y).trans (at9 _ C D B gq gk t y)

theorem arr10 {gk : Gain} (h8 : ∀ d : Fin 128, (V m c main_v17 : S1x128.Idx → EReal) (ix2 (0 : Fin 1) d) = gk (ix1 d)) :
    (dats m 0 c).arrAt 10 cfg0.N = keyAll (V m c main_arg0 : S8x16x22528.Idx → EReal) gk := by
  refine (dats m 0 c).arrAt_eq_of_covers 10 (keyAll (V m c main_arg0 : S8x16x22528.Idx → EReal) gk) (by decide +kernel) fun t hf y => ?_
  blk_simp
  rw [after0_10]
  exact (blk10 m c h8 t y).trans (at10 _ gk t y)

end Array

end Cert.SampleBandIdeal.Stage

end
-- ==== Proof.SampleBandRef.lean ====
/-
  The banded attention over the cached keys as the reference computes it.
-/
module

public import Idealize.ShloMosaic.Lib.KernelVsHost
public import Idealize.ShloMosaic.Lib.IdealHost
public import proofs.«01_k».proof.Proof.Gen.SampleBandRefIdeal.Read
public import proofs.«01_k».proof.Proof.SampleBandSpec

@[expose] public section

set_option maxRecDepth 65536

noncomputable section

namespace Cert.SampleBandRefIdeal.Stage

open Idealize.ShloMosaic
open Idealize.ShloMosaic.ValueIdx
open Cert.SampleBandRefIdeal Cert.SampleBandRefIdeal.Gen Cert.SampleBandRefIdeal.Read Cert.BandMath Cert.SampleBandSpec
open Cert.BandSpec hiding out col sc key window sc_real
open scoped BigOperators

/-- The clipped distance's column, as words. -/
def clipw (d : BitVec 32) : BitVec 32 :=
  Scalar.select (IntOp.cmpi .slt (IntOp.addi (IntOp.minsi 128#32 (IntOp.maxsi 4294967168#32 d)) 128#32) 0#32)
    (IntOp.addi (IntOp.addi (IntOp.minsi 128#32 (IntOp.maxsi 4294967168#32 d)) 128#32) 257#32)
    (IntOp.addi (IntOp.minsi 128#32 (IntOp.maxsi 4294967168#32 d)) 128#32)

theorem clipw_table : ∀ n : Fin 4095, min (clipw (BitVec.ofNat 32 (n.val + 4294965249))).toInt.toNat 256
    = n.val + 128 - 2047 - (n.val + 128 - 2047 - 256) := by decide +kernel

theorem clipw_apply (q k : Fin 2048) : min (clipw (IntOp.subi (BitVec.ofNat 32 q.val) (BitVec.ofNat 32 k.val))).toInt.toNat 256
    = (rel q.val k.val).val := by
  have hq := q.isLt
  have hk := k.isLt
  have e : IntOp.subi (BitVec.ofNat 32 q.val) (BitVec.ofNat 32 k.val) = BitVec.ofNat 32 (q.val + 2047 - k.val + 4294965249) := by
    show BitVec.ofNat 32 q.val - BitVec.ofNat 32 k.val = _
    apply BitVec.eq_of_toNat_eq
    rw [BitVec.toNat_sub, BitVec.toNat_ofNat, BitVec.toNat_ofNat, BitVec.toNat_ofNat]
    omega
  rw [e]
  refine (clipw_table ⟨q.val + 2047 - k.val, by omega⟩).trans ?_
  show q.val + 2047 - k.val + 128 - 2047 - (q.val + 2047 - k.val + 128 - 2047 - 256) = 128 + q.val - k.val - (128 + q.val - k.val - 256)
  omega

theorem rel_apply (q : Fin 16) (k : Fin 528) : min (val_main_v56 (F := Ideal) (ix2 q k)).toInt.toNat 256 = (rel (512 + q.val) k.val).val := by
  have hq := q.isLt
  have hk := k.isLt
  have e : IntOp.addi (BitVec.ofNat 32 q.val) 512#32 = BitVec.ofNat 32 (512 + q.val) := by
    show BitVec.ofNat 32 q.val + 512#32 = _
    apply BitVec.eq_of_toNat_eq
    rw [BitVec.toNat_add, BitVec.toNat_ofNat, BitVec.toNat_ofNat, BitVec.toNat_ofNat]
    omega
  have e48 : val_main_v48 (F := Ideal) (ix2 q k) = IntOp.subi (BitVec.ofNat 32 (512 + q.val)) (BitVec.ofNat 32 k.val) := by
    rw [val_main_v48_apply, val_main_v46_apply, val_main_v45_apply, val_main_v43_apply, val_main_v42_apply, val_main_v44_apply, val_main_c_apply,
      val_main_v47_apply, val_main_v41_apply, val_main_v40_apply]
    exact congrArg (fun z => IntOp.subi z (BitVec.ofNat 32 k.val)) e
  rw [val_main_v56_apply, val_main_v53_apply, val_main_v55_apply, val_main_v51_apply, val_main_v49_apply, val_main_call0_v4_apply,
    val_main_call0_v3_apply, val_main_c_6_apply, val_main_call0_v2_apply, val_main_call0_v1_apply, val_main_call0_v0_apply, val_main_c_5_apply,
    val_main_v50_apply, val_main_c_7_apply, val_main_v52_apply, val_main_c_8_apply, val_main_v54_apply, val_main_c_9_apply, e48]
  exact clipw_apply ⟨512 + q.val, by omega⟩ ⟨k.val, by omega⟩

variable (x0 : (⟨S8x16x22528, .f32⟩ : BufTy).Contents (Elt Ideal)) (x1 x2 : (⟨S2x8x512x8x128, .f32⟩ : BufTy).Contents (Elt Ideal))
  (x3 : (⟨S8x257, .f32⟩ : BufTy).Contents (Elt Ideal)) (x4 x5 : (⟨S128, .f32⟩ : BufTy).Contents (Elt Ideal))

theorem bias_apply (h : Fin 8) (q : Fin 16) (k : Fin 528) : val_main_v58 (F := Ideal) x3 (ix3 h q k) = x3 (ix2 h (rel (512 + q.val) k.val)) := by
  unfold val_main_v58 Host.gather
  refine congrArg x3 (funext fun a => Fin.ext ?_)
  have hb : ∀ a : Fin 2, a ∉ gather_S8x257_S16x528x1_S8x16x528_0_1_n_n_1_2_81.operandBatchingDims := by decide
  have hm0 : (0 : Fin 2) ∉ gather_S8x257_S16x528x1_S8x16x528_0_1_n_n_1_2_81.startIndexMap := by decide
  have hm1 : (1 : Fin 2) ∈ gather_S8x257_S16x528x1_S8x16x528_0_1_n_n_1_2_81.startIndexMap := by decide
  have hk1 : (1 : Fin 2) ∉ gather_S8x257_S16x528x1_S8x16x528_0_1_n_n_1_2_81.sKept := by decide
  show GatherDims.start gather_S8x257_S16x528x1_S8x16x528_0_1_n_n_1_2_81 (ix3 h q k) (val_main_v57 (F := Ideal)) a
    + GatherDims.batchCoord gather_S8x257_S16x528x1_S8x16x528_0_1_n_n_1_2_81 (ix3 h q k) a
    + GatherDims.offCoord gather_S8x257_S16x528x1_S8x16x528_0_1_n_n_1_2_81 (ix3 h q k) a = _
  rw [GatherDims.batchCoord_eq_zero _ _ _ (hb a), Nat.add_zero]
  match a with
  | ⟨0, _⟩ =>
    have e : GatherDims.start gather_S8x257_S16x528x1_S8x16x528_0_1_n_n_1_2_81 (ix3 h q k) (val_main_v57 (F := Ideal)) (0 : Fin 2) = 0 := by
      unfold GatherDims.start
      exact dif_neg hm0
    refine (congrArg (fun z => z + _) e).trans ((Nat.zero_add _).trans ?_)
    rfl
  | ⟨1, _⟩ =>
    refine (congrArg (fun z => _ + z) (GatherDims.offCoord_eq_zero gather_S8x257_S16x528x1_S8x16x528_0_1_n_n_1_2_81 (ix3 h q k) _ hk1)).trans ?_
    refine (Nat.add_zero _).trans (Eq.trans ?_ (rel_apply q k))
    unfold GatherDims.start
    refine (dif_pos hm1).trans ?_
    show min (val_main_v57 (F := Ideal) _).toInt.toNat 256 = _
    rw [val_main_v57_apply]
    refine congrArg (fun z => min (val_main_v56 (F := Ideal) z).toInt.toNat 256) (funext fun a => Fin.ext ?_)
    match a with
    | ⟨0, _⟩ => rfl
    | ⟨1, _⟩ => rfl

theorem q_apply (b : Fin 8) (s : Fin 16) (h : Fin 8) (d : Fin 128) : val_main_v5 (F := Ideal) x0 (ix4 b s h d) = col x0 2 b s h d := by
  rw [val_main_v5_apply, val_main_v1_apply, val_main_v0_apply]
  unfold col
  refine congrArg x0 (funext fun a => Fin.ext ?_)
  match a with
  | ⟨0, _⟩ => show ((((b.val * 16 + s.val) * 8 + h.val) * 128 + d.val) / 16384) = b.val; omega
  | ⟨1, _⟩ => show ((((b.val * 16 + s.val) * 8 + h.val) * 128 + d.val) / 1024 % 16) = s.val; omega
  | ⟨2, _⟩ => show 2048 + (((b.val * 16 + s.val) * 8 + h.val) * 128 + d.val) % 1024 = 1024 * 2 + (128 * h.val + d.val); omega

theorem k_apply (b : Fin 8) (s : Fin 16) (h : Fin 8) (d : Fin 128) : val_main_v19 (F := Ideal) x0 (ix4 b s h d) = col x0 3 b s h d := by
  rw [val_main_v19_apply, val_main_v2_apply, val_main_v0_apply]
  unfold col
  refine congrArg x0 (funext fun a => Fin.ext ?_)
  match a with
  | ⟨0, _⟩ => show ((((b.val * 16 + s.val) * 8 + h.val) * 128 + d.val) / 16384) = b.val; omega
  | ⟨1, _⟩ => show ((((b.val * 16 + s.val) * 8 + h.val) * 128 + d.val) / 1024 % 16) = s.val; omega
  | ⟨2, _⟩ => show 2048 + (1024 + (((b.val * 16 + s.val) * 8 + h.val) * 128 + d.val) % 1024) = 1024 * 3 + (128 * h.val + d.val); omega

theorem v_apply (b : Fin 8) (s : Fin 16) (h : Fin 8) (d : Fin 128) : val_main_v33 (F := Ideal) x0 (ix4 b s h d) = col x0 4 b s h d := by
  rw [val_main_v33_apply, val_main_v3_apply, val_main_v0_apply]
  unfold col
  refine congrArg x0 (funext fun a => Fin.ext ?_)
  match a with
  | ⟨0, _⟩ => show ((((b.val * 16 + s.val) * 8 + h.val) * 128 + d.val) / 16384) = b.val; omega
  | ⟨1, _⟩ => show ((((b.val * 16 + s.val) * 8 + h.val) * 128 + d.val) / 1024 % 16) = s.val; omega
  | ⟨2, _⟩ => show 2048 + (2048 + (((b.val * 16 + s.val) * 8 + h.val) * 128 + d.val) % 1024) = 1024 * 4 + (128 * h.val + d.val); omega

/-- The place of a head's channel. -/
def at3 (b : Fin 8) (s : Fin 16) (h : Fin 8) (d : Fin 128) : S8x16x1024.Idx := ix3 b s (⟨128 * h.val + d.val, by omega⟩ : Fin 1024)

theorem z_apply (b : Fin 8) (s : Fin 16) (h : Fin 8) (d : Fin 128) : val_main_v4 (F := Ideal) x0 (at3 b s h d) = col x0 5 b s h d := by
  rw [val_main_v4_apply, val_main_v0_apply]
  unfold col
  refine congrArg x0 (funext fun a => Fin.ext ?_)
  match a with
  | ⟨0, _⟩ => rfl
  | ⟨1, _⟩ => rfl
  | ⟨2, _⟩ => show 2048 + (3072 + (128 * h.val + d.val)) = 1024 * 5 + (128 * h.val + d.val); omega

theorem qn_apply (b : Fin 8) (s : Fin 16) (h : Fin 8) (d : Fin 128) : val_main_v18 (F := Ideal) x0 x4 (ix4 b s h d) = nrm (col x0 2 b s h) x4 d := by
  have e : ∀ k, idx_main_v7 (idx_main_v8 (idx_main_v14 (ix4 b s h d))) k = ix4 b s h k := fun k => funext fun a => Fin.ext (by
    match a with | ⟨0, _⟩ => rfl | ⟨1, _⟩ => rfl | ⟨2, _⟩ => rfl | ⟨3, _⟩ => rfl)
  have g : idx_main_v16 (idx_main_v17 (ix4 b s h d)) = ix1 d := funext fun a => Fin.ext (by match a with | ⟨0, _⟩ => rfl)
  have hs : ∑ k : Fin 128, val_main_v6 (F := Ideal) x0 (idx_main_v7 (idx_main_v8 (idx_main_v14 (ix4 b s h d))) k) = ∑ l, col x0 2 b s h l * col x0 2 b s h l :=
    Finset.sum_congr rfl fun k _ => by rw [e, val_main_v6_apply, q_apply]; rfl
  have hz : val_main_cst (F := Ideal) (Shape.Idx.first h_S_) = (0 : EReal) := Ideal.ofBits_zero_f32
  rw [val_main_v18_apply, val_main_v15_apply, val_main_v17_apply, val_main_v16_apply, g, val_main_v14_apply, val_main_v13_apply, val_main_v12_apply,
    val_main_v10_apply, val_main_v8_apply, val_main_v7_apply, hs, hz, zero_add, q_apply]
  rfl

theorem kn_apply (b : Fin 8) (s : Fin 16) (h : Fin 8) (d : Fin 128) : val_main_v32 (F := Ideal) x0 x5 (ix4 b s h d) = nrm (col x0 3 b s h) x5 d := by
  have e : ∀ k, idx_main_v21 (idx_main_v22 (idx_main_v28 (ix4 b s h d))) k = ix4 b s h k := fun k => funext fun a => Fin.ext (by
    match a with | ⟨0, _⟩ => rfl | ⟨1, _⟩ => rfl | ⟨2, _⟩ => rfl | ⟨3, _⟩ => rfl)
  have g : idx_main_v30 (idx_main_v31 (ix4 b s h d)) = ix1 d := funext fun a => Fin.ext (by match a with | ⟨0, _⟩ => rfl)
  have hs : ∑ k : Fin 128, val_main_v20 (F := Ideal) x0 (idx_main_v21 (idx_main_v22 (idx_main_v28 (ix4 b s h d))) k) = ∑ l, col x0 3 b s h l * col x0 3 b s h l :=
    Finset.sum_congr rfl fun k _ => by rw [e, val_main_v20_apply, k_apply]; rfl
  have hz : val_main_cst_2 (F := Ideal) (Shape.Idx.first h_S_) = (0 : EReal) := Ideal.ofBits_zero_f32
  rw [val_main_v32_apply, val_main_v29_apply, val_main_v31_apply, val_main_v30_apply, g, val_main_v28_apply, val_main_v27_apply, val_main_v26_apply,
    val_main_v24_apply, val_main_v22_apply, val_main_v21_apply, hs, hz, zero_add, k_apply]
  rfl

theorem past_apply (x : (⟨S2x8x512x8x128, .f32⟩ : BufTy).Contents (Elt Ideal)) (b : Fin 8) (k : Fin 512) (h : Fin 8) (d : Fin 128) :
    val_main_v35 (F := Ideal) x (ix4 b k h d) = past x b k h d := by
  rw [val_main_v35_apply, val_main_v34_apply]
  unfold past
  refine congrArg x (funext fun a => Fin.ext ?_)
  match a with
  | ⟨0, _⟩ => show _ = 0; rfl
  | ⟨1, _⟩ => show (((b.val * 512 + k.val) * 8 + h.val) * 128 + d.val) / 524288 % 8 = b.val; omega
  | ⟨2, _⟩ => show (((b.val * 512 + k.val) * 8 + h.val) * 128 + d.val) / 1024 % 512 = k.val; omega
  | ⟨3, _⟩ => show (((b.val * 512 + k.val) * 8 + h.val) * 128 + d.val) / 128 % 8 = h.val; omega
  | ⟨4, _⟩ => show (((b.val * 512 + k.val) * 8 + h.val) * 128 + d.val) % 128 = d.val; omega

theorem joined (x : (⟨S8x512x8x128, .f32⟩ : BufTy).Contents (Elt Ideal)) (y : (⟨S8x16x8x128, .f32⟩ : BufTy).Contents (Elt Ideal))
    (b h : Fin 8) (k : Fin 528) (d : Fin 128) :
    concatenate (α := EReal) (t := S8x528x8x128) 1 [⟨S8x512x8x128, x⟩, ⟨S8x16x8x128, y⟩] concatenates_S8x512x8x128_S8x16x8x128_S8x528x8x128_d1 (ix4 b k h d)
      = if hk : k.val < 512 then x (ix4 b (⟨k.val, hk⟩ : Fin 512) h d) else y (ix4 b (⟨k.val - 512, by omega⟩ : Fin 16) h d) := by
  split_ifs with hk
  · refine concatenate_pair_apply_left (α := EReal) (t := S8x528x8x128) (s₁ := S8x512x8x128) (s₂ := S8x16x8x128) (1 : Fin 4) _ _
      concatenates_S8x512x8x128_S8x16x8x128_S8x528x8x128_d1 (ix4 b k h d) rfl (ix4 b (⟨k.val, hk⟩ : Fin 512) h d) fun a => ?_
    match a with
    | ⟨0, _⟩ => rfl
    | ⟨1, _⟩ => rfl
    | ⟨2, _⟩ => rfl
    | ⟨3, _⟩ => rfl
  · refine concatenate_pair_apply_right (α := EReal) (t := S8x528x8x128) (s₁ := S8x512x8x128) (s₂ := S8x16x8x128) (1 : Fin 4) _ _
      concatenates_S8x512x8x128_S8x16x8x128_S8x528x8x128_d1 (ix4 b k h d) rfl rfl (ix4 b (⟨k.val - 512, by omega⟩ : Fin 16) h d) ?_ ?_
    · intro a ha
      match a with
      | ⟨0, _⟩ => rfl
      | ⟨1, _⟩ => exact absurd rfl ha
      | ⟨2, _⟩ => rfl
      | ⟨3, _⟩ => rfl
    · show k.val - 512 + 512 = k.val
      omega

theorem keys_apply (b h : Fin 8) (k : Fin 528) (d : Fin 128) : val_main_v36 (F := Ideal) x0 x1 x5 (ix4 b k h d) = keyAt x0 x1 x5 b h k d := by
  unfold val_main_v36
  refine (joined _ _ b h k d).trans ?_
  unfold keyAt
  split_ifs with hk
  · exact past_apply x1 b _ h d
  · exact kn_apply x0 x5 b _ h d

theorem vals_apply (b h : Fin 8) (k : Fin 528) (d : Fin 128) : val_main_v39 (F := Ideal) x0 x2 (ix4 b k h d) = valAt x0 x2 b h k d := by
  unfold val_main_v39
  refine (joined _ _ b h k d).trans ?_
  unfold valAt
  split_ifs with hk
  · exact past_apply x2 b _ h d
  · exact v_apply x0 b _ h d

theorem bot_word : (Ideal.ofBits .f32 0xFF800000#32 : EReal) = ⊥ := by simp [Ideal.ofBits, Ideal.ieee]

theorem scale : val_main_v61 (F := Ideal) (fun a => a.elim0) = (((√(128 : ℝ))⁻¹ : ℝ) : EReal) := by
  rw [val_main_v61_apply, val_main_v60_apply]
  show Ideal.div (Ideal.ofBits .f32 0x3F800000#32) (Ideal.sqrt (Ideal.ofBits .f32 0x43000000#32)) = _
  rw [c128, Ideal.sqrt_coe, if_neg (by norm_num), Ideal.ofBits_one_f32, Ideal.div_coe (by positivity), one_div, one_mul]

theorem score_apply (b h : Fin 8) (q : Fin 16) (k : Fin 528) : val_main_v66 (F := Ideal) x0 x1 x3 x4 x5 (ix4 b h q k) = sc x0 x1 x3 x4 x5 b h q k := by
  have e2 : idx_main_v64 (idx_main_v65 (ix4 b h q k)) = ix3 h q k := funext fun a => Fin.ext (by match a with | ⟨0, _⟩ => rfl | ⟨1, _⟩ => rfl | ⟨2, _⟩ => rfl)
  have e3 : ∀ d, lidx_main_v59 (ix4 b h q k) d = ix4 b q h d := fun d => funext fun a => Fin.ext (by
    match a with | ⟨0, _⟩ => rfl | ⟨1, _⟩ => rfl | ⟨2, _⟩ => rfl | ⟨3, _⟩ => rfl)
  have e4 : ∀ d, ridx_main_v59 (ix4 b h q k) d = ix4 b k h d := fun d => funext fun a => Fin.ext (by
    match a with | ⟨0, _⟩ => rfl | ⟨1, _⟩ => rfl | ⟨2, _⟩ => rfl | ⟨3, _⟩ => rfl)
  have e5 : idx_main_v62 (ix4 b h q k) = fun a => a.elim0 := funext fun a => a.elim0
  have hd : val_main_v59 (F := Ideal) x0 x1 x4 x5 (ix4 b h q k) = ∑ d, nrm (col x0 2 b q h) x4 d * keyAt x0 x1 x5 b h k d := by
    rw [val_main_v59_apply]
    exact Finset.sum_congr rfl fun d _ => by rw [e3, e4, qn_apply, keys_apply]
  rw [val_main_v66_apply, val_main_v63_apply, hd, val_main_v62_apply, e5, scale, val_main_v65_apply, val_main_v64_apply, e2, bias_apply]
  rfl

theorem top_apply (b h : Fin 8) (q : Fin 16) : val_main_v69 (F := Ideal) x0 x1 x3 x4 x5 (ix3 b h q) = top (sc x0 x1 x3 x4 x5 b h q) := by
  have hr : S8x8x16x528.Reduces [3] S8x8x16 := by decide
  have h67 : val_main_v67 (F := Ideal) x0 x1 x3 x4 x5 (ix3 b h q) = top (sc x0 x1 x3 x4 x5 b h q) := by
    refine (congrFun (hostReduce_maximumf_eq_multiReduction (F := Ideal) (φ := .f32) (val_main_v66 (F := Ideal) x0 x1 x3 x4 x5) 0xFF800000#32
      reducesTo_S8x8x16x528_S8x8x16_d3 h_S_ hr (.inl rfl) rfl) (ix3 b h q)).trans ?_
    refine (Ideal.multiReduction_maximumf_single _ _ hr (.inl rfl) rfl (ix3 b h q)).trans ?_
    have e : ∀ j : Fin 528, hr.lift (ix3 b h q) j = ix4 b h q j := fun j => funext fun a => Fin.ext (by
      match a with | ⟨0, _⟩ => rfl | ⟨1, _⟩ => rfl | ⟨2, _⟩ => rfl | ⟨3, _⟩ => rfl)
    exact congrArg₂ (fun (a : EReal) (f : Fin 528 → EReal) => Finset.univ.fold max a f) bot_word
      (funext fun j => (congrArg (val_main_v66 (F := Ideal) x0 x1 x3 x4 x5) (e j)).trans (score_apply x0 x1 x3 x4 x5 b h q j))
  rw [val_main_v69_apply, h67, val_main_v68_apply]
  show max (Ideal.ofBits .f32 0xFF800000#32) _ = _
  rw [bot_word]
  exact max_eq_right bot_le

theorem exp_apply (b h : Fin 8) (q : Fin 16) (k : Fin 528) : val_main_v73 (F := Ideal) x0 x1 x3 x4 x5 (ix4 b h q k)
    = Ideal.exp (sc x0 x1 x3 x4 x5 b h q k - top (sc x0 x1 x3 x4 x5 b h q)) := by
  have e : idx_main_v70 (idx_main_v71 (ix4 b h q k)) = ix3 b h q := funext fun a => Fin.ext (by match a with | ⟨0, _⟩ => rfl | ⟨1, _⟩ => rfl | ⟨2, _⟩ => rfl)
  rw [val_main_v73_apply, val_main_v72_apply, score_apply, val_main_v71_apply, val_main_v70_apply, e, top_apply]
  rfl

theorem weight_apply (b h : Fin 8) (q : Fin 16) (k : Fin 528) : val_main_v77 (F := Ideal) x0 x1 x3 x4 x5 (ix4 b h q k)
    = Ideal.div (Ideal.exp (sc x0 x1 x3 x4 x5 b h q k - top (sc x0 x1 x3 x4 x5 b h q)))
      (∑ j, Ideal.exp (sc x0 x1 x3 x4 x5 b h q j - top (sc x0 x1 x3 x4 x5 b h q))) := by
  have e : ∀ j, idx_main_v74 (idx_main_v75 (idx_main_v76 (ix4 b h q k))) j = ix4 b h q j := fun j => funext fun a => Fin.ext (by
    match a with | ⟨0, _⟩ => rfl | ⟨1, _⟩ => rfl | ⟨2, _⟩ => rfl | ⟨3, _⟩ => rfl)
  have hs : ∑ j, val_main_v73 (F := Ideal) x0 x1 x3 x4 x5 (idx_main_v74 (idx_main_v75 (idx_main_v76 (ix4 b h q k))) j)
      = ∑ j, Ideal.exp (sc x0 x1 x3 x4 x5 b h q j - top (sc x0 x1 x3 x4 x5 b h q)) := Finset.sum_congr rfl fun j _ => by rw [e, exp_apply]
  have hz : val_main_cst_14 (F := Ideal) (Shape.Idx.first h_S_) = (0 : EReal) := Ideal.ofBits_zero_f32
  rw [val_main_v77_apply, exp_apply, val_main_v76_apply, val_main_v75_apply, val_main_v74_apply, hs, hz, zero_add]
  rfl

theorem att_apply (b : Fin 8) (s : Fin 16) (h : Fin 8) (d : Fin 128) : val_main_v79 (F := Ideal) x0 x1 x2 x3 x4 x5 (ix4 b s h d)
    = att (sc x0 x1 x3 x4 x5 b h s) (fun k => valAt x0 x2 b h k d) := by
  have e1 : ∀ k, lidx_main_v78 (idx_main_v79 (ix4 b s h d)) k = ix4 b k h d := fun d => funext fun a => Fin.ext (by
    match a with | ⟨0, _⟩ => rfl | ⟨1, _⟩ => rfl | ⟨2, _⟩ => rfl | ⟨3, _⟩ => rfl)
  have e2 : ∀ k, ridx_main_v78 (idx_main_v79 (ix4 b s h d)) k = ix4 b h s k := fun d => funext fun a => Fin.ext (by
    match a with | ⟨0, _⟩ => rfl | ⟨1, _⟩ => rfl | ⟨2, _⟩ => rfl | ⟨3, _⟩ => rfl)
  rw [val_main_v79_apply, val_main_v78_apply]
  unfold att
  exact Finset.sum_congr rfl fun k _ => by rw [e1, e2, vals_apply, weight_apply]; exact mul_comm _ _

theorem silu_apply (i : S8x16x1024.Idx) : val_main_v81 (F := Ideal) x0 i = silu (val_main_v4 (F := Ideal) x0 i) := by
  have h1 : (FloatOps.ofBits .f32 0x3F800000#32 : Ideal .f32) = (1 : EReal) := Ideal.ofBits_one_f32
  have e2 : val_main_call1_v2 (F := Ideal) i = (1 : EReal) := by rw [val_main_call1_v2_apply]; exact h1
  have e4 : val_main_call1_v4 (F := Ideal) i = (1 : EReal) := by rw [val_main_call1_v4_apply]; exact h1
  rw [val_main_v81_apply, val_main_call1_v5_apply, val_main_call1_v3_apply, e2, e4, val_main_call1_v1_apply, val_main_call1_v0_apply]
  rfl

theorem out_apply (b : Fin 8) (s : Fin 16) (h : Fin 8) (d : Fin 128) : val_main_v83 (F := Ideal) x0 x1 x2 x3 x4 x5 (at3 b s h d) = out x0 x1 x2 x3 x4 x5 b s h d := by
  have e : idx_main_v80 (at3 b s h d) = ix4 b s h d := funext fun a => Fin.ext (by
    match a with
    | ⟨0, _⟩ => show ((b.val * 16 + s.val) * 1024 + (128 * h.val + d.val)) / 16384 = b.val; omega
    | ⟨1, _⟩ => show ((b.val * 16 + s.val) * 1024 + (128 * h.val + d.val)) / 1024 % 16 = s.val; omega
    | ⟨2, _⟩ => show ((b.val * 16 + s.val) * 1024 + (128 * h.val + d.val)) / 128 % 8 = h.val; omega
    | ⟨3, _⟩ => show ((b.val * 16 + s.val) * 1024 + (128 * h.val + d.val)) % 128 = d.val; omega)
  rw [val_main_v83_apply, val_main_v82_apply, val_main_v80_apply, e, att_apply, silu_apply, z_apply]
  rfl

theorem key_apply (b : Fin 8) (s : Fin 16) (h : Fin 8) (d : Fin 128) : val_main_v84 (F := Ideal) x0 x5 (at3 b s h d) = key x0 x5 b s h d := by
  have e : idx_main_v84 (at3 b s h d) = ix4 b s h d := funext fun a => Fin.ext (by
    match a with
    | ⟨0, _⟩ => show ((b.val * 16 + s.val) * 1024 + (128 * h.val + d.val)) / 16384 = b.val; omega
    | ⟨1, _⟩ => show ((b.val * 16 + s.val) * 1024 + (128 * h.val + d.val)) / 1024 % 16 = s.val; omega
    | ⟨2, _⟩ => show ((b.val * 16 + s.val) * 1024 + (128 * h.val + d.val)) / 128 % 8 = h.val; omega
    | ⟨3, _⟩ => show ((b.val * 16 + s.val) * 1024 + (128 * h.val + d.val)) % 128 = d.val; omega)
  rw [val_main_v84_apply, e, kn_apply]
  rfl

end Cert.SampleBandRefIdeal.Stage

end
-- ==== Proof.SampleBandClaims.lean ====
/-
  The claims about the banded attention over the cached keys: its three programs run and leave their arguments as they
  found them, and the gated attention and the new keys are the reference's.
-/
module

public import proofs.«01_k».proof.Defs
public import proofs.«01_k».proof.Proof.Gen.SampleBand.Frame
public import proofs.«01_k».proof.Proof.Gen.SampleBandIdeal.Value
public import proofs.«01_k».proof.Proof.Gen.SampleBandRefIdeal.Run
public import proofs.«01_k».proof.Proof.Gen.Pre_finite_cache
public import proofs.«01_k».proof.Proof.BandClaims
public import proofs.«01_k».proof.Proof.SampleBandHost
public import proofs.«01_k».proof.Proof.SampleBandEnd
public import proofs.«01_k».proof.Proof.SampleBandRef
public import Idealize.ShloMosaic.Lib.Quiescent
public import Idealize.ShloMosaic.Lib.ReduceAll

@[expose] public section

set_option maxRecDepth 65536

noncomputable section

open Idealize.ShloMosaic Idealize.ShloMosaic.ValueIdx Idealize.ShloMosaic.TcCoe Idealize.SL.Sem

namespace Cert.Proof.SampleBandClaims

open Cert.SampleBandSpec
open Cert.BandSpec (Real')
open Cert.Proof.BandClaims (infinity_word real_of_lt both)

theorem frame_p : Cert.quiescent_SampleBand := fun m ρ _ => Cert.SampleBand.Gen.frame m ρ
theorem frame_pi : Cert.quiescent_SampleBandIdeal := fun m ρ _ => Cert.SampleBandIdeal.Gen.frame m ρ
theorem frame_ri : Cert.quiescent_SampleBandRefIdeal := fun m ρ _ =>
  (θ_run Cert.SampleBandRefIdeal.defs _ _).mono (fun r h => ⟨fun c => (h c).2.2,
      Idealize.ShloMosaic.sem_eq_zero_of_no_sems (by decide) r.2⟩)
    (Cert.SampleBandRefIdeal.Value.run (F := Ideal) m ρ)

theorem frame_pi_pre :
    letI := Cert.SampleBandIdeal.Gen.facts; letI := Cert.Pre_finite_cache.Gen.facts
    Cert.quiescent_SampleBandIdeal_pre_finite_cache := fun m ρ _ => Cert.SampleBandIdeal.Gen.frame m ρ
theorem frame_ri_pre :
    letI := Cert.SampleBandRefIdeal.Gen.facts; letI := Cert.Pre_finite_cache.Gen.facts
    Cert.quiescent_SampleBandRefIdeal_pre_finite_cache := fun m ρ _ =>
  (θ_run Cert.SampleBandRefIdeal.defs _ _).mono (fun r h => ⟨fun c => (h c).2.2,
      Idealize.ShloMosaic.sem_eq_zero_of_no_sems (by decide) r.2⟩)
    (Cert.SampleBandRefIdeal.Value.run (F := Ideal) m ρ)

theorem preserves : Cert.preserves_SampleBand_SampleBandIdeal :=
  IdealRules.named_const.statement Cert.SampleBandIdeal.κ "inv_sqrt_d" .f32 0x3DB504F3#32 (((Real.sqrt 128)⁻¹ : ℝ) : EReal) rfl

/-! ## The precondition, read -/

/-- An array every magnitude of which compares below infinity is an array of reals. -/
theorem real_all {S : Shape} (dims : List (Fin S.rank)) (x : FVec Ideal S .f32)
    (hb : Cert.Pre_finite_cache.S_.BroadcastsInDim S (![] : Fin 0 → Fin S.rank)) (hr : S.ReducesTo dims Cert.Pre_finite_cache.S_)
    (hp : 0 < Cert.Pre_finite_cache.S_.numel)
    (e : Host.reduce IntOp.andi (cmpf .olt (Host.absf x) (broadcastInDim S ![] hb (constant Cert.Pre_finite_cache.S_ .f32 0x7F800000#32 : FVec Ideal _ .f32)))
      (constantI Cert.Pre_finite_cache.S_ 1 1#1) hr hp ix0 = 1#1) (i : S.Idx) : Real' (x i) := by
  haveI : Subsingleton Cert.Pre_finite_cache.S_.Idx := ⟨fun a b => funext fun d => d.elim0⟩
  have e2 := Host.reduce_andi_all _ _ _ _ _ e i
  rw [cmpf_apply] at e2
  refine real_of_lt _ ?_
  rw [← infinity_word]
  refine Eq.trans ?_ e2
  refine congrArg₂ (Ideal.cmp .olt) rfl ?_
  have hc : (constant Cert.Pre_finite_cache.S_ .f32 0x7F800000#32 : FVec Ideal Cert.Pre_finite_cache.S_ .f32) ix0 = Ideal.ofBits .f32 0x7F800000#32 := rfl
  rw [← hc]
  exact (broadcastInDim_apply _ _ _ _ ix0 (fun a => a.elim0)).symm

/-- The precondition says the cached keys, the table and the gains are real. -/
theorem finite_of (P : FVec Ideal Cert.Pre_finite_cache.S8x16x22528 .f32) (C D : FVec Ideal Cert.Pre_finite_cache.S2x8x512x8x128 .f32)
    (B : FVec Ideal Cert.Pre_finite_cache.S8x257 .f32) (gq gk : FVec Ideal Cert.Pre_finite_cache.S128 .f32)
    (h : letI := Cert.Pre_finite_cache.Gen.facts; Cert.Pre_finite_cache.fn (F := Ideal) P C D B gq gk = fun _ => 1#1) : Finite' C B gq gk := by
  letI := Cert.Pre_finite_cache.Gen.facts
  have e := congrFun h ix0
  unfold Cert.Pre_finite_cache.fn Cert.Pre_finite_cache.fn_part1 at e
  dsimp only at e
  obtain ⟨e2, egk⟩ := both e
  obtain ⟨e3, egq⟩ := both e2
  obtain ⟨ec, eb⟩ := both e3
  refine ⟨fun b k h d => ?_, ⟨real_all _ _ _ _ _ eb, real_all _ _ _ _ _ egq, real_all _ _ _ _ _ egk⟩⟩
  have r := real_all _ _ _ _ _ ec (ix4 b k h d)
  rw [shapeCast_apply _ _ (ix4 b k h d) (ix5 (0 : Fin 1) b k h d) (by
    rw [Shape.rowMajor_val_five, Shape.rowMajor_val_four]
    show (((0 * 8 + b.val) * 512 + k.val) * 8 + h.val) * 128 + d.val = ((b.val * 512 + k.val) * 8 + h.val) * 128 + d.val
    omega)] at r
  rw [extractStridedSlice_apply _ _ _ _ (ix5 (0 : Fin 2) b k h d) (fun a => by
    match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm)] at r
  exact r

/-! ## The two programs' results -/

open Cert.SampleBandIdeal.Stage (outAll keyAll)

theorem place (y : Cert.SampleBandRefIdeal.S8x16x1024.Idx) (h2 : (y 2).val < 1024) :
    y = Cert.SampleBandRefIdeal.Stage.at3 (y 0) (y 1) (⟨(y 2).val / 128, by omega⟩ : Fin 8) (⟨(y 2).val % 128, by omega⟩ : Fin 128) := funext fun a => Fin.ext (by
    match a with
    | ⟨0, _⟩ => rfl
    | ⟨1, _⟩ => rfl
    | ⟨2, _⟩ => show (y 2).val = 128 * ((y 2).val / 128) + (y 2).val % 128; omega)

theorem ref_out (P : (⟨Cert.SampleBandRefIdeal.S8x16x22528, .f32⟩ : BufTy).Contents (Elt Ideal))
    (C D : (⟨Cert.SampleBandRefIdeal.S2x8x512x8x128, .f32⟩ : BufTy).Contents (Elt Ideal)) (B : (⟨Cert.SampleBandRefIdeal.S8x257, .f32⟩ : BufTy).Contents (Elt Ideal))
    (gq gk : (⟨Cert.SampleBandRefIdeal.S128, .f32⟩ : BufTy).Contents (Elt Ideal)) :
    Cert.SampleBandRefIdeal.Read.val_main_v83 (F := Ideal) P C D B gq gk = outAll P C D B gq gk := funext fun y => by
  refine (congrArg (Cert.SampleBandRefIdeal.Read.val_main_v83 (F := Ideal) P C D B gq gk) (place y (y 2).isLt)).trans ?_
  exact Cert.SampleBandRefIdeal.Stage.out_apply P C D B gq gk _ _ _ _

theorem ref_key (P : (⟨Cert.SampleBandRefIdeal.S8x16x22528, .f32⟩ : BufTy).Contents (Elt Ideal))
    (gk : (⟨Cert.SampleBandRefIdeal.S128, .f32⟩ : BufTy).Contents (Elt Ideal)) :
    Cert.SampleBandRefIdeal.Read.val_main_v84 (F := Ideal) P gk = keyAll P gk := funext fun y => by
  refine (congrArg (Cert.SampleBandRefIdeal.Read.val_main_v84 (F := Ideal) P gk) (place y (y 2).isLt)).trans ?_
  exact Cert.SampleBandRefIdeal.Stage.key_apply P gk _ _ _ _

section Kernel

open Cert.SampleBandIdeal Cert.SampleBandIdeal.Gen Cert.SampleBandIdeal.Stage

variable (m : (ℓ : Loc nD τ sig) → Buf (Elt Ideal) ℓ) (c : Dev nD)

theorem unit_apply (g : S128.Idx → EReal) (d : Fin 128) : shapeCast S1x128 g shapeCasts_S128_S1x128 (ix2 (0 : Fin 1) d) = g (ix1 d) := by
  refine shapeCast_apply g shapeCasts_S128_S1x128 _ _ ?_
  rw [Shape.rowMajor_val_one, Shape.rowMajor_val_two]
  show d.val = 0 * 128 + d.val
  omega

theorem rows_apply (C : S2x8x512x8x128.Idx → EReal) (b h : Fin 8) (k : Fin 512) (d : Fin 128) :
    shapeCast S2x8x4096x128 C shapeCasts_S2x8x512x8x128_S2x8x4096x128 (ix4 (0 : Fin 2) b (⟨8 * k.val + h.val, by omega⟩ : Fin 4096) d) = past C b k h d := by
  refine shapeCast_apply C shapeCasts_S2x8x512x8x128_S2x8x4096x128 _ (ix5 (0 : Fin 2) b k h d) ?_
  rw [Shape.rowMajor_val_five, Shape.rowMajor_val_four]
  show (((0 * 8 + b.val) * 512 + k.val) * 8 + h.val) * 128 + d.val = ((0 * 8 + b.val) * 4096 + (8 * k.val + h.val)) * 128 + d.val
  omega

theorem kernel_out (H : Finite' (m ((c : Thread nD τ).loc main_arg1)) (m ((c : Thread nD τ).loc main_arg3)) (m ((c : Thread nD τ).loc main_arg4)) (m ((c : Thread nD τ).loc main_arg5))) :
    (dats m 0 c).arrAt 9 cfg0.N = outAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [← V_main_arg0 m c]
  exact arr9 m c H (fun b h k d => by rw [entry_ck m c]; exact rows_apply _ b h k d) (fun b h k d => by rw [entry_cv m c]; exact rows_apply _ b h k d)
    (fun h s k => by rw [entry_bias m c]; exact biasOf_in _ h s k) (fun h s k hk => by rw [entry_bias m c]; exact biasOf_out _ h s k hk)
    (fun d => by rw [entry_gq m c]; exact unit_apply _ d) (fun d => by rw [entry_gk m c]; exact unit_apply _ d)

theorem kernel_key : (dats m 0 c).arrAt 10 cfg0.N = keyAll (m ((c : Thread nD τ).loc main_arg0)) (m ((c : Thread nD τ).loc main_arg5)) := by
  rw [← V_main_arg0 m c]
  exact arr10 m c (fun d => by rw [entry_gk m c]; exact unit_apply _ d)

end Kernel

/-- Both programs leave the gated attention and the new keys. -/
theorem algebraic :
    letI := Cert.SampleBandIdeal.Gen.facts; letI := Cert.SampleBandRefIdeal.Gen.facts; letI := Cert.Pre_finite_cache.Gen.facts
    Cert.algebraic_SampleBandIdeal_SampleBandRefIdeal_pre_finite_cache := by
  intro m ρ m' ρ' hpre hag
  refine ⟨fun c => outAll (m ((c.tc : Thread Cert.SampleBandIdeal.nD Cert.SampleBandIdeal.τ).loc Cert.SampleBandIdeal.main_arg0))
      (m ((c.tc : Thread Cert.SampleBandIdeal.nD Cert.SampleBandIdeal.τ).loc Cert.SampleBandIdeal.main_arg1))
      (m ((c.tc : Thread Cert.SampleBandIdeal.nD Cert.SampleBandIdeal.τ).loc Cert.SampleBandIdeal.main_arg2))
      (m ((c.tc : Thread Cert.SampleBandIdeal.nD Cert.SampleBandIdeal.τ).loc Cert.SampleBandIdeal.main_arg3))
      (m ((c.tc : Thread Cert.SampleBandIdeal.nD Cert.SampleBandIdeal.τ).loc Cert.SampleBandIdeal.main_arg4))
      (m ((c.tc : Thread Cert.SampleBandIdeal.nD Cert.SampleBandIdeal.τ).loc Cert.SampleBandIdeal.main_arg5)),
    fun c => keyAll (m ((c.tc : Thread Cert.SampleBandIdeal.nD Cert.SampleBandIdeal.τ).loc Cert.SampleBandIdeal.main_arg0))
      (m ((c.tc : Thread Cert.SampleBandIdeal.nD Cert.SampleBandIdeal.τ).loc Cert.SampleBandIdeal.main_arg5)), ?_, ?_⟩
  · refine (θ_run Cert.SampleBandIdeal.defs _ _).mono (fun r h c => ?_) (Cert.SampleBandIdeal.Value.run_blocks (F := Ideal) m ρ)
    obtain ⟨h0, h1, ha⟩ := h c
    exact ⟨h0.trans (kernel_out m c (finite_of _ _ _ _ _ _ (hpre c))), h1.trans (kernel_key m c), ha⟩
  · refine (θ_run Cert.SampleBandRefIdeal.defs _ _).mono (fun r h c => ?_) (Cert.SampleBandRefIdeal.Value.run (F := Ideal) m' ρ')
    obtain ⟨h0, h1, ha⟩ := h c
    obtain ⟨g0, g1, g2, g3, g4, g5⟩ := hag c
    refine ⟨h0.trans ?_, h1.trans ?_, ha⟩
    · rw [Cert.SampleBandRefIdeal.Read.val_main_v83_eq, g0, g1, g2, g3, g4, g5]
      exact ref_out _ _ _ _ _ _
    · rw [Cert.SampleBandRefIdeal.Read.val_main_v84_eq, g0, g5]
      exact ref_key _ _

end Cert.Proof.SampleBandClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InProj
public import proofs.«01_k».proof.Proof.Gen.SampleIn
public import proofs.«01_k».proof.Proof.Gen.InProj.Skeleton
public import proofs.«01_k».proof.Proof.Gen.SampleIn.Skeleton
public import proofs.«01_k».proof.Proof.Gen.InProj.Launch
public import proofs.«01_k».proof.Proof.Gen.SampleIn.Launch
public import proofs.«01_k».proof.Proof.Gen.InProj.Points
public import proofs.«01_k».proof.Proof.Gen.SampleIn.Points
public import proofs.«01_k».proof.Proof.Gen.InProj.Frame
public import proofs.«01_k».proof.Proof.Gen.SampleIn.Frame
public import proofs.«01_k».proof.Proof.Gen.InProjIdeal
public import proofs.«01_k».proof.Proof.Gen.SampleInIdeal
public import proofs.«01_k».proof.Proof.Gen.InProjIdeal.Skeleton
public import proofs.«01_k».proof.Proof.Gen.SampleInIdeal.Skeleton
public import proofs.«01_k».proof.Proof.Gen.InProjIdeal.Launch
public import proofs.«01_k».proof.Proof.Gen.SampleInIdeal.Launch
public import proofs.«01_k».proof.Proof.Gen.InProjIdeal.Points
public import proofs.«01_k».proof.Proof.Gen.SampleInIdeal.Points
public import proofs.«01_k».proof.Proof.Gen.InProjIdeal.Frame
public import proofs.«01_k».proof.Proof.Gen.SampleInIdeal.Frame
public import proofs.«01_k».proof.Proof.Gen.OutProj
public import proofs.«01_k».proof.Proof.Gen.SampleOut
public import proofs.«01_k».proof.Proof.Gen.OutProj.Skeleton
public import proofs.«01_k».proof.Proof.Gen.SampleOut.Skeleton
public import proofs.«01_k».proof.Proof.Gen.OutProj.Launch
public import proofs.«01_k».proof.Proof.Gen.SampleOut.Launch
public import proofs.«01_k».proof.Proof.Gen.OutProj.Points
public import proofs.«01_k».proof.Proof.Gen.SampleOut.Points
public import proofs.«01_k».proof.Proof.Gen.OutProj.Frame
public import proofs.«01_k».proof.Proof.Gen.SampleOut.Frame
public import proofs.«01_k».proof.Proof.Gen.OutProjIdeal
public import proofs.«01_k».proof.Proof.Gen.SampleOutIdeal
public import proofs.«01_k».proof.Proof.Gen.OutProjIdeal.Skeleton
public import proofs.«01_k».proof.Proof.Gen.SampleOutIdeal.Skeleton
public import proofs.«01_k».proof.Proof.Gen.OutProjIdeal.Launch
public import proofs.«01_k».proof.Proof.Gen.SampleOutIdeal.Launch
public import proofs.«01_k».proof.Proof.Gen.OutProjIdeal.Points
public import proofs.«01_k».proof.Proof.Gen.SampleOutIdeal.Points
public import proofs.«01_k».proof.Proof.Gen.OutProjIdeal.Frame
public import proofs.«01_k».proof.Proof.Gen.SampleOutIdeal.Frame
public import proofs.«01_k».proof.Proof.Gen.InProjRefIdeal
public import proofs.«01_k».proof.Proof.Gen.SampleInRefIdeal
public import proofs.«01_k».proof.Proof.Gen.InProjRefIdeal.Run
public import proofs.«01_k».proof.Proof.Gen.SampleInRefIdeal.Run
public import proofs.«01_k».proof.Proof.Gen.InProjRefIdeal.Read
public import proofs.«01_k».proof.Proof.Gen.SampleInRefIdeal.Read
public import proofs.«01_k».proof.Proof.Gen.Glu
public import proofs.«01_k».proof.Proof.Gen.SampleGlu
public import proofs.«01_k».proof.Proof.Gen.Glu.Skeleton
public import proofs.«01_k».proof.Proof.Gen.SampleGlu.Skeleton
public import proofs.«01_k».proof.Proof.Gen.Glu.Launch
public import proofs.«01_k».proof.Proof.Gen.SampleGlu.Launch
public import proofs.«01_k».proof.Proof.Gen.Glu.Points
public import proofs.«01_k».proof.Proof.Gen.SampleGlu.Points
public import proofs.«01_k».proof.Proof.Gen.Glu.Frame
public import proofs.«01_k».proof.Proof.Gen.SampleGlu.Frame
public import proofs.«01_k».proof.Proof.Gen.GluIdeal
public import proofs.«01_k».proof.Proof.Gen.SampleGluIdeal
public import proofs.«01_k».proof.Proof.Gen.GluIdeal.Skeleton
public import proofs.«01_k».proof.Proof.Gen.SampleGluIdeal.Skeleton
public import proofs.«01_k».proof.Proof.Gen.GluIdeal.Launch
public import proofs.«01_k».proof.Proof.Gen.SampleGluIdeal.Launch
public import proofs.«01_k».proof.Proof.Gen.GluIdeal.Points
public import proofs.«01_k».proof.Proof.Gen.SampleGluIdeal.Points
public import proofs.«01_k».proof.Proof.Gen.GluIdeal.Frame
public import proofs.«01_k».proof.Proof.Gen.SampleGluIdeal.Frame
public import proofs.«01_k».proof.Proof.Gen.GluIdeal.Value
public import proofs.«01_k».proof.Proof.Gen.SampleGluIdeal.Value
public import proofs.«01_k».proof.Proof.Gen.GluRefIdeal
public import proofs.«01_k».proof.Proof.Gen.SampleGluRefIdeal
public import proofs.«01_k».proof.Proof.Gen.GluRefIdeal.Run
public import proofs.«01_k».proof.Proof.Gen.SampleGluRefIdeal.Run
public import proofs.«01_k».proof.Proof.Gen.GluRefIdeal.Read
public import proofs.«01_k».proof.Proof.Gen.SampleGluRefIdeal.Read
public import proofs.«01_k».proof.Proof.Gen.OutProjRefIdeal
public import proofs.«01_k».proof.Proof.Gen.SampleOutRefIdeal
public import proofs.«01_k».proof.Proof.Gen.OutProjRefIdeal.Run
public import proofs.«01_k».proof.Proof.Gen.SampleOutRefIdeal.Run
public import proofs.«01_k».proof.Proof.Gen.OutProjRefIdeal.Read
public import proofs.«01_k».proof.Proof.Gen.SampleOutRefIdeal.Read
public import proofs.«01_k».proof.Proof.Assemble
public import proofs.«01_k».proof.Proof.InProjClaims
public import proofs.«01_k».proof.Proof.OutProjClaims
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandIdeal.Value
public import proofs.«01_k».proof.Proof.Gen.BandRefIdeal
public import proofs.«01_k».proof.Proof.Gen.BandRefIdeal.Run
public import proofs.«01_k».proof.Proof.Gen.BandRefIdeal.Read
public import proofs.«01_k».proof.Proof.Gen.Pre_finite_band
public import proofs.«01_k».proof.Proof.Gen.SampleBand
public import proofs.«01_k».proof.Proof.Gen.SampleBand.Skeleton
public import proofs.«01_k».proof.Proof.Gen.SampleBand.Launch
public import proofs.«01_k».proof.Proof.Gen.SampleBand.Points
public import proofs.«01_k».proof.Proof.Gen.SampleBand.Frame
public import proofs.«01_k».proof.Proof.Gen.SampleBandIdeal
public import proofs.«01_k».proof.Proof.Gen.SampleBandIdeal.Skeleton
public import proofs.«01_k».proof.Proof.Gen.SampleBandIdeal.Launch
public import proofs.«01_k».proof.Proof.Gen.SampleBandIdeal.Points
public import proofs.«01_k».proof.Proof.Gen.SampleBandIdeal.Frame
public import proofs.«01_k».proof.Proof.Gen.SampleBandIdeal.Value
public import proofs.«01_k».proof.Proof.Gen.SampleBandRefIdeal
public import proofs.«01_k».proof.Proof.Gen.SampleBandRefIdeal.Run
public import proofs.«01_k».proof.Proof.Gen.SampleBandRefIdeal.Read
public import proofs.«01_k».proof.Proof.Gen.Pre_finite_cache
public import proofs.«01_k».proof.Proof.GluClaims
public import proofs.«01_k».proof.Proof.SampleInClaims
public import proofs.«01_k».proof.Proof.SampleOutClaims
public import proofs.«01_k».proof.Proof.SampleGluClaims
public import proofs.«01_k».proof.Proof.BandClaims
public import proofs.«01_k».proof.Proof.SampleBandClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.Glu.Gen.facts, Cert.GluIdeal.Gen.facts, Cert.GluRefIdeal.Gen.facts,
    Cert.SampleIn.Gen.facts, Cert.SampleInIdeal.Gen.facts, Cert.SampleInRefIdeal.Gen.facts,
    Cert.SampleOut.Gen.facts, Cert.SampleOutIdeal.Gen.facts, Cert.SampleOutRefIdeal.Gen.facts,
    Cert.SampleGlu.Gen.facts, Cert.SampleGluIdeal.Gen.facts, Cert.SampleGluRefIdeal.Gen.facts,
    Cert.Band.Gen.facts, Cert.BandIdeal.Gen.facts, Cert.BandRefIdeal.Gen.facts,
    Cert.SampleBand.Gen.facts, Cert.SampleBandIdeal.Gen.facts, Cert.SampleBandRefIdeal.Gen.facts,
    Cert.Pre_finite_qk.Gen.facts, Cert.Pre_finite_band.Gen.facts, Cert.Pre_finite_cache.Gen.facts, by
  exact ⟨SbClaims.frame_p, SbClaims.frame_pi, SbClaims.frame_pi_pre, SbClaims.frame_ri, SbClaims.frame_ri_pre,
    InProjClaims.frame_p, InProjClaims.frame_pi, InProjClaims.frame_ri, OutProjClaims.frame_p, OutProjClaims.frame_pi, OutProjClaims.frame_ri,
    GluClaims.frame_p, GluClaims.frame_pi, GluClaims.frame_ri,
    SampleInClaims.frame_p, SampleInClaims.frame_pi, SampleInClaims.frame_ri,
    SampleOutClaims.frame_p, SampleOutClaims.frame_pi, SampleOutClaims.frame_ri,
    SampleGluClaims.frame_p, SampleGluClaims.frame_pi, SampleGluClaims.frame_ri,
    BandClaims.frame_p, BandClaims.frame_pi, BandClaims.frame_pi_pre, BandClaims.frame_ri, BandClaims.frame_ri_pre,
    SampleBandClaims.frame_p, SampleBandClaims.frame_pi, SampleBandClaims.frame_pi_pre, SampleBandClaims.frame_ri, SampleBandClaims.frame_ri_pre,
    SbClaims.preserves, SbClaims.algebraic, InProjClaims.preserves, InProjClaims.algebraic, OutProjClaims.preserves, OutProjClaims.algebraic,
    GluClaims.preserves, GluClaims.algebraic,
    SampleInClaims.preserves, SampleInClaims.algebraic, SampleOutClaims.preserves, SampleOutClaims.algebraic, SampleGluClaims.preserves, SampleGluClaims.algebraic,
    BandClaims.preserves, BandClaims.algebraic, SampleBandClaims.preserves, SampleBandClaims.algebraic⟩⟩

end Cert.Proof

end
